-- ==== Defs.lean ====
def Pre_ReluBwd (m : (ℓ : Loc Cert.ReluBwd.nD Cert.ReluBwd.τ Cert.ReluBwd.sig) → Buf (Elt Bits) ℓ) : Prop :=
  True

def Pre_ReluBwdIdeal (m : (ℓ : Loc Cert.ReluBwdIdeal.nD Cert.ReluBwdIdeal.τ Cert.ReluBwdIdeal.sig) → Buf (Elt Ideal) ℓ) : Prop :=
  True

def Pre_ReluBwdRefIdeal (m : (ℓ : Loc Cert.ReluBwdRefIdeal.nD Cert.ReluBwdRefIdeal.τ Cert.ReluBwdRefIdeal.sig) → Buf (Elt Ideal) ℓ) : Prop :=
  True

def Pre_DeltaBwd (m : (ℓ : Loc Cert.DeltaBwd.nD Cert.DeltaBwd.τ Cert.DeltaBwd.sig) → Buf (Elt Bits) ℓ) : Prop :=
  True

def Pre_DeltaBwdIdeal (m : (ℓ : Loc Cert.DeltaBwdIdeal.nD Cert.DeltaBwdIdeal.τ Cert.DeltaBwdIdeal.sig) → Buf (Elt Ideal) ℓ) : Prop :=
  True

def Pre_DeltaBwdRefIdeal (m : (ℓ : Loc Cert.DeltaBwdRefIdeal.nD Cert.DeltaBwdRefIdeal.τ Cert.DeltaBwdRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdRefIdeal (m : (ℓ : Loc Cert.PleBwdRefIdeal.nD Cert.PleBwdRefIdeal.τ Cert.PleBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_gate_finite [hPre_gate_finite : Cert.Pre_gate_finite.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))) = (fun _ => 1#1)

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_flash_finite [hPre_flash_finite : Cert.Pre_flash_finite.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_flash_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))) = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_flash_finite [hPre_flash_finite : Cert.Pre_flash_finite.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_flashfwd_finite [hPre_flashfwd_finite : Cert.Pre_flashfwd_finite.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_flashfwd_finite.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_flashfwd_finite [hPre_flashfwd_finite : Cert.Pre_flashfwd_finite.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_flashfwd_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))) = (fun _ => 1#1)

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdIdeal_retf_finite [hPre_retf_finite : Cert.Pre_retf_finite.Facts] (m : (ℓ : Loc Cert.RetFwdIdeal.nD Cert.RetFwdIdeal.τ Cert.RetFwdIdeal.sig) → Buf (Elt Ideal) ℓ) : Prop :=
  ∀ c : Dev Cert.RetFwdIdeal.nD,
    (Cert.Pre_retf_finite.fn (F := Ideal) (m ((c.tc : Thread Cert.RetFwdIdeal.nD Cert.RetFwdIdeal.τ).loc Cert.RetFwdIdeal.main_arg0))) = (fun _ => 1#1)

def Pre_RetFwdRefIdeal (m : (ℓ : Loc Cert.RetFwdRefIdeal.nD Cert.RetFwdRefIdeal.τ Cert.RetFwdRefIdeal.sig) → Buf (Elt Ideal) ℓ) : Prop :=
  True

def Pre_RetFwdRefIdeal_retf_finite [hPre_retf_finite : Cert.Pre_retf_finite.Facts] (m : (ℓ : Loc Cert.RetFwdRefIdeal.nD Cert.RetFwdRefIdeal.τ Cert.RetFwdRefIdeal.sig) → Buf (Elt Ideal) ℓ) : Prop :=
  ∀ c : Dev Cert.RetFwdRefIdeal.nD,
    (Cert.Pre_retf_finite.fn (F := Ideal) (m ((c.tc : Thread Cert.RetFwdRefIdeal.nD Cert.RetFwdRefIdeal.τ).loc Cert.RetFwdRefIdeal.main_arg0))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_ResFwd (m : (ℓ : Loc Cert.ResFwd.nD Cert.ResFwd.τ Cert.ResFwd.sig) → Buf (Elt Bits) ℓ) : Prop :=
  True

def Pre_ResFwdIdeal (m : (ℓ : Loc Cert.ResFwdIdeal.nD Cert.ResFwdIdeal.τ Cert.ResFwdIdeal.sig) → Buf (Elt Ideal) ℓ) : Prop :=
  True

def Pre_ResFwdRefIdeal (m : (ℓ : Loc Cert.ResFwdRefIdeal.nD Cert.ResFwdRefIdeal.τ Cert.ResFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_MlaFront (m : (ℓ : Loc Cert.MlaFront.nD Cert.MlaFront.τ Cert.MlaFront.sig) → Buf (Elt Bits) ℓ) : Prop :=
  True

def Pre_MlaFrontIdeal (m : (ℓ : Loc Cert.MlaFrontIdeal.nD Cert.MlaFrontIdeal.τ Cert.MlaFrontIdeal.sig) → Buf (Elt Ideal) ℓ) : Prop :=
  True

def Pre_MlaFrontIdeal_front_finite [hPre_front_finite : Cert.Pre_front_finite.Facts] (m : (ℓ : Loc Cert.MlaFrontIdeal.nD Cert.MlaFrontIdeal.τ Cert.MlaFrontIdeal.sig) → Buf (Elt Ideal) ℓ) : Prop :=
  ∀ c : Dev Cert.MlaFrontIdeal.nD,
    (Cert.Pre_front_finite.fn (F := Ideal) (m ((c.tc : Thread Cert.MlaFrontIdeal.nD Cert.MlaFrontIdeal.τ).loc Cert.MlaFrontIdeal.main_arg0)) (m ((c.tc : Thread Cert.MlaFrontIdeal.nD Cert.MlaFrontIdeal.τ).loc Cert.MlaFrontIdeal.main_arg1)) (m ((c.tc : Thread Cert.MlaFrontIdeal.nD Cert.MlaFrontIdeal.τ).loc Cert.MlaFrontIdeal.main_arg2)) (m ((c.tc : Thread Cert.MlaFrontIdeal.nD Cert.MlaFrontIdeal.τ).loc Cert.MlaFrontIdeal.main_arg3)) (m ((c.tc : Thread Cert.MlaFrontIdeal.nD Cert.MlaFrontIdeal.τ).loc Cert.MlaFrontIdeal.main_arg4)) (m ((c.tc : Thread Cert.MlaFrontIdeal.nD Cert.MlaFrontIdeal.τ).loc Cert.MlaFrontIdeal.main_arg5)) (m ((c.tc : Thread Cert.MlaFrontIdeal.nD Cert.MlaFrontIdeal.τ).loc Cert.MlaFrontIdeal.main_arg6)) (m ((c.tc : Thread Cert.MlaFrontIdeal.nD Cert.MlaFrontIdeal.τ).loc Cert.MlaFrontIdeal.main_arg7))) = (fun _ => 1#1)

def Pre_MlaFrontRefIdeal (m : (ℓ : Loc Cert.MlaFrontRefIdeal.nD Cert.MlaFrontRefIdeal.τ Cert.MlaFrontRefIdeal.sig) → Buf (Elt Ideal) ℓ) : Prop :=
  True

def Pre_MlaFrontRefIdeal_front_finite [hPre_front_finite : Cert.Pre_front_finite.Facts] (m : (ℓ : Loc Cert.MlaFrontRefIdeal.nD Cert.MlaFrontRefIdeal.τ Cert.MlaFrontRefIdeal.sig) → Buf (Elt Ideal) ℓ) : Prop :=
  ∀ c : Dev Cert.MlaFrontRefIdeal.nD,
    (Cert.Pre_front_finite.fn (F := Ideal) (m ((c.tc : Thread Cert.MlaFrontRefIdeal.nD Cert.MlaFrontRefIdeal.τ).loc Cert.MlaFrontRefIdeal.main_arg0)) (m ((c.tc : Thread Cert.MlaFrontRefIdeal.nD Cert.MlaFrontRefIdeal.τ).loc Cert.MlaFrontRefIdeal.main_arg1)) (m ((c.tc : Thread Cert.MlaFrontRefIdeal.nD Cert.MlaFrontRefIdeal.τ).loc Cert.MlaFrontRefIdeal.main_arg2)) (m ((c.tc : Thread Cert.MlaFrontRefIdeal.nD Cert.MlaFrontRefIdeal.τ).loc Cert.MlaFrontRefIdeal.main_arg3)) (m ((c.tc : Thread Cert.MlaFrontRefIdeal.nD Cert.MlaFrontRefIdeal.τ).loc Cert.MlaFrontRefIdeal.main_arg4)) (m ((c.tc : Thread Cert.MlaFrontRefIdeal.nD Cert.MlaFrontRefIdeal.τ).loc Cert.MlaFrontRefIdeal.main_arg5)) (m ((c.tc : Thread Cert.MlaFrontRefIdeal.nD Cert.MlaFrontRefIdeal.τ).loc Cert.MlaFrontRefIdeal.main_arg6)) (m ((c.tc : Thread Cert.MlaFrontRefIdeal.nD Cert.MlaFrontRefIdeal.τ).loc Cert.MlaFrontRefIdeal.main_arg7))) = (fun _ => 1#1)

def quiescent_ReluBwd [hReluBwd : Cert.ReluBwd.Facts] : Prop :=
  ∀ (m : (ℓ : Loc Cert.ReluBwd.nD Cert.ReluBwd.τ Cert.ReluBwd.sig) → Buf (Elt Bits) ℓ) (g : Dev Cert.ReluBwd.nD → PrngReg), Pre_ReluBwd m →
    θ_run (Cert.ReluBwd.defs (F := Bits)) (onTc (τ := Cert.ReluBwd.τ) (Cert.ReluBwd.main (F := Bits))) ⟨m, fun _ => 0, g⟩ (fun r => (∀ c : Dev Cert.ReluBwd.nD,
      r.2.mem ((c.tc : Thread Cert.ReluBwd.nD Cert.ReluBwd.τ).loc Cert.ReluBwd.main_arg0) = m ((c.tc : Thread Cert.ReluBwd.nD Cert.ReluBwd.τ).loc Cert.ReluBwd.main_arg0)
      ∧ r.2.mem ((c.tc : Thread Cert.ReluBwd.nD Cert.ReluBwd.τ).loc Cert.ReluBwd.main_arg1) = m ((c.tc : Thread Cert.ReluBwd.nD Cert.ReluBwd.τ).loc Cert.ReluBwd.main_arg1)
      ∧ r.2.mem ((c.tc : Thread Cert.ReluBwd.nD Cert.ReluBwd.τ).loc Cert.ReluBwd.main_arg2) = m ((c.tc : Thread Cert.ReluBwd.nD Cert.ReluBwd.τ).loc Cert.ReluBwd.main_arg2)
      ∧ r.2.mem ((c.tc : Thread Cert.ReluBwd.nD Cert.ReluBwd.τ).loc Cert.ReluBwd.main_arg3) = m ((c.tc : Thread Cert.ReluBwd.nD Cert.ReluBwd.τ).loc Cert.ReluBwd.main_arg3)
      ∧ r.2.mem ((c.tc : Thread Cert.ReluBwd.nD Cert.ReluBwd.τ).loc Cert.ReluBwd.main_arg4) = m ((c.tc : Thread Cert.ReluBwd.nD Cert.ReluBwd.τ).loc Cert.ReluBwd.main_arg4))
      ∧ r.2.sem = fun _ => 0)

def quiescent_ReluBwdIdeal [hReluBwdIdeal : Cert.ReluBwdIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg), Pre_ReluBwdIdeal m →
    θ_run (Cert.ReluBwdIdeal.defs (F := Ideal)) (onTc (τ := Cert.ReluBwdIdeal.τ) (Cert.ReluBwdIdeal.main (F := Ideal))) ⟨m, fun _ => 0, g⟩ (fun r => (∀ c : Dev Cert.ReluBwdIdeal.nD,
      r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
      ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1)
      ∧ r.2.mem ((c.tc : Thread Cert.ReluBwdIdeal.nD Cert.ReluBwdIdeal.τ).loc Cert.ReluBwdIdeal.main_arg2) = m ((c.tc : Thread Cert.ReluBwdIdeal.nD Cert.ReluBwdIdeal.τ).loc Cert.ReluBwdIdeal.main_arg2)
      ∧ r.2.mem ((c.tc : Thread Cert.ReluBwdIdeal.nD Cert.ReluBwdIdeal.τ).loc Cert.ReluBwdIdeal.main_arg3) = m ((c.tc : Thread Cert.ReluBwdIdeal.nD Cert.ReluBwdIdeal.τ).loc Cert.ReluBwdIdeal.main_arg3)
      ∧ r.2.mem ((c.tc : Thread Cert.ReluBwdIdeal.nD Cert.ReluBwdIdeal.τ).loc Cert.ReluBwdIdeal.main_arg4) = m ((c.tc : Thread Cert.ReluBwdIdeal.nD Cert.ReluBwdIdeal.τ).loc Cert.ReluBwdIdeal.main_arg4))
      ∧ r.2.sem = fun _ => 0)

def quiescent_ReluBwdRefIdeal [hReluBwdRefIdeal : Cert.ReluBwdRefIdeal.Facts] : Prop :=
  ∀ (m : (ℓ : Loc Cert.ReluBwdRefIdeal.nD Cert.ReluBwdRefIdeal.τ Cert.ReluBwdRefIdeal.sig) → Buf (Elt Ideal) ℓ) (g : Dev Cert.ReluBwdRefIdeal.nD → PrngReg), Pre_ReluBwdRefIdeal m →
    θ_run (Cert.ReluBwdRefIdeal.defs (F := Ideal)) (onTc (τ := Cert.ReluBwdRefIdeal.τ) (Cert.ReluBwdRefIdeal.main (F := Ideal))) ⟨m, fun _ => 0, g⟩ (fun r => (∀ c : Dev Cert.ReluBwdRefIdeal.nD,
      r.2.mem ((c.tc : Thread Cert.ReluBwdRefIdeal.nD Cert.ReluBwdRefIdeal.τ).loc Cert.ReluBwdRefIdeal.main_arg0) = m ((c.tc : Thread Cert.ReluBwdRefIdeal.nD Cert.ReluBwdRefIdeal.τ).loc Cert.ReluBwdRefIdeal.main_arg0)
      ∧ r.2.mem ((c.tc : Thread Cert.ReluBwdRefIdeal.nD Cert.ReluBwdRefIdeal.τ).loc Cert.ReluBwdRefIdeal.main_arg1) = m ((c.tc : Thread Cert.ReluBwdRefIdeal.nD Cert.ReluBwdRefIdeal.τ).loc Cert.ReluBwdRefIdeal.main_arg1)
      ∧ r.2.mem ((c.tc : Thread Cert.ReluBwdRefIdeal.nD Cert.ReluBwdRefIdeal.τ).loc Cert.ReluBwdRefIdeal.main_arg2) = m ((c.tc : Thread Cert.ReluBwdRefIdeal.nD Cert.ReluBwdRefIdeal.τ).loc Cert.ReluBwdRefIdeal.main_arg2)
      ∧ r.2.mem ((c.tc : Thread Cert.ReluBwdRefIdeal.nD Cert.ReluBwdRefIdeal.τ).loc Cert.ReluBwdRefIdeal.main_arg3) = m ((c.tc : Thread Cert.ReluBwdRefIdeal.nD Cert.ReluBwdRefIdeal.τ).loc Cert.ReluBwdRefIdeal.main_arg3)
      ∧ r.2.mem ((c.tc : Thread Cert.ReluBwdRefIdeal.nD Cert.ReluBwdRefIdeal.τ).loc Cert.ReluBwdRefIdeal.main_arg4) = m ((c.tc : Thread Cert.ReluBwdRefIdeal.nD Cert.ReluBwdRefIdeal.τ).loc Cert.ReluBwdRefIdeal.main_arg4))
      ∧ r.2.sem = fun _ => 0)

def quiescent_DeltaBwd [hDeltaBwd : Cert.DeltaBwd.Facts] : Prop :=
  ∀ (m : (ℓ : Loc Cert.DeltaBwd.nD Cert.DeltaBwd.τ Cert.DeltaBwd.sig) → Buf (Elt Bits) ℓ) (g : Dev Cert.DeltaBwd.nD → PrngReg), Pre_DeltaBwd m →
    θ_run (Cert.DeltaBwd.defs (F := Bits)) (onTc (τ := Cert.DeltaBwd.τ) (Cert.DeltaBwd.main (F := Bits))) ⟨m, fun _ => 0, g⟩ (fun r => (∀ c : Dev Cert.DeltaBwd.nD,
      r.2.mem ((c.tc : Thread Cert.DeltaBwd.nD Cert.DeltaBwd.τ).loc Cert.DeltaBwd.main_arg0) = m ((c.tc : Thread Cert.DeltaBwd.nD Cert.DeltaBwd.τ).loc Cert.DeltaBwd.main_arg0)
      ∧ r.2.mem ((c.tc : Thread Cert.DeltaBwd.nD Cert.DeltaBwd.τ).loc Cert.DeltaBwd.main_arg1) = m ((c.tc : Thread Cert.DeltaBwd.nD Cert.DeltaBwd.τ).loc Cert.DeltaBwd.main_arg1)
      ∧ r.2.mem ((c.tc : Thread Cert.DeltaBwd.nD Cert.DeltaBwd.τ).loc Cert.DeltaBwd.main_arg2) = m ((c.tc : Thread Cert.DeltaBwd.nD Cert.DeltaBwd.τ).loc Cert.DeltaBwd.main_arg2))
      ∧ r.2.sem = fun _ => 0)

def quiescent_DeltaBwdIdeal [hDeltaBwdIdeal : Cert.DeltaBwdIdeal.Facts] : Prop :=
  ∀ (m : (ℓ : Loc Cert.DeltaBwdIdeal.nD Cert.DeltaBwdIdeal.τ Cert.DeltaBwdIdeal.sig) → Buf (Elt Ideal) ℓ) (g : Dev Cert.DeltaBwdIdeal.nD → PrngReg), Pre_DeltaBwdIdeal m →
    θ_run (Cert.DeltaBwdIdeal.defs (F := Ideal)) (onTc (τ := Cert.DeltaBwdIdeal.τ) (Cert.DeltaBwdIdeal.main (F := Ideal))) ⟨m, fun _ => 0, g⟩ (fun r => (∀ c : Dev Cert.DeltaBwdIdeal.nD,
      r.2.mem ((c.tc : Thread Cert.DeltaBwdIdeal.nD Cert.DeltaBwdIdeal.τ).loc Cert.DeltaBwdIdeal.main_arg0) = m ((c.tc : Thread Cert.DeltaBwdIdeal.nD Cert.DeltaBwdIdeal.τ).loc Cert.DeltaBwdIdeal.main_arg0)
      ∧ r.2.mem ((c.tc : Thread Cert.DeltaBwdIdeal.nD Cert.DeltaBwdIdeal.τ).loc Cert.DeltaBwdIdeal.main_arg1) = m ((c.tc : Thread Cert.DeltaBwdIdeal.nD Cert.DeltaBwdIdeal.τ).loc Cert.DeltaBwdIdeal.main_arg1)
      ∧ r.2.mem ((c.tc : Thread Cert.DeltaBwdIdeal.nD Cert.DeltaBwdIdeal.τ).loc Cert.DeltaBwdIdeal.main_arg2) = m ((c.tc : Thread Cert.DeltaBwdIdeal.nD Cert.DeltaBwdIdeal.τ).loc Cert.DeltaBwdIdeal.main_arg2))
      ∧ r.2.sem = fun _ => 0)

def quiescent_DeltaBwdRefIdeal [hDeltaBwdRefIdeal : Cert.DeltaBwdRefIdeal.Facts] : Prop :=
  ∀ (m : (ℓ : Loc Cert.DeltaBwdRefIdeal.nD Cert.DeltaBwdRefIdeal.τ Cert.DeltaBwdRefIdeal.sig) → Buf (Elt Ideal) ℓ) (g : Dev Cert.DeltaBwdRefIdeal.nD → PrngReg), Pre_DeltaBwdRefIdeal m →
    θ_run (Cert.DeltaBwdRefIdeal.defs (F := Ideal)) (onTc (τ := Cert.DeltaBwdRefIdeal.τ) (Cert.DeltaBwdRefIdeal.main (F := Ideal))) ⟨m, fun _ => 0, g⟩ (fun r => (∀ c : Dev Cert.DeltaBwdRefIdeal.nD,
      r.2.mem ((c.tc : Thread Cert.DeltaBwdRefIdeal.nD Cert.DeltaBwdRefIdeal.τ).loc Cert.DeltaBwdRefIdeal.main_arg0) = m ((c.tc : Thread Cert.DeltaBwdRefIdeal.nD Cert.DeltaBwdRefIdeal.τ).loc Cert.DeltaBwdRefIdeal.main_arg0)
      ∧ r.2.mem ((c.tc : Thread Cert.DeltaBwdRefIdeal.nD Cert.DeltaBwdRefIdeal.τ).loc Cert.DeltaBwdRefIdeal.main_arg1) = m ((c.tc : Thread Cert.DeltaBwdRefIdeal.nD Cert.DeltaBwdRefIdeal.τ).loc Cert.DeltaBwdRefIdeal.main_arg1)
      ∧ r.2.mem ((c.tc : Thread Cert.DeltaBwdRefIdeal.nD Cert.DeltaBwdRefIdeal.τ).loc Cert.DeltaBwdRefIdeal.main_arg2) = m ((c.tc : Thread Cert.DeltaBwdRefIdeal.nD Cert.DeltaBwdRefIdeal.τ).loc Cert.DeltaBwdRefIdeal.main_arg2))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4)
      ∧ r.2.mem ((c.tc : Thread Cert.LossBwdRefIdeal.nD Cert.LossBwdRefIdeal.τ).loc Cert.LossBwdRefIdeal.main_arg5) = m ((c.tc : Thread Cert.LossBwdRefIdeal.nD Cert.LossBwdRefIdeal.τ).loc Cert.LossBwdRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_gate_finite [hGateBwdRefIdeal : Cert.GateBwdRefIdeal.Facts] [hPre_gate_finite : Cert.Pre_gate_finite.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_gate_finite m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdIdeal_pre_flash_finite [hFlashBwdIdeal : Cert.FlashBwdIdeal.Facts] [hPre_flash_finite : Cert.Pre_flash_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_flash_finite m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashBwdRefIdeal_pre_flash_finite [hFlashBwdRefIdeal : Cert.FlashBwdRefIdeal.Facts] [hPre_flash_finite : Cert.Pre_flash_finite.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_flash_finite m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_flashfwd_finite [hFlashFwdIdeal : Cert.FlashFwdIdeal.Facts] [hPre_flashfwd_finite : Cert.Pre_flashfwd_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_flashfwd_finite m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_flashfwd_finite [hFlashFwdRefIdeal : Cert.FlashFwdRefIdeal.Facts] [hPre_flashfwd_finite : Cert.Pre_flashfwd_finite.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_flashfwd_finite m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RetFwdIdeal_pre_retf_finite [hRetFwdIdeal : Cert.RetFwdIdeal.Facts] [hPre_retf_finite : Cert.Pre_retf_finite.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal_retf_finite m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0))
      ∧ r.2.sem = fun _ => 0)

def quiescent_RetFwdRefIdeal_pre_retf_finite [hRetFwdRefIdeal : Cert.RetFwdRefIdeal.Facts] [hPre_retf_finite : Cert.Pre_retf_finite.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal_retf_finite m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1))
      ∧ r.2.sem = fun _ => 0)

def quiescent_ResFwd [hResFwd : Cert.ResFwd.Facts] : Prop :=
  ∀ (m : (ℓ : Loc Cert.ResFwd.nD Cert.ResFwd.τ Cert.ResFwd.sig) → Buf (Elt Bits) ℓ) (g : Dev Cert.ResFwd.nD → PrngReg), Pre_ResFwd m →
    θ_run (Cert.ResFwd.defs (F := Bits)) (onTc (τ := Cert.ResFwd.τ) (Cert.ResFwd.main (F := Bits))) ⟨m, fun _ => 0, g⟩ (fun r => (∀ c : Dev Cert.ResFwd.nD,
      r.2.mem ((c.tc : Thread Cert.ResFwd.nD Cert.ResFwd.τ).loc Cert.ResFwd.main_arg0) = m ((c.tc : Thread Cert.ResFwd.nD Cert.ResFwd.τ).loc Cert.ResFwd.main_arg0)
      ∧ r.2.mem ((c.tc : Thread Cert.ResFwd.nD Cert.ResFwd.τ).loc Cert.ResFwd.main_arg1) = m ((c.tc : Thread Cert.ResFwd.nD Cert.ResFwd.τ).loc Cert.ResFwd.main_arg1)
      ∧ r.2.mem ((c.tc : Thread Cert.ResFwd.nD Cert.ResFwd.τ).loc Cert.ResFwd.main_arg2) = m ((c.tc : Thread Cert.ResFwd.nD Cert.ResFwd.τ).loc Cert.ResFwd.main_arg2)
      ∧ r.2.mem ((c.tc : Thread Cert.ResFwd.nD Cert.ResFwd.τ).loc Cert.ResFwd.main_arg3) = m ((c.tc : Thread Cert.ResFwd.nD Cert.ResFwd.τ).loc Cert.ResFwd.main_arg3))
      ∧ r.2.sem = fun _ => 0)

def quiescent_ResFwdIdeal [hResFwdIdeal : Cert.ResFwdIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg), Pre_ResFwdIdeal m →
    θ_run (Cert.ResFwdIdeal.defs (F := Ideal)) (onTc (τ := Cert.ResFwdIdeal.τ) (Cert.ResFwdIdeal.main (F := Ideal))) ⟨m, fun _ => 0, g⟩ (fun r => (∀ c : Dev Cert.ResFwdIdeal.nD,
      r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
      ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
      ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2)
      ∧ r.2.mem ((c.tc : Thread Cert.ResFwdIdeal.nD Cert.ResFwdIdeal.τ).loc Cert.ResFwdIdeal.main_arg3) = m ((c.tc : Thread Cert.ResFwdIdeal.nD Cert.ResFwdIdeal.τ).loc Cert.ResFwdIdeal.main_arg3))
      ∧ r.2.sem = fun _ => 0)

def quiescent_ResFwdRefIdeal [hResFwdRefIdeal : Cert.ResFwdRefIdeal.Facts] : Prop :=
  ∀ (m : (ℓ : Loc Cert.ResFwdRefIdeal.nD Cert.ResFwdRefIdeal.τ Cert.ResFwdRefIdeal.sig) → Buf (Elt Ideal) ℓ) (g : Dev Cert.ResFwdRefIdeal.nD → PrngReg), Pre_ResFwdRefIdeal m →
    θ_run (Cert.ResFwdRefIdeal.defs (F := Ideal)) (onTc (τ := Cert.ResFwdRefIdeal.τ) (Cert.ResFwdRefIdeal.main (F := Ideal))) ⟨m, fun _ => 0, g⟩ (fun r => (∀ c : Dev Cert.ResFwdRefIdeal.nD,
      r.2.mem ((c.tc : Thread Cert.ResFwdRefIdeal.nD Cert.ResFwdRefIdeal.τ).loc Cert.ResFwdRefIdeal.main_arg0) = m ((c.tc : Thread Cert.ResFwdRefIdeal.nD Cert.ResFwdRefIdeal.τ).loc Cert.ResFwdRefIdeal.main_arg0)
      ∧ r.2.mem ((c.tc : Thread Cert.ResFwdRefIdeal.nD Cert.ResFwdRefIdeal.τ).loc Cert.ResFwdRefIdeal.main_arg1) = m ((c.tc : Thread Cert.ResFwdRefIdeal.nD Cert.ResFwdRefIdeal.τ).loc Cert.ResFwdRefIdeal.main_arg1)
      ∧ r.2.mem ((c.tc : Thread Cert.ResFwdRefIdeal.nD Cert.ResFwdRefIdeal.τ).loc Cert.ResFwdRefIdeal.main_arg2) = m ((c.tc : Thread Cert.ResFwdRefIdeal.nD Cert.ResFwdRefIdeal.τ).loc Cert.ResFwdRefIdeal.main_arg2)
      ∧ r.2.mem ((c.tc : Thread Cert.ResFwdRefIdeal.nD Cert.ResFwdRefIdeal.τ).loc Cert.ResFwdRefIdeal.main_arg3) = m ((c.tc : Thread Cert.ResFwdRefIdeal.nD Cert.ResFwdRefIdeal.τ).loc Cert.ResFwdRefIdeal.main_arg3))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4)
      ∧ r.2.mem ((c.tc : Thread Cert.PleFwd.nD Cert.PleFwd.τ).loc Cert.PleFwd.main_arg5) = m ((c.tc : Thread Cert.PleFwd.nD Cert.PleFwd.τ).loc Cert.PleFwd.main_arg5))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
      ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4)
      ∧ r.2.mem ((c.tc : Thread Cert.PleFwdRefIdeal.nD Cert.PleFwdRefIdeal.τ).loc Cert.PleFwdRefIdeal.main_arg5) = m ((c.tc : Thread Cert.PleFwdRefIdeal.nD Cert.PleFwdRefIdeal.τ).loc Cert.PleFwdRefIdeal.main_arg5))
      ∧ r.2.sem = fun _ => 0)

def quiescent_MlaFront [hMlaFront : Cert.MlaFront.Facts] : Prop :=
  ∀ (m : (ℓ : Loc Cert.MlaFront.nD Cert.MlaFront.τ Cert.MlaFront.sig) → Buf (Elt Bits) ℓ) (g : Dev Cert.MlaFront.nD → PrngReg), Pre_MlaFront m →
    θ_run (Cert.MlaFront.defs (F := Bits)) (onTc (τ := Cert.MlaFront.τ) (Cert.MlaFront.main (F := Bits))) ⟨m, fun _ => 0, g⟩ (fun r => (∀ c : Dev Cert.MlaFront.nD,
      r.2.mem ((c.tc : Thread Cert.MlaFront.nD Cert.MlaFront.τ).loc Cert.MlaFront.main_arg0) = m ((c.tc : Thread Cert.MlaFront.nD Cert.MlaFront.τ).loc Cert.MlaFront.main_arg0)
      ∧ r.2.mem ((c.tc : Thread Cert.MlaFront.nD Cert.MlaFront.τ).loc Cert.MlaFront.main_arg1) = m ((c.tc : Thread Cert.MlaFront.nD Cert.MlaFront.τ).loc Cert.MlaFront.main_arg1)
      ∧ r.2.mem ((c.tc : Thread Cert.MlaFront.nD Cert.MlaFront.τ).loc Cert.MlaFront.main_arg2) = m ((c.tc : Thread Cert.MlaFront.nD Cert.MlaFront.τ).loc Cert.MlaFront.main_arg2)
      ∧ r.2.mem ((c.tc : Thread Cert.MlaFront.nD Cert.MlaFront.τ).loc Cert.MlaFront.main_arg3) = m ((c.tc : Thread Cert.MlaFront.nD Cert.MlaFront.τ).loc Cert.MlaFront.main_arg3)
      ∧ r.2.mem ((c.tc : Thread Cert.MlaFront.nD Cert.MlaFront.τ).loc Cert.MlaFront.main_arg4) = m ((c.tc : Thread Cert.MlaFront.nD Cert.MlaFront.τ).loc Cert.MlaFront.main_arg4)
      ∧ r.2.mem ((c.tc : Thread Cert.MlaFront.nD Cert.MlaFront.τ).loc Cert.MlaFront.main_arg5) = m ((c.tc : Thread Cert.MlaFront.nD Cert.MlaFront.τ).loc Cert.MlaFront.main_arg5)
      ∧ r.2.mem ((c.tc : Thread Cert.MlaFront.nD Cert.MlaFront.τ).loc Cert.MlaFront.main_arg6) = m ((c.tc : Thread Cert.MlaFront.nD Cert.MlaFront.τ).loc Cert.MlaFront.main_arg6)
      ∧ r.2.mem ((c.tc : Thread Cert.MlaFront.nD Cert.MlaFront.τ).loc Cert.MlaFront.main_arg7) = m ((c.tc : Thread Cert.MlaFront.nD Cert.MlaFront.τ).loc Cert.MlaFront.main_arg7))
      ∧ r.2.sem = fun _ => 0)

def quiescent_MlaFrontIdeal [hMlaFrontIdeal : Cert.MlaFrontIdeal.Facts] : Prop :=
  ∀ (m : (ℓ : Loc Cert.MlaFrontIdeal.nD Cert.MlaFrontIdeal.τ Cert.MlaFrontIdeal.sig) → Buf (Elt Ideal) ℓ) (g : Dev Cert.MlaFrontIdeal.nD → PrngReg), Pre_MlaFrontIdeal m →
    θ_run (Cert.MlaFrontIdeal.defs (F := Ideal)) (onTc (τ := Cert.MlaFrontIdeal.τ) (Cert.MlaFrontIdeal.main (F := Ideal))) ⟨m, fun _ => 0, g⟩ (fun r => (∀ c : Dev Cert.MlaFrontIdeal.nD,
      r.2.mem ((c.tc : Thread Cert.MlaFrontIdeal.nD Cert.MlaFrontIdeal.τ).loc Cert.MlaFrontIdeal.main_arg0) = m ((c.tc : Thread Cert.MlaFrontIdeal.nD Cert.MlaFrontIdeal.τ).loc Cert.MlaFrontIdeal.main_arg0)
      ∧ r.2.mem ((c.tc : Thread Cert.MlaFrontIdeal.nD Cert.MlaFrontIdeal.τ).loc Cert.MlaFrontIdeal.main_arg1) = m ((c.tc : Thread Cert.MlaFrontIdeal.nD Cert.MlaFrontIdeal.τ).loc Cert.MlaFrontIdeal.main_arg1)
      ∧ r.2.mem ((c.tc : Thread Cert.MlaFrontIdeal.nD Cert.MlaFrontIdeal.τ).loc Cert.MlaFrontIdeal.main_arg2) = m ((c.tc : Thread Cert.MlaFrontIdeal.nD Cert.MlaFrontIdeal.τ).loc Cert.MlaFrontIdeal.main_arg2)
      ∧ r.2.mem ((c.tc : Thread Cert.MlaFrontIdeal.nD Cert.MlaFrontIdeal.τ).loc Cert.MlaFrontIdeal.main_arg3) = m ((c.tc : Thread Cert.MlaFrontIdeal.nD Cert.MlaFrontIdeal.τ).loc Cert.MlaFrontIdeal.main_arg3)
      ∧ r.2.mem ((c.tc : Thread Cert.MlaFrontIdeal.nD Cert.MlaFrontIdeal.τ).loc Cert.MlaFrontIdeal.main_arg4) = m ((c.tc : Thread Cert.MlaFrontIdeal.nD Cert.MlaFrontIdeal.τ).loc Cert.MlaFrontIdeal.main_arg4)
      ∧ r.2.mem ((c.tc : Thread Cert.MlaFrontIdeal.nD Cert.MlaFrontIdeal.τ).loc Cert.MlaFrontIdeal.main_arg5) = m ((c.tc : Thread Cert.MlaFrontIdeal.nD Cert.MlaFrontIdeal.τ).loc Cert.MlaFrontIdeal.main_arg5)
      ∧ r.2.mem ((c.tc : Thread Cert.MlaFrontIdeal.nD Cert.MlaFrontIdeal.τ).loc Cert.MlaFrontIdeal.main_arg6) = m ((c.tc : Thread Cert.MlaFrontIdeal.nD Cert.MlaFrontIdeal.τ).loc Cert.MlaFrontIdeal.main_arg6)
      ∧ r.2.mem ((c.tc : Thread Cert.MlaFrontIdeal.nD Cert.MlaFrontIdeal.τ).loc Cert.MlaFrontIdeal.main_arg7) = m ((c.tc : Thread Cert.MlaFrontIdeal.nD Cert.MlaFrontIdeal.τ).loc Cert.MlaFrontIdeal.main_arg7))
      ∧ r.2.sem = fun _ => 0)

def quiescent_MlaFrontIdeal_pre_front_finite [hMlaFrontIdeal : Cert.MlaFrontIdeal.Facts] [hPre_front_finite : Cert.Pre_front_finite.Facts] : Prop :=
  ∀ (m : (ℓ : Loc Cert.MlaFrontIdeal.nD Cert.MlaFrontIdeal.τ Cert.MlaFrontIdeal.sig) → Buf (Elt Ideal) ℓ) (g : Dev Cert.MlaFrontIdeal.nD → PrngReg), Pre_MlaFrontIdeal_front_finite m →
    θ_run (Cert.MlaFrontIdeal.defs (F := Ideal)) (onTc (τ := Cert.MlaFrontIdeal.τ) (Cert.MlaFrontIdeal.main (F := Ideal))) ⟨m, fun _ => 0, g⟩ (fun r => (∀ c : Dev Cert.MlaFrontIdeal.nD,
      r.2.mem ((c.tc : Thread Cert.MlaFrontIdeal.nD Cert.MlaFrontIdeal.τ).loc Cert.MlaFrontIdeal.main_arg0) = m ((c.tc : Thread Cert.MlaFrontIdeal.nD Cert.MlaFrontIdeal.τ).loc Cert.MlaFrontIdeal.main_arg0)
      ∧ r.2.mem ((c.tc : Thread Cert.MlaFrontIdeal.nD Cert.MlaFrontIdeal.τ).loc Cert.MlaFrontIdeal.main_arg1) = m ((c.tc : Thread Cert.MlaFrontIdeal.nD Cert.MlaFrontIdeal.τ).loc Cert.MlaFrontIdeal.main_arg1)
      ∧ r.2.mem ((c.tc : Thread Cert.MlaFrontIdeal.nD Cert.MlaFrontIdeal.τ).loc Cert.MlaFrontIdeal.main_arg2) = m ((c.tc : Thread Cert.MlaFrontIdeal.nD Cert.MlaFrontIdeal.τ).loc Cert.MlaFrontIdeal.main_arg2)
      ∧ r.2.mem ((c.tc : Thread Cert.MlaFrontIdeal.nD Cert.MlaFrontIdeal.τ).loc Cert.MlaFrontIdeal.main_arg3) = m ((c.tc : Thread Cert.MlaFrontIdeal.nD Cert.MlaFrontIdeal.τ).loc Cert.MlaFrontIdeal.main_arg3)
      ∧ r.2.mem ((c.tc : Thread Cert.MlaFrontIdeal.nD Cert.MlaFrontIdeal.τ).loc Cert.MlaFrontIdeal.main_arg4) = m ((c.tc : Thread Cert.MlaFrontIdeal.nD Cert.MlaFrontIdeal.τ).loc Cert.MlaFrontIdeal.main_arg4)
      ∧ r.2.mem ((c.tc : Thread Cert.MlaFrontIdeal.nD Cert.MlaFrontIdeal.τ).loc Cert.MlaFrontIdeal.main_arg5) = m ((c.tc : Thread Cert.MlaFrontIdeal.nD Cert.MlaFrontIdeal.τ).loc Cert.MlaFrontIdeal.main_arg5)
      ∧ r.2.mem ((c.tc : Thread Cert.MlaFrontIdeal.nD Cert.MlaFrontIdeal.τ).loc Cert.MlaFrontIdeal.main_arg6) = m ((c.tc : Thread Cert.MlaFrontIdeal.nD Cert.MlaFrontIdeal.τ).loc Cert.MlaFrontIdeal.main_arg6)
      ∧ r.2.mem ((c.tc : Thread Cert.MlaFrontIdeal.nD Cert.MlaFrontIdeal.τ).loc Cert.MlaFrontIdeal.main_arg7) = m ((c.tc : Thread Cert.MlaFrontIdeal.nD Cert.MlaFrontIdeal.τ).loc Cert.MlaFrontIdeal.main_arg7))
      ∧ r.2.sem = fun _ => 0)

def quiescent_MlaFrontRefIdeal [hMlaFrontRefIdeal : Cert.MlaFrontRefIdeal.Facts] : Prop :=
  ∀ (m : (ℓ : Loc Cert.MlaFrontRefIdeal.nD Cert.MlaFrontRefIdeal.τ Cert.MlaFrontRefIdeal.sig) → Buf (Elt Ideal) ℓ) (g : Dev Cert.MlaFrontRefIdeal.nD → PrngReg), Pre_MlaFrontRefIdeal m →
    θ_run (Cert.MlaFrontRefIdeal.defs (F := Ideal)) (onTc (τ := Cert.MlaFrontRefIdeal.τ) (Cert.MlaFrontRefIdeal.main (F := Ideal))) ⟨m, fun _ => 0, g⟩ (fun r => (∀ c : Dev Cert.MlaFrontRefIdeal.nD,
      r.2.mem ((c.tc : Thread Cert.MlaFrontRefIdeal.nD Cert.MlaFrontRefIdeal.τ).loc Cert.MlaFrontRefIdeal.main_arg0) = m ((c.tc : Thread Cert.MlaFrontRefIdeal.nD Cert.MlaFrontRefIdeal.τ).loc Cert.MlaFrontRefIdeal.main_arg0)
      ∧ r.2.mem ((c.tc : Thread Cert.MlaFrontRefIdeal.nD Cert.MlaFrontRefIdeal.τ).loc Cert.MlaFrontRefIdeal.main_arg1) = m ((c.tc : Thread Cert.MlaFrontRefIdeal.nD Cert.MlaFrontRefIdeal.τ).loc Cert.MlaFrontRefIdeal.main_arg1)
      ∧ r.2.mem ((c.tc : Thread Cert.MlaFrontRefIdeal.nD Cert.MlaFrontRefIdeal.τ).loc Cert.MlaFrontRefIdeal.main_arg2) = m ((c.tc : Thread Cert.MlaFrontRefIdeal.nD Cert.MlaFrontRefIdeal.τ).loc Cert.MlaFrontRefIdeal.main_arg2)
      ∧ r.2.mem ((c.tc : Thread Cert.MlaFrontRefIdeal.nD Cert.MlaFrontRefIdeal.τ).loc Cert.MlaFrontRefIdeal.main_arg3) = m ((c.tc : Thread Cert.MlaFrontRefIdeal.nD Cert.MlaFrontRefIdeal.τ).loc Cert.MlaFrontRefIdeal.main_arg3)
      ∧ r.2.mem ((c.tc : Thread Cert.MlaFrontRefIdeal.nD Cert.MlaFrontRefIdeal.τ).loc Cert.MlaFrontRefIdeal.main_arg4) = m ((c.tc : Thread Cert.MlaFrontRefIdeal.nD Cert.MlaFrontRefIdeal.τ).loc Cert.MlaFrontRefIdeal.main_arg4)
      ∧ r.2.mem ((c.tc : Thread Cert.MlaFrontRefIdeal.nD Cert.MlaFrontRefIdeal.τ).loc Cert.MlaFrontRefIdeal.main_arg5) = m ((c.tc : Thread Cert.MlaFrontRefIdeal.nD Cert.MlaFrontRefIdeal.τ).loc Cert.MlaFrontRefIdeal.main_arg5)
      ∧ r.2.mem ((c.tc : Thread Cert.MlaFrontRefIdeal.nD Cert.MlaFrontRefIdeal.τ).loc Cert.MlaFrontRefIdeal.main_arg6) = m ((c.tc : Thread Cert.MlaFrontRefIdeal.nD Cert.MlaFrontRefIdeal.τ).loc Cert.MlaFrontRefIdeal.main_arg6)
      ∧ r.2.mem ((c.tc : Thread Cert.MlaFrontRefIdeal.nD Cert.MlaFrontRefIdeal.τ).loc Cert.MlaFrontRefIdeal.main_arg7) = m ((c.tc : Thread Cert.MlaFrontRefIdeal.nD Cert.MlaFrontRefIdeal.τ).loc Cert.MlaFrontRefIdeal.main_arg7))
      ∧ r.2.sem = fun _ => 0)

def quiescent_MlaFrontRefIdeal_pre_front_finite [hMlaFrontRefIdeal : Cert.MlaFrontRefIdeal.Facts] [hPre_front_finite : Cert.Pre_front_finite.Facts] : Prop :=
  ∀ (m : (ℓ : Loc Cert.MlaFrontRefIdeal.nD Cert.MlaFrontRefIdeal.τ Cert.MlaFrontRefIdeal.sig) → Buf (Elt Ideal) ℓ) (g : Dev Cert.MlaFrontRefIdeal.nD → PrngReg), Pre_MlaFrontRefIdeal_front_finite m →
    θ_run (Cert.MlaFrontRefIdeal.defs (F := Ideal)) (onTc (τ := Cert.MlaFrontRefIdeal.τ) (Cert.MlaFrontRefIdeal.main (F := Ideal))) ⟨m, fun _ => 0, g⟩ (fun r => (∀ c : Dev Cert.MlaFrontRefIdeal.nD,
      r.2.mem ((c.tc : Thread Cert.MlaFrontRefIdeal.nD Cert.MlaFrontRefIdeal.τ).loc Cert.MlaFrontRefIdeal.main_arg0) = m ((c.tc : Thread Cert.MlaFrontRefIdeal.nD Cert.MlaFrontRefIdeal.τ).loc Cert.MlaFrontRefIdeal.main_arg0)
      ∧ r.2.mem ((c.tc : Thread Cert.MlaFrontRefIdeal.nD Cert.MlaFrontRefIdeal.τ).loc Cert.MlaFrontRefIdeal.main_arg1) = m ((c.tc : Thread Cert.MlaFrontRefIdeal.nD Cert.MlaFrontRefIdeal.τ).loc Cert.MlaFrontRefIdeal.main_arg1)
      ∧ r.2.mem ((c.tc : Thread Cert.MlaFrontRefIdeal.nD Cert.MlaFrontRefIdeal.τ).loc Cert.MlaFrontRefIdeal.main_arg2) = m ((c.tc : Thread Cert.MlaFrontRefIdeal.nD Cert.MlaFrontRefIdeal.τ).loc Cert.MlaFrontRefIdeal.main_arg2)
      ∧ r.2.mem ((c.tc : Thread Cert.MlaFrontRefIdeal.nD Cert.MlaFrontRefIdeal.τ).loc Cert.MlaFrontRefIdeal.main_arg3) = m ((c.tc : Thread Cert.MlaFrontRefIdeal.nD Cert.MlaFrontRefIdeal.τ).loc Cert.MlaFrontRefIdeal.main_arg3)
      ∧ r.2.mem ((c.tc : Thread Cert.MlaFrontRefIdeal.nD Cert.MlaFrontRefIdeal.τ).loc Cert.MlaFrontRefIdeal.main_arg4) = m ((c.tc : Thread Cert.MlaFrontRefIdeal.nD Cert.MlaFrontRefIdeal.τ).loc Cert.MlaFrontRefIdeal.main_arg4)
      ∧ r.2.mem ((c.tc : Thread Cert.MlaFrontRefIdeal.nD Cert.MlaFrontRefIdeal.τ).loc Cert.MlaFrontRefIdeal.main_arg5) = m ((c.tc : Thread Cert.MlaFrontRefIdeal.nD Cert.MlaFrontRefIdeal.τ).loc Cert.MlaFrontRefIdeal.main_arg5)
      ∧ r.2.mem ((c.tc : Thread Cert.MlaFrontRefIdeal.nD Cert.MlaFrontRefIdeal.τ).loc Cert.MlaFrontRefIdeal.main_arg6) = m ((c.tc : Thread Cert.MlaFrontRefIdeal.nD Cert.MlaFrontRefIdeal.τ).loc Cert.MlaFrontRefIdeal.main_arg6)
      ∧ r.2.mem ((c.tc : Thread Cert.MlaFrontRefIdeal.nD Cert.MlaFrontRefIdeal.τ).loc Cert.MlaFrontRefIdeal.main_arg7) = m ((c.tc : Thread Cert.MlaFrontRefIdeal.nD Cert.MlaFrontRefIdeal.τ).loc Cert.MlaFrontRefIdeal.main_arg7))
      ∧ r.2.sem = fun _ => 0)

def preserves_ReluBwd_ReluBwdIdeal : Prop :=
  True

def algebraic_ReluBwdIdeal_ReluBwdRefIdeal [hReluBwdIdeal : Cert.ReluBwdIdeal.Facts] [hReluBwdRefIdeal : Cert.ReluBwdRefIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg)
    (m' : (ℓ : Loc Cert.ReluBwdRefIdeal.nD Cert.ReluBwdRefIdeal.τ Cert.ReluBwdRefIdeal.sig) → Buf (Elt Ideal) ℓ) (g' : Dev Cert.ReluBwdRefIdeal.nD → PrngReg), Pre_ReluBwdIdeal m →
    (∀ c : Dev Cert.ReluBwdIdeal.nD,
      m' ((c.tc : Thread Cert.ReluBwdRefIdeal.nD Cert.ReluBwdRefIdeal.τ).loc Cert.ReluBwdRefIdeal.main_arg0) = m ((c.tc : Thread Cert.ReluBwdIdeal.nD Cert.ReluBwdIdeal.τ).loc Cert.ReluBwdIdeal.main_arg0)
      ∧ m' ((c.tc : Thread Cert.ReluBwdRefIdeal.nD Cert.ReluBwdRefIdeal.τ).loc Cert.ReluBwdRefIdeal.main_arg1) = m ((c.tc : Thread Cert.ReluBwdIdeal.nD Cert.ReluBwdIdeal.τ).loc Cert.ReluBwdIdeal.main_arg1)
      ∧ m' ((c.tc : Thread Cert.ReluBwdRefIdeal.nD Cert.ReluBwdRefIdeal.τ).loc Cert.ReluBwdRefIdeal.main_arg2) = m ((c.tc : Thread Cert.ReluBwdIdeal.nD Cert.ReluBwdIdeal.τ).loc Cert.ReluBwdIdeal.main_arg2)
      ∧ m' ((c.tc : Thread Cert.ReluBwdRefIdeal.nD Cert.ReluBwdRefIdeal.τ).loc Cert.ReluBwdRefIdeal.main_arg3) = m ((c.tc : Thread Cert.ReluBwdIdeal.nD Cert.ReluBwdIdeal.τ).loc Cert.ReluBwdIdeal.main_arg3)
      ∧ m' ((c.tc : Thread Cert.ReluBwdRefIdeal.nD Cert.ReluBwdRefIdeal.τ).loc Cert.ReluBwdRefIdeal.main_arg4) = m ((c.tc : Thread Cert.ReluBwdIdeal.nD Cert.ReluBwdIdeal.τ).loc Cert.ReluBwdIdeal.main_arg4)) →
    ∃ (v0 : (c : Dev Cert.ReluBwdIdeal.nD) → Buf (Elt Ideal) ((c.tc : Thread Cert.ReluBwdIdeal.nD Cert.ReluBwdIdeal.τ).loc Cert.ReluBwdIdeal.main_v19)),
      θ_run (Cert.ReluBwdIdeal.defs (F := Ideal)) (onTc (τ := Cert.ReluBwdIdeal.τ) (Cert.ReluBwdIdeal.main (F := Ideal))) ⟨m, fun _ => 0, g⟩ (fun r => ∀ c : Dev Cert.ReluBwdIdeal.nD,
          r.2.mem ((c.tc : Thread Cert.ReluBwdIdeal.nD Cert.ReluBwdIdeal.τ).loc Cert.ReluBwdIdeal.main_v19) = v0 c
          ∧ r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
          ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1)
          ∧ r.2.mem ((c.tc : Thread Cert.ReluBwdIdeal.nD Cert.ReluBwdIdeal.τ).loc Cert.ReluBwdIdeal.main_arg2) = m ((c.tc : Thread Cert.ReluBwdIdeal.nD Cert.ReluBwdIdeal.τ).loc Cert.ReluBwdIdeal.main_arg2)
          ∧ r.2.mem ((c.tc : Thread Cert.ReluBwdIdeal.nD Cert.ReluBwdIdeal.τ).loc Cert.ReluBwdIdeal.main_arg3) = m ((c.tc : Thread Cert.ReluBwdIdeal.nD Cert.ReluBwdIdeal.τ).loc Cert.ReluBwdIdeal.main_arg3)
          ∧ r.2.mem ((c.tc : Thread Cert.ReluBwdIdeal.nD Cert.ReluBwdIdeal.τ).loc Cert.ReluBwdIdeal.main_arg4) = m ((c.tc : Thread Cert.ReluBwdIdeal.nD Cert.ReluBwdIdeal.τ).loc Cert.ReluBwdIdeal.main_arg4))
      ∧ θ_run (Cert.ReluBwdRefIdeal.defs (F := Ideal)) (onTc (τ := Cert.ReluBwdRefIdeal.τ) (Cert.ReluBwdRefIdeal.main (F := Ideal))) ⟨m', fun _ => 0, g'⟩ (fun r => ∀ c : Dev Cert.ReluBwdRefIdeal.nD,
          r.2.mem ((c.tc : Thread Cert.ReluBwdRefIdeal.nD Cert.ReluBwdRefIdeal.τ).loc Cert.ReluBwdRefIdeal.main_v26) = v0 c
          ∧ r.2.mem ((c.tc : Thread Cert.ReluBwdRefIdeal.nD Cert.ReluBwdRefIdeal.τ).loc Cert.ReluBwdRefIdeal.main_arg0) = m' ((c.tc : Thread Cert.ReluBwdRefIdeal.nD Cert.ReluBwdRefIdeal.τ).loc Cert.ReluBwdRefIdeal.main_arg0)
          ∧ r.2.mem ((c.tc : Thread Cert.ReluBwdRefIdeal.nD Cert.ReluBwdRefIdeal.τ).loc Cert.ReluBwdRefIdeal.main_arg1) = m' ((c.tc : Thread Cert.ReluBwdRefIdeal.nD Cert.ReluBwdRefIdeal.τ).loc Cert.ReluBwdRefIdeal.main_arg1)
          ∧ r.2.mem ((c.tc : Thread Cert.ReluBwdRefIdeal.nD Cert.ReluBwdRefIdeal.τ).loc Cert.ReluBwdRefIdeal.main_arg2) = m' ((c.tc : Thread Cert.ReluBwdRefIdeal.nD Cert.ReluBwdRefIdeal.τ).loc Cert.ReluBwdRefIdeal.main_arg2)
          ∧ r.2.mem ((c.tc : Thread Cert.ReluBwdRefIdeal.nD Cert.ReluBwdRefIdeal.τ).loc Cert.ReluBwdRefIdeal.main_arg3) = m' ((c.tc : Thread Cert.ReluBwdRefIdeal.nD Cert.ReluBwdRefIdeal.τ).loc Cert.ReluBwdRefIdeal.main_arg3)
          ∧ r.2.mem ((c.tc : Thread Cert.ReluBwdRefIdeal.nD Cert.ReluBwdRefIdeal.τ).loc Cert.ReluBwdRefIdeal.main_arg4) = m' ((c.tc : Thread Cert.ReluBwdRefIdeal.nD Cert.ReluBwdRefIdeal.τ).loc Cert.ReluBwdRefIdeal.main_arg4))

def preserves_DeltaBwd_DeltaBwdIdeal : Prop :=
  True

def algebraic_DeltaBwdIdeal_DeltaBwdRefIdeal [hDeltaBwdIdeal : Cert.DeltaBwdIdeal.Facts] [hDeltaBwdRefIdeal : Cert.DeltaBwdRefIdeal.Facts] : Prop :=
  ∀ (m : (ℓ : Loc Cert.DeltaBwdIdeal.nD Cert.DeltaBwdIdeal.τ Cert.DeltaBwdIdeal.sig) → Buf (Elt Ideal) ℓ) (g : Dev Cert.DeltaBwdIdeal.nD → PrngReg)
    (m' : (ℓ : Loc Cert.DeltaBwdRefIdeal.nD Cert.DeltaBwdRefIdeal.τ Cert.DeltaBwdRefIdeal.sig) → Buf (Elt Ideal) ℓ) (g' : Dev Cert.DeltaBwdRefIdeal.nD → PrngReg), Pre_DeltaBwdIdeal m →
    (∀ c : Dev Cert.DeltaBwdIdeal.nD,
      m' ((c.tc : Thread Cert.DeltaBwdRefIdeal.nD Cert.DeltaBwdRefIdeal.τ).loc Cert.DeltaBwdRefIdeal.main_arg0) = m ((c.tc : Thread Cert.DeltaBwdIdeal.nD Cert.DeltaBwdIdeal.τ).loc Cert.DeltaBwdIdeal.main_arg0)
      ∧ m' ((c.tc : Thread Cert.DeltaBwdRefIdeal.nD Cert.DeltaBwdRefIdeal.τ).loc Cert.DeltaBwdRefIdeal.main_arg1) = m ((c.tc : Thread Cert.DeltaBwdIdeal.nD Cert.DeltaBwdIdeal.τ).loc Cert.DeltaBwdIdeal.main_arg1)
      ∧ m' ((c.tc : Thread Cert.DeltaBwdRefIdeal.nD Cert.DeltaBwdRefIdeal.τ).loc Cert.DeltaBwdRefIdeal.main_arg2) = m ((c.tc : Thread Cert.DeltaBwdIdeal.nD Cert.DeltaBwdIdeal.τ).loc Cert.DeltaBwdIdeal.main_arg2)) →
    ∃ (v0 : (c : Dev Cert.DeltaBwdIdeal.nD) → Buf (Elt Ideal) ((c.tc : Thread Cert.DeltaBwdIdeal.nD Cert.DeltaBwdIdeal.τ).loc Cert.DeltaBwdIdeal.main_v3_0)) (v1 : (c : Dev Cert.DeltaBwdIdeal.nD) → Buf (Elt Ideal) ((c.tc : Thread Cert.DeltaBwdIdeal.nD Cert.DeltaBwdIdeal.τ).loc Cert.DeltaBwdIdeal.main_v3_1)),
      θ_run (Cert.DeltaBwdIdeal.defs (F := Ideal)) (onTc (τ := Cert.DeltaBwdIdeal.τ) (Cert.DeltaBwdIdeal.main (F := Ideal))) ⟨m, fun _ => 0, g⟩ (fun r => ∀ c : Dev Cert.DeltaBwdIdeal.nD,
          r.2.mem ((c.tc : Thread Cert.DeltaBwdIdeal.nD Cert.DeltaBwdIdeal.τ).loc Cert.DeltaBwdIdeal.main_v3_0) = v0 c
          ∧ r.2.mem ((c.tc : Thread Cert.DeltaBwdIdeal.nD Cert.DeltaBwdIdeal.τ).loc Cert.DeltaBwdIdeal.main_v3_1) = v1 c
          ∧ r.2.mem ((c.tc : Thread Cert.DeltaBwdIdeal.nD Cert.DeltaBwdIdeal.τ).loc Cert.DeltaBwdIdeal.main_arg0) = m ((c.tc : Thread Cert.DeltaBwdIdeal.nD Cert.DeltaBwdIdeal.τ).loc Cert.DeltaBwdIdeal.main_arg0)
          ∧ r.2.mem ((c.tc : Thread Cert.DeltaBwdIdeal.nD Cert.DeltaBwdIdeal.τ).loc Cert.DeltaBwdIdeal.main_arg1) = m ((c.tc : Thread Cert.DeltaBwdIdeal.nD Cert.DeltaBwdIdeal.τ).loc Cert.DeltaBwdIdeal.main_arg1)
          ∧ r.2.mem ((c.tc : Thread Cert.DeltaBwdIdeal.nD Cert.DeltaBwdIdeal.τ).loc Cert.DeltaBwdIdeal.main_arg2) = m ((c.tc : Thread Cert.DeltaBwdIdeal.nD Cert.DeltaBwdIdeal.τ).loc Cert.DeltaBwdIdeal.main_arg2))
      ∧ θ_run (Cert.DeltaBwdRefIdeal.defs (F := Ideal)) (onTc (τ := Cert.DeltaBwdRefIdeal.τ) (Cert.DeltaBwdRefIdeal.main (F := Ideal))) ⟨m', fun _ => 0, g'⟩ (fun r => ∀ c : Dev Cert.DeltaBwdRefIdeal.nD,
          r.2.mem ((c.tc : Thread Cert.DeltaBwdRefIdeal.nD Cert.DeltaBwdRefIdeal.τ).loc Cert.DeltaBwdRefIdeal.main_v7) = v0 c
          ∧ r.2.mem ((c.tc : Thread Cert.DeltaBwdRefIdeal.nD Cert.DeltaBwdRefIdeal.τ).loc Cert.DeltaBwdRefIdeal.main_v8) = v1 c
          ∧ r.2.mem ((c.tc : Thread Cert.DeltaBwdRefIdeal.nD Cert.DeltaBwdRefIdeal.τ).loc Cert.DeltaBwdRefIdeal.main_arg0) = m' ((c.tc : Thread Cert.DeltaBwdRefIdeal.nD Cert.DeltaBwdRefIdeal.τ).loc Cert.DeltaBwdRefIdeal.main_arg0)
          ∧ r.2.mem ((c.tc : Thread Cert.DeltaBwdRefIdeal.nD Cert.DeltaBwdRefIdeal.τ).loc Cert.DeltaBwdRefIdeal.main_arg1) = m' ((c.tc : Thread Cert.DeltaBwdRefIdeal.nD Cert.DeltaBwdRefIdeal.τ).loc Cert.DeltaBwdRefIdeal.main_arg1)
          ∧ r.2.mem ((c.tc : Thread Cert.DeltaBwdRefIdeal.nD Cert.DeltaBwdRefIdeal.τ).loc Cert.DeltaBwdRefIdeal.main_arg2) = m' ((c.tc : Thread Cert.DeltaBwdRefIdeal.nD Cert.DeltaBwdRefIdeal.τ).loc Cert.DeltaBwdRefIdeal.main_arg2))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)
      ∧ m' ((c.tc : Thread Cert.LossBwdRefIdeal.nD Cert.LossBwdRefIdeal.τ).loc Cert.LossBwdRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v19_0)) (v1 : (c : Dev Cert.LossBwdIdeal.nD) → Buf (Elt Ideal) ((c.tc : Thread Cert.LossBwdIdeal.nD Cert.LossBwdIdeal.τ).loc Cert.LossBwdIdeal.main_v19_1)) (v2 : (c : Dev Cert.LossBwdIdeal.nD) → Buf (Elt Ideal) ((c.tc : Thread Cert.LossBwdIdeal.nD Cert.LossBwdIdeal.τ).loc Cert.LossBwdIdeal.main_v19_2)) (v3 : (c : Dev Cert.LossBwdIdeal.nD) → Buf (Elt Ideal) ((c.tc : Thread Cert.LossBwdIdeal.nD Cert.LossBwdIdeal.τ).loc Cert.LossBwdIdeal.main_v19_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v19_0) = v0 c
          ∧ r.2.mem ((c.tc : Thread Cert.LossBwdIdeal.nD Cert.LossBwdIdeal.τ).loc Cert.LossBwdIdeal.main_v19_1) = v1 c
          ∧ r.2.mem ((c.tc : Thread Cert.LossBwdIdeal.nD Cert.LossBwdIdeal.τ).loc Cert.LossBwdIdeal.main_v19_2) = v2 c
          ∧ r.2.mem ((c.tc : Thread Cert.LossBwdIdeal.nD Cert.LossBwdIdeal.τ).loc Cert.LossBwdIdeal.main_v19_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v32) = v0 c
          ∧ r.2.mem ((c.tc : Thread Cert.LossBwdRefIdeal.nD Cert.LossBwdRefIdeal.τ).loc Cert.LossBwdRefIdeal.main_v33) = v1 c
          ∧ r.2.mem ((c.tc : Thread Cert.LossBwdRefIdeal.nD Cert.LossBwdRefIdeal.τ).loc Cert.LossBwdRefIdeal.main_v39) = v2 c
          ∧ r.2.mem ((c.tc : Thread Cert.LossBwdRefIdeal.nD Cert.LossBwdRefIdeal.τ).loc Cert.LossBwdRefIdeal.main_v40) = v3 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4)
          ∧ r.2.mem ((c.tc : Thread Cert.LossBwdRefIdeal.nD Cert.LossBwdRefIdeal.τ).loc Cert.LossBwdRefIdeal.main_arg5) = m' ((c.tc : Thread Cert.LossBwdRefIdeal.nD Cert.LossBwdRefIdeal.τ).loc Cert.LossBwdRefIdeal.main_arg5))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v5_0)) (v1 : (c : Dev Cert.NormBwdIdeal.nD) → Buf (Elt Ideal) ((c.tc : Thread Cert.NormBwdIdeal.nD Cert.NormBwdIdeal.τ).loc Cert.NormBwdIdeal.main_v5_1)) (v2 : (c : Dev Cert.NormBwdIdeal.nD) → Buf (Elt Ideal) ((c.tc : Thread Cert.NormBwdIdeal.nD Cert.NormBwdIdeal.τ).loc Cert.NormBwdIdeal.main_v5_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v5_0) = v0 c
          ∧ r.2.mem ((c.tc : Thread Cert.NormBwdIdeal.nD Cert.NormBwdIdeal.τ).loc Cert.NormBwdIdeal.main_v5_1) = v1 c
          ∧ r.2.mem ((c.tc : Thread Cert.NormBwdIdeal.nD Cert.NormBwdIdeal.τ).loc Cert.NormBwdIdeal.main_v5_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v38) = v0 c
          ∧ r.2.mem ((c.tc : Thread Cert.NormBwdRefIdeal.nD Cert.NormBwdRefIdeal.τ).loc Cert.NormBwdRefIdeal.main_v39) = v1 c
          ∧ r.2.mem ((c.tc : Thread Cert.NormBwdRefIdeal.nD Cert.NormBwdRefIdeal.τ).loc Cert.NormBwdRefIdeal.main_v40) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_PleBwd_PleBwdIdeal : Prop :=
  True

def algebraic_PleBwdIdeal_PleBwdRefIdeal [hPleBwdIdeal : Cert.PleBwdIdeal.Facts] [hPleBwdRefIdeal : Cert.PleBwdRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)
      ∧ m' ((c.tc : Thread Cert.PleBwdRefIdeal.nD Cert.PleBwdRefIdeal.τ).loc Cert.PleBwdRefIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v25_0)) (v1 : (c : Dev Cert.PleBwdIdeal.nD) → Buf (Elt Ideal) ((c.tc : Thread Cert.PleBwdIdeal.nD Cert.PleBwdIdeal.τ).loc Cert.PleBwdIdeal.main_v25_1)) (v2 : (c : Dev Cert.PleBwdIdeal.nD) → Buf (Elt Ideal) ((c.tc : Thread Cert.PleBwdIdeal.nD Cert.PleBwdIdeal.τ).loc Cert.PleBwdIdeal.main_v25_2)) (v3 : (c : Dev Cert.PleBwdIdeal.nD) → Buf (Elt Ideal) ((c.tc : Thread Cert.PleBwdIdeal.nD Cert.PleBwdIdeal.τ).loc Cert.PleBwdIdeal.main_v25_3)) (v4 : (c : Dev Cert.PleBwdIdeal.nD) → Buf (Elt Ideal) ((c.tc : Thread Cert.PleBwdIdeal.nD Cert.PleBwdIdeal.τ).loc Cert.PleBwdIdeal.main_v25_4)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v25_0) = v0 c
          ∧ r.2.mem ((c.tc : Thread Cert.PleBwdIdeal.nD Cert.PleBwdIdeal.τ).loc Cert.PleBwdIdeal.main_v25_1) = v1 c
          ∧ r.2.mem ((c.tc : Thread Cert.PleBwdIdeal.nD Cert.PleBwdIdeal.τ).loc Cert.PleBwdIdeal.main_v25_2) = v2 c
          ∧ r.2.mem ((c.tc : Thread Cert.PleBwdIdeal.nD Cert.PleBwdIdeal.τ).loc Cert.PleBwdIdeal.main_v25_3) = v3 c
          ∧ r.2.mem ((c.tc : Thread Cert.PleBwdIdeal.nD Cert.PleBwdIdeal.τ).loc Cert.PleBwdIdeal.main_v25_4) = v4 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v83) = v0 c
          ∧ r.2.mem ((c.tc : Thread Cert.PleBwdRefIdeal.nD Cert.PleBwdRefIdeal.τ).loc Cert.PleBwdRefIdeal.main_v84) = v1 c
          ∧ r.2.mem ((c.tc : Thread Cert.PleBwdRefIdeal.nD Cert.PleBwdRefIdeal.τ).loc Cert.PleBwdRefIdeal.main_v53) = v2 c
          ∧ r.2.mem ((c.tc : Thread Cert.PleBwdRefIdeal.nD Cert.PleBwdRefIdeal.τ).loc Cert.PleBwdRefIdeal.main_v85) = v3 c
          ∧ r.2.mem ((c.tc : Thread Cert.PleBwdRefIdeal.nD Cert.PleBwdRefIdeal.τ).loc Cert.PleBwdRefIdeal.main_v86) = v4 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4)
          ∧ r.2.mem ((c.tc : Thread Cert.PleBwdRefIdeal.nD Cert.PleBwdRefIdeal.τ).loc Cert.PleBwdRefIdeal.main_arg5) = m' ((c.tc : Thread Cert.PleBwdRefIdeal.nD Cert.PleBwdRefIdeal.τ).loc Cert.PleBwdRefIdeal.main_arg5))

def preserves_GateBwd_GateBwdIdeal : Prop :=
  True

def algebraic_GateBwdIdeal_GateBwdRefIdeal_on_gate_written_pre_gate_finite [hGateBwdIdeal : Cert.GateBwdIdeal.Facts] [hGateBwdRefIdeal : Cert.GateBwdRefIdeal.Facts] [hPre_gate_finite : Cert.Pre_gate_finite.Facts] [hOn_gate_written : Cert.On_gate_written.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_gate_finite m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v5_0)) (v1 : (c : Dev Cert.GateBwdIdeal.nD) → Buf (Elt Ideal) ((c.tc : Thread Cert.GateBwdIdeal.nD Cert.GateBwdIdeal.τ).loc Cert.GateBwdIdeal.main_v5_1)) (v2 : (c : Dev Cert.GateBwdIdeal.nD) → Buf (Elt Ideal) ((c.tc : Thread Cert.GateBwdIdeal.nD Cert.GateBwdIdeal.τ).loc Cert.GateBwdIdeal.main_v5_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          (∀ i : (⟨2, ![4096, 2048]⟩ : Shape).Idx, (Cert.On_gate_written.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 i = 1#1 → r.2.mem ((c.tc : Thread Cert.GateBwdIdeal.nD Cert.GateBwdIdeal.τ).loc Cert.GateBwdIdeal.main_v5_0) i = v0 c i)
          ∧ (∀ i : (⟨2, ![4096, 6144]⟩ : Shape).Idx, (Cert.On_gate_written.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 i = 1#1 → r.2.mem ((c.tc : Thread Cert.GateBwdIdeal.nD Cert.GateBwdIdeal.τ).loc Cert.GateBwdIdeal.main_v5_1) i = v1 c i)
          ∧ (∀ i : (⟨2, ![4, 512]⟩ : Shape).Idx, (Cert.On_gate_written.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2 i = 1#1 → r.2.mem ((c.tc : Thread Cert.GateBwdIdeal.nD Cert.GateBwdIdeal.τ).loc Cert.GateBwdIdeal.main_v5_2) i = v2 c i)
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          (∀ i : (⟨2, ![4096, 2048]⟩ : Shape).Idx, (Cert.On_gate_written.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 i = 1#1 → r.2.mem ((c.tc : Thread Cert.GateBwdRefIdeal.nD Cert.GateBwdRefIdeal.τ).loc Cert.GateBwdRefIdeal.main_v46) i = v0 c i)
          ∧ (∀ i : (⟨2, ![4096, 6144]⟩ : Shape).Idx, (Cert.On_gate_written.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 i = 1#1 → r.2.mem ((c.tc : Thread Cert.GateBwdRefIdeal.nD Cert.GateBwdRefIdeal.τ).loc Cert.GateBwdRefIdeal.main_v49) i = v1 c i)
          ∧ (∀ i : (⟨2, ![4, 512]⟩ : Shape).Idx, (Cert.On_gate_written.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2 i = 1#1 → r.2.mem ((c.tc : Thread Cert.GateBwdRefIdeal.nD Cert.GateBwdRefIdeal.τ).loc Cert.GateBwdRefIdeal.main_v29) i = v2 c i)
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_FlashBwd_FlashBwdIdeal : Prop :=
  IdealRules.named_const.Statement Cert.FlashBwdIdeal.κ "mask" .f32 0xF149F2CA#32 ⊥
  ∧ IdealRules.named_const.Statement Cert.FlashBwdIdeal.κ "ln2" .f32 0x3F317218#32 ((Real.log 2 : ℝ) : EReal)

def algebraic_FlashBwdIdeal_FlashBwdRefIdeal_pre_flash_finite [hFlashBwdIdeal : Cert.FlashBwdIdeal.Facts] [hFlashBwdRefIdeal : Cert.FlashBwdRefIdeal.Facts] [hPre_flash_finite : Cert.Pre_flash_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_flash_finite m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)) →
    ∃ (v0 : (c : Dev Cert.FlashBwdIdeal.nD) → Buf (Elt Ideal) ((c.tc : Thread Cert.FlashBwdIdeal.nD Cert.FlashBwdIdeal.τ).loc Cert.FlashBwdIdeal.main_v69_0)) (v1 : (c : Dev Cert.FlashBwdIdeal.nD) → Buf (Elt Ideal) ((c.tc : Thread Cert.FlashBwdIdeal.nD Cert.FlashBwdIdeal.τ).loc Cert.FlashBwdIdeal.main_v69_1)) (v2 : (c : Dev Cert.FlashBwdIdeal.nD) → Buf (Elt Ideal) ((c.tc : Thread Cert.FlashBwdIdeal.nD Cert.FlashBwdIdeal.τ).loc Cert.FlashBwdIdeal.main_v69_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v69_0) = v0 c
          ∧ r.2.mem ((c.tc : Thread Cert.FlashBwdIdeal.nD Cert.FlashBwdIdeal.τ).loc Cert.FlashBwdIdeal.main_v69_1) = v1 c
          ∧ r.2.mem ((c.tc : Thread Cert.FlashBwdIdeal.nD Cert.FlashBwdIdeal.τ).loc Cert.FlashBwdIdeal.main_v69_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v66) = v0 c
          ∧ r.2.mem ((c.tc : Thread Cert.FlashBwdRefIdeal.nD Cert.FlashBwdRefIdeal.τ).loc Cert.FlashBwdRefIdeal.main_v69) = v1 c
          ∧ r.2.mem ((c.tc : Thread Cert.FlashBwdRefIdeal.nD Cert.FlashBwdRefIdeal.τ).loc Cert.FlashBwdRefIdeal.main_v71) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3))

def preserves_FlashFwd_FlashFwdIdeal : Prop :=
  IdealRules.named_const.Statement Cert.FlashFwdIdeal.κ "mask" .f32 0xF149F2CA#32 ⊥
  ∧ IdealRules.named_const.Statement Cert.FlashFwdIdeal.κ "log2e" .f32 0x3FB8AA3B#32 (((Real.log 2)⁻¹ : ℝ) : EReal)

def algebraic_FlashFwdIdeal_FlashFwdRefIdeal_pre_flashfwd_finite [hFlashFwdIdeal : Cert.FlashFwdIdeal.Facts] [hFlashFwdRefIdeal : Cert.FlashFwdRefIdeal.Facts] [hPre_flashfwd_finite : Cert.Pre_flashfwd_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_flashfwd_finite m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v13_0)) (v1 : (c : Dev Cert.FlashFwdIdeal.nD) → Buf (Elt Ideal) ((c.tc : Thread Cert.FlashFwdIdeal.nD Cert.FlashFwdIdeal.τ).loc Cert.FlashFwdIdeal.main_v13_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v13_0) = v0 c
          ∧ r.2.mem ((c.tc : Thread Cert.FlashFwdIdeal.nD Cert.FlashFwdIdeal.τ).loc Cert.FlashFwdIdeal.main_v13_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v50) = v0 c
          ∧ r.2.mem ((c.tc : Thread Cert.FlashFwdRefIdeal.nD Cert.FlashFwdRefIdeal.τ).loc Cert.FlashFwdRefIdeal.main_v25) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_RetFwd_RetFwdIdeal : Prop :=
  True

def algebraic_RetFwdIdeal_RetFwdRefIdeal_pre_retf_finite [hRetFwdIdeal : Cert.RetFwdIdeal.Facts] [hRetFwdRefIdeal : Cert.RetFwdRefIdeal.Facts] [hPre_retf_finite : Cert.Pre_retf_finite.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal_retf_finite m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)) →
    ∃ (v0 : (c : Dev Cert.RetFwdIdeal.nD) → Buf (Elt Ideal) ((c.tc : Thread Cert.RetFwdIdeal.nD Cert.RetFwdIdeal.τ).loc Cert.RetFwdIdeal.main_v77_0)) (v1 : (c : Dev Cert.RetFwdIdeal.nD) → Buf (Elt Ideal) ((c.tc : Thread Cert.RetFwdIdeal.nD Cert.RetFwdIdeal.τ).loc Cert.RetFwdIdeal.main_v77_1)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v77_0) = v0 c
          ∧ r.2.mem ((c.tc : Thread Cert.RetFwdIdeal.nD Cert.RetFwdIdeal.τ).loc Cert.RetFwdIdeal.main_v77_1) = v1 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v130) = v0 c
          ∧ r.2.mem ((c.tc : Thread Cert.RetFwdRefIdeal.nD Cert.RetFwdRefIdeal.τ).loc Cert.RetFwdRefIdeal.main_v133) = v1 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)) →
    ∃ (v0 : (c : Dev Cert.MixFwdIdeal.nD) → Buf (Elt Ideal) ((c.tc : Thread Cert.MixFwdIdeal.nD Cert.MixFwdIdeal.τ).loc Cert.MixFwdIdeal.main_v1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v1) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v13) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v5)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v5) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v18) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)) →
    ∃ (v0 : (c : Dev Cert.MlpFwdIdeal.nD) → Buf (Elt Ideal) ((c.tc : Thread Cert.MlpFwdIdeal.nD Cert.MlpFwdIdeal.τ).loc Cert.MlpFwdIdeal.main_v4)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v4) = v0 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v3) = v0 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1))

def preserves_ResFwd_ResFwdIdeal : Prop :=
  True

def algebraic_ResFwdIdeal_ResFwdRefIdeal [hResFwdIdeal : Cert.ResFwdIdeal.Facts] [hResFwdRefIdeal : Cert.ResFwdRefIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg)
    (m' : (ℓ : Loc Cert.ResFwdRefIdeal.nD Cert.ResFwdRefIdeal.τ Cert.ResFwdRefIdeal.sig) → Buf (Elt Ideal) ℓ) (g' : Dev Cert.ResFwdRefIdeal.nD → PrngReg), Pre_ResFwdIdeal m →
    (∀ c : Dev Cert.ResFwdIdeal.nD,
      m' ((c.tc : Thread Cert.ResFwdRefIdeal.nD Cert.ResFwdRefIdeal.τ).loc Cert.ResFwdRefIdeal.main_arg0) = m ((c.tc : Thread Cert.ResFwdIdeal.nD Cert.ResFwdIdeal.τ).loc Cert.ResFwdIdeal.main_arg0)
      ∧ m' ((c.tc : Thread Cert.ResFwdRefIdeal.nD Cert.ResFwdRefIdeal.τ).loc Cert.ResFwdRefIdeal.main_arg1) = m ((c.tc : Thread Cert.ResFwdIdeal.nD Cert.ResFwdIdeal.τ).loc Cert.ResFwdIdeal.main_arg1)
      ∧ m' ((c.tc : Thread Cert.ResFwdRefIdeal.nD Cert.ResFwdRefIdeal.τ).loc Cert.ResFwdRefIdeal.main_arg2) = m ((c.tc : Thread Cert.ResFwdIdeal.nD Cert.ResFwdIdeal.τ).loc Cert.ResFwdIdeal.main_arg2)
      ∧ m' ((c.tc : Thread Cert.ResFwdRefIdeal.nD Cert.ResFwdRefIdeal.τ).loc Cert.ResFwdRefIdeal.main_arg3) = m ((c.tc : Thread Cert.ResFwdIdeal.nD Cert.ResFwdIdeal.τ).loc Cert.ResFwdIdeal.main_arg3)) →
    ∃ (v0 : (c : Dev Cert.ResFwdIdeal.nD) → Buf (Elt Ideal) ((c.tc : Thread Cert.ResFwdIdeal.nD Cert.ResFwdIdeal.τ).loc Cert.ResFwdIdeal.main_v3_0)) (v1 : (c : Dev Cert.ResFwdIdeal.nD) → Buf (Elt Ideal) ((c.tc : Thread Cert.ResFwdIdeal.nD Cert.ResFwdIdeal.τ).loc Cert.ResFwdIdeal.main_v3_1)),
      θ_run (Cert.ResFwdIdeal.defs (F := Ideal)) (onTc (τ := Cert.ResFwdIdeal.τ) (Cert.ResFwdIdeal.main (F := Ideal))) ⟨m, fun _ => 0, g⟩ (fun r => ∀ c : Dev Cert.ResFwdIdeal.nD,
          r.2.mem ((c.tc : Thread Cert.ResFwdIdeal.nD Cert.ResFwdIdeal.τ).loc Cert.ResFwdIdeal.main_v3_0) = v0 c
          ∧ r.2.mem ((c.tc : Thread Cert.ResFwdIdeal.nD Cert.ResFwdIdeal.τ).loc Cert.ResFwdIdeal.main_v3_1) = v1 c
          ∧ r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
          ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
          ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2)
          ∧ r.2.mem ((c.tc : Thread Cert.ResFwdIdeal.nD Cert.ResFwdIdeal.τ).loc Cert.ResFwdIdeal.main_arg3) = m ((c.tc : Thread Cert.ResFwdIdeal.nD Cert.ResFwdIdeal.τ).loc Cert.ResFwdIdeal.main_arg3))
      ∧ θ_run (Cert.ResFwdRefIdeal.defs (F := Ideal)) (onTc (τ := Cert.ResFwdRefIdeal.τ) (Cert.ResFwdRefIdeal.main (F := Ideal))) ⟨m', fun _ => 0, g'⟩ (fun r => ∀ c : Dev Cert.ResFwdRefIdeal.nD,
          r.2.mem ((c.tc : Thread Cert.ResFwdRefIdeal.nD Cert.ResFwdRefIdeal.τ).loc Cert.ResFwdRefIdeal.main_v1) = v0 c
          ∧ r.2.mem ((c.tc : Thread Cert.ResFwdRefIdeal.nD Cert.ResFwdRefIdeal.τ).loc Cert.ResFwdRefIdeal.main_v15) = v1 c
          ∧ r.2.mem ((c.tc : Thread Cert.ResFwdRefIdeal.nD Cert.ResFwdRefIdeal.τ).loc Cert.ResFwdRefIdeal.main_arg0) = m' ((c.tc : Thread Cert.ResFwdRefIdeal.nD Cert.ResFwdRefIdeal.τ).loc Cert.ResFwdRefIdeal.main_arg0)
          ∧ r.2.mem ((c.tc : Thread Cert.ResFwdRefIdeal.nD Cert.ResFwdRefIdeal.τ).loc Cert.ResFwdRefIdeal.main_arg1) = m' ((c.tc : Thread Cert.ResFwdRefIdeal.nD Cert.ResFwdRefIdeal.τ).loc Cert.ResFwdRefIdeal.main_arg1)
          ∧ r.2.mem ((c.tc : Thread Cert.ResFwdRefIdeal.nD Cert.ResFwdRefIdeal.τ).loc Cert.ResFwdRefIdeal.main_arg2) = m' ((c.tc : Thread Cert.ResFwdRefIdeal.nD Cert.ResFwdRefIdeal.τ).loc Cert.ResFwdRefIdeal.main_arg2)
          ∧ r.2.mem ((c.tc : Thread Cert.ResFwdRefIdeal.nD Cert.ResFwdRefIdeal.τ).loc Cert.ResFwdRefIdeal.main_arg3) = m' ((c.tc : Thread Cert.ResFwdRefIdeal.nD Cert.ResFwdRefIdeal.τ).loc Cert.ResFwdRefIdeal.main_arg3))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)
      ∧ m' ((c.tc : Thread Cert.PleFwdRefIdeal.nD Cert.PleFwdRefIdeal.τ).loc Cert.PleFwdRefIdeal.main_arg5) = m ((c.tc : Thread Cert.PleFwdIdeal.nD Cert.PleFwdIdeal.τ).loc Cert.PleFwdIdeal.main_arg5)) →
    ∃ (v0 : (c : Dev Cert.PleFwdIdeal.nD) → Buf (Elt Ideal) ((c.tc : Thread Cert.PleFwdIdeal.nD Cert.PleFwdIdeal.τ).loc Cert.PleFwdIdeal.main_v7_0)) (v1 : (c : Dev Cert.PleFwdIdeal.nD) → Buf (Elt Ideal) ((c.tc : Thread Cert.PleFwdIdeal.nD Cert.PleFwdIdeal.τ).loc Cert.PleFwdIdeal.main_v7_1)) (v2 : (c : Dev Cert.PleFwdIdeal.nD) → Buf (Elt Ideal) ((c.tc : Thread Cert.PleFwdIdeal.nD Cert.PleFwdIdeal.τ).loc Cert.PleFwdIdeal.main_v7_2)) (v3 : (c : Dev Cert.PleFwdIdeal.nD) → Buf (Elt Ideal) ((c.tc : Thread Cert.PleFwdIdeal.nD Cert.PleFwdIdeal.τ).loc Cert.PleFwdIdeal.main_v7_3)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v7_0) = v0 c
          ∧ r.2.mem ((c.tc : Thread Cert.PleFwdIdeal.nD Cert.PleFwdIdeal.τ).loc Cert.PleFwdIdeal.main_v7_1) = v1 c
          ∧ r.2.mem ((c.tc : Thread Cert.PleFwdIdeal.nD Cert.PleFwdIdeal.τ).loc Cert.PleFwdIdeal.main_v7_2) = v2 c
          ∧ r.2.mem ((c.tc : Thread Cert.PleFwdIdeal.nD Cert.PleFwdIdeal.τ).loc Cert.PleFwdIdeal.main_v7_3) = v3 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
          ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v9) = v0 c
          ∧ r.2.mem ((c.tc : Thread Cert.PleFwdRefIdeal.nD Cert.PleFwdRefIdeal.τ).loc Cert.PleFwdRefIdeal.main_v10) = v1 c
          ∧ r.2.mem ((c.tc : Thread Cert.PleFwdRefIdeal.nD Cert.PleFwdRefIdeal.τ).loc Cert.PleFwdRefIdeal.main_v11) = v2 c
          ∧ r.2.mem ((c.tc : Thread Cert.PleFwdRefIdeal.nD Cert.PleFwdRefIdeal.τ).loc Cert.PleFwdRefIdeal.main_v25) = v3 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4)
          ∧ r.2.mem ((c.tc : Thread Cert.PleFwdRefIdeal.nD Cert.PleFwdRefIdeal.τ).loc Cert.PleFwdRefIdeal.main_arg5) = m' ((c.tc : Thread Cert.PleFwdRefIdeal.nD Cert.PleFwdRefIdeal.τ).loc Cert.PleFwdRefIdeal.main_arg5))

def preserves_MlaFront_MlaFrontIdeal : Prop :=
  True

def algebraic_MlaFrontIdeal_MlaFrontRefIdeal_pre_front_finite [hMlaFrontIdeal : Cert.MlaFrontIdeal.Facts] [hMlaFrontRefIdeal : Cert.MlaFrontRefIdeal.Facts] [hPre_front_finite : Cert.Pre_front_finite.Facts] : Prop :=
  ∀ (m : (ℓ : Loc Cert.MlaFrontIdeal.nD Cert.MlaFrontIdeal.τ Cert.MlaFrontIdeal.sig) → Buf (Elt Ideal) ℓ) (g : Dev Cert.MlaFrontIdeal.nD → PrngReg)
    (m' : (ℓ : Loc Cert.MlaFrontRefIdeal.nD Cert.MlaFrontRefIdeal.τ Cert.MlaFrontRefIdeal.sig) → Buf (Elt Ideal) ℓ) (g' : Dev Cert.MlaFrontRefIdeal.nD → PrngReg), Pre_MlaFrontIdeal_front_finite m →
    (∀ c : Dev Cert.MlaFrontIdeal.nD,
      m' ((c.tc : Thread Cert.MlaFrontRefIdeal.nD Cert.MlaFrontRefIdeal.τ).loc Cert.MlaFrontRefIdeal.main_arg0) = m ((c.tc : Thread Cert.MlaFrontIdeal.nD Cert.MlaFrontIdeal.τ).loc Cert.MlaFrontIdeal.main_arg0)
      ∧ m' ((c.tc : Thread Cert.MlaFrontRefIdeal.nD Cert.MlaFrontRefIdeal.τ).loc Cert.MlaFrontRefIdeal.main_arg1) = m ((c.tc : Thread Cert.MlaFrontIdeal.nD Cert.MlaFrontIdeal.τ).loc Cert.MlaFrontIdeal.main_arg1)
      ∧ m' ((c.tc : Thread Cert.MlaFrontRefIdeal.nD Cert.MlaFrontRefIdeal.τ).loc Cert.MlaFrontRefIdeal.main_arg2) = m ((c.tc : Thread Cert.MlaFrontIdeal.nD Cert.MlaFrontIdeal.τ).loc Cert.MlaFrontIdeal.main_arg2)
      ∧ m' ((c.tc : Thread Cert.MlaFrontRefIdeal.nD Cert.MlaFrontRefIdeal.τ).loc Cert.MlaFrontRefIdeal.main_arg3) = m ((c.tc : Thread Cert.MlaFrontIdeal.nD Cert.MlaFrontIdeal.τ).loc Cert.MlaFrontIdeal.main_arg3)
      ∧ m' ((c.tc : Thread Cert.MlaFrontRefIdeal.nD Cert.MlaFrontRefIdeal.τ).loc Cert.MlaFrontRefIdeal.main_arg4) = m ((c.tc : Thread Cert.MlaFrontIdeal.nD Cert.MlaFrontIdeal.τ).loc Cert.MlaFrontIdeal.main_arg4)
      ∧ m' ((c.tc : Thread Cert.MlaFrontRefIdeal.nD Cert.MlaFrontRefIdeal.τ).loc Cert.MlaFrontRefIdeal.main_arg5) = m ((c.tc : Thread Cert.MlaFrontIdeal.nD Cert.MlaFrontIdeal.τ).loc Cert.MlaFrontIdeal.main_arg5)
      ∧ m' ((c.tc : Thread Cert.MlaFrontRefIdeal.nD Cert.MlaFrontRefIdeal.τ).loc Cert.MlaFrontRefIdeal.main_arg6) = m ((c.tc : Thread Cert.MlaFrontIdeal.nD Cert.MlaFrontIdeal.τ).loc Cert.MlaFrontIdeal.main_arg6)
      ∧ m' ((c.tc : Thread Cert.MlaFrontRefIdeal.nD Cert.MlaFrontRefIdeal.τ).loc Cert.MlaFrontRefIdeal.main_arg7) = m ((c.tc : Thread Cert.MlaFrontIdeal.nD Cert.MlaFrontIdeal.τ).loc Cert.MlaFrontIdeal.main_arg7)) →
    ∃ (v0 : (c : Dev Cert.MlaFrontIdeal.nD) → Buf (Elt Ideal) ((c.tc : Thread Cert.MlaFrontIdeal.nD Cert.MlaFrontIdeal.τ).loc Cert.MlaFrontIdeal.main_v47_0)) (v1 : (c : Dev Cert.MlaFrontIdeal.nD) → Buf (Elt Ideal) ((c.tc : Thread Cert.MlaFrontIdeal.nD Cert.MlaFrontIdeal.τ).loc Cert.MlaFrontIdeal.main_v47_1)) (v2 : (c : Dev Cert.MlaFrontIdeal.nD) → Buf (Elt Ideal) ((c.tc : Thread Cert.MlaFrontIdeal.nD Cert.MlaFrontIdeal.τ).loc Cert.MlaFrontIdeal.main_v47_2)) (v3 : (c : Dev Cert.MlaFrontIdeal.nD) → Buf (Elt Ideal) ((c.tc : Thread Cert.MlaFrontIdeal.nD Cert.MlaFrontIdeal.τ).loc Cert.MlaFrontIdeal.main_v47_3)) (v4 : (c : Dev Cert.MlaFrontIdeal.nD) → Buf (Elt Ideal) ((c.tc : Thread Cert.MlaFrontIdeal.nD Cert.MlaFrontIdeal.τ).loc Cert.MlaFrontIdeal.main_v47_4)) (v5 : (c : Dev Cert.MlaFrontIdeal.nD) → Buf (Elt Ideal) ((c.tc : Thread Cert.MlaFrontIdeal.nD Cert.MlaFrontIdeal.τ).loc Cert.MlaFrontIdeal.main_v47_5)) (v6 : (c : Dev Cert.MlaFrontIdeal.nD) → Buf (Elt Ideal) ((c.tc : Thread Cert.MlaFrontIdeal.nD Cert.MlaFrontIdeal.τ).loc Cert.MlaFrontIdeal.main_v47_6)) (v7 : (c : Dev Cert.MlaFrontIdeal.nD) → Buf (Elt Ideal) ((c.tc : Thread Cert.MlaFrontIdeal.nD Cert.MlaFrontIdeal.τ).loc Cert.MlaFrontIdeal.main_v47_7)),
      θ_run (Cert.MlaFrontIdeal.defs (F := Ideal)) (onTc (τ := Cert.MlaFrontIdeal.τ) (Cert.MlaFrontIdeal.main (F := Ideal))) ⟨m, fun _ => 0, g⟩ (fun r => ∀ c : Dev Cert.MlaFrontIdeal.nD,
          r.2.mem ((c.tc : Thread Cert.MlaFrontIdeal.nD Cert.MlaFrontIdeal.τ).loc Cert.MlaFrontIdeal.main_v47_0) = v0 c
          ∧ r.2.mem ((c.tc : Thread Cert.MlaFrontIdeal.nD Cert.MlaFrontIdeal.τ).loc Cert.MlaFrontIdeal.main_v47_1) = v1 c
          ∧ r.2.mem ((c.tc : Thread Cert.MlaFrontIdeal.nD Cert.MlaFrontIdeal.τ).loc Cert.MlaFrontIdeal.main_v47_2) = v2 c
          ∧ r.2.mem ((c.tc : Thread Cert.MlaFrontIdeal.nD Cert.MlaFrontIdeal.τ).loc Cert.MlaFrontIdeal.main_v47_3) = v3 c
          ∧ r.2.mem ((c.tc : Thread Cert.MlaFrontIdeal.nD Cert.MlaFrontIdeal.τ).loc Cert.MlaFrontIdeal.main_v47_4) = v4 c
          ∧ r.2.mem ((c.tc : Thread Cert.MlaFrontIdeal.nD Cert.MlaFrontIdeal.τ).loc Cert.MlaFrontIdeal.main_v47_5) = v5 c
          ∧ r.2.mem ((c.tc : Thread Cert.MlaFrontIdeal.nD Cert.MlaFrontIdeal.τ).loc Cert.MlaFrontIdeal.main_v47_6) = v6 c
          ∧ r.2.mem ((c.tc : Thread Cert.MlaFrontIdeal.nD Cert.MlaFrontIdeal.τ).loc Cert.MlaFrontIdeal.main_v47_7) = v7 c
          ∧ r.2.mem ((c.tc : Thread Cert.MlaFrontIdeal.nD Cert.MlaFrontIdeal.τ).loc Cert.MlaFrontIdeal.main_arg0) = m ((c.tc : Thread Cert.MlaFrontIdeal.nD Cert.MlaFrontIdeal.τ).loc Cert.MlaFrontIdeal.main_arg0)
          ∧ r.2.mem ((c.tc : Thread Cert.MlaFrontIdeal.nD Cert.MlaFrontIdeal.τ).loc Cert.MlaFrontIdeal.main_arg1) = m ((c.tc : Thread Cert.MlaFrontIdeal.nD Cert.MlaFrontIdeal.τ).loc Cert.MlaFrontIdeal.main_arg1)
          ∧ r.2.mem ((c.tc : Thread Cert.MlaFrontIdeal.nD Cert.MlaFrontIdeal.τ).loc Cert.MlaFrontIdeal.main_arg2) = m ((c.tc : Thread Cert.MlaFrontIdeal.nD Cert.MlaFrontIdeal.τ).loc Cert.MlaFrontIdeal.main_arg2)
          ∧ r.2.mem ((c.tc : Thread Cert.MlaFrontIdeal.nD Cert.MlaFrontIdeal.τ).loc Cert.MlaFrontIdeal.main_arg3) = m ((c.tc : Thread Cert.MlaFrontIdeal.nD Cert.MlaFrontIdeal.τ).loc Cert.MlaFrontIdeal.main_arg3)
          ∧ r.2.mem ((c.tc : Thread Cert.MlaFrontIdeal.nD Cert.MlaFrontIdeal.τ).loc Cert.MlaFrontIdeal.main_arg4) = m ((c.tc : Thread Cert.MlaFrontIdeal.nD Cert.MlaFrontIdeal.τ).loc Cert.MlaFrontIdeal.main_arg4)
          ∧ r.2.mem ((c.tc : Thread Cert.MlaFrontIdeal.nD Cert.MlaFrontIdeal.τ).loc Cert.MlaFrontIdeal.main_arg5) = m ((c.tc : Thread Cert.MlaFrontIdeal.nD Cert.MlaFrontIdeal.τ).loc Cert.MlaFrontIdeal.main_arg5)
          ∧ r.2.mem ((c.tc : Thread Cert.MlaFrontIdeal.nD Cert.MlaFrontIdeal.τ).loc Cert.MlaFrontIdeal.main_arg6) = m ((c.tc : Thread Cert.MlaFrontIdeal.nD Cert.MlaFrontIdeal.τ).loc Cert.MlaFrontIdeal.main_arg6)
          ∧ r.2.mem ((c.tc : Thread Cert.MlaFrontIdeal.nD Cert.MlaFrontIdeal.τ).loc Cert.MlaFrontIdeal.main_arg7) = m ((c.tc : Thread Cert.MlaFrontIdeal.nD Cert.MlaFrontIdeal.τ).loc Cert.MlaFrontIdeal.main_arg7))
      ∧ θ_run (Cert.MlaFrontRefIdeal.defs (F := Ideal)) (onTc (τ := Cert.MlaFrontRefIdeal.τ) (Cert.MlaFrontRefIdeal.main (F := Ideal))) ⟨m', fun _ => 0, g'⟩ (fun r => ∀ c : Dev Cert.MlaFrontRefIdeal.nD,
          r.2.mem ((c.tc : Thread Cert.MlaFrontRefIdeal.nD Cert.MlaFrontRefIdeal.τ).loc Cert.MlaFrontRefIdeal.main_v141) = v0 c
          ∧ r.2.mem ((c.tc : Thread Cert.MlaFrontRefIdeal.nD Cert.MlaFrontRefIdeal.τ).loc Cert.MlaFrontRefIdeal.main_v142) = v1 c
          ∧ r.2.mem ((c.tc : Thread Cert.MlaFrontRefIdeal.nD Cert.MlaFrontRefIdeal.τ).loc Cert.MlaFrontRefIdeal.main_v143) = v2 c
          ∧ r.2.mem ((c.tc : Thread Cert.MlaFrontRefIdeal.nD Cert.MlaFrontRefIdeal.τ).loc Cert.MlaFrontRefIdeal.main_v147) = v3 c
          ∧ r.2.mem ((c.tc : Thread Cert.MlaFrontRefIdeal.nD Cert.MlaFrontRefIdeal.τ).loc Cert.MlaFrontRefIdeal.main_v148) = v4 c
          ∧ r.2.mem ((c.tc : Thread Cert.MlaFrontRefIdeal.nD Cert.MlaFrontRefIdeal.τ).loc Cert.MlaFrontRefIdeal.main_v151) = v5 c
          ∧ r.2.mem ((c.tc : Thread Cert.MlaFrontRefIdeal.nD Cert.MlaFrontRefIdeal.τ).loc Cert.MlaFrontRefIdeal.main_v154) = v6 c
          ∧ r.2.mem ((c.tc : Thread Cert.MlaFrontRefIdeal.nD Cert.MlaFrontRefIdeal.τ).loc Cert.MlaFrontRefIdeal.main_v156) = v7 c
          ∧ r.2.mem ((c.tc : Thread Cert.MlaFrontRefIdeal.nD Cert.MlaFrontRefIdeal.τ).loc Cert.MlaFrontRefIdeal.main_arg0) = m' ((c.tc : Thread Cert.MlaFrontRefIdeal.nD Cert.MlaFrontRefIdeal.τ).loc Cert.MlaFrontRefIdeal.main_arg0)
          ∧ r.2.mem ((c.tc : Thread Cert.MlaFrontRefIdeal.nD Cert.MlaFrontRefIdeal.τ).loc Cert.MlaFrontRefIdeal.main_arg1) = m' ((c.tc : Thread Cert.MlaFrontRefIdeal.nD Cert.MlaFrontRefIdeal.τ).loc Cert.MlaFrontRefIdeal.main_arg1)
          ∧ r.2.mem ((c.tc : Thread Cert.MlaFrontRefIdeal.nD Cert.MlaFrontRefIdeal.τ).loc Cert.MlaFrontRefIdeal.main_arg2) = m' ((c.tc : Thread Cert.MlaFrontRefIdeal.nD Cert.MlaFrontRefIdeal.τ).loc Cert.MlaFrontRefIdeal.main_arg2)
          ∧ r.2.mem ((c.tc : Thread Cert.MlaFrontRefIdeal.nD Cert.MlaFrontRefIdeal.τ).loc Cert.MlaFrontRefIdeal.main_arg3) = m' ((c.tc : Thread Cert.MlaFrontRefIdeal.nD Cert.MlaFrontRefIdeal.τ).loc Cert.MlaFrontRefIdeal.main_arg3)
          ∧ r.2.mem ((c.tc : Thread Cert.MlaFrontRefIdeal.nD Cert.MlaFrontRefIdeal.τ).loc Cert.MlaFrontRefIdeal.main_arg4) = m' ((c.tc : Thread Cert.MlaFrontRefIdeal.nD Cert.MlaFrontRefIdeal.τ).loc Cert.MlaFrontRefIdeal.main_arg4)
          ∧ r.2.mem ((c.tc : Thread Cert.MlaFrontRefIdeal.nD Cert.MlaFrontRefIdeal.τ).loc Cert.MlaFrontRefIdeal.main_arg5) = m' ((c.tc : Thread Cert.MlaFrontRefIdeal.nD Cert.MlaFrontRefIdeal.τ).loc Cert.MlaFrontRefIdeal.main_arg5)
          ∧ r.2.mem ((c.tc : Thread Cert.MlaFrontRefIdeal.nD Cert.MlaFrontRefIdeal.τ).loc Cert.MlaFrontRefIdeal.main_arg6) = m' ((c.tc : Thread Cert.MlaFrontRefIdeal.nD Cert.MlaFrontRefIdeal.τ).loc Cert.MlaFrontRefIdeal.main_arg6)
          ∧ r.2.mem ((c.tc : Thread Cert.MlaFrontRefIdeal.nD Cert.MlaFrontRefIdeal.τ).loc Cert.MlaFrontRefIdeal.main_arg7) = m' ((c.tc : Thread Cert.MlaFrontRefIdeal.nD Cert.MlaFrontRefIdeal.τ).loc Cert.MlaFrontRefIdeal.main_arg7))

def Claim : Prop :=
  ∃ (hReluBwd : Cert.ReluBwd.Facts) (hReluBwdIdeal : Cert.ReluBwdIdeal.Facts) (hReluBwdRefIdeal : Cert.ReluBwdRefIdeal.Facts) (hDeltaBwd : Cert.DeltaBwd.Facts) (hDeltaBwdIdeal : Cert.DeltaBwdIdeal.Facts) (hDeltaBwdRefIdeal : Cert.DeltaBwdRefIdeal.Facts) (hLossBwd : Cert.LossBwd.Facts) (hLossBwdIdeal : Cert.LossBwdIdeal.Facts) (hLossBwdRefIdeal : Cert.LossBwdRefIdeal.Facts) (hNormBwd : Cert.NormBwd.Facts) (hNormBwdIdeal : Cert.NormBwdIdeal.Facts) (hNormBwdRefIdeal : Cert.NormBwdRefIdeal.Facts) (hPleBwd : Cert.PleBwd.Facts) (hPleBwdIdeal : Cert.PleBwdIdeal.Facts) (hPleBwdRefIdeal : Cert.PleBwdRefIdeal.Facts) (hGateBwd : Cert.GateBwd.Facts) (hGateBwdIdeal : Cert.GateBwdIdeal.Facts) (hGateBwdRefIdeal : Cert.GateBwdRefIdeal.Facts) (hFlashBwd : Cert.FlashBwd.Facts) (hFlashBwdIdeal : Cert.FlashBwdIdeal.Facts) (hFlashBwdRefIdeal : Cert.FlashBwdRefIdeal.Facts) (hFlashFwd : Cert.FlashFwd.Facts) (hFlashFwdIdeal : Cert.FlashFwdIdeal.Facts) (hFlashFwdRefIdeal : Cert.FlashFwdRefIdeal.Facts) (hRetFwd : Cert.RetFwd.Facts) (hRetFwdIdeal : Cert.RetFwdIdeal.Facts) (hRetFwdRefIdeal : Cert.RetFwdRefIdeal.Facts) (hMixFwd : Cert.MixFwd.Facts) (hMixFwdIdeal : Cert.MixFwdIdeal.Facts) (hMixFwdRefIdeal : Cert.MixFwdRefIdeal.Facts) (hGateFwd : Cert.GateFwd.Facts) (hGateFwdIdeal : Cert.GateFwdIdeal.Facts) (hGateFwdRefIdeal : Cert.GateFwdRefIdeal.Facts) (hMlpFwd : Cert.MlpFwd.Facts) (hMlpFwdIdeal : Cert.MlpFwdIdeal.Facts) (hMlpFwdRefIdeal : Cert.MlpFwdRefIdeal.Facts) (hResFwd : Cert.ResFwd.Facts) (hResFwdIdeal : Cert.ResFwdIdeal.Facts) (hResFwdRefIdeal : Cert.ResFwdRefIdeal.Facts) (hPleFwd : Cert.PleFwd.Facts) (hPleFwdIdeal : Cert.PleFwdIdeal.Facts) (hPleFwdRefIdeal : Cert.PleFwdRefIdeal.Facts) (hMlaFront : Cert.MlaFront.Facts) (hMlaFrontIdeal : Cert.MlaFrontIdeal.Facts) (hMlaFrontRefIdeal : Cert.MlaFrontRefIdeal.Facts) (hPre_gate_finite : Cert.Pre_gate_finite.Facts) (hPre_flash_finite : Cert.Pre_flash_finite.Facts) (hPre_flashfwd_finite : Cert.Pre_flashfwd_finite.Facts) (hPre_retf_finite : Cert.Pre_retf_finite.Facts) (hPre_front_finite : Cert.Pre_front_finite.Facts) (hOn_gate_written : Cert.On_gate_written.Facts),
    quiescent_ReluBwd (hReluBwd := hReluBwd)
    ∧ quiescent_ReluBwdIdeal (hReluBwdIdeal := hReluBwdIdeal)
    ∧ quiescent_ReluBwdRefIdeal (hReluBwdRefIdeal := hReluBwdRefIdeal)
    ∧ quiescent_DeltaBwd (hDeltaBwd := hDeltaBwd)
    ∧ quiescent_DeltaBwdIdeal (hDeltaBwdIdeal := hDeltaBwdIdeal)
    ∧ quiescent_DeltaBwdRefIdeal (hDeltaBwdRefIdeal := hDeltaBwdRefIdeal)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_PleBwd (hPleBwd := hPleBwd)
    ∧ quiescent_PleBwdIdeal (hPleBwdIdeal := hPleBwdIdeal)
    ∧ quiescent_PleBwdRefIdeal (hPleBwdRefIdeal := hPleBwdRefIdeal)
    ∧ quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateBwdRefIdeal (hGateBwdRefIdeal := hGateBwdRefIdeal)
    ∧ quiescent_GateBwdRefIdeal_pre_gate_finite (hGateBwdRefIdeal := hGateBwdRefIdeal) (hPre_gate_finite := hPre_gate_finite)
    ∧ quiescent_FlashBwd (hFlashBwd := hFlashBwd)
    ∧ quiescent_FlashBwdIdeal (hFlashBwdIdeal := hFlashBwdIdeal)
    ∧ quiescent_FlashBwdIdeal_pre_flash_finite (hFlashBwdIdeal := hFlashBwdIdeal) (hPre_flash_finite := hPre_flash_finite)
    ∧ quiescent_FlashBwdRefIdeal (hFlashBwdRefIdeal := hFlashBwdRefIdeal)
    ∧ quiescent_FlashBwdRefIdeal_pre_flash_finite (hFlashBwdRefIdeal := hFlashBwdRefIdeal) (hPre_flash_finite := hPre_flash_finite)
    ∧ quiescent_FlashFwd (hFlashFwd := hFlashFwd)
    ∧ quiescent_FlashFwdIdeal (hFlashFwdIdeal := hFlashFwdIdeal)
    ∧ quiescent_FlashFwdIdeal_pre_flashfwd_finite (hFlashFwdIdeal := hFlashFwdIdeal) (hPre_flashfwd_finite := hPre_flashfwd_finite)
    ∧ quiescent_FlashFwdRefIdeal (hFlashFwdRefIdeal := hFlashFwdRefIdeal)
    ∧ quiescent_FlashFwdRefIdeal_pre_flashfwd_finite (hFlashFwdRefIdeal := hFlashFwdRefIdeal) (hPre_flashfwd_finite := hPre_flashfwd_finite)
    ∧ quiescent_RetFwd (hRetFwd := hRetFwd)
    ∧ quiescent_RetFwdIdeal (hRetFwdIdeal := hRetFwdIdeal)
    ∧ quiescent_RetFwdIdeal_pre_retf_finite (hRetFwdIdeal := hRetFwdIdeal) (hPre_retf_finite := hPre_retf_finite)
    ∧ quiescent_RetFwdRefIdeal (hRetFwdRefIdeal := hRetFwdRefIdeal)
    ∧ quiescent_RetFwdRefIdeal_pre_retf_finite (hRetFwdRefIdeal := hRetFwdRefIdeal) (hPre_retf_finite := hPre_retf_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_ResFwd (hResFwd := hResFwd)
    ∧ quiescent_ResFwdIdeal (hResFwdIdeal := hResFwdIdeal)
    ∧ quiescent_ResFwdRefIdeal (hResFwdRefIdeal := hResFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_MlaFront (hMlaFront := hMlaFront)
    ∧ quiescent_MlaFrontIdeal (hMlaFrontIdeal := hMlaFrontIdeal)
    ∧ quiescent_MlaFrontIdeal_pre_front_finite (hMlaFrontIdeal := hMlaFrontIdeal) (hPre_front_finite := hPre_front_finite)
    ∧ quiescent_MlaFrontRefIdeal (hMlaFrontRefIdeal := hMlaFrontRefIdeal)
    ∧ quiescent_MlaFrontRefIdeal_pre_front_finite (hMlaFrontRefIdeal := hMlaFrontRefIdeal) (hPre_front_finite := hPre_front_finite)
    ∧ preserves_ReluBwd_ReluBwdIdeal
    ∧ algebraic_ReluBwdIdeal_ReluBwdRefIdeal (hReluBwdIdeal := hReluBwdIdeal) (hReluBwdRefIdeal := hReluBwdRefIdeal)
    ∧ preserves_DeltaBwd_DeltaBwdIdeal
    ∧ algebraic_DeltaBwdIdeal_DeltaBwdRefIdeal (hDeltaBwdIdeal := hDeltaBwdIdeal) (hDeltaBwdRefIdeal := hDeltaBwdRefIdeal)
    ∧ preserves_LossBwd_LossBwdIdeal
    ∧ algebraic_LossBwdIdeal_LossBwdRefIdeal (hLossBwdIdeal := hLossBwdIdeal) (hLossBwdRefIdeal := hLossBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_PleBwd_PleBwdIdeal
    ∧ algebraic_PleBwdIdeal_PleBwdRefIdeal (hPleBwdIdeal := hPleBwdIdeal) (hPleBwdRefIdeal := hPleBwdRefIdeal)
    ∧ preserves_GateBwd_GateBwdIdeal
    ∧ algebraic_GateBwdIdeal_GateBwdRefIdeal_on_gate_written_pre_gate_finite (hGateBwdIdeal := hGateBwdIdeal) (hGateBwdRefIdeal := hGateBwdRefIdeal) (hPre_gate_finite := hPre_gate_finite) (hOn_gate_written := hOn_gate_written)
    ∧ preserves_FlashBwd_FlashBwdIdeal
    ∧ algebraic_FlashBwdIdeal_FlashBwdRefIdeal_pre_flash_finite (hFlashBwdIdeal := hFlashBwdIdeal) (hFlashBwdRefIdeal := hFlashBwdRefIdeal) (hPre_flash_finite := hPre_flash_finite)
    ∧ preserves_FlashFwd_FlashFwdIdeal
    ∧ algebraic_FlashFwdIdeal_FlashFwdRefIdeal_pre_flashfwd_finite (hFlashFwdIdeal := hFlashFwdIdeal) (hFlashFwdRefIdeal := hFlashFwdRefIdeal) (hPre_flashfwd_finite := hPre_flashfwd_finite)
    ∧ preserves_RetFwd_RetFwdIdeal
    ∧ algebraic_RetFwdIdeal_RetFwdRefIdeal_pre_retf_finite (hRetFwdIdeal := hRetFwdIdeal) (hRetFwdRefIdeal := hRetFwdRefIdeal) (hPre_retf_finite := hPre_retf_finite)
    ∧ preserves_MixFwd_MixFwdIdeal
    ∧ algebraic_MixFwdIdeal_MixFwdRefIdeal (hMixFwdIdeal := hMixFwdIdeal) (hMixFwdRefIdeal := hMixFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_ResFwd_ResFwdIdeal
    ∧ algebraic_ResFwdIdeal_ResFwdRefIdeal (hResFwdIdeal := hResFwdIdeal) (hResFwdRefIdeal := hResFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_MlaFront_MlaFrontIdeal
    ∧ algebraic_MlaFrontIdeal_MlaFrontRefIdeal_pre_front_finite (hMlaFrontIdeal := hMlaFrontIdeal) (hMlaFrontRefIdeal := hMlaFrontRefIdeal) (hPre_front_finite := hPre_front_finite)
-- ==== On_gate_written.lean ====
abbrev S4096x2048 : Shape := ⟨2, ![4096, 2048]⟩
abbrev S4096x6144 : Shape := ⟨2, ![4096, 6144]⟩
abbrev S4x512 : Shape := ⟨2, ![4, 512]⟩
abbrev S_ : Shape := ⟨0, ![]⟩

class Facts : Prop where
  bcast_S_S4096x2048 : S_.BroadcastsInDim S4096x2048 (![] : Fin 0 → Fin S4096x2048.rank)
  bcast_S_S4096x6144 : S_.BroadcastsInDim S4096x6144 (![] : Fin 0 → Fin S4096x6144.rank)
  bcast_S_S4x512 : S_.BroadcastsInDim S4x512 (![] : Fin 0 → Fin S4x512.rank)

variable [Facts]

def fn {F : FTy → Type} [FloatOps F] (main_arg0 : FVec F S4096x2048 .f32) (main_arg1 : FVec F S4096x6144 .f32) (main_arg2 : FVec F S4x512 .f32) (main_arg3 : FVec F S4096x2048 .f32) : IVec S4096x2048 1 × IVec S4096x6144 1 × IVec S4x512 1 :=
  let main_c : IVec S_ 1 := constantI S_ 1 1#1
  let main_v0 : IVec S4096x2048 1 := broadcastInDim S4096x2048 ![] bcast_S_S4096x2048 main_c
  let main_v1 : IVec S4096x6144 32 := iotaInDim S4096x6144 32 1
  let main_c_0 : IVec S_ 32 := constantI S_ 32 4096#32
  let main_v2 : IVec S4096x6144 32 := broadcastInDim S4096x6144 ![] bcast_S_S4096x6144 main_c_0
  let main_v3 : IVec S4096x6144 1 := cmpi .sge main_v1 main_v2
  let main_c_1 : IVec S_ 1 := constantI S_ 1 1#1
  let main_v4 : IVec S4x512 1 := broadcastInDim S4x512 ![] bcast_S_S4x512 main_c_1
  (main_v0, main_v3, main_v4)
-- ==== Pre_flash_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x192 .f32) (main_arg1 : FVec F S4096x8x192 .f32) (main_arg2 : FVec F S4096x8x128 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x192 .f32 := Host.absf main_arg1
  let main_cst_0 : FVec F S_ .f32 := constant S_ .f32 0x7F800000#32
  let main_v5 : FVec F S4096x8x192 .f32 := broadcastInDim S4096x8x192 ![] bcast_S_S4096x8x192 main_cst_0
  let main_v6 : IVec S4096x8x192 1 := cmpf .olt main_v4 main_v5
  let main_c_1 : IVec S_ 1 := constantI S_ 1 1#1
  let main_v7 : IVec S_ 1 := (fun x v => Host.reduce IntOp.andi x v reducesTo_S4096x8x192_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Pre_flashfwd_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn {F : FTy → Type} [FloatOps F] (main_arg0 : FVec F S4096x8x192 .f32) (main_arg1 : FVec F S4096x8x192 .f32) (main_arg2 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x192 .f32 := Host.absf main_arg1
  let main_cst_0 : FVec F S_ .f32 := constant S_ .f32 0x7F800000#32
  let main_v5 : FVec F S4096x8x192 .f32 := broadcastInDim S4096x8x192 ![] bcast_S_S4096x8x192 main_cst_0
  let main_v6 : IVec S4096x8x192 1 := cmpf .olt main_v4 main_v5
  let main_c_1 : IVec S_ 1 := constantI S_ 1 1#1
  let main_v7 : IVec S_ 1 := (fun x v => Host.reduce IntOp.andi x v reducesTo_S4096x8x192_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  main_v13
-- ==== Pre_front_finite.lean ====
abbrev S4096x1024 : Shape := ⟨2, ![4096, 1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S192 : Shape := ⟨1, ![192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x704 : S_.BroadcastsInDim S1024x704 (![] : Fin 0 → Fin S1024x704.rank)
  reducesTo_S1024x704_S_d0_1 : S1024x704.ReducesTo [0, 1] S_
  bcast_S_S384 : S_.BroadcastsInDim S384 (![] : Fin 0 → Fin S384.rank)
  reducesTo_S384_S_d0 : S384.ReducesTo [0] S_
  bcast_S_S256 : S_.BroadcastsInDim S256 (![] : Fin 0 → Fin S256.rank)
  reducesTo_S256_S_d0 : S256.ReducesTo [0] S_
  bcast_S_S384x1536 : S_.BroadcastsInDim S384x1536 (![] : Fin 0 → Fin S384x1536.rank)
  reducesTo_S384x1536_S_d0_1 : S384x1536.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_arg4 : FVec F S384x1536 .f32) (main_arg5 : FVec F S256x2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S384x1536 .f32 := Host.absf main_arg4
  let main_cst_6 : FVec F S_ .f32 := constant S_ .f32 0x7F800000#32
  let main_v20 : FVec F S384x1536 .f32 := broadcastInDim S384x1536 ![] bcast_S_S384x1536 main_cst_6
  let main_v21 : IVec S384x1536 1 := cmpf .olt main_v19 main_v20
  let main_c_7 : IVec S_ 1 := constantI S_ 1 1#1
  let main_v22 : IVec S_ 1 := (fun x v => Host.reduce IntOp.andi x v reducesTo_S384x1536_S_d0_1 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  main_v28

def fn {F : FTy → Type} [FloatOps F] (main_arg0 : FVec F S4096x1024 .f32) (main_arg1 : FVec F S1024x704 .f32) (main_arg2 : FVec F S384 .f32) (main_arg3 : FVec F S256 .f32) (main_arg4 : FVec F S384x1536 .f32) (main_arg5 : FVec F S256x2048 .f32) (main_arg6 : FVec F S192 .f32) (main_arg7 : FVec F S192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x704 .f32 := Host.absf main_arg1
  let main_cst_0 : FVec F S_ .f32 := constant S_ .f32 0x7F800000#32
  let main_v5 : FVec F S1024x704 .f32 := broadcastInDim S1024x704 ![] bcast_S_S1024x704 main_cst_0
  let main_v6 : IVec S1024x704 1 := cmpf .olt main_v4 main_v5
  let main_c_1 : IVec S_ 1 := constantI S_ 1 1#1
  let main_v7 : IVec S_ 1 := (fun x v => Host.reduce IntOp.andi x v reducesTo_S1024x704_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Pre_gate_finite.lean ====
abbrev S4096x2048 : Shape := ⟨2, ![4096, 2048]⟩
abbrev S4096x6144 : Shape := ⟨2, ![4096, 6144]⟩
abbrev S4x512 : Shape := ⟨2, ![4, 512]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x2048 .f32) (main_arg1 : FVec F S4096x6144 .f32) (main_arg2 : FVec F S4x512 .f32) (main_arg3 : FVec F S4096x2048 .f32) : IVec S_ 1 :=
  let main_v0 : FVec F S4x512 .f32 := Host.absf main_arg2
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_c : IVec S_ 1 := constantI S_ 1 1#1
  let main_v3 : IVec S_ 1 := (fun x v => Host.reduce IntOp.andi x v reducesTo_S4x512_S_d0_1 h_S_) main_v2 main_c
  let main_v4 : FVec F S4096x2048 .f32 := Host.absf main_arg3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_retf_finite.lean ====
abbrev S4096x6144 : Shape := ⟨2, ![4096, 6144]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel

variable [Facts]

def fn {F : FTy → Type} [FloatOps F] (main_arg0 : FVec F S4096x6144 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  main_v3
-- ==== ReluBwd.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 30
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S4096x1024, .bf16⟩
  | .hbm, ⟨28, _⟩ => ⟨S4096x1024, .bf16⟩
  | .hbm, ⟨29, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReluBwdRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== DeltaBwd.lean ====
abbrev S4096x1024 : Shape := ⟨2, ![4096, 1024]⟩
abbrev S1024x1024 : Shape := ⟨2, ![1024, 1024]⟩
abbrev S512x1024 : Shape := ⟨2, ![512, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DeltaBwdRefIdeal.lean ====
abbrev S4096x1024 : Shape := ⟨2, ![4096, 1024]⟩
abbrev S1024x1024 : Shape := ⟨2, ![1024, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S4096x8x128, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== LossBwd.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256x4x256 : Shape := ⟨3, ![256, 4, 256]⟩
abbrev S4x256x256 : Shape := ⟨3, ![4, 256, 256]⟩
abbrev S1x128 : Shape := ⟨2, ![1, 128]⟩
abbrev S512x1024 : Shape := ⟨2, ![512, 1024]⟩
abbrev S512x256 : Shape := ⟨2, ![512, 256]⟩
abbrev S256x256 : Shape := ⟨2, ![256, 256]⟩
abbrev S1x256x256 : Shape := ⟨3, ![1, 256, 256]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 32
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S256x1024, .bf16⟩
  | .hbm, ⟨24, _⟩ => ⟨S256x4x256, .bf16⟩
  | .hbm, ⟨25, _⟩ => ⟨S4x256x256, .bf16⟩
  | .hbm, ⟨26, _⟩ => ⟨S1024x1024, .bf16⟩
  | .hbm, ⟨27, _⟩ => ⟨S4096x256, .bf16⟩
  | .hbm, ⟨28, _⟩ => ⟨S4096x1024, .bf16⟩
  | .hbm, ⟨29, _⟩ => ⟨S4096x1024, .bf16⟩
  | .hbm, ⟨30, _⟩ => ⟨S4096x1024, .f32⟩
  | .hbm, ⟨31, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x256, .bf16⟩
  | .local _ .vmem, ⟨4, _⟩ => ⟨S512x256, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S4x256x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v97 : BitVec 1 := Scalar.cmpi .eq arg0 c0_i32
  let v98 : BitVec 32 := Scalar.extui v97
  let c0_i32_54 : BitVec 32 := 0#32
  let v99 : BitVec 1 := Scalar.cmpi .ne v98 c0_i32_54
  v99

def k0_cond2 (i : grid0.Coords) : BitVec 1 :=
  let arg0 : BitVec 32 := BitVec.ofNat 32 (i 0).val
  let c0_i32 : BitVec 32 := 0#32
  let v97 : BitVec 1 := Scalar.cmpi .eq arg0 c0_i32
  let v_true : BitVec 1 := 1#1
  let v100 : BitVec 1 := Scalar.xori v97 v_true
  let v101 : BitVec 32 := Scalar.extui v100
  let c0_i32_55 : BitVec 32 := 0#32
  let v102 : BitVec 1 := Scalar.cmpi .ne v101 c0_i32_55
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossBwdRefIdeal.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x1024, .bf16⟩
  | .hbm, ⟨49, _⟩ => ⟨S4096x1024, .bf16⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== NormBwd.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v109 : BitVec 1 := Scalar.cmpi .eq arg0 c0_i32
  let v110 : BitVec 32 := Scalar.extui v109
  let c0_i32_60 : BitVec 32 := 0#32
  let v111 : BitVec 1 := Scalar.cmpi .ne v110 c0_i32_60
  v111

def k0_cond2 (i : grid0.Coords) : BitVec 1 :=
  let arg0 : BitVec 32 := BitVec.ofNat 32 (i 0).val
  let c0_i32 : BitVec 32 := 0#32
  let v109 : BitVec 1 := Scalar.cmpi .eq arg0 c0_i32
  let v_true : BitVec 1 := 1#1
  let v112 : BitVec 1 := Scalar.xori v109 v_true
  let v113 : BitVec 32 := Scalar.extui v112
  let c0_i32_61 : BitVec 32 := 0#32
  let v114 : BitVec 1 := Scalar.cmpi .ne v113 c0_i32_61
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdRefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== PleBwd.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 41
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x1024, .bf16⟩
  | .hbm, ⟨34, _⟩ => ⟨S1024x1024, .bf16⟩
  | .hbm, ⟨35, _⟩ => ⟨S1x1024, .f32⟩
  | .hbm, ⟨36, _⟩ => ⟨S4096x1024, .bf16⟩
  | .hbm, ⟨37, _⟩ => ⟨S4096x1024, .bf16⟩
  | .hbm, ⟨38, _⟩ => ⟨S4096x1024, .f32⟩
  | .hbm, ⟨39, _⟩ => ⟨S4096x1024, .bf16⟩
  | .hbm, ⟨40, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_26 : BitVec 32 := 0#32
  let v55 : BitVec 1 := Scalar.cmpi .ne v54 c0_i32_26
  v55

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v56 : BitVec 1 := Scalar.xori v53 v_true
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleBwdRefIdeal.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S4096x1024, .bf16⟩
  | .hbm, ⟨109, _⟩ => ⟨S4096x1024, .bf16⟩
  | .hbm, ⟨110, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== GateBwd.lean ====
abbrev S4096x2048 : Shape := ⟨2, ![4096, 2048]⟩
abbrev S4096x6144 : Shape := ⟨2, ![4096, 6144]⟩
abbrev S4x512 : Shape := ⟨2, ![4, 512]⟩
abbrev S1x512 : Shape := ⟨2, ![1, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4x512, .f32⟩
  | .hbm, ⟨3, _⟩ => ⟨S4096x2048, .f32⟩
  | .hbm, ⟨4, _⟩ => ⟨S4096x6144, .bf16⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S4096x2048, .bf16⟩
  | .hbm, ⟨10, _⟩ => ⟨S4096x6144, .bf16⟩
  | .hbm, ⟨11, _⟩ => ⟨S4x512, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S4x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_62 : BitVec 32 := 0#32
  let v243 : BitVec 1 := Scalar.cmpi .eq arg0 c0_i32_62
  let v244 : BitVec 32 := Scalar.extui v243
  let c0_i32_63 : BitVec 32 := 0#32
  let v245 : BitVec 1 := Scalar.cmpi .ne v244 c0_i32_63
  v245

def k0_cond2 (i : grid0.Coords) : BitVec 1 :=
  let arg0 : BitVec 32 := BitVec.ofNat 32 (i 0).val
  let c0_i32_62 : BitVec 32 := 0#32
  let v243 : BitVec 1 := Scalar.cmpi .eq arg0 c0_i32_62
  let v_true : BitVec 1 := 1#1
  let v246 : BitVec 1 := Scalar.xori v243 v_true
  let v247 : BitVec 32 := Scalar.extui v246
  let c0_i32_64 : BitVec 32 := 0#32
  let v248 : BitVec 1 := Scalar.cmpi .ne v247 c0_i32_64
  v248

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateBwdRefIdeal.lean ====
abbrev S4096x2048 : Shape := ⟨2, ![4096, 2048]⟩
abbrev S4096x6144 : Shape := ⟨2, ![4096, 6144]⟩
abbrev S4x512 : Shape := ⟨2, ![4, 512]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩
abbrev S1x4x512 : Shape := ⟨3, ![1, 4, 512]⟩
abbrev S4096x4096 : Shape := ⟨2, ![4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4x512, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4x512, .f32⟩
  | .hbm, ⟨19, _⟩ => ⟨S4096x4x512, .f32⟩
  | .hbm, ⟨20, _⟩ => ⟨S_, .f32⟩
  | .hbm, ⟨21, _⟩ => ⟨S4096x4, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S_, .f32⟩
  | .hbm, ⟨27, _⟩ => ⟨S4096x4x1, .f32⟩
  | .hbm, ⟨28, _⟩ => ⟨S4096x4x1, .f32⟩
  | .hbm, ⟨29, _⟩ => ⟨S4096x4x1, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S4096x4x512, .f32⟩
  | .hbm, ⟨35, _⟩ => ⟨S4096x4x512, .f32⟩
  | .hbm, ⟨36, _⟩ => ⟨S1x4x512, .f32⟩
  | .hbm, ⟨37, _⟩ => ⟨S4096x4x512, .f32⟩
  | .hbm, ⟨38, _⟩ => ⟨S4096x4x512, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x4x512, .f32⟩
  | .hbm, ⟨44, _⟩ => ⟨S4096x4x512, .f32⟩
  | .hbm, ⟨45, _⟩ => ⟨S_, .f32⟩
  | .hbm, ⟨46, _⟩ => ⟨S4x512, .f32⟩
  | .hbm, ⟨47, _⟩ => ⟨S1x4x512, .f32⟩
  | .hbm, ⟨48, _⟩ => ⟨S4096x4x512, .f32⟩
  | .hbm, ⟨49, _⟩ => ⟨S4096x4x512, .f32⟩
  | .hbm, ⟨50, _⟩ => ⟨S_, .f32⟩
  | .hbm, ⟨51, _⟩ => ⟨S4x512, .f32⟩
  | .hbm, ⟨52, _⟩ => ⟨S4096x4x512, .f32⟩
  | .hbm, ⟨53, _⟩ => ⟨S_, .f32⟩
  | .hbm, ⟨54, _⟩ => ⟨S4096x4, .f32⟩
  | .hbm, ⟨55, _⟩ => ⟨S4096x4x1, .f32⟩
  | .hbm, ⟨56, _⟩ => ⟨S4096x4x512, .f32⟩
  | .hbm, ⟨57, _⟩ => ⟨S4096x4x512, .f32⟩
  | .hbm, ⟨58, _⟩ => ⟨S4096x4x1, .f32⟩
  | .hbm, ⟨59, _⟩ => ⟨S_, .f32⟩
  | .hbm, ⟨60, _⟩ => ⟨S4096x4x1, .f32⟩
  | .hbm, ⟨61, _⟩ => ⟨S4096x4x1, .f32⟩
  | .hbm, ⟨62, _⟩ => ⟨S_, .f32⟩
  | .hbm, ⟨63, _⟩ => ⟨S4096x4, .f32⟩
  | .hbm, ⟨64, _⟩ => ⟨S4096x4x512, .f32⟩
  | .hbm, ⟨65, _⟩ => ⟨S4096x4x512, .f32⟩
  | .hbm, ⟨66, _⟩ => ⟨S4096x4x512, .f32⟩
  | .hbm, ⟨67, _⟩ => ⟨S4096x4x512, .f32⟩
  | .hbm, ⟨68, _⟩ => ⟨S4096x4x512, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .bf16⟩
  | .hbm, ⟨75, _⟩ => ⟨S_, .f32⟩
  | .hbm, ⟨76, _⟩ => ⟨S4096x4096, .f32⟩
  | .hbm, ⟨77, _⟩ => ⟨S4096x6144, .f32⟩
  | .hbm, ⟨78, _⟩ => ⟨S4096x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== FlashBwd.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x1 : Shape := ⟨3, ![4096, 8, 1]⟩
abbrev S4096x8x256 : Shape := ⟨3, ![4096, 8, 256]⟩
abbrev S4096x2048 : Shape := ⟨2, ![4096, 2048]⟩
abbrev S4096x1024 : Shape := ⟨2, ![4096, 1024]⟩
abbrev S4096x512 : Shape := ⟨2, ![4096, 512]⟩
abbrev S512x512 : Shape := ⟨2, ![512, 512]⟩
abbrev S512x256 : Shape := ⟨2, ![512, 256]⟩
abbrev S4096x256 : Shape := ⟨2, ![4096, 256]⟩
abbrev S512x128 : Shape := ⟨2, ![512, 128]⟩

abbrev nBuf : Space → Nat
  | .hbm => 132
  | .vmem => 21
  | .smem => 0
  | _ => 0

abbrev hbmTy0_0 (i : Nat) : BufTy := match i % 128 with
  | 0 => ⟨S4096x8x192, .f32⟩
  | 1 => ⟨S4096x8x192, .f32⟩
  | 2 => ⟨S4096x8x128, .f32⟩
  | 3 => ⟨S4096x8x128, .f32⟩
  | 4 => ⟨S8x4096x4096, .f32⟩
  | 5 => ⟨S_, .f32⟩
  | 6 => ⟨S8x4096x4096, .f32⟩
  | 7 => ⟨S8x4096x4096, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096, .f32⟩
  | 39 => ⟨S8x4096x1, .f32⟩
  | 40 => ⟨S_, .f32⟩
  | 41 => ⟨S_, .f32⟩
  | 42 => ⟨S8x4096x4096, .f32⟩
  | 43 => ⟨S8x4096x4096, .f32⟩
  | 44 => ⟨S8x4096x4096, .f32⟩
  | 45 => ⟨S_, .f32⟩
  | 46 => ⟨S8x4096, .f32⟩
  | 47 => ⟨S8x4096x1, .f32⟩
  | 48 => ⟨S8x4096x1, .f32⟩
  | 49 => ⟨S8x4096x1, .f32⟩
  | 50 => ⟨S8x4096x1, .f32⟩
  | 51 => ⟨S8x4096x1, .f32⟩
  | 52 => ⟨S8x4096x4096, .f32⟩
  | 53 => ⟨S_, .f32⟩
  | 54 => ⟨S8x4096x4096, .f32⟩
  | 55 => ⟨S8x4096x4096, .f32⟩
  | 56 => ⟨S4096, .i32⟩
  | 57 => ⟨S_, .i32⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S4096, .i32⟩
  | 66 => ⟨S4096, .i32⟩
  | 67 => ⟨S_, .i32⟩
  | 68 => ⟨S4096, .i32⟩
  | 69 => ⟨S4096, .i1⟩
  | 70 => ⟨S4096, .i1⟩
  | 71 => ⟨S_, .i32⟩
  | 72 => ⟨S4096, .i32⟩
  | 73 => ⟨S4096, .i32⟩
  | 74 => ⟨S4096, .i32⟩
  | 75 => ⟨S1x4096, .i32⟩
  | 76 => ⟨S4096x1, .i32⟩
  | 77 => ⟨S4096x4096, .i32⟩
  | 78 => ⟨S4096x4096, .i32⟩
  | 79 => ⟨S4096x4096, .i1⟩
  | 80 => ⟨S_, .f32⟩
  | 81 => ⟨S_, .f32⟩
  | 82 => ⟨S8x4096x4096, .i1⟩
  | 83 => ⟨S8x4096x4096, .f32⟩
  | 84 => ⟨S8x4096x4096, .f32⟩
  | 85 => ⟨S_, .f32⟩
  | 86 => ⟨S8x4096, .f32⟩
  | 87 => ⟨S_, .f32⟩
  | 88 => ⟨S8x4096, .f32⟩
  | 89 => ⟨S8x4096, .f32⟩
  | 90 => ⟨S8x4096x1, .f32⟩
  | 91 => ⟨S8x4096x4096, .f32⟩
  | 92 => ⟨S8x4096x4096, .f32⟩
  | 93 => ⟨S8x4096x4096, .f32⟩
  | 94 => ⟨S_, .f32⟩
  | 95 => ⟨S8x4096, .f32⟩
  | 96 => ⟨S8x4096x1, .f32⟩
  | 97 => ⟨S8x4096x4096, .f32⟩
  | 98 => ⟨S8x4096x4096, .f32⟩
  | 99 => ⟨S8x128x4096, .f32⟩
  | 100 => ⟨S4096x8x128, .f32⟩
  | 101 => ⟨S4096x8x128, .f32⟩
  | 102 => ⟨S_, .f32⟩
  | 103 => ⟨S4096x8, .f32⟩
  | 104 => ⟨S4096x8x1, .f32⟩
  | 105 => ⟨S_, .f32⟩
  | 106 => ⟨S4096x8x192, .f32⟩
  | 107 => ⟨S4096x8x192, .f32⟩
  | 108 => ⟨S4096x8x192, .f32⟩
  | 109 => ⟨S4096x8x192, .f32⟩
  | 110 => ⟨S_, .i32⟩
  | 111 => ⟨S_, .f32⟩
  | 112 => ⟨S4096x8x256, .f32⟩
  | 113 => ⟨S4096x2048, .f32⟩
  | 114 => ⟨S4096x2048, .bf16⟩
  | 115 => ⟨S_, .i32⟩
  | 116 => ⟨S_, .f32⟩
  | 117 => ⟨S4096x8x256, .f32⟩
  | 118 => ⟨S4096x2048, .f32⟩
  | 119 => ⟨S4096x2048, .bf16⟩
  | 120 => ⟨S4096x1024, .f32⟩
  | 121 => ⟨S4096x1024, .bf16⟩
  | 122 => ⟨S4096x1024, .f32⟩
  | 123 => ⟨S4096x1024, .bf16⟩
  | 124 => ⟨S4096x8x1, .f32⟩
  | 125 => ⟨S4096x8x128, .f32⟩
  | 126 => ⟨S4096x1024, .f32⟩
  | 127 => ⟨S4096x8x128, .f32⟩
  | _ => ⟨S4096x8x192, .f32⟩

abbrev hbmTy0_1 (i : Nat) : BufTy := match i % 128 with
  | 0 => ⟨S4096x1024, .f32⟩
  | 1 => ⟨S4096x2048, .bf16⟩
  | 2 => ⟨S4096x2048, .bf16⟩
  | 3 => ⟨S4096x1024, .bf16⟩
  | _ => ⟨S4096x8x192, .f32⟩

abbrev hbmTy (i : Nat) : BufTy := match i / 128 with
  | 0 => hbmTy0_0 i
  | 1 => hbmTy0_1 i
  | _ => ⟨S4096x8x192, .f32⟩

abbrev bufTy : (tb : Table) → Fin (tcTables nBuf tb) → BufTy
  | .hbm, ⟨i, _⟩ => hbmTy i
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x512, .bf16⟩
  | .local _ .vmem, ⟨13, _⟩ => ⟨S4096x512, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S4096x512, .f32⟩
  | .local _ .vmem, ⟨19, _⟩ => ⟨S512x512, .f32⟩
  | .local _ .vmem, ⟨20, _⟩ => ⟨S512x256, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_6 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v33 : Ref sig .tc := ⟨.hbm, 84, rfl⟩
abbrev main_cst_7 : Ref sig .tc := ⟨.hbm, 85, rfl⟩
abbrev main_v34 : Ref sig .tc := ⟨.hbm, 86, rfl⟩
abbrev main_cst_8 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_9 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_10 : Ref sig .tc := ⟨.hbm, 102, rfl⟩
abbrev main_v48 : Ref sig .tc := ⟨.hbm, 103, rfl⟩
abbrev main_v49 : Ref sig .tc := ⟨.hbm, 104, rfl⟩
abbrev main_cst_11 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_c_12 : Ref sig .tc := ⟨.hbm, 110, rfl⟩
abbrev main_call4_v0 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_13 : Ref sig .tc := ⟨.hbm, 115, rfl⟩
abbrev main_call5_v0 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69_0 : Ref sig .tc := ⟨.hbm, 129, rfl⟩
abbrev main_v69_1 : Ref sig .tc := ⟨.hbm, 130, rfl⟩
abbrev main_v69_2 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v16 : Index := Scalar.indexCast v12
  let c0_6 : Index := 0#32
  ![v16.toNat, 0]
def k0_off3 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v72 : Index := Scalar.indexCast v12
  let c256 : Index := 256#32
  ![v72.toNat, 256]
def k0_off4 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v75 : Index := Scalar.indexCast v12
  let c128 : Index := 128#32
  ![v75.toNat, 128]
@[reducible] def k0_t1_loop (i : grid0.Coords) : Scf.Loop 32 :=
  let c0_i32_62 : BitVec 32 := 0#32
  let c8_i32 : BitVec 32 := 8#32
  let arg1 : BitVec 32 := BitVec.ofNat 32 (i 1).val
  let c1_i32 : BitVec 32 := 1#32
  let v131 : BitVec 32 := Scalar.addi arg1 c1_i32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_64 : BitVec 32 := 1#32
  ⟨c0_i32_62, v140, c1_i32_64⟩
def k0_mult2 (i : grid0.Coords) (k0_t1 : Fin (k0_t1_loop i).trips) : BitVec 32 :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  v154
def k0_off5 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v156 : Index := Scalar.indexCast v155
  let c0_77 : Index := 0#32
  ![v156.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v159 : Index := Scalar.indexCast v155
  let c0_78 : Index := 0#32
  ![v159.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v202 : Index := Scalar.indexCast v155
  let c256_100 : Index := 256#32
  ![v202.toNat, 256]
def k0_off8 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v205 : Index := Scalar.indexCast v155
  let c128_101 : Index := 128#32
  ![v205.toNat, 128]
@[reducible] def k0_t2_loop (i : grid0.Coords) : Scf.Loop 32 :=
  let c0_i32_62 : BitVec 32 := 0#32
  let c8_i32 : BitVec 32 := 8#32
  let arg1 : BitVec 32 := BitVec.ofNat 32 (i 1).val
  let c1_i32 : BitVec 32 := 1#32
  let v131 : BitVec 32 := Scalar.addi arg1 c1_i32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let v137 : BitVec 32 := Scalar.addi c0_i32_62 v136
  let c1_i32_65 : BitVec 32 := 1#32
  ⟨v140, v137, c1_i32_65⟩
def k0_mult3 (i : grid0.Coords) (k0_t2 : Fin (k0_t2_loop i).trips) : BitVec 32 :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  v154
def k0_off9 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v156 : Index := Scalar.indexCast v155
  let c0_77 : Index := 0#32
  ![v156.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v159 : Index := Scalar.indexCast v155
  let c0_78 : Index := 0#32
  ![v159.toNat, 0]
def k0_off11 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v202 : Index := Scalar.indexCast v155
  let c256_100 : Index := 256#32
  ![v202.toNat, 256]
def k0_off12 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v205 : Index := Scalar.indexCast v155
  let c128_101 : Index := 128#32
  ![v205.toNat, 128]
def k0_cond2 (i : grid0.Coords) : BitVec 1 :=
  let arg1 : BitVec 32 := BitVec.ofNat 32 (i 1).val
  let c7_i32 : BitVec 32 := 7#32
  let v149 : BitVec 1 := Scalar.cmpi .eq arg1 c7_i32
  let v150 : BitVec 32 := Scalar.extui v149
  let c0_i32_75 : BitVec 32 := 0#32
  let v151 : BitVec 1 := Scalar.cmpi .ne v150 c0_i32_75
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashBwdIdeal.lean ====
variable {F : FTy → Type} [FloatOps F] [Named F]
def κ : String → Option EReal := fun
  | "ln2" => some ((Real.log 2 : ℝ) : EReal)
  | "mask" => some ⊥
  | _ => none
-- ==== FlashBwdRefIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S4096x8x256 : Shape := ⟨3, ![4096, 8, 256]⟩
abbrev S4096x2048 : Shape := ⟨2, ![4096, 2048]⟩
abbrev S4096x1024 : Shape := ⟨2, ![4096, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .i1⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .i1⟩
  | .hbm, ⟨53, _⟩ => ⟨S_, .f32⟩
  | .hbm, ⟨54, _⟩ => ⟨S8x4096, .f32⟩
  | .hbm, ⟨55, _⟩ => ⟨S8x4096, .i1⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8x4096, .f32⟩
  | .hbm, ⟨60, _⟩ => ⟨S_, .f32⟩
  | .hbm, ⟨61, _⟩ => ⟨S8x4096, .f32⟩
  | .hbm, ⟨62, _⟩ => ⟨S8x4096, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x128x4096, .f32⟩
  | .hbm, ⟨78, _⟩ => ⟨S4096x8x128, .f32⟩
  | .hbm, ⟨79, _⟩ => ⟨S8x128x4096, .f32⟩
  | .hbm, ⟨80, _⟩ => ⟨S8x4096x4096, .f32⟩
  | .hbm, ⟨81, _⟩ => ⟨S8x128x4096, .f32⟩
  | .hbm, ⟨82, _⟩ => ⟨S4096x8x128, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x1, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096x4096, .f32⟩
  | .hbm, ⟨102, _⟩ => ⟨S8x4096x4096, .f32⟩
  | .hbm, ⟨103, _⟩ => ⟨S8x4096x192, .f32⟩
  | .hbm, ⟨104, _⟩ => ⟨S4096x8x192, .f32⟩
  | .hbm, ⟨105, _⟩ => ⟨S8x4096x192, .f32⟩
  | .hbm, ⟨106, _⟩ => ⟨S4096x8x192, .f32⟩
  | .hbm, ⟨107, _⟩ => ⟨S_, .i32⟩
  | .hbm, ⟨108, _⟩ => ⟨S_, .f32⟩
  | .hbm, ⟨109, _⟩ => ⟨S4096x8x256, .f32⟩
  | .hbm, ⟨110, _⟩ => ⟨S4096x2048, .f32⟩
  | .hbm, ⟨111, _⟩ => ⟨S4096x2048, .bf16⟩
  | .hbm, ⟨112, _⟩ => ⟨S_, .i32⟩
  | .hbm, ⟨113, _⟩ => ⟨S_, .f32⟩
  | .hbm, ⟨114, _⟩ => ⟨S4096x8x256, .f32⟩
  | .hbm, ⟨115, _⟩ => ⟨S4096x2048, .f32⟩
  | .hbm, ⟨116, _⟩ => ⟨S4096x2048, .bf16⟩
  | .hbm, ⟨117, _⟩ => ⟨S4096x1024, .f32⟩
  | .hbm, ⟨118, _⟩ => ⟨S4096x1024, .bf16⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_11 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call2_cst : Ref sig .tc := ⟨.hbm, 97, rfl⟩
abbrev main_call2_v0 : Ref sig .tc := ⟨.hbm, 98, rfl⟩
abbrev main_v57 : Ref sig .tc := ⟨.hbm, 99, rfl⟩
abbrev main_cst_13 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_14 : Ref sig .tc := ⟨.hbm, 107, rfl⟩
abbrev main_call3_v0 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_15 : Ref sig .tc := ⟨.hbm, 112, rfl⟩
abbrev main_call4_v0 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩

abbrev nD : Nat := 1
abbrev τ : Topo := Topo.v7x

variable {F : FTy → Type} [FloatOps F]
-- ==== FlashFwd.lean ====
abbrev S4096x8x192 : Shape := ⟨3, ![4096, 8, 192]⟩
abbrev S4096x8x128 : Shape := ⟨3, ![4096, 8, 128]⟩
abbrev S_ : Shape := ⟨0, ![]⟩
abbrev S4096x8x256 : Shape := ⟨3, ![4096, 8, 256]⟩
abbrev S4096x2048 : Shape := ⟨2, ![4096, 2048]⟩
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 12
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8x192, .f32⟩
  | .hbm, ⟨7, _⟩ => ⟨S4096x8x192, .f32⟩
  | .hbm, ⟨8, _⟩ => ⟨S4096x8x192, .f32⟩
  | .hbm, ⟨9, _⟩ => ⟨S4096x8x192, .f32⟩
  | .hbm, ⟨10, _⟩ => ⟨S_, .i32⟩
  | .hbm, ⟨11, _⟩ => ⟨S_, .f32⟩
  | .hbm, ⟨12, _⟩ => ⟨S4096x8x256, .f32⟩
  | .hbm, ⟨13, _⟩ => ⟨S4096x2048, .f32⟩
  | .hbm, ⟨14, _⟩ => ⟨S4096x2048, .bf16⟩
  | .hbm, ⟨15, _⟩ => ⟨S_, .i32⟩
  | .hbm, ⟨16, _⟩ => ⟨S_, .f32⟩
  | .hbm, ⟨17, _⟩ => ⟨S4096x8x256, .f32⟩
  | .hbm, ⟨18, _⟩ => ⟨S4096x2048, .f32⟩
  | .hbm, ⟨19, _⟩ => ⟨S4096x2048, .bf16⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x512, .bf16⟩
  | .local _ .vmem, ⟨5, _⟩ => ⟨S4096x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_11 : BitVec 32 := 1#32
  ⟨c0_i32_9, v17, c1_i32_11⟩
def k0_mult1 (i : grid0.Coords) (k0_t1 : Fin (k0_t1_loop i).trips) : BitVec 32 :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  v242
def k0_off1 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v246 : Index := Scalar.indexCast v243
  let c0_132 : Index := 0#32
  ![v246.toNat, 0]
def k0_off2 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v260 : Index := Scalar.indexCast v243
  let c0_137 : Index := 0#32
  ![v260.toNat, 0]
def k0_off3 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v278 : Index := Scalar.indexCast v243
  let c256_147 : Index := 256#32
  ![v278.toNat, 256]
def k0_off4 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v292 : Index := Scalar.indexCast v243
  let c128_152 : Index := 128#32
  ![v292.toNat, 128]
def k0_off5 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v310 : Index := Scalar.indexCast v243
  let c512_162 : Index := 512#32
  ![v310.toNat, 512]
def k0_off6 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v324 : Index := Scalar.indexCast v243
  let c256_167 : Index := 256#32
  ![v324.toNat, 256]
def k0_off7 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v342 : Index := Scalar.indexCast v243
  let c768_177 : Index := 768#32
  ![v342.toNat, 768]
def k0_off8 (i : grid0.Coords) (k0_t1 : Fin (k0_t1_loop i).trips) : Fin 2 → Nat :=
  let c0_i32_8 : BitVec 32 := 0#32
  let c0_i32_9 : BitVec 32 := 0#32
  let c1_i32_11 : BitVec 32 := 1#32
  let arg9 : BitVec 32 := Scf.iv c0_i32_9 c1_i32_11 k0_t1
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v356 : Index := Scalar.indexCast v243
  let c384_182 : Index := 384#32
  ![v356.toNat, 384]
@[reducible] def k0_t2_loop (i : grid0.Coords) : Scf.Loop 32 :=
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let v14 : BitVec 32 := Scalar.addi c0_i32_9 v13
  let c1_i32_12 : BitVec 32 := 1#32
  ⟨v17, v14, c1_i32_12⟩
def k0_mult2 (i : grid0.Coords) (k0_t2 : Fin (k0_t2_loop i).trips) : BitVec 32 :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  v242
def k0_off9 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v246 : Index := Scalar.indexCast v243
  let c0_132 : Index := 0#32
  ![v246.toNat, 0]
def k0_off10 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v260 : Index := Scalar.indexCast v243
  let c0_137 : Index := 0#32
  ![v260.toNat, 0]
def k0_off11 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v278 : Index := Scalar.indexCast v243
  let c256_147 : Index := 256#32
  ![v278.toNat, 256]
def k0_off12 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v292 : Index := Scalar.indexCast v243
  let c128_152 : Index := 128#32
  ![v292.toNat, 128]
def k0_off13 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v310 : Index := Scalar.indexCast v243
  let c512_162 : Index := 512#32
  ![v310.toNat, 512]
def k0_off14 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v324 : Index := Scalar.indexCast v243
  let c256_167 : Index := 256#32
  ![v324.toNat, 256]
def k0_off15 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v342 : Index := Scalar.indexCast v243
  let c768_177 : Index := 768#32
  ![v342.toNat, 768]
def k0_off16 (i : grid0.Coords) (k0_t2 : Fin (k0_t2_loop i).trips) : Fin 2 → Nat :=
  let c0_i32_8 : BitVec 32 := 0#32
  let c0_i32_9 : BitVec 32 := 0#32
  let arg1 : BitVec 32 := BitVec.ofNat 32 (i 1).val
  let c0_i32 : BitVec 32 := 0#32
  let v9 : BitVec 32 := Scalar.subi arg1 c0_i32
  let c1_i32 : BitVec 32 := 1#32
  let c1_i32_5 : BitVec 32 := 1#32
  let v10 : BitVec 32 := Scalar.subi c1_i32 c1_i32_5
  let v11 : BitVec 32 := Scalar.addi v9 v10
  let c1_i32_6 : BitVec 32 := 1#32
  let v12 : BitVec 32 := Scalar.divsi v11 c1_i32_6
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg9 : BitVec 32 := Scf.iv v17 c1_i32_12 k0_t2
  let c1_i32_7 : BitVec 32 := 1#32
  let v240 : BitVec 32 := Scalar.muli arg9 c1_i32_7
  let v241 : BitVec 32 := Scalar.addi c0_i32_8 v240
  let c512_i32_129 : BitVec 32 := 512#32
  let v242 : BitVec 32 := Scalar.muli v241 c512_i32_129
  let v243 : BitVec 32 := v242
  let v356 : Index := Scalar.indexCast v243
  let c384_182 : Index := 384#32
  ![v356.toNat, 384]
def k0_mult3 (i : grid0.Coords) : BitVec 32 :=
  let arg1 : BitVec 32 := BitVec.ofNat 32 (i 1).val
  let c512_i32 : BitVec 32 := 512#32
  let v18 : BitVec 32 := Scalar.muli arg1 c512_i32
  v18
def k0_off17 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v22 : Index := Scalar.indexCast v19
  let c0_15 : Index := 0#32
  ![v22.toNat, 0]
def k0_off18 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v49 : Index := Scalar.indexCast v19
  let c0_24 : Index := 0#32
  ![v49.toNat, 0]
def k0_off19 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v67 : Index := Scalar.indexCast v19
  let c256_33 : Index := 256#32
  ![v67.toNat, 256]
def k0_off20 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v94 : Index := Scalar.indexCast v19
  let c128_42 : Index := 128#32
  ![v94.toNat, 128]
def k0_off21 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v112 : Index := Scalar.indexCast v19
  let c512_51 : Index := 512#32
  ![v112.toNat, 512]
def k0_off22 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v139 : Index := Scalar.indexCast v19
  let c256_61 : Index := 256#32
  ![v139.toNat, 256]
def k0_off23 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v157 : Index := Scalar.indexCast v19
  let c768_70 : Index := 768#32
  ![v157.toNat, 768]
def k0_off24 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v184 : Index := Scalar.indexCast v19
  let c384_79 : Index := 384#32
  ![v184.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdIdeal.lean ====
variable {F : FTy → Type} [FloatOps F] [Named F]
def κ : String → Option EReal := fun
  | "log2e" => some (((Real.log 2)⁻¹ : ℝ) : EReal)
  | "mask" => some ⊥
  | _ => none
-- ==== FlashFwdRefIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x1 : Shape := ⟨3, ![4096, 8, 1]⟩
abbrev S4096x1024 : Shape := ⟨2, ![4096, 1024]⟩
abbrev S8x128x4096 : Shape := ⟨3, ![8, 128, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S4096x8x1, .f32⟩
  | .hbm, ⟨52, _⟩ => ⟨S4096x8x128, .f32⟩
  | .hbm, ⟨53, _⟩ => ⟨S4096x1024, .f32⟩
  | .hbm, ⟨54, _⟩ => ⟨S8x4096x4096, .f32⟩
  | .hbm, ⟨55, _⟩ => ⟨S_, .f32⟩
  | .hbm, ⟨56, _⟩ => ⟨S8x4096x4096, .f32⟩
  | .hbm, ⟨57, _⟩ => ⟨S8x4096x4096, .f32⟩
  | .hbm, ⟨58, _⟩ => ⟨S4096, .i32⟩
  | .hbm, ⟨59, _⟩ => ⟨S_, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S1x4096, .i32⟩
  | .hbm, ⟨78, _⟩ => ⟨S4096x1, .i32⟩
  | .hbm, ⟨79, _⟩ => ⟨S4096x4096, .i32⟩
  | .hbm, ⟨80, _⟩ => ⟨S4096x4096, .i32⟩
  | .hbm, ⟨81, _⟩ => ⟨S4096x4096, .i1⟩
  | .hbm, ⟨82, _⟩ => ⟨S_, .f32⟩
  | .hbm, ⟨83, _⟩ => ⟨S_, .f32⟩
  | .hbm, ⟨84, _⟩ => ⟨S8x4096x4096, .i1⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S_, .f32⟩
  | .hbm, ⟨90, _⟩ => ⟨S8x4096, .f32⟩
  | .hbm, ⟨91, _⟩ => ⟨S8x4096, .f32⟩
  | .hbm, ⟨92, _⟩ => ⟨S8x4096x1, .f32⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S_, .f32⟩
  | .hbm, ⟨97, _⟩ => ⟨S8x4096, .f32⟩
  | .hbm, ⟨98, _⟩ => ⟨S8x4096x1, .f32⟩
  | .hbm, ⟨99, _⟩ => ⟨S8x4096x4096, .f32⟩
  | .hbm, ⟨100, _⟩ => ⟨S8x4096x4096, .f32⟩
  | .hbm, ⟨101, _⟩ => ⟨S8x128x4096, .f32⟩
  | .hbm, ⟨102, _⟩ => ⟨S4096x8x128, .f32⟩
  | .hbm, ⟨103, _⟩ => ⟨S4096x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_6 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_cst_8 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_9 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩

abbrev nD : Nat := 1
abbrev τ : Topo := Topo.v7x

variable {F : FTy → Type} [FloatOps F]
-- ==== RetFwd.lean ====
abbrev S4096x6144 : Shape := ⟨2, ![4096, 6144]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x2048 : Shape := ⟨2, ![4096, 2048]⟩
abbrev S4x16x256x512 : Shape := ⟨4, ![4, 16, 256, 512]⟩
abbrev S1024x256 : Shape := ⟨2, ![1024, 256]⟩
abbrev S1024x512 : Shape := ⟨2, ![1024, 512]⟩
abbrev S1024x128 : Shape := ⟨2, ![1024, 128]⟩
abbrev S1x256x1 : Shape := ⟨3, ![1, 256, 1]⟩
abbrev S1x1x1 : Shape := ⟨3, ![1, 1, 1]⟩
abbrev S1x4x256x512 : Shape := ⟨4, ![1, 4, 256, 512]⟩
abbrev S1x256x512 : Shape := ⟨3, ![1, 256, 512]⟩
abbrev S256x128 : Shape := ⟨2, ![256, 128]⟩
abbrev S256x512 : Shape := ⟨2, ![256, 512]⟩
abbrev S1x1x256x512 : Shape := ⟨4, ![1, 1, 256, 512]⟩
abbrev S1x1 : Shape := ⟨2, ![1, 1]⟩

abbrev nBuf : Space → Nat
  | .hbm => 111
  | .vmem => 23
  | .smem => 0
  | _ => 0

abbrev bufTy : (tb : Table) → Fin (tcTables nBuf tb) → BufTy
  | .hbm, ⟨0, _⟩ => ⟨S4096x6144, .f32⟩
  | .hbm, ⟨1, _⟩ => ⟨S4096x6144, .bf16⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S256, .f32⟩
  | .hbm, ⟨14, _⟩ => ⟨S256, .i32⟩
  | .hbm, ⟨15, _⟩ => ⟨S_, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .f32⟩
  | .hbm, ⟨34, _⟩ => ⟨S1x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x1, .i32⟩
  | .hbm, ⟨39, _⟩ => ⟨S1x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S256x256, .f32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S_, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S4x1x1, .f32⟩
  | .hbm, ⟨55, _⟩ => ⟨S1x256x256, .f32⟩
  | .hbm, ⟨56, _⟩ => ⟨S4x256x256, .f32⟩
  | .hbm, ⟨57, _⟩ => ⟨S4x256x256, .f32⟩
  | .hbm, ⟨58, _⟩ => ⟨S4x256x256, .f32⟩
  | .hbm, ⟨59, _⟩ => ⟨S4x256x256, .f32⟩
  | .hbm, ⟨60, _⟩ => ⟨S4x1, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S4x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256x1, .f32⟩
  | .hbm, ⟨70, _⟩ => ⟨S4x1, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S1x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S4x256x1, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4x1x1, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S4096, .f32⟩
  | .hbm, ⟨102, _⟩ => ⟨S4096x1, .f32⟩
  | .hbm, ⟨103, _⟩ => ⟨S1x128, .f32⟩
  | .hbm, ⟨104, _⟩ => ⟨S4096x128, .f32⟩
  | .hbm, ⟨105, _⟩ => ⟨S4096x128, .f32⟩
  | .hbm, ⟨106, _⟩ => ⟨S4096x128, .f32⟩
  | .hbm, ⟨107, _⟩ => ⟨S4096x128, .f32⟩
  | .hbm, ⟨108, _⟩ => ⟨S4096x128, .f32⟩
  | .hbm, ⟨109, _⟩ => ⟨S4096x2048, .f32⟩
  | .hbm, ⟨110, _⟩ => ⟨S4x16x256x512, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x256x256, .f32⟩
  | .local _ .vmem, ⟨11, _⟩ => ⟨S1x256x256, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x1x1, .f32⟩
  | .local _ .vmem, ⟨17, _⟩ => ⟨S1x1x1, .f32⟩
  | .local _ .vmem, ⟨18, _⟩ => ⟨S1024x512, .f32⟩
  | .local _ .vmem, ⟨19, _⟩ => ⟨S1024x512, .f32⟩
  | .local _ .vmem, ⟨20, _⟩ => ⟨S1x4x256x512, .bf16⟩
  | .local _ .vmem, ⟨21, _⟩ => ⟨S1x4x256x512, .bf16⟩
  | .local _ .vmem, ⟨22, _⟩ => ⟨S1x256x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77_0 : Ref sig .tc := ⟨.hbm, 109, rfl⟩
abbrev main_v77_1 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetFwdRefIdeal.lean ====
abbrev S4096x6144 : Shape := ⟨2, ![4096, 6144]⟩
abbrev S4096x1024 : Shape := ⟨2, ![4096, 1024]⟩
abbrev S4096x2048 : Shape := ⟨2, ![4096, 2048]⟩
abbrev S4096x4x256 : Shape := ⟨3, ![4096, 4, 256]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S4096x4x128 : Shape := ⟨3, ![4096, 4, 128]⟩
abbrev S4096x4x512 : Shape := ⟨3, ![4096, 4, 512]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x256x512 : Shape := ⟨3, ![4, 256, 512]⟩
abbrev S64x64x4x256 : Shape := ⟨4, ![64, 64, 4, 256]⟩
abbrev S64x4x64x256 : Shape := ⟨4, ![64, 4, 64, 256]⟩
abbrev S64x64x4x512 : Shape := ⟨4, ![64, 64, 4, 512]⟩
abbrev S64x4x64x512 : Shape := ⟨4, ![64, 4, 64, 512]⟩
abbrev S64x4x256x512 : Shape := ⟨4, ![64, 4, 256, 512]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S1x4x256x512 : Shape := ⟨4, ![1, 4, 256, 512]⟩
abbrev S16x4x256x512 : Shape := ⟨4, ![16, 4, 256, 512]⟩
abbrev S4x16x256x512 : Shape := ⟨4, ![4, 16, 256, 512]⟩

abbrev nBuf : Space → Nat
  | .hbm => 208
  | .vmem => 0
  | .smem => 0
  | _ => 0

abbrev hbmTy0_0 (i : Nat) : BufTy := match i % 128 with
  | 0 => ⟨S4096x6144, .f32⟩
  | 1 => ⟨S4096x1024, .f32⟩
  | 2 => ⟨S4096x1024, .f32⟩
  | 3 => ⟨S4096x2048, .f32⟩
  | 4 => ⟨S4096x4x256, .f32⟩
  | 5 => ⟨S128, .f32⟩
  | 6 => ⟨S_, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S4096, .f32⟩
  | 22 => ⟨S4096x1, .f32⟩
  | 23 => ⟨S1x128, .f32⟩
  | 24 => ⟨S4096x128, .f32⟩
  | 25 => ⟨S4096x128, .f32⟩
  | 26 => ⟨S4096x128, .f32⟩
  | 27 => ⟨S4096x128, .f32⟩
  | 28 => ⟨S4096x128, .f32⟩
  | 29 => ⟨S4096x1x128, .f32⟩
  | 30 => ⟨S4096x1x128, .f32⟩
  | 31 => ⟨S4096x4x128, .f32⟩
  | 32 => ⟨S4096x4x128, .f32⟩
  | 33 => ⟨S4096x4x128, .f32⟩
  | 34 => ⟨S4096x4x128, .f32⟩
  | 35 => ⟨S4096x4x128, .f32⟩
  | 36 => ⟨S4096x4x128, .f32⟩
  | 37 => ⟨S4096x4x128, .f32⟩
  | 38 => ⟨S4096x4x128, .f32⟩
  | 39 => ⟨S4096x4x128, .f32⟩
  | 40 => ⟨S4096x4x128, .f32⟩
  | 41 => ⟨S4096x4x128, .f32⟩
  | 42 => ⟨S4096x4x128, .f32⟩
  | 43 => ⟨S4096x4x256, .f32⟩
  | 44 => ⟨S4096x4x256, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S_, .f32⟩
  | 59 => ⟨S128, .f32⟩
  | 60 => ⟨S128, .f32⟩
  | 61 => ⟨S4096, .f32⟩
  | 62 => ⟨S4096x1, .f32⟩
  | 63 => ⟨S1x128, .f32⟩
  | 64 => ⟨S4096x128, .f32⟩
  | 65 => ⟨S4096x128, .f32⟩
  | 66 => ⟨S4096x128, .f32⟩
  | 67 => ⟨S4096x128, .f32⟩
  | 68 => ⟨S4096x128, .f32⟩
  | 69 => ⟨S4096x1x128, .f32⟩
  | 70 => ⟨S4096x1x128, .f32⟩
  | 71 => ⟨S4096x4x128, .f32⟩
  | 72 => ⟨S4096x4x128, .f32⟩
  | 73 => ⟨S4096x4x128, .f32⟩
  | 74 => ⟨S4096x4x128, .f32⟩
  | 75 => ⟨S4096x4x128, .f32⟩
  | 76 => ⟨S4096x4x128, .f32⟩
  | 77 => ⟨S4096x4x128, .f32⟩
  | 78 => ⟨S4096x4x128, .f32⟩
  | 79 => ⟨S4096x4x128, .f32⟩
  | 80 => ⟨S4096x4x128, .f32⟩
  | 81 => ⟨S4096x4x128, .f32⟩
  | 82 => ⟨S4096x4x128, .f32⟩
  | 83 => ⟨S4096x4x256, .f32⟩
  | 84 => ⟨S_, .f32⟩
  | 85 => ⟨S4096x4x256, .f32⟩
  | 86 => ⟨S4096x4x256, .f32⟩
  | 87 => ⟨S4096x4x512, .f32⟩
  | 88 => ⟨S4, .f32⟩
  | 89 => ⟨S_, .f32⟩
  | 90 => ⟨S4, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S64, .f32⟩
  | 100 => ⟨S64x1, .f32⟩
  | 101 => ⟨S1x64, .f32⟩
  | 102 => ⟨S64x64, .f32⟩
  | 103 => ⟨S64x64, .f32⟩
  | 104 => ⟨S64x64, .f32⟩
  | 105 => ⟨S64x64, .f32⟩
  | 106 => ⟨S4x1x1, .f32⟩
  | 107 => ⟨S1x64x64, .f32⟩
  | 108 => ⟨S4x64x64, .f32⟩
  | 109 => ⟨S4x64x64, .f32⟩
  | 110 => ⟨S4x64x64, .f32⟩
  | 111 => ⟨S4x64x64, .f32⟩
  | 112 => ⟨S4x1, .f32⟩
  | 113 => ⟨S_, .f32⟩
  | 114 => ⟨S64, .f32⟩
  | 115 => ⟨S64, .f32⟩
  | 116 => ⟨S1x64, .f32⟩
  | 117 => ⟨S4x64, .f32⟩
  | 118 => ⟨S4x64, .f32⟩
  | 119 => ⟨S4x64, .f32⟩
  | 120 => ⟨S4x64, .f32⟩
  | 121 => ⟨S4x64x1, .f32⟩
  | 122 => ⟨S4x1, .f32⟩
  | 123 => ⟨S_, .f32⟩
  | 124 => ⟨S64, .f32⟩
  | 125 => ⟨S64, .f32⟩
  | 126 => ⟨S1x64, .f32⟩
  | 127 => ⟨S4x64, .f32⟩
  | _ => ⟨S4096x6144, .f32⟩

abbrev hbmTy0_1 (i : Nat) : BufTy := match i % 128 with
  | 0 => ⟨S4x64, .f32⟩
  | 1 => ⟨S4x64, .f32⟩
  | 2 => ⟨S4x64, .f32⟩
  | 3 => ⟨S4x64x1, .f32⟩
  | 4 => ⟨S_, .f32⟩
  | 5 => ⟨S4, .f32⟩
  | 6 => ⟨S4, .f32⟩
  | 7 => ⟨S4, .f32⟩
  | 8 => ⟨S4x1x1, .f32⟩
  | 9 => ⟨S_, .f32⟩
  | 10 => ⟨S4x256x512, .f32⟩
  | 11 => ⟨S64x64x4x256, .f32⟩
  | 12 => ⟨S64x4x64x256, .f32⟩
  | 13 => ⟨S64x64x4x256, .f32⟩
  | 14 => ⟨S64x4x64x256, .f32⟩
  | 15 => ⟨S64x64x4x512, .f32⟩
  | 16 => ⟨S64x4x64x512, .f32⟩
  | 17 => ⟨S_, .f32⟩
  | 18 => ⟨S64x4x64x512, .f32⟩
  | 19 => ⟨S_, .f32⟩
  | 20 => ⟨S64x4x256x512, .f32⟩
  | 21 => ⟨S_, .i32⟩
  | 22 => ⟨S64x4x64x256, .f32⟩
  | 23 => ⟨S64x4x64x256, .f32⟩
  | 24 => ⟨S64x4x64x512, .f32⟩
  | 25 => ⟨S4x64x64, .f32⟩
  | 26 => ⟨S4x64x1, .f32⟩
  | 27 => ⟨S4x1x1, .f32⟩
  | 28 => ⟨S4x64x1, .f32⟩
  | 29 => ⟨S_, .i32⟩
  | 30 => ⟨S4x256x512, .f32⟩
  | 31 => ⟨S64x4x64x512, .f32⟩
  | 32 => ⟨S64x4x256x512, .f32⟩
  | 33 => ⟨S_, .i32⟩
  | 34 => ⟨S_, .i1⟩
  | 35 => ⟨S_, .i32⟩
  | 36 => ⟨S_, .i32⟩
  | 37 => ⟨S_, .i32⟩
  | 38 => ⟨S1x4x64x256, .f32⟩
  | 39 => ⟨S4x64x256, .f32⟩
  | 40 => ⟨S_, .i32⟩
  | 41 => ⟨S_, .i32⟩
  | 42 => ⟨S_, .i32⟩
  | 43 => ⟨S1x4x64x256, .f32⟩
  | 44 => ⟨S4x64x256, .f32⟩
  | 45 => ⟨S_, .i32⟩
  | 46 => ⟨S_, .i32⟩
  | 47 => ⟨S_, .i32⟩
  | 48 => ⟨S1x4x64x512, .f32⟩
  | 49 => ⟨S4x64x512, .f32⟩
  | 50 => ⟨S4x64x64, .f32⟩
  | 51 => ⟨S4x64x64, .f32⟩
  | 52 => ⟨S4x64x512, .f32⟩
  | 53 => ⟨S4x64x256, .f32⟩
  | 54 => ⟨S4x64x256, .f32⟩
  | 55 => ⟨S4x64x512, .f32⟩
  | 56 => ⟨S4x256x512, .f32⟩
  | 57 => ⟨S4x256x512, .f32⟩
  | 58 => ⟨S4x64x256, .f32⟩
  | 59 => ⟨S4x64x256, .f32⟩
  | 60 => ⟨S4x256x512, .f32⟩
  | 61 => ⟨S4x256x512, .f32⟩
  | 62 => ⟨S4x64x512, .f32⟩
  | 63 => ⟨S1x4x64x512, .f32⟩
  | 64 => ⟨S_, .i32⟩
  | 65 => ⟨S_, .i32⟩
  | 66 => ⟨S_, .i32⟩
  | 67 => ⟨S64x4x64x512, .f32⟩
  | 68 => ⟨S1x4x256x512, .f32⟩
  | 69 => ⟨S_, .i32⟩
  | 70 => ⟨S_, .i32⟩
  | 71 => ⟨S_, .i32⟩
  | 72 => ⟨S64x4x256x512, .f32⟩
  | 73 => ⟨S_, .i32⟩
  | 74 => ⟨S_, .i32⟩
  | 75 => ⟨S64x64x4x512, .f32⟩
  | 76 => ⟨S4096x2048, .f32⟩
  | 77 => ⟨S16x4x256x512, .f32⟩
  | 78 => ⟨S4x16x256x512, .f32⟩
  | 79 => ⟨S4x16x256x512, .bf16⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_4 : Ref sig .tc := ⟨.hbm, 46, rfl⟩
abbrev main_v40 : Ref sig .tc := ⟨.hbm, 47, rfl⟩
abbrev main_v41 : Ref sig .tc := ⟨.hbm, 48, rfl⟩
abbrev main_cst_5 : Ref sig .tc := ⟨.hbm, 49, rfl⟩
abbrev main_v42 : Ref sig .tc := ⟨.hbm, 50, rfl⟩
abbrev main_v43 : Ref sig .tc := ⟨.hbm, 51, rfl⟩
abbrev main_cst_6 : Ref sig .tc := ⟨.hbm, 52, rfl⟩
abbrev main_v44 : Ref sig .tc := ⟨.hbm, 53, rfl⟩
abbrev main_v45 : Ref sig .tc := ⟨.hbm, 54, rfl⟩
abbrev main_cst_7 : Ref sig .tc := ⟨.hbm, 55, rfl⟩
abbrev main_v46 : Ref sig .tc := ⟨.hbm, 56, rfl⟩
abbrev main_v47 : Ref sig .tc := ⟨.hbm, 57, rfl⟩
abbrev main_cst_8 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_9 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_10 : Ref sig .tc := ⟨.hbm, 89, rfl⟩
abbrev main_v77 : Ref sig .tc := ⟨.hbm, 90, rfl⟩
abbrev main_v78 : Ref sig .tc := ⟨.hbm, 91, rfl⟩
abbrev main_cst_11 : Ref sig .tc := ⟨.hbm, 92, rfl⟩
abbrev main_v79 : Ref sig .tc := ⟨.hbm, 93, rfl⟩
abbrev main_v80 : Ref sig .tc := ⟨.hbm, 94, rfl⟩
abbrev main_cst_12 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_13 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_14 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_15 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_16 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_17 : Ref sig .tc := ⟨.hbm, 145, rfl⟩
abbrev main_v126 : Ref sig .tc := ⟨.hbm, 146, rfl⟩
abbrev main_cst_18 : Ref sig .tc := ⟨.hbm, 147, rfl⟩
abbrev main_v127 : Ref sig .tc := ⟨.hbm, 148, rfl⟩
abbrev main_c : Ref sig .tc := ⟨.hbm, 149, rfl⟩
abbrev main_v128_0 : Ref sig .tc := ⟨.hbm, 150, rfl⟩
abbrev main_v128_1 : Ref sig .tc := ⟨.hbm, 151, rfl⟩
abbrev main_v128_2 : Ref sig .tc := ⟨.hbm, 152, rfl⟩
abbrev main_v128_3 : Ref sig .tc := ⟨.hbm, 153, rfl⟩
abbrev main_v128_4 : Ref sig .tc := ⟨.hbm, 154, rfl⟩
abbrev main_v128_5 : Ref sig .tc := ⟨.hbm, 155, rfl⟩
abbrev main_v128_6 : Ref sig .tc := ⟨.hbm, 156, rfl⟩
abbrev main_v128_7 : Ref sig .tc := ⟨.hbm, 157, rfl⟩
abbrev main_v128_8 : Ref sig .tc := ⟨.hbm, 158, rfl⟩
abbrev main_v128_9 : Ref sig .tc := ⟨.hbm, 159, rfl⟩
abbrev main_v128_10 : Ref sig .tc := ⟨.hbm, 160, rfl⟩
abbrev main_while0c_c_29 : Ref sig .tc := ⟨.hbm, 161, rfl⟩
abbrev main_while0c_v134 : Ref sig .tc := ⟨.hbm, 162, rfl⟩
abbrev main_while0b_call0_c : Ref sig .tc := ⟨.hbm, 163, rfl⟩
abbrev main_while0b_call0_c_0 : Ref sig .tc := ⟨.hbm, 164, rfl⟩
abbrev main_while0b_call0_c_1 : Ref sig .tc := ⟨.hbm, 165, rfl⟩
abbrev main_while0b_call0_v0 : Ref sig .tc := ⟨.hbm, 166, rfl⟩
abbrev main_while0b_v134 : Ref sig .tc := ⟨.hbm, 167, rfl⟩
abbrev main_while0b_call1_c : Ref sig .tc := ⟨.hbm, 168, rfl⟩
abbrev main_while0b_call1_c_0 : Ref sig .tc := ⟨.hbm, 169, rfl⟩
abbrev main_while0b_call1_c_1 : Ref sig .tc := ⟨.hbm, 170, rfl⟩
abbrev main_while0b_call1_v0 : Ref sig .tc := ⟨.hbm, 171, rfl⟩
abbrev main_while0b_v135 : Ref sig .tc := ⟨.hbm, 172, rfl⟩
abbrev main_while0b_call2_c : Ref sig .tc := ⟨.hbm, 173, rfl⟩
abbrev main_while0b_call2_c_0 : Ref sig .tc := ⟨.hbm, 174, rfl⟩
abbrev main_while0b_call2_c_1 : Ref sig .tc := ⟨.hbm, 175, rfl⟩
abbrev main_while0b_call2_v0 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_v144 : Ref sig .tc := ⟨.hbm, 185, rfl⟩
abbrev main_while0b_v145 : Ref sig .tc := ⟨.hbm, 186, rfl⟩
abbrev main_while0b_v146 : Ref sig .tc := ⟨.hbm, 187, rfl⟩
abbrev main_while0b_v147 : Ref sig .tc := ⟨.hbm, 188, rfl⟩
abbrev main_while0b_v148 : Ref sig .tc := ⟨.hbm, 189, rfl⟩
abbrev main_while0b_v149 : Ref sig .tc := ⟨.hbm, 190, rfl⟩
abbrev main_while0b_call3_v0 : Ref sig .tc := ⟨.hbm, 191, rfl⟩
abbrev main_while0b_call3_c : Ref sig .tc := ⟨.hbm, 192, rfl⟩
abbrev main_while0b_call3_c_0 : Ref sig .tc := ⟨.hbm, 193, rfl⟩
abbrev main_while0b_call3_c_1 : Ref sig .tc := ⟨.hbm, 194, rfl⟩
abbrev main_while0b_v150 : Ref sig .tc := ⟨.hbm, 195, rfl⟩
abbrev main_while0b_call4_v0 : Ref sig .tc := ⟨.hbm, 196, rfl⟩
abbrev main_while0b_call4_c : Ref sig .tc := ⟨.hbm, 197, rfl⟩
abbrev main_while0b_call4_c_0 : Ref sig .tc := ⟨.hbm, 198, rfl⟩
abbrev main_while0b_call4_c_1 : Ref sig .tc := ⟨.hbm, 199, rfl⟩
abbrev main_while0b_v151 : Ref sig .tc := ⟨.hbm, 200, rfl⟩
abbrev main_while0b_c_29 : Ref sig .tc := ⟨.hbm, 201, rfl⟩
abbrev main_while0b_v152 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩

abbrev nD : Nat := 1
abbrev τ : Topo := Topo.v7x

variable {F : FTy → Type} [FloatOps F]

abbrev main_while0_count : Scf.Loop 32 := ⟨0#32, 64#32, 1#32⟩
-- ==== MixFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateFwd.lean ====
abbrev S4096x2048 : Shape := ⟨2, ![4096, 2048]⟩
abbrev S4096x6144 : Shape := ⟨2, ![4096, 6144]⟩
abbrev S4x512 : Shape := ⟨2, ![4, 512]⟩
abbrev S1x512 : Shape := ⟨2, ![1, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4x512, .f32⟩
  | .hbm, ⟨3, _⟩ => ⟨S4096x6144, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateFwdRefIdeal.lean ====
abbrev S4096x2048 : Shape := ⟨2, ![4096, 2048]⟩
abbrev S4096x6144 : Shape := ⟨2, ![4096, 6144]⟩
abbrev S4x512 : Shape := ⟨2, ![4, 512]⟩
abbrev S4096x4x512 : Shape := ⟨3, ![4096, 4, 512]⟩
abbrev S_ : Shape := ⟨0, ![]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4x512, .f32⟩
  | .hbm, ⟨3, _⟩ => ⟨S4096x4x512, .f32⟩
  | .hbm, ⟨4, _⟩ => ⟨S4096x4x512, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S4096x4x1, .f32⟩
  | .hbm, ⟨15, _⟩ => ⟨S4096x4x512, .f32⟩
  | .hbm, ⟨16, _⟩ => ⟨S4096x4x512, .f32⟩
  | .hbm, ⟨17, _⟩ => ⟨S1x4x512, .f32⟩
  | .hbm, ⟨18, _⟩ => ⟨S4096x4x512, .f32⟩
  | .hbm, ⟨19, _⟩ => ⟨S4096x4x512, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== MlpFwd.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x1024, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpFwdRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ResFwd.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .bf16⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResFwdRefIdeal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== PleFwd.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S1024 : Shape := ⟨1, ![1024]⟩
abbrev S256x4x256 : Shape := ⟨3, ![256, 4, 256]⟩
abbrev S4x256x256 : Shape := ⟨3, ![4, 256, 256]⟩
abbrev S1x1024 : Shape := ⟨2, ![1, 1024]⟩
abbrev S512x1024 : Shape := ⟨2, ![512, 1024]⟩
abbrev S512x256 : Shape := ⟨2, ![512, 256]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S1024, .f32⟩
  | .hbm, ⟨6, _⟩ => ⟨S256x1024, .bf16⟩
  | .hbm, ⟨7, _⟩ => ⟨S256x4x256, .bf16⟩
  | .hbm, ⟨8, _⟩ => ⟨S4x256x256, .bf16⟩
  | .hbm, ⟨9, _⟩ => ⟨S4096x1024, .bf16⟩
  | .hbm, ⟨10, _⟩ => ⟨S1024x1024, .bf16⟩
  | .hbm, ⟨11, _⟩ => ⟨S4096x256, .bf16⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x256, .bf16⟩
  | .local _ .vmem, ⟨4, _⟩ => ⟨S512x256, .bf16⟩
  | .local _ .vmem, ⟨5, _⟩ => ⟨S512x1024, .f32⟩
  | .local _ .vmem, ⟨6, _⟩ => ⟨S512x1024, .f32⟩
  | .local _ .vmem, ⟨7, _⟩ => ⟨S4x256x256, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PleFwdRefIdeal.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== MlaFront.lean ====
abbrev S4096x1024 : Shape := ⟨2, ![4096, 1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S192 : Shape := ⟨1, ![192]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S384x8x192 : Shape := ⟨3, ![384, 8, 192]⟩
abbrev S384x8x256 : Shape := ⟨3, ![384, 8, 256]⟩
abbrev S1x256 : Shape := ⟨2, ![1, 256]⟩
abbrev S1x384 : Shape := ⟨2, ![1, 384]⟩
abbrev S384x2048 : Shape := ⟨2, ![384, 2048]⟩
abbrev S384x4x512 : Shape := ⟨3, ![384, 4, 512]⟩
abbrev S4x384x512 : Shape := ⟨3, ![4, 384, 512]⟩
abbrev S256x4x512 : Shape := ⟨3, ![256, 4, 512]⟩
abbrev S4x256x512 : Shape := ⟨3, ![4, 256, 512]⟩
abbrev S1024x768 : Shape := ⟨2, ![1024, 768]⟩
abbrev S4096x768 : Shape := ⟨2, ![4096, 768]⟩
abbrev S4096x384 : Shape := ⟨2, ![4096, 384]⟩
abbrev S4096x256 : Shape := ⟨2, ![4096, 256]⟩
abbrev S4096x2048 : Shape := ⟨2, ![4096, 2048]⟩
abbrev S256x1024 : Shape := ⟨2, ![256, 1024]⟩
abbrev S256x128 : Shape := ⟨2, ![256, 128]⟩
abbrev S256x768 : Shape := ⟨2, ![256, 768]⟩
abbrev S256x384 : Shape := ⟨2, ![256, 384]⟩
abbrev S256x256 : Shape := ⟨2, ![256, 256]⟩
abbrev S256x1 : Shape := ⟨2, ![256, 1]⟩
abbrev S1x384x512 : Shape := ⟨3, ![1, 384, 512]⟩
abbrev S384x512 : Shape := ⟨2, ![384, 512]⟩
abbrev S256x512 : Shape := ⟨2, ![256, 512]⟩
abbrev S1x256x512 : Shape := ⟨3, ![1, 256, 512]⟩

abbrev nBuf : Space → Nat
  | .hbm => 83
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024x704, .f32⟩
  | .hbm, ⟨2, _⟩ => ⟨S384, .f32⟩
  | .hbm, ⟨3, _⟩ => ⟨S256, .f32⟩
  | .hbm, ⟨4, _⟩ => ⟨S384x1536, .f32⟩
  | .hbm, ⟨5, _⟩ => ⟨S256x2048, .f32⟩
  | .hbm, ⟨6, _⟩ => ⟨S192, .f32⟩
  | .hbm, ⟨7, _⟩ => ⟨S192, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S_, .f32⟩
  | .hbm, ⟨33, _⟩ => ⟨S4096x32, .f32⟩
  | .hbm, ⟨34, _⟩ => ⟨S_, .f32⟩
  | .hbm, ⟨35, _⟩ => ⟨S4096x64, .f32⟩
  | .hbm, ⟨36, _⟩ => ⟨S4096x128, .f32⟩
  | .hbm, ⟨37, _⟩ => ⟨S4096x32, .f32⟩
  | .hbm, ⟨38, _⟩ => ⟨S4096x128, .f32⟩
  | .hbm, ⟨39, _⟩ => ⟨S4096x128, .f32⟩
  | .hbm, ⟨40, _⟩ => ⟨S384x8x192, .f32⟩
  | .hbm, ⟨41, _⟩ => ⟨S_, .i32⟩
  | .hbm, ⟨42, _⟩ => ⟨S_, .f32⟩
  | .hbm, ⟨43, _⟩ => ⟨S384x8x256, .f32⟩
  | .hbm, ⟨44, _⟩ => ⟨S_, .i32⟩
  | .hbm, ⟨45, _⟩ => ⟨S_, .f32⟩
  | .hbm, ⟨46, _⟩ => ⟨S256, .f32⟩
  | .hbm, ⟨47, _⟩ => ⟨S1x256, .f32⟩
  | .hbm, ⟨48, _⟩ => ⟨S_, .i32⟩
  | .hbm, ⟨49, _⟩ => ⟨S_, .f32⟩
  | .hbm, ⟨50, _⟩ => ⟨S256, .f32⟩
  | .hbm, ⟨51, _⟩ => ⟨S1x256, .f32⟩
  | .hbm, ⟨52, _⟩ => ⟨S_, .i32⟩
  | .hbm, ⟨53, _⟩ => ⟨S_, .f32⟩
  | .hbm, ⟨54, _⟩ => ⟨S384, .f32⟩
  | .hbm, ⟨55, _⟩ => ⟨S1x384, .f32⟩
  | .hbm, ⟨56, _⟩ => ⟨S_, .i32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S384x2048, .f32⟩
  | .hbm, ⟨61, _⟩ => ⟨S384x2048, .bf16⟩
  | .hbm, ⟨62, _⟩ => ⟨S384x4x512, .bf16⟩
  | .hbm, ⟨63, _⟩ => ⟨S4x384x512, .bf16⟩
  | .hbm, ⟨64, _⟩ => ⟨S256x2048, .bf16⟩
  | .hbm, ⟨65, _⟩ => ⟨S256x4x512, .bf16⟩
  | .hbm, ⟨66, _⟩ => ⟨S4x256x512, .bf16⟩
  | .hbm, ⟨67, _⟩ => ⟨S_, .i32⟩
  | .hbm, ⟨68, _⟩ => ⟨S_, .f32⟩
  | .hbm, ⟨69, _⟩ => ⟨S1024x768, .f32⟩
  | .hbm, ⟨70, _⟩ => ⟨S1024x768, .bf16⟩
  | .hbm, ⟨71, _⟩ => ⟨S4096x1024, .bf16⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S4096x768, .f32⟩
  | .hbm, ⟨76, _⟩ => ⟨S4096x384, .bf16⟩
  | .hbm, ⟨77, _⟩ => ⟨S4096x256, .bf16⟩
  | .hbm, ⟨78, _⟩ => ⟨S4096x2048, .bf16⟩
  | .hbm, ⟨79, _⟩ => ⟨S4096x2048, .bf16⟩
  | .hbm, ⟨80, _⟩ => ⟨S4096x2048, .bf16⟩
  | .hbm, ⟨81, _⟩ => ⟨S4096x2048, .bf16⟩
  | .hbm, ⟨82, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x768, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x384, .f32⟩
  | .local _ .vmem, ⟨10, _⟩ => ⟨S1x256, .f32⟩
  | .local _ .vmem, ⟨11, _⟩ => ⟨S4x384x512, .bf16⟩
  | .local _ .vmem, ⟨12, _⟩ => ⟨S4x256x512, .bf16⟩
  | .local _ .vmem, ⟨13, _⟩ => ⟨S1x256, .f32⟩
  | .local _ .vmem, ⟨14, _⟩ => ⟨S1x256, .f32⟩
  | .local _ .vmem, ⟨15, _⟩ => ⟨S256x768, .f32⟩
  | .local _ .vmem, ⟨16, _⟩ => ⟨S256x768, .f32⟩
  | .local _ .vmem, ⟨17, _⟩ => ⟨S256x384, .bf16⟩
  | .local _ .vmem, ⟨18, _⟩ => ⟨S256x384, .bf16⟩
  | .local _ .vmem, ⟨19, _⟩ => ⟨S256x256, .bf16⟩
  | .local _ .vmem, ⟨20, _⟩ => ⟨S256x256, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S256x2048, .bf16⟩
  | .local _ .vmem, ⟨29, _⟩ => ⟨S256x1024, .bf16⟩
  | .local _ .vmem, ⟨30, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_call0_v0 : Ref sig .tc := ⟨.hbm, 42, rfl⟩
abbrev main_v26 : Ref sig .tc := ⟨.hbm, 43, rfl⟩
abbrev main_c_6 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_call3_v0 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_call4_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_call5_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_v47_3 : Ref sig .tc := ⟨.hbm, 78, rfl⟩
abbrev main_v47_4 : Ref sig .tc := ⟨.hbm, 79, rfl⟩
abbrev main_v47_5 : Ref sig .tc := ⟨.hbm, 80, rfl⟩
abbrev main_v47_6 : Ref sig .tc := ⟨.hbm, 81, rfl⟩
abbrev main_v47_7 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x384x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MlaFrontRefIdeal.lean ====
abbrev S4096x1024 : Shape := ⟨2, ![4096, 1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S192 : Shape := ⟨1, ![192]⟩
abbrev S4096x704 : Shape := ⟨2, ![4096, 704]⟩
abbrev S4096x384 : Shape := ⟨2, ![4096, 384]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S4096x256 : Shape := ⟨2, ![4096, 256]⟩
abbrev S1x256 : Shape := ⟨2, ![1, 256]⟩
abbrev S4096x1536 : Shape := ⟨2, ![4096, 1536]⟩
abbrev S4096x2048 : Shape := ⟨2, ![4096, 2048]⟩
abbrev S4096x64 : Shape := ⟨2, ![4096, 64]⟩
abbrev S4096x8x192 : Shape := ⟨3, ![4096, 8, 192]⟩
abbrev S4096x8x256 : Shape := ⟨3, ![4096, 8, 256]⟩
abbrev S4096x8x128 : Shape := ⟨3, ![4096, 8, 128]⟩
abbrev S4096x1x64 : Shape := ⟨3, ![4096, 1, 64]⟩
abbrev S4096x8x64 : Shape := ⟨3, ![4096, 8, 64]⟩
abbrev S4096x8 : Shape := ⟨2, ![4096, 8]⟩
abbrev S4096x8x1 : Shape := ⟨3, ![4096, 8, 1]⟩
abbrev S1x1x192 : Shape := ⟨3, ![1, 1, 192]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x768 : Shape := ⟨2, ![4096, 768]⟩

abbrev nBuf : Space → Nat
  | .hbm => 196
  | .vmem => 0
  | .smem => 0
  | _ => 0

abbrev hbmTy0_0 (i : Nat) : BufTy := match i % 128 with
  | 0 => ⟨S4096x1024, .f32⟩
  | 1 => ⟨S1024x704, .f32⟩
  | 2 => ⟨S384, .f32⟩
  | 3 => ⟨S256, .f32⟩
  | 4 => ⟨S384x1536, .f32⟩
  | 5 => ⟨S256x2048, .f32⟩
  | 6 => ⟨S192, .f32⟩
  | 7 => ⟨S192, .f32⟩
  | 8 => ⟨S4096x704, .f32⟩
  | 9 => ⟨S4096x384, .f32⟩
  | 10 => ⟨S4096x384, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x384, .f32⟩
  | 22 => ⟨S4096x384, .f32⟩
  | 23 => ⟨S1x384, .f32⟩
  | 24 => ⟨S4096x384, .f32⟩
  | 25 => ⟨S4096x384, .f32⟩
  | 26 => ⟨S4096x256, .f32⟩
  | 27 => ⟨S4096x256, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1, .f32⟩
  | 38 => ⟨S4096x256, .f32⟩
  | 39 => ⟨S4096x256, .f32⟩
  | 40 => ⟨S1x256, .f32⟩
  | 41 => ⟨S4096x256, .f32⟩
  | 42 => ⟨S4096x256, .f32⟩
  | 43 => ⟨S4096x1536, .f32⟩
  | 44 => ⟨S4096x2048, .f32⟩
  | 45 => ⟨S4096x64, .f32⟩
  | 46 => ⟨S4096x8x192, .f32⟩
  | 47 => ⟨S4096x8x256, .f32⟩
  | 48 => ⟨S4096x8x128, .f32⟩
  | 49 => ⟨S4096x1x64, .f32⟩
  | 50 => ⟨S4096x8x64, .f32⟩
  | 51 => ⟨S4096x8x192, .f32⟩
  | 52 => ⟨S4096x8x192, .f32⟩
  | 53 => ⟨S_, .f32⟩
  | 54 => ⟨S4096x8, .f32⟩
  | 55 => ⟨S4096x8x1, .f32⟩
  | 56 => ⟨S_, .f32⟩
  | 57 => ⟨S4096x8x1, .f32⟩
  | 58 => ⟨S4096x8x1, .f32⟩
  | 59 => ⟨S_, .f32⟩
  | 60 => ⟨S4096x8x1, .f32⟩
  | 61 => ⟨S4096x8x1, .f32⟩
  | 62 => ⟨S4096x8x1, .f32⟩
  | 63 => ⟨S4096x8x192, .f32⟩
  | 64 => ⟨S4096x8x192, .f32⟩
  | 65 => ⟨S1x1x192, .f32⟩
  | 66 => ⟨S4096x8x192, .f32⟩
  | 67 => ⟨S4096x8x192, .f32⟩
  | 68 => ⟨S4096x8x192, .f32⟩
  | 69 => ⟨S_, .f32⟩
  | 70 => ⟨S4096x8, .f32⟩
  | 71 => ⟨S4096x8x1, .f32⟩
  | 72 => ⟨S_, .f32⟩
  | 73 => ⟨S4096x8x1, .f32⟩
  | 74 => ⟨S4096x8x1, .f32⟩
  | 75 => ⟨S_, .f32⟩
  | 76 => ⟨S4096x8x1, .f32⟩
  | 77 => ⟨S4096x8x1, .f32⟩
  | 78 => ⟨S4096x8x1, .f32⟩
  | 79 => ⟨S4096x8x192, .f32⟩
  | 80 => ⟨S4096x8x192, .f32⟩
  | 81 => ⟨S1x1x192, .f32⟩
  | 82 => ⟨S4096x8x192, .f32⟩
  | 83 => ⟨S4096x8x192, .f32⟩
  | 84 => ⟨S4096x8x128, .f32⟩
  | 85 => ⟨S4096x8x64, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S4096, .f32⟩
  | 103 => ⟨S4096x1, .f32⟩
  | 104 => ⟨S1x32, .f32⟩
  | 105 => ⟨S4096x32, .f32⟩
  | 106 => ⟨S4096x32, .f32⟩
  | 107 => ⟨S4096x32, .f32⟩
  | 108 => ⟨S4096x32, .f32⟩
  | 109 => ⟨S4096x32, .f32⟩
  | 110 => ⟨S4096x1x32, .f32⟩
  | 111 => ⟨S4096x1x32, .f32⟩
  | 112 => ⟨S4096x8x32, .f32⟩
  | 113 => ⟨S4096x8x32, .f32⟩
  | 114 => ⟨S4096x8x32, .f32⟩
  | 115 => ⟨S4096x8x32, .f32⟩
  | 116 => ⟨S4096x8x32, .f32⟩
  | 117 => ⟨S4096x8x32, .f32⟩
  | 118 => ⟨S4096x8x32, .f32⟩
  | 119 => ⟨S4096x8x32, .f32⟩
  | 120 => ⟨S4096x8x32, .f32⟩
  | 121 => ⟨S4096x8x32, .f32⟩
  | 122 => ⟨S4096x8x32, .f32⟩
  | 123 => ⟨S4096x8x32, .f32⟩
  | 124 => ⟨S4096x8x64, .f32⟩
  | 125 => ⟨S4096x8x192, .f32⟩
  | 126 => ⟨S4096x8x128, .f32⟩
  | 127 => ⟨S4096x8x64, .f32⟩
  | _ => ⟨S4096x1024, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096, .f32⟩
  | 17 => ⟨S4096x1, .f32⟩
  | 18 => ⟨S1x32, .f32⟩
  | 19 => ⟨S4096x32, .f32⟩
  | 20 => ⟨S4096x32, .f32⟩
  | 21 => ⟨S4096x32, .f32⟩
  | 22 => ⟨S4096x32, .f32⟩
  | 23 => ⟨S4096x32, .f32⟩
  | 24 => ⟨S4096x1x32, .f32⟩
  | 25 => ⟨S4096x1x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S4096x8x32, .f32⟩
  | 34 => ⟨S4096x8x32, .f32⟩
  | 35 => ⟨S4096x8x32, .f32⟩
  | 36 => ⟨S4096x8x32, .f32⟩
  | 37 => ⟨S4096x8x32, .f32⟩
  | 38 => ⟨S4096x8x64, .f32⟩
  | 39 => ⟨S4096x8x192, .f32⟩
  | 40 => ⟨S4096x8x128, .f32⟩
  | 41 => ⟨S_, .f32⟩
  | 42 => ⟨S4096x8x192, .f32⟩
  | 43 => ⟨S4096x8x192, .f32⟩
  | 44 => ⟨S_, .i32⟩
  | 45 => ⟨S_, .f32⟩
  | 46 => ⟨S4096x768, .f32⟩
  | 47 => ⟨S4096x384, .bf16⟩
  | 48 => ⟨S4096x256, .bf16⟩
  | 49 => ⟨S4096x8x192, .f32⟩
  | 50 => ⟨S_, .i32⟩
  | 51 => ⟨S_, .f32⟩
  | 52 => ⟨S4096x8x256, .f32⟩
  | 53 => ⟨S4096x2048, .f32⟩
  | 54 => ⟨S4096x2048, .bf16⟩
  | 55 => ⟨S4096x2048, .bf16⟩
  | 56 => ⟨S_, .i32⟩
  | 57 => ⟨S_, .f32⟩
  | 58 => ⟨S4096x8x256, .f32⟩
  | 59 => ⟨S4096x2048, .f32⟩
  | 60 => ⟨S4096x2048, .bf16⟩
  | 61 => ⟨S_, .i32⟩
  | 62 => ⟨S_, .f32⟩
  | 63 => ⟨S4096x8x256, .f32⟩
  | 64 => ⟨S4096x2048, .f32⟩
  | 65 => ⟨S4096x2048, .bf16⟩
  | 66 => ⟨S4096x1024, .f32⟩
  | 67 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_16 : Ref sig .tc := ⟨.hbm, 129, rfl⟩
abbrev main_v104 : Ref sig .tc := ⟨.hbm, 130, rfl⟩
abbrev main_v105 : Ref sig .tc := ⟨.hbm, 131, rfl⟩
abbrev main_cst_17 : Ref sig .tc := ⟨.hbm, 132, rfl⟩
abbrev main_v106 : Ref sig .tc := ⟨.hbm, 133, rfl⟩
abbrev main_v107 : Ref sig .tc := ⟨.hbm, 134, rfl⟩
abbrev main_cst_18 : Ref sig .tc := ⟨.hbm, 135, rfl⟩
abbrev main_v108 : Ref sig .tc := ⟨.hbm, 136, rfl⟩
abbrev main_v109 : Ref sig .tc := ⟨.hbm, 137, rfl⟩
abbrev main_cst_19 : Ref sig .tc := ⟨.hbm, 138, rfl⟩
abbrev main_v110 : Ref sig .tc := ⟨.hbm, 139, rfl⟩
abbrev main_v111 : Ref sig .tc := ⟨.hbm, 140, rfl⟩
abbrev main_cst_20 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_21 : Ref sig .tc := ⟨.hbm, 169, rfl⟩
abbrev main_v139 : Ref sig .tc := ⟨.hbm, 170, rfl⟩
abbrev main_v140 : Ref sig .tc := ⟨.hbm, 171, rfl⟩
abbrev main_c : Ref sig .tc := ⟨.hbm, 172, rfl⟩
abbrev main_call0_v0 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_c_22 : Ref sig .tc := ⟨.hbm, 178, rfl⟩
abbrev main_call1_v0 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_c_23 : Ref sig .tc := ⟨.hbm, 184, rfl⟩
abbrev main_call2_v0 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_c_24 : Ref sig .tc := ⟨.hbm, 189, rfl⟩
abbrev main_call3_v0 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩

abbrev nD : Nat := 1
abbrev τ : Topo := Topo.v7x

variable {F : FTy → Type} [FloatOps F]
-- ==== Proof.Relu.lean ====
module

public import proofs.«01_k».proof.Proof.Gen.ReluBwdIdeal.Value
public import proofs.«01_k».proof.Proof.Gen.ReluBwdRefIdeal.Read
public import Idealize.ShloMosaic.Lib.Pipeline.ValueKit
public import Idealize.ShloMosaic.Lib.Pointwise
public import Idealize.ShloMosaic.Lib.StableHlo.RunRead
public import Idealize.ShloMosaic.Lib.Claim

@[expose] public section

set_option maxRecDepth 16384

noncomputable section

namespace Cert.Relu

open Cert.ReluBwdIdeal Cert.ReluBwdIdeal.Gen Idealize.ShloMosaic Idealize.ShloMosaic.TcCoe Idealize.SL.Sem

/-- One element of a block the body leaves. -/
theorem block_apply (x0 : Vec Ideal S2048x1024 .bf16) (x1 : Vec Ideal S1024x1024 .bf16) (x2 : Vec Ideal S2048x1024 .bf16)
    (y : S2048x1024.Idx) :
    out0_3 (F := Ideal) x0 x1 x2 y =
      (∑ k : Fin 1024, x0 (ix2 (y 0) k) * x1 (ix2 (y 1) k)) * (Ideal.ofBits .f32 0x40000000#32 * Ideal.sqrt (x2 y)) := by
  unfold out0_3
  canon_tiles x h
  all_goals
    idx_vars x
    idx_vars y
    unfold_payloads
    pointwise
    obtain rfl : y1 = x1 := Fin.ext h1
    rw [Fin.ext (a := y0) (b := ⟨_, h0.symm.trans_lt y0.isLt⟩) h0]

/-- Which block each window is at, at every grid point. -/
theorem idx : ∀ t : Fin cfg0.N, win0_0.index t = ![(win0_3.index t 0), 0] ∧ win0_1.index t = ![(win0_3.index t 1), 0]
    ∧ win0_2.index t = win0_3.index t :=
  (by decide +kernel : ∀ t : Fin grid0.N, win0_0.index t = ![(win0_3.index t 0), 0] ∧ win0_1.index t = ![(win0_3.index t 1), 0]
    ∧ win0_2.index t = win0_3.index t)

variable (m : (ℓ : Loc nD τ sig) → Buf (Elt Ideal) ℓ) (c : Dev nD)

/-- The array the region leaves, from the arrays it is given. -/
def arrF (x0 : Vec Ideal S4096x1024 .bf16) (x1 : Vec Ideal S4096x1024 .bf16) (x2 : Vec Ideal S4096x4096 .bf16) :
    Vec Ideal S4096x4096 .bf16 := fun i =>
  (∑ k : Fin 1024, x0 (ix2 (i 0) k) * x1 (ix2 (i 1) k)) * (Ideal.ofBits .f32 0x40000000#32 * Ideal.sqrt (x2 i))

theorem arr : (dats m 0 c).arrAt 3 cfg0.N = arrF (V m c main_v17) (V m c main_v18) (V m c main_v16) := by
  refine (dats m 0 c).arrAt_eq_of_covers 3 _ (by decide +kernel) fun t hf y => ?_
  blk_simp
  rw [after0_3, block_apply]
  unfold arrF
  obtain ⟨i0, i1, i2⟩ := idx t
  refine Ideal.mul_congr (Finset.sum_congr rfl fun k _ => Ideal.mul_congr ?_ ?_) (congrArg (_ * Ideal.sqrt ·) ?_)
  · blk_ext [iblk, i0]
  · blk_ext [iblk, i1]
  · blk_ext [iblk, i2]

theorem V_ct : V m c main_v17 = m (c.tc.loc main_arg4) := by
  unfold_abbrev_sides
  after_reads_simp
  rfl

theorem V_w2 : V m c main_v18 = m (c.tc.loc main_arg3) := by
  unfold_abbrev_sides
  after_reads_simp
  rfl

/-- The stored activation: the square of the rectified product. -/
def sq (a : Vec Ideal S4096x4096 .f32) : Vec Ideal S4096x4096 .bf16 := fun i => a i * a i

open Cert.ReluBwdRefIdeal.Read in
theorem V_a : V m c main_v16 = sq (val_main_v14 (F := Ideal) (m (c.tc.loc main_arg0)) (m (c.tc.loc main_arg1)) (m (c.tc.loc main_arg2))) := by
  unfold_abbrev_sides
  after_reads_simp
  rfl

/-- The square root of the square of a nonnegative extended real. -/
theorem sqrt_mul_self (z : EReal) (hz : 0 ≤ z) : Ideal.sqrt (z * z) = z := by
  induction z with
  | bot => simp at hz
  | top => simp
  | coe r =>
    have hr : 0 ≤ r := by exact_mod_cast hz
    rw [← EReal.coe_mul, Ideal.sqrt_coe, if_neg (not_lt.mpr (mul_nonneg hr hr)), Real.sqrt_mul_self hr]

/-- Where the rectifier is off its factor is zero, so the choice changes nothing. -/
theorem choose (p x z : EReal) :
    x * (p * max z 0) = Scalar.select (FloatOps.cmpf (F := Ideal) (φ := .f32) .ogt z 0) (x * (p * max z 0)) 0 := by
  by_cases h : 0 < z
  · simp [Scalar.select, FloatOps.cmpf, Ideal.cmp, h]
  · simp [Scalar.select, FloatOps.cmpf, h, max_eq_right (not_lt.mp h)]

open Cert.ReluBwdRefIdeal.Read in
theorem arr_eq : (dats m 0 c).arrAt 3 cfg0.N = val_main_v26 (F := Ideal) (m (c.tc.loc main_arg0)) (m (c.tc.loc main_arg1))
    (m (c.tc.loc main_arg2)) (m (c.tc.loc main_arg3)) (m (c.tc.loc main_arg4)) := by
  rw [arr, V_ct, V_w2, V_a]
  funext i
  unfold arrF
  rw [val_main_v26_apply, val_main_v25_apply, val_main_v23_apply, val_main_v22_apply, val_main_v20_apply, val_main_v16_apply]
  simp only [sq, val_main_v14_apply, Ideal.truncf_def, Ideal.mulf_def, Ideal.maximumf_def]
  have h0 : val_main_call0_v0 (F := Ideal) i = (0 : EReal) := Ideal.ofBits_zero_f32
  have h1 : val_main_v15 (F := Ideal) i = (0 : EReal) := Ideal.ofBits_zero_f32
  have h2 : val_main_v24 (F := Ideal) i = (0 : EReal) := Ideal.ofBits_zero_f32
  have h3 : val_main_v19 (F := Ideal) i = Ideal.ofBits .f32 0x40000000#32 := rfl
  rw [h0, h1, h2, h3, sqrt_mul_self _ (le_max_right _ _)]
  have hl : ∀ k, lidx_main_v22 i k = ix2 (i 0) k := fun k => by funext a; fin_cases a <;> rfl
  have hr : ∀ k, ridx_main_v22 i k = ix2 (i 1) k := fun k => by funext a; fin_cases a <;> rfl
  simp only [hl, hr]
  exact choose _ _ _

end Cert.Relu
-- ==== Proof.Delta.lean ====
module

public import proofs.«01_k».proof.Proof.Gen.DeltaBwdIdeal.Value
public import proofs.«01_k».proof.Proof.Gen.DeltaBwdRefIdeal.Read
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.Delta
open Cert.DeltaBwdIdeal Cert.DeltaBwdIdeal.Gen Idealize.ShloMosaic Idealize.ShloMosaic.TcCoe Idealize.SL.Sem

theorem block4 (x0 : Vec Ideal S512x1024 .bf16) (x1 : Vec Ideal S1024x1024 .bf16) (x2 : Vec Ideal S512x1024 .bf16)
    (y : S512x1024.Idx) :
    out0_4 (F := Ideal) x0 x1 x2 y = ∑ k : Fin 1024, x0 (ix2 (y 0) k) * x1 (ix2 (y 1) k) := by
  unfold_out out0_4
  canon_tiles x h
  all_goals
    idx_vars x
    idx_vars y
    unfold_payloads
    pointwise
    obtain rfl : y1 = x1 := Fin.ext h1
    rw [Fin.ext (a := y0) (b := ⟨_, h0.symm.trans_lt y0.isLt⟩) h0]

/-- Column `d` of the head that column `j` lies in. -/
def col (j : Fin 1024) (d : Fin 128) : Fin 1024 := ⟨j.val / 128 * 128 + d.val, by omega⟩

set_option maxHeartbeats 1000000 in
theorem block3 (A : Vec Ideal S512x1024 .bf16) (B : Vec Ideal S1024x1024 .bf16) (O : Vec Ideal S512x1024 .bf16)
    (y : S512x1024.Idx) :
    out0_3 (F := Ideal) A B O y = ∑ d : Fin 128, (∑ k : Fin 1024, A (ix2 (y 0) k) * B (ix2 (col (y 1) d) k))
      * O (ix2 (y 0) (col (y 1) d)) := by
  unfold_out out0_3
  canon_tiles x h
  all_goals
    idx_vars x
    idx_vars y
    unfold_payloads
    pointwise
    obtain rfl : y1 = x1 := Fin.ext h1
    rw [Fin.ext (a := y0) (b := ⟨_, h0.symm.trans_lt y0.isLt⟩) h0]
    repeat' split
    all_goals
      exact Finset.sum_congr rfl fun d _ => congrArg (fun q : Fin 1024 => (∑ k : Fin 1024, A (ix2 _ k) * B (ix2 q k)) * O (ix2 _ q))
        (Fin.ext (by simp only [col]; omega))

theorem idx : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, win0_0.index t = ![t.val, 0] ∧ win0_1.index t = ![0, 0]
    ∧ win0_2.index t = ![t.val, 0] ∧ win0_3.index t = ![t.val, 0] ∧ win0_4.index t = ![t.val, 0])

variable (m : (ℓ : Loc nD τ sig) → Buf (Elt Ideal) ℓ) (c : Dev nD)

/-- The product with the transposed weight. -/
def dout (x0 : Vec Ideal S4096x1024 .bf16) (x1 : Vec Ideal S1024x1024 .bf16) : Vec Ideal S4096x1024 .bf16 := fun i =>
  ∑ k : Fin 1024, x0 (ix2 (i 0) k) * x1 (ix2 (i 1) k)

/-- Each head's row sum, at every column of the head. -/
def rowsum (x0 : Vec Ideal S4096x1024 .bf16) (x1 : Vec Ideal S1024x1024 .bf16) (x2 : Vec Ideal S4096x1024 .bf16) :
    Vec Ideal S4096x1024 .f32 := fun i =>
  ∑ d : Fin 128, (∑ k : Fin 1024, x0 (ix2 (i 0) k) * x1 (ix2 (col (i 1) d) k)) * x2 (ix2 (i 0) (col (i 1) d))

theorem arr4 : (dats m 0 c).arrAt 4 cfg0.N = dout (V m c main_v0) (V m c main_v1) := by
  refine (dats m 0 c).arrAt_eq_of_covers 4 _ (by decide +kernel) fun t hf y => ?_
  blk_simp
  rw [after0_4, block4]
  unfold dout
  obtain ⟨i0, i1, i2, i3, i4⟩ := idx t
  refine Finset.sum_congr (M := EReal) rfl fun k _ => Ideal.mul_congr ?_ ?_
  · blk_ext [iblk, i0, i4]
  · blk_ext [iblk, i1, i4]

theorem arr3 : (dats m 0 c).arrAt 3 cfg0.N = rowsum (V m c main_v0) (V m c main_v1) (V m c main_v2) := by
  refine (dats m 0 c).arrAt_eq_of_covers 3 _ (by decide +kernel) fun t hf y => ?_
  blk_simp
  rw [after0_3, block3]
  unfold rowsum
  obtain ⟨i0, i1, i2, i3, i4⟩ := idx t
  refine Finset.sum_congr (M := EReal) rfl fun d _ => Ideal.mul_congr (Finset.sum_congr rfl fun k _ => Ideal.mul_congr ?_ ?_) ?_
  · blk_ext [iblk, i0, i3]
  · blk_ext [iblk, i1, i3, col]
  · blk_ext [iblk, i2, i3, col]

theorem V_ct : V m c main_v0 = m (c.tc.loc main_arg2) := by
  unfold_abbrev_sides
  after_reads_simp
  rfl

theorem V_w : V m c main_v1 = m (c.tc.loc main_arg1) := by
  unfold_abbrev_sides
  after_reads_simp
  rfl

theorem V_o : V m c main_v2 = m (c.tc.loc main_arg0) := by
  unfold_abbrev_sides
  after_reads_simp
  rfl

open Cert.DeltaBwdRefIdeal.Read

theorem ref_apply (x1 : Vec Ideal S1024x1024 .f32) (x2 : Vec Ideal S4096x1024 .f32) (i : S4096x1024.Idx) :
    val_main_v1 (F := Ideal) x1 x2 i = ∑ k : Fin 1024, x2 (ix2 (i 0) k) * x1 (ix2 (i 1) k) := by
  rw [val_main_v1_apply]
  have hl : ∀ k, lidx_main_v1 i k = ix2 (i 0) k := fun k => by funext a; fin_cases a <;> rfl
  have hr : ∀ k, ridx_main_v1 i k = ix2 (i 1) k := fun k => by funext a; fin_cases a <;> rfl
  simp only [hl, hr]
  rfl

theorem arr4_eq : (dats m 0 c).arrAt 4 cfg0.N = val_main_v8 (F := Ideal) (m (c.tc.loc main_arg1)) (m (c.tc.loc main_arg2)) := by
  rw [arr4, V_ct, V_w]
  funext i
  rw [val_main_v8_apply, ref_apply]
  rfl

theorem arr3_eq : (dats m 0 c).arrAt 3 cfg0.N = val_main_v7 (F := Ideal) (m (c.tc.loc main_arg0)) (m (c.tc.loc main_arg1))
    (m (c.tc.loc main_arg2)) := by
  rw [arr3, V_ct, V_w, V_o]
  funext i
  rw [val_main_v7_apply, val_main_v6_apply, val_main_v5_apply, val_main_v4_apply]
  have h : ∀ d, idx_main_v3 (idx_main_v4 (idx_main_v5 (idx_main_v6 (idx_main_v7 i))) d) = ix2 (i 0) (col (i 1) d) := fun d => by
    have h0 : (i 0).val < 4096 := (i 0).isLt
    have h1 : (i 1).val < 1024 := (i 1).isLt
    have h2 : d.val < 128 := d.isLt
    funext a
    fin_cases a
    · refine Fin.ext ?_
      show ((((i 0).val * 1024 + (i 1).val) / 1024 * 8 + ((i 0).val * 1024 + (i 1).val) / 128 % 8) * 128 + d.val) / 1024 = (i 0).val
      omega
    · refine Fin.ext ?_
      show ((((i 0).val * 1024 + (i 1).val) / 1024 * 8 + ((i 0).val * 1024 + (i 1).val) / 128 % 8) * 128 + d.val) % 1024 = (i 1).val / 128 * 128 + d.val
      omega
  simp only [val_main_v3_apply, h]
  refine Eq.trans ?_ (zero_add (M := EReal) _).symm |>.trans (congrArg (· + _) Ideal.ofBits_zero_f32.symm)
  refine Finset.sum_congr (M := EReal) rfl fun d _ => ?_
  exact (congrArg (· * (m (c.tc.loc main_arg0) : Vec Ideal S4096x1024 .f32) (ix2 (i 0) (col (i 1) d)))
    (ref_apply (m (c.tc.loc main_arg1)) (m (c.tc.loc main_arg2)) (ix2 (i 0) (col (i 1) d)))).symm

end Cert.Delta
-- ==== Proof.Alg.lean ====
module

public import Idealize.ShloMosaic.Lib.Pipeline.ValueKit
public import Idealize.ShloMosaic.Lib.Pointwise
public import Mathlib.Analysis.SpecialFunctions.Trigonometric.DerivHyp

@[expose] public section
noncomputable section
namespace Cert.Alg
open Idealize.ShloMosaic

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

/-- The logistic function by the hyperbolic tangent of half the argument, over the reals. -/
theorem sig_real (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; ring_nf
  have f : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = u at *
  generalize Real.exp (-(1 / 2 * r)) = v at *
  have hv : v = u⁻¹ := by field_simp; linarith
  subst hv
  field_simp
  ring

/-- … and at every extended real. -/
theorem sig (x : EReal) : Ideal.ofBits .f32 0x3F000000#32 * Ideal.tanh (Ideal.ofBits .f32 0x3F000000#32 * x)
    + Ideal.ofBits .f32 0x3F000000#32 = Ideal.logistic x := by
  rw [ofBits_half]
  induction x with
  | bot =>
    rw [EReal.coe_mul_bot_of_pos (by norm_num), Ideal.tanh_bot, Ideal.logistic_bot]
    rw [show (-1 : EReal) = ((-1 : ℝ) : EReal) from by simp, ← EReal.coe_mul, ← EReal.coe_add]
    norm_num
  | top =>
    rw [EReal.coe_mul_top_of_pos (by norm_num), Ideal.tanh_top, Ideal.logistic_top]
    rw [show (1 : EReal) = ((1 : ℝ) : EReal) from by simp, ← EReal.coe_mul, ← EReal.coe_add]
    norm_num
  | coe r =>
    rw [← EReal.coe_mul, Ideal.tanh_coe, Ideal.logistic_coe, ← EReal.coe_mul, ← EReal.coe_add, sig_real]

/-- A nonnegative real factor distributes over a sum of extended reals. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top _), ih]

/-- Division by a real that is not zero is multiplication by its reciprocal. -/
theorem div_coe_eq (x : EReal) (r : ℝ) (hr : r ≠ 0) : Ideal.div x (r : EReal) = ((1 / r : ℝ) : EReal) * x := by
  rw [Ideal.div, if_neg (by exact_mod_cast hr), ← EReal.coe_inv, mul_comm, one_div]

theorem ofBits_neg_half : Ideal.ofBits .f32 0xBF000000#32 = ((-(1 / 2) : ℝ) : EReal) := by
  simp [Ideal.ofBits, Ideal.ieee, -EReal.coe_mul]; norm_num

/-- The small positive number under the root. -/
theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The mean square of a row plus the small number: what the norm's root is taken of. -/
def ms {n : ℕ} (N : EReal) (h : Fin n → EReal) : EReal := Ideal.div (∑ k, h k * h k) N + Ideal.ofBits .f32 0x358637BD#32

/-- The norm's gradient at column `j`, as the kernel writes it: `h` the row, `g` the gradient at the scaled row. -/
def rmsDx {n : ℕ} (N : EReal) (h g : Fin n → EReal) (j : Fin n) : EReal :=
  Ideal.rsqrt (ms N h) * (g j - h j * Ideal.rsqrt (ms N h) * Ideal.div (∑ k, g k * (h k * Ideal.rsqrt (ms N h))) N)

/-- The factor that the reference's gradient puts on the row, twice. -/
def rmsC {n : ℕ} (N : EReal) (h g : Fin n → EReal) : EReal :=
  Ideal.div ((∑ k, h k * g k) * (Ideal.ofBits .f32 0xBF000000#32 * Ideal.div (Ideal.rsqrt (ms N h)) (ms N h))) N

theorem mul_self_nonneg' (x : EReal) : 0 ≤ x * x := by
  rcases le_total 0 x with h | h
  · exact mul_nonneg h h
  · have := mul_nonneg (EReal.neg_nonneg.mpr h) (EReal.neg_nonneg.mpr h)
    simpa using this

/-- A finite sum of reals is the real of the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Either a row is of reals and its mean square too, or the mean square is infinite. -/
theorem ms_cases {n : ℕ} (N : ℝ) (hN : 0 < N) (h : Fin n → EReal) :
    (∃ (v : ℝ) (x : Fin n → ℝ), 0 < v ∧ ms N h = (v : EReal) ∧ ∀ k, h k = (x k : EReal)) ∨ ms N h = ⊤ := by
  obtain ⟨e, he, hb⟩ := ofBits_eps
  by_cases hf : ∀ k, h k ≠ ⊤ ∧ h k ≠ ⊥
  · left
    have hx : ∀ k, h k = ((h k).toReal : EReal) := fun k => (EReal.coe_toReal (hf k).1 (hf k).2).symm
    refine ⟨1 / N * ∑ k, (h k).toReal * (h k).toReal + e, fun k => (h k).toReal, ?_, ?_, hx⟩
    · have : 0 ≤ ∑ k, (h k).toReal * (h k).toReal := Finset.sum_nonneg fun k _ => mul_self_nonneg _
      positivity
    · unfold ms
      rw [hb, div_coe_eq _ _ hN.ne', EReal.coe_add, EReal.coe_mul]
      congr 2
      rw [Finset.sum_congr rfl fun k _ => show h k * h k = (((h k).toReal * (h k).toReal : ℝ) : EReal) from by rw [EReal.coe_mul, ← hx]]
      exact (coe_sum _ _).symm
  · right
    push Not at hf
    obtain ⟨k, hk⟩ := hf
    have hkk : h k * h k = ⊤ := by
      by_cases ht : h k = ⊤
      · rw [ht]; rfl
      · rw [hk ht]; rfl
    have hs : ∑ k, h k * h k = ⊤ := by
      refine top_le_iff.mp ?_
      rw [← hkk]
      exact Finset.single_le_sum (f := fun k => h k * h k) (fun i _ => mul_self_nonneg' _) (Finset.mem_univ k)
    unfold ms
    rw [hs, hb, div_coe_eq _ _ hN.ne', EReal.coe_mul_top_of_pos (by positivity)]
    rfl

/-- A real factor of either sign moves through a difference from it: `r * (a - b * S) = r * a + (-(r * b)) * S`. -/
theorem coe_mul_sub_mul (r b : ℝ) (hr : 0 ≤ r) (a S : EReal) :
    (r : EReal) * (a - (b : EReal) * S) = (r : EReal) * a + ((-(r * b) : ℝ) : EReal) * S := by
  rw [sub_eq_add_neg, EReal.left_distrib_of_nonneg_of_ne_top (by exact_mod_cast hr) (EReal.coe_ne_top _), ← EReal.neg_mul,
    ← EReal.coe_neg, ← mul_assoc, ← EReal.coe_mul, mul_neg]

theorem add_self (x : EReal) : x + x = ((2 : ℝ) : EReal) * x := by
  induction x with
  | bot => rw [EReal.coe_mul_bot_of_pos (by norm_num)]; rfl
  | top => rw [EReal.coe_mul_top_of_pos (by norm_num)]; rfl
  | coe r => rw [← EReal.coe_add, ← EReal.coe_mul, two_mul]

/-- The two forms of the norm's gradient agree at every extended real. -/
theorem rms_dx {n : ℕ} (N : ℝ) (hN : 0 < N) (h g : Fin n → EReal) (j : Fin n) :
    rmsDx N h g j = g j * Ideal.rsqrt (ms N h) + (h j * rmsC N h g + rmsC N h g * h j) := by
  rcases ms_cases N hN h with ⟨v, x, hv, hm, hx⟩ | hm
  · have hs : Ideal.rsqrt (v : EReal) = (((Real.sqrt v)⁻¹ : ℝ) : EReal) := by
      rw [Ideal.rsqrt_coe]; simp [not_lt.mpr hv.le, hv.ne']
    have hpos : 0 < (Real.sqrt v)⁻¹ := inv_pos.mpr (Real.sqrt_pos.mpr hv)
    have hsq : (Real.sqrt v)⁻¹ * (Real.sqrt v)⁻¹ = 1 / v := by rw [← mul_inv, Real.mul_self_sqrt hv.le, one_div]
    unfold rmsDx rmsC
    rw [hm, hs]
    generalize (Real.sqrt v)⁻¹ = r at hpos hsq
    have hS : ∑ k, g k * (h k * (r : EReal)) = (r : EReal) * ∑ k, h k * g k := by
      rw [coe_mul_sum _ _ _ hpos.le]
      exact Finset.sum_congr rfl fun k _ => by rw [← mul_assoc, mul_comm, mul_comm (g k)]
    rw [hS, hx j, ofBits_neg_half, div_coe_eq _ _ hN.ne', div_coe_eq _ _ hN.ne', div_coe_eq _ _ hv.ne']
    generalize ∑ k, h k * g k = S
    rw [mul_comm S]
    simp only [← mul_assoc, ← EReal.coe_mul]
    rw [mul_comm _ (x j : EReal)]
    simp only [← mul_assoc, ← EReal.coe_mul]
    rw [add_self, ← mul_assoc, ← EReal.coe_mul, coe_mul_sub_mul _ _ hpos.le, mul_comm (g j), ← hsq]
    congr 2
    ring_nf
  · have hr : Ideal.rsqrt ⊤ = 0 := rfl
    unfold rmsDx rmsC
    rw [hm, hr]
    simp [Ideal.div, hN.ne']

/-- A normalised element is a real, whatever the row. -/
theorem rms_real {n : ℕ} (N : ℝ) (hN : 0 < N) (h : Fin n → EReal) (j : Fin n) : ∃ r : ℝ, h j * Ideal.rsqrt (ms N h) = (r : EReal) := by
  rcases ms_cases N hN h with ⟨v, x, hv, hm, hx⟩ | hm
  · refine ⟨x j * (Real.sqrt v)⁻¹, ?_⟩
    rw [hm, hx j, Ideal.rsqrt_coe, if_neg (not_lt.mpr hv.le), if_neg hv.ne', EReal.coe_mul]
  · exact ⟨0, by rw [hm, show Ideal.rsqrt ⊤ = 0 from rfl, mul_zero, EReal.coe_zero]⟩

/-- The gradient of `x · logistic x` against a real factor, in its two forms. -/
theorem silu_grad (d : ℝ) (x : EReal) : (d : EReal) * (Ideal.logistic x * (1 + x * (1 - Ideal.logistic x))) =
    (d : EReal) * Ideal.logistic x + x * (d : EReal) * (Ideal.logistic x * (1 - Ideal.logistic x)) := by
  have h1 : (1 : EReal) - 1 = 0 := by rw [← EReal.coe_one, ← EReal.coe_sub, sub_self, EReal.coe_zero]
  induction x with
  | bot => simp [Ideal.logistic_bot]
  | top => simp [Ideal.logistic_top, h1]
  | coe r =>
    rw [Ideal.logistic_coe, ← EReal.coe_one]
    simp only [← EReal.coe_mul, ← EReal.coe_add, ← EReal.coe_sub]
    congr 1
    ring

/-- An element that passes the printed finiteness test is a real. -/
theorem real_of_test (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  have h' : Ideal.cmp .olt (max x (-x)) (Ideal.ofBits .f32 0x7F800000#32) = 1#1 := h
  rw [htop] at h'
  induction x with
  | bot => exact absurd h' (by simp [Ideal.cmp])
  | top => exact absurd h' (by simp [Ideal.cmp])
  | coe r => exact ⟨r, rfl⟩

end Cert.Alg
-- ==== Proof.Loss.lean ====
module

public import proofs.«01_k».proof.Proof.Gen.LossBwdIdeal.Value
public import proofs.«01_k».proof.Proof.Gen.LossBwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.Alg

@[expose] public section
set_option maxRecDepth 16384
noncomputable section
namespace Cert.Loss
open Cert.LossBwdIdeal Cert.LossBwdIdeal.Gen Idealize.ShloMosaic Idealize.ShloMosaic.TcCoe Idealize.SL.Sem

variable (m : (ℓ : Loc nD τ sig) → Buf (Elt Ideal) ℓ) (c : Dev nD)

/-- The gate at column `j`: the logistic function of a row times a column of the weight. -/
def gt (a : Fin 1024 → EReal) (W : Vec Ideal S1024x1024 .bf16) (j : Fin 1024) : EReal := Ideal.logistic (∑ k, a k * W (ix2 k j))

/-- The embedding's product at column `j`; the weight is held in four groups of columns. -/
def pv (p : Fin 256 → EReal) (w : Vec Ideal S4x256x256 .bf16) (j : Fin 1024) : EReal :=
  ∑ k, p k * w (ix3 ⟨j.val / 256, by omega⟩ k ⟨j.val % 256, by omega⟩)

/-- The difference from the target at column `j`. -/
def er (a : Fin 1024 → EReal) (W : Vec Ideal S1024x1024 .bf16) (p : Fin 256 → EReal) (w : Vec Ideal S4x256x256 .bf16) (h t : EReal)
    (j : Fin 1024) : EReal := h + gt a W j * pv p w j - t

/-- The four products side by side. -/
theorem cat4 (p : Fin 256 → EReal) (w : Vec Ideal S4x256x256 .bf16) (j : Fin 1024) :
    (if h : j.val < 256 then ∑ k, p k * w (ix3 0 k ⟨j.val, h⟩)
      else if h : j.val - 256 < 256 then ∑ k, p k * w (ix3 1 k ⟨j.val - 256, h⟩)
      else if h : j.val - 256 - 256 < 256 then ∑ k, p k * w (ix3 2 k ⟨j.val - 256 - 256, h⟩)
      else ∑ k, p k * w (ix3 3 k ⟨j.val - 256 - 256 - 256, by omega⟩)) = pv p w j := by
  unfold pv
  repeat' split
  all_goals
    refine Finset.sum_congr rfl fun k _ => congrArg (p k * ·) (congrArg w ?_)
    refine congrArg₂ (fun a b => ix3 a k b) (Fin.ext ?_) (Fin.ext ?_)
    all_goals
      simp
      omega

variable (X0 : Vec Ideal S512x1024 .bf16) (X1 : Vec Ideal S1024x1024 .bf16) (X2 : Vec Ideal S512x256 .bf16)
  (X3 X4 : Vec Ideal S512x1024 .f32) (X5 : Vec Ideal S4x256x256 .bf16)

/-- The block of the embedding's product. -/
def ppB : Vec Ideal S512x1024 .bf16 := fun y => pv (fun k => X2 (ix2 (y 0) k)) X5 (y 1)
/-- The block of the gate. -/
def gateB : Vec Ideal S512x1024 .bf16 := fun y => gt (fun k => X0 (ix2 (y 0) k)) X1 (y 1)
/-- The block of the difference. -/
def erB (i : Fin 512) (j : Fin 1024) : EReal :=
  er (fun k => X0 (ix2 i k)) X1 (fun k => X2 (ix2 i k)) X5 (X3 (ix2 i j)) (X4 (ix2 i j)) j
/-- The block of the loss's gradient. -/
def dyB : Vec Ideal S512x1024 .f32 := fun y => erB X0 X1 X2 X3 X4 X5 (y 0) (y 1) * Ideal.ofBits .f32 0x3A800000#32
/-- What the block adds to the loss. -/
def lossB : Vec Ideal S1x128 .f32 := fun _ => Ideal.ofBits .f32 0x3A000000#32 *
  ∑ i : Fin 512, ∑ j : Fin 1024, erB X0 X1 X2 X3 X4 X5 i j * erB X0 X1 X2 X3 X4 X5 i j

theorem point_zero (t : Fin cfg0.N) (h0 : t.val % 8 = 0) : ¬ 1 ≤ t.val := by
  have h : t.val < 8 := t.isLt
  omega

/-- The embedding product of a point. -/
theorem outs6 (t : Fin cfg0.N) : (outsAt0 m c t.val t.isLt).1 = ppB (iblk m c 2 t) (iblk m c 5 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    canon_tiles x h
    all_goals
      idx_vars x
      idx_vars y
      unfold_payloads
      pointwise
      obtain rfl : y1 = x1 := Fin.ext h1
      rw [Fin.ext (a := y0) (b := ⟨_, h0.symm.trans_lt y0.isLt⟩) h0]
      exact cat4 _ _ _
/-- The gate of a point. -/
theorem outs7 (t : Fin cfg0.N) : (outsAt0 m c t.val t.isLt).2.1 = gateB (iblk m c 0 t) (iblk m c 1 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    canon_tiles x h
    all_goals
      idx_vars x
      idx_vars y
      unfold_payloads
      pointwise
      obtain rfl : y1 = x1 := Fin.ext h1
      rw [Fin.ext (a := y0) (b := ⟨_, h0.symm.trans_lt y0.isLt⟩) h0]
      exact Alg.sig _
/-- The gradient of a point. -/
theorem outs8 (t : Fin cfg0.N) : (outsAt0 m c t.val t.isLt).2.2.1 = dyB (iblk m c 0 t) (iblk m c 1 t) (iblk m c 2 t) (iblk m c 3 t) (iblk m c 4 t) (iblk m c 5 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    canon_tiles x h
    all_goals
      idx_vars x
      idx_vars y
      unfold_payloads
      pointwise
      obtain rfl : y1 = x1 := Fin.ext h1
      rw [Fin.ext (a := y0) (b := ⟨_, h0.symm.trans_lt y0.isLt⟩) h0]
      rw [Alg.sig]
      erw [cat4]
      rfl

/-- The two halves of a block's rows. -/
theorem sum_halves (f : Fin 512 → EReal) :
    ∑ i : Fin 256, f ⟨i.val, by omega⟩ + ∑ i : Fin 256, f ⟨256 + i.val, by omega⟩ = ∑ i : Fin 512, f i :=
  (Fin.sum_univ_add (a := 256) (b := 256) f).symm

set_option maxHeartbeats 1000000 in
theorem outs9_A (t : Fin cfg0.N) (h0 : t.val % 8 = 0) (y : S1x128.Idx) : (outsAt0 m c t.val t.isLt).2.2.2 y =
    lossB (iblk m c 0 t) (iblk m c 1 t) (iblk m c 2 t) (iblk m c 3 t) (iblk m c 4 t) (iblk m c 5 t) y := by
  rw [outsAt0_A m c t h0 (point_zero t h0)]
  generalize iblk m c 0 t = X0
  generalize iblk m c 1 t = X1
  generalize iblk m c 2 t = X2
  generalize iblk m c 3 t = X3
  generalize iblk m c 4 t = X4
  generalize iblk m c 5 t = X5
  frame_out
  idx_vars y
  unfold_payloads
  pointwise
  simp only [Alg.sig]
  simp only [lossB]
  rw [← sum_halves, Alg.ofBits_inv2048, EReal.left_distrib_of_nonneg_of_ne_top (by norm_num) (EReal.coe_ne_top _)]
  refine congrArg₂ (fun a b => _ * a + _ * b) ?_ ?_
  all_goals
    refine Finset.sum_congr rfl fun i _ => Finset.sum_congr rfl fun j _ => ?_
    erw [cat4]
    rfl

set_option maxHeartbeats 1000000 in
theorem outs9_B (t : Fin cfg0.N) (h0 : ¬ t.val % 8 = 0) (y : S1x128.Idx) : (outsAt0 m c t.val t.isLt).2.2.2 y =
    (outsAt0 m c (t.val - 1) (Nat.lt_of_le_of_lt (Nat.sub_le _ _) t.isLt)).2.2.2 y +
    lossB (iblk m c 0 t) (iblk m c 1 t) (iblk m c 2 t) (iblk m c 3 t) (iblk m c 4 t) (iblk m c 5 t) y := by
  rw [outsAt0_B m c t h0 (by omega)]
  generalize iblk m c 0 t = X0
  generalize iblk m c 1 t = X1
  generalize iblk m c 2 t = X2
  generalize iblk m c 3 t = X3
  generalize iblk m c 4 t = X4
  generalize iblk m c 5 t = X5
  frame_out
  idx_vars y
  unfold_payloads
  pointwise
  simp only [Alg.sig]
  refine congrArg (_ + ·) ?_
  simp only [lossB]
  rw [← sum_halves, Alg.ofBits_inv2048, EReal.left_distrib_of_nonneg_of_ne_top (by norm_num) (EReal.coe_ne_top _)]
  refine congrArg₂ (fun a b => _ * a + _ * b) ?_ ?_
  all_goals
    refine Finset.sum_congr rfl fun i _ => Finset.sum_congr rfl fun j _ => ?_
    erw [cat4]
    rfl

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0, 0] ∧ win0_6.index t = ![t.val, 0]
    ∧ win0_7.index t = ![t.val, 0] ∧ win0_8.index t = ![t.val, 0] ∧ win0_9.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0, 0] ∧ win0_6.index t = ![t.val, 0]
    ∧ win0_7.index t = ![t.val, 0] ∧ win0_8.index t = ![t.val, 0] ∧ win0_9.index t = ![0, 0])

/-- Row `r` of the block of point `t`. -/
def row (t : Fin cfg0.N) (r : Fin 512) : Fin 4096 := ⟨t.val * 512 + r.val, by have h : t.val < 8 := t.isLt; omega⟩

theorem iblk0 (t : Fin cfg0.N) (r : Fin 512) (k : Fin 1024) : iblk m c 0 t (ix2 r k) = V m c main_v13 (ix2 (row t r) k) := by
  obtain ⟨i0, -⟩ := idx t
  blk_ext [iblk, i0, row]

theorem iblk1 (t : Fin cfg0.N) : (iblk m c 1 t : Vec Ideal S1024x1024 .bf16) = V m c main_v17 := by
  obtain ⟨-, i1, -⟩ := idx t
  funext y
  blk_ext [iblk, i1]

theorem iblk2 (t : Fin cfg0.N) (r : Fin 512) (k : Fin 256) : iblk m c 2 t (ix2 r k) = V m c main_v18 (ix2 (row t r) k) := by
  obtain ⟨-, -, i2, -⟩ := idx t
  blk_ext [iblk, i2, row]

theorem iblk3 (t : Fin cfg0.N) (r : Fin 512) (k : Fin 1024) : iblk m c 3 t (ix2 r k) = V m c main_arg0 (ix2 (row t r) k) := by
  obtain ⟨-, -, -, i3, -⟩ := idx t
  blk_ext [iblk, i3, row]

theorem iblk4 (t : Fin cfg0.N) (r : Fin 512) (k : Fin 1024) : iblk m c 4 t (ix2 r k) = V m c main_arg5 (ix2 (row t r) k) := by
  obtain ⟨-, -, -, -, i4, -⟩ := idx t
  blk_ext [iblk, i4, row]

theorem iblk5 (t : Fin cfg0.N) : (iblk m c 5 t : Vec Ideal S4x256x256 .bf16) = V m c main_v16 := by
  obtain ⟨-, -, -, -, -, i5, -⟩ := idx t
  funext y
  blk_ext [iblk, i5]

theorem V_gw : V m c main_v17 = m (c.tc.loc main_arg2) := by
  unfold_abbrev_sides
  after_reads_simp
  rfl

theorem V_p : V m c main_v18 = m (c.tc.loc main_arg3) := by
  unfold_abbrev_sides
  after_reads_simp
  rfl

theorem V_h : V m c main_arg0 = m (c.tc.loc main_arg0) := by
  unfold_abbrev_sides
  after_reads_simp

theorem V_t : V m c main_arg5 = m (c.tc.loc main_arg5) := by
  unfold_abbrev_sides
  after_reads_simp

/-- The weight in four groups of columns. -/
def wT (x : Vec Ideal S256x1024 .f32) : Vec Ideal S4x256x256 .bf16 := fun i =>
  x (ix2 (i 1) ⟨(i 0).val * 256 + (i 2).val, by have h : (i 0).val < 4 := (i 0).isLt; have h : (i 2).val < 256 := (i 2).isLt; omega⟩)

theorem V_w : V m c main_v16 = wT (m (c.tc.loc main_arg4)) := by
  unfold_abbrev_sides
  after_reads_simp
  funext i
  idx_vars i
  pointwise
  rfl

/-- A cast to a narrower format keeps every value. -/
def narrow (x : Vec Ideal S4096x1024 .f32) : Vec Ideal S4096x1024 .bf16 := x

open Cert.LossBwdRefIdeal.Read

theorem V_hn : V m c main_v13 = narrow (val_main_v12 (F := Ideal) (m (c.tc.loc main_arg0)) (m (c.tc.loc main_arg1))) := by
  unfold_abbrev_sides
  after_reads_simp
  rfl

variable (a0 : Vec Ideal S4096x1024 .f32) (a1 : Vec Ideal S1024 .f32) (a2 : Vec Ideal S1024x1024 .f32) (a3 : Vec Ideal S4096x256 .f32)
  (a4 : Vec Ideal S256x1024 .f32) (a5 : Vec Ideal S4096x1024 .f32)

theorem ref_gate (i : S4096x1024.Idx) : val_main_v19 (F := Ideal) a0 a1 a2 i =
    Ideal.logistic (∑ k : Fin 1024, val_main_v12 (F := Ideal) a0 a1 (ix2 (i 0) k) * a2 (ix2 k (i 1))) := by
  rw [val_main_v19_apply, val_main_v17_apply, val_main_v15_apply, val_main_v14_apply, val_main_v13_apply]
  have h16 : val_main_v16 (F := Ideal) i = (1 : EReal) := Ideal.ofBits_one_f32
  have h18 : val_main_v18 (F := Ideal) i = (1 : EReal) := Ideal.ofBits_one_f32
  have hl : ∀ k, lidx_main_v13 i k = ix2 (i 0) k := fun k => by funext a; fin_cases a <;> rfl
  have hr : ∀ k, ridx_main_v13 i k = ix2 k (i 1) := fun k => by funext a; fin_cases a <;> rfl
  simp only [hl, hr, h16, h18]
  rfl

theorem ref_pp (i : S4096x1024.Idx) : val_main_v20 (F := Ideal) a3 a4 i = pv (fun k => a3 (ix2 (i 0) k)) (wT a4) (i 1) := by
  rw [val_main_v20_apply]
  have hl : ∀ k, lidx_main_v20 i k = ix2 (i 0) k := fun k => by funext a; fin_cases a <;> rfl
  have hr : ∀ k, ridx_main_v20 i k = ix2 k (i 1) := fun k => by funext a; fin_cases a <;> rfl
  simp only [hl, hr]
  refine Finset.sum_congr (M := EReal) rfl fun k _ => congrArg (a3 (ix2 (i 0) k) * ·) (congrArg a4 ?_)
  refine congrArg (ix2 k) (Fin.ext ?_)
  show (i 1).val = (i 1).val / 256 * 256 + (i 1).val % 256
  omega

/-- A cast of the gate's weight keeps every value. -/
def narrowW (x : Vec Ideal S1024x1024 .f32) : Vec Ideal S1024x1024 .bf16 := x

/-- The difference from the target, over whole arrays. -/
def erA (i : Fin 4096) (j : Fin 1024) : EReal :=
  er (fun k => val_main_v12 (F := Ideal) a0 a1 (ix2 i k)) (narrowW a2) (fun k => a3 (ix2 i k)) (wT a4) (a0 (ix2 i j)) (a5 (ix2 i j)) j

theorem ref_er (i : S4096x1024.Idx) : val_main_v23 (F := Ideal) a0 a1 a2 a3 a4 a5 i = erA a0 a1 a2 a3 a4 a5 (i 0) (i 1) := by
  rw [val_main_v23_apply, val_main_v22_apply, val_main_v21_apply, ref_gate, ref_pp]
  idx_vars i
  rfl

theorem emb6 (t : Fin cfg0.N) (y : S512x1024.Idx) : ((cfg0.win 6).blk t).view.emb y = ix2 (row t (y 0)) (y 1) := by
  obtain ⟨-, -, -, -, -, -, i6, -⟩ := idx t
  blk_ext [i6, row]

/-- A row of each block, from the arguments. -/
theorem row0 (t : Fin cfg0.N) (r : Fin 512) : (fun k => iblk m c 0 t (ix2 r k) : Fin 1024 → EReal) =
    fun k => val_main_v12 (F := Ideal) (m (c.tc.loc main_arg0)) (m (c.tc.loc main_arg1)) (ix2 (row t r) k) :=
  funext fun k => (iblk0 m c t r k).trans (congrFun (V_hn m c) _)

theorem row2 (t : Fin cfg0.N) (r : Fin 512) : (fun k => iblk m c 2 t (ix2 r k) : Fin 256 → EReal) =
    fun k => (m (c.tc.loc main_arg3) : Vec Ideal S4096x256 .f32) (ix2 (row t r) k) :=
  funext fun k => (iblk2 m c t r k).trans (congrFun (V_p m c) _)

theorem row3 (t : Fin cfg0.N) (r : Fin 512) (k : Fin 1024) : iblk m c 3 t (ix2 r k) =
    (m (c.tc.loc main_arg0) : Vec Ideal S4096x1024 .f32) (ix2 (row t r) k) := (iblk3 m c t r k).trans (congrFun (V_h m c) _)

theorem row4 (t : Fin cfg0.N) (r : Fin 512) (k : Fin 1024) : iblk m c 4 t (ix2 r k) =
    (m (c.tc.loc main_arg5) : Vec Ideal S4096x1024 .f32) (ix2 (row t r) k) := (iblk4 m c t r k).trans (congrFun (V_t m c) _)

/-- A point's products are its rows of the reference's. -/
theorem blk6 (t : Fin cfg0.N) (y : S512x1024.Idx) : ppB (iblk m c 2 t) (iblk m c 5 t) y =
    val_main_v32 (F := Ideal) (m (c.tc.loc main_arg3)) (m (c.tc.loc main_arg4)) (ix2 (row t (y 0)) (y 1)) := by
  rw [iblk5, V_w, val_main_v32_apply, ref_pp]
  exact congrArg (fun f : Fin 256 → EReal => pv f _ (y 1)) (row2 m c t (y 0))

theorem arr6 : (dats m 0 c).arrAt 6 cfg0.N = val_main_v32 (F := Ideal) (m (c.tc.loc main_arg3)) (m (c.tc.loc main_arg4)) := by
  refine (dats m 0 c).arrAt_eq_of_covers 6 _ (by decide +kernel) fun t hf y => ?_
  blk_simp
  rw [after0_6, outs6]
  exact (blk6 m c t y).trans (congrArg _ (emb6 t y).symm)

theorem emb7 (t : Fin cfg0.N) (y : S512x1024.Idx) : ((cfg0.win 7).blk t).view.emb y = ix2 (row t (y 0)) (y 1) := by
  obtain ⟨-, -, -, -, -, -, -, i7, -⟩ := idx t
  blk_ext [i7, row]

/-- A point's gates are its rows of the reference's. -/
theorem blk7 (t : Fin cfg0.N) (y : S512x1024.Idx) : gateB (iblk m c 0 t) (iblk m c 1 t) y =
    val_main_v33 (F := Ideal) (m (c.tc.loc main_arg0)) (m (c.tc.loc main_arg1)) (m (c.tc.loc main_arg2)) (ix2 (row t (y 0)) (y 1)) := by
  rw [iblk1, V_gw, val_main_v33_apply, ref_gate]
  exact congrArg (fun f : Fin 1024 → EReal => gt f _ (y 1)) (row0 m c t (y 0))

theorem arr7 : (dats m 0 c).arrAt 7 cfg0.N =
    val_main_v33 (F := Ideal) (m (c.tc.loc main_arg0)) (m (c.tc.loc main_arg1)) (m (c.tc.loc main_arg2)) := by
  refine (dats m 0 c).arrAt_eq_of_covers 7 _ (by decide +kernel) fun t hf y => ?_
  blk_simp
  rw [after0_7, outs7]
  exact (blk7 m c t y).trans (congrArg _ (emb7 t y).symm)

theorem emb8 (t : Fin cfg0.N) (y : S512x1024.Idx) : ((cfg0.win 8).blk t).view.emb y = ix2 (row t (y 0)) (y 1) := by
  obtain ⟨-, -, -, -, -, -, -, -, i8, -⟩ := idx t
  blk_ext [i8, row]

/-- A point's differences are its rows of the whole array's. -/
theorem blk_er (t : Fin cfg0.N) (i : Fin 512) (j : Fin 1024) :
    erB (iblk m c 0 t) (iblk m c 1 t) (iblk m c 2 t) (iblk m c 3 t) (iblk m c 4 t) (iblk m c 5 t) i j =
    erA (m (c.tc.loc main_arg0)) (m (c.tc.loc main_arg1)) (m (c.tc.loc main_arg2)) (m (c.tc.loc main_arg3)) (m (c.tc.loc main_arg4))
      (m (c.tc.loc main_arg5)) (row t i) j := by
  rw [iblk1, V_gw, iblk5, V_w]
  unfold erB erA
  rw [row0, row2, row3, row4]
  rfl

/-- The factor that the mean and the half leave on twice the difference. -/
theorem factor (x : EReal) : x * Ideal.ofBits .f32 0x3A800000#32 =
    Ideal.div (Ideal.ofBits .f32 0x3F000000#32 * Ideal.ofBits .f32 0x3F800000#32) (Ideal.ofBits .f32 0x44800000#32)
      * (Ideal.ofBits .f32 0x40000000#32 * x) := by
  rw [Alg.ofBits_inv1024, Alg.ofBits_half, Ideal.ofBits_one_f32, Alg.ofBits_1024, Alg.ofBits_two, mul_one,
    Alg.div_coe_eq _ _ (by norm_num), ← mul_assoc, ← EReal.coe_mul, ← EReal.coe_mul, mul_comm]
  norm_num

theorem ref_dy (i : S4096x1024.Idx) : val_main_v39 (F := Ideal) a0 a1 a2 a3 a4 a5 i =
    erA a0 a1 a2 a3 a4 a5 (i 0) (i 1) * Ideal.ofBits .f32 0x3A800000#32 := by
  rw [factor, val_main_v39_apply, val_main_v26_apply, ref_er]
  rfl

/-- A point's gradients are its rows of the reference's. -/
theorem blk8 (t : Fin cfg0.N) (y : S512x1024.Idx) :
    dyB (iblk m c 0 t) (iblk m c 1 t) (iblk m c 2 t) (iblk m c 3 t) (iblk m c 4 t) (iblk m c 5 t) y =
    val_main_v39 (F := Ideal) (m (c.tc.loc main_arg0)) (m (c.tc.loc main_arg1)) (m (c.tc.loc main_arg2)) (m (c.tc.loc main_arg3))
      (m (c.tc.loc main_arg4)) (m (c.tc.loc main_arg5)) (ix2 (row t (y 0)) (y 1)) := by
  rw [ref_dy]
  exact congrArg (· * Ideal.ofBits .f32 0x3A800000#32) (blk_er m c t (y 0) (y 1))

theorem arr8 : (dats m 0 c).arrAt 8 cfg0.N = val_main_v39 (F := Ideal) (m (c.tc.loc main_arg0)) (m (c.tc.loc main_arg1))
    (m (c.tc.loc main_arg2)) (m (c.tc.loc main_arg3)) (m (c.tc.loc main_arg4)) (m (c.tc.loc main_arg5)) := by
  refine (dats m 0 c).arrAt_eq_of_covers 8 _ (by decide +kernel) fun t hf y => ?_
  blk_simp
  rw [after0_8, outs8]
  exact (blk8 m c t y).trans (congrArg _ (emb8 t y).symm)

/-- A row's sum of squared differences. -/
def rowSq (i : Fin 4096) : EReal := ∑ j : Fin 1024, erA a0 a1 a2 a3 a4 a5 i j * erA a0 a1 a2 a3 a4 a5 i j

theorem ref_row (j : S4096.Idx) : val_main_v29 (F := Ideal) a0 a1 a2 a3 a4 a5 j = ((1 / 1024 : ℝ) : EReal) * rowSq a0 a1 a2 a3 a4 a5 (j 0) := by
  rw [val_main_v29_apply, val_main_v27_apply]
  have hz : val_main_cst_5 (F := Ideal) (Shape.Idx.first Cert.LossBwdRefIdeal.Gen.h_S_) = (0 : EReal) := Ideal.ofBits_zero_f32
  have h28 : val_main_v28 (F := Ideal) j = ((1024 : ℝ) : EReal) := Alg.ofBits_1024
  rw [h28, hz, zero_add]
  refine (Alg.div_coe_eq _ _ (by norm_num)).trans (congrArg _ (Finset.sum_congr rfl fun k _ => ?_))
  rw [val_main_v24_apply, ref_er]
  rfl

theorem ref_loss (i : S1x128.Idx) : val_main_v40 (F := Ideal) a0 a1 a2 a3 a4 a5 i = Ideal.ofBits .f32 0x3A000000#32 *
    ∑ i : Fin 4096, rowSq a0 a1 a2 a3 a4 a5 i := by
  rw [val_main_v40_apply, val_main_v31_apply, val_main_v30_apply]
  have hz : val_main_cst_7 (F := Ideal) (Shape.Idx.first Cert.LossBwdRefIdeal.Gen.h_S_) = (0 : EReal) := Ideal.ofBits_zero_f32
  have key : ∑ j : S4096.Idx, val_main_v29 (F := Ideal) a0 a1 a2 a3 a4 a5 j = ((1 / 1024 : ℝ) : EReal) * ∑ i, rowSq a0 a1 a2 a3 a4 a5 i :=
    (Finset.sum_congr rfl fun j _ => ref_row a0 a1 a2 a3 a4 a5 j).trans ((Alg.coe_mul_sum _ _ _ (by norm_num)).symm.trans
      (congrArg _ (Fin.sum_idx1 (![4096]) (rowSq a0 a1 a2 a3 a4 a5))))
  refine (congrArg₂ (fun a b : EReal => Ideal.ofBits .f32 0x3F000000#32 * (a + b)) hz key).trans ?_
  show Ideal.ofBits .f32 0x3F000000#32 * (0 + ((1 / 1024 : ℝ) : EReal) * _) = _
  rw [zero_add, Alg.ofBits_half, Alg.ofBits_inv2048, ← mul_assoc, ← EReal.coe_mul]
  norm_num

theorem lossB_eq (t : Fin cfg0.N) (y : S1x128.Idx) :
    lossB (iblk m c 0 t) (iblk m c 1 t) (iblk m c 2 t) (iblk m c 3 t) (iblk m c 4 t) (iblk m c 5 t) y =
    ((1 / 2048 : ℝ) : EReal) * ∑ i : Fin 512, rowSq (m (c.tc.loc main_arg0)) (m (c.tc.loc main_arg1)) (m (c.tc.loc main_arg2))
      (m (c.tc.loc main_arg3)) (m (c.tc.loc main_arg4)) (m (c.tc.loc main_arg5)) (row t i) := by
  unfold lossB rowSq
  rw [Alg.ofBits_inv2048]
  exact congrArg _ (Finset.sum_congr rfl fun i _ => Finset.sum_congr rfl fun j _ => by rw [blk_er])

theorem arr9 : (dats m 0 c).arrAt 9 cfg0.N = val_main_v40 (F := Ideal) (m (c.tc.loc main_arg0)) (m (c.tc.loc main_arg1))
    (m (c.tc.loc main_arg2)) (m (c.tc.loc main_arg3)) (m (c.tc.loc main_arg4)) (m (c.tc.loc main_arg5)) := by
  refine (dats m 0 c).arrAt_eq_of_covers 9 _ (by decide +kernel) fun t hf y => ?_
  have ht : t.val + 1 = 8 := by
    have h := (flush0_9 t).mp hf
    have h' : t.val < 8 := t.isLt
    omega
  blk_simp
  rw [after0_9, ref_loss]
  refine (Pipeline.eq_sum_fin_of_reset_step_apply_last (fun n h => (outsAt0 m c n h).2.2.2) 8 (fun _ => (0 : EReal)) _
    (fun t h y => (outs9_A m c t h y).trans (zero_add _).symm) (fun t h y => outs9_B m c t h y) (by decide) t ht y).trans ?_
  rw [zero_add, Alg.ofBits_inv2048]
  refine (Finset.sum_congr rfl fun p _ => lossB_eq m c p y).trans ?_
  refine (Alg.coe_mul_sum _ _ _ (by norm_num)).symm.trans (congrArg _ ?_)
  exact Fin.sum_mul_add_fin 8 512 (rowSq (m (c.tc.loc main_arg0)) (m (c.tc.loc main_arg1)) (m (c.tc.loc main_arg2))
      (m (c.tc.loc main_arg3)) (m (c.tc.loc main_arg4)) (m (c.tc.loc main_arg5)))

end Cert.Loss
-- ==== Proof.Norm.lean ====
module

public import proofs.«01_k».proof.Proof.Gen.NormBwdIdeal.Value
public import proofs.«01_k».proof.Proof.Gen.NormBwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.Alg

@[expose] public section
set_option maxRecDepth 16384
noncomputable section
namespace Cert.Norm
open Cert.NormBwdIdeal Cert.NormBwdIdeal.Gen Idealize.ShloMosaic Idealize.ShloMosaic.TcCoe Idealize.SL.Sem

variable (m : (ℓ : Loc nD τ sig) → Buf (Elt Ideal) ℓ) (c : Dev nD)
variable (X0 : Vec Ideal S512x4096 .bf16) (X1 : Vec Ideal S4x1024x1024 .bf16) (X2 X3 : Vec Ideal S512x1024 .f32) (X4 : Vec Ideal S1x1024 .f32)

/-- The product with the weight, in four groups of columns. -/
def dy4 (i : Fin 512) (j : Fin 1024) : EReal :=
  ∑ k : Fin 1024, X0 (ix2 i ⟨k.val, by omega⟩) * X1 (ix3 0 j k) + ∑ k : Fin 1024, X0 (ix2 i ⟨1024 + k.val, by omega⟩) * X1 (ix3 1 j k)
    + ∑ k : Fin 1024, X0 (ix2 i ⟨2048 + k.val, by omega⟩) * X1 (ix3 2 j k) + ∑ k : Fin 1024, X0 (ix2 i ⟨3072 + k.val, by omega⟩) * X1 (ix3 3 j k)
/-- The block of the gradient at the row before the norm. -/
def dxB : Vec Ideal S512x1024 .f32 := fun y => X3 (ix2 (y 0) (y 1)) +
  Alg.rmsDx (Ideal.ofBits .f32 0x44800000#32) (fun k => X2 (ix2 (y 0) k)) (fun j => dy4 X0 X1 (y 0) j * X4 (ix2 0 j)) (y 1)
/-- The same at the narrower format. -/
def dx16 : Vec Ideal S512x1024 .bf16 := dxB X0 X1 X2 X3 X4
/-- One row's part of the gain's gradient at column `j`. -/
def dgR (i : Fin 512) (j : Fin 1024) : EReal :=
  dy4 X0 X1 i j * (X2 (ix2 i j) * Ideal.rsqrt (Alg.ms (Ideal.ofBits .f32 0x44800000#32) fun k => X2 (ix2 i k)))
/-- What the block adds to the gain's gradient. -/
def dgB : Vec Ideal S1x1024 .f32 := fun y => ∑ i : Fin 512, dgR X0 X1 X2 i (y 1)

theorem point_zero (t : Fin cfg0.N) (h0 : t.val % 8 = 0) : ¬ 1 ≤ t.val := by
  have h : t.val < 8 := t.isLt
  omega

/-- The gradient of a point. -/
theorem outs5 (t : Fin cfg0.N) : (outsAt0 m c t.val t.isLt).1 = dxB (iblk m c 0 t) (iblk m c 1 t) (iblk m c 2 t) (iblk m c 3 t) (iblk m c 4 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    frame_out
    funext y
    canon_tiles x h
    all_goals
      idx_vars x
      idx_vars y
      unfold_payloads
      pointwise
      obtain rfl : y1 = x1 := Fin.ext h1
      rw [Fin.ext (a := y0) (b := ⟨_, h0.symm.trans_lt y0.isLt⟩) h0]
      rfl

/-- The narrower gradient of a point. -/
theorem outs6 (t : Fin cfg0.N) : (outsAt0 m c t.val t.isLt).2.1 = dx16 (iblk m c 0 t) (iblk m c 1 t) (iblk m c 2 t) (iblk m c 3 t) (iblk m c 4 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    frame_out
    funext y
    canon_tiles x h
    all_goals
      idx_vars x
      idx_vars y
      unfold_payloads
      pointwise
      obtain rfl : y1 = x1 := Fin.ext h1
      rw [Fin.ext (a := y0) (b := ⟨_, h0.symm.trans_lt y0.isLt⟩) h0]
      rfl

/-- The two halves of a block's rows. -/
theorem sum_halves (f : Fin 512 → EReal) :
    ∑ i : Fin 256, f ⟨i.val, by omega⟩ + ∑ i : Fin 256, f ⟨256 + i.val, by omega⟩ = ∑ i : Fin 512, f i :=
  (Fin.sum_univ_add (a := 256) (b := 256) f).symm

set_option maxHeartbeats 1000000 in
theorem outs7_A (t : Fin cfg0.N) (h0 : t.val % 8 = 0) (y : S1x1024.Idx) : (outsAt0 m c t.val t.isLt).2.2 y =
    dgB (iblk m c 0 t) (iblk m c 1 t) (iblk m c 2 t) y := by
  rw [outsAt0_A m c t h0 (point_zero t h0)]
  generalize iblk m c 0 t = X0
  generalize iblk m c 1 t = X1
  generalize iblk m c 2 t = X2
  generalize iblk m c 3 t = X3
  generalize iblk m c 4 t = X4
  frame_out
  idx_vars y
  unfold_payloads
  pointwise
  exact sum_halves fun i => dgR X0 X1 X2 i y1

set_option maxHeartbeats 1000000 in
theorem outs7_B (t : Fin cfg0.N) (h0 : ¬ t.val % 8 = 0) (y : S1x1024.Idx) : (outsAt0 m c t.val t.isLt).2.2 y =
    (outsAt0 m c (t.val - 1) (Nat.lt_of_le_of_lt (Nat.sub_le _ _) t.isLt)).2.2 y + dgB (iblk m c 0 t) (iblk m c 1 t) (iblk m c 2 t) y := by
  rw [outsAt0_B m c t h0 (by omega)]
  generalize iblk m c 0 t = X0
  generalize iblk m c 1 t = X1
  generalize iblk m c 2 t = X2
  generalize iblk m c 3 t = X3
  generalize iblk m c 4 t = X4
  frame_out
  idx_vars y
  unfold_payloads
  pointwise
  exact congrArg (_ + ·) (sum_halves fun i => dgR X0 X1 X2 i y1)

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0])

/-- Row `r` of the block of point `t`. -/
def row (t : Fin cfg0.N) (r : Fin 512) : Fin 4096 := ⟨t.val * 512 + r.val, by have h : t.val < 8 := t.isLt; omega⟩

theorem V_dz : V m c main_v3 = m (c.tc.loc main_arg4) := by
  unfold_abbrev_sides
  after_reads_simp
  rfl

theorem V_h : V m c main_arg0 = m (c.tc.loc main_arg0) := by
  unfold_abbrev_sides
  after_reads_simp

theorem V_r : V m c main_arg3 = m (c.tc.loc main_arg3) := by
  unfold_abbrev_sides
  after_reads_simp

/-- The weight in four groups of columns. -/
def wT (x : Vec Ideal S1024x4096 .f32) : Vec Ideal S4x1024x1024 .bf16 := fun i =>
  x (ix2 (i 1) ⟨(i 0).val * 1024 + (i 2).val, by have h : (i 0).val < 4 := (i 0).isLt; have h : (i 2).val < 1024 := (i 2).isLt; omega⟩)

theorem V_w : V m c main_v2 = wT (m (c.tc.loc main_arg2)) := by
  unfold_abbrev_sides
  after_reads_simp
  funext i
  idx_vars i
  pointwise
  rfl

/-- The gain as one row. -/
def gT (x : Vec Ideal S1024 .f32) : Vec Ideal S1x1024 .f32 := fun i => x (ix1 (i 1))

theorem V_g : V m c main_v4 = gT (m (c.tc.loc main_arg1)) := by
  unfold_abbrev_sides
  after_reads_simp
  funext i
  idx_vars i
  pointwise
  rfl

theorem row0 (t : Fin cfg0.N) (r : Fin 512) (k : Fin 4096) : iblk m c 0 t (ix2 r k) =
    (m (c.tc.loc main_arg4) : Vec Ideal S4096x4096 .f32) (ix2 (row t r) k) := by
  obtain ⟨i0, -⟩ := idx t
  refine Eq.trans (b := V m c main_v3 (ix2 (row t r) k)) ?_ (congrFun (V_dz m c) _)
  blk_ext [iblk, i0, row]

theorem blk1 (t : Fin cfg0.N) : (iblk m c 1 t : Vec Ideal S4x1024x1024 .bf16) = wT (m (c.tc.loc main_arg2)) := by
  obtain ⟨-, i1, -⟩ := idx t
  refine Eq.trans (b := V m c main_v2) ?_ (V_w m c)
  funext y
  blk_ext [iblk, i1]

theorem row2 (t : Fin cfg0.N) (r : Fin 512) (k : Fin 1024) : iblk m c 2 t (ix2 r k) =
    (m (c.tc.loc main_arg0) : Vec Ideal S4096x1024 .f32) (ix2 (row t r) k) := by
  obtain ⟨-, -, i2, -⟩ := idx t
  refine Eq.trans (b := V m c main_arg0 (ix2 (row t r) k)) ?_ (congrFun (V_h m c) _)
  blk_ext [iblk, i2, row]

theorem row3 (t : Fin cfg0.N) (r : Fin 512) (k : Fin 1024) : iblk m c 3 t (ix2 r k) =
    (m (c.tc.loc main_arg3) : Vec Ideal S4096x1024 .f32) (ix2 (row t r) k) := by
  obtain ⟨-, -, -, i3, -⟩ := idx t
  refine Eq.trans (b := V m c main_arg3 (ix2 (row t r) k)) ?_ (congrFun (V_r m c) _)
  blk_ext [iblk, i3, row]

theorem blk4 (t : Fin cfg0.N) : (iblk m c 4 t : Vec Ideal S1x1024 .f32) = gT (m (c.tc.loc main_arg1)) := by
  obtain ⟨-, -, -, -, i4, -⟩ := idx t
  refine Eq.trans (b := V m c main_v4) ?_ (V_g m c)
  funext y
  blk_ext [iblk, i4]

open Cert.NormBwdRefIdeal.Read
variable (a0 : Vec Ideal S4096x1024 .f32) (a1 : Vec Ideal S1024 .f32) (a2 : Vec Ideal S1024x4096 .f32) (a3 : Vec Ideal S4096x1024 .f32)
  (a4 : Vec Ideal S4096x4096 .f32)

/-- The product with the weight over whole arrays. -/
def dyA (i : Fin 4096) (j : Fin 1024) : EReal := ∑ k : Fin 4096, a4 (ix2 i k) * a2 (ix2 j k)

/-- The four groups are one sum over all columns. -/
theorem dy_eq (X0 : Vec Ideal S512x4096 .bf16) (a2 : Vec Ideal S1024x4096 .f32) (i : Fin 512) (j : Fin 1024) :
    dy4 X0 (wT a2) i j = ∑ k : Fin 4096, X0 (ix2 i k) * a2 (ix2 j k) := by
  have h := Fin.sum_mul_add_fin 4 1024 fun k : Fin 4096 => (X0 (ix2 i k) * a2 (ix2 j k) : EReal)
  rw [Fin.sum_univ_four] at h
  rw [← h]
  unfold dy4 wT
  simp

theorem blk_dy (t : Fin cfg0.N) (i : Fin 512) (j : Fin 1024) : dy4 (iblk m c 0 t) (iblk m c 1 t) i j =
    dyA (m (c.tc.loc main_arg2)) (m (c.tc.loc main_arg4)) (row t i) j := by
  rw [blk1, dy_eq]
  exact Finset.sum_congr (M := EReal) rfl fun k _ => congrArg (· * (m (c.tc.loc main_arg2) : Vec Ideal S1024x4096 .f32) (ix2 j k)) (row0 m c t i k)

theorem cst (i) : val_main_cst (F := Ideal) i = (0 : EReal) := Ideal.ofBits_zero_f32
theorem cst_3 (i) : val_main_cst_3 (F := Ideal) i = (0 : EReal) := Ideal.ofBits_zero_f32
theorem cst_4 (i) : val_main_cst_4 (F := Ideal) i = (0 : EReal) := Ideal.ofBits_zero_f32
theorem cst_5 (i) : val_main_cst_5 (F := Ideal) i = (0 : EReal) := Ideal.ofBits_zero_f32
theorem cst_7 (i) : val_main_cst_7 (F := Ideal) i = (0 : EReal) := Ideal.ofBits_zero_f32

/-- The reference's gradient at an element. -/
theorem ref_dx (i0 : Fin 4096) (i1 : Fin 1024) : val_main_v38 (F := Ideal) a0 a1 a2 a3 a4 (ix2 i0 i1) = a3 (ix2 i0 i1) +
    Alg.rmsDx (Ideal.ofBits .f32 0x44800000#32) (fun k => a0 (ix2 i0 k)) (fun j => dyA a2 a4 i0 j * a1 (ix1 j)) i1 := by
  unfold val_main_v38 val_main_v37 val_main_v36 val_main_v35 val_main_v34 val_main_v33 val_main_v32 val_main_v31 val_main_v30 val_main_v29
    val_main_v28 val_main_v27 val_main_v26 val_main_v25 val_main_v24 val_main_v22 val_main_v21 val_main_v17 val_main_v13 val_main_v10
    val_main_v9 val_main_v8 val_main_v7 val_main_v6 val_main_v5 val_main_v4 val_main_v3 val_main_v2 val_main_v1 val_main_v0
  pointwise
  simp only [cst, cst_5, cst_7, zero_add, Fin.sum_univ_one]
  rw [Alg.ofBits_1024, Alg.rms_dx 1024 (by norm_num), ← Alg.ofBits_1024, ← add_assoc, ← add_assoc]
  rfl

/-- The reference's gradient of the gain at an element. -/
theorem ref_dg (i0 : Fin 1) (i1 : Fin 1024) : val_main_v40 (F := Ideal) a0 a2 a4 (ix2 i0 i1) =
    ∑ i : Fin 4096, dyA a2 a4 i i1 * (a0 (ix2 i i1) * Ideal.rsqrt (Alg.ms (Ideal.ofBits .f32 0x44800000#32) fun k => a0 (ix2 i k))) := by
  unfold val_main_v40 val_main_v23 val_main_v20 val_main_v19 val_main_v18 val_main_v17 val_main_v12 val_main_v11 val_main_v7 val_main_v6
    val_main_v5 val_main_v4 val_main_v3 val_main_v2 val_main_v1 val_main_v0
  pointwise
  simp only [cst, cst_3, cst_4, zero_add, Fin.sum_univ_one]
  exact Finset.sum_congr rfl fun i _ => mul_comm _ _

theorem emb5 (t : Fin cfg0.N) (y : S512x1024.Idx) : ((cfg0.win 5).blk t).view.emb y = ix2 (row t (y 0)) (y 1) := by
  obtain ⟨-, -, -, -, -, i5, -⟩ := idx t
  blk_ext [i5, row]

/-- A point's gradients are its rows of the reference's. -/
theorem dx_ij (t : Fin cfg0.N) (i : Fin 512) (j : Fin 1024) : dxB (iblk m c 0 t) (iblk m c 1 t) (iblk m c 2 t) (iblk m c 3 t) (iblk m c 4 t) (ix2 i j) =
    val_main_v38 (F := Ideal) (m (c.tc.loc main_arg0)) (m (c.tc.loc main_arg1)) (m (c.tc.loc main_arg2)) (m (c.tc.loc main_arg3))
      (m (c.tc.loc main_arg4)) (ix2 (row t i) j) := by
  rw [ref_dx]
  show _ + Alg.rmsDx _ (fun k => iblk m c 2 t (ix2 i k)) (fun j => dy4 (iblk m c 0 t) (iblk m c 1 t) i j * _) j = _
  simp only [blk_dy, blk4]
  rw [show (fun k => iblk m c 2 t (ix2 i k) : Fin 1024 → EReal) = _ from funext fun k => row2 m c t i k]
  exact congrArg (· + _) (row3 m c t i j)

theorem dx_blk (t : Fin cfg0.N) (y : S512x1024.Idx) : dxB (iblk m c 0 t) (iblk m c 1 t) (iblk m c 2 t) (iblk m c 3 t) (iblk m c 4 t) y =
    val_main_v38 (F := Ideal) (m (c.tc.loc main_arg0)) (m (c.tc.loc main_arg1)) (m (c.tc.loc main_arg2)) (m (c.tc.loc main_arg3))
      (m (c.tc.loc main_arg4)) (ix2 (row t (y 0)) (y 1)) := by
  idx_vars y
  exact dx_ij m c t y0 y1

theorem arr5 : (dats m 0 c).arrAt 5 cfg0.N = val_main_v38 (F := Ideal) (m (c.tc.loc main_arg0)) (m (c.tc.loc main_arg1)) (m (c.tc.loc main_arg2)) (m (c.tc.loc main_arg3))
      (m (c.tc.loc main_arg4)) := by
  refine (dats m 0 c).arrAt_eq_of_covers 5 _ (by decide +kernel) fun t hf y => ?_
  blk_simp
  rw [after0_5, outs5]
  exact (dx_blk m c t y).trans (congrArg (val_main_v38 (F := Ideal) (m (c.tc.loc main_arg0)) (m (c.tc.loc main_arg1)) (m (c.tc.loc main_arg2)) (m (c.tc.loc main_arg3))
      (m (c.tc.loc main_arg4))) (emb5 t y).symm)

theorem emb6 (t : Fin cfg0.N) (y : S512x1024.Idx) : ((cfg0.win 6).blk t).view.emb y = ix2 (row t (y 0)) (y 1) := by
  obtain ⟨-, -, -, -, -, -, i6, -⟩ := idx t
  blk_ext [i6, row]

theorem arr6 : (dats m 0 c).arrAt 6 cfg0.N = val_main_v39 (F := Ideal) (m (c.tc.loc main_arg0)) (m (c.tc.loc main_arg1)) (m (c.tc.loc main_arg2)) (m (c.tc.loc main_arg3))
      (m (c.tc.loc main_arg4)) := by
  refine (dats m 0 c).arrAt_eq_of_covers 6 _ (by decide +kernel) fun t hf y => ?_
  blk_simp
  rw [after0_6, outs6]
  exact (dx_blk m c t y).trans (congrArg (val_main_v38 (F := Ideal) (m (c.tc.loc main_arg0)) (m (c.tc.loc main_arg1)) (m (c.tc.loc main_arg2)) (m (c.tc.loc main_arg3))
      (m (c.tc.loc main_arg4))) (emb6 t y).symm)

/-- One row's part of the gain's gradient, over whole arrays. -/
def dgA (j : Fin 1024) (i : Fin 4096) : EReal :=
  dyA a2 a4 i j * (a0 (ix2 i j) * Ideal.rsqrt (Alg.ms (Ideal.ofBits .f32 0x44800000#32) fun k => a0 (ix2 i k)))

theorem dg_ij (t : Fin cfg0.N) (i : Fin 512) (j : Fin 1024) : dgR (iblk m c 0 t) (iblk m c 1 t) (iblk m c 2 t) i j =
    dgA (m (c.tc.loc main_arg0)) (m (c.tc.loc main_arg2)) (m (c.tc.loc main_arg4)) j (row t i) := by
  unfold dgR dgA
  rw [blk_dy, row2 m c t i j, show (fun k => iblk m c 2 t (ix2 i k) : Fin 1024 → EReal) = _ from funext fun k => row2 m c t i k]

theorem dg_blk (t : Fin cfg0.N) (y : S1x1024.Idx) : dgB (iblk m c 0 t) (iblk m c 1 t) (iblk m c 2 t) y =
    ∑ i : Fin 512, dgA (m (c.tc.loc main_arg0)) (m (c.tc.loc main_arg2)) (m (c.tc.loc main_arg4)) (y 1) (row t i) :=
  Finset.sum_congr rfl fun i _ => dg_ij m c t i (y 1)

theorem emb7 (t : Fin cfg0.N) (y : S1x1024.Idx) : ((cfg0.win 7).blk t).view.emb y = ix2 (y 0) (y 1) := by
  obtain ⟨-, -, -, -, -, -, -, i7⟩ := idx t
  blk_ext [i7]

theorem arr7 : (dats m 0 c).arrAt 7 cfg0.N = val_main_v40 (F := Ideal) (m (c.tc.loc main_arg0)) (m (c.tc.loc main_arg2))
    (m (c.tc.loc main_arg4)) := by
  refine (dats m 0 c).arrAt_eq_of_covers 7 _ (by decide +kernel) fun t hf y => ?_
  have ht : t.val + 1 = 8 := by
    have h := (flush0_7 t).mp hf
    have h' : t.val < 8 := t.isLt
    omega
  blk_simp
  rw [after0_7]
  refine Eq.trans ?_ (congrArg (val_main_v40 (F := Ideal) (m (c.tc.loc main_arg0)) (m (c.tc.loc main_arg2))
    (m (c.tc.loc main_arg4))) (emb7 t y).symm)
  refine Eq.trans ?_ (ref_dg (m (c.tc.loc main_arg0)) (m (c.tc.loc main_arg2)) (m (c.tc.loc main_arg4)) (y 0) (y 1)).symm
  refine (Pipeline.eq_sum_fin_of_reset_step_apply_last (fun n h => (outsAt0 m c n h).2.2) 8 (fun _ => (0 : EReal)) _
    (fun t h y => (outs7_A m c t h y).trans (zero_add _).symm) (fun t h y => outs7_B m c t h y) (by decide) t ht y).trans ?_
  rw [zero_add]
  refine (Finset.sum_congr rfl fun p _ => dg_blk m c p y).trans ?_
  exact Fin.sum_mul_add_fin 8 512 (dgA (m (c.tc.loc main_arg0)) (m (c.tc.loc main_arg2)) (m (c.tc.loc main_arg4)) (y 1))

end Cert.Norm
-- ==== Proof.Ple.lean ====
module

public import proofs.«01_k».proof.Proof.Gen.PleBwdIdeal.Value
public import proofs.«01_k».proof.Proof.Gen.PleBwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.Alg

@[expose] public section
set_option maxRecDepth 16384
noncomputable section
namespace Cert.Ple
open Cert.PleBwdIdeal Cert.PleBwdIdeal.Gen Idealize.ShloMosaic Idealize.ShloMosaic.TcCoe Idealize.SL.Sem

variable (m : (ℓ : Loc nD τ sig) → Buf (Elt Ideal) ℓ) (c : Dev nD)
variable (X0 X3 : Vec Ideal S512x1024 .f32) (X1 X2 : Vec Ideal S512x1024 .bf16) (X4 : Vec Ideal S1024x1024 .bf16) (X5 : Vec Ideal S1x1024 .f32)

/-- The block of the gradient at the embedding's product. -/
def dppB : Vec Ideal S512x1024 .bf16 := fun y => X0 y * X1 y
/-- The gradient before the logistic function at an element. -/
def dgl (i : Fin 512) (j : Fin 1024) : EReal := X0 (ix2 i j) * X2 (ix2 i j) * X1 (ix2 i j) * (1 - X1 (ix2 i j))
/-- The block of the gradient before the logistic function. -/
def dglB : Vec Ideal S512x1024 .bf16 := fun y => dgl X0 X1 X2 (y 0) (y 1)
/-- The gradient at the normalised row. -/
def dyB (i : Fin 512) (j : Fin 1024) : EReal := ∑ k : Fin 1024, dgl X0 X1 X2 i k * X4 (ix2 j k)
/-- The block of the gradient at the row before the norm. -/
def dxB : Vec Ideal S512x1024 .f32 := fun y => X0 (ix2 (y 0) (y 1)) +
  Alg.rmsDx (Ideal.ofBits .f32 0x44800000#32) (fun k => X3 (ix2 (y 0) k)) (fun j => dyB X0 X1 X2 X4 (y 0) j * X5 (ix2 0 j)) (y 1)
/-- The same at the narrower format. -/
def dx16 : Vec Ideal S512x1024 .bf16 := dxB X0 X3 X1 X2 X4 X5
/-- One row's part of the gain's gradient at column `j`. -/
def dgR (i : Fin 512) (j : Fin 1024) : EReal :=
  dyB X0 X1 X2 X4 i j * (X3 (ix2 i j) * Ideal.rsqrt (Alg.ms (Ideal.ofBits .f32 0x44800000#32) fun k => X3 (ix2 i k)))
/-- What the block adds to the gain's gradient. -/
def dgB : Vec Ideal S1x1024 .f32 := fun y => ∑ i : Fin 512, dgR X0 X3 X1 X2 X4 i (y 1)

theorem point_zero (t : Fin cfg0.N) (h0 : t.val % 8 = 0) : ¬ 1 ≤ t.val := by
  have h : t.val < 8 := t.isLt
  omega

/-- The gradient at the product of a point. -/
theorem outs6 (t : Fin cfg0.N) : (outsAt0 m c t.val t.isLt).1 = dppB (iblk m c 0 t) (iblk m c 1 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    idx_vars y
    unfold_payloads
    pointwise
    rfl

/-- The gradient before the logistic function of a point. -/
theorem outs7 (t : Fin cfg0.N) : (outsAt0 m c t.val t.isLt).2.1 = dglB (iblk m c 0 t) (iblk m c 1 t) (iblk m c 2 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    idx_vars y
    unfold_payloads
    pointwise
    rfl

/-- The gradient of a point. -/
theorem outs8 (t : Fin cfg0.N) : (outsAt0 m c t.val t.isLt).2.2.1 = dxB (iblk m c 0 t) (iblk m c 3 t) (iblk m c 1 t) (iblk m c 2 t) (iblk m c 4 t) (iblk m c 5 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    idx_vars y
    unfold_payloads
    pointwise
    rfl

/-- The narrower gradient of a point. -/
theorem outs9 (t : Fin cfg0.N) : (outsAt0 m c t.val t.isLt).2.2.2.1 = dx16 (iblk m c 0 t) (iblk m c 3 t) (iblk m c 1 t) (iblk m c 2 t) (iblk m c 4 t) (iblk m c 5 t) := by
  by_cases h0 : t.val % 8 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    frame_out
    funext y
    idx_vars y
    unfold_payloads
    pointwise
    rfl

set_option maxHeartbeats 1000000 in
theorem outs10_A (t : Fin cfg0.N) (h0 : t.val % 8 = 0) (y : S1x1024.Idx) : (outsAt0 m c t.val t.isLt).2.2.2.2 y = dgB (iblk m c 0 t) (iblk m c 3 t) (iblk m c 1 t) (iblk m c 2 t) (iblk m c 4 t) y := by
  rw [outsAt0_A m c t h0 (point_zero t h0)]
  generalize iblk m c 0 t = X0
  generalize iblk m c 1 t = X1
  generalize iblk m c 2 t = X2
  generalize iblk m c 3 t = X3
  generalize iblk m c 4 t = X4
  generalize iblk m c 5 t = X5
  frame_out
  idx_vars y
  unfold_payloads
  pointwise
  rfl

set_option maxHeartbeats 1000000 in
theorem outs10_B (t : Fin cfg0.N) (h0 : ¬ t.val % 8 = 0) (y : S1x1024.Idx) : (outsAt0 m c t.val t.isLt).2.2.2.2 y =
    (outsAt0 m c (t.val - 1) (Nat.lt_of_le_of_lt (Nat.sub_le _ _) t.isLt)).2.2.2.2 y + dgB (iblk m c 0 t) (iblk m c 3 t) (iblk m c 1 t) (iblk m c 2 t) (iblk m c 4 t) y := by
  rw [outsAt0_B m c t h0 (by omega)]
  generalize iblk m c 0 t = X0
  generalize iblk m c 1 t = X1
  generalize iblk m c 2 t = X2
  generalize iblk m c 3 t = X3
  generalize iblk m c 4 t = X4
  generalize iblk m c 5 t = X5
  frame_out
  idx_vars y
  unfold_payloads
  pointwise
  rfl

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![0, 0])

/-- Row `r` of the block of point `t`. -/
def row (t : Fin cfg0.N) (r : Fin 512) : Fin 4096 := ⟨t.val * 512 + r.val, by have h : t.val < 8 := t.isLt; omega⟩

variable (a0 : Vec Ideal S4096x1024 .f32) (a1 : Vec Ideal S1024 .f32) (a2 : Vec Ideal S1024x1024 .f32) (a3 : Vec Ideal S4096x256 .f32)
  (a4 : Vec Ideal S256x1024 .f32) (a5 : Vec Ideal S4096x1024 .f32)

/-- The gate at an element. -/
def gA (i : Fin 4096) (j : Fin 1024) : EReal := Ideal.logistic (∑ k : Fin 1024, a0 (ix2 i k) *
  Ideal.rsqrt (Alg.ms (Ideal.ofBits .f32 0x44800000#32) fun k => a0 (ix2 i k)) * a1 (ix1 k) * a2 (ix2 k j))
/-- The embedding's product at an element. -/
def pA (i : Fin 4096) (j : Fin 1024) : EReal := ∑ k : Fin 256, a3 (ix2 i k) * a4 (ix2 k j)
/-- The gate as an array. -/
def gT : Vec Ideal S4096x1024 .bf16 := fun i => gA a0 a1 a2 (i 0) (i 1)
/-- The product as an array. -/
def pT : Vec Ideal S4096x1024 .bf16 := fun i => pA a3 a4 (i 0) (i 1)
/-- A cast of the gate's weight keeps every value. -/
def wT (x : Vec Ideal S1024x1024 .f32) : Vec Ideal S1024x1024 .bf16 := x
/-- The gain as one row. -/
def nT (x : Vec Ideal S1024 .f32) : Vec Ideal S1x1024 .f32 := fun i => x (ix1 (i 1))

theorem V_ct : V m c main_arg5 = m (c.tc.loc main_arg5) := by
  unfold_abbrev_sides
  after_reads_simp

theorem V_h : V m c main_arg0 = m (c.tc.loc main_arg0) := by
  unfold_abbrev_sides
  after_reads_simp

theorem V_gate : V m c main_v20 = gT (m (c.tc.loc main_arg0)) (m (c.tc.loc main_arg1)) (m (c.tc.loc main_arg2)) := by
  unfold_abbrev_sides
  after_reads_simp
  funext i
  idx_vars i
  pointwise
  rfl

theorem V_pp : V m c main_v22 = pT (m (c.tc.loc main_arg3)) (m (c.tc.loc main_arg4)) := by
  unfold_abbrev_sides
  after_reads_simp
  funext i
  idx_vars i
  pointwise
  rfl

theorem V_w : V m c main_v23 = wT (m (c.tc.loc main_arg2)) := by
  unfold_abbrev_sides
  after_reads_simp
  rfl

theorem V_g : V m c main_v24 = nT (m (c.tc.loc main_arg1)) := by
  unfold_abbrev_sides
  after_reads_simp
  funext i
  idx_vars i
  pointwise
  rfl

theorem row0 (t : Fin cfg0.N) (r : Fin 512) (k : Fin 1024) : iblk m c 0 t (ix2 r k) = (m (c.tc.loc main_arg5) : Vec Ideal S4096x1024 .f32) (ix2 (row t r) k) := by
  obtain ⟨i0, -⟩ := idx t
  refine Eq.trans (b := V m c main_arg5 (ix2 (row t r) k)) ?_ (congrFun (V_ct m c) _)
  blk_ext [iblk, i0, row]

theorem row1 (t : Fin cfg0.N) (r : Fin 512) (k : Fin 1024) : iblk m c 1 t (ix2 r k) = gA (m (c.tc.loc main_arg0)) (m (c.tc.loc main_arg1)) (m (c.tc.loc main_arg2)) (row t r) k := by
  obtain ⟨-, i1, -⟩ := idx t
  refine Eq.trans (b := V m c main_v20 (ix2 (row t r) k)) ?_ (congrFun (V_gate m c) _)
  blk_ext [iblk, i1, row]

theorem row2 (t : Fin cfg0.N) (r : Fin 512) (k : Fin 1024) : iblk m c 2 t (ix2 r k) = pA (m (c.tc.loc main_arg3)) (m (c.tc.loc main_arg4)) (row t r) k := by
  obtain ⟨-, -, i2, -⟩ := idx t
  refine Eq.trans (b := V m c main_v22 (ix2 (row t r) k)) ?_ (congrFun (V_pp m c) _)
  blk_ext [iblk, i2, row]

theorem row3 (t : Fin cfg0.N) (r : Fin 512) (k : Fin 1024) : iblk m c 3 t (ix2 r k) = (m (c.tc.loc main_arg0) : Vec Ideal S4096x1024 .f32) (ix2 (row t r) k) := by
  obtain ⟨-, -, -, i3, -⟩ := idx t
  refine Eq.trans (b := V m c main_arg0 (ix2 (row t r) k)) ?_ (congrFun (V_h m c) _)
  blk_ext [iblk, i3, row]

theorem blk4 (t : Fin cfg0.N) : (iblk m c 4 t : Vec Ideal S1024x1024 .bf16) = wT (m (c.tc.loc main_arg2)) := by
  obtain ⟨-, -, -, -, i4, -⟩ := idx t
  refine Eq.trans (b := V m c main_v23) ?_ (V_w m c)
  funext y
  blk_ext [iblk, i4]

theorem blk5 (t : Fin cfg0.N) : (iblk m c 5 t : Vec Ideal S1x1024 .f32) = nT (m (c.tc.loc main_arg1)) := by
  obtain ⟨-, -, -, -, -, i5, -⟩ := idx t
  refine Eq.trans (b := V m c main_v24) ?_ (V_g m c)
  funext y
  blk_ext [iblk, i5]

open Cert.PleBwdRefIdeal.Read

theorem c_zero (i) : val_main_cst (F := Ideal) i = (0 : EReal) ∧ val_main_cst_6 (F := Ideal) i = (0 : EReal) ∧
    val_main_cst_7 (F := Ideal) i = (0 : EReal) ∧ val_main_cst_8 (F := Ideal) i = (0 : EReal) ∧
    val_main_cst_10 (F := Ideal) i = (0 : EReal) ∧ val_main_cst_11 (F := Ideal) i = (0 : EReal) :=
  ⟨Ideal.ofBits_zero_f32, Ideal.ofBits_zero_f32, Ideal.ofBits_zero_f32, Ideal.ofBits_zero_f32, Ideal.ofBits_zero_f32, Ideal.ofBits_zero_f32⟩
theorem c_one (i) : val_main_cst_3 (F := Ideal) i = (1 : EReal) ∧ val_main_cst_4 (F := Ideal) i = (1 : EReal) ∧
    val_main_cst_5 (F := Ideal) i = (1 : EReal) ∧ val_main_cst_14 (F := Ideal) i = (1 : EReal) ∧
    val_main_cst_15 (F := Ideal) i = (1 : EReal) ∧ val_main_cst_16 (F := Ideal) i = (1 : EReal) :=
  ⟨Ideal.ofBits_one_f32, Ideal.ofBits_one_f32, Ideal.ofBits_one_f32, Ideal.ofBits_one_f32, Ideal.ofBits_one_f32, Ideal.ofBits_one_f32⟩

/-- The gradient before the logistic function, over whole arrays. -/
def dglA (i : Fin 4096) (j : Fin 1024) : EReal := a5 (ix2 i j) * pA a3 a4 i j * gA a0 a1 a2 i j * (1 - gA a0 a1 a2 i j)
/-- The gradient at the normalised row, over whole arrays. -/
def dyA (i : Fin 4096) (j : Fin 1024) : EReal := ∑ k : Fin 1024, dglA a0 a1 a2 a3 a4 a5 i k * a2 (ix2 j k)

/-- The reference's gradient at the product. -/
theorem ref_dpp (i0 : Fin 4096) (i1 : Fin 1024) : val_main_v80 (F := Ideal) a0 a1 a2 a5 (ix2 i0 i1) = a5 (ix2 i0 i1) * gA a0 a1 a2 i0 i1 := by
  unfold val_main_v80 val_main_v74 val_main_v73 val_main_v72 val_main_v71 val_main_v70 val_main_v69 val_main_v67 val_main_v66 val_main_v65
    val_main_v64 val_main_v63 val_main_v62 val_main_v61 val_main_v60 val_main_v59 val_main_v58 val_main_v57 val_main_v56 val_main_v55
    val_main_v54
  pointwise
  simp only [c_zero, c_one, zero_add]
  exact mul_comm _ _

/-- The reference's gradient before the logistic function. -/
theorem ref_dgl (i0 : Fin 4096) (i1 : Fin 1024) : val_main_v82 (F := Ideal) a0 a1 a2 a3 a4 a5 (ix2 i0 i1) = dglA a0 a1 a2 a3 a4 a5 i0 i1 := by
  unfold val_main_v82 val_main_v81 val_main_v77 val_main_v76 val_main_v75 val_main_v74 val_main_v73 val_main_v72 val_main_v71 val_main_v70
    val_main_v69 val_main_v68 val_main_v67 val_main_v66 val_main_v65 val_main_v64 val_main_v63 val_main_v62 val_main_v61 val_main_v60
    val_main_v59 val_main_v58 val_main_v57 val_main_v56 val_main_v55 val_main_v54
  pointwise
  simp only [c_zero, c_one, zero_add]
  exact (mul_assoc _ _ _).symm

/-- The reference's gradient at the normalised row. -/
theorem ref_dy (i0 : Fin 4096) (i1 : Fin 1024) : (∑ k : Fin 1024, a5 (ix2 i0 k) * pA a3 a4 i0 k *
    (gA a0 a1 a2 i0 k * (1 - gA a0 a1 a2 i0 k)) * a2 (ix2 i1 k) : EReal) = dyA a0 a1 a2 a3 a4 a5 i0 i1 :=
  Finset.sum_congr rfl fun k _ => congrArg (· * a2 (ix2 i1 k)) (mul_assoc _ _ _).symm

/-- The reference's gradient at an element. -/
theorem ref_dx (i0 : Fin 4096) (i1 : Fin 1024) : val_main_v53 (F := Ideal) a0 a1 a2 a3 a4 a5 (ix2 i0 i1) = a5 (ix2 i0 i1) +
    Alg.rmsDx (Ideal.ofBits .f32 0x44800000#32) (fun k => a0 (ix2 i0 k)) (fun j => dyA a0 a1 a2 a3 a4 a5 i0 j * a1 (ix1 j)) i1 := by
  unfold val_main_v53 val_main_v52 val_main_v51 val_main_v50 val_main_v49 val_main_v48 val_main_v47 val_main_v46 val_main_v45 val_main_v44
    val_main_v43 val_main_v42 val_main_v41 val_main_v40 val_main_v39 val_main_v37 val_main_v36 val_main_v32 val_main_v31 val_main_v30
    val_main_v29 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7
    val_main_v6 val_main_v5 val_main_v4 val_main_v3 val_main_v2 val_main_v1 val_main_v0
  pointwise
  simp only [c_zero, c_one, zero_add, Fin.sum_univ_one]
  simp only [← ref_dy]
  rw [Alg.ofBits_1024, Alg.rms_dx 1024 (by norm_num), ← Alg.ofBits_1024, ← add_assoc, ← add_assoc]
  rfl

/-- One row's part of the gain's gradient, over whole arrays. -/
def dgA (j : Fin 1024) (i : Fin 4096) : EReal :=
  dyA a0 a1 a2 a3 a4 a5 i j * (a0 (ix2 i j) * Ideal.rsqrt (Alg.ms (Ideal.ofBits .f32 0x44800000#32) fun k => a0 (ix2 i k)))

/-- The reference's gradient of the gain at an element. -/
theorem ref_dg (i0 : Fin 1) (i1 : Fin 1024) : val_main_v86 (F := Ideal) a0 a1 a2 a3 a4 a5 (ix2 i0 i1) =
    ∑ i : Fin 4096, dgA a0 a1 a2 a3 a4 a5 i1 i := by
  unfold val_main_v86 val_main_v38 val_main_v35 val_main_v34 val_main_v33 val_main_v32 val_main_v31 val_main_v30 val_main_v29 val_main_v26
    val_main_v25 val_main_v24 val_main_v23 val_main_v22 val_main_v21 val_main_v20 val_main_v19 val_main_v18 val_main_v17 val_main_v16
    val_main_v15 val_main_v14 val_main_v13 val_main_v12 val_main_v11 val_main_v7 val_main_v6 val_main_v5 val_main_v4 val_main_v3 val_main_v2
    val_main_v1 val_main_v0
  pointwise
  simp only [c_zero, c_one, zero_add, Fin.sum_univ_one]
  simp only [dgA, ← ref_dy]
  exact Finset.sum_congr rfl fun i _ => mul_comm _ _

/-- A point's gradients before the logistic function are its rows of the whole array's. -/
theorem dgl_ij (t : Fin cfg0.N) (i : Fin 512) (j : Fin 1024) : dgl (iblk m c 0 t) (iblk m c 1 t) (iblk m c 2 t) i j = dglA (m (c.tc.loc main_arg0)) (m (c.tc.loc main_arg1)) (m (c.tc.loc main_arg2)) (m (c.tc.loc main_arg3)) (m (c.tc.loc main_arg4)) (m (c.tc.loc main_arg5)) (row t i) j := by
  unfold dgl dglA
  rw [row0, row1, row2]

theorem dy_ij (t : Fin cfg0.N) (i : Fin 512) (j : Fin 1024) : dyB (iblk m c 0 t) (iblk m c 1 t) (iblk m c 2 t) (iblk m c 4 t) i j = dyA (m (c.tc.loc main_arg0)) (m (c.tc.loc main_arg1)) (m (c.tc.loc main_arg2)) (m (c.tc.loc main_arg3)) (m (c.tc.loc main_arg4)) (m (c.tc.loc main_arg5)) (row t i) j := by
  unfold dyB dyA
  simp only [dgl_ij, blk4]
  rfl

theorem dx_ij (t : Fin cfg0.N) (i : Fin 512) (j : Fin 1024) : dxB (iblk m c 0 t) (iblk m c 3 t) (iblk m c 1 t) (iblk m c 2 t) (iblk m c 4 t) (iblk m c 5 t) (ix2 i j) =
    val_main_v53 (F := Ideal) (m (c.tc.loc main_arg0)) (m (c.tc.loc main_arg1)) (m (c.tc.loc main_arg2)) (m (c.tc.loc main_arg3)) (m (c.tc.loc main_arg4)) (m (c.tc.loc main_arg5)) (ix2 (row t i) j) := by
  rw [ref_dx]
  show _ + Alg.rmsDx _ (fun k => iblk m c 3 t (ix2 i k)) (fun j => dyB (iblk m c 0 t) (iblk m c 1 t) (iblk m c 2 t) (iblk m c 4 t) i j * _) j = _
  simp only [dy_ij, blk5]
  rw [show (fun k => iblk m c 3 t (ix2 i k) : Fin 1024 → EReal) = _ from funext fun k => row3 m c t i k]
  exact congrArg (· + _) (row0 m c t i j)

theorem dg_ij (t : Fin cfg0.N) (i : Fin 512) (j : Fin 1024) : dgR (iblk m c 0 t) (iblk m c 3 t) (iblk m c 1 t) (iblk m c 2 t) (iblk m c 4 t) i j = dgA (m (c.tc.loc main_arg0)) (m (c.tc.loc main_arg1)) (m (c.tc.loc main_arg2)) (m (c.tc.loc main_arg3)) (m (c.tc.loc main_arg4)) (m (c.tc.loc main_arg5)) j (row t i) := by
  unfold dgR dgA
  rw [dy_ij, row3 m c t i j, show (fun k => iblk m c 3 t (ix2 i k) : Fin 1024 → EReal) = _ from funext fun k => row3 m c t i k]

theorem dg_blk (t : Fin cfg0.N) (y : S1x1024.Idx) : dgB (iblk m c 0 t) (iblk m c 3 t) (iblk m c 1 t) (iblk m c 2 t) (iblk m c 4 t) y = ∑ i : Fin 512, dgA (m (c.tc.loc main_arg0)) (m (c.tc.loc main_arg1)) (m (c.tc.loc main_arg2)) (m (c.tc.loc main_arg3)) (m (c.tc.loc main_arg4)) (m (c.tc.loc main_arg5)) (y 1) (row t i) :=
  Finset.sum_congr rfl fun i _ => dg_ij m c t i (y 1)

theorem dpp_ij (t : Fin cfg0.N) (i : Fin 512) (j : Fin 1024) : dppB (iblk m c 0 t) (iblk m c 1 t) (ix2 i j) = val_main_v80 (F := Ideal) (m (c.tc.loc main_arg0)) (m (c.tc.loc main_arg1)) (m (c.tc.loc main_arg2)) (m (c.tc.loc main_arg5)) (ix2 (row t i) j) := by
  rw [ref_dpp]
  exact congrArg₂ (fun a b : EReal => a * b) (row0 m c t i j) (row1 m c t i j)

theorem emb6 (t : Fin cfg0.N) (y : S512x1024.Idx) : ((cfg0.win 6).blk t).view.emb y = ix2 (row t (y 0)) (y 1) := by
  obtain ⟨-, -, -, -, -, -, i6, -⟩ := idx t
  blk_ext [i6, row]

theorem at6 (t : Fin cfg0.N) (y : S512x1024.Idx) : dppB (iblk m c 0 t) (iblk m c 1 t) y = val_main_v83 (F := Ideal) (m (c.tc.loc main_arg0)) (m (c.tc.loc main_arg1)) (m (c.tc.loc main_arg2)) (m (c.tc.loc main_arg5)) (ix2 (row t (y 0)) (y 1)) := by
  idx_vars y
  exact dpp_ij m c t y0 y1

theorem arr6 : (dats m 0 c).arrAt 6 cfg0.N = val_main_v83 (F := Ideal) (m (c.tc.loc main_arg0)) (m (c.tc.loc main_arg1)) (m (c.tc.loc main_arg2)) (m (c.tc.loc main_arg5)) := by
  refine (dats m 0 c).arrAt_eq_of_covers 6 _ (by decide +kernel) fun t hf y => ?_
  blk_simp
  rw [after0_6, outs6]
  exact (at6 m c t y).trans (congrArg (val_main_v83 (F := Ideal) (m (c.tc.loc main_arg0)) (m (c.tc.loc main_arg1)) (m (c.tc.loc main_arg2)) (m (c.tc.loc main_arg5))) (emb6 t y).symm)

theorem emb7 (t : Fin cfg0.N) (y : S512x1024.Idx) : ((cfg0.win 7).blk t).view.emb y = ix2 (row t (y 0)) (y 1) := by
  obtain ⟨-, -, -, -, -, -, -, i7, -⟩ := idx t
  blk_ext [i7, row]

theorem at7 (t : Fin cfg0.N) (y : S512x1024.Idx) : dglB (iblk m c 0 t) (iblk m c 1 t) (iblk m c 2 t) y = val_main_v84 (F := Ideal) (m (c.tc.loc main_arg0)) (m (c.tc.loc main_arg1)) (m (c.tc.loc main_arg2)) (m (c.tc.loc main_arg3)) (m (c.tc.loc main_arg4)) (m (c.tc.loc main_arg5)) (ix2 (row t (y 0)) (y 1)) := by
  idx_vars y
  exact (dgl_ij m c t y0 y1).trans (ref_dgl (m (c.tc.loc main_arg0)) (m (c.tc.loc main_arg1)) (m (c.tc.loc main_arg2)) (m (c.tc.loc main_arg3)) (m (c.tc.loc main_arg4)) (m (c.tc.loc main_arg5)) (row t y0) y1).symm

theorem arr7 : (dats m 0 c).arrAt 7 cfg0.N = val_main_v84 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  blk_simp
  rw [after0_7, outs7]
  exact (at7 m c t y).trans (congrArg (val_main_v84 (F := Ideal) (m (c.tc.loc main_arg0)) (m (c.tc.loc main_arg1)) (m (c.tc.loc main_arg2)) (m (c.tc.loc main_arg3)) (m (c.tc.loc main_arg4)) (m (c.tc.loc main_arg5))) (emb7 t y).symm)

theorem emb8 (t : Fin cfg0.N) (y : S512x1024.Idx) : ((cfg0.win 8).blk t).view.emb y = ix2 (row t (y 0)) (y 1) := by
  obtain ⟨-, -, -, -, -, -, -, -, i8, -⟩ := idx t
  blk_ext [i8, row]

theorem at8 (t : Fin cfg0.N) (y : S512x1024.Idx) : dxB (iblk m c 0 t) (iblk m c 3 t) (iblk m c 1 t) (iblk m c 2 t) (iblk m c 4 t) (iblk m c 5 t) y = val_main_v53 (F := Ideal) (m (c.tc.loc main_arg0)) (m (c.tc.loc main_arg1)) (m (c.tc.loc main_arg2)) (m (c.tc.loc main_arg3)) (m (c.tc.loc main_arg4)) (m (c.tc.loc main_arg5)) (ix2 (row t (y 0)) (y 1)) := by
  idx_vars y
  exact dx_ij m c t y0 y1

theorem arr8 : (dats m 0 c).arrAt 8 cfg0.N = val_main_v53 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 8 _ (by decide +kernel) fun t hf y => ?_
  blk_simp
  rw [after0_8, outs8]
  exact (at8 m c t y).trans (congrArg (val_main_v53 (F := Ideal) (m (c.tc.loc main_arg0)) (m (c.tc.loc main_arg1)) (m (c.tc.loc main_arg2)) (m (c.tc.loc main_arg3)) (m (c.tc.loc main_arg4)) (m (c.tc.loc main_arg5))) (emb8 t y).symm)

theorem emb9 (t : Fin cfg0.N) (y : S512x1024.Idx) : ((cfg0.win 9).blk t).view.emb y = ix2 (row t (y 0)) (y 1) := by
  obtain ⟨-, -, -, -, -, -, -, -, -, i9, -⟩ := idx t
  blk_ext [i9, row]

theorem at9 (t : Fin cfg0.N) (y : S512x1024.Idx) : dx16 (iblk m c 0 t) (iblk m c 3 t) (iblk m c 1 t) (iblk m c 2 t) (iblk m c 4 t) (iblk m c 5 t) y = val_main_v85 (F := Ideal) (m (c.tc.loc main_arg0)) (m (c.tc.loc main_arg1)) (m (c.tc.loc main_arg2)) (m (c.tc.loc main_arg3)) (m (c.tc.loc main_arg4)) (m (c.tc.loc main_arg5)) (ix2 (row t (y 0)) (y 1)) := by
  idx_vars y
  exact dx_ij m c t y0 y1

theorem arr9 : (dats m 0 c).arrAt 9 cfg0.N = val_main_v85 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 9 _ (by decide +kernel) fun t hf y => ?_
  blk_simp
  rw [after0_9, outs9]
  exact (at9 m c t y).trans (congrArg (val_main_v85 (F := Ideal) (m (c.tc.loc main_arg0)) (m (c.tc.loc main_arg1)) (m (c.tc.loc main_arg2)) (m (c.tc.loc main_arg3)) (m (c.tc.loc main_arg4)) (m (c.tc.loc main_arg5))) (emb9 t y).symm)

theorem emb10 (t : Fin cfg0.N) (y : S1x1024.Idx) : ((cfg0.win 10).blk t).view.emb y = ix2 (y 0) (y 1) := by
  obtain ⟨-, -, -, -, -, -, -, -, -, -, i10⟩ := idx t
  blk_ext [i10]

theorem arr10 : (dats m 0 c).arrAt 10 cfg0.N = val_main_v86 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 10 _ (by decide +kernel) fun t hf y => ?_
  have ht : t.val + 1 = 8 := by
    have h := (flush0_10 t).mp hf
    have h' : t.val < 8 := t.isLt
    omega
  blk_simp
  rw [after0_10]
  refine Eq.trans ?_ (congrArg (val_main_v86 (F := Ideal) (m (c.tc.loc main_arg0)) (m (c.tc.loc main_arg1)) (m (c.tc.loc main_arg2)) (m (c.tc.loc main_arg3)) (m (c.tc.loc main_arg4)) (m (c.tc.loc main_arg5))) (emb10 t y).symm)
  refine Eq.trans ?_ (ref_dg (m (c.tc.loc main_arg0)) (m (c.tc.loc main_arg1)) (m (c.tc.loc main_arg2)) (m (c.tc.loc main_arg3)) (m (c.tc.loc main_arg4)) (m (c.tc.loc main_arg5)) (y 0) (y 1)).symm
  refine (Pipeline.eq_sum_fin_of_reset_step_apply_last (fun n h => (outsAt0 m c n h).2.2.2.2) 8 (fun _ => (0 : EReal)) _
    (fun t h y => (outs10_A m c t h y).trans (zero_add _).symm) (fun t h y => outs10_B m c t h y) (by decide) t ht y).trans ?_
  rw [zero_add]
  refine (Finset.sum_congr rfl fun p _ => dg_blk m c p y).trans ?_
  exact Fin.sum_mul_add_fin 8 512 (dgA (m (c.tc.loc main_arg0)) (m (c.tc.loc main_arg1)) (m (c.tc.loc main_arg2)) (m (c.tc.loc main_arg3)) (m (c.tc.loc main_arg4)) (m (c.tc.loc main_arg5)) (y 1))

end Cert.Ple
-- ==== Proof.Gate.lean ====
module

public import proofs.«01_k».proof.Proof.Gen.GateBwdIdeal.Value
public import proofs.«01_k».proof.Proof.Gen.GateBwdRefIdeal.Read
public import proofs.«01_k».proof.Proof.Gen.Pre_gate_finite
public import proofs.«01_k».proof.Proof.Gen.On_gate_written
public import Idealize.ShloMosaic.Lib.Pipeline.ValueKit
public import Idealize.ShloMosaic.Lib.Pointwise
public import Idealize.ShloMosaic.Lib.ReduceAll
public import Idealize.ShloMosaic.Lib.StableHlo.RunRead
public import Idealize.ShloMosaic.Lib.Claim
public import proofs.«01_k».proof.Proof.Alg

@[expose] public section
set_option maxRecDepth 16384
noncomputable section
namespace Cert.Gate
open Cert.GateBwdIdeal Cert.GateBwdIdeal.Gen Idealize.ShloMosaic Idealize.ShloMosaic.TcCoe Idealize.SL.Sem

variable (m : (ℓ : Loc nD τ sig) → Buf (Elt Ideal) ℓ) (c : Dev nD)
variable (X0 X2 : Vec Ideal S256x2048 .f32) (X1 : Vec Ideal S256x2048 .bf16) (X3 X4 X5 X6 : Vec Ideal S1x512 .f32)

/-- A column of head `h` among all columns. -/
def col (h : Fin 4) (k : Fin 512) : Fin 2048 := ⟨h.val * 512 + k.val, by omega⟩
/-- A column of the first head. -/
def e0 (k : Fin 512) : Fin 2048 := ⟨k.val, by omega⟩
/-- A column of a later head, from the head's first one on. -/
def ea (o : ℕ) (ho : o ≤ 1536) (k : Fin 512) : Fin 2048 := ⟨o + k.val, by omega⟩

theorem e0_eq : e0 = col 0 := by funext k; exact Fin.ext (by simp [e0, col])
theorem e1_eq (ho) : ea 512 ho = col 1 := by funext k; exact Fin.ext (by simp [ea, col])
theorem e2_eq (ho) : ea 1024 ho = col 2 := by funext k; exact Fin.ext (by simp [ea, col])
theorem e3_eq (ho) : ea 1536 ho = col 3 := by funext k; exact Fin.ext (by simp [ea, col])

/-- The choice of a head by a column. -/
def pick (j : Fin 2048) (f0 f1 f2 f3 : Fin 512 → EReal) : EReal :=
  if h : j.val < 512 then f0 ⟨j.val, h⟩ else if h : j.val - 512 < 512 then f1 ⟨j.val - 512, h⟩
  else if h : j.val - 512 - 512 < 512 then f2 ⟨j.val - 512 - 512, h⟩ else f3 ⟨j.val - 512 - 512 - 512, by omega⟩

/-- What holds on every column of every head holds of the choice. -/
theorem pick_eq (j : Fin 2048) (f : Fin 4 → Fin 512 → EReal) (G : Fin 2048 → EReal) (hG : ∀ h k, f h k = G (col h k)) :
    pick j (f 0) (f 1) (f 2) (f 3) = G j := by
  unfold pick
  split_ifs with h0 h1 h2
  all_goals
    rw [hG]
    congr 1
    apply Fin.ext
    simp [col]
    try omega

/-- The gradient at a head's row before its norm. -/
def dxH (G : Fin 512 → EReal) (e : Fin 512 → Fin 2048) (i : Fin 256) (k : Fin 512) : EReal :=
  Alg.rmsDx (Ideal.ofBits .f32 0x44000000#32) (fun x => X0 (ix2 i (e x)))
    (fun x => X2 (ix2 i (e x)) * (X1 (ix2 i (e x)) * Ideal.logistic (X1 (ix2 i (e x)))) * G x) k
/-- The gradient at a head's gate. -/
def dsH (G : Fin 512 → EReal) (e : Fin 512 → Fin 2048) (i : Fin 256) (k : Fin 512) : EReal :=
  X2 (ix2 i (e k)) * (X0 (ix2 i (e k)) * Ideal.rsqrt (Alg.ms (Ideal.ofBits .f32 0x44000000#32) fun x => X0 (ix2 i (e x))) * G k) *
    (Ideal.logistic (X1 (ix2 i (e k))) * (1 + X1 (ix2 i (e k)) * (1 - Ideal.logistic (X1 (ix2 i (e k))))))
/-- What one row adds to the gradient of a head's gain. -/
def dgH (e : Fin 512 → Fin 2048) (i : Fin 256) (k : Fin 512) : EReal :=
  X2 (ix2 i (e k)) * (X1 (ix2 i (e k)) * Ideal.logistic (X1 (ix2 i (e k)))) *
    (X0 (ix2 i (e k)) * Ideal.rsqrt (Alg.ms (Ideal.ofBits .f32 0x44000000#32) fun x => X0 (ix2 i (e x))))
/-- The block of the gradient at the rows. -/
def dxB : Vec Ideal S256x2048 .bf16 := fun y => pick (y 1) (dxH X0 X2 X1 (fun k => X3 (ix2 0 k)) e0 (y 0))
  (dxH X0 X2 X1 (fun k => X4 (ix2 0 k)) (ea 512 (by decide)) (y 0)) (dxH X0 X2 X1 (fun k => X5 (ix2 0 k)) (ea 1024 (by decide)) (y 0))
  (dxH X0 X2 X1 (fun k => X6 (ix2 0 k)) (ea 1536 (by decide)) (y 0))
/-- The block of the gradient at the gates. -/
def dsB : Vec Ideal S256x2048 .bf16 := fun y => pick (y 1) (dsH X0 X2 X1 (fun k => X3 (ix2 0 k)) e0 (y 0))
  (dsH X0 X2 X1 (fun k => X4 (ix2 0 k)) (ea 512 (by decide)) (y 0)) (dsH X0 X2 X1 (fun k => X5 (ix2 0 k)) (ea 1024 (by decide)) (y 0))
  (dsH X0 X2 X1 (fun k => X6 (ix2 0 k)) (ea 1536 (by decide)) (y 0))
/-- A head's term of the gains' gradient: present in the head's own row only. -/
def sel (h : Fin 4) (b : BitVec 32) (x : EReal) : EReal := Scalar.select (IntOp.cmpi .eq (BitVec.ofNat 32 h.val) b) x 0
/-- What the block adds to the gains' gradient. -/
def dgB : Vec Ideal S4x512 .f32 := fun y => sel (y 0) 0#32 (∑ i : Fin 256, dgH X0 X2 X1 e0 i (y 1)) +
  sel (y 0) 1#32 (∑ i : Fin 256, dgH X0 X2 X1 (ea 512 (by decide)) i (y 1)) + sel (y 0) 2#32 (∑ i : Fin 256, dgH X0 X2 X1 (ea 1024 (by decide)) i (y 1)) +
  sel (y 0) 3#32 (∑ i : Fin 256, dgH X0 X2 X1 (ea 1536 (by decide)) i (y 1))

/-- Only the row's own head counts. -/
theorem dgB_eq (h : Fin 4) (k : Fin 512) : dgB X0 X2 X1 (ix2 h k) = ∑ i : Fin 256, dgH X0 X2 X1 (col h) i k := by
  have s1 (x : EReal) (h : Fin 4) (b) (hb : IntOp.cmpi .eq (BitVec.ofNat 32 h.val) b = 1#1) : sel h b x = x := by
    unfold sel
    rw [hb]
    rfl
  have s0 (x : EReal) (h : Fin 4) (b) (hb : IntOp.cmpi .eq (BitVec.ofNat 32 h.val) b = 0#1) : sel h b x = 0 := by
    unfold sel
    rw [hb]
    rfl
  show sel h 0#32 _ + sel h 1#32 _ + sel h 2#32 _ + sel h 3#32 _ = _
  rw [e0_eq, e1_eq, e2_eq, e3_eq]
  match h with
  | 0 =>
    rw [s1 _ 0 _ (by decide), s0 _ 0 1#32 (by decide), s0 _ 0 2#32 (by decide), s0 _ 0 3#32 (by decide), add_zero, add_zero, add_zero]
    rfl
  | 1 =>
    rw [s0 _ 1 _ (by decide), s1 _ 1 1#32 (by decide), s0 _ 1 2#32 (by decide), s0 _ 1 3#32 (by decide), zero_add, add_zero, add_zero]
    rfl
  | 2 =>
    rw [s0 _ 2 _ (by decide), s0 _ 2 1#32 (by decide), s1 _ 2 2#32 (by decide), s0 _ 2 3#32 (by decide), zero_add, zero_add, add_zero]
    rfl
  | 3 =>
    rw [s0 _ 3 _ (by decide), s0 _ 3 1#32 (by decide), s0 _ 3 2#32 (by decide), s1 _ 3 3#32 (by decide), zero_add, zero_add, zero_add]
    rfl

theorem point_zero (t : Fin cfg0.N) (h0 : t.val % 16 = 0) : ¬ 1 ≤ t.val := by
  have h : t.val < 16 := t.isLt
  omega

/-- The gradient at the rows of a point. -/
theorem outs7 (t : Fin cfg0.N) : (outsAt0 m c t.val t.isLt).1 = dxB (iblk m c 0 t) (iblk m c 2 t) (iblk m c 1 t) (iblk m c 3 t) (iblk m c 4 t) (iblk m c 5 t) (iblk m c 6 t) := by
  by_cases h0 : t.val % 16 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    generalize iblk m c 6 t = X6
    frame_out
    funext y
    idx_vars y
    unfold_payloads
    pointwise
    simp only [Alg.sig]
    rfl

/-- The gradient at the gates of a point. -/
theorem outs8 (t : Fin cfg0.N) : (outsAt0 m c t.val t.isLt).2.1 = dsB (iblk m c 0 t) (iblk m c 2 t) (iblk m c 1 t) (iblk m c 3 t) (iblk m c 4 t) (iblk m c 5 t) (iblk m c 6 t) := by
  by_cases h0 : t.val % 16 = 0
  on_goal 1 => rw [outsAt0_A m c t h0 (point_zero t h0)]
  on_goal 2 => rw [outsAt0_B m c t h0 (by omega)]
  all_goals
    generalize iblk m c 0 t = X0
    generalize iblk m c 1 t = X1
    generalize iblk m c 2 t = X2
    generalize iblk m c 3 t = X3
    generalize iblk m c 4 t = X4
    generalize iblk m c 5 t = X5
    generalize iblk m c 6 t = X6
    frame_out
    funext y
    idx_vars y
    unfold_payloads
    pointwise
    simp only [Alg.sig]
    rfl

set_option maxHeartbeats 1000000 in
theorem outs9_A (t : Fin cfg0.N) (h0 : t.val % 16 = 0) (y : S4x512.Idx) : (outsAt0 m c t.val t.isLt).2.2 y = dgB (iblk m c 0 t) (iblk m c 2 t) (iblk m c 1 t) y := by
  rw [outsAt0_A m c t h0 (point_zero t h0)]
  generalize iblk m c 0 t = X0
  generalize iblk m c 1 t = X1
  generalize iblk m c 2 t = X2
  generalize iblk m c 3 t = X3
  generalize iblk m c 4 t = X4
  generalize iblk m c 5 t = X5
  generalize iblk m c 6 t = X6
  frame_out
  idx_vars y
  unfold_payloads
  pointwise
  simp only [Alg.sig]
  rfl

set_option maxHeartbeats 1000000 in
theorem outs9_B (t : Fin cfg0.N) (h0 : ¬ t.val % 16 = 0) (y : S4x512.Idx) : (outsAt0 m c t.val t.isLt).2.2 y =
    (outsAt0 m c (t.val - 1) (Nat.lt_of_le_of_lt (Nat.sub_le _ _) t.isLt)).2.2 y + dgB (iblk m c 0 t) (iblk m c 2 t) (iblk m c 1 t) y := by
  rw [outsAt0_B m c t h0 (by omega)]
  generalize iblk m c 0 t = X0
  generalize iblk m c 1 t = X1
  generalize iblk m c 2 t = X2
  generalize iblk m c 3 t = X3
  generalize iblk m c 4 t = X4
  generalize iblk m c 5 t = X5
  generalize iblk m c 6 t = X6
  frame_out
  idx_vars y
  unfold_payloads
  pointwise
  simp only [Alg.sig]
  rfl

variable (a0 a3 : Vec Ideal S4096x2048 .f32) (a1 : Vec Ideal S4096x6144 .f32) (a2 : Vec Ideal S4x512 .f32)

open Cert.GateBwdRefIdeal.Read

theorem c_zero (i) : val_main_cst (F := Ideal) i = (0 : EReal) ∧ val_main_cst_3 (F := Ideal) i = (0 : EReal) ∧
    val_main_cst_4 (F := Ideal) i = (0 : EReal) ∧ val_main_cst_5 (F := Ideal) i = (0 : EReal) ∧ val_main_cst_7 (F := Ideal) i = (0 : EReal) :=
  ⟨Ideal.ofBits_zero_f32, Ideal.ofBits_zero_f32, Ideal.ofBits_zero_f32, Ideal.ofBits_zero_f32, Ideal.ofBits_zero_f32⟩
theorem c_one (i) : val_main_call0_cst (F := Ideal) i = (1 : EReal) ∧ val_main_call0_cst_0 (F := Ideal) i = (1 : EReal) ∧
    val_main_call0_cst_1 (F := Ideal) i = (1 : EReal) :=
  ⟨Ideal.ofBits_one_f32, Ideal.ofBits_one_f32, Ideal.ofBits_one_f32⟩

theorem col_div (h : Fin 4) (k : Fin 512) (p) : (⟨(col h k).val / 512, p⟩ : Fin 4) = h := Fin.ext (by simp only [col]; omega)
theorem col_mod (h : Fin 4) (k : Fin 512) (p) : (⟨(col h k).val % 512, p⟩ : Fin 512) = k := Fin.ext (by simp only [col]; omega)

theorem col_self (j : Fin 2048) (p q) : col ⟨j.val / 512, p⟩ ⟨j.val % 512, q⟩ = j := Fin.ext (by simp only [col]; omega)

/-- The gate's column beside a column of the rows. -/
def gcol (j : Fin 2048) : Fin 6144 := ⟨4096 + j.val, by omega⟩

/-- The reference's gradient at a head's row. -/
theorem ref_dx (i : Fin 4096) (h : Fin 4) (k : Fin 512) : val_main_v43 (F := Ideal) a0 a1 a2 a3 (ix3 i h k) =
    Alg.rmsDx (Ideal.ofBits .f32 0x44000000#32) (fun x => a0 (ix2 i (col h x)))
      (fun x => a1 (ix2 i (gcol (col h x))) * Ideal.logistic (a1 (ix2 i (gcol (col h x)))) * a3 (ix2 i (col h x)) * a2 (ix2 h x)) k := by
  unfold val_main_v43 val_main_v41 val_main_v34 val_main_v33 val_main_v40 val_main_v42 val_main_v39 val_main_v38 val_main_v37
    val_main_v35 val_main_v32 val_main_v31 val_main_v30 val_main_v28 val_main_v23 val_main_v21 val_main_v1_0 val_main_v1_2
    val_main_call0_v3 val_main_call0_v1 val_main_call0_v0 val_main_v0 val_main_call0_v2 val_main_call0_v4 val_main_v27 val_main_v16
    val_main_v13 val_main_v11 val_main_v10 val_main_v9 val_main_v7 val_main_v6 val_main_v5 val_main_v4 val_main_v3 val_main_v8
    val_main_v12 val_main_v36 val_main_v2
  pointwise
  simp only [c_zero, c_one, zero_add, Fin.sum_univ_one]
  rw [Alg.ofBits_512, Alg.rms_dx 512 (by norm_num), ← Alg.ofBits_512]
  exact add_assoc (G := EReal) _ _ _

/-- The gate's second factor. -/
def sg (i : Fin 4096) (j : Fin 2048) : EReal := Ideal.logistic (a1 (ix2 i (gcol j)))
/-- The row's normalised element, times the gain. -/
def nr (h : Fin 4) (i : Fin 4096) (k : Fin 512) : EReal := a0 (ix2 i (col h k)) *
  Ideal.rsqrt (Alg.ms (Ideal.ofBits .f32 0x44000000#32) fun x => a0 (ix2 i (col h x)))

/-- The gradient at the gate, as the reference has it. -/
def dsR (i : Fin 4096) (j : Fin 2048) (n : EReal) : EReal := a3 (ix2 i j) * n * sg a1 i j +
  a1 (ix2 i (gcol j)) * (a3 (ix2 i j) * n) * (sg a1 i j * (1 - sg a1 i j))

/-- The reference's gradient at the projections' last third. -/
theorem ref_ds (i : Fin 4096) (j : Fin 2048) : val_main_v45 (F := Ideal) a0 a1 a2 a3 (ix2 i j) =
    dsR a3 a1 i j (nr a0 ⟨j.val / 512, by omega⟩ i ⟨j.val % 512, by omega⟩ * a2 (ix2 ⟨j.val / 512, by omega⟩ ⟨j.val % 512, by omega⟩)) := by
  unfold val_main_v45 val_main_call1_v1 val_main_call1_v2 val_main_call1_v0 val_main_v1_1 val_main_call0_v7 val_main_call0_v6
    val_main_v1_2 val_main_call0_v3 val_main_call0_v1 val_main_call0_v0 val_main_call0_v2
  pointwise
  unfold val_main_v22 val_main_v19 val_main_v18 val_main_v15 val_main_v14 val_main_v10 val_main_v9 val_main_v7 val_main_v6
    val_main_v5 val_main_v4 val_main_v3 val_main_v8 val_main_v2 val_main_v17 val_main_v16 val_main_v0 val_main_call0_v4
  pointwise
  simp only [c_zero, c_one, zero_add]
  unfold dsR nr
  rw [col_self]
  rfl

/-- The reference's gradient of the gains. -/
theorem ref_dg (h : Fin 4) (k : Fin 512) : val_main_v29 (F := Ideal) a0 a1 a3 (ix2 h k) =
    ∑ i : Fin 4096, nr a0 h i k * (a1 (ix2 i (gcol (col h k))) * Ideal.logistic (a1 (ix2 i (gcol (col h k)))) * a3 (ix2 i (col h k))) := by
  unfold val_main_v29 val_main_v26 val_main_v25 val_main_v24 val_main_v23 val_main_v21 val_main_v1_0 val_main_v1_2 val_main_call0_v3
    val_main_call0_v1 val_main_call0_v0 val_main_v0 val_main_call0_v2 val_main_call0_v4 val_main_v15 val_main_v14 val_main_v10
    val_main_v9 val_main_v7 val_main_v6 val_main_v5 val_main_v4 val_main_v3 val_main_v8 val_main_v2
  pointwise
  simp only [c_zero, c_one, zero_add, Fin.sum_univ_one]
  rfl

theorem idx : ∀ t : Fin cfg0.N, win0_0.index t = ![t.val, 0] ∧ win0_1.index t = ![t.val, 2] ∧ win0_2.index t = ![t.val, 0] ∧
    win0_3.index t = ![0, 0] ∧ win0_4.index t = ![0, 0] ∧ win0_5.index t = ![0, 0] ∧ win0_6.index t = ![0, 0] ∧
    win0_7.index t = ![t.val, 0] ∧ win0_8.index t = ![t.val, 2] ∧ win0_9.index t = ![0, 0] :=
  (by decide +kernel : ∀ t : Fin grid0.N, win0_0.index t = ![t.val, 0] ∧ win0_1.index t = ![t.val, 2] ∧ win0_2.index t = ![t.val, 0] ∧
    win0_3.index t = ![0, 0] ∧ win0_4.index t = ![0, 0] ∧ win0_5.index t = ![0, 0] ∧ win0_6.index t = ![0, 0] ∧
    win0_7.index t = ![t.val, 0] ∧ win0_8.index t = ![t.val, 2] ∧ win0_9.index t = ![0, 0])

/-- Row `r` of the block of point `t`. -/
def row (t : Fin cfg0.N) (r : Fin 256) : Fin 4096 := ⟨t.val * 256 + r.val, by have h : t.val < 16 := t.isLt; omega⟩

/-- The arrays that the launch reads, of the arguments: a cast of the projections keeps every value. -/
def pT (x : Vec Ideal S4096x6144 .f32) : Vec Ideal S4096x6144 .bf16 := x

theorem V_out : V m c main_arg0 = m (c.tc.loc main_arg0) := by
  unfold_abbrev_sides
  after_reads_simp

theorem V_dy : V m c main_arg3 = m (c.tc.loc main_arg3) := by
  unfold_abbrev_sides
  after_reads_simp

theorem V_proj : V m c main_v0 = pT (m (c.tc.loc main_arg1)) := by
  unfold_abbrev_sides
  after_reads_simp
  rfl

/-- One head's gain as a row. -/
def gT (h : Fin 4) (x : Vec Ideal S4x512 .f32) : Vec Ideal S1x512 .f32 := fun y => x (ix2 h (y 1))

theorem V_g0 : V m c main_v1 = gT 0 (m (c.tc.loc main_arg2)) := by
  unfold_abbrev_sides
  after_reads_simp
  funext i
  idx_vars i
  pointwise
  rfl

theorem V_g1 : V m c main_v2 = gT 1 (m (c.tc.loc main_arg2)) := by
  unfold_abbrev_sides
  after_reads_simp
  funext i
  idx_vars i
  pointwise
  rfl

theorem V_g2 : V m c main_v3 = gT 2 (m (c.tc.loc main_arg2)) := by
  unfold_abbrev_sides
  after_reads_simp
  funext i
  idx_vars i
  pointwise
  rfl

theorem V_g3 : V m c main_v4 = gT 3 (m (c.tc.loc main_arg2)) := by
  unfold_abbrev_sides
  after_reads_simp
  funext i
  idx_vars i
  pointwise
  rfl

theorem row0 (t : Fin cfg0.N) (r : Fin 256) (k : Fin 2048) : iblk m c 0 t (ix2 r k) = (m (c.tc.loc main_arg0) : Vec Ideal S4096x2048 .f32) (ix2 (row t r) k) := by
  obtain ⟨i0, -⟩ := idx t
  refine Eq.trans (b := V m c main_arg0 (ix2 (row t r) k)) ?_ (congrFun (V_out m c) _)
  blk_ext [iblk, i0, row]

theorem row1 (t : Fin cfg0.N) (r : Fin 256) (k : Fin 2048) : iblk m c 1 t (ix2 r k) = (m (c.tc.loc main_arg1) : Vec Ideal S4096x6144 .f32) (ix2 (row t r) (gcol k)) := by
  obtain ⟨-, i1, -⟩ := idx t
  refine Eq.trans (b := V m c main_v0 (ix2 (row t r) (gcol k))) ?_ (congrFun (V_proj m c) _)
  blk_ext [iblk, i1, row, gcol]

theorem row2 (t : Fin cfg0.N) (r : Fin 256) (k : Fin 2048) : iblk m c 2 t (ix2 r k) = (m (c.tc.loc main_arg3) : Vec Ideal S4096x2048 .f32) (ix2 (row t r) k) := by
  obtain ⟨-, -, i2, -⟩ := idx t
  refine Eq.trans (b := V m c main_arg3 (ix2 (row t r) k)) ?_ (congrFun (V_dy m c) _)
  blk_ext [iblk, i2, row]

theorem blk3 (t : Fin cfg0.N) : (iblk m c 3 t : Vec Ideal S1x512 .f32) = gT 0 (m (c.tc.loc main_arg2)) := by
  obtain ⟨-, -, -, i, -⟩ := idx t
  refine Eq.trans (b := V m c main_v1) ?_ (V_g0 m c)
  funext y
  blk_ext [iblk, i]

theorem blk4 (t : Fin cfg0.N) : (iblk m c 4 t : Vec Ideal S1x512 .f32) = gT 1 (m (c.tc.loc main_arg2)) := by
  obtain ⟨-, -, -, -, i, -⟩ := idx t
  refine Eq.trans (b := V m c main_v2) ?_ (V_g1 m c)
  funext y
  blk_ext [iblk, i]

theorem blk5 (t : Fin cfg0.N) : (iblk m c 5 t : Vec Ideal S1x512 .f32) = gT 2 (m (c.tc.loc main_arg2)) := by
  obtain ⟨-, -, -, -, -, i, -⟩ := idx t
  refine Eq.trans (b := V m c main_v3) ?_ (V_g2 m c)
  funext y
  blk_ext [iblk, i]

theorem blk6 (t : Fin cfg0.N) : (iblk m c 6 t : Vec Ideal S1x512 .f32) = gT 3 (m (c.tc.loc main_arg2)) := by
  obtain ⟨-, -, -, -, -, -, i, -⟩ := idx t
  refine Eq.trans (b := V m c main_v4) ?_ (V_g3 m c)
  funext y
  blk_ext [iblk, i]

/-- A head's gradient at the row, over whole arrays. -/
def dxA (h : Fin 4) (i : Fin 4096) (k : Fin 512) : EReal := val_main_v43 (F := Ideal) a0 a1 a2 a3 (ix3 i h k)

theorem dx_ij (t : Fin cfg0.N) (h : Fin 4) (i : Fin 256) (k : Fin 512) : dxH (iblk m c 0 t) (iblk m c 2 t) (iblk m c 1 t)
    (fun x => gT h (m (c.tc.loc main_arg2)) (ix2 0 x)) (col h) i k =
    dxA (m (c.tc.loc main_arg0)) (m (c.tc.loc main_arg3)) (m (c.tc.loc main_arg1)) (m (c.tc.loc main_arg2)) h (row t i) k := by
  unfold dxH dxA
  rw [ref_dx]
  simp only [row0 m c t i, row1 m c t i, row2 m c t i]
  congr 1
  funext x
  exact congrArg (fun a : EReal => a * (m (c.tc.loc main_arg2) : Vec Ideal S4x512 .f32) (ix2 h x)) (mul_comm (G := EReal) _ _)

/-- A block of the gradient at the rows is its part of the whole array's. -/
theorem dx_at (t : Fin cfg0.N) (i : Fin 256) (j : Fin 2048) : dxB (iblk m c 0 t) (iblk m c 2 t) (iblk m c 1 t) (iblk m c 3 t) (iblk m c 4 t) (iblk m c 5 t) (iblk m c 6 t) (ix2 i j) =
    val_main_v46 (F := Ideal) (m (c.tc.loc main_arg0)) (m (c.tc.loc main_arg1)) (m (c.tc.loc main_arg2)) (m (c.tc.loc main_arg3)) (ix2 (row t i) j) := by
  have hv : val_main_v46 (F := Ideal) (m (c.tc.loc main_arg0)) (m (c.tc.loc main_arg1)) (m (c.tc.loc main_arg2)) (m (c.tc.loc main_arg3)) (ix2 (row t i) j) =
      dxA (m (c.tc.loc main_arg0)) (m (c.tc.loc main_arg3)) (m (c.tc.loc main_arg1)) (m (c.tc.loc main_arg2)) ⟨j.val / 512, by omega⟩ (row t i) ⟨j.val % 512, by omega⟩ := by
    unfold val_main_v46 val_main_v44
    pointwise
    rfl
  rw [hv]
  refine Eq.trans ?_ (pick_eq j (fun h k => dxA (m (c.tc.loc main_arg0)) (m (c.tc.loc main_arg3)) (m (c.tc.loc main_arg1)) (m (c.tc.loc main_arg2)) h (row t i) k)
    (fun j => dxA (m (c.tc.loc main_arg0)) (m (c.tc.loc main_arg3)) (m (c.tc.loc main_arg1)) (m (c.tc.loc main_arg2)) ⟨j.val / 512, by omega⟩ (row t i) ⟨j.val % 512, by omega⟩) ?_)
  · show pick j _ _ _ _ = _
    rw [blk3, blk4, blk5, blk6, e0_eq, e1_eq, e2_eq, e3_eq]
    congr 1 <;> exact funext fun k => dx_ij m c t _ i k
  · exact fun h k => by rw [col_div, col_mod]

theorem emb7 (t : Fin cfg0.N) (y : S256x2048.Idx) : ((cfg0.win 7).blk t).view.emb y = ix2 (row t (y 0)) (y 1) := by
  obtain ⟨-, -, -, -, -, -, -, i7, -⟩ := idx t
  blk_ext [i7, row]

theorem at7 (t : Fin cfg0.N) (y : S256x2048.Idx) : dxB (iblk m c 0 t) (iblk m c 2 t) (iblk m c 1 t) (iblk m c 3 t) (iblk m c 4 t) (iblk m c 5 t) (iblk m c 6 t) y =
    val_main_v46 (F := Ideal) (m (c.tc.loc main_arg0)) (m (c.tc.loc main_arg1)) (m (c.tc.loc main_arg2)) (m (c.tc.loc main_arg3)) (ix2 (row t (y 0)) (y 1)) := by
  idx_vars y
  exact dx_at m c t y0 y1

theorem arr7 : (dats m 0 c).arrAt 7 cfg0.N = val_main_v46 (F := Ideal) (m (c.tc.loc main_arg0)) (m (c.tc.loc main_arg1)) (m (c.tc.loc main_arg2)) (m (c.tc.loc main_arg3)) := by
  refine (dats m 0 c).arrAt_eq_of_covers 7 _ (by decide +kernel) fun t hf y => ?_
  blk_simp
  rw [after0_7, outs7]
  exact (at7 m c t y).trans (congrArg (val_main_v46 (F := Ideal) (m (c.tc.loc main_arg0)) (m (c.tc.loc main_arg1)) (m (c.tc.loc main_arg2)) (m (c.tc.loc main_arg3))) (emb7 t y).symm)

/-- What the precondition says of the gains and of the cotangent. -/
theorem real_of_pre (h : Cert.Pre_gate_finite.fn (F := Ideal) a0 a1 a2 a3 = fun _ => 1#1) :
    (∀ i, ∃ r : ℝ, a2 i = (r : EReal)) ∧ (∀ i, ∃ r : ℝ, a3 i = (r : EReal)) := by
  have h0 := congrFun h ix0
  simp only [Cert.Pre_gate_finite.fn] at h0
  obtain ⟨p, q⟩ := IntOp.andi_eq_one.1 h0
  exact ⟨fun i => Alg.real_of_test _ (Host.reduce_andi_all _ _ _ _ _ p i), fun i => Alg.real_of_test _ (Host.reduce_andi_all _ _ _ _ _ q i)⟩

theorem ds_alg (n g d x : EReal) (hn : ∃ r : ℝ, n = (r : EReal)) (hg : ∃ r : ℝ, g = (r : EReal)) (hd : ∃ r : ℝ, d = (r : EReal)) :
    d * (n * g) * (Ideal.logistic x * (1 + x * (1 - Ideal.logistic x))) =
    d * (n * g) * Ideal.logistic x + x * (d * (n * g)) * (Ideal.logistic x * (1 - Ideal.logistic x)) := by
  obtain ⟨n, rfl⟩ := hn
  obtain ⟨g, rfl⟩ := hg
  obtain ⟨d, rfl⟩ := hd
  rw [← EReal.coe_mul, ← EReal.coe_mul]
  exact Alg.silu_grad _ _

theorem ds_ij (t : Fin cfg0.N) (hp : Cert.Pre_gate_finite.fn (F := Ideal) (m (c.tc.loc main_arg0)) (m (c.tc.loc main_arg1)) (m (c.tc.loc main_arg2)) (m (c.tc.loc main_arg3)) = fun _ => 1#1)
    (h : Fin 4) (i : Fin 256) (k : Fin 512) : dsH (iblk m c 0 t) (iblk m c 2 t) (iblk m c 1 t)
    (fun x => gT h (m (c.tc.loc main_arg2)) (ix2 0 x)) (col h) i k =
    dsR (m (c.tc.loc main_arg3)) (m (c.tc.loc main_arg1)) (row t i) (col h k) (nr (m (c.tc.loc main_arg0)) h (row t i) k * (m (c.tc.loc main_arg2) : Vec Ideal S4x512 .f32) (ix2 h k)) := by
  unfold dsH dsR sg nr
  simp only [row0 m c t i, row1 m c t i, row2 m c t i]
  have hr := Alg.rms_real 512 (by norm_num) (fun x => (m (c.tc.loc main_arg0) : Vec Ideal S4096x2048 .f32) (ix2 (row t i) (col h x))) k
  rw [← Alg.ofBits_512] at hr
  exact ds_alg _ _ _ _ hr ((real_of_pre _ _ _ _ hp).1 (ix2 h k)) ((real_of_pre _ _ _ _ hp).2 (ix2 (row t i) (col h k)))

/-- A block of the gradient at the gates is its part of the whole array's. -/
theorem ds_at (t : Fin cfg0.N) (hp : Cert.Pre_gate_finite.fn (F := Ideal) (m (c.tc.loc main_arg0)) (m (c.tc.loc main_arg1)) (m (c.tc.loc main_arg2)) (m (c.tc.loc main_arg3)) = fun _ => 1#1)
    (i : Fin 256) (j : Fin 2048) : dsB (iblk m c 0 t) (iblk m c 2 t) (iblk m c 1 t) (iblk m c 3 t) (iblk m c 4 t) (iblk m c 5 t) (iblk m c 6 t) (ix2 i j) = val_main_v45 (F := Ideal) (m (c.tc.loc main_arg0)) (m (c.tc.loc main_arg1)) (m (c.tc.loc main_arg2)) (m (c.tc.loc main_arg3)) (ix2 (row t i) j) := by
  rw [ref_ds]
  refine Eq.trans ?_ (pick_eq j (fun h k => dsR (m (c.tc.loc main_arg3)) (m (c.tc.loc main_arg1)) (row t i) (col h k) (nr (m (c.tc.loc main_arg0)) h (row t i) k * (m (c.tc.loc main_arg2) : Vec Ideal S4x512 .f32) (ix2 h k)))
    (fun j => dsR (m (c.tc.loc main_arg3)) (m (c.tc.loc main_arg1)) (row t i) j (nr (m (c.tc.loc main_arg0)) ⟨j.val / 512, by omega⟩ (row t i) ⟨j.val % 512, by omega⟩ *
      (m (c.tc.loc main_arg2) : Vec Ideal S4x512 .f32) (ix2 ⟨j.val / 512, by omega⟩ ⟨j.val % 512, by omega⟩))) ?_)
  · show pick j _ _ _ _ = _
    rw [blk3, blk4, blk5, blk6, e0_eq, e1_eq, e2_eq, e3_eq]
    congr 1 <;> exact funext fun k => ds_ij m c t hp _ i k
  · exact fun h k => by rw [col_div, col_mod]

theorem emb8 (t : Fin cfg0.N) (y : S256x2048.Idx) : ((cfg0.win 8).blk t).view.emb y = ix2 (row t (y 0)) (gcol (y 1)) := by
  obtain ⟨-, -, -, -, -, -, -, -, i8, -⟩ := idx t
  blk_ext [i8, row, gcol]

/-- The reference's whole gradient at the projections, on the gates' columns. -/
theorem ref_ds_col (i : Fin 4096) (j : Fin 6144) (h : ¬ j.val < 4096) : val_main_v49 (F := Ideal) a0 a1 a2 a3 (ix2 i j) =
    val_main_v45 (F := Ideal) a0 a1 a2 a3 (ix2 i ⟨j.val - 4096, by omega⟩) := by
  unfold val_main_v49 val_main_v48 val_main_v47
  generalize val_main_v45 (F := Ideal) a0 a1 a2 a3 = w
  pointwise
  rw [dif_neg h]

theorem gcol_sub (j : Fin 2048) (p) : (⟨(gcol j).val - 4096, p⟩ : Fin 2048) = j := Fin.ext (by simp only [gcol]; omega)

theorem at8 (t : Fin cfg0.N) (hp : Cert.Pre_gate_finite.fn (F := Ideal) (m (c.tc.loc main_arg0)) (m (c.tc.loc main_arg1)) (m (c.tc.loc main_arg2)) (m (c.tc.loc main_arg3)) = fun _ => 1#1)
    (y : S256x2048.Idx) : dsB (iblk m c 0 t) (iblk m c 2 t) (iblk m c 1 t) (iblk m c 3 t) (iblk m c 4 t) (iblk m c 5 t) (iblk m c 6 t) y = val_main_v49 (F := Ideal) (m (c.tc.loc main_arg0)) (m (c.tc.loc main_arg1)) (m (c.tc.loc main_arg2)) (m (c.tc.loc main_arg3)) (ix2 (row t (y 0)) (gcol (y 1))) := by
  idx_vars y
  refine (ds_at m c t hp y0 y1).trans (Eq.trans ?_ (ref_ds_col _ _ _ _ (row t y0) (gcol y1) (by simp only [gcol]; omega)).symm)
  rw [gcol_sub]

theorem arr8 (hp : Cert.Pre_gate_finite.fn (F := Ideal) (m (c.tc.loc main_arg0)) (m (c.tc.loc main_arg1)) (m (c.tc.loc main_arg2)) (m (c.tc.loc main_arg3)) = fun _ => 1#1)
    (i : S4096x6144.Idx) (hi : 4096 ≤ (i 1).val) : (dats m 0 c).arrAt 8 cfg0.N i = val_main_v49 (F := Ideal) (m (c.tc.loc main_arg0)) (m (c.tc.loc main_arg1)) (m (c.tc.loc main_arg2)) (m (c.tc.loc main_arg3)) i := by
  refine ((dats m 0 c).arrAt_apply_of_coversWhere 8 (val_main_v49 (F := Ideal) (m (c.tc.loc main_arg0)) (m (c.tc.loc main_arg1)) (m (c.tc.loc main_arg2)) (m (c.tc.loc main_arg3))) (fun β => 2 ≤ β (1 : Fin _)) (P := fun i => 4096 ≤ (i 1).val) (by decide +kernel) (fun t hf y => ?_) (fun j => ?_) i).trans (if_pos hi)
  · blk_simp
    rw [after0_8, outs8]
    exact (at8 m c t hp y).trans (congrArg (val_main_v49 (F := Ideal) (m (c.tc.loc main_arg0)) (m (c.tc.loc main_arg1)) (m (c.tc.loc main_arg2)) (m (c.tc.loc main_arg3))) (emb8 t y).symm)
  · blk_simp [Pipeline.Window.cell_apply]
    omega

/-- One row's part of the gains' gradient, over whole arrays. -/
def dgA (h : Fin 4) (k : Fin 512) (i : Fin 4096) : EReal :=
  nr a0 h i k * (a1 (ix2 i (gcol (col h k))) * Ideal.logistic (a1 (ix2 i (gcol (col h k)))) * a3 (ix2 i (col h k)))

theorem dg_ij (t : Fin cfg0.N) (h : Fin 4) (i : Fin 256) (k : Fin 512) : dgH (iblk m c 0 t) (iblk m c 2 t) (iblk m c 1 t) (col h) i k =
    dgA (m (c.tc.loc main_arg0)) (m (c.tc.loc main_arg3)) (m (c.tc.loc main_arg1)) h k (row t i) := by
  unfold dgH dgA nr
  simp only [row0 m c t i, row1 m c t i, row2 m c t i]
  exact (mul_comm (G := EReal) _ _).trans (congrArg (fun a : EReal => _ * a) (mul_comm (G := EReal) _ _))

theorem dg_blk (t : Fin cfg0.N) (y : S4x512.Idx) : dgB (iblk m c 0 t) (iblk m c 2 t) (iblk m c 1 t) y =
    ∑ i : Fin 256, dgA (m (c.tc.loc main_arg0)) (m (c.tc.loc main_arg3)) (m (c.tc.loc main_arg1)) (y 0) (y 1) (row t i) := by
  idx_vars y
  exact (dgB_eq _ _ _ y0 y1).trans (Finset.sum_congr rfl fun i _ => dg_ij m c t y0 i y1)

theorem emb9 (t : Fin cfg0.N) (y : S4x512.Idx) : ((cfg0.win 9).blk t).view.emb y = ix2 (y 0) (y 1) := by
  obtain ⟨-, -, -, -, -, -, -, -, -, i9⟩ := idx t
  blk_ext [i9]

theorem arr9 : (dats m 0 c).arrAt 9 cfg0.N = val_main_v29 (F := Ideal) (m (c.tc.loc main_arg0)) (m (c.tc.loc main_arg1)) (m (c.tc.loc main_arg3)) := by
  refine (dats m 0 c).arrAt_eq_of_covers 9 _ (by decide +kernel) fun t hf y => ?_
  have ht : t.val + 1 = 16 := by
    have h := (flush0_9 t).mp hf
    have h' : t.val < 16 := t.isLt
    omega
  blk_simp
  rw [after0_9]
  refine Eq.trans ?_ (congrArg (val_main_v29 (F := Ideal) (m (c.tc.loc main_arg0)) (m (c.tc.loc main_arg1)) (m (c.tc.loc main_arg3))) (emb9 t y).symm)
  refine Eq.trans ?_ (ref_dg (m (c.tc.loc main_arg0)) (m (c.tc.loc main_arg3)) (m (c.tc.loc main_arg1)) (y 0) (y 1)).symm
  refine (Pipeline.eq_sum_fin_of_reset_step_apply_last (fun n h => (outsAt0 m c n h).2.2) 16 (fun _ => (0 : EReal)) _
    (fun t h y => (outs9_A m c t h y).trans (zero_add _).symm) (fun t h y => outs9_B m c t h y) (by decide) t ht y).trans ?_
  rw [zero_add]
  refine (Finset.sum_congr rfl fun p _ => dg_blk m c p y).trans ?_
  exact Fin.sum_mul_add_fin 16 256 (dgA (m (c.tc.loc main_arg0)) (m (c.tc.loc main_arg3)) (m (c.tc.loc main_arg1)) (y 0) (y 1))

/-- The columns that the mask keeps. -/
theorem mask_col (i : S4096x6144.Idx) (h : (Cert.On_gate_written.fn (F := Ideal) a0 a1 a2 a3).2.1 i = 1#1) : 4096 ≤ (i 1).val := by
  idx_vars i
  simp only [Cert.On_gate_written.fn] at h
  pointwise at h
  have e := IntOp.cmpi_sge.mp h
  rw [BitVec.toInt_eq_toNat_of_lt (by simp only [BitVec.toNat_ofNat]; omega), BitVec.toInt_eq_toNat_of_lt (by simp only [BitVec.toNat_ofNat]; omega)] at e
  simp only [BitVec.toNat_ofNat] at e
  show 4096 ≤ i1.val
  omega

end Cert.Gate
-- ==== Proof.FlashRun.lean ====
module

public import proofs.«01_k».proof.Proof.Gen.FlashBwdIdeal.Frame
public import proofs.«01_k».proof.Proof.Gen.FlashBwdIdeal.Loops

/-! The body of the attention's backward kernel, run once in each of the three kinds of grid point: the first key
    block of a pair of heads (which clears the query gradient's accumulator first), a middle one, and the last (which
    also writes the query gradient out). The stores each buffer ends with are what the run finds. -/

@[expose] public section

set_option maxRecDepth 16384

noncomputable section

namespace Flash

open Cert.FlashBwdIdeal Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first key block: the query gradient's accumulator is cleared. -/
abbrev first (i : grid0.Coords) : Prop :=
  (Scalar.cmpi .ne (Scalar.extui (Scalar.cmpi .eq (BitVec.ofNat 32 (i 1).val) 0#32) : BitVec 32) 0#32) = 1#1
/-- The last key block: the query gradient is written out. -/
abbrev last (i : grid0.Coords) : Prop := k0_cond2 i = 1#1

/-- A scratch buffer at some contents. -/
abbrev some11 (c : Dev nD) (a : Memref sig .tc .vmem S4096x512 .f32) : sProp 𝕄 :=
  iprop(∃ f, a.view.loc (c : Thread nD τ) ↦[a.view.set]{fullShare} f)
abbrev some12 (c : Dev nD) (a : Memref sig .tc .vmem S512x512 .f32) : sProp 𝕄 :=
  iprop(∃ f, a.view.loc (c : Thread nD τ) ↦[a.view.set]{fullShare} f)
abbrev some13 (c : Dev nD) (a : Memref sig .tc .vmem S512x256 .f32) : sProp 𝕄 :=
  iprop(∃ f, a.view.loc (c : Thread nD τ) ↦[a.view.set]{fullShare} f)

set_option maxHeartbeats 4000000 in
/-- The first key block: the body's triple, with the stores it makes. -/
def runA (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole) (hc0 : first i) (hc1 : ¬last i)
    (x2 : Vec F S4096x512 .bf16) (x3 : Vec F S512x512 .bf16) (x4 : Vec F S512x256 .bf16) (x5 : Vec F S4096x256 .bf16) (x6 : Vec F S4096x256 .f32) (x7 : Vec F S4096x256 .f32) :
    Σ' (L9 : List (View.Piece (Elt F) S512x512 .bf16)), Σ' (L10 : List (View.Piece (Elt F) S512x256 .bf16)), { L11 : List (View.Piece (Elt F) S4096x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d) ∗ some11 c arg11 ∗ some12 c arg12 ∗ some13 c arg13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ some12 c arg12 ∗ some13 c arg13) -∗ K ⟨⟩))
          ⊢ wp frame (wpE (defs₀ (F := F)) Variants.none c none) E (cc0_mla_flash_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_flash_bwd_eq_skeleton]; unfold cc0_mla_flash_bwd_skel
    simp only [k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%f11, H11⟩, ⟨%f12, H12⟩, ⟨%f13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]; · iexists _; iexact H9
    isplitl [H10]; · iexists _; iexact H10
    isplitl [H11]; · iexists _; iexact H11
    isplitl [H12]; · iexists _; iexact H12
    iexists _; iexact H13

set_option maxHeartbeats 4000000 in
/-- A middle key block: the body's triple, with the stores it makes. -/
def runB (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole) (hc0 : ¬first i) (hc1 : ¬last i)
    (x2 : Vec F S4096x512 .bf16) (x3 : Vec F S512x512 .bf16) (x4 : Vec F S512x256 .bf16) (x5 : Vec F S4096x256 .bf16) (x6 : Vec F S4096x256 .f32) (x7 : Vec F S4096x256 .f32) (xo : Vec F S4096x512 .f32) :
    Σ' (L9 : List (View.Piece (Elt F) S512x512 .bf16)), Σ' (L10 : List (View.Piece (Elt F) S512x256 .bf16)), { L11 : List (View.Piece (Elt F) S4096x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d) ∗ owns (c : Thread nD τ) arg11 fullShare xo ∗ some12 c arg12 ∗ some13 c arg13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread xo) L11) ∗ some12 c arg12 ∗ some13 c arg13) -∗ K ⟨⟩))
          ⊢ wp frame (wpE (defs₀ (F := F)) Variants.none c none) E (cc0_mla_flash_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_flash_bwd_eq_skeleton]; unfold cc0_mla_flash_bwd_skel
    simp only [k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%f11, %hf11, H11⟩, ⟨%f12, H12⟩, ⟨%f13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]; · iexists _; iexact H9
    isplitl [H10]; · iexists _; iexact H10
    isplitl [H11]; · iexact H11
    isplitl [H12]; · iexists _; iexact H12
    iexists _; iexact H13

set_option maxHeartbeats 4000000 in
/-- The last key block: the body's triple, with the stores it makes. -/
def runC (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole) (hc0 : ¬first i) (hc1 : last i)
    (x2 : Vec F S4096x512 .bf16) (x3 : Vec F S512x512 .bf16) (x4 : Vec F S512x256 .bf16) (x5 : Vec F S4096x256 .bf16) (x6 : Vec F S4096x256 .f32) (x7 : Vec F S4096x256 .f32) (xo : Vec F S4096x512 .f32) :
    Σ' (L8 : List (View.Piece (Elt F) S4096x512 .bf16)), Σ' (L9 : List (View.Piece (Elt F) S512x512 .bf16)), Σ' (L10 : List (View.Piece (Elt F) S512x256 .bf16)), { L11 : List (View.Piece (Elt F) S4096x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo ∗ some12 c arg12 ∗ some13 c arg13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread xo) L11) ∗ some12 c arg12 ∗ some13 c arg13) -∗ K ⟨⟩))
          ⊢ wp frame (wpE (defs₀ (F := F)) Variants.none c none) E (cc0_mla_flash_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_mla_flash_bwd_eq_skeleton]; unfold cc0_mla_flash_bwd_skel
    simp only [k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, H12⟩, ⟨%f13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexact H11
    isplitl [H12]; · iexists _; iexact H12
    iexists _; iexact H13

end Flash

end
-- ==== Proof.FlashFrame.lean ====
module

public import proofs.«01_k».proof.Proof.FlashRun
public import Idealize.ShloMosaic.Lib.Claim

/-! The attention's backward kernel over its grid: what the query gradient's accumulator and the outputs hold from
    point to point, the body's obligation at each point, the run of the whole program and the frame. -/

@[expose] public section

set_option maxRecDepth 16384

noncomputable section

namespace Flash

open Cert.FlashBwdIdeal Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, first (grid0.coords t) ↔ t.val % 8 = 0 :=
  (by decide +kernel : ∀ t : Fin grid0.N, first (grid0.coords t) ↔ t.val % 8 = 0)
theorem last_iff : ∀ t : Fin cfg0.N, last (grid0.coords t) ↔ t.val % 8 = 7 :=
  (by decide +kernel : ∀ t : Fin grid0.N, last (grid0.coords t) ↔ t.val % 8 = 7)
theorem idle6 : ∀ t : Fin cfg0.N, ¬last (grid0.coords t) → cfg0.idle 6 (grid0.coords t) = true := by decide +kernel
theorem live6 : ∀ t : Fin cfg0.N, last (grid0.coords t) → cfg0.idle 6 (grid0.coords t) = false := by decide +kernel

/-- The three scratch buffers. -/
abbrev M11 : Memref sig .tc .vmem S4096x512 .f32 := Memref.whole cc0_scratch0
abbrev M12 : Memref sig .tc .vmem S512x512 .f32 := Memref.whole cc0_scratch1
abbrev M13 : Memref sig .tc .vmem S512x256 .f32 := Memref.whole cc0_scratch2
/-- One staging buffer of each output. -/
abbrev O8 : View sig .tc .vmem S4096x512 .bf16 := (Memref.whole cc0_stg6_0 : Memref sig .tc .vmem S4096x512 .bf16).view
abbrev O9 : View sig .tc .vmem S512x512 .bf16 := (Memref.whole cc0_stg7_0 : Memref sig .tc .vmem S512x512 .bf16).view
abbrev O10 : View sig .tc .vmem S512x256 .bf16 := (Memref.whole cc0_stg8_0 : Memref sig .tc .vmem S512x256 .bf16).view

/-- The staging buffers a point is run on. -/
abbrev a2 (t : Fin cfg0.N) : Memref sig .tc .vmem S4096x512 .bf16 := win0_0.stage (cfg0.slots t 0)
abbrev w2 (t : Fin cfg0.N) : (a2 t).IsWhole := hstage0_0 ((cfg0.slots t 0).cast nbuf0_0)
abbrev a3 (t : Fin cfg0.N) : Memref sig .tc .vmem S512x512 .bf16 := win0_1.stage (cfg0.slots t 1)
abbrev w3 (t : Fin cfg0.N) : (a3 t).IsWhole := hstage0_1 ((cfg0.slots t 1).cast nbuf0_1)
abbrev a4 (t : Fin cfg0.N) : Memref sig .tc .vmem S512x256 .bf16 := win0_2.stage (cfg0.slots t 2)
abbrev w4 (t : Fin cfg0.N) : (a4 t).IsWhole := hstage0_2 ((cfg0.slots t 2).cast nbuf0_2)
abbrev a5 (t : Fin cfg0.N) : Memref sig .tc .vmem S4096x256 .bf16 := win0_3.stage (cfg0.slots t 3)
abbrev w5 (t : Fin cfg0.N) : (a5 t).IsWhole := hstage0_3 ((cfg0.slots t 3).cast nbuf0_3)
abbrev a6 (t : Fin cfg0.N) : Memref sig .tc .vmem S4096x256 .f32 := win0_4.stage (cfg0.slots t 4)
abbrev w6 (t : Fin cfg0.N) : (a6 t).IsWhole := hstage0_4 ((cfg0.slots t 4).cast nbuf0_4)
abbrev a7 (t : Fin cfg0.N) : Memref sig .tc .vmem S4096x256 .f32 := win0_5.stage (cfg0.slots t 5)
abbrev w7 (t : Fin cfg0.N) : (a7 t).IsWhole := hstage0_5 ((cfg0.slots t 5).cast nbuf0_5)
abbrev a8 (t : Fin cfg0.N) : Memref sig .tc .vmem S4096x512 .bf16 := win0_6.stage (cfg0.slots t 6)
abbrev w8 (t : Fin cfg0.N) : (a8 t).IsWhole := hstage0_6 ((cfg0.slots t 6).cast nbuf0_6)
abbrev a9 (t : Fin cfg0.N) : Memref sig .tc .vmem S512x512 .bf16 := win0_7.stage (cfg0.slots t 7)
abbrev w9 (t : Fin cfg0.N) : (a9 t).IsWhole := hstage0_7 ((cfg0.slots t 7).cast nbuf0_7)
abbrev a10 (t : Fin cfg0.N) : Memref sig .tc .vmem S512x256 .bf16 := win0_8.stage (cfg0.slots t 8)
abbrev w10 (t : Fin cfg0.N) : (a10 t).IsWhole := hstage0_8 ((cfg0.slots t 8).cast nbuf0_8)

/-- The run at point `t`, of kind A. -/
def atA (c : Dev nD) (t : Fin cfg0.N) (h0 : first (grid0.coords t)) (h1 : ¬last (grid0.coords t)) :=
  runA (F := F) c (grid0.coords t) (a2 t) (w2 t) (a3 t) (w3 t) (a4 t) (w4 t) (a5 t) (w5 t) (a6 t) (w6 t) (a7 t) (w7 t) (a8 t) (w8 t) (a9 t) (w9 t) (a10 t) (w10 t) M11 (Memref.isWhole_whole _) M12 (Memref.isWhole_whole _) M13 (Memref.isWhole_whole _) h0 h1 (iblk m c 0 t) (iblk m c 1 t) (iblk m c 2 t) (iblk m c 3 t) (iblk m c 4 t) (iblk m c 5 t)

/-- The run at point `t`, of kind B. -/
def atB (c : Dev nD) (t : Fin cfg0.N) (h0 : ¬first (grid0.coords t)) (h1 : ¬last (grid0.coords t)) (xo : Vec F S4096x512 .f32) :=
  runB (F := F) c (grid0.coords t) (a2 t) (w2 t) (a3 t) (w3 t) (a4 t) (w4 t) (a5 t) (w5 t) (a6 t) (w6 t) (a7 t) (w7 t) (a8 t) (w8 t) (a9 t) (w9 t) (a10 t) (w10 t) M11 (Memref.isWhole_whole _) M12 (Memref.isWhole_whole _) M13 (Memref.isWhole_whole _) h0 h1 (iblk m c 0 t) (iblk m c 1 t) (iblk m c 2 t) (iblk m c 3 t) (iblk m c 4 t) (iblk m c 5 t) xo

/-- The run at point `t`, of kind C. -/
def atC (c : Dev nD) (t : Fin cfg0.N) (h0 : ¬first (grid0.coords t)) (h1 : last (grid0.coords t)) (xo : Vec F S4096x512 .f32) :=
  runC (F := F) c (grid0.coords t) (a2 t) (w2 t) (a3 t) (w3 t) (a4 t) (w4 t) (a5 t) (w5 t) (a6 t) (w6 t) (a7 t) (w7 t) (a8 t) (w8 t) (a9 t) (w9 t) (a10 t) (w10 t) M11 (Memref.isWhole_whole _) M12 (Memref.isWhole_whole _) M13 (Memref.isWhole_whole _) h0 h1 (iblk m c 0 t) (iblk m c 1 t) (iblk m c 2 t) (iblk m c 3 t) (iblk m c 4 t) (iblk m c 5 t) xo

open Classical in
/-- What point `t` leaves in the outputs' buffers and in the accumulator, which held `xo`. -/
def res (c : Dev nD) (t : Fin cfg0.N) (xo : Vec F S4096x512 .f32) : Vec F S4096x512 .bf16 × Vec F S512x512 .bf16 × Vec F S512x256 .bf16 × Vec F S4096x512 .f32 :=
  if h0 : first (grid0.coords t) then
    if h1 : last (grid0.coords t) then (O8.read (Elt F) O8.junk, O9.read (Elt F) O9.junk, O10.read (Elt F) O10.junk, xo)
    else (O8.read (Elt F) O8.junk,
      O9.read (Elt F) (O9.writes (Elt F) O9.junk (atA m c t h0 h1).1),
      O10.read (Elt F) (O10.writes (Elt F) O10.junk (atA m c t h0 h1).2.1),
      M11.view.read (Elt F) (M11.view.writes (Elt F) M11.view.junk (atA m c t h0 h1).2.2.1))
  else if h1 : last (grid0.coords t) then (O8.read (Elt F) (O8.writes (Elt F) O8.junk (atC m c t h0 h1 xo).1),
      O9.read (Elt F) (O9.writes (Elt F) O9.junk (atC m c t h0 h1 xo).2.1),
      O10.read (Elt F) (O10.writes (Elt F) O10.junk (atC m c t h0 h1 xo).2.2.1),
      M11.view.read (Elt F) (M11.view.writes (Elt F) ((Memref.isWhole_whole cc0_scratch0).unread xo) (atC m c t h0 h1 xo).2.2.2.1))
  else (O8.read (Elt F) O8.junk,
      O9.read (Elt F) (O9.writes (Elt F) O9.junk (atB m c t h0 h1 xo).1),
      O10.read (Elt F) (O10.writes (Elt F) O10.junk (atB m c t h0 h1 xo).2.1),
      M11.view.read (Elt F) (M11.view.writes (Elt F) ((Memref.isWhole_whole cc0_scratch0).unread xo) (atB m c t h0 h1 xo).2.2.1))

theorem res_A (c : Dev nD) (t : Fin cfg0.N) (h0 : first (grid0.coords t)) (h1 : ¬last (grid0.coords t)) (xo : Vec F S4096x512 .f32) :
    res m c t xo = (O8.read (Elt F) O8.junk,
      O9.read (Elt F) (O9.writes (Elt F) O9.junk (atA m c t h0 h1).1),
      O10.read (Elt F) (O10.writes (Elt F) O10.junk (atA m c t h0 h1).2.1),
      M11.view.read (Elt F) (M11.view.writes (Elt F) M11.view.junk (atA m c t h0 h1).2.2.1)) := by
  unfold res; rw [dif_pos h0, dif_neg h1]

theorem res_B (c : Dev nD) (t : Fin cfg0.N) (h0 : ¬first (grid0.coords t)) (h1 : ¬last (grid0.coords t)) (xo : Vec F S4096x512 .f32) :
    res m c t xo = (O8.read (Elt F) O8.junk,
      O9.read (Elt F) (O9.writes (Elt F) O9.junk (atB m c t h0 h1 xo).1),
      O10.read (Elt F) (O10.writes (Elt F) O10.junk (atB m c t h0 h1 xo).2.1),
      M11.view.read (Elt F) (M11.view.writes (Elt F) ((Memref.isWhole_whole cc0_scratch0).unread xo) (atB m c t h0 h1 xo).2.2.1)) := by
  unfold res; rw [dif_neg h0, dif_neg h1]

theorem res_C (c : Dev nD) (t : Fin cfg0.N) (h0 : ¬first (grid0.coords t)) (h1 : last (grid0.coords t)) (xo : Vec F S4096x512 .f32) :
    res m c t xo = (O8.read (Elt F) (O8.writes (Elt F) O8.junk (atC m c t h0 h1 xo).1),
      O9.read (Elt F) (O9.writes (Elt F) O9.junk (atC m c t h0 h1 xo).2.1),
      O10.read (Elt F) (O10.writes (Elt F) O10.junk (atC m c t h0 h1 xo).2.2.1),
      M11.view.read (Elt F) (M11.view.writes (Elt F) ((Memref.isWhole_whole cc0_scratch0).unread xo) (atC m c t h0 h1 xo).2.2.2.1)) := by
  unfold res; rw [dif_neg h0, dif_pos h1]

theorem coverA9 (c : Dev nD) (t : Fin cfg0.N) (h0 : first (grid0.coords t)) (h1 : ¬last (grid0.coords t)) (y : S512x512.Idx) :
    ∃ pc ∈ (atA m c t h0 h1).1, y ∈ pc.1.set :=
  View.cover_of_tiledL (atA m c t h0 h1).1 S512x512.size (by unfold atA; sl_kernel_rfl) y
theorem coverA10 (c : Dev nD) (t : Fin cfg0.N) (h0 : first (grid0.coords t)) (h1 : ¬last (grid0.coords t)) (y : S512x256.Idx) :
    ∃ pc ∈ (atA m c t h0 h1).2.1, y ∈ pc.1.set :=
  View.cover_of_tiledL (atA m c t h0 h1).2.1 S512x256.size (by unfold atA; sl_kernel_rfl) y
theorem coverA11 (c : Dev nD) (t : Fin cfg0.N) (h0 : first (grid0.coords t)) (h1 : ¬last (grid0.coords t)) (y : S4096x512.Idx) :
    ∃ pc ∈ (atA m c t h0 h1).2.2.1, y ∈ pc.1.set := by
  have key : ∀ (A B : List (View.Piece (Elt F) S4096x512 .f32)) (p q z : View.Piece (Elt F) S4096x512 .f32), (∃ pc ∈ [z], y ∈ pc.1.set) →
      ∃ pc ∈ A ++ (B ++ [p, q, z]), y ∈ pc.1.set := fun A B p q z ⟨pc, h, hy⟩ =>
    ⟨pc, List.mem_append_right _ (List.mem_append_right _ (List.mem_cons_of_mem _ (List.mem_cons_of_mem _ h))), hy⟩
  exact key _ _ _ _ _ (View.cover_of_tiledL _ S4096x512.size (by sl_kernel_rfl) y)
theorem coverB9 (c : Dev nD) (t : Fin cfg0.N) (h0 : ¬first (grid0.coords t)) (h1 : ¬last (grid0.coords t)) (xo : Vec F S4096x512 .f32) (y : S512x512.Idx) :
    ∃ pc ∈ (atB m c t h0 h1 xo).1, y ∈ pc.1.set :=
  View.cover_of_tiledL (atB m c t h0 h1 xo).1 S512x512.size (by unfold atB; sl_kernel_rfl) y
theorem coverB10 (c : Dev nD) (t : Fin cfg0.N) (h0 : ¬first (grid0.coords t)) (h1 : ¬last (grid0.coords t)) (xo : Vec F S4096x512 .f32) (y : S512x256.Idx) :
    ∃ pc ∈ (atB m c t h0 h1 xo).2.1, y ∈ pc.1.set :=
  View.cover_of_tiledL (atB m c t h0 h1 xo).2.1 S512x256.size (by unfold atB; sl_kernel_rfl) y
theorem coverC8 (c : Dev nD) (t : Fin cfg0.N) (h0 : ¬first (grid0.coords t)) (h1 : last (grid0.coords t)) (xo : Vec F S4096x512 .f32) (y : S4096x512.Idx) :
    ∃ pc ∈ (atC m c t h0 h1 xo).1, y ∈ pc.1.set :=
  View.cover_of_tiledL (atC m c t h0 h1 xo).1 S4096x512.size (by unfold atC; sl_kernel_rfl) y
theorem coverC9 (c : Dev nD) (t : Fin cfg0.N) (h0 : ¬first (grid0.coords t)) (h1 : last (grid0.coords t)) (xo : Vec F S4096x512 .f32) (y : S512x512.Idx) :
    ∃ pc ∈ (atC m c t h0 h1 xo).2.1, y ∈ pc.1.set :=
  View.cover_of_tiledL (atC m c t h0 h1 xo).2.1 S512x512.size (by unfold atC; sl_kernel_rfl) y
theorem coverC10 (c : Dev nD) (t : Fin cfg0.N) (h0 : ¬first (grid0.coords t)) (h1 : last (grid0.coords t)) (xo : Vec F S4096x512 .f32) (y : S512x256.Idx) :
    ∃ pc ∈ (atC m c t h0 h1 xo).2.2.1, y ∈ pc.1.set :=
  View.cover_of_tiledL (atC m c t h0 h1 xo).2.2.1 S512x256.size (by unfold atC; sl_kernel_rfl) y

/-- The accumulator's contents before point `n`. -/
def acc (c : Dev nD) : ℕ → Vec F S4096x512 .f32
  | 0 => M11.view.read (Elt F) M11.view.junk
  | n + 1 => if h : n < cfg0.N then (res m c ⟨n, h⟩ (acc c n)).2.2.2 else M11.view.read (Elt F) M11.view.junk

theorem acc_succ (c : Dev nD) (t : Fin cfg0.N) : acc m c (t.val + 1) = (res m c t (acc m c t.val)).2.2.2 := by
  rw [acc, dif_pos t.isLt]

/-- Between the points: the accumulator, at what the points so far left in it unless the next one clears it; the two
    other scratch buffers; the generator's register. -/
def Phi (c : Dev nD) (n : ℕ) : sProp 𝕄 :=
  iprop((∃ D, ⌜n % 8 ≠ 0 → D = acc m c n⌝ ∗ owns (c : Thread nD τ) M11 fullShare D) ∗ some12 c M12 ∗ some13 c M13 ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (res m c t (acc m c t.val)).1
    | ⟨7, _⟩ => (res m c t (acc m c t.val)).2.1
    | ⟨8, _⟩ => (res m c t (acc m c t.val)).2.2.1
  Φ n := Phi m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (res m c t (acc m c t.val)).1 := by dsimp only [dats]
theorem after7 (c : Dev nD) (t : Fin cfg0.N) : (dats m 0 c).after 7 t = (res m c t (acc m c t.val)).2.1 := by dsimp only [dats]
theorem after8 (c : Dev nD) (t : Fin cfg0.N) : (dats m 0 c).after 8 t = (res m c t (acc m c t.val)).2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (a2 t) fullShare ((dats m 0 c).before 0 t d))
    ∗ (∃ d, owns (c : Thread nD τ) (a3 t) fullShare ((dats m 0 c).before 1 t d))
    ∗ (∃ d, owns (c : Thread nD τ) (a4 t) fullShare ((dats m 0 c).before 2 t d))
    ∗ (∃ d, owns (c : Thread nD τ) (a5 t) fullShare ((dats m 0 c).before 3 t d))
    ∗ (∃ d, owns (c : Thread nD τ) (a6 t) fullShare ((dats m 0 c).before 4 t d))
    ∗ (∃ d, owns (c : Thread nD τ) (a7 t) fullShare ((dats m 0 c).before 5 t d))
    ∗ (∃ d, owns (c : Thread nD τ) (a8 t) fullShare ((dats m 0 c).before 6 t d))
    ∗ (∃ d, owns (c : Thread nD τ) (a9 t) fullShare ((dats m 0 c).before 7 t d))
    ∗ (∃ d, owns (c : Thread nD τ) (a10 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) :
    (dats m 0 c).leavesExact 0 t = owns (c : Thread nD τ) (a2 t) fullShare (iblk m c 0 t) := by
  rw [← after0 m c t]
theorem leaves1 (c : Dev nD) (t : Fin cfg0.N) :
    (dats m 0 c).leavesExact 1 t = owns (c : Thread nD τ) (a3 t) fullShare (iblk m c 1 t) := by
  rw [← after1 m c t]
theorem leaves2 (c : Dev nD) (t : Fin cfg0.N) :
    (dats m 0 c).leavesExact 2 t = owns (c : Thread nD τ) (a4 t) fullShare (iblk m c 2 t) := by
  rw [← after2 m c t]
theorem leaves3 (c : Dev nD) (t : Fin cfg0.N) :
    (dats m 0 c).leavesExact 3 t = owns (c : Thread nD τ) (a5 t) fullShare (iblk m c 3 t) := by
  rw [← after3 m c t]
theorem leaves4 (c : Dev nD) (t : Fin cfg0.N) :
    (dats m 0 c).leavesExact 4 t = owns (c : Thread nD τ) (a6 t) fullShare (iblk m c 4 t) := by
  rw [← after4 m c t]
theorem leaves5 (c : Dev nD) (t : Fin cfg0.N) :
    (dats m 0 c).leavesExact 5 t = owns (c : Thread nD τ) (a7 t) fullShare (iblk m c 5 t) := by
  rw [← after5 m c t]
theorem leaves7 (c : Dev nD) (t : Fin cfg0.N) :
    (dats m 0 c).leavesExact 7 t = owns (c : Thread nD τ) (a9 t) fullShare ((res m c t (acc m c t.val)).2.1) := by
  rw [← after7 m c t]
theorem leaves8 (c : Dev nD) (t : Fin cfg0.N) :
    (dats m 0 c).leavesExact 8 t = owns (c : Thread nD τ) (a10 t) fullShare ((res m c t (acc m c t.val)).2.2.1) := by
  rw [← after8 m c t]
theorem leaves6_idle (c : Dev nD) (t : Fin cfg0.N) (h1 : ¬last (grid0.coords t)) :
    (dats m 0 c).leavesExact 6 t = iprop(∃ d, owns (c : Thread nD τ) (a8 t) fullShare ((dats m 0 c).before 6 t d)) :=
  Dat.leavesExact_idle _ 6 t (idle6 t h1) (by
    have h := fun e => h1 ((last_iff t).mpr ((flush0_6 t).mp e))
    exact Bool.eq_false_iff.mpr h)
theorem leaves6_live (c : Dev nD) (t : Fin cfg0.N) (h1 : last (grid0.coords t)) :
    (dats m 0 c).leavesExact 6 t = owns (c : Thread nD τ) (a8 t) fullShare (res m c t (acc m c t.val)).1 := by
  unfold Dat.leavesExact; rw [live6 t h1, after6]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves7, leaves8]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi
  by_cases h0 : first (grid0.coords t)
  · have h1 : ¬last (grid0.coords t) := fun h => by
      have e0 := (first_iff t).mp h0; have e1 := (last_iff t).mp h; omega
    rw [leaves6_idle m c t h1]
    rw [acc_succ, res_A m c t h0 h1]; dsimp only
    iintro ⟨⟨⟨%D, %hD, HD⟩, HE, HG, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t h0 h1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    isplitl [H8]; · iexists _; iexact H8
    isplitl [HD]
    · unfold owns; icases HD with ⟨%f, -, HD⟩; iexists _; iexact HD
    isplitl [HE]; · iexact HE
    isplitl [HG]; · iexact HG
    iintro ⟨H0, H1, H2, H3, H4, H5, ⟨%e7, H7⟩, ⟨%e8, H8⟩, ⟨%e, HD⟩, HE, HG⟩
    isplitl [HD HE HG HP]
    · isplitl [HD]
      · iexists _; isplitr; · ipureintro; exact fun _ => rfl
        unfold owns; iexists _; isplitr
        swap; · iexact HD
        ipureintro; exact View.read_writes_of_cover _ _ _ _ _ (coverA11 m c t h0 h1)
      isplitl [HE]; · iexact HE
      isplitl [HG]; · iexact HG
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]
    · unfold owns; iexists _; isplitr
      swap; · iexact H7
      ipureintro; exact View.read_writes_of_cover _ _ _ _ _ (coverA9 m c t h0 h1)
    unfold owns; iexists _; isplitr
    swap; · iexact H8
    ipureintro; exact View.read_writes_of_cover _ _ _ _ _ (coverA10 m c t h0 h1)
  · by_cases h1 : last (grid0.coords t)
    · rw [leaves6_live m c t h1]
      rw [acc_succ, res_C m c t h0 h1]; dsimp only
      iintro ⟨⟨⟨%D, %hD, HD⟩, HE, HG, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hD (fun h => h0 ((first_iff t).mpr h))
      iapply ((atC m c t h0 h1 (acc m c t.val)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HD]; · iexact HD
      isplitl [HE]; · iexact HE
      isplitl [HG]; · iexact HG
      iintro ⟨H0, H1, H2, H3, H4, H5, ⟨%e6, H6⟩, ⟨%e7, H7⟩, ⟨%e8, H8⟩, HD, HE, HG⟩
      isplitl [HD HE HG HP]
      · isplitl [HD]
        · iexists _; isplitr; · ipureintro; exact fun _ => rfl
          unfold owns; iexists _; isplitr
          swap; · iexact HD
          ipureintro; exact rfl
        isplitl [HE]; · iexact HE
        isplitl [HG]; · iexact HG
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC8 m c t h0 h1 (acc m c t.val))
      isplitl [H7]
      · unfold owns; iexists _; isplitr
        swap; · iexact H7
        ipureintro; exact View.read_writes_of_cover _ _ _ _ _ (coverC9 m c t h0 h1 (acc m c t.val))
      unfold owns; iexists _; isplitr
      swap; · iexact H8
      ipureintro; exact View.read_writes_of_cover _ _ _ _ _ (coverC10 m c t h0 h1 (acc m c t.val))
    · rw [leaves6_idle m c t h1]
      rw [acc_succ, res_B m c t h0 h1]; dsimp only
      iintro ⟨⟨⟨%D, %hD, HD⟩, HE, HG, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hD (fun h => h0 ((first_iff t).mpr h))
      iapply ((atB m c t h0 h1 (acc m c t.val)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H7]; · iexists _; iexact H7
      isplitl [H8]; · iexists _; iexact H8
      isplitl [HD]; · iexact HD
      isplitl [HE]; · iexact HE
      isplitl [HG]; · iexact HG
      iintro ⟨H0, H1, H2, H3, H4, H5, ⟨%e7, H7⟩, ⟨%e8, H8⟩, HD, HE, HG⟩
      isplitl [HD HE HG HP]
      · isplitl [HD]
        · iexists _; isplitr; · ipureintro; exact fun _ => rfl
          unfold owns; iexists _; isplitr
          swap; · iexact HD
          ipureintro; exact rfl
        isplitl [HE]; · iexact HE
        isplitl [HG]; · iexact HG
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]
      · unfold owns; iexists _; isplitr
        swap; · iexact H7
        ipureintro; exact View.read_writes_of_cover _ _ _ _ _ (coverB9 m c t h0 h1 (acc m c t.val))
      unfold owns; iexists _; isplitr
      swap; · iexact H8
      ipureintro; exact View.read_writes_of_cover _ _ _ _ _ (coverB10 m c t h0 h1 (acc m c t.val))

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA (U := UR sig nD τ) (Val := Elt F) spec0 c ⊢ Phi m c 0 := by
  unfold Pipeline.ΦA Phi owns
  rw [scopedRest0_eq]
  iintro ⟨⟨⟨%f, Hf⟩, ⟨%g, Hg⟩, ⟨%h, Hh⟩⟩, HP⟩
  isplitl [Hf]
  · iexists _; isplitr
    swap
    · iexists f; isplitr
      swap
      · rw [show M11.view.set = Finset.univ from View.set_whole _]; iexact Hf
      ipureintro; exact rfl
    ipureintro; exact fun h => absurd rfl h
  isplitl [Hg]
  · iexists g; rw [show M12.view.set = Finset.univ from View.set_whole _]; iexact Hg
  isplitl [Hh]
  · iexists h; rw [show M13.view.set = Finset.univ from View.set_whole _]; iexact Hh
  iexact HP

theorem leave (c : Dev nD) (n : ℕ) : Phi m c n ⊢ Pipeline.ΦA (U := UR sig nD τ) (Val := Elt F) spec0 c := by
  unfold Pipeline.ΦA Phi owns
  rw [scopedRest0_eq, show M11.view.set = Finset.univ from View.set_whole _]
  iintro ⟨⟨%D, -, ⟨%f, -, Hf⟩⟩, ⟨%g, Hg⟩, ⟨%h, Hh⟩, HP⟩
  isplitr [HP]
  swap; · iexact HP
  isplitl [Hf]; · iexists f; iexact Hf
  isplitl [Hg]
  · iexists g; rw [show (Finset.univ : Finset _) = M12.view.set from (View.set_whole _).symm]; iexact Hg
  iexists h; rw [show (Finset.univ : Finset _) = M13.view.set from (View.set_whole _).symm]; iexact Hh

-- the launch theorem's implicit arguments are found by unifying its conclusion
set_option backward.isDefEq.respectTransparency.types false in
/-- The run of the program. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Flash

end
-- ==== Proof.FlashPay.lean ====
module

public import proofs.«01_k».proof.Proof.Gen.FlashBwdIdeal.Skeleton
public import Idealize.ShloMosaic.Lib.Pipeline.ValueKit
public import Idealize.ShloMosaic.Lib.Pointwise
public import proofs.«01_k».proof.Proof.Alg

/-! The attention's backward kernel over the extended reals: what one block of query rows against one block of keys
    computes, element by element. -/

@[expose] public section

set_option maxRecDepth 16384

noncomputable section

namespace Flash

open Cert.FlashBwdIdeal Cert.FlashBwdIdeal.Gen
open Idealize.ShloMosaic Idealize.ShloMosaic.TcCoe

/-- A key's place in the lanes that the row statistics are repeated over. -/
def lane (j : Fin 512) : Fin 128 := ⟨j.val % 128, Nat.mod_lt _ (by norm_num)⟩

theorem cat_apply (l : Vec Ideal S512x128 .f32) (i j : Fin 512) (p1 : j.val < 128 → j.val < 128) (p2 : j.val - 128 < 128 → j.val - 128 < 128)
    (p3 : j.val - 128 - 128 < 128 → j.val - 128 - 128 < 128) (p4 : ¬j.val < 128 → ¬j.val - 128 < 128 → ¬j.val - 128 - 128 < 128 → j.val - 128 - 128 - 128 < 128) :
    (if h1 : j.val < 128 then l (ix2 i ⟨j.val, p1 h1⟩)
      else if h2 : j.val - 128 < 128 then l (ix2 i ⟨j.val - 128, p2 h2⟩)
      else if h3 : j.val - 128 - 128 < 128 then l (ix2 i ⟨j.val - 128 - 128, p3 h3⟩) else l (ix2 i ⟨j.val - 128 - 128 - 128, p4 h1 h2 h3⟩)) =
      l (ix2 i (lane j)) := by
  have hj := j.isLt
  by_cases h1 : j.val < 128
  · rw [dif_pos h1]; exact congrArg (fun x => l (ix2 i x)) (Fin.ext (by show j.val = j.val % 128; omega))
  · rw [dif_neg h1]
    by_cases h2 : j.val - 128 < 128
    · rw [dif_pos h2]; exact congrArg (fun x => l (ix2 i x)) (Fin.ext (by show j.val - 128 = j.val % 128; omega))
    · rw [dif_neg h2]
      by_cases h3 : j.val - 128 - 128 < 128
      · rw [dif_pos h3]; exact congrArg (fun x => l (ix2 i x)) (Fin.ext (by show j.val - 128 - 128 = j.val % 128; omega))
      · rw [dif_neg h3]; exact congrArg (fun x => l (ix2 i x)) (Fin.ext (by show j.val - 128 - 128 - 128 = j.val % 128; omega))

theorem shift (j : Fin 512) : IntOp.shrsi ArithUnit.vector (IntOp.addi (0#32) (BitVec.ofNat 32 j.val)) 6#32 = BitVec.ofNat 32 (j.val / 64) := by
  revert j; decide +kernel

theorem chunk_le (a b : Fin 8) : IntOp.cmpi CmpIPredicate.sle (BitVec.ofNat 32 a.val) (BitVec.ofNat 32 b.val) = if a.val ≤ b.val then 1#1 else 0#1 := by
  revert a b; decide +kernel

theorem diag_mask (i j : Fin 512) : k0_pay41 (ix2 i j) =
    IntOp.cmpi CmpIPredicate.sle (IntOp.shrsi ArithUnit.vector (IntOp.addi (0#32) (BitVec.ofNat 32 j.val)) 6#32)
      (IntOp.shrsi ArithUnit.vector (IntOp.addi (0#32) (BitVec.ofNat 32 i.val)) 6#32) := by
  unfold k0_pay41
  pointwise

/-- The mask of the block on the diagonal. -/
theorem mask_apply (i j : Fin 512) : k0_pay41 (ix2 i j) = if j.val / 64 ≤ i.val / 64 then 1#1 else 0#1 := by
  rw [diag_mask]
  rw [shift, shift]
  exact chunk_le ⟨j.val / 64, by omega⟩ ⟨i.val / 64, by omega⟩

variable (q k : Vec Ideal S512x256 .bf16) (o v : Vec Ideal S512x128 .bf16) (l dl : Vec Ideal S512x128 .f32)

/-- The block's scores. -/
def sB (i j : Fin 512) : EReal := ∑ d : Fin 256, q (ix2 i d) * k (ix2 j d)
/-- The scores of the block on the diagonal: a row sees the keys of its own chunk of 64 and of those before it. -/
def sM (i j : Fin 512) : EReal := if j.val / 64 ≤ i.val / 64 then sB q k i j else ⊥

variable (s : Fin 512 → Fin 512 → EReal)
/-- The attention's weights from the scores. -/
def wB (i j : Fin 512) : EReal := Ideal.exp2 (s i j - l (ix2 i (lane j)))
/-- The gradient at the scores. -/
def dB (i j : Fin 512) : EReal := wB l s i j * (∑ e : Fin 128, o (ix2 i e) * v (ix2 j e) - dl (ix2 i (lane j)))

theorem select_mask (i j : Fin 512) (x : EReal) :
    Scalar.select (k0_pay41 (ix2 i j)) x (Named.named (F := Ideal) (φ := .f32) κ "mask" 0xF149F2CA#32) = if j.val / 64 ≤ i.val / 64 then x else ⊥ := by
  rw [mask_apply]
  by_cases h : j.val / 64 ≤ i.val / 64
  · rw [if_pos h, if_pos h]; rfl
  · rw [if_neg h, if_neg h]; rfl

/-! The weights. -/

theorem wa_apply (i j : Fin 512) : k0_pay21 q k l (ix2 i j) = wB l (sB q k) i j := by
  unfold k0_pay21 k0_pay18 k0_pay20
  pointwise
  exact congrArg (fun x => Ideal.exp2 (sB q k i j - x)) (cat_apply l i j _ _ _ _)
theorem wb_apply (i j : Fin 512) : k0_pay30 q k l (ix2 i j) = wB l (sB q k) i j := by
  unfold k0_pay30 k0_pay27 k0_pay29
  pointwise
  exact congrArg (fun x => Ideal.exp2 (sB q k i j - x)) (cat_apply l i j _ _ _ _)
theorem wc_apply (i j : Fin 512) : k0_pay42 (k0_pay40 q k) k0_pay41 l (ix2 i j) = wB l (sM q k) i j := by
  unfold k0_pay42 k0_pay40 k0_pay36 k0_pay38
  pointwise
  exact congrArg Ideal.exp2 (congr (congrArg (fun (x y : EReal) => x - y) (select_mask i j _)) (cat_apply l i j _ _ _ _))
theorem wd_apply (i j : Fin 512) : k0_pay50 q k l (ix2 i j) = wB l (sM q k) i j := by
  unfold k0_pay50 k0_pay47 k0_pay49
  pointwise
  rw [← diag_mask i j]
  exact congrArg Ideal.exp2 (congr (congrArg (fun (x y : EReal) => x - y) (select_mask i j _)) (cat_apply l i j _ _ _ _))

/-! The gradient at the scores. -/

theorem da_apply (i j : Fin 512) : k0_pay22 q o k v l dl (ix2 i j) = dB o v l dl (sB q k) i j := by
  unfold k0_pay22 k0_pay19
  pointwise
  rw [wa_apply]
  exact congrArg (fun x => wB l (sB q k) i j * (∑ e : Fin 128, o (ix2 i e) * v (ix2 j e) - x)) (cat_apply dl i j _ _ _ _)
theorem db_apply (i j : Fin 512) : k0_pay31 q o k v l dl (ix2 i j) = dB o v l dl (sB q k) i j := by
  unfold k0_pay31 k0_pay28
  pointwise
  rw [wb_apply]
  exact congrArg (fun x => wB l (sB q k) i j * (∑ e : Fin 128, o (ix2 i e) * v (ix2 j e) - x)) (cat_apply dl i j _ _ _ _)
theorem dc_apply (i j : Fin 512) : k0_pay43 (k0_pay37 o) (k0_pay39 v) (k0_pay40 q k) k0_pay41 l dl (ix2 i j) = dB o v l dl (sM q k) i j := by
  unfold k0_pay43 k0_pay37 k0_pay39
  pointwise
  rw [wc_apply]
  exact congrArg (fun x => wB l (sM q k) i j * (∑ e : Fin 128, o (ix2 i e) * v (ix2 j e) - x)) (cat_apply dl i j _ _ _ _)
theorem dd_apply (i j : Fin 512) : k0_pay51 q o k v l dl (ix2 i j) = dB o v l dl (sM q k) i j := by
  unfold k0_pay51 k0_pay48
  pointwise
  rw [wd_apply]
  exact congrArg (fun x => wB l (sM q k) i j * (∑ e : Fin 128, o (ix2 i e) * v (ix2 j e) - x)) (cat_apply dl i j _ _ _ _)

/-! The three sums: over the rows for the values and the keys, over the keys for the queries. -/

theorem va_apply (x : Vec Ideal S512x128 .f32) (j : Fin 512) (e : Fin 128) : k0_pay23 q o k l x (ix2 j e) = x (ix2 j e) + ∑ i : Fin 512, wB l (sB q k) i j * o (ix2 i e) := by
  unfold k0_pay23 k0_pay19
  pointwise
  simp only [wa_apply]
theorem ka_apply (x : Vec Ideal S512x256 .f32) (j : Fin 512) (e : Fin 256) : k0_pay25 (k0_pay24 q o k v l dl x) (ix2 j e) = x (ix2 j e) + ∑ i : Fin 512, dB o v l dl (sB q k) i j * q (ix2 i e) := by
  unfold k0_pay25 k0_pay24 k0_pay18
  pointwise
  simp only [da_apply]
theorem qa_apply (x : Vec Ideal S512x256 .f32) (i : Fin 512) (e : Fin 256) : k0_pay26 (k0_pay20 k) (k0_pay22 q o k v l dl) x (ix2 i e) = x (ix2 i e) + ∑ j : Fin 512, dB o v l dl (sB q k) i j * k (ix2 j e) := by
  unfold k0_pay26 k0_pay20
  pointwise
  simp only [da_apply]
theorem vb_apply (x : Vec Ideal S512x128 .f32) (j : Fin 512) (e : Fin 128) : k0_pay56 (k0_pay32 q o k l x) (ix2 j e) = x (ix2 j e) + ∑ i : Fin 512, wB l (sB q k) i j * o (ix2 i e) := by
  unfold k0_pay56 k0_pay32 k0_pay28
  pointwise
  simp only [wb_apply]
theorem kb_apply (x : Vec Ideal S512x256 .f32) (j : Fin 512) (e : Fin 256) : k0_pay57 (k0_pay27 q) (k0_pay31 q o k v l dl) x (ix2 j e) = x (ix2 j e) + ∑ i : Fin 512, dB o v l dl (sB q k) i j * q (ix2 i e) := by
  unfold k0_pay57 k0_pay27
  pointwise
  simp only [db_apply]
theorem qb_apply (x : Vec Ideal S512x256 .f32) (i : Fin 512) (e : Fin 256) : k0_pay58 (k0_pay29 k) (k0_pay31 q o k v l dl) x (ix2 i e) = x (ix2 i e) + ∑ j : Fin 512, dB o v l dl (sB q k) i j * k (ix2 j e) := by
  unfold k0_pay58 k0_pay29
  pointwise
  simp only [db_apply]
theorem vc_apply (x : Vec Ideal S512x128 .f32) (j : Fin 512) (e : Fin 128) : k0_pay44 (k0_pay37 o) (k0_pay40 q k) k0_pay41 l x (ix2 j e) = x (ix2 j e) + ∑ i : Fin 512, wB l (sM q k) i j * o (ix2 i e) := by
  unfold k0_pay44 k0_pay37
  pointwise
  simp only [wc_apply]
theorem kc_apply (x : Vec Ideal S512x256 .f32) (j : Fin 512) (e : Fin 256) : k0_pay45 (k0_pay36 q) (k0_pay37 o) (k0_pay39 v) (k0_pay40 q k) k0_pay41 l dl x (ix2 j e) = x (ix2 j e) + ∑ i : Fin 512, dB o v l dl (sM q k) i j * q (ix2 i e) := by
  unfold k0_pay45 k0_pay36
  pointwise
  simp only [dc_apply]
theorem qc_apply (x : Vec Ideal S512x256 .f32) (i : Fin 512) (e : Fin 256) : k0_pay46 (k0_pay37 o) (k0_pay38 k) (k0_pay39 v) (k0_pay40 q k) k0_pay41 l dl x (ix2 i e) = x (ix2 i e) + ∑ j : Fin 512, dB o v l dl (sM q k) i j * k (ix2 j e) := by
  unfold k0_pay46 k0_pay38
  pointwise
  simp only [dc_apply]
theorem vd_apply (x : Vec Ideal S512x128 .f32) (j : Fin 512) (e : Fin 128) : k0_pay53 (k0_pay52 q o k l x) (ix2 j e) = x (ix2 j e) + ∑ i : Fin 512, wB l (sM q k) i j * o (ix2 i e) := by
  unfold k0_pay53 k0_pay52 k0_pay48
  pointwise
  simp only [wd_apply]
theorem kd_apply (x : Vec Ideal S512x256 .f32) (j : Fin 512) (e : Fin 256) : k0_pay54 (k0_pay47 q) (k0_pay51 q o k v l dl) x (ix2 j e) = x (ix2 j e) + ∑ i : Fin 512, dB o v l dl (sM q k) i j * q (ix2 i e) := by
  unfold k0_pay54 k0_pay47
  pointwise
  simp only [dd_apply]
theorem qd_apply (x : Vec Ideal S512x256 .f32) (i : Fin 512) (e : Fin 256) : k0_pay55 (k0_pay49 k) (k0_pay51 q o k v l dl) x (ix2 i e) = x (ix2 i e) + ∑ j : Fin 512, dB o v l dl (sM q k) i j * k (ix2 j e) := by
  unfold k0_pay55 k0_pay49
  pointwise
  simp only [dd_apply]
end Flash

end
-- ==== Proof.FlashTrip.lean ====
module

public import proofs.«01_k».proof.Proof.FlashFrame
public import proofs.«01_k».proof.Proof.FlashPay
public import Idealize.ShloMosaic.Lib.WritesUnit
public import Idealize.ShloMosaic.Lib.VecWindow
public import Idealize.ShloMosaic.Lib.LoopRemainder

/-! The attention's backward kernel over the extended reals: what one trip of its loop over the later blocks of query rows
    adds to the three accumulators, and what the trips add together. -/

@[expose] public section

set_option maxRecDepth 16384

noncomputable section

namespace Flash

open Cert.FlashBwdIdeal Cert.FlashBwdIdeal.Gen
open Idealize.ShloMosaic Idealize.ShloMosaic.TcCoe Idealize.ShloMosaic.Tactic

section Blocks
variable (Q : Vec Ideal S4096x512 .bf16) (K : Vec Ideal S512x512 .bf16) (V : Vec Ideal S512x256 .bf16)
variable (O : Vec Ideal S4096x256 .bf16) (L : Vec Ideal S4096x256 .f32)

/-- Row `i` of the query rows' block `b`. -/
def rowOf (b : Fin 8) (i : Fin 512) : Fin 4096 := ⟨b.val * 512 + i.val, by omega⟩
/-- Column `d` of head `h`, in the wide arrays. -/
def colQ (h : Fin 2) (d : Fin 256) : Fin 512 := ⟨h.val * 256 + d.val, by omega⟩
/-- Column `e` of head `h`, in the narrow arrays. -/
def colV (h : Fin 2) (e : Fin 128) : Fin 256 := ⟨h.val * 128 + e.val, by omega⟩

/-- The parts of the operands that one block of rows and one head take. -/
def qS (b : Fin 8) (h : Fin 2) : Vec Ideal S512x256 .bf16 := fun y => Q (ix2 (rowOf b (y 0)) (colQ h (y 1)))
def kS (h : Fin 2) : Vec Ideal S512x256 .bf16 := fun y => K (ix2 (y 0) (colQ h (y 1)))
def vS (h : Fin 2) : Vec Ideal S512x128 .bf16 := fun y => V (ix2 (y 0) (colV h (y 1)))
def oS (b : Fin 8) (h : Fin 2) : Vec Ideal S512x128 .bf16 := fun y => O (ix2 (rowOf b (y 0)) (colV h (y 1)))
def lS (b : Fin 8) (h : Fin 2) : Vec Ideal S512x128 .f32 := fun y => L (ix2 (rowOf b (y 0)) (colV h (y 1)))

variable {sg : RefSig} {κ : Kind} {sp : Space}

theorem ix2_ext {a b : ℕ} {i i' : Fin a} {j j' : Fin b} (h : i.val = i'.val) (h' : j.val = j'.val) : (ix2 i j) = ix2 i' j' := by
  rw [Fin.ext h, Fin.ext h']

/-- A load of one head's columns of one block of rows. -/
theorem readAt_rowsQ {e : EltTy} (w : View sg κ sp S4096x512 e) (f : w.ty.Contents (Elt Ideal)) (b : Fin 8) (h : Fin 2) (off : Fin 2 → ℕ) (inb)
    (ho : off = ![b.val * 512, h.val * 256]) :
    w.readAt (Elt Ideal) (Rect.unit (s := S4096x512) off ![512, 256] inb).toLoadRect f
      = fun y => w.read (Elt Ideal) f (ix2 (rowOf b (y 0)) (colQ h (y 1))) := by
  subst ho
  funext y
  idx_vars y
  refine congrArg (w.read (Elt Ideal) f) ?_
  funext a
  refine Fin.ext ?_
  match a with
  | 0 => show b.val * 512 + 1 * y0.val = b.val * 512 + y0.val; omega
  | 1 => show h.val * 256 + 1 * y1.val = h.val * 256 + y1.val; omega
theorem readAt_rowsV {e : EltTy} (w : View sg κ sp S4096x256 e) (f : w.ty.Contents (Elt Ideal)) (b : Fin 8) (h : Fin 2) (off : Fin 2 → ℕ) (inb)
    (ho : off = ![b.val * 512, h.val * 128]) :
    w.readAt (Elt Ideal) (Rect.unit (s := S4096x256) off ![512, 128] inb).toLoadRect f
      = fun y => w.read (Elt Ideal) f (ix2 (rowOf b (y 0)) (colV h (y 1))) := by
  subst ho
  funext y
  idx_vars y
  refine congrArg (w.read (Elt Ideal) f) ?_
  funext a
  refine Fin.ext ?_
  match a with
  | 0 => show b.val * 512 + 1 * y0.val = b.val * 512 + y0.val; omega
  | 1 => show h.val * 128 + 1 * y1.val = h.val * 128 + y1.val; omega
theorem readAt_colsQ {e : EltTy} (w : View sg κ sp S512x512 e) (f : w.ty.Contents (Elt Ideal)) (h : Fin 2) (off : Fin 2 → ℕ) (inb)
    (ho : off = ![0, h.val * 256]) :
    w.readAt (Elt Ideal) (Rect.unit (s := S512x512) off ![512, 256] inb).toLoadRect f = fun y => w.read (Elt Ideal) f (ix2 (y 0) (colQ h (y 1))) := by
  subst ho
  funext y
  idx_vars y
  refine congrArg (w.read (Elt Ideal) f) ?_
  funext a
  refine Fin.ext ?_
  match a with
  | 0 => show 0 + 1 * y0.val = y0.val; omega
  | 1 => show h.val * 256 + 1 * y1.val = h.val * 256 + y1.val; omega
theorem readAt_colsV {e : EltTy} (w : View sg κ sp S512x256 e) (f : w.ty.Contents (Elt Ideal)) (h : Fin 2) (off : Fin 2 → ℕ) (inb)
    (ho : off = ![0, h.val * 128]) :
    w.readAt (Elt Ideal) (Rect.unit (s := S512x256) off ![512, 128] inb).toLoadRect f = fun y => w.read (Elt Ideal) f (ix2 (y 0) (colV h (y 1))) := by
  subst ho
  funext y
  idx_vars y
  refine congrArg (w.read (Elt Ideal) f) ?_
  funext a
  refine Fin.ext ?_
  match a with
  | 0 => show 0 + 1 * y0.val = y0.val; omega
  | 1 => show h.val * 128 + 1 * y1.val = h.val * 128 + y1.val; omega

/-- What is read in the two heads' columns after a store to each. -/
theorem two_colsV {e : EltTy} (w : View sg κ sp S512x256 e) (f : w.ty.Contents (Elt Ideal)) (L0) (p1 p0 : Vec Ideal S512x128 e) (inb1 inb0) (j : Fin 512) (h : Fin 2) (d : Fin 128) :
    w.read (Elt Ideal) (w.writes (Elt Ideal) f (⟨Rect.unit (s := S512x256) ![0, 128] ![512, 128] inb1, p1⟩ :: ⟨Rect.unit (s := S512x256) ![0, 0] ![512, 128] inb0, p0⟩ :: L0)) (ix2 j (colV h d))
      = if h = 1 then p1 (ix2 j d) else p0 (ix2 j d) := by
  match h with
  | 1 =>
    rw [if_pos rfl]
    exact View.read_writes_cons_unit_of_mem w f inb1 p1 _ _ (ix2 j d) rfl fun a => match a with
      | 0 => (Nat.zero_add _).symm
      | 1 => rfl
  | 0 =>
    rw [if_neg (by decide), View.read_writes_cons_unit_of_not_mem w f inb1 p1 _ _ rfl 1 (Or.inl (by show 0 * 128 + d.val < 128; omega))]
    exact View.read_writes_cons_unit_of_mem w f inb0 p0 _ _ (ix2 j d) rfl fun a => match a with
      | 0 => (Nat.zero_add _).symm
      | 1 => rfl
theorem two_colsQ {e : EltTy} (w : View sg κ sp S512x512 e) (f : w.ty.Contents (Elt Ideal)) (L0) (p1 p0 : Vec Ideal S512x256 e) (inb1 inb0) (j : Fin 512) (h : Fin 2) (d : Fin 256) :
    w.read (Elt Ideal) (w.writes (Elt Ideal) f (⟨Rect.unit (s := S512x512) ![0, 256] ![512, 256] inb1, p1⟩ :: ⟨Rect.unit (s := S512x512) ![0, 0] ![512, 256] inb0, p0⟩ :: L0)) (ix2 j (colQ h d))
      = if h = 1 then p1 (ix2 j d) else p0 (ix2 j d) := by
  match h with
  | 1 =>
    rw [if_pos rfl]
    exact View.read_writes_cons_unit_of_mem w f inb1 p1 _ _ (ix2 j d) rfl fun a => match a with
      | 0 => (Nat.zero_add _).symm
      | 1 => rfl
  | 0 =>
    rw [if_neg (by decide), View.read_writes_cons_unit_of_not_mem w f inb1 p1 _ _ rfl 1 (Or.inl (by show 0 * 256 + d.val < 256; omega))]
    exact View.read_writes_cons_unit_of_mem w f inb0 p0 _ _ (ix2 j d) rfl fun a => match a with
      | 0 => (Nat.zero_add _).symm
      | 1 => rfl
/-- … and in a block of rows, after a store to each head's columns of it; -/
theorem two_rows {e : EltTy} (w : View sg κ sp S4096x512 e) (f : w.ty.Contents (Elt Ideal)) (L0) (p1 p0 : Vec Ideal S512x256 e) (off1 off0 : Fin 2 → ℕ) (inb1 inb0) (b : Fin 8)
    (h1 : off1 = ![b.val * 512, 256]) (h0 : off0 = ![b.val * 512, 0]) (i : Fin 512) (h : Fin 2) (d : Fin 256) :
    w.read (Elt Ideal) (w.writes (Elt Ideal) f (⟨Rect.unit (s := S4096x512) off1 ![512, 256] inb1, p1⟩ :: ⟨Rect.unit (s := S4096x512) off0 ![512, 256] inb0, p0⟩ :: L0)) (ix2 (rowOf b i) (colQ h d))
      = if h = 1 then p1 (ix2 i d) else p0 (ix2 i d) := by
  match h with
  | 1 =>
    rw [if_pos rfl]
    exact View.read_writes_cons_unit_of_mem w f inb1 p1 _ _ (ix2 i d) h1 fun a => match a with
      | 0 => rfl
      | 1 => rfl
  | 0 =>
    rw [if_neg (by decide), View.read_writes_cons_unit_of_not_mem w f inb1 p1 _ _ h1 1 (Or.inl (by show 0 * 256 + d.val < 256; omega))]
    exact View.read_writes_cons_unit_of_mem w f inb0 p0 _ _ (ix2 i d) h0 fun a => match a with
      | 0 => rfl
      | 1 => rfl
/-- … and outside the block. -/
theorem two_rows_out {e : EltTy} (w : View sg κ sp S4096x512 e) (f : w.ty.Contents (Elt Ideal)) (L0) (p1 p0 : Vec Ideal S512x256 e) (off1 off0 : Fin 2 → ℕ) (inb1 inb0) (b b' : Fin 8)
    (h1 : off1 = ![b.val * 512, 256]) (h0 : off0 = ![b.val * 512, 0]) (hb : b' ≠ b) (i : Fin 512) (x : Fin 512) :
    w.read (Elt Ideal) (w.writes (Elt Ideal) f (⟨Rect.unit (s := S4096x512) off1 ![512, 256] inb1, p1⟩ :: ⟨Rect.unit (s := S4096x512) off0 ![512, 256] inb0, p0⟩ :: L0)) (ix2 (rowOf b' i) x)
      = w.read (Elt Ideal) (w.writes (Elt Ideal) f L0) (ix2 (rowOf b' i) x) := by
  have hv : b'.val * 512 + i.val < b.val * 512 ∨ b.val * 512 + 512 ≤ b'.val * 512 + i.val := by
    have := i.isLt
    rcases Nat.lt_or_gt_of_ne (fun h => hb (Fin.ext h)) with h | h <;> omega
  exact (View.read_writes_cons_unit_of_not_mem w f inb1 p1 _ _ h1 0 hv).trans (View.read_writes_cons_unit_of_not_mem w f inb0 p0 _ _ h0 0 hv)

end Blocks

theorem trips_eq : ∀ t : Fin cfg0.N, (k0_t1_loop (grid0.coords t)).trips = 7 - t.val % 8 :=
  (by decide +kernel : ∀ t : Fin grid0.N, (k0_t1_loop (grid0.coords t)).trips = 7 - t.val % 8)
theorem offs_trip : ∀ (t : Fin cfg0.N) (k : Fin (k0_t1_loop (grid0.coords t)).trips),
    k0_off5 (grid0.coords t) k = ![(t.val % 8 + 1 + k.val) * 512, 0] ∧ k0_off6 (grid0.coords t) k = ![(t.val % 8 + 1 + k.val) * 512, 0]
    ∧ k0_off7 (grid0.coords t) k = ![(t.val % 8 + 1 + k.val) * 512, 256] ∧ k0_off8 (grid0.coords t) k = ![(t.val % 8 + 1 + k.val) * 512, 128] :=
  (by decide +kernel : ∀ (t : Fin grid0.N) (k : Fin (k0_t1_loop (grid0.coords t)).trips),
    k0_off5 (grid0.coords t) k = ![(t.val % 8 + 1 + k.val) * 512, 0] ∧ k0_off6 (grid0.coords t) k = ![(t.val % 8 + 1 + k.val) * 512, 0]
    ∧ k0_off7 (grid0.coords t) k = ![(t.val % 8 + 1 + k.val) * 512, 256] ∧ k0_off8 (grid0.coords t) k = ![(t.val % 8 + 1 + k.val) * 512, 128])
theorem offs_diag : ∀ (t : Fin cfg0.N),
    k0_off1 (grid0.coords t) = ![t.val % 8 * 512, 0] ∧ k0_off2 (grid0.coords t) = ![t.val % 8 * 512, 0]
    ∧ k0_off3 (grid0.coords t) = ![t.val % 8 * 512, 256] ∧ k0_off4 (grid0.coords t) = ![t.val % 8 * 512, 128] :=
  (by decide +kernel : ∀ (t : Fin grid0.N),
    k0_off1 (grid0.coords t) = ![t.val % 8 * 512, 0] ∧ k0_off2 (grid0.coords t) = ![t.val % 8 * 512, 0]
    ∧ k0_off3 (grid0.coords t) = ![t.val % 8 * 512, 256] ∧ k0_off4 (grid0.coords t) = ![t.val % 8 * 512, 128])

/-- The block of rows that trip `k` takes. -/
def qb (t : Fin cfg0.N) (k : Fin (k0_t1_loop (grid0.coords t)).trips) : Fin 8 :=
  ⟨t.val % 8 + 1 + k.val, by have h1 := trips_eq t; have h2 := k.isLt; omega⟩

section Trip
variable (𝒱 : Variants) (c : Dev nD) (bd : Option 𝒱.V) (t : Fin cfg0.N) (x1 x12 : BitVec 32) (x74 x79 : FVec Ideal S512x256 .bf16)
variable (x109 : FVec Ideal S512x512 .bf16) (x113 : FVec Ideal S512x128 .f32) (x114 : Vec Ideal S512x128 .f32) (x131 : BitVec 32)
variable (Q : Vec Ideal S4096x512 .bf16) (K : Vec Ideal S512x512 .bf16) (V : Vec Ideal S512x256 .bf16)
variable (O : Vec Ideal S4096x256 .bf16) (L D : Vec Ideal S4096x256 .f32)
variable (f11 : BufTy.Contents (Elt Ideal) M11.view.ty) (f12 : BufTy.Contents (Elt Ideal) M12.view.ty) (f13 : BufTy.Contents (Elt Ideal) M13.view.ty)

theorem ld2 (b : Fin 8) (h : Fin 2) {off : Fin 2 → ℕ} {inb} (ho : off = ![b.val * 512, h.val * 256]) :
    (a2 t).view.readAt (Elt Ideal) (Rect.unit (s := S4096x512) off S512x256.size inb).toLoadRect ((w2 t).unread Q) = qS Q b h :=
  (readAt_rowsQ _ _ b h off inb ho).trans (by rw [Memref.IsWhole.read_unread]; rfl)
theorem ld3 (h : Fin 2) {off : Fin 2 → ℕ} {inb} (ho : off = ![0, h.val * 256]) :
    (a3 t).view.readAt (Elt Ideal) (Rect.unit (s := S512x512) off S512x256.size inb).toLoadRect ((w3 t).unread K) = kS K h :=
  (readAt_colsQ _ _ h off inb ho).trans (by rw [Memref.IsWhole.read_unread]; rfl)
theorem ld4 (h : Fin 2) {off : Fin 2 → ℕ} {inb} (ho : off = ![0, h.val * 128]) :
    (a4 t).view.readAt (Elt Ideal) (Rect.unit (s := S512x256) off S512x128.size inb).toLoadRect ((w4 t).unread V) = vS V h :=
  (readAt_colsV _ _ h off inb ho).trans (by rw [Memref.IsWhole.read_unread]; rfl)
theorem ld5 (b : Fin 8) (h : Fin 2) {off : Fin 2 → ℕ} {inb} (ho : off = ![b.val * 512, h.val * 128]) :
    (a5 t).view.readAt (Elt Ideal) (Rect.unit (s := S4096x256) off S512x128.size inb).toLoadRect ((w5 t).unread O) = oS O b h :=
  (readAt_rowsV _ _ b h off inb ho).trans (by rw [Memref.IsWhole.read_unread]; rfl)
theorem ld6 (b : Fin 8) (h : Fin 2) {off : Fin 2 → ℕ} {inb} (ho : off = ![b.val * 512, h.val * 128]) :
    (a6 t).view.readAt (Elt Ideal) (Rect.unit (s := S4096x256) off S512x128.size inb).toLoadRect ((w6 t).unread L) = lS L b h :=
  (readAt_rowsV _ _ b h off inb ho).trans (by rw [Memref.IsWhole.read_unread]; rfl)
theorem ld7 (b : Fin 8) (h : Fin 2) {off : Fin 2 → ℕ} {inb} (ho : off = ![b.val * 512, h.val * 128]) :
    (a7 t).view.readAt (Elt Ideal) (Rect.unit (s := S4096x256) off S512x128.size inb).toLoadRect ((w7 t).unread D) = lS D b h :=
  (readAt_rowsV _ _ b h off inb ho).trans (by rw [Memref.IsWhole.read_unread]; rfl)

/-- The pieces one trip writes. -/
abbrev tp (k : Fin (k0_t1_loop (grid0.coords t)).trips) :=
  tripL_k0_t1 (F := Ideal) 𝒱 c bd (grid0.coords t) (a2 t) (w2 t) (a3 t) (w3 t) (a4 t) (w4 t) (a5 t) (w5 t) (a6 t) (w6 t) (a7 t) (w7 t) (a8 t) (w8 t) (a9 t) (w9 t) (a10 t) (w10 t)
    M11 (Memref.isWhole_whole _) M12 (Memref.isWhole_whole _) M13 (Memref.isWhole_whole _) x1 x12 x74 x79 x109 x113 x114 x131
    ((w2 t).unread Q) ((w3 t).unread K) ((w4 t).unread V) ((w5 t).unread O) ((w6 t).unread L) ((w7 t).unread D) k f11 f12 f13

/-- The gradient at the scores of one block of rows and one head, with the scores `s`. -/
abbrev dS (b : Fin 8) (h : Fin 2) (s : Fin 512 → Fin 512 → EReal) := dB (oS O b h) (vS V h) (lS L b h) (lS D b h) s

theorem trip13 (k : Fin (k0_t1_loop (grid0.coords t)).trips) (h : Fin 2) (j : Fin 512) (e : Fin 128) :
    M13.view.read (Elt Ideal) (M13.view.writes (Elt Ideal) f13 (tp 𝒱 c bd t x1 x12 x74 x79 x109 x113 x114 x131 Q K V O L D f11 f12 f13 k).2.2) (ix2 j (colV h e))
      = M13.view.read (Elt Ideal) f13 (ix2 j (colV h e)) + ∑ i : Fin 512, wB (lS L (qb t k) h) (sB (qS Q (qb t k) h) (kS K h)) i j * oS O (qb t k) h (ix2 i e) := by
  unfold tp tripL_k0_t1
  unfold trip_k0_t1
  dsimp only
  refine (two_colsV _ _ _ _ _ _ _ _ _ _).trans ?_
  match h with
  | 1 =>
    rw [if_pos rfl]
    refine (vb_apply _ _ _ _ _ j e).trans ?_
    rw [ld2 t Q (qb t k) 1 (offs_trip t k).2.2.1, ld3 t K 1 (off := ![0, 256]) rfl, ld5 t O (qb t k) 1 (offs_trip t k).2.2.2, ld6 t L (qb t k) 1 (offs_trip t k).2.2.2]
    exact congrArg (· + _) (congrFun (readAt_colsV M13.view f13 1 ![0, 1*128] _ rfl) (ix2 j e))
  | 0 =>
    rw [if_neg (by decide)]
    refine (va_apply _ _ _ _ _ j e).trans ?_
    rw [ld2 t Q (qb t k) 0 (offs_trip t k).1, ld3 t K 0 (off := ![0, 0]) rfl, ld5 t O (qb t k) 0 (offs_trip t k).2.1, ld6 t L (qb t k) 0 (offs_trip t k).2.1]
    exact congrArg (· + _) (congrFun (readAt_colsV M13.view f13 0 ![0, 0*128] _ rfl) (ix2 j e))

theorem trip12 (k : Fin (k0_t1_loop (grid0.coords t)).trips) (h : Fin 2) (j : Fin 512) (e : Fin 256) :
    M12.view.read (Elt Ideal) (M12.view.writes (Elt Ideal) f12 (tp 𝒱 c bd t x1 x12 x74 x79 x109 x113 x114 x131 Q K V O L D f11 f12 f13 k).2.1) (ix2 j (colQ h e))
      = M12.view.read (Elt Ideal) f12 (ix2 j (colQ h e)) + ∑ i : Fin 512, dS V O L D (qb t k) h (sB (qS Q (qb t k) h) (kS K h)) i j * qS Q (qb t k) h (ix2 i e) := by
  unfold tp tripL_k0_t1
  unfold trip_k0_t1
  dsimp only
  refine (two_colsQ _ _ _ _ _ _ _ _ _ _).trans ?_
  match h with
  | 1 =>
    rw [if_pos rfl]
    refine (kb_apply _ _ _ _ _ _ _ j e).trans ?_
    rw [ld2 t Q (qb t k) 1 (offs_trip t k).2.2.1, ld3 t K 1 (off := ![0, 256]) rfl, ld5 t O (qb t k) 1 (offs_trip t k).2.2.2, ld6 t L (qb t k) 1 (offs_trip t k).2.2.2, ld4 t V 1 (off := ![0, 128]) rfl, ld7 t D (qb t k) 1 (offs_trip t k).2.2.2]
    exact congrArg (· + _) (congrFun (readAt_colsQ M12.view f12 1 ![0, 1*256] _ rfl) (ix2 j e))
  | 0 =>
    rw [if_neg (by decide)]
    refine (ka_apply _ _ _ _ _ _ _ j e).trans ?_
    rw [ld2 t Q (qb t k) 0 (offs_trip t k).1, ld3 t K 0 (off := ![0, 0]) rfl, ld5 t O (qb t k) 0 (offs_trip t k).2.1, ld6 t L (qb t k) 0 (offs_trip t k).2.1, ld4 t V 0 (off := ![0, 0]) rfl, ld7 t D (qb t k) 0 (offs_trip t k).2.1]
    exact congrArg (· + _) (congrFun (readAt_colsQ M12.view f12 0 ![0, 0*256] _ rfl) (ix2 j e))

theorem trip11 (k : Fin (k0_t1_loop (grid0.coords t)).trips) (h : Fin 2) (i : Fin 512) (e : Fin 256) :
    M11.view.read (Elt Ideal) (M11.view.writes (Elt Ideal) f11 (tp 𝒱 c bd t x1 x12 x74 x79 x109 x113 x114 x131 Q K V O L D f11 f12 f13 k).1) (ix2 (rowOf (qb t k) i) (colQ h e))
      = M11.view.read (Elt Ideal) f11 (ix2 (rowOf (qb t k) i) (colQ h e)) + ∑ j : Fin 512, dS V O L D (qb t k) h (sB (qS Q (qb t k) h) (kS K h)) i j * kS K h (ix2 j e) := by
  unfold tp tripL_k0_t1
  unfold trip_k0_t1
  dsimp only
  refine (two_rows _ _ _ _ _ _ _ _ _ (qb t k) (offs_trip t k).2.2.1 (offs_trip t k).1 _ _ _).trans ?_
  match h with
  | 1 =>
    rw [if_pos rfl]
    refine (qb_apply _ _ _ _ _ _ _ i e).trans ?_
    rw [ld2 t Q (qb t k) 1 (offs_trip t k).2.2.1, ld3 t K 1 (off := ![0, 256]) rfl, ld5 t O (qb t k) 1 (offs_trip t k).2.2.2, ld6 t L (qb t k) 1 (offs_trip t k).2.2.2, ld4 t V 1 (off := ![0, 128]) rfl, ld7 t D (qb t k) 1 (offs_trip t k).2.2.2]
    exact congrArg (· + _) (congrFun (readAt_rowsQ M11.view f11 (qb t k) 1 _ _ (offs_trip t k).2.2.1) (ix2 i e))
  | 0 =>
    rw [if_neg (by decide)]
    refine (qa_apply _ _ _ _ _ _ _ i e).trans ?_
    rw [ld2 t Q (qb t k) 0 (offs_trip t k).1, ld3 t K 0 (off := ![0, 0]) rfl, ld5 t O (qb t k) 0 (offs_trip t k).2.1, ld6 t L (qb t k) 0 (offs_trip t k).2.1, ld4 t V 0 (off := ![0, 0]) rfl, ld7 t D (qb t k) 0 (offs_trip t k).2.1]
    exact congrArg (· + _) (congrFun (readAt_rowsQ M11.view f11 (qb t k) 0 _ _ (offs_trip t k).1) (ix2 i e))

/-- A trip leaves the other blocks of rows as they were. -/
theorem trip11_out (k : Fin (k0_t1_loop (grid0.coords t)).trips) (b : Fin 8) (hb : b ≠ qb t k) (i x : Fin 512) :
    M11.view.read (Elt Ideal) (M11.view.writes (Elt Ideal) f11 (tp 𝒱 c bd t x1 x12 x74 x79 x109 x113 x114 x131 Q K V O L D f11 f12 f13 k).1) (ix2 (rowOf b i) x)
      = M11.view.read (Elt Ideal) f11 (ix2 (rowOf b i) x) := by
  unfold tp tripL_k0_t1
  unfold trip_k0_t1
  dsimp only
  exact two_rows_out _ _ _ _ _ _ _ _ _ (qb t k) b (offs_trip t k).2.2.1 (offs_trip t k).1 hb _ _

/-- The pieces of the trips before `n`. -/
abbrev pb (n : ℕ) :=
  pb_k0_t1 (F := Ideal) 𝒱 c bd (grid0.coords t) (a2 t) (w2 t) (a3 t) (w3 t) (a4 t) (w4 t) (a5 t) (w5 t) (a6 t) (w6 t) (a7 t) (w7 t) (a8 t) (w8 t) (a9 t) (w9 t) (a10 t) (w10 t)
    M11 (Memref.isWhole_whole _) M12 (Memref.isWhole_whole _) M13 (Memref.isWhole_whole _) x1 x12 x74 x79 x109 x113 x114 x131
    ((w2 t).unread Q) ((w3 t).unread K) ((w4 t).unread V) ((w5 t).unread O) ((w6 t).unread L) ((w7 t).unread D) f11 f12 f13 n

/-- What block `b` of rows adds to the gradient at the values, … -/
def tV (b : Fin 8) (h : Fin 2) (s : Fin 512 → Fin 512 → EReal) (j : Fin 512) (e : Fin 128) : EReal :=
  ∑ i : Fin 512, wB (lS L b h) s i j * oS O b h (ix2 i e)
/-- … at the keys, … -/
def tK (b : Fin 8) (h : Fin 2) (s : Fin 512 → Fin 512 → EReal) (j : Fin 512) (e : Fin 256) : EReal :=
  ∑ i : Fin 512, dS V O L D b h s i j * qS Q b h (ix2 i e)
/-- … and what the block of keys adds to its queries. -/
def tQ (b : Fin 8) (h : Fin 2) (s : Fin 512 → Fin 512 → EReal) (i : Fin 512) (e : Fin 256) : EReal :=
  ∑ j : Fin 512, dS V O L D b h s i j * kS K h (ix2 j e)

/-- One more block in a sum over the blocks after the diagonal one. -/
theorem sum_blocks (T : Fin 8 → EReal) (n : ℕ) (k : Fin (k0_t1_loop (grid0.coords t)).trips) (hk : k.val = n) :
    (∑ b : Fin 8, if t.val % 8 < b.val ∧ b.val ≤ t.val % 8 + n then T b else 0) + T (qb t k)
      = ∑ b : Fin 8, if t.val % 8 < b.val ∧ b.val ≤ t.val % 8 + (n + 1) then T b else 0 := by
  have e : T (qb t k) = ∑ b : Fin 8, if b = qb t k then T b else 0 := by simp
  rw [e, ← Finset.sum_add_distrib]
  refine Finset.sum_congr rfl fun b _ => ?_
  by_cases hb : b = qb t k
  · have hv : b.val = t.val % 8 + 1 + n := by rw [hb, ← hk]; rfl
    rw [if_neg (by omega), if_pos hb, if_pos (by omega), zero_add]
  · have hv : b.val ≠ t.val % 8 + 1 + n := fun h => hb (Fin.ext (by rw [h, ← hk]; rfl))
    rw [if_neg hb, add_zero]
    by_cases h : t.val % 8 < b.val ∧ b.val ≤ t.val % 8 + n
    · rw [if_pos h, if_pos (by omega)]
    · rw [if_neg h, if_neg (by omega)]

theorem trips13 (h : Fin 2) (j : Fin 512) (e : Fin 128) : ∀ n, n ≤ (k0_t1_loop (grid0.coords t)).trips →
    M13.view.read (Elt Ideal) (M13.view.writes (Elt Ideal) f13 (pb 𝒱 c bd t x1 x12 x74 x79 x109 x113 x114 x131 Q K V O L D f11 f12 f13 n).2.2) (ix2 j (colV h e)) = M13.view.read (Elt Ideal) f13 (ix2 j (colV h e))
      + ∑ b : Fin 8, if t.val % 8 < b.val ∧ b.val ≤ t.val % 8 + n then tV O L b h (sB (qS Q b h) (kS K h)) j e else 0
  | 0, _ => by
    rw [Finset.sum_eq_zero fun b _ => if_neg (by omega), add_zero, pb, pb_k0_t1.eq_1]
    rfl
  | n + 1, hn => by
    have ih := trips13 h j e n (by omega)
    rw [pb, pb_k0_t1_succ (k := ⟨n, hn⟩), ← sum_blocks t (fun b => tV O L b h (sB (qS Q b h) (kS K h)) j e) n ⟨n, hn⟩ rfl, ← add_assoc (G := EReal), ← ih]
    dsimp only
    rw [View.writes_append]
    exact trip13 ..

theorem trips12 (h : Fin 2) (j : Fin 512) (e : Fin 256) : ∀ n, n ≤ (k0_t1_loop (grid0.coords t)).trips →
    M12.view.read (Elt Ideal) (M12.view.writes (Elt Ideal) f12 (pb 𝒱 c bd t x1 x12 x74 x79 x109 x113 x114 x131 Q K V O L D f11 f12 f13 n).2.1) (ix2 j (colQ h e)) = M12.view.read (Elt Ideal) f12 (ix2 j (colQ h e))
      + ∑ b : Fin 8, if t.val % 8 < b.val ∧ b.val ≤ t.val % 8 + n then tK Q V O L D b h (sB (qS Q b h) (kS K h)) j e else 0
  | 0, _ => by
    rw [Finset.sum_eq_zero fun b _ => if_neg (by omega), add_zero, pb, pb_k0_t1.eq_1]
    rfl
  | n + 1, hn => by
    have ih := trips12 h j e n (by omega)
    rw [pb, pb_k0_t1_succ (k := ⟨n, hn⟩), ← sum_blocks t (fun b => tK Q V O L D b h (sB (qS Q b h) (kS K h)) j e) n ⟨n, hn⟩ rfl, ← add_assoc (G := EReal), ← ih]
    dsimp only
    rw [View.writes_append]
    exact trip12 ..

theorem trips11 (b : Fin 8) (h : Fin 2) (i : Fin 512) (e : Fin 256) : ∀ n, n ≤ (k0_t1_loop (grid0.coords t)).trips →
    M11.view.read (Elt Ideal) (M11.view.writes (Elt Ideal) f11 (pb 𝒱 c bd t x1 x12 x74 x79 x109 x113 x114 x131 Q K V O L D f11 f12 f13 n).1) (ix2 (rowOf b i) (colQ h e)) = M11.view.read (Elt Ideal) f11 (ix2 (rowOf b i) (colQ h e))
      + if t.val % 8 < b.val ∧ b.val ≤ t.val % 8 + n then tQ K V O L D b h (sB (qS Q b h) (kS K h)) i e else 0
  | 0, _ => by
    rw [if_neg (by omega), add_zero, pb, pb_k0_t1.eq_1]
    rfl
  | n + 1, hn => by
    have ih := trips11 b h i e n (by omega)
    rw [pb, pb_k0_t1_succ (k := ⟨n, hn⟩)]
    dsimp only
    rw [View.writes_append]
    by_cases hb : b = qb t ⟨n, hn⟩
    · have hv : b.val = t.val % 8 + 1 + n := by rw [hb]; rfl
      rw [if_pos (by omega)]
      rw [if_neg (by omega), add_zero] at ih
      rw [← ih, hb]
      exact trip11 ..
    · have hv : b.val ≠ t.val % 8 + 1 + n := fun h => hb (Fin.ext (by rw [h]; rfl))
      rw [if_congr (show (t.val % 8 < b.val ∧ b.val ≤ t.val % 8 + (n + 1)) ↔ (t.val % 8 < b.val ∧ b.val ≤ t.val % 8 + n) by omega) rfl rfl, ← ih]
      exact trip11_out (hb := hb) ..

end Trip

end Flash

end
-- ==== Proof.FlashDiag.lean ====
module

public import proofs.«01_k».proof.Proof.FlashTrip
public import Idealize.ShloMosaic.Lib.Pipeline.ReadBack

/-! The attention's backward kernel over the extended reals: the block of query rows on the diagonal, whose scores are
    masked, and with it what a key block's point leaves. A masked weight is zero, so the blocks of rows before the
    diagonal may be counted too. -/

@[expose] public section

set_option maxRecDepth 16384

noncomputable section

namespace Flash

open Cert.FlashBwdIdeal Cert.FlashBwdIdeal.Gen
open Idealize.ShloMosaic Idealize.ShloMosaic.TcCoe Idealize.ShloMosaic.Tactic

/-- The block of rows on the diagonal. -/
def db (t : Fin cfg0.N) : Fin 8 := ⟨t.val % 8, Nat.mod_lt _ (by decide)⟩

theorem pay33_apply (y) : (k0_pay33 (F := Ideal)) y = 0 := by
  idx_vars y; unfold_payloads; pointwise
theorem pay34_apply (y) : (k0_pay34 (F := Ideal)) y = 0 := by
  idx_vars y; unfold_payloads; pointwise
theorem pay35_apply (y) : (k0_pay35 (F := Ideal)) y = 0 := by
  idx_vars y; unfold_payloads; pointwise

section Diag
variable (c : Dev nD) (t : Fin cfg0.N)
variable (Q : Vec Ideal S4096x512 .bf16) (K : Vec Ideal S512x512 .bf16) (V : Vec Ideal S512x256 .bf16)
variable (O : Vec Ideal S4096x256 .bf16) (L D : Vec Ideal S4096x256 .f32) (xo : Vec Ideal S4096x512 .f32)

/-- The diagonal block's stores to the accumulators of the gradients at the values, the keys and the queries. -/
abbrev H13 := runB.sl.H13_3 (F := Ideal) c (grid0.coords t) (a2 t) (w2 t) (a3 t) (w3 t) (a5 t) (w5 t) (a6 t) (w6 t) M13 Q K O L
abbrev H12 := runB.sl.H12_3 (F := Ideal) c (grid0.coords t) (a2 t) (w2 t) (a3 t) (w3 t) (a4 t) (w4 t) (a5 t) (w5 t) (a6 t) (w6 t) (a7 t) (w7 t) M12 Q K V O L D

theorem diag13 (f) (h : Fin 2) (j : Fin 512) (e : Fin 128) :
    M13.view.read (Elt Ideal) (M13.view.writes (Elt Ideal) f (H13 c t Q K O L)) (ix2 j (colV h e)) = tV O L (db t) h (sM (qS Q (db t) h) (kS K h)) j e := by
  refine (two_colsV _ _ _ _ _ _ _ _ _ _).trans ?_
  match h with
  | 1 =>
    rw [if_pos rfl]
    refine (vd_apply _ _ _ _ _ j e).trans ?_
    unfold runB.sl.r_5
    rw [ld2 t Q (db t) 1 (offs_diag t).2.2.1, ld3 t K 1 (off := ![0, 256]) rfl, ld5 t O (db t) 1 (offs_diag t).2.2.2, ld6 t L (db t) 1 (offs_diag t).2.2.2]
    exact (congrArg (· + _) ((congrFun ((View.readCov_skip _ _ _ _ _ (by decide)).trans (View.readCov_fill _ _ _ _ _ (by decide))) _).trans (pay35_apply _))).trans (zero_add _)
  | 0 =>
    rw [if_neg (by decide)]
    refine (vc_apply _ _ _ _ _ j e).trans ?_
    rw [ld2 t Q (db t) 0 (offs_diag t).1, ld3 t K 0 (off := ![0, 0]) rfl, ld5 t O (db t) 0 (offs_diag t).2.1, ld6 t L (db t) 0 (offs_diag t).2.1]
    exact (congrArg (· + _) ((congrFun (View.readCov_fill _ _ _ _ _ (by decide)) _).trans (pay35_apply _))).trans (zero_add _)

theorem diag12 (f) (h : Fin 2) (j : Fin 512) (e : Fin 256) :
    M12.view.read (Elt Ideal) (M12.view.writes (Elt Ideal) f (H12 c t Q K V O L D)) (ix2 j (colQ h e)) = tK Q V O L D (db t) h (sM (qS Q (db t) h) (kS K h)) j e := by
  refine (two_colsQ _ _ _ _ _ _ _ _ _ _).trans ?_
  match h with
  | 1 =>
    rw [if_pos rfl]
    refine (kd_apply _ _ _ _ _ _ _ j e).trans ?_
    unfold runB.sl.r_5
    rw [ld2 t Q (db t) 1 (offs_diag t).2.2.1, ld3 t K 1 (off := ![0, 256]) rfl, ld4 t V 1 (off := ![0, 128]) rfl, ld5 t O (db t) 1 (offs_diag t).2.2.2,
      ld6 t L (db t) 1 (offs_diag t).2.2.2, ld7 t D (db t) 1 (offs_diag t).2.2.2]
    exact (congrArg (· + _) ((congrFun ((View.readCov_skip _ _ _ _ _ (by decide)).trans (View.readCov_fill _ _ _ _ _ (by decide))) _).trans (pay34_apply _))).trans (zero_add _)
  | 0 =>
    rw [if_neg (by decide)]
    refine (kc_apply _ _ _ _ _ _ _ j e).trans ?_
    rw [ld2 t Q (db t) 0 (offs_diag t).1, ld3 t K 0 (off := ![0, 0]) rfl, ld4 t V 0 (off := ![0, 0]) rfl, ld5 t O (db t) 0 (offs_diag t).2.1,
      ld6 t L (db t) 0 (offs_diag t).2.1, ld7 t D (db t) 0 (offs_diag t).2.1]
    exact (congrArg (· + _) ((congrFun (View.readCov_fill _ _ _ _ _ (by decide)) _).trans (pay34_apply _))).trans (zero_add _)

/-- The diagonal block's stores to the query gradient's accumulator, after those of `L0`: the loads before them read `x0` and `x1`; -/
abbrev H11 (L0 : List (View.Piece (Elt Ideal) S4096x512 .f32)) (x1 x0 : Vec Ideal S512x256 .f32) (inb1 inb0 inb3 inb6 inb5 inb8 inb7 inb4) :=
        ⟨Rect.unit (s := S4096x512) (k0_off3 (grid0.coords t)) ![512, 256] inb1,
            k0_pay55 (k0_pay49 ((a3 t).view.readAt (Elt Ideal) (Rect.unit (s := S512x512) ![0, 256] S512x256.size inb3).toLoadRect ((w3 t).unread K)))
              (k0_pay51 ((a2 t).view.readAt (Elt Ideal) (Rect.unit (s := S4096x512) (k0_off3 (grid0.coords t)) S512x256.size inb1).toLoadRect ((w2 t).unread Q))
                ((a5 t).view.readAt (Elt Ideal) (Rect.unit (s := S4096x256) (k0_off4 (grid0.coords t)) S512x128.size inb5).toLoadRect ((w5 t).unread O))
                ((a3 t).view.readAt (Elt Ideal) (Rect.unit (s := S512x512) ![0, 256] S512x256.size inb3).toLoadRect ((w3 t).unread K))
                ((a4 t).view.readAt (Elt Ideal) (Rect.unit (s := S512x256) ![0, 128] S512x128.size inb4).toLoadRect ((w4 t).unread V))
                ((a6 t).view.readAt (Elt Ideal) (Rect.unit (s := S4096x256) (k0_off4 (grid0.coords t)) S512x128.size inb5).toLoadRect ((w6 t).unread L))
                ((a7 t).view.readAt (Elt Ideal) (Rect.unit (s := S4096x256) (k0_off4 (grid0.coords t)) S512x128.size inb5).toLoadRect ((w7 t).unread D))) x1⟩
          :: ⟨Rect.unit (s := S4096x512) (k0_off1 (grid0.coords t)) ![512, 256] inb0,
            k0_pay46 (k0_pay37 ((a5 t).view.readAt (Elt Ideal) (Rect.unit (s := S4096x256) (k0_off2 (grid0.coords t)) S512x128.size inb6).toLoadRect ((w5 t).unread O)))
              (k0_pay38 ((a3 t).view.readAt (Elt Ideal) (Rect.unit (s := S512x512) ![0, 0] S512x256.size inb7).toLoadRect ((w3 t).unread K)))
              (k0_pay39 ((a4 t).view.readAt (Elt Ideal) (Rect.unit (s := S512x256) ![0, 0] S512x128.size inb8).toLoadRect ((w4 t).unread V)))
              (k0_pay40 ((a2 t).view.readAt (Elt Ideal) (Rect.unit (s := S4096x512) (k0_off1 (grid0.coords t)) S512x256.size inb0).toLoadRect ((w2 t).unread Q))
                ((a3 t).view.readAt (Elt Ideal) (Rect.unit (s := S512x512) ![0, 0] S512x256.size inb7).toLoadRect ((w3 t).unread K))) k0_pay41
              ((a6 t).view.readAt (Elt Ideal) (Rect.unit (s := S4096x256) (k0_off2 (grid0.coords t)) S512x128.size inb6).toLoadRect ((w6 t).unread L))
              ((a7 t).view.readAt (Elt Ideal) (Rect.unit (s := S4096x256) (k0_off2 (grid0.coords t)) S512x128.size inb6).toLoadRect ((w7 t).unread D)) x0⟩ :: L0

/-- they add the block's share to its rows, … -/
theorem diag11 (f) (L0) (x1 x0 : Vec Ideal S512x256 .f32) (inb1 inb0 inb3 inb6 inb5 inb8 inb7 inb4)
    (h1 : x1 = M11.view.readAt (Elt Ideal) (Rect.unit (s := S4096x512) (k0_off3 (grid0.coords t)) ![512, 256] inb1).toLoadRect (M11.view.writes (Elt Ideal) f L0))
    (h0 : x0 = M11.view.readAt (Elt Ideal) (Rect.unit (s := S4096x512) (k0_off1 (grid0.coords t)) ![512, 256] inb0).toLoadRect (M11.view.writes (Elt Ideal) f L0))
    (h : Fin 2) (i : Fin 512) (e : Fin 256) :
    M11.view.read (Elt Ideal) (M11.view.writes (Elt Ideal) f (H11 t Q K V O L D L0 x1 x0 inb1 inb0 inb3 inb6 inb5 inb8 inb7 inb4)) (ix2 (rowOf (db t) i) (colQ h e))
      = M11.view.read (Elt Ideal) (M11.view.writes (Elt Ideal) f L0) (ix2 (rowOf (db t) i) (colQ h e)) + tQ K V O L D (db t) h (sM (qS Q (db t) h) (kS K h)) i e := by
  refine (two_rows _ _ _ _ _ _ _ _ _ (db t) (offs_diag t).2.2.1 (offs_diag t).1 _ _ _).trans ?_
  match h with
  | 1 =>
    rw [if_pos rfl]
    refine (qd_apply _ _ _ _ _ _ _ i e).trans ?_
    rw [ld2 t Q (db t) 1 (offs_diag t).2.2.1, ld3 t K 1 (off := ![0, 256]) rfl, ld4 t V 1 (off := ![0, 128]) rfl, ld5 t O (db t) 1 (offs_diag t).2.2.2,
      ld6 t L (db t) 1 (offs_diag t).2.2.2, ld7 t D (db t) 1 (offs_diag t).2.2.2]
    rw [h1]
    exact congrArg (· + _) (congrFun (readAt_rowsQ M11.view _ (db t) 1 _ inb1 (offs_diag t).2.2.1) (ix2 i e))
  | 0 =>
    rw [if_neg (by decide)]
    refine (qc_apply _ _ _ _ _ _ _ i e).trans ?_
    rw [ld2 t Q (db t) 0 (offs_diag t).1, ld3 t K 0 (off := ![0, 0]) rfl, ld4 t V 0 (off := ![0, 0]) rfl, ld5 t O (db t) 0 (offs_diag t).2.1,
      ld6 t L (db t) 0 (offs_diag t).2.1, ld7 t D (db t) 0 (offs_diag t).2.1]
    rw [h0]
    exact congrArg (· + _) (congrFun (readAt_rowsQ M11.view _ (db t) 0 _ inb0 (offs_diag t).1) (ix2 i e))
/-- … and leave the other rows. -/
theorem diag11_out (f) (L0) (x1 x0 : Vec Ideal S512x256 .f32) (inb1 inb0 inb3 inb6 inb5 inb8 inb7 inb4) (b : Fin 8) (hb : b ≠ db t) (i : Fin 512) (x : Fin 512) :
    M11.view.read (Elt Ideal) (M11.view.writes (Elt Ideal) f (H11 t Q K V O L D L0 x1 x0 inb1 inb0 inb3 inb6 inb5 inb8 inb7 inb4)) (ix2 (rowOf b i) x)
      = M11.view.read (Elt Ideal) (M11.view.writes (Elt Ideal) f L0) (ix2 (rowOf b i) x) :=
  two_rows_out _ _ _ _ _ _ _ _ _ (db t) b (offs_diag t).2.2.1 (offs_diag t).1 hb i x

end Diag

section Total
variable (t : Fin cfg0.N) (Q : Vec Ideal S4096x512 .bf16) (K : Vec Ideal S512x512 .bf16) (V : Vec Ideal S512x256 .bf16)
variable (O : Vec Ideal S4096x256 .bf16) (L D : Vec Ideal S4096x256 .f32)

/-- The scores of block `b` of the query rows at the point's key block: masked where the key's chunk is later. -/
def sR (b : Fin 8) (h : Fin 2) (i j : Fin 512) : EReal :=
  if (t.val % 8 * 512 + j.val) / 64 ≤ (b.val * 512 + i.val) / 64 then sB (qS Q b h) (kS K h) i j else ⊥

theorem sR_diag (h : Fin 2) : sM (qS Q (db t) h) (kS K h) = sR t Q K (db t) h := by
  funext i j
  have e : j.val / 64 ≤ i.val / 64 ↔ (t.val % 8 * 512 + j.val) / 64 ≤ ((db t).val * 512 + i.val) / 64 := by
    show _ ↔ (t.val % 8 * 512 + j.val) / 64 ≤ (t.val % 8 * 512 + i.val) / 64
    omega
  exact if_congr e rfl rfl
theorem sR_after (b : Fin 8) (h : Fin 2) (hb : t.val % 8 < b.val) : sB (qS Q b h) (kS K h) = sR t Q K b h := by
  funext i j
  exact (if_pos (by have := i.isLt; have := j.isLt; omega)).symm
theorem sR_before (b : Fin 8) (h : Fin 2) (hb : b.val < t.val % 8) : sR t Q K b h = fun _ _ => ⊥ := by
  funext i j
  exact if_neg (by have := i.isLt; have := j.isLt; omega)

theorem wB_bot (l : Vec Ideal S512x128 .f32) (i j : Fin 512) : wB l (fun _ _ => ⊥) i j = 0 := by
  unfold wB; rw [EReal.bot_sub]; rfl
theorem dB_bot (o v : Vec Ideal S512x128 .bf16) (l d : Vec Ideal S512x128 .f32) (i j : Fin 512) : dB o v l d (fun _ _ => ⊥) i j = 0 := by
  unfold dB; rw [wB_bot, zero_mul]
theorem tV_bot (b : Fin 8) (h : Fin 2) (j : Fin 512) (e : Fin 128) : tV O L b h (fun _ _ => ⊥) j e = 0 :=
  Finset.sum_eq_zero fun i _ => by rw [wB_bot, zero_mul]
theorem tK_bot (b : Fin 8) (h : Fin 2) (j : Fin 512) (e : Fin 256) : tK Q V O L D b h (fun _ _ => ⊥) j e = 0 :=
  Finset.sum_eq_zero fun i _ => by rw [dS, dB_bot, zero_mul]
theorem tQ_bot (b : Fin 8) (h : Fin 2) (j : Fin 512) (e : Fin 256) : tQ K V O L D b h (fun _ _ => ⊥) j e = 0 :=
  Finset.sum_eq_zero fun i _ => by rw [dS, dB_bot, zero_mul]

/-- The diagonal block and the blocks after it make up all the blocks. -/
theorem sum_all (T : Fin 8 → (Fin 512 → Fin 512 → EReal) → EReal) (h : Fin 2) (hT : ∀ b, T b (fun _ _ => ⊥) = 0) :
    T (db t) (sM (qS Q (db t) h) (kS K h))
        + (∑ b : Fin 8, if t.val % 8 < b.val ∧ b.val ≤ t.val % 8 + (k0_t1_loop (grid0.coords t)).trips then T b (sB (qS Q b h) (kS K h)) else 0)
      = ∑ b : Fin 8, T b (sR t Q K b h) := by
  have e : T (db t) (sM (qS Q (db t) h) (kS K h)) = ∑ b : Fin 8, if b = db t then T b (sR t Q K b h) else 0 := by
    rw [sR_diag]; simp
  rw [e, ← Finset.sum_add_distrib]
  refine Finset.sum_congr rfl fun b _ => ?_
  have ht := trips_eq t
  have hb' := b.isLt
  by_cases hb : b = db t
  · have hv : b.val = t.val % 8 := by rw [hb]; rfl
    rw [if_pos hb, if_neg (by omega), add_zero]
  · have hv : b.val ≠ t.val % 8 := fun h => hb (Fin.ext h)
    rw [if_neg hb, zero_add]
    by_cases h' : t.val % 8 < b.val
    · rw [if_pos (by omega), sR_after t Q K b h h']
    · rw [if_neg (by omega), sR_before t Q K b h (by omega), hT]

end Total

section Point
variable (𝒱 : Variants) (c : Dev nD) (bd : Option 𝒱.V) (t : Fin cfg0.N) (x1' x12 : BitVec 32) (x74 x79 : FVec Ideal S512x256 .bf16)
variable (x109 : FVec Ideal S512x512 .bf16) (x113 : FVec Ideal S512x128 .f32) (x114 : Vec Ideal S512x128 .f32) (x131 : BitVec 32)
variable (Q : Vec Ideal S4096x512 .bf16) (K : Vec Ideal S512x512 .bf16) (V : Vec Ideal S512x256 .bf16)
variable (O : Vec Ideal S4096x256 .bf16) (L D : Vec Ideal S4096x256 .f32) (f11 : M11.view.ty.Contents (Elt Ideal)) (f12 : M12.view.ty.Contents (Elt Ideal)) (f13 : M13.view.ty.Contents (Elt Ideal))

/-- The value gradient which the point stores. -/
theorem point_v (L2) (h2 : L2 = []) (n : ℕ) (hn : n = (k0_t1_loop (grid0.coords t)).trips) (inb) (h : Fin 2) (j : Fin 512) (e : Fin 128) :
    k0_pay1 (M13.view.readAt (Elt Ideal) (Rect.unit (s := S512x256) ![0, 0] S512x256.size inb).toLoadRect
        (M13.view.writes (Elt Ideal) M13.view.junk (L2 ++ ((pb 𝒱 c bd t x1' x12 x74 x79 x109 x113 x114 x131 Q K V O L D f11 f12
          (M13.view.writes (Elt Ideal) M13.view.junk (H13 c t Q K O L)) n).2.2 ++ H13 c t Q K O L)))) (ix2 j (colV h e))
      = ∑ b : Fin 8, tV O L b h (sR t Q K b h) j e := by
  subst h2 hn
  unfold k0_pay1
  pointwise
  refine (congrFun (View.readAt_full ..) _).trans ?_
  rw [List.nil_append, View.writes_append]
  refine (trips13 _ _ _ _ _ _ _ _ _ _ _ _ _ _ _ _ _ _ _ _ _ h j e _ le_rfl).trans ?_
  rw [diag13]
  exact sum_all t Q K (fun b s => tV O L b h s j e) h fun b => tV_bot O L b h j e

/-- The key gradient which the point stores. -/
theorem point_k (L2) (h2 : L2 = []) (n : ℕ) (hn : n = (k0_t1_loop (grid0.coords t)).trips) (inb) (h : Fin 2) (j : Fin 512) (e : Fin 256) :
    k0_pay62 (M12.view.readAt (Elt Ideal) (Rect.unit (s := S512x512) ![0, 0] S512x512.size inb).toLoadRect
        (M12.view.writes (Elt Ideal) M12.view.junk (L2 ++ ((pb 𝒱 c bd t x1' x12 x74 x79 x109 x113 x114 x131 Q K V O L D f11
          (M12.view.writes (Elt Ideal) M12.view.junk (H12 c t Q K V O L D)) f13 n).2.1 ++ H12 c t Q K V O L D)))) (ix2 j (colQ h e))
      = (∑ b : Fin 8, tK Q V O L D b h (sR t Q K b h) j e) * ((Real.log 2 : ℝ) : EReal) := by
  subst h2 hn
  unfold k0_pay62
  pointwise
  refine congrArg (· * ((Real.log 2 : ℝ) : EReal)) ?_
  refine (congrFun (View.readAt_full ..) _).trans ?_
  rw [List.nil_append, View.writes_append]
  refine (trips12 _ _ _ _ _ _ _ _ _ _ _ _ _ _ _ _ _ _ _ _ _ h j e _ le_rfl).trans ?_
  rw [diag12]
  exact sum_all t Q K (fun b s => tK Q V O L D b h s j e) h fun b => tK_bot Q V O L D b h j e
/-- What the point adds to the query gradient's accumulator. -/
theorem point_q (f) (L0) (x1 x0 : Vec Ideal S512x256 .f32) (inb1 inb0 inb3 inb6 inb5 inb8 inb7 inb4)
    (h1 : x1 = M11.view.readAt (Elt Ideal) (Rect.unit (s := S4096x512) (k0_off3 (grid0.coords t)) ![512, 256] inb1).toLoadRect (M11.view.writes (Elt Ideal) f L0))
    (h0 : x0 = M11.view.readAt (Elt Ideal) (Rect.unit (s := S4096x512) (k0_off1 (grid0.coords t)) ![512, 256] inb0).toLoadRect (M11.view.writes (Elt Ideal) f L0))
    (L2) (h2 : L2 = []) (n : ℕ) (hn : n = (k0_t1_loop (grid0.coords t)).trips) (b : Fin 8) (h : Fin 2) (i : Fin 512) (e : Fin 256) :
    M11.view.read (Elt Ideal) (M11.view.writes (Elt Ideal) f (L2 ++ ((pb 𝒱 c bd t x1' x12 x74 x79 x109 x113 x114 x131 Q K V O L D
          (M11.view.writes (Elt Ideal) f (H11 t Q K V O L D L0 x1 x0 inb1 inb0 inb3 inb6 inb5 inb8 inb7 inb4)) f12 f13 n).1
          ++ H11 t Q K V O L D L0 x1 x0 inb1 inb0 inb3 inb6 inb5 inb8 inb7 inb4))) (ix2 (rowOf b i) (colQ h e))
      = M11.view.read (Elt Ideal) (M11.view.writes (Elt Ideal) f L0) (ix2 (rowOf b i) (colQ h e)) + tQ K V O L D b h (sR t Q K b h) i e := by
  subst h2 hn
  rw [List.nil_append, View.writes_append]
  refine (trips11 _ _ _ _ _ _ _ _ _ _ _ _ _ _ _ _ _ _ _ _ _ b h i e _ le_rfl).trans ?_
  have ht := trips_eq t
  have hb' := b.isLt
  by_cases hb : b = db t
  · have hv : b.val = t.val % 8 := by rw [hb]; rfl
    rw [if_neg (by omega), add_zero, hb, diag11 t Q K V O L D f L0 x1 x0 _ _ _ _ _ _ _ _ h1 h0, sR_diag]
  · have hv : b.val ≠ t.val % 8 := fun h => hb (Fin.ext h)
    rw [diag11_out t Q K V O L D f L0 x1 x0 _ _ _ _ _ _ _ _ b hb]
    by_cases h' : t.val % 8 < b.val
    · rw [if_pos (by omega), sR_after t Q K b h h']
    · rw [if_neg (by omega), sR_before t Q K b h (by omega), tQ_bot]

end Point

end Flash

end
-- ==== Proof.FlashPoint.lean ====
module

public import proofs.«01_k».proof.Proof.FlashDiag

/-! The attention's backward kernel over the extended reals: what each grid point stores, and what the query gradient's
    accumulator holds after the points of a pair of heads. -/

@[expose] public section

set_option maxRecDepth 16384

noncomputable section

namespace Flash

open Cert.FlashBwdIdeal Cert.FlashBwdIdeal.Gen
open Idealize.ShloMosaic Idealize.ShloMosaic.TcCoe Idealize.ShloMosaic.Tactic

variable (m : (ℓ : Loc nD τ sig) → Buf (Elt Ideal) ℓ) (c : Dev nD) (t : Fin cfg0.N) (xo : Vec Ideal S4096x512 .f32)

/-- The second loop of the body makes no trip. -/
theorem no_trips (i : grid0.Coords) : Scf.trips (k0_t2_loop i).lb (k0_t2_loop i).ub (k0_t2_loop i).st = 0 := Scf.rem_trips _ _

theorem res_q_first (h0 : first (grid0.coords t)) (b : Fin 8) (h : Fin 2) (i : Fin 512) (e : Fin 256) : (res m c t xo).2.2.2 (ix2 (rowOf b i) (colQ h e))
    = tQ (iblk m c 1 t) (iblk m c 2 t) (iblk m c 3 t) (iblk m c 4 t) (iblk m c 5 t) b h (sR t (iblk m c 0 t) (iblk m c 1 t) b h) i e := by
  have h1 : ¬last (grid0.coords t) := fun h1 => by have := (first_iff t).mp h0; have := (last_iff t).mp h1; omega
  rw [res_A m c t h0 h1]
  unfold atA runA; dsimp only
  refine (point_q (hn := rfl) (h2 := ?_) (h1 := ?_) (h0 := ?_) ..).trans ?_
  · funext y
    idx_vars y
    refine (congrFun (readAt_rowsQ M11.view _ (db t) 1 _ _ (offs_diag t).2.2.1) _).trans (Eq.trans ?_ (congrFun (readAt_rowsQ M11.view _ (db t) 1 _ _ (offs_diag t).2.2.1) _).symm)
    exact View.read_writes_cons_unit_of_not_mem _ _ _ _ _ _ (offs_diag t).1 1 (Or.inr (Nat.le_add_right _ _))
  · rfl
  · rw [no_trips, pb_k0_t2.eq_1]
  · exact (congrArg (· + _) ((congrFun (View.read_writes_full _ _ _ _ _) _).trans (pay33_apply _))).trans (zero_add _)

set_option maxHeartbeats 1000000 in
theorem res_q (h0 : ¬first (grid0.coords t)) (b : Fin 8) (h : Fin 2) (i : Fin 512) (e : Fin 256) : (res m c t xo).2.2.2 (ix2 (rowOf b i) (colQ h e))
    = xo (ix2 (rowOf b i) (colQ h e)) + tQ (iblk m c 1 t) (iblk m c 2 t) (iblk m c 3 t) (iblk m c 4 t) (iblk m c 5 t) b h (sR t (iblk m c 0 t) (iblk m c 1 t) b h) i e := by
  by_cases h1 : last (grid0.coords t)
  · rw [res_C m c t h0 h1]
    unfold atC runC; dsimp only
    refine (point_q (L0 := []) (hn := rfl) (h2 := ?_) (h1 := rfl) (h0 := rfl) ..).trans ?_
    · rw [no_trips, pb_k0_t2.eq_1]
    · exact congrArg (· + _) (congrFun (Memref.IsWhole.read_unread _ _) _)
  · rw [res_B m c t h0 h1]
    unfold atB runB; dsimp only
    refine (point_q (L0 := []) (hn := rfl) (h2 := ?_) (h1 := rfl) (h0 := rfl) ..).trans ?_
    · rw [no_trips, pb_k0_t2.eq_1]
    · exact congrArg (· + _) (congrFun (Memref.IsWhole.read_unread _ _) _)

set_option maxHeartbeats 1000000 in
theorem res_dq (h0 : ¬first (grid0.coords t)) (h1 : last (grid0.coords t)) (y : S4096x512.Idx) :
    (res m c t xo).1 y = (res m c t xo).2.2.2 y * Ideal.ofBits .f32 0x3D93CD3A#32 := by
  rw [res_C m c t h0 h1]; dsimp only
  unfold atC runC; dsimp only
  refine (congrFun (View.read_writes_full _ _ _ _ _) _).trans ?_
  unfold k0_pay2
  pointwise
  exact congrArg (· * _) (congrFun (View.readAt_full ..) _)

end Flash

end
-- ==== Proof.FlashStore.lean ====
module

public import proofs.«01_k».proof.Proof.FlashPoint

/-! The attention's backward kernel over the extended reals: the key and value gradients which each grid point
    stores. -/

@[expose] public section

set_option maxRecDepth 16384

noncomputable section

namespace Flash

open Cert.FlashBwdIdeal Cert.FlashBwdIdeal.Gen
open Idealize.ShloMosaic Idealize.ShloMosaic.TcCoe Idealize.ShloMosaic.Tactic

variable (m : (ℓ : Loc nD τ sig) → Buf (Elt Ideal) ℓ) (c : Dev nD) (t : Fin cfg0.N) (xo : Vec Ideal S4096x512 .f32)

set_option maxHeartbeats 1000000 in
/-- The value gradient a point stores. -/
theorem res_v (h : Fin 2) (j : Fin 512) (e : Fin 128) : (res m c t xo).2.2.1 (ix2 j (colV h e))
    = ∑ b : Fin 8, tV (iblk m c 3 t) (iblk m c 4 t) b h (sR t (iblk m c 0 t) (iblk m c 1 t) b h) j e := by
  by_cases h0 : first (grid0.coords t)
  · have h1 : ¬last (grid0.coords t) := fun h1 => by have := (first_iff t).mp h0; have := (last_iff t).mp h1; omega
    rw [res_A m c t h0 h1]
    unfold atA runA; dsimp only
    refine (congrFun (View.read_writes_full _ _ _ _ _) _).trans ?_
    refine point_v (hn := rfl) (h2 := ?_) ..
    rw [no_trips, pb_k0_t2.eq_1]
  · by_cases h1 : last (grid0.coords t)
    · rw [res_C m c t h0 h1]
      unfold atC runC; dsimp only
      refine (congrFun (View.read_writes_full _ _ _ _ _) _).trans ?_
      refine point_v (hn := rfl) (h2 := ?_) ..
      rw [no_trips, pb_k0_t2.eq_1]
    · rw [res_B m c t h0 h1]
      unfold atB runB; dsimp only
      refine (congrFun (View.read_writes_full _ _ _ _ _) _).trans ?_
      refine point_v (hn := rfl) (h2 := ?_) ..
      rw [no_trips, pb_k0_t2.eq_1]

set_option maxHeartbeats 1000000 in
/-- The key gradient a point stores. -/
theorem res_k (h : Fin 2) (j : Fin 512) (e : Fin 256) : (res m c t xo).2.1 (ix2 j (colQ h e))
    = (∑ b : Fin 8, tK (iblk m c 0 t) (iblk m c 2 t) (iblk m c 3 t) (iblk m c 4 t) (iblk m c 5 t) b h (sR t (iblk m c 0 t) (iblk m c 1 t) b h) j e) * ((Real.log 2 : ℝ) : EReal) := by
  by_cases h0 : first (grid0.coords t)
  · have h1 : ¬last (grid0.coords t) := fun h1 => by have := (first_iff t).mp h0; have := (last_iff t).mp h1; omega
    rw [res_A m c t h0 h1]
    unfold atA runA; dsimp only
    refine (congrFun (View.read_writes_full _ _ _ _ _) _).trans ?_
    refine point_k (hn := rfl) (h2 := ?_) ..
    rw [no_trips, pb_k0_t2.eq_1]
  · by_cases h1 : last (grid0.coords t)
    · rw [res_C m c t h0 h1]
      unfold atC runC; dsimp only
      refine (congrFun (View.read_writes_full _ _ _ _ _) _).trans ?_
      refine point_k (hn := rfl) (h2 := ?_) ..
      rw [no_trips, pb_k0_t2.eq_1]
    · rw [res_B m c t h0 h1]
      unfold atB runB; dsimp only
      refine (congrFun (View.read_writes_full _ _ _ _ _) _).trans ?_
      refine point_k (hn := rfl) (h2 := ?_) ..
      rw [no_trips, pb_k0_t2.eq_1]

end Flash

end
-- ==== Proof.FlashArr.lean ====
module

public import proofs.«01_k».proof.Proof.FlashStore
public import Idealize.ShloMosaic.Lib.Pipeline.ValueKit

/-! The attention's backward kernel over the extended reals: its three results over whole arrays, from the six arrays that
    its blocks are cut of. -/

@[expose] public section

set_option maxRecDepth 16384

noncomputable section

namespace Flash

open Cert.FlashBwdIdeal Cert.FlashBwdIdeal.Gen
open Idealize.ShloMosaic Idealize.ShloMosaic.TcCoe Idealize.ShloMosaic.Tactic

/-- Column `d` of head `H`, in the wide arrays. -/
def cQ (H : Fin 8) (d : Fin 256) : Fin 2048 := ⟨H.val * 256 + d.val, by omega⟩
/-- Column `e` of head `H`, in the narrow arrays. -/
def cV (H : Fin 8) (e : Fin 128) : Fin 1024 := ⟨H.val * 128 + e.val, by omega⟩

/-- The head of a column. -/
def hOfQ (x : Fin 2048) : Fin 8 := ⟨x.val / 256, by omega⟩
def hOfV (x : Fin 1024) : Fin 8 := ⟨x.val / 128, by omega⟩

section Whole
variable (Q K : Vec Ideal S4096x2048 .bf16) (V O : Vec Ideal S4096x1024 .bf16) (L D : Vec Ideal S4096x1024 .f32)

/-- The score of query row `r` at key row `s`: masked where the key's chunk is later. -/
def sA (H : Fin 8) (r s : Fin 4096) : EReal :=
  if s.val / 64 ≤ r.val / 64 then ∑ d : Fin 256, Q (ix2 r (cQ H d)) * K (ix2 s (cQ H d)) else ⊥
/-- The lane that the key row `s` reads of a row's repeated entry. -/
def laneOf (s : Fin 4096) : Fin 128 := ⟨s.val % 128, Nat.mod_lt _ (by norm_num)⟩
/-- The weight of key row `s` in query row `r`. -/
def wA (H : Fin 8) (r s : Fin 4096) : EReal := Ideal.exp2 (sA Q K H r s - L (ix2 r (cV H (laneOf s))))
/-- The gradient at the score. -/
def gA (H : Fin 8) (r s : Fin 4096) : EReal :=
  wA Q K L H r s * (∑ e : Fin 128, O (ix2 r (cV H e)) * V (ix2 s (cV H e)) - D (ix2 r (cV H (laneOf s))))

/-- The three results. -/
def dqA : Vec Ideal S4096x2048 .bf16 := fun y =>
  (∑ s : Fin 4096, gA Q K V O L D (hOfQ (y 1)) (y 0) s * K (ix2 s (y 1))) * Ideal.ofBits .f32 0x3D93CD3A#32
def dkA : Vec Ideal S4096x2048 .bf16 := fun y =>
  (∑ r : Fin 4096, gA Q K V O L D (hOfQ (y 1)) r (y 0) * Q (ix2 r (y 1))) * ((Real.log 2 : ℝ) : EReal)
def dvA : Vec Ideal S4096x1024 .bf16 := fun y =>
  ∑ r : Fin 4096, wA Q K L (hOfV (y 1)) r (y 0) * O (ix2 r (y 1))

end Whole

variable (m : (ℓ : Loc nD τ sig) → Buf (Elt Ideal) ℓ) (c : Dev nD) (t : Fin cfg0.N)

/-- The blocks' indices: the pair of heads, and the block of keys. -/
theorem idx : ∀ t : Fin cfg0.N, win0_0.index t = ![0, t.val / 8] ∧ win0_1.index t = ![t.val % 8, t.val / 8] ∧ win0_2.index t = ![t.val % 8, t.val / 8] ∧
    win0_3.index t = ![0, t.val / 8] ∧ win0_4.index t = ![0, t.val / 8] ∧ win0_5.index t = ![0, t.val / 8] ∧ win0_6.index t = ![0, t.val / 8] ∧
    win0_7.index t = ![t.val % 8, t.val / 8] ∧ win0_8.index t = ![t.val % 8, t.val / 8] :=
  (by decide +kernel : ∀ t : Fin grid0.N, win0_0.index t = ![0, t.val / 8] ∧ win0_1.index t = ![t.val % 8, t.val / 8] ∧ win0_2.index t = ![t.val % 8, t.val / 8] ∧
    win0_3.index t = ![0, t.val / 8] ∧ win0_4.index t = ![0, t.val / 8] ∧ win0_5.index t = ![0, t.val / 8] ∧ win0_6.index t = ![0, t.val / 8] ∧
    win0_7.index t = ![t.val % 8, t.val / 8] ∧ win0_8.index t = ![t.val % 8, t.val / 8])

/-- Head `h` of the point's pair. -/
def hd (h : Fin 2) : Fin 8 := ⟨t.val / 8 * 2 + h.val, by have : t.val < 32 := t.isLt; omega⟩
/-- Row `j` of the point's keys. -/
def key (j : Fin 512) : Fin 4096 := ⟨t.val % 8 * 512 + j.val, by omega⟩

abbrev vQ : Vec Ideal S4096x2048 .bf16 := V m c main_v56
abbrev vK : Vec Ideal S4096x2048 .bf16 := V m c main_v59
abbrev vV : Vec Ideal S4096x1024 .bf16 := V m c main_v61
abbrev vO : Vec Ideal S4096x1024 .bf16 := V m c main_v63
abbrev vL : Vec Ideal S4096x1024 .f32 := V m c main_v66
abbrev vD : Vec Ideal S4096x1024 .f32 := V m c main_v68

theorem blk0 (r : Fin 4096) (h : Fin 2) (d : Fin 256) : iblk m c 0 t (ix2 r (colQ h d)) = vQ m c (ix2 r (cQ (hd t h) d)) := by
  obtain ⟨i, -⟩ := idx t
  blk_ext [iblk, i, colQ, cQ, hd]
theorem blk1 (j : Fin 512) (h : Fin 2) (d : Fin 256) : iblk m c 1 t (ix2 j (colQ h d)) = vK m c (ix2 (key t j) (cQ (hd t h) d)) := by
  obtain ⟨-, i, -⟩ := idx t
  blk_ext [iblk, i, colQ, cQ, hd, key]
theorem blk2 (j : Fin 512) (h : Fin 2) (d : Fin 128) : iblk m c 2 t (ix2 j (colV h d)) = vV m c (ix2 (key t j) (cV (hd t h) d)) := by
  obtain ⟨-, -, i, -⟩ := idx t
  blk_ext [iblk, i, colV, cV, hd, key]
theorem blk3 (r : Fin 4096) (h : Fin 2) (d : Fin 128) : iblk m c 3 t (ix2 r (colV h d)) = vO m c (ix2 r (cV (hd t h) d)) := by
  obtain ⟨-, -, -, i, -⟩ := idx t
  blk_ext [iblk, i, colV, cV, hd]
theorem blk4 (r : Fin 4096) (h : Fin 2) (d : Fin 128) : iblk m c 4 t (ix2 r (colV h d)) = vL m c (ix2 r (cV (hd t h) d)) := by
  obtain ⟨-, -, -, -, i, -⟩ := idx t
  blk_ext [iblk, i, colV, cV, hd]
theorem blk5 (r : Fin 4096) (h : Fin 2) (d : Fin 128) : iblk m c 5 t (ix2 r (colV h d)) = vD m c (ix2 r (cV (hd t h) d)) := by
  obtain ⟨-, -, -, -, -, i, -⟩ := idx t
  blk_ext [iblk, i, colV, cV, hd]

theorem lane_key (j : Fin 512) : lane j = laneOf (key t j) := Fin.ext (show j.val % 128 = (t.val % 8 * 512 + j.val) % 128 by omega)

/-- A point's scores, weights and gradients at the scores are those of the whole arrays. -/
theorem sR_whole (b : Fin 8) (h : Fin 2) (i j : Fin 512) : sR t (iblk m c 0 t) (iblk m c 1 t) b h i j = sA (vQ m c) (vK m c) (hd t h) (rowOf b i) (key t j) :=
  if_congr Iff.rfl (Finset.sum_congr rfl fun d _ => congrArg₂ (· * ·) (blk0 m c t (rowOf b i) h d) (blk1 m c t j h d)) rfl
theorem wB_whole (b : Fin 8) (h : Fin 2) (i j : Fin 512) : wB (lS (iblk m c 4 t) b h) (sR t (iblk m c 0 t) (iblk m c 1 t) b h) i j
    = wA (vQ m c) (vK m c) (vL m c) (hd t h) (rowOf b i) (key t j) :=
  congrArg Ideal.exp2 (congrArg₂ (· - ·) (sR_whole m c t b h i j) ((blk4 m c t (rowOf b i) h (lane j)).trans (by rw [lane_key t j])))
theorem dS_whole (b : Fin 8) (h : Fin 2) (i j : Fin 512) : dS (iblk m c 2 t) (iblk m c 3 t) (iblk m c 4 t) (iblk m c 5 t) b h (sR t (iblk m c 0 t) (iblk m c 1 t) b h) i j
    = gA (vQ m c) (vK m c) (vV m c) (vO m c) (vL m c) (vD m c) (hd t h) (rowOf b i) (key t j) :=
  congrArg₂ (· * ·) (wB_whole m c t b h i j) (congrArg₂ (· - ·)
    (Finset.sum_congr rfl fun e _ => congrArg₂ (· * ·) (blk3 m c t (rowOf b i) h e) (blk2 m c t j h e))
    ((blk5 m c t (rowOf b i) h (lane j)).trans (by rw [lane_key t j])))

/-- What a point stores of the gradients at the values and at the keys, over whole arrays. -/
theorem v_whole (xo) (h : Fin 2) (j : Fin 512) (e : Fin 128) : (res m c t xo).2.2.1 (ix2 j (colV h e))
    = ∑ r : Fin 4096, wA (vQ m c) (vK m c) (vL m c) (hd t h) r (key t j) * vO m c (ix2 r (cV (hd t h) e)) := by
  refine (res_v m c t xo h j e).trans ?_
  refine (Finset.sum_congr rfl fun b _ => Finset.sum_congr rfl fun i _ => congrArg₂ (· * ·) (wB_whole m c t b h i j) (blk3 m c t (rowOf b i) h e)).trans ?_
  exact Fin.sum_mul_add_fin 8 512 fun r => wA (vQ m c) (vK m c) (vL m c) (hd t h) r (key t j) * vO m c (ix2 r (cV (hd t h) e))
theorem k_whole (xo) (h : Fin 2) (j : Fin 512) (e : Fin 256) : (res m c t xo).2.1 (ix2 j (colQ h e))
    = (∑ r : Fin 4096, gA (vQ m c) (vK m c) (vV m c) (vO m c) (vL m c) (vD m c) (hd t h) r (key t j) * vQ m c (ix2 r (cQ (hd t h) e))) * ((Real.log 2 : ℝ) : EReal) := by
  refine (res_k m c t xo h j e).trans (congrArg (· * _) ?_)
  refine (Finset.sum_congr rfl fun b _ => Finset.sum_congr rfl fun i _ => congrArg₂ (· * ·) (dS_whole m c t b h i j) (blk0 m c t (rowOf b i) h e)).trans ?_
  exact Fin.sum_mul_add_fin 8 512 fun r => gA (vQ m c) (vK m c) (vV m c) (vO m c) (vL m c) (vD m c) (hd t h) r (key t j) * vQ m c (ix2 r (cQ (hd t h) e))

/-- What the block of keys adds to the gradient at the queries. -/
def tA (H : Fin 8) (r : Fin 4096) (d : Fin 256) : EReal :=
  ∑ j : Fin 512, gA (vQ m c) (vK m c) (vV m c) (vO m c) (vL m c) (vD m c) H r (key t j) * vK m c (ix2 (key t j) (cQ H d))
theorem tQ_whole (b : Fin 8) (h : Fin 2) (i : Fin 512) (e : Fin 256) :
    tQ (iblk m c 1 t) (iblk m c 2 t) (iblk m c 3 t) (iblk m c 4 t) (iblk m c 5 t) b h (sR t (iblk m c 0 t) (iblk m c 1 t) b h) i e
      = tA m c t (hd t h) (rowOf b i) e :=
  Finset.sum_congr rfl fun j _ => congrArg₂ (· * ·) (dS_whole m c t b h i j) (blk1 m c t j h e)

/-- The parts of a row and of a column. -/
def bOf (r : Fin 4096) : Fin 8 := ⟨r.val / 512, by omega⟩
def iOf (r : Fin 4096) : Fin 512 := ⟨r.val % 512, by omega⟩
def hQ (x : Fin 512) : Fin 2 := ⟨x.val / 256, by omega⟩
def dQ (x : Fin 512) : Fin 256 := ⟨x.val % 256, by omega⟩
def hV (x : Fin 256) : Fin 2 := ⟨x.val / 128, by omega⟩
def dV (x : Fin 256) : Fin 128 := ⟨x.val % 128, by omega⟩
theorem row_parts (r : Fin 4096) : rowOf (bOf r) (iOf r) = r := Fin.ext (show r.val / 512 * 512 + r.val % 512 = r.val by omega)
theorem colQ_parts (x : Fin 512) : colQ (hQ x) (dQ x) = x := Fin.ext (show x.val / 256 * 256 + x.val % 256 = x.val by omega)
theorem colV_parts (x : Fin 256) : colV (hV x) (dV x) = x := Fin.ext (show x.val / 128 * 128 + x.val % 128 = x.val by omega)

theorem q_first (xo) (h0 : t.val % 8 = 0) (y : S4096x512.Idx) : (res m c t xo).2.2.2 y = tA m c t (hd t (hQ (y 1))) (y 0) (dQ (y 1)) := by
  idx_vars y
  show (res m c t xo).2.2.2 (ix2 y0 y1) = tA m c t (hd t (hQ y1)) y0 (dQ y1)
  have h := (res_q_first m c t xo ((first_iff t).mpr h0) (bOf y0) (hQ y1) (iOf y0) (dQ y1)).trans (tQ_whole m c t _ _ _ _)
  rwa [row_parts, colQ_parts] at h
theorem q_step (xo) (h0 : ¬t.val % 8 = 0) (y : S4096x512.Idx) : (res m c t xo).2.2.2 y = xo y + tA m c t (hd t (hQ (y 1))) (y 0) (dQ (y 1)) := by
  idx_vars y
  show (res m c t xo).2.2.2 (ix2 y0 y1) = xo (ix2 y0 y1) + tA m c t (hd t (hQ y1)) y0 (dQ y1)
  have h := (res_q m c t xo (fun h => h0 ((first_iff t).mp h)) (bOf y0) (hQ y1) (iOf y0) (dQ y1)).trans (congrArg (_ + ·) (tQ_whole m c t _ _ _ _))
  rwa [row_parts, colQ_parts] at h

/-- The accumulator after the last block of keys. -/
theorem q_last (h7 : t.val % 8 = 7) (y : S4096x512.Idx) : (res m c t (acc m c t.val)).2.2.2 y
    = ∑ s : Fin 4096, gA (vQ m c) (vK m c) (vV m c) (vO m c) (vL m c) (vD m c) (hd t (hQ (y 1))) (y 0) s * vK m c (ix2 s (cQ (hd t (hQ (y 1))) (dQ (y 1)))) := by
  refine (congrFun (acc_succ m c t) y).symm.trans ?_
  refine (Pipeline.eq_sum_fin_of_reset_step_apply_of_flush (N := cfg0.N) (fun n _ => (acc m c (n + 1) : S4096x512.Idx → EReal)) 8 (fun _ => (0 : EReal))
    (fun t y => tA m c t (hd t (hQ (y 1))) (y 0) (dQ (y 1)))
    (fun t h y => (congrFun (acc_succ m c t) y).trans ((q_first m c t _ h y).trans (zero_add _).symm))
    (fun t h y => (congrFun (acc_succ m c t) y).trans ((q_step m c t _ h y).trans ?_)) t h7 y).trans ?_
  · have e : t.val - 1 + 1 = t.val := by omega
    rw [e]
  · refine (zero_add _).trans ?_
    refine Eq.trans (Finset.sum_congr rfl fun s _ => ?_) (Fin.sum_mul_add_fin 8 512 fun s => gA (vQ m c) (vK m c) (vV m c) (vO m c) (vL m c) (vD m c)
      (hd t (hQ (y 1))) (y 0) s * vK m c (ix2 s (cQ (hd t (hQ (y 1))) (dQ (y 1)))))
    have ht : t.val < 32 := t.isLt
    have eh : ∀ p, hd ⟨8 * (t.val / 8) + s.val, p⟩ (hQ (y 1)) = hd t (hQ (y 1)) := fun p =>
      Fin.ext (show (8 * (t.val / 8) + s.val) / 8 * 2 + _ = t.val / 8 * 2 + _ by omega)
    have ek : ∀ p j, key ⟨8 * (t.val / 8) + s.val, p⟩ j = ⟨s.val * 512 + j.val, by omega⟩ := fun p j =>
      Fin.ext (show (8 * (t.val / 8) + s.val) % 8 * 512 + j.val = s.val * 512 + j.val by omega)
    unfold tA
    rw [eh]
    exact Finset.sum_congr rfl fun j _ => by rw [ek]

/-- The columns of the point's pair of heads. -/
def pQ (x : Fin 512) : Fin 2048 := ⟨t.val / 8 * 512 + x.val, by have : t.val < 32 := t.isLt; omega⟩
def pV (x : Fin 256) : Fin 1024 := ⟨t.val / 8 * 256 + x.val, by have : t.val < 32 := t.isLt; omega⟩
theorem pQ_head (x : Fin 512) : hOfQ (pQ t x) = hd t (hQ x) := Fin.ext (show (t.val / 8 * 512 + x.val) / 256 = t.val / 8 * 2 + x.val / 256 by omega)
theorem pV_head (x : Fin 256) : hOfV (pV t x) = hd t (hV x) := Fin.ext (show (t.val / 8 * 256 + x.val) / 128 = t.val / 8 * 2 + x.val / 128 by omega)
theorem pQ_col (x : Fin 512) : cQ (hd t (hQ x)) (dQ x) = pQ t x := Fin.ext (show (t.val / 8 * 2 + x.val / 256) * 256 + x.val % 256 = t.val / 8 * 512 + x.val by omega)
theorem pV_col (x : Fin 256) : cV (hd t (hV x)) (dV x) = pV t x := Fin.ext (show (t.val / 8 * 2 + x.val / 128) * 128 + x.val % 128 = t.val / 8 * 256 + x.val by omega)

theorem emb6 (y : S4096x512.Idx) : ((cfg0.win 6).blk t).view.emb y = ix2 (y 0) (pQ t (y 1)) := by
  obtain ⟨-, -, -, -, -, -, i, -⟩ := idx t
  blk_ext [i, pQ]
theorem emb7 (y : S512x512.Idx) : ((cfg0.win 7).blk t).view.emb y = ix2 (key t (y 0)) (pQ t (y 1)) := by
  obtain ⟨-, -, -, -, -, -, -, i, -⟩ := idx t
  blk_ext [i, pQ, key]
theorem emb8 (y : S512x256.Idx) : ((cfg0.win 8).blk t).view.emb y = ix2 (key t (y 0)) (pV t (y 1)) := by
  obtain ⟨-, -, -, -, -, -, -, -, i⟩ := idx t
  blk_ext [i, pV, key]

theorem at6 (h7 : t.val % 8 = 7) (y : S4096x512.Idx) : (res m c t (acc m c t.val)).1 y = dqA (vQ m c) (vK m c) (vV m c) (vO m c) (vL m c) (vD m c) (ix2 (y 0) (pQ t (y 1))) := by
  have h0 : ¬first (grid0.coords t) := fun h => by have := (first_iff t).mp h; omega
  idx_vars y
  refine (res_dq m c t _ h0 ((last_iff t).mpr h7) _).trans (congrArg (· * _) ?_)
  have h : (res m c t (acc m c t.val)).2.2.2 (ix2 y0 y1) = ∑ s : Fin 4096, gA (vQ m c) (vK m c) (vV m c) (vO m c) (vL m c) (vD m c) (hd t (hQ y1)) y0 s
      * vK m c (ix2 s (cQ (hd t (hQ y1)) (dQ y1))) := q_last m c t h7 _
  rw [pQ_col] at h
  refine h.trans ?_
  show _ = ∑ s, gA (vQ m c) (vK m c) (vV m c) (vO m c) (vL m c) (vD m c) (hOfQ (pQ t y1)) y0 s * vK m c (ix2 s (pQ t y1))
  rw [pQ_head]
theorem at7 (y : S512x512.Idx) : (res m c t (acc m c t.val)).2.1 y = dkA (vQ m c) (vK m c) (vV m c) (vO m c) (vL m c) (vD m c) (ix2 (key t (y 0)) (pQ t (y 1))) := by
  idx_vars y
  have h := k_whole m c t (acc m c t.val) (hQ y1) y0 (dQ y1)
  rw [colQ_parts, pQ_col] at h
  refine h.trans (congrArg (· * _) ?_)
  show _ = ∑ r, gA (vQ m c) (vK m c) (vV m c) (vO m c) (vL m c) (vD m c) (hOfQ (pQ t y1)) r (key t y0) * vQ m c (ix2 r (pQ t y1))
  rw [pQ_head]
theorem at8 (y : S512x256.Idx) : (res m c t (acc m c t.val)).2.2.1 y = dvA (vQ m c) (vK m c) (vO m c) (vL m c) (ix2 (key t (y 0)) (pV t (y 1))) := by
  idx_vars y
  have h := v_whole m c t (acc m c t.val) (hV y1) y0 (dV y1)
  rw [colV_parts, pV_col] at h
  refine h.trans ?_
  show _ = ∑ r, wA (vQ m c) (vK m c) (vL m c) (hOfV (pV t y1)) r (key t y0) * vO m c (ix2 r (pV t y1))
  rw [pV_head]

/-- The kernel's three results. -/
theorem arr6 : (dats m 0 c).arrAt 6 cfg0.N = dqA (vQ m c) (vK m c) (vV m c) (vO m c) (vL m c) (vD m c) := by
  refine (dats m 0 c).arrAt_eq_of_covers 6 _ (by decide +kernel) fun t hf y => ?_
  blk_simp
  rw [after6]
  exact (at6 m c t ((flush0_6 t).mp hf) y).trans (congrArg (dqA (vQ m c) (vK m c) (vV m c) (vO m c) (vL m c) (vD m c)) (emb6 t y).symm)
theorem arr7 : (dats m 0 c).arrAt 7 cfg0.N = dkA (vQ m c) (vK m c) (vV m c) (vO m c) (vL m c) (vD m c) := by
  refine (dats m 0 c).arrAt_eq_of_covers 7 _ (by decide +kernel) fun t hf y => ?_
  blk_simp
  rw [after7]
  exact (at7 m c t y).trans (congrArg (dkA (vQ m c) (vK m c) (vV m c) (vO m c) (vL m c) (vD m c)) (emb7 t y).symm)
theorem arr8 : (dats m 0 c).arrAt 8 cfg0.N = dvA (vQ m c) (vK m c) (vO m c) (vL m c) := by
  refine (dats m 0 c).arrAt_eq_of_covers 8 _ (by decide +kernel) fun t hf y => ?_
  blk_simp
  rw [after8]
  exact (at8 m c t y).trans (congrArg (dvA (vQ m c) (vK m c) (vO m c) (vL m c)) (emb8 t y).symm)

end Flash

end
-- ==== Proof.FlashHost.lean ====
module

public import proofs.«01_k».proof.Proof.FlashArr
public import proofs.«01_k».proof.Proof.Gen.FlashBwdRefIdeal.Read
public import Idealize.ShloMosaic.Lib.StableHlo.RunRead
public import Idealize.ShloMosaic.Lib.Pointwise
public import proofs.«01_k».proof.Proof.Alg

/-! The attention's backward kernel over the extended reals: the six arrays that the host lines prepare, read at an
    element. The masked scores and the attention they are made of are those of the reference. -/

@[expose] public section

set_option maxRecDepth 16384

noncomputable section

namespace Flash

open Cert.FlashBwdIdeal Cert.FlashBwdIdeal.Gen
open Idealize.ShloMosaic Idealize.ShloMosaic.TcCoe Idealize.ShloMosaic.Tactic
open Cert.FlashBwdRefIdeal.Read

/-- A head's 192 columns padded to 256, the heads side by side. -/
def padQ (x : FVec Ideal S4096x8x192 .f32) : FVec Ideal S4096x2048 .bf16 :=
  truncf .bf16 (shapeCast S4096x2048 (pad S4096x8x256 ![0, 0, 0] ![0, 0, 64] ![0, 0, 0] x (sitofp .f32 (constantI S_ 32 0#32) : FVec Ideal S_ .f32) pads_S4096x8x192_S4096x8x256_000_000_0640 h_S_)
    shapeCasts_S4096x8x256_S4096x2048) bitsLt_bf16_f32
/-- The heads side by side. -/
def flat (e : FTy) (x : FVec Ideal S4096x8x128 e) : FVec Ideal S4096x1024 e := shapeCast S4096x1024 x shapeCasts_S4096x8x128_S4096x1024

theorem padQ_apply (x : FVec Ideal S4096x8x192 .f32) (r : Fin 4096) (H : Fin 8) (d : Fin 256) :
    padQ x (ix2 r (cQ H d)) = if h : d.val < 192 then x (ix3 r H ⟨d.val, h⟩) else 0 := by
  unfold padQ
  pointwise
  have e1 : (cQ H d).val / 256 = H.val := show (H.val * 256 + d.val) / 256 = H.val by omega
  have e2 : (cQ H d).val % 256 = d.val := show (H.val * 256 + d.val) % 256 = d.val by omega
  by_cases h : d.val < 192
  · rw [dif_pos h, dif_pos ⟨by omega, by omega⟩]
    exact congrArg x (by simp only [e1, e2])
  · rw [dif_neg h, dif_neg (by omega)]
    show (((0#32 : BitVec 32).toInt : ℝ) : EReal) = 0
    norm_num
theorem flat_apply {e : FTy} (x : FVec Ideal S4096x8x128 e) (r : Fin 4096) (H : Fin 8) (d : Fin 128) : flat e x (ix2 r (cV H d)) = x (ix3 r H d) := by
  unfold flat
  pointwise
  have e1 : (cV H d).val / 128 = H.val := show (H.val * 128 + d.val) / 128 = H.val by omega
  have e2 : (cV H d).val % 128 = d.val := show (H.val * 128 + d.val) % 128 = d.val by omega
  exact congrArg x (by simp only [e1, e2])

section Fwd
variable (x0 x1 : FVec Ideal S4096x8x192 .f32) (x2 x3 : FVec Ideal S4096x8x128 .f32)

/-- The queries that the kernel takes: scaled, and in units of the logarithm of two. -/
def qK : FVec Ideal S4096x8x192 .f32 :=
  Host.divf (mulf x0 (broadcastInDim S4096x8x192 ![] bcast_S_S4096x8x192 (constant S_ .f32 0x3D93CD3A#32)))
    (broadcastInDim S4096x8x192 ![] bcast_S_S4096x8x192 (Host.log (constant S_ .f32 0x40000000#32 : FVec Ideal S_ .f32)))
/-- The reference's masked scores, their maximum, and its attention. -/
abbrev scR : FVec Ideal S8x4096x4096 .f32 := val_main_v10_0 (F := Ideal) x0 x1
abbrev mxR : FVec Ideal S8x4096 .f32 := val_main_v11 (F := Ideal) x0 x1
abbrev atR : FVec Ideal S4096x8x128 .f32 := val_main_v40 (F := Ideal) x0 x1 x2
/-- A row's maximum as a column. -/
def maxK : FVec Ideal S8x4096x1 .f32 := broadcastInDim S8x4096x1 ![0, 1] bcast_S8x4096_S8x4096x1_0_1 (mxR x0 x1)
/-- A row's sum of the weights. -/
def sumK : FVec Ideal S8x4096 .f32 := Host.reduceAdd (Host.exp (subf (scR x0 x1) (broadcastInDim S8x4096x4096 ![0, 1, 2] bcast_S8x4096x1_S8x4096x4096_0_1_2 (maxK x0 x1)) : FVec Ideal S8x4096x4096 .f32))
  (constant S_ .f32 0x00000000#32) reducesTo_S8x4096x4096_S8x4096_d2 h_S_
/-- A row's log-sum, in the base two. -/
def lseK : FVec Ideal S8x4096x1 .f32 :=
  Host.divf (addf (maxK x0 x1) (Host.log (broadcastInDim S8x4096x1 ![0, 1] bcast_S8x4096_S8x4096x1_0_1 (sumK x0 x1))))
    (broadcastInDim S8x4096x1 ![] bcast_S_S8x4096x1 (Host.log (constant S_ .f32 0x40000000#32 : FVec Ideal S_ .f32)))
/-- A row's sum of the cotangent times the attention. -/
def delK : FVec Ideal S4096x8 .f32 := Host.reduceAdd (mulf x3 (atR x0 x1 x2)) (constant S_ .f32 0x00000000#32) reducesTo_S4096x8x128_S4096x8_d2 h_S_

end Fwd

variable (m : (ℓ : Loc nD τ sig) → Buf (Elt Ideal) ℓ) (c : Dev nD)

theorem V_q : vQ m c = padQ (qK (m (c.tc.loc main_arg0))) := by
  unfold vQ
  unfold_abbrev_sides
  after_reads_simp
  rfl
theorem V_k : vK m c = padQ (m (c.tc.loc main_arg1)) := by
  unfold vK
  unfold_abbrev_sides
  after_reads_simp
  rfl
theorem V_v : vV m c = flat .bf16 (m (c.tc.loc main_arg2)) := by
  unfold vV
  unfold_abbrev_sides
  after_reads_simp
  rfl
theorem V_o : vO m c = flat .bf16 (m (c.tc.loc main_arg3)) := by
  unfold vO
  unfold_abbrev_sides
  after_reads_simp
  rfl
theorem V_l : vL m c = flat .f32 (broadcastInDim S4096x8x128 ![0, 1, 2] bcast_S4096x8x1_S4096x8x128_0_1_2
    (transpose S4096x8x1 [1, 0, 2] (lseK (m (c.tc.loc main_arg0)) (m (c.tc.loc main_arg1))) transposes_S8x4096x1_S4096x8x1_1_0_2)) := by
  unfold vL
  unfold_abbrev_sides
  after_reads_simp
  rfl
theorem V_d : vD m c = flat .f32 (broadcastInDim S4096x8x128 ![0, 1, 2] bcast_S4096x8x1_S4096x8x128_0_1_2
    (broadcastInDim S4096x8x1 ![0, 1] bcast_S4096x8_S4096x8x1_0_1 (delK (m (c.tc.loc main_arg0)) (m (c.tc.loc main_arg1)) (m (c.tc.loc main_arg2)) (m (c.tc.loc main_arg3))))) := by
  unfold vD
  unfold_abbrev_sides
  after_reads_simp
  rfl

theorem V_q_at (r : Fin 4096) (H : Fin 8) (d : Fin 256) : vQ m c (ix2 r (cQ H d)) = if h : d.val < 192 then qK (m (c.tc.loc main_arg0)) (ix3 r H ⟨d.val, h⟩) else 0 :=
  (congrFun (V_q m c) _).trans (padQ_apply _ r H d)
theorem V_k_at (r : Fin 4096) (H : Fin 8) (d : Fin 256) : vK m c (ix2 r (cQ H d)) = if h : d.val < 192 then ((m (c.tc.loc main_arg1) : FVec Ideal S4096x8x192 .f32) (ix3 r H ⟨d.val, h⟩) : EReal) else (0 : EReal) :=
  (congrFun (V_k m c) _).trans (padQ_apply _ r H d)
theorem V_v_at (r : Fin 4096) (H : Fin 8) (e : Fin 128) : vV m c (ix2 r (cV H e)) = (m (c.tc.loc main_arg2) : FVec Ideal S4096x8x128 .f32) (ix3 r H e) :=
  (congrFun (V_v m c) _).trans (flat_apply _ r H e)
theorem V_o_at (r : Fin 4096) (H : Fin 8) (e : Fin 128) : vO m c (ix2 r (cV H e)) = (m (c.tc.loc main_arg3) : FVec Ideal S4096x8x128 .f32) (ix3 r H e) :=
  (congrFun (V_o m c) _).trans (flat_apply _ r H e)
theorem V_l_at (r : Fin 4096) (H : Fin 8) (e : Fin 128) : vL m c (ix2 r (cV H e)) = lseK (m (c.tc.loc main_arg0)) (m (c.tc.loc main_arg1)) (ix3 H r 0) := by
  refine (congrFun (V_l m c) _).trans ((flat_apply _ r H e).trans ?_)
  generalize lseK (m (c.tc.loc main_arg0)) (m (c.tc.loc main_arg1)) = w
  pointwise
theorem V_d_at (r : Fin 4096) (H : Fin 8) (e : Fin 128) : vD m c (ix2 r (cV H e)) = delK (m (c.tc.loc main_arg0)) (m (c.tc.loc main_arg1)) (m (c.tc.loc main_arg2)) (m (c.tc.loc main_arg3)) (ix2 r H) := by
  refine (congrFun (V_d m c) _).trans ((flat_apply _ r H e).trans ?_)
  generalize delK (m (c.tc.loc main_arg0)) (m (c.tc.loc main_arg1)) (m (c.tc.loc main_arg2)) (m (c.tc.loc main_arg3)) = w
  pointwise

theorem qK_at (x0 : FVec Ideal S4096x8x192 .f32) (r : Fin 4096) (H : Fin 8) (d : Fin 192) : qK x0 (ix3 r H d)
    = Ideal.div (x0 (ix3 r H d) * Ideal.ofBits .f32 0x3D93CD3A#32) (Ideal.log (Ideal.ofBits .f32 0x40000000#32)) := by
  unfold qK
  pointwise
theorem sumK_at (x0 x1 : FVec Ideal S4096x8x192 .f32) (r : Fin 4096) (H : Fin 8) : sumK x0 x1 (ix2 H r)
    = ∑ s : Fin 4096, Ideal.exp (scR x0 x1 (ix3 H r s) - mxR x0 x1 (ix2 H r)) := by
  unfold sumK maxK
  generalize mxR x0 x1 = w, scR x0 x1 = z
  generalize hR : (∑ s : Fin 4096, Ideal.exp (z (ix3 H r s) - w (ix2 H r))) = R
  pointwise
  exact hR
theorem lse_form (w z : FVec Ideal S8x4096 .f32) (r : Fin 4096) (H : Fin 8) :
    (Host.divf (addf (broadcastInDim S8x4096x1 ![0, 1] bcast_S8x4096_S8x4096x1_0_1 w) (Host.log (broadcastInDim S8x4096x1 ![0, 1] bcast_S8x4096_S8x4096x1_0_1 z)))
      (broadcastInDim S8x4096x1 ![] bcast_S_S8x4096x1 (Host.log (constant S_ .f32 0x40000000#32 : FVec Ideal S_ .f32))) : FVec Ideal S8x4096x1 .f32) (ix3 H r 0)
    = Ideal.div (w (ix2 H r) + Ideal.log (z (ix2 H r))) (Ideal.log (Ideal.ofBits .f32 0x40000000#32)) := by
  pointwise
theorem lseK_at (x0 x1 : FVec Ideal S4096x8x192 .f32) (r : Fin 4096) (H : Fin 8) : lseK x0 x1 (ix3 H r 0)
    = Ideal.div (mxR x0 x1 (ix2 H r) + Ideal.log (∑ s : Fin 4096, Ideal.exp (scR x0 x1 (ix3 H r s) - mxR x0 x1 (ix2 H r)))) (Ideal.log (Ideal.ofBits .f32 0x40000000#32)) := by
  rw [← sumK_at]
  exact lse_form (mxR x0 x1) (sumK x0 x1) r H
theorem delK_at (x0 x1 : FVec Ideal S4096x8x192 .f32) (x2 x3 : FVec Ideal S4096x8x128 .f32) (r : Fin 4096) (H : Fin 8) : delK x0 x1 x2 x3 (ix2 r H)
    = ∑ e : Fin 128, x3 (ix3 r H e) * atR x0 x1 x2 (ix3 r H e) := by
  unfold delK
  generalize atR x0 x1 x2 = w
  generalize hR : (∑ e : Fin 128, x3 (ix3 r H e) * w (ix3 r H e)) = R
  pointwise
  exact hR

end Flash
-- ==== Proof.FlashRef.lean ====
module

public import proofs.«01_k».proof.Proof.FlashHost

/-! The attention's gradient over the extended reals: the reference, stage by stage, at an element. -/

@[expose] public section

set_option maxRecDepth 16384

noncomputable section

namespace Flash

open Cert.FlashBwdIdeal Cert.FlashBwdIdeal.Gen
open Idealize.ShloMosaic Idealize.ShloMosaic.TcCoe Idealize.ShloMosaic.Tactic
open Cert.FlashBwdRefIdeal.Read

variable (x0 x1 : FVec Ideal S4096x8x192 .f32) (x2 x3 : FVec Ideal S4096x8x128 .f32)

/-- The scale of the scores, and their natural scale in words. -/
abbrev SC : EReal := Ideal.ofBits .f32 0x3D93CD3A#32

theorem bot_word : Ideal.ofBits .f32 0xFF800000#32 = ⊥ := by
  simp [Ideal.ofBits, Ideal.ieee]

theorem chunk_word : ∀ i : Fin 4096, Scalar.select
      (IntOp.andi (IntOp.cmpi CmpIPredicate.ne (if BitVec.ofNat 32 i.val = 0 then 0 else if (BitVec.ofNat 32 i.val).msb = true then -1 else 1) (1#32))
        (IntOp.cmpi CmpIPredicate.ne (IntOp.remsi ArithUnit.host (BitVec.ofNat 32 i.val) 64#32) 0#32))
      (IntOp.subi (IntOp.divsi ArithUnit.host (BitVec.ofNat 32 i.val) 64#32) 1#32) (IntOp.divsi ArithUnit.host (BitVec.ofNat 32 i.val) 64#32)
    = BitVec.ofNat 32 (i.val / 64) := by decide +kernel

theorem chunk_at (i : Fin 4096) : (val_main_v4 (F := Ideal)) (ix1 i) = BitVec.ofNat 32 (i.val / 64) := by
  unfold val_main_v4 val_main_call0_v13 val_main_call0_v11 val_main_call0_v10 val_main_call0_v6 val_main_call0_v12 val_main_call0_v2 val_main_call0_v8 val_main_call0_v9 val_main_call0_v5 val_main_call0_v3 val_main_call0_v7 val_main_call0_v1 val_main_call0_v4 val_main_call0_v0 val_main_v3 val_main_c val_main_call0_c val_main_call0_c_0
  pointwise
  exact chunk_word i

theorem sle_small (a b : ℕ) (ha : a < 64) (hb : b < 64) : IntOp.cmpi CmpIPredicate.sle (BitVec.ofNat 32 a) (BitVec.ofNat 32 b) = if a ≤ b then 1#1 else 0#1 :=
  (by decide +kernel : ∀ a b : Fin 64, IntOp.cmpi CmpIPredicate.sle (BitVec.ofNat 32 a.val) (BitVec.ofNat 32 b.val) = if a.val ≤ b.val then 1#1 else 0#1) ⟨a, ha⟩ ⟨b, hb⟩

theorem mask_at (H : Fin 8) (r s : Fin 4096) : (val_main_v10_1 (F := Ideal)) (ix3 H r s) = if s.val / 64 ≤ r.val / 64 then 1#1 else 0#1 := by
  unfold val_main_v10_1 val_main_v9 val_main_v7 val_main_v5 val_main_v8 val_main_v6
  pointwise
  simp only [chunk_at]
  exact sle_small _ _ (by omega) (by omega)

theorem scR_at (H : Fin 8) (r s : Fin 4096) : scR x0 x1 (ix3 H r s) = if s.val / 64 ≤ r.val / 64 then (∑ d : Fin 192, x0 (ix3 r H d) * x1 (ix3 s H d)) * SC else ⊥ := by
  have hm := mask_at H r s
  unfold scR val_main_v10_0 val_main_v2 val_main_v0 val_main_v1 val_main_cst val_main_call1_v2 val_main_call1_v0 val_main_cst_0
  generalize (val_main_v10_1 (F := Ideal)) = w at *
  generalize hR : (∑ d : Fin 192, x0 (ix3 r H d) * x1 (ix3 s H d)) = R
  pointwise
  rw [hm, hR]
  split
  · rfl
  · exact bot_word

section Val
variable (H : Fin 8) (r s : Fin 4096)

abbrev eR : FVec Ideal S8x4096x4096 .f32 := val_main_v31 (F := Ideal) x0 x1
abbrev zR : FVec Ideal S8x4096 .f32 := val_main_v32 (F := Ideal) x0 x1
abbrev pR : FVec Ideal S8x4096x4096 .f32 := val_main_v35 (F := Ideal) x0 x1
abbrev cvR : FVec Ideal S8x4096x4096 .f32 := val_main_v42 (F := Ideal) x2 x3
abbrev dotR : FVec Ideal S8x4096 .f32 := val_main_v53 (F := Ideal) x0 x1 x2 x3
abbrev gsR : FVec Ideal S8x4096x4096 .f32 := val_main_v56 (F := Ideal) x0 x1 x2 x3
abbrev dsR : FVec Ideal S8x4096x4096 .f32 := val_main_v59 (F := Ideal) x0 x1 x2 x3

theorem exp_form (a : FVec Ideal S8x4096x4096 .f32) (b c : FVec Ideal S8x4096 .f32) :
    (Host.exp (subf a (broadcastInDim S8x4096x4096 ![0, 1, 2] bcast_S8x4096x1_S8x4096x4096_0_1_2 (broadcastInDim S8x4096x1 ![0, 1] bcast_S8x4096_S8x4096x1_0_1
      (maximumf c b)))) : FVec Ideal S8x4096x4096 .f32) (ix3 H r s)
    = Ideal.exp (a (ix3 H r s) - max (c (ix2 H r)) (b (ix2 H r))) := by
  pointwise
theorem bot_at : (val_main_v17 (F := Ideal)) (ix2 H r) = Ideal.ofBits .f32 0xFF800000#32 := by
  unfold val_main_v17 val_main_cst_3
  pointwise
theorem eR_at : eR x0 x1 (ix3 H r s) = Ideal.exp (scR x0 x1 (ix3 H r s) - max (Ideal.ofBits .f32 0xFF800000#32) (mxR x0 x1 (ix2 H r))) := by
  rw [← bot_at H r]
  exact exp_form H r s (scR x0 x1) (mxR x0 x1) (val_main_v17 (F := Ideal))
theorem zR_at : zR x0 x1 (ix2 H r) = ∑ s : Fin 4096, eR x0 x1 (ix3 H r s) := by
  unfold zR eR val_main_v32 val_main_cst_9
  generalize val_main_v31 (F := Ideal) x0 x1 = a
  generalize hR : ∑ s : Fin 4096, a (ix3 H r s) = R
  pointwise
  exact hR
theorem pR_at : pR x0 x1 (ix3 H r s) = Ideal.div (eR x0 x1 (ix3 H r s)) (zR x0 x1 (ix2 H r)) := by
  unfold pR eR zR val_main_v35 val_main_v34 val_main_v33
  generalize val_main_v31 (F := Ideal) x0 x1 = a, val_main_v32 (F := Ideal) x0 x1 = b
  pointwise
theorem atR_at (e : Fin 128) : atR x0 x1 x2 (ix3 r H e) = ∑ s : Fin 4096, x2 (ix3 s H e) * pR x0 x1 (ix3 H r s) := by
  unfold atR pR val_main_v40 val_main_v39
  generalize val_main_v35 (F := Ideal) x0 x1 = a
  generalize hR : ∑ s : Fin 4096, x2 (ix3 s H e) * a (ix3 H r s) = R
  pointwise
  exact hR
theorem cvR_at : cvR x2 x3 (ix3 H r s) = ∑ e : Fin 128, x3 (ix3 r H e) * x2 (ix3 s H e) := by
  unfold cvR val_main_v42 val_main_v41
  generalize hR : ∑ e : Fin 128, x3 (ix3 r H e) * x2 (ix3 s H e) = R
  pointwise
  exact hR
theorem dotR_at : dotR x0 x1 x2 x3 (ix2 H r) = -∑ s : Fin 4096, cvR x2 x3 (ix3 H r s)
    * Ideal.div 1 (zR x0 x1 (ix2 H r) * zR x0 x1 (ix2 H r)) * eR x0 x1 (ix3 H r s) := by
  unfold dotR eR zR cvR val_main_v53 val_main_v50 val_main_v49 val_main_v48 val_main_v47 val_main_v46 val_main_v45 val_main_v38 val_main_v37 val_main_v36 val_main_v33 val_main_cst_10 val_main_cst_11 val_main_cst_12
  generalize val_main_v31 (F := Ideal) x0 x1 = a, val_main_v32 (F := Ideal) x0 x1 = b, val_main_v42 (F := Ideal) x2 x3 = w
  generalize hR : ∑ s : Fin 4096, w (ix3 H r s) * Ideal.div 1 (b (ix2 H r) * b (ix2 H r)) * a (ix3 H r s) = R
  pointwise
  simp only [hR, Fin.sum_univ_one]
theorem gsR_at : gsR x0 x1 x2 x3 (ix3 H r s) = (Ideal.div (cvR x2 x3 (ix3 H r s)) (zR x0 x1 (ix2 H r)) + dotR x0 x1 x2 x3 (ix2 H r)) * eR x0 x1 (ix3 H r s) := by
  unfold gsR eR zR cvR dotR val_main_v56 val_main_v55 val_main_v54 val_main_v52 val_main_v51 val_main_v33
  generalize val_main_v31 (F := Ideal) x0 x1 = a, val_main_v32 (F := Ideal) x0 x1 = b, val_main_v42 (F := Ideal) x2 x3 = w, val_main_v53 (F := Ideal) x0 x1 x2 x3 = z
  pointwise
theorem dsR_at : dsR x0 x1 x2 x3 (ix3 H r s) = (if s.val / 64 ≤ r.val / 64 then gsR x0 x1 x2 x3 (ix3 H r s) else 0) * SC := by
  have hm := mask_at H r s
  unfold dsR gsR val_main_v59 val_main_v58 val_main_v57 val_main_call2_v0 val_main_cst_13 val_main_call2_cst
  generalize val_main_v10_1 (F := Ideal) = w, val_main_v56 (F := Ideal) x0 x1 x2 x3 = a at *
  pointwise
  rw [hm]
  split
  · rfl
  · exact (zero_mul (M₀ := EReal) _).symm
theorem dvR_at (e : Fin 128) : val_main_v71 (F := Ideal) x0 x1 x3 (ix2 s (cV H e)) = ∑ r : Fin 4096, x3 (ix3 r H e) * pR x0 x1 (ix3 H r s) := by
  unfold val_main_v71 val_main_v70
  refine (flat_apply (e := .f32) (val_main_v44 (F := Ideal) x0 x1 x3) s H e).trans ?_
  unfold pR val_main_v44 val_main_v43 val_main_v41
  generalize val_main_v35 (F := Ideal) x0 x1 = a
  generalize hR : ∑ r : Fin 4096, x3 (ix3 r H e) * a (ix3 H r s) = R
  pointwise
  exact hR
theorem dqR_at (d : Fin 256) : val_main_v66 (F := Ideal) x0 x1 x2 x3 (ix2 r (cQ H d)) =
    if h : d.val < 192 then ∑ s : Fin 4096, dsR x0 x1 x2 x3 (ix3 H r s) * x1 (ix3 s H ⟨d.val, h⟩) else 0 := by
  refine Eq.trans (b := padQ (val_main_v63 (F := Ideal) x0 x1 x2 x3) (ix2 r (cQ H d))) rfl ?_
  refine (padQ_apply _ r H d).trans ?_
  split
  · unfold dsR val_main_v63 val_main_v62
    generalize val_main_v59 (F := Ideal) x0 x1 x2 x3 = a
    rename_i h
    generalize hR : ∑ s : Fin 4096, a (ix3 H r s) * x1 (ix3 s H ⟨d.val, h⟩) = R
    pointwise
    exact hR
  · rfl
theorem dkR_at (d : Fin 256) : val_main_v69 (F := Ideal) x0 x1 x2 x3 (ix2 s (cQ H d)) =
    if h : d.val < 192 then ∑ r : Fin 4096, dsR x0 x1 x2 x3 (ix3 H r s) * x0 (ix3 r H ⟨d.val, h⟩) else 0 := by
  refine Eq.trans (b := padQ (val_main_v61 (F := Ideal) x0 x1 x2 x3) (ix2 s (cQ H d))) rfl ?_
  refine (padQ_apply _ s H d).trans ?_
  split
  · unfold dsR val_main_v61 val_main_v60
    generalize val_main_v59 (F := Ideal) x0 x1 x2 x3 = a
    rename_i h
    generalize hR : ∑ r : Fin 4096, a (ix3 H r s) * x0 (ix3 r H ⟨d.val, h⟩) = R
    pointwise
    exact hR
  · rfl
/-- A row's largest score is finite: no score is the top, and the diagonal's is not the bottom. -/
theorem mxR_real (hf : ∀ i, scR x0 x1 i ≠ ⊤) (hr : scR x0 x1 (ix3 H r r) ≠ ⊥) : ∃ M : ℝ, mxR x0 x1 (ix2 H r) = (M : EReal) := by
  unfold mxR val_main_v11 val_main_cst_1
  rw [Host.reduce_eq_fold]
  show ∃ M : ℝ, Finset.fold max (Ideal.ofBits .f32 0xFF800000#32) (scR x0 x1) _ = (M : EReal)
  have hb : Finset.fold max (Ideal.ofBits .f32 0xFF800000#32) (scR x0 x1)
      {i | Cert.FlashBwdRefIdeal.Gen.reducesTo_S8x4096x4096_S8x4096_d2.drop i = ix2 H r} ≠ ⊥ := by
    refine fun h => hr (le_bot_iff.mp (h ▸ Finset.le_fold_max _ |>.mpr (Or.inr ⟨ix3 H r r, ?_, le_rfl⟩)))
    rw [Finset.mem_filter]
    refine ⟨Finset.mem_univ _, funext fun b => Fin.ext ?_⟩
    fin_cases b
    · exact Shape.ReducesTo.drop_apply_val_of_eq Cert.FlashBwdRefIdeal.Gen.reducesTo_S8x4096x4096_S8x4096_d2 (ix3 H r r) 0 0
    · exact Shape.ReducesTo.drop_apply_val_of_eq Cert.FlashBwdRefIdeal.Gen.reducesTo_S8x4096x4096_S8x4096_d2 (ix3 H r r) 1 1
  have ht : Finset.fold max (Ideal.ofBits .f32 0xFF800000#32) (scR x0 x1)
      {i | Cert.FlashBwdRefIdeal.Gen.reducesTo_S8x4096x4096_S8x4096_d2.drop i = ix2 H r} < ⊤ := by
    rw [Finset.fold_max_lt, bot_word]
    exact ⟨bot_lt_top, fun i _ => lt_top_iff_ne_top.mpr (hf i)⟩
  exact ⟨_, (EReal.coe_toReal ht.ne hb).symm⟩
end Val
end Flash
-- ==== Proof.FlashAlg.lean ====
module

public import proofs.«01_k».proof.Proof.FlashRef

/-! The attention's gradient over the extended reals at finite arguments: kernel and reference agree. -/

@[expose] public section

set_option maxRecDepth 16384

noncomputable section

namespace Flash

open Cert.FlashBwdIdeal Cert.FlashBwdIdeal.Gen
open Idealize.ShloMosaic Idealize.ShloMosaic.TcCoe Idealize.ShloMosaic.Tactic
open Cert Cert.FlashBwdRefIdeal.Read

theorem SC_real : ∃ c : ℝ, SC = (c : EReal) := by
  refine ⟨4843165 / 67108864, ?_⟩
  simp [SC, Ideal.ofBits, Ideal.ieee, -EReal.coe_mul]
  norm_num

theorem divc (a b : ℝ) (h : b ≠ 0) : Ideal.div (a : EReal) (b : EReal) = ((a / b : ℝ) : EReal) := by
  rw [Alg.div_coe_eq _ _ h, ← EReal.coe_mul]
  congr 1
  ring

theorem log_two : Ideal.log (Ideal.ofBits .f32 0x40000000#32) = ((Real.log 2 : ℝ) : EReal) := by
  rw [Alg.ofBits_two, Ideal.log_coe, if_neg (by norm_num)]

theorem log_two_pos : 0 < Real.log 2 := Real.log_pos (by norm_num)

/-- The sum over a head's padded columns is the sum over its own. -/
theorem sum_pad (f : Fin 192 → EReal) (g : Fin 256 → EReal)
    (h1 : ∀ d : Fin 256, ∀ h : d.val < 192, g d = f ⟨d.val, h⟩) (h2 : ∀ d : Fin 256, ¬ d.val < 192 → g d = 0) :
    ∑ d, g d = ∑ d, f d := by
  have e := Fin.sum_univ_add (a := 192) (b := 64) g
  have z : ∑ d : Fin 64, g (Fin.natAdd 192 d) = 0 := Finset.sum_eq_zero fun d _ => h2 _ (by simp)
  rw [z, add_zero] at e
  exact e.trans (Finset.sum_congr rfl fun d _ => h1 (Fin.castAdd 64 d) d.isLt)

/-- The softmax in powers of two: the row's saved logarithm divides the exponential by the row's sum. -/
theorem exp2_soft (a M Z : ℝ) (hZ : 0 < Z) :
    Ideal.exp2 (((a / Real.log 2 : ℝ) : EReal) - (((M + Real.log Z) / Real.log 2 : ℝ) : EReal)) = ((Real.exp (a - M) / Z : ℝ) : EReal) := by
  rw [← EReal.coe_sub, Ideal.exp2_coe]
  congr 1
  show (2 : ℝ) ^ (a / Real.log 2 - (M + Real.log Z) / Real.log 2) = _
  rw [Real.rpow_def_of_pos (by norm_num), ← sub_div, mul_div_cancel₀ _ log_two_pos.ne', ← sub_sub, Real.exp_sub (a - M), Real.exp_log hZ]

section Real
variable (x0 x1 : FVec Ideal S4096x8x192 .f32) (x2 x3 : FVec Ideal S4096x8x128 .f32)
variable (q k : S4096x8x192.Idx → ℝ) (v o : S4096x8x128.Idx → ℝ)
variable (c : ℝ) (M : Fin 8 → Fin 4096 → ℝ) (H : Fin 8) (r s : Fin 4096)

/-- A scaled score. -/
def aS : ℝ := (∑ d : Fin 192, q (ix3 r H d) * k (ix3 s H d)) * c
/-- The masked exponential, the row's sum, and the cotangent's product with a value. -/
def eS : ℝ := if s.val / 64 ≤ r.val / 64 then Real.exp (aS q k c H r s - M H r) else 0
def zS : ℝ := ∑ s, eS q k c M H r s
def cS : ℝ := ∑ e : Fin 128, o (ix3 r H e) * v (ix3 s H e)
/-- The gradient at a score. -/
def gS : ℝ := eS q k c M H r s / zS q k c M H r * (cS v o H r s - ∑ s, cS v o H r s * (eS q k c M H r s / zS q k c M H r))

theorem eS_nonneg : 0 ≤ eS q k c M H r s := by
  unfold eS
  split
  · exact (Real.exp_pos _).le
  · exact le_rfl
theorem zS_pos : 0 < zS q k c M H r :=
  Finset.sum_pos' (fun s _ => eS_nonneg q k c M H r s) ⟨r, Finset.mem_univ _, by
    unfold eS
    rw [if_pos le_rfl]
    exact Real.exp_pos _⟩

variable (h0 : ∀ i, x0 i = (q i : EReal)) (h1 : ∀ i, x1 i = (k i : EReal)) (h2 : ∀ i, x2 i = (v i : EReal)) (h3 : ∀ i, x3 i = (o i : EReal))
  (hc : SC = (c : EReal))

include h0 h1 hc in
theorem scR_real : scR x0 x1 (ix3 H r s) = if s.val / 64 ≤ r.val / 64 then (aS q k c H r s : EReal) else ⊥ := by
  rw [scR_at]
  simp only [h0, h1, hc, ← EReal.coe_mul, ← Alg.coe_sum]
  rfl

include h0 h1 hc in
theorem mx_real : ∃ M : ℝ, mxR x0 x1 (ix2 H r) = (M : EReal) := by
  refine mxR_real x0 x1 H r (fun i => ?_) ?_
  · idx_vars i
    rw [scR_real x0 x1 q k c i0 i1 i2 h0 h1 hc]
    split
    · exact EReal.coe_ne_top _
    · exact bot_ne_top
  · rw [scR_real x0 x1 q k c H r r h0 h1 hc, if_pos le_rfl]
    exact EReal.coe_ne_bot _

variable (hM : ∀ H r, mxR x0 x1 (ix2 H r) = (M H r : EReal))

include h0 h1 hc hM in
theorem exp_real : Ideal.exp (scR x0 x1 (ix3 H r s) - mxR x0 x1 (ix2 H r)) = (eS q k c M H r s : EReal) := by
  rw [hM, scR_real x0 x1 q k c H r s h0 h1 hc]
  unfold eS
  split
  · rw [← EReal.coe_sub, Ideal.exp_coe]
  · rw [EReal.bot_sub, Ideal.exp_bot, EReal.coe_zero]

include h0 h1 hc hM in
theorem eR_real : eR x0 x1 (ix3 H r s) = (eS q k c M H r s : EReal) := by
  rw [eR_at, bot_word, max_eq_right bot_le]
  exact exp_real x0 x1 q k c M H r s h0 h1 hc hM

include h0 h1 hc hM in
theorem zR_real : zR x0 x1 (ix2 H r) = (zS q k c M H r : EReal) := by
  rw [zR_at, zS, Alg.coe_sum]
  exact Finset.sum_congr rfl fun s _ => eR_real x0 x1 q k c M H r s h0 h1 hc hM

include h0 h1 hc hM in
theorem pR_real : pR x0 x1 (ix3 H r s) = ((eS q k c M H r s / zS q k c M H r : ℝ) : EReal) := by
  rw [pR_at, eR_real x0 x1 q k c M H r s h0 h1 hc hM, zR_real x0 x1 q k c M H r h0 h1 hc hM, divc _ _ (zS_pos q k c M H r).ne']

include h0 h1 h2 hc hM in
theorem atR_real (e : Fin 128) : atR x0 x1 x2 (ix3 r H e) = ((∑ s, v (ix3 s H e) * (eS q k c M H r s / zS q k c M H r) : ℝ) : EReal) := by
  rw [atR_at, Alg.coe_sum]
  exact Finset.sum_congr rfl fun s _ => by rw [h2, pR_real x0 x1 q k c M H r s h0 h1 hc hM, EReal.coe_mul]

include h2 h3 in
theorem cvR_real : cvR x2 x3 (ix3 H r s) = (cS v o H r s : EReal) := by
  rw [cvR_at]
  simp only [h2, h3, ← EReal.coe_mul, ← Alg.coe_sum]
  rfl

include h0 h1 h2 h3 hc hM in
theorem gsR_real : gsR x0 x1 x2 x3 (ix3 H r s) = (gS q k v o c M H r s : EReal) := by
  have hz := (zS_pos q k c M H r).ne'
  rw [gsR_at, dotR_at]
  simp only [cvR_real x2 x3 v o H r _ h2 h3, eR_real x0 x1 q k c M H r _ h0 h1 hc hM, zR_real x0 x1 q k c M H r h0 h1 hc hM]
  rw [divc _ _ hz, ← EReal.coe_mul, ← EReal.coe_one, divc _ _ (mul_ne_zero hz hz)]
  simp only [← EReal.coe_mul, ← Alg.coe_sum]
  rw [← EReal.coe_neg, ← EReal.coe_add, ← EReal.coe_mul]
  congr 1
  unfold gS
  have e : ∑ s, cS v o H r s * (1 / (zS q k c M H r * zS q k c M H r)) * eS q k c M H r s =
      (∑ s, cS v o H r s * (eS q k c M H r s / zS q k c M H r)) / zS q k c M H r := by
    rw [Finset.sum_div]
    refine Finset.sum_congr rfl fun s _ => ?_
    field_simp
  rw [e]
  field_simp
  ring

include h0 h1 h2 h3 hc hM in
theorem dsR_real : dsR x0 x1 x2 x3 (ix3 H r s) = ((gS q k v o c M H r s * c : ℝ) : EReal) := by
  rw [dsR_at, gsR_real x0 x1 x2 x3 q k v o c M H r s h0 h1 h2 h3 hc hM, hc]
  split
  · rw [EReal.coe_mul]
  · next h => rw [zero_mul, gS, eS, if_neg h, zero_div, zero_mul, zero_mul, EReal.coe_zero]

include h0 h1 h2 h3 hc hM in
theorem delK_real : delK x0 x1 x2 x3 (ix2 r H) = ((∑ s, cS v o H r s * (eS q k c M H r s / zS q k c M H r) : ℝ) : EReal) := by
  rw [delK_at]
  simp only [h3, atR_real x0 x1 x2 q k v c M H r h0 h1 h2 hc hM, ← EReal.coe_mul, ← Alg.coe_sum]
  congr 1
  simp only [cS, Finset.mul_sum, Finset.sum_mul]
  rw [Finset.sum_comm]
  refine Finset.sum_congr rfl fun s _ => Finset.sum_congr rfl fun e _ => ?_
  ring

include h0 h1 hc hM in
theorem lseK_real : lseK x0 x1 (ix3 H r 0) = (((M H r + Real.log (zS q k c M H r)) / Real.log 2 : ℝ) : EReal) := by
  rw [lseK_at]
  simp only [exp_real x0 x1 q k c M H r _ h0 h1 hc hM, ← Alg.coe_sum]
  rw [show (∑ s, eS q k c M H r s) = zS q k c M H r from rfl, hM, Ideal.log_coe, if_neg (not_le.mpr (zS_pos q k c M H r)), ← EReal.coe_add, log_two,
    divc _ _ log_two_pos.ne']

section Kernel
variable (Q K : Vec Ideal S4096x2048 .bf16) (V O : Vec Ideal S4096x1024 .bf16) (L D : Vec Ideal S4096x1024 .f32)

variable (hQ : ∀ (r : Fin 4096) (H : Fin 8) (d : Fin 256), Q (ix2 r (cQ H d)) = if h : d.val < 192 then (qK x0 (ix3 r H ⟨d.val, h⟩) : EReal) else (0 : EReal))
  (hK : ∀ (r : Fin 4096) (H : Fin 8) (d : Fin 256), K (ix2 r (cQ H d)) = if h : d.val < 192 then (x1 (ix3 r H ⟨d.val, h⟩) : EReal) else (0 : EReal))
  (hV : ∀ (r : Fin 4096) (H : Fin 8) (e : Fin 128), V (ix2 r (cV H e)) = x2 (ix3 r H e))
  (hO : ∀ (r : Fin 4096) (H : Fin 8) (e : Fin 128), O (ix2 r (cV H e)) = x3 (ix3 r H e))
  (hL : ∀ (r : Fin 4096) (H : Fin 8) (e : Fin 128), L (ix2 r (cV H e)) = lseK x0 x1 (ix3 H r 0))
  (hD : ∀ (r : Fin 4096) (H : Fin 8) (e : Fin 128), D (ix2 r (cV H e)) = delK x0 x1 x2 x3 (ix2 r H))

include h0 hc hQ in
theorem q_real (d : Fin 256) : (Q (ix2 r (cQ H d)) : EReal) = if h : d.val < 192 then ((q (ix3 r H ⟨d.val, h⟩) * c / Real.log 2 : ℝ) : EReal) else 0 := by
  rw [hQ]
  split
  · rw [qK_at, h0, show Ideal.ofBits .f32 0x3D93CD3A#32 = (c : EReal) from hc, ← EReal.coe_mul, log_two, divc _ _ log_two_pos.ne']
  · rfl

include h0 h1 hc hQ hK in
theorem sA_real : sA Q K H r s = if s.val / 64 ≤ r.val / 64 then ((aS q k c H r s / Real.log 2 : ℝ) : EReal) else ⊥ := by
  unfold sA
  split
  · rw [sum_pad (fun d => ((q (ix3 r H d) * c / Real.log 2 * k (ix3 s H d) : ℝ) : EReal)) _ (fun d h => ?_) (fun d h => ?_), ← Alg.coe_sum]
    · congr 1
      rw [aS, Finset.sum_mul, Finset.sum_div]
      exact Finset.sum_congr rfl fun d _ => by ring
    · rw [q_real x0 q c H r h0 hc Q hQ, hK, dif_pos h, dif_pos h, h1, ← EReal.coe_mul]
    · rw [q_real x0 q c H r h0 hc Q hQ, dif_neg h, zero_mul]
  · rfl

include h0 h1 hc hM hQ hK hL in
theorem wA_real : wA Q K L H r s = ((eS q k c M H r s / zS q k c M H r : ℝ) : EReal) := by
  unfold wA
  rw [sA_real x0 x1 q k c H r s h0 h1 hc Q K hQ hK, hL, lseK_real x0 x1 q k c M H r h0 h1 hc hM]
  unfold eS
  split
  · exact exp2_soft _ _ _ (zS_pos q k c M H r)
  · rw [EReal.bot_sub, Ideal.exp2_bot, zero_div, EReal.coe_zero]

include h0 h1 h2 h3 hc hM hQ hK hV hO hL hD in
theorem gA_real : gA Q K V O L D H r s = (gS q k v o c M H r s : EReal) := by
  unfold gA
  rw [wA_real x0 x1 q k c M H r s h0 h1 hc hM Q K L hQ hK hL, hD, delK_real x0 x1 x2 x3 q k v o c M H r h0 h1 h2 h3 hc hM]
  simp only [hO, hV, h2, h3, ← EReal.coe_mul, ← Alg.coe_sum]
  rw [← EReal.coe_sub, ← EReal.coe_mul]
  rfl

theorem cQ_surj (j : Fin 2048) : ∃ H d, j = cQ H d :=
  ⟨⟨j.val / 256, by omega⟩, ⟨j.val % 256, by omega⟩, Fin.ext (show j.val = j.val / 256 * 256 + j.val % 256 by omega)⟩
theorem cV_surj (j : Fin 1024) : ∃ H d, j = cV H d :=
  ⟨⟨j.val / 128, by omega⟩, ⟨j.val % 128, by omega⟩, Fin.ext (show j.val = j.val / 128 * 128 + j.val % 128 by omega)⟩
theorem hOfQ_cQ (H : Fin 8) (d : Fin 256) : hOfQ (cQ H d) = H := Fin.ext (show (H.val * 256 + d.val) / 256 = H.val by omega)
theorem hOfV_cV (H : Fin 8) (d : Fin 128) : hOfV (cV H d) = H := Fin.ext (show (H.val * 128 + d.val) / 128 = H.val by omega)

include h0 h1 h2 h3 hc hM hQ hK hV hO hL hD in
theorem dq_eq : dqA Q K V O L D = val_main_v66 (F := Ideal) x0 x1 x2 x3 := by
  funext y
  idx_vars y
  obtain ⟨H, d, rfl⟩ := cQ_surj y1
  refine Eq.trans ?_ (dqR_at x0 x1 x2 x3 H y0 d).symm
  show (∑ s, gA Q K V O L D (hOfQ (cQ H d)) y0 s * K (ix2 s (cQ H d))) * SC = _
  rw [hOfQ_cQ]
  simp only [gA_real x0 x1 x2 x3 q k v o c M H y0 _ h0 h1 h2 h3 hc hM Q K V O L D hQ hK hV hO hL hD, hK, dsR_real x0 x1 x2 x3 q k v o c M H y0 _ h0 h1 h2 h3 hc hM]
  split
  · simp only [h1, hc, ← EReal.coe_mul, ← Alg.coe_sum]
    congr 1
    rw [Finset.sum_mul]
    exact Finset.sum_congr rfl fun s _ => by ring
  · simp only [mul_zero, Finset.sum_const_zero, zero_mul]

include h0 h1 h2 h3 hc hM hQ hK hV hO hL hD in
theorem dk_eq : dkA Q K V O L D = val_main_v69 (F := Ideal) x0 x1 x2 x3 := by
  funext y
  idx_vars y
  obtain ⟨H, d, rfl⟩ := cQ_surj y1
  refine Eq.trans ?_ (dkR_at x0 x1 x2 x3 H y0 d).symm
  show (∑ r, gA Q K V O L D (hOfQ (cQ H d)) r y0 * Q (ix2 r (cQ H d))) * ((Real.log 2 : ℝ) : EReal) = _
  rw [hOfQ_cQ]
  simp only [gA_real x0 x1 x2 x3 q k v o c M H _ y0 h0 h1 h2 h3 hc hM Q K V O L D hQ hK hV hO hL hD, q_real x0 q c H _ h0 hc Q hQ, dsR_real x0 x1 x2 x3 q k v o c M H _ y0 h0 h1 h2 h3 hc hM]
  have hl := log_two_pos.ne'
  split
  · simp only [h0, ← EReal.coe_mul, ← Alg.coe_sum]
    congr 1
    rw [Finset.sum_mul]
    refine Finset.sum_congr rfl fun s _ => ?_
    field_simp
  · simp only [mul_zero, Finset.sum_const_zero, zero_mul]

include h0 h1 h3 hc hM hQ hK hO hL in
theorem dv_eq : dvA Q K O L = val_main_v71 (F := Ideal) x0 x1 x3 := by
  funext y
  idx_vars y
  obtain ⟨H, e, rfl⟩ := cV_surj y1
  refine Eq.trans ?_ (dvR_at x0 x1 x3 H y0 e).symm
  show (∑ r, wA Q K L (hOfV (cV H e)) r y0 * O (ix2 r (cV H e))) = _
  rw [hOfV_cV]
  simp only [wA_real x0 x1 q k c M H _ y0 h0 h1 hc hM Q K L hQ hK hL, hO, pR_real x0 x1 q k c M H _ y0 h0 h1 hc hM]
  exact Finset.sum_congr rfl fun r _ => mul_comm (G := EReal) _ _

end Kernel
end Real

end Flash

end
-- ==== Proof.FlashClaims.lean ====
module

public import proofs.«01_k».proof.Defs
public import proofs.«01_k».proof.Proof.FlashFrame
public import proofs.«01_k».proof.Proof.Gen.FlashBwd

@[expose] public section

noncomputable section

namespace Flash

open Idealize.ShloMosaic Idealize.SL.Sem

/-- Read at machine floats, a named constant is its own word: so the idealized program is the printed one there. -/
@[reducible] def words : Named Bits where
  named _ _ {_} b := FloatOps.ofBits _ b

/-- The frame of the idealized program at machine floats, as a proposition. -/
def Words : Prop :=
  letI : Named Bits := words
  ∀ (m : (ℓ : Loc Cert.FlashBwdIdeal.nD Cert.FlashBwdIdeal.τ Cert.FlashBwdIdeal.sig) → Buf (Elt Bits) ℓ) (g : Dev Cert.FlashBwdIdeal.nD → PrngReg), True →
    θ_run (Cert.FlashBwdIdeal.defs (F := Bits)) (onTc (τ := Cert.FlashBwdIdeal.τ) (Cert.FlashBwdIdeal.main (F := Bits))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

theorem frame_words : Words := fun m ρ _ => by
  letI : Named Bits := words
  exact frame (F := Bits) m ρ

theorem words_eq : Words = Cert.quiescent_FlashBwd (hFlashBwd := Cert.FlashBwd.Gen.facts) := by sl_kernel_rfl

theorem frame_words_printed : Cert.quiescent_FlashBwd (hFlashBwd := Cert.FlashBwd.Gen.facts) := words_eq ▸ frame_words

theorem frame_ideal : Cert.quiescent_FlashBwdIdeal (hFlashBwdIdeal := Cert.FlashBwdIdeal.Gen.facts) := fun m ρ _ =>
  frame (F := Ideal) m ρ

theorem preserves : Cert.preserves_FlashBwd_FlashBwdIdeal :=
  ⟨IdealRules.named_const.statement Cert.FlashBwdIdeal.κ "mask" .f32 0xF149F2CA#32 ⊥ rfl,
    IdealRules.named_const.statement Cert.FlashBwdIdeal.κ "ln2" .f32 0x3F317218#32 ((Real.log 2 : ℝ) : EReal) rfl⟩

end Flash

end
-- ==== Proof.Flash.lean ====
module

public import proofs.«01_k».proof.Proof.FlashAlg
public import proofs.«01_k».proof.Proof.FlashClaims
public import proofs.«01_k».proof.Proof.Gen.Pre_flash_finite
public import Idealize.ShloMosaic.Lib.Claim
public import Idealize.ShloMosaic.Lib.ReduceAll

/-! The attention's gradient: the three arrays that the grid leaves are the reference's, at finite arguments. -/

@[expose] public section

set_option maxRecDepth 16384

noncomputable section

namespace Flash

open Cert.FlashBwdIdeal Cert.FlashBwdIdeal.Gen
open Idealize.ShloMosaic Idealize.ShloMosaic.TcCoe Idealize.ShloMosaic.Tactic Idealize.SL.Sem
open Cert Cert.FlashBwdRefIdeal.Read

section Pre
variable (x0 x1 : FVec Ideal S4096x8x192 .f32) (x2 x3 : FVec Ideal S4096x8x128 .f32)

theorem real_of_pre (h : Cert.Pre_flash_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ix0
  simp only [Cert.Pre_flash_finite.fn, Cert.Pre_flash_finite.fn_part1] at h0
  obtain ⟨p, q3⟩ := IntOp.andi_eq_one.1 h0
  obtain ⟨p, q2⟩ := IntOp.andi_eq_one.1 p
  obtain ⟨q0, q1⟩ := IntOp.andi_eq_one.1 p
  exact ⟨fun i => Alg.real_of_test _ (Host.reduce_andi_all _ _ _ _ _ q0 i), fun i => Alg.real_of_test _ (Host.reduce_andi_all _ _ _ _ _ q1 i),
    fun i => Alg.real_of_test _ (Host.reduce_andi_all _ _ _ _ _ q2 i), fun i => Alg.real_of_test _ (Host.reduce_andi_all _ _ _ _ _ q3 i)⟩
end Pre

variable (m : (ℓ : Loc nD τ sig) → Buf (Elt Ideal) ℓ) (c : Dev nD)

/-- The three arrays that the grid leaves. -/
theorem arrays (h : Cert.Pre_flash_finite.fn (F := Ideal) (m (c.tc.loc main_arg0)) (m (c.tc.loc main_arg1)) (m (c.tc.loc main_arg2)) (m (c.tc.loc main_arg3)) = fun _ => 1#1) :
    (dats m 0 c).arrAt 6 cfg0.N = val_main_v66 (F := Ideal) (m (c.tc.loc main_arg0)) (m (c.tc.loc main_arg1)) (m (c.tc.loc main_arg2)) (m (c.tc.loc main_arg3))
    ∧ (dats m 0 c).arrAt 7 cfg0.N = val_main_v69 (F := Ideal) (m (c.tc.loc main_arg0)) (m (c.tc.loc main_arg1)) (m (c.tc.loc main_arg2)) (m (c.tc.loc main_arg3))
    ∧ (dats m 0 c).arrAt 8 cfg0.N = val_main_v71 (F := Ideal) (m (c.tc.loc main_arg0)) (m (c.tc.loc main_arg1)) (m (c.tc.loc main_arg3)) := by
  obtain ⟨h0, h1, h2, h3⟩ := real_of_pre _ _ _ _ h
  choose q h0 using h0
  choose k h1 using h1
  choose v h2 using h2
  choose o h3 using h3
  obtain ⟨s, hc⟩ := SC_real
  choose M hM using fun H r => mx_real _ _ q k s H r h0 h1 hc
  refine ⟨(arr6 m c).trans ?_, (arr7 m c).trans ?_, (arr8 m c).trans ?_⟩
  · exact dq_eq _ _ _ _ q k v o s M h0 h1 h2 h3 hc hM _ _ _ _ _ _ (V_q_at m c) (V_k_at m c) (V_v_at m c) (V_o_at m c) (V_l_at m c) (V_d_at m c)
  · exact dk_eq _ _ _ _ q k v o s M h0 h1 h2 h3 hc hM _ _ _ _ _ _ (V_q_at m c) (V_k_at m c) (V_v_at m c) (V_o_at m c) (V_l_at m c) (V_d_at m c)
  · exact dv_eq _ _ _ q k o s M h0 h1 h3 hc hM _ _ _ _ (V_q_at m c) (V_k_at m c) (V_o_at m c) (V_l_at m c)

/-- The run's three results and its arguments. -/
theorem run_blocks (ρ : Dev nD → PrngReg) : θ_run defs (onTc (τ := τ) (main (F := Ideal))) ⟨m, fun _ => 0, ρ⟩ fun r => ∀ c : Dev nD,
      r.2.mem ((c.tc : Thread nD τ).loc main_v69_0) = (dats m 0 c).arrAt 6 cfg0.N
      ∧ r.2.mem ((c.tc : Thread nD τ).loc main_v69_1) = (dats m 0 c).arrAt 7 cfg0.N
      ∧ r.2.mem ((c.tc : Thread nD τ).loc main_v69_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.2 c).1 6, (h.2 c).1 7, (h.2 c).1 8, h.1.1 c⟩)
    (θ_run_and (frame m ρ) ((θ_run defs _ _).mono (fun _ h => h.1) (run_main m ρ)))

end Flash

end
-- ==== Proof.FwdPay.lean ====
module

public import proofs.«01_k».proof.Proof.Gen.FlashFwdIdeal.Skeleton
public import proofs.«01_k».proof.Proof.FlashPay

/-! The attention's forward kernel over the extended reals: how one block of keys changes a block of query rows' running
    maximum and its accumulators, element by element. -/

@[expose] public section

set_option maxRecDepth 16384

noncomputable section

namespace FlashFwd

open Cert.FlashFwdIdeal Cert.FlashFwdIdeal.Gen
open Idealize.ShloMosaic Idealize.ShloMosaic.TcCoe
open Flash (lane sB sM)

/-- An accumulator column's place in the lanes that the running maximum is repeated over: a head's first 128 columns
    gather the values, its last 128 the weights alone. -/
def half (e : Fin 256) : Fin 128 := ⟨e.val % 128, Nat.mod_lt _ (by norm_num)⟩

/-- What the weights multiply in column `e`. -/
def col (v : Vec Ideal S512x128 .bf16) (j : Fin 512) (e : Fin 256) : EReal := if h : e.val < 128 then v (ix2 j ⟨e.val, h⟩) else 1

/-- The running maximum after the block with the scores `s`. -/
def mx (s : Fin 512 → Fin 512 → EReal) (mm : Vec Ideal S512x128 .f32) (i : Fin 512) (l : Fin 128) : EReal :=
  max (mm (ix2 i l)) (Finset.fold max (Ideal.ofBits .f32 0xFF800000#32) (s i) Finset.univ)
/-- The accumulators after it. -/
def ac (s : Fin 512 → Fin 512 → EReal) (mm : Vec Ideal S512x128 .f32) (v : Vec Ideal S512x128 .bf16) (a : Vec Ideal S512x256 .f32) (i : Fin 512) (e : Fin 256) : EReal :=
  a (ix2 i e) * Ideal.exp2 (mm (ix2 i (half e)) - mx s mm i (half e)) + ∑ j : Fin 512, Ideal.exp2 (s i j - mx s mm i (lane j)) * col v j e

theorem half_apply {β : Type} (f : Fin 128 → β) (e : Fin 256) (p1 : e.val < 128 → e.val < 128) (p2 : ¬ e.val < 128 → e.val - 128 < 128) :
    (if h : e.val < 128 then f ⟨e.val, p1 h⟩ else f ⟨e.val - 128, p2 h⟩) = f (half e) := by
  have he := e.isLt
  by_cases h : e.val < 128
  · rw [dif_pos h]; exact congrArg f (Fin.ext (by show e.val = e.val % 128; omega))
  · rw [dif_neg h]; exact congrArg f (Fin.ext (by show e.val - 128 = e.val % 128; omega))

variable (q k : Vec Ideal S512x256 .bf16) (v : Vec Ideal S512x128 .bf16) (mm : Vec Ideal S512x128 .f32) (a : Vec Ideal S512x256 .f32)

theorem pay6_apply (i : Fin 512) (l : Fin 128) : k0_pay6 q k mm (ix2 i l) = mx (sB q k) mm i l := by
  unfold k0_pay6 k0_pay5
  pointwise
  rfl
theorem pay5_apply (i j : Fin 512) : k0_pay5 q k (ix2 i j) = sB q k i j := by
  unfold k0_pay5
  pointwise
  rfl
theorem pay8_apply (i : Fin 512) (l : Fin 128) : k0_pay8 q k mm (ix2 i l) = mx (sB q k) mm i l := by
  unfold k0_pay8
  pointwise
  exact pay6_apply ..

theorem acc_form (S : FVec Ideal S512x512 .f32) (M : FVec Ideal S512x128 .f32) (s : Fin 512 → Fin 512 → EReal)
    (hS : ∀ i j, S (ix2 i j) = s i j) (hM : ∀ i l, M (ix2 i l) = mx s mm i l) (i : Fin 512) (e : Fin 256)
    (p1 : e.val < 128 → e.val < 128) (p2 : ¬e.val < 128 → e.val - 128 < 128) (p3 : ∀ x : Fin 512, x.val < 128 → x.val < 128)
    (p4 : ∀ x : Fin 512, x.val - 128 < 128 → x.val - 128 < 128) (p5 : ∀ x : Fin 512, x.val - 128 - 128 < 128 → x.val - 128 - 128 < 128)
    (p6 : ∀ x : Fin 512, ¬x.val < 128 → ¬x.val - 128 < 128 → ¬x.val - 128 - 128 < 128 → x.val - 128 - 128 - 128 < 128) :
    ((a (ix2 i e) *
        if h : e.val < 128 then FloatOps.exp2 (F := Ideal) (φ := .f32) (mm (ix2 i ⟨e.val, p1 h⟩) - M (ix2 i ⟨e.val, p1 h⟩))
        else FloatOps.exp2 (F := Ideal) (φ := .f32) (mm (ix2 i ⟨e.val - 128, p2 h⟩) - M (ix2 i ⟨e.val - 128, p2 h⟩))) +
      ∑ x : Fin 512, FloatOps.exp2 (F := Ideal) (φ := .f32)
            (S (ix2 i x) - if h1 : x.val < 128 then M (ix2 i ⟨x.val, p3 x h1⟩)
              else if h2 : x.val - 128 < 128 then M (ix2 i ⟨x.val - 128, p4 x h2⟩)
                else if h3 : x.val - 128 - 128 < 128 then M (ix2 i ⟨x.val - 128 - 128, p5 x h3⟩) else M (ix2 i ⟨x.val - 128 - 128 - 128, p6 x h1 h2 h3⟩)) *
          if h : e.val < 128 then v (ix2 x ⟨e.val, p1 h⟩) else (1 : EReal) : EReal) = ac s mm v a i e := by
  refine congr (congrArg HAdd.hAdd (congrArg (a (ix2 i e) * ·) ?_)) (Finset.sum_congr rfl fun x _ => congrArg (· * _) ?_)
  · refine (half_apply (fun l => Ideal.exp2 (mm (ix2 i l) - M (ix2 i l))) e _ _).trans ?_
    rw [hM]
  · refine (congrArg (fun y => Ideal.exp2 (S (ix2 i x) - y)) (Flash.cat_apply M i x _ _ _ _)).trans ?_
    rw [hM, hS]

theorem pay7_apply (i : Fin 512) (e : Fin 256) : k0_pay7 k0_pay45 q k mm v a (ix2 i e) = ac (sB q k) mm v a i e := by
  have hS := pay5_apply q k
  have hM := pay6_apply q k mm
  unfold k0_pay7 k0_pay45
  generalize k0_pay6 q k mm = M, k0_pay5 q k = S at hS hM ⊢
  pointwise
  exact acc_form v mm a S M _ hS hM i e _ _ _ _ _ _

/-- The mask of the block on the diagonal. -/
theorem select_mask (i j : Fin 512) (x : EReal) :
    Scalar.select (IntOp.cmpi CmpIPredicate.sle (IntOp.shrsi ArithUnit.vector (IntOp.addi (0#32) (BitVec.ofNat 32 j.val)) 6#32)
      (IntOp.shrsi ArithUnit.vector (IntOp.addi (0#32) (BitVec.ofNat 32 i.val)) 6#32)) x (Named.named (F := Ideal) (φ := .f32) κ "mask" 0xF149F2CA#32)
      = if j.val / 64 ≤ i.val / 64 then x else ⊥ := by
  rw [Flash.shift, Flash.shift, Flash.chunk_le ⟨j.val / 64, by omega⟩ ⟨i.val / 64, by omega⟩]
  by_cases h : j.val / 64 ≤ i.val / 64
  · rw [if_pos h, if_pos h]; rfl
  · rw [if_neg h, if_neg h]; rfl

theorem pay53_apply (i j : Fin 512) : k0_pay53 (k0_pay50 q k) k0_pay51 k0_pay52 (ix2 i j) = sM q k i j := by
  unfold k0_pay53 k0_pay52 k0_pay51 k0_pay50
  pointwise
  exact select_mask ..
theorem pay54_apply (i : Fin 512) (l : Fin 128) : k0_pay54 (k0_pay50 q k) k0_pay51 k0_pay52 mm (ix2 i l) = mx (sM q k) mm i l := by
  unfold k0_pay54
  generalize hS : k0_pay53 (k0_pay50 q k) k0_pay51 k0_pay52 = S
  pointwise
  exact congrArg (max _) (congrArg (fun f => Finset.fold max _ f Finset.univ) (funext fun j => by rw [← hS]; exact pay53_apply q k i j))
theorem pay56_apply (i : Fin 512) (l : Fin 128) : k0_pay56 (k0_pay50 q k) k0_pay51 k0_pay52 mm (ix2 i l) = mx (sM q k) mm i l := by
  unfold k0_pay56
  pointwise
  exact pay54_apply ..
theorem pay55_apply (i : Fin 512) (e : Fin 256) :
    k0_pay55 k0_pay45 (k0_pay50 q k) k0_pay51 k0_pay52 mm v a (ix2 i e) = ac (sM q k) mm v a i e := by
  have hS := pay53_apply q k
  have hM := pay54_apply q k mm
  unfold k0_pay55 k0_pay45
  generalize k0_pay54 (k0_pay50 q k) k0_pay51 k0_pay52 mm = M, k0_pay53 (k0_pay50 q k) k0_pay51 k0_pay52 = S at hS hM ⊢
  pointwise
  exact acc_form v mm a S M _ hS hM i e _ _ _ _ _ _

/-! The other heads compute the same. -/

theorem pay13_eq : k0_pay13 (k0_pay9 q) k mm = k0_pay8 q k mm := rfl
theorem pay12_eq : k0_pay12 k0_pay45 (k0_pay9 q) k mm v a = k0_pay7 k0_pay45 q k mm v a := rfl
theorem pay62_eq (z) (hz : z = constant S512x512 .f32 0x00000000#32) : k0_pay62 (k0_pay57 q) (k0_pay58 k) z mm = k0_pay56 (k0_pay50 q k) k0_pay51 k0_pay52 mm := by
  subst hz; rfl
theorem pay61_eq (z) (hz : z = constant S512x512 .f32 0x00000000#32) :
    k0_pay61 k0_pay45 (k0_pay57 q) (k0_pay58 k) z mm v a = k0_pay55 k0_pay45 (k0_pay50 q k) k0_pay51 k0_pay52 mm v a := by
  subst hz; rfl
theorem pay66_eq : k0_pay66 (k0_pay64 q k mm) = k0_pay56 (k0_pay50 q k) k0_pay51 k0_pay52 mm := rfl
theorem pay65_eq : k0_pay65 k0_pay45 q k mm v a = k0_pay55 k0_pay45 (k0_pay50 q k) k0_pay51 k0_pay52 mm v a := rfl
theorem pay71_eq : k0_pay71 (k0_pay68 q k mm) = k0_pay56 (k0_pay50 q k) k0_pay51 k0_pay52 mm := rfl
theorem pay70_eq : k0_pay70 (k0_pay69 k0_pay45 q k mm v a) = k0_pay55 k0_pay45 (k0_pay50 q k) k0_pay51 k0_pay52 mm v a := rfl

/-! The start, and what is stored at the end. -/

theorem pay43_apply (i l : Fin 512) : k0_pay43 (F := Ideal) (ix2 i l) = ⊥ := by
  unfold k0_pay43; pointwise; rfl
theorem pay44_apply (i : Fin 512) (e : Fin 1024) : k0_pay44 (F := Ideal) (ix2 i e) = 0 := by
  unfold k0_pay44; pointwise

variable (z w : Vec Ideal S512x128 .f32)

theorem pay72_apply (i : Fin 512) (l : Fin 128) : k0_pay72 z w (ix2 i l) = Ideal.div (w (ix2 i l)) (z (ix2 i l)) := by
  unfold k0_pay72; pointwise
theorem pay73_apply (i : Fin 512) (l : Fin 128) : k0_pay73 z w (ix2 i l) = w (ix2 i l) + Ideal.log (z (ix2 i l)) * (((Real.log 2)⁻¹ : ℝ) : EReal) := by
  unfold k0_pay73; pointwise; rfl
theorem pay74_eq : k0_pay74 z w = k0_pay72 z w := rfl
theorem pay75_eq : k0_pay75 z w = k0_pay73 z w := rfl
theorem pay1_eq : k0_pay1 z w = k0_pay72 z w := rfl
theorem pay2_eq : k0_pay2 z w = k0_pay73 z w := rfl
theorem pay3_eq : k0_pay3 z w = k0_pay72 z w := rfl
theorem pay4_eq : k0_pay4 z w = k0_pay73 z w := rfl

end FlashFwd

end
-- ==== Proof.FwdTrip.lean ====
module

public import proofs.«01_k».proof.Proof.FwdPay
public import proofs.«01_k».proof.Proof.FlashTrip
public import proofs.«01_k».proof.Proof.Gen.FlashFwdIdeal.Loops
public import Idealize.ShloMosaic.Lib.WritesUnit
public import Idealize.ShloMosaic.Lib.VecWindow

/-! The attention's forward kernel over the extended reals: what one trip of its loop over the earlier blocks of keys
    leaves in the running maximum and in the accumulators. -/

@[expose] public section

set_option maxRecDepth 16384

noncomputable section

namespace FlashFwd

open Cert.FlashFwdIdeal Cert.FlashFwdIdeal.Gen
open Idealize.ShloMosaic Idealize.ShloMosaic.TcCoe Idealize.ShloMosaic.Tactic
open Flash (rowOf sB)

/-- Column `l` of head `h` in the narrow arrays, and column `e` in the wide ones. -/
def cM (h : Fin 4) (l : Fin 128) : Fin 512 := ⟨h.val * 128 + l.val, by omega⟩
def cA (h : Fin 4) (e : Fin 256) : Fin 1024 := ⟨h.val * 256 + e.val, by omega⟩

section Blocks
variable (Q : Vec Ideal S512x1024 .bf16) (K : Vec Ideal S4096x1024 .bf16) (V : Vec Ideal S4096x512 .bf16)

/-- The parts of the operands that one head and one block of keys take. -/
def qS (h : Fin 4) : Vec Ideal S512x256 .bf16 := fun y => Q (ix2 (y 0) (cA h (y 1)))
def kS (b : Fin 8) (h : Fin 4) : Vec Ideal S512x256 .bf16 := fun y => K (ix2 (rowOf b (y 0)) (cA h (y 1)))
def vS (b : Fin 8) (h : Fin 4) : Vec Ideal S512x128 .bf16 := fun y => V (ix2 (rowOf b (y 0)) (cM h (y 1)))

variable {sg : RefSig} {κ : Kind} {sp : Space}

theorem readAt_rowsA {e : EltTy} (w : View sg κ sp S4096x1024 e) (f : w.ty.Contents (Elt Ideal)) (b : Fin 8) (h : Fin 4) (off : Fin 2 → ℕ) (inb)
    (ho : off = ![b.val * 512, h.val * 256]) :
    w.readAt (Elt Ideal) (Rect.unit (s := S4096x1024) off ![512, 256] inb).toLoadRect f
      = fun y => w.read (Elt Ideal) f (ix2 (rowOf b (y 0)) (cA h (y 1))) := by
  subst ho
  funext y
  idx_vars y
  refine congrArg (w.read (Elt Ideal) f) ?_
  funext a
  refine Fin.ext ?_
  match a with
  | 0 => show b.val * 512 + 1 * y0.val = b.val * 512 + y0.val; omega
  | 1 => show h.val * 256 + 1 * y1.val = h.val * 256 + y1.val; omega
theorem readAt_rowsM {e : EltTy} (w : View sg κ sp S4096x512 e) (f : w.ty.Contents (Elt Ideal)) (b : Fin 8) (h : Fin 4) (off : Fin 2 → ℕ) (inb)
    (ho : off = ![b.val * 512, h.val * 128]) :
    w.readAt (Elt Ideal) (Rect.unit (s := S4096x512) off ![512, 128] inb).toLoadRect f
      = fun y => w.read (Elt Ideal) f (ix2 (rowOf b (y 0)) (cM h (y 1))) := by
  subst ho
  funext y
  idx_vars y
  refine congrArg (w.read (Elt Ideal) f) ?_
  funext a
  refine Fin.ext ?_
  match a with
  | 0 => show b.val * 512 + 1 * y0.val = b.val * 512 + y0.val; omega
  | 1 => show h.val * 128 + 1 * y1.val = h.val * 128 + y1.val; omega
/-- A load of `n` columns from column `c` on. -/
theorem readAt_cols {e : EltTy} {N n : ℕ} (w : View sg κ sp ⟨2, ![512, N]⟩ e) (f : w.ty.Contents (Elt Ideal)) (off : Fin 2 → ℕ) (inb) (c : ℕ)
    (ho : off = ![0, c]) (col : Fin n → Fin N) (hc : ∀ x, (col x).val = c + x.val) :
    w.readAt (Elt Ideal) (Rect.unit (s := ⟨2, ![512, N]⟩) off ![512, n] inb).toLoadRect f = fun y => w.read (Elt Ideal) f (ix2 (y 0) (col (y 1))) := by
  subst ho
  funext y
  refine congrArg (w.read (Elt Ideal) f) ?_
  funext a
  refine Fin.ext ?_
  match a with
  | 0 => show 0 + 1 * (y 0).val = (y 0).val; omega
  | 1 => show c + 1 * (y 1).val = (col (y 1)).val; have := hc (y 1); omega

/-- What is read in the columns that the last store covers, … -/
theorem st_same {e : EltTy} {N n : ℕ} (w : View sg κ sp ⟨2, ![512, N]⟩ e) (f : w.ty.Contents (Elt Ideal)) (L) (off : Fin 2 → ℕ) (inb) (c : ℕ)
    (ho : off = ![0, c]) (p : Vec Ideal ⟨2, ![512, n]⟩ e) (i : Fin 512) (x : Fin N) (d : Fin n) (hx : x.val = c + d.val) :
    w.read (Elt Ideal) (w.writes (Elt Ideal) f (⟨Rect.unit (s := ⟨2, ![512, N]⟩) off ![512, n] inb, p⟩ :: L)) (ix2 i x) = p (ix2 i d) :=
  View.read_writes_cons_unit_of_mem w f inb p L _ (ix2 i d) ho fun a => match a with
    | 0 => (Nat.zero_add _).symm
    | 1 => hx
/-- … and in the others. -/
theorem st_other {e : EltTy} {N n : ℕ} (w : View sg κ sp ⟨2, ![512, N]⟩ e) (f : w.ty.Contents (Elt Ideal)) (L) (off : Fin 2 → ℕ) (inb) (c : ℕ)
    (ho : off = ![0, c]) (p : Vec Ideal ⟨2, ![512, n]⟩ e) (i : Fin 512) (x : Fin N) (hx : x.val < c ∨ c + n ≤ x.val) :
    w.read (Elt Ideal) (w.writes (Elt Ideal) f (⟨Rect.unit (s := ⟨2, ![512, N]⟩) off ![512, n] inb, p⟩ :: L)) (ix2 i x)
      = w.read (Elt Ideal) (w.writes (Elt Ideal) f L) (ix2 i x) :=
  View.read_writes_cons_unit_of_not_mem w f inb p L _ ho 1 hx

end Blocks

theorem trips_eq : ∀ t : Fin cfg0.N, (k0_t1_loop (grid0.coords t)).trips = t.val % 8 :=
  (by decide +kernel : ∀ t : Fin grid0.N, (k0_t1_loop (grid0.coords t)).trips = t.val % 8)
theorem offs_trip : ∀ (t : Fin cfg0.N) (k : Fin (k0_t1_loop (grid0.coords t)).trips),
    k0_off1 (grid0.coords t) k = ![k.val * 512, 0] ∧ k0_off2 (grid0.coords t) k = ![k.val * 512, 0]
    ∧ k0_off3 (grid0.coords t) k = ![k.val * 512, 256] ∧ k0_off4 (grid0.coords t) k = ![k.val * 512, 128]
    ∧ k0_off5 (grid0.coords t) k = ![k.val * 512, 512] ∧ k0_off6 (grid0.coords t) k = ![k.val * 512, 256]
    ∧ k0_off7 (grid0.coords t) k = ![k.val * 512, 768] ∧ k0_off8 (grid0.coords t) k = ![k.val * 512, 384] :=
  (by decide +kernel : ∀ (t : Fin grid0.N) (k : Fin (k0_t1_loop (grid0.coords t)).trips),
    k0_off1 (grid0.coords t) k = ![k.val * 512, 0] ∧ k0_off2 (grid0.coords t) k = ![k.val * 512, 0]
    ∧ k0_off3 (grid0.coords t) k = ![k.val * 512, 256] ∧ k0_off4 (grid0.coords t) k = ![k.val * 512, 128]
    ∧ k0_off5 (grid0.coords t) k = ![k.val * 512, 512] ∧ k0_off6 (grid0.coords t) k = ![k.val * 512, 256]
    ∧ k0_off7 (grid0.coords t) k = ![k.val * 512, 768] ∧ k0_off8 (grid0.coords t) k = ![k.val * 512, 384])
theorem offs_diag : ∀ (t : Fin cfg0.N),
    k0_off17 (grid0.coords t) = ![t.val % 8 * 512, 0] ∧ k0_off18 (grid0.coords t) = ![t.val % 8 * 512, 0]
    ∧ k0_off19 (grid0.coords t) = ![t.val % 8 * 512, 256] ∧ k0_off20 (grid0.coords t) = ![t.val % 8 * 512, 128]
    ∧ k0_off21 (grid0.coords t) = ![t.val % 8 * 512, 512] ∧ k0_off22 (grid0.coords t) = ![t.val % 8 * 512, 256]
    ∧ k0_off23 (grid0.coords t) = ![t.val % 8 * 512, 768] ∧ k0_off24 (grid0.coords t) = ![t.val % 8 * 512, 384] :=
  (by decide +kernel : ∀ (t : Fin grid0.N),
    k0_off17 (grid0.coords t) = ![t.val % 8 * 512, 0] ∧ k0_off18 (grid0.coords t) = ![t.val % 8 * 512, 0]
    ∧ k0_off19 (grid0.coords t) = ![t.val % 8 * 512, 256] ∧ k0_off20 (grid0.coords t) = ![t.val % 8 * 512, 128]
    ∧ k0_off21 (grid0.coords t) = ![t.val % 8 * 512, 512] ∧ k0_off22 (grid0.coords t) = ![t.val % 8 * 512, 256]
    ∧ k0_off23 (grid0.coords t) = ![t.val % 8 * 512, 768] ∧ k0_off24 (grid0.coords t) = ![t.val % 8 * 512, 384])

/-- The block of keys that trip `k` takes. -/
def kb (t : Fin cfg0.N) (k : Fin (k0_t1_loop (grid0.coords t)).trips) : Fin 8 :=
  ⟨k.val, by have h1 := trips_eq t; have h2 := k.isLt; omega⟩
/-- The block of keys on the diagonal. -/
def kd (t : Fin cfg0.N) : Fin 8 := ⟨t.val % 8, Nat.mod_lt _ (by norm_num)⟩

section Trip
variable (𝒱 : Variants) (c : Dev nD) (bd : Option 𝒱.V) (t : Fin cfg0.N)
variable (arg2 : Memref sig .tc .vmem S512x1024 .bf16) (harg2 : arg2.IsWhole) (arg3 : Memref sig .tc .vmem S4096x1024 .bf16) (harg3 : arg3.IsWhole)
variable (arg4 : Memref sig .tc .vmem S4096x512 .bf16) (harg4 : arg4.IsWhole) (arg5 : Memref sig .tc .vmem S512x512 .f32) (harg5 : arg5.IsWhole)
variable (arg6 : Memref sig .tc .vmem S512x512 .f32) (harg6 : arg6.IsWhole) (arg7 : Memref sig .tc .vmem S512x512 .f32) (harg7 : arg7.IsWhole)
variable (arg8 : Memref sig .tc .vmem S512x1024 .f32) (harg8 : arg8.IsWhole)
variable (Q : Vec Ideal S512x1024 .bf16) (K : Vec Ideal S4096x1024 .bf16) (V : Vec Ideal S4096x512 .bf16)
variable (f7 : BufTy.Contents (Elt Ideal) arg7.view.ty) (f8 : BufTy.Contents (Elt Ideal) arg8.view.ty)

/-- One head's running maximum and accumulators. -/
def stM (h : Fin 4) : Vec Ideal S512x128 .f32 := fun y => arg7.view.read (Elt Ideal) f7 (ix2 (y 0) (cM h (y 1)))
def stA (h : Fin 4) : Vec Ideal S512x256 .f32 := fun y => arg8.view.read (Elt Ideal) f8 (ix2 (y 0) (cA h (y 1)))

theorem ldQ (h : Fin 4) {off : Fin 2 → ℕ} {inb} (ho : off = ![0, h.val * 256]) :
    arg2.view.readAt (Elt Ideal) (Rect.unit (s := S512x1024) off S512x256.size inb).toLoadRect (harg2.unread Q) = qS Q h :=
  (readAt_cols _ _ off inb _ ho (cA h) fun _ => rfl).trans (by rw [Memref.IsWhole.read_unread]; rfl)
theorem ldK (b : Fin 8) (h : Fin 4) {off : Fin 2 → ℕ} {inb} (ho : off = ![b.val * 512, h.val * 256]) :
    arg3.view.readAt (Elt Ideal) (Rect.unit (s := S4096x1024) off S512x256.size inb).toLoadRect (harg3.unread K) = kS K b h :=
  (readAt_rowsA _ _ b h off inb ho).trans (by rw [Memref.IsWhole.read_unread]; rfl)
theorem ldV (b : Fin 8) (h : Fin 4) {off : Fin 2 → ℕ} {inb} (ho : off = ![b.val * 512, h.val * 128]) :
    arg4.view.readAt (Elt Ideal) (Rect.unit (s := S4096x512) off S512x128.size inb).toLoadRect (harg4.unread V) = vS V b h :=
  (readAt_rowsM _ _ b h off inb ho).trans (by rw [Memref.IsWhole.read_unread]; rfl)
theorem ldM (h : Fin 4) {off : Fin 2 → ℕ} {inb} (ho : off = ![0, h.val * 128]) :
    arg7.view.readAt (Elt Ideal) (Rect.unit (s := S512x512) off S512x128.size inb).toLoadRect f7 = stM arg7 f7 h :=
  readAt_cols _ _ off inb _ ho (cM h) fun _ => rfl
theorem ldA (h : Fin 4) {off : Fin 2 → ℕ} {inb} (ho : off = ![0, h.val * 256]) :
    arg8.view.readAt (Elt Ideal) (Rect.unit (s := S512x1024) off S512x256.size inb).toLoadRect f8 = stA arg8 f8 h :=
  readAt_cols _ _ off inb _ ho (cA h) fun _ => rfl

theorem mx_of {s : Fin 512 → Fin 512 → EReal} {mm mm' : Vec Ideal S512x128 .f32} {i : Fin 512} {l : Fin 128} (h : mm = mm') : mx s mm i l = mx s mm' i l := h ▸ rfl
theorem ac_of {s : Fin 512 → Fin 512 → EReal} {mm mm' : Vec Ideal S512x128 .f32} {v : Vec Ideal S512x128 .bf16} {a a' : Vec Ideal S512x256 .f32} {i : Fin 512} {e : Fin 256}
    (h : mm = mm') (h' : a = a') : ac s mm v a i e = ac s mm' v a' i e := h ▸ h' ▸ rfl

/-- The pieces one trip writes. -/
abbrev tp (k : Fin (k0_t1_loop (grid0.coords t)).trips) :=
  tripL_k0_t1 (F := Ideal) 𝒱 c bd (grid0.coords t) arg2 harg2 arg3 harg3 arg4 harg4 arg5 harg5 arg6 harg6 arg7 harg7 arg8 harg8
    (harg2.unread Q) (harg3.unread K) (harg4.unread V) k f7 f8

theorem trip7 (k : Fin (k0_t1_loop (grid0.coords t)).trips) (h : Fin 4) (i : Fin 512) (l : Fin 128) :
    stM arg7 (arg7.view.writes (Elt Ideal) f7 (tp 𝒱 c bd t arg2 harg2 arg3 harg3 arg4 harg4 arg5 harg5 arg6 harg6 arg7 harg7 arg8 harg8 Q K V f7 f8 k).1) h (ix2 i l)
      = mx (sB (qS Q h) (kS K (kb t k) h)) (stM arg7 f7 h) i l := by
  unfold tp tripL_k0_t1
  unfold trip_k0_t1
  dsimp only
  match h with
  | 3 =>
    refine (st_same arg7.view _ _ _ _ 384 rfl _ i (cM 3 l) l rfl).trans ?_
    refine (pay8_apply _ _ _ i l).trans ?_
    rw [ldQ arg2 harg2 Q 3 (off := ![0, 768]) rfl, ldK arg3 harg3 K (kb t k) 3 (offs_trip t k).2.2.2.2.2.2.1]
    exact mx_of (ldM arg7 f7 3 (off := ![0, 384]) rfl)
  | 2 =>
    refine (st_other arg7.view _ _ _ _ 384 rfl _ i (cM 2 l) (Or.inl (by show 2 * 128 + l.val < 384; omega))).trans ?_
    refine (st_same arg7.view _ _ _ _ 256 rfl _ i (cM 2 l) l rfl).trans ?_
    refine (pay8_apply _ _ _ i l).trans ?_
    rw [ldQ arg2 harg2 Q 2 (off := ![0, 512]) rfl, ldK arg3 harg3 K (kb t k) 2 (offs_trip t k).2.2.2.2.1]
    exact mx_of (ldM arg7 f7 2 (off := ![0, 256]) rfl)
  | 1 =>
    refine (st_other arg7.view _ _ _ _ 384 rfl _ i (cM 1 l) (Or.inl (by show 1 * 128 + l.val < 384; omega))).trans ?_
    refine (st_other arg7.view _ _ _ _ 256 rfl _ i (cM 1 l) (Or.inl (by show 1 * 128 + l.val < 256; omega))).trans ?_
    refine (st_same arg7.view _ _ _ _ 128 rfl _ i (cM 1 l) l rfl).trans ?_
    refine (pay8_apply _ _ _ i l).trans ?_
    rw [ldQ arg2 harg2 Q 1 (off := ![0, 256]) rfl, ldK arg3 harg3 K (kb t k) 1 (offs_trip t k).2.2.1]
    exact mx_of (ldM arg7 f7 1 (off := ![0, 128]) rfl)
  | 0 =>
    refine (st_other arg7.view _ _ _ _ 384 rfl _ i (cM 0 l) (Or.inl (by show 0 * 128 + l.val < 384; omega))).trans ?_
    refine (st_other arg7.view _ _ _ _ 256 rfl _ i (cM 0 l) (Or.inl (by show 0 * 128 + l.val < 256; omega))).trans ?_
    refine (st_other arg7.view _ _ _ _ 128 rfl _ i (cM 0 l) (Or.inl (by show 0 * 128 + l.val < 128; omega))).trans ?_
    refine (st_same arg7.view _ _ _ _ 0 rfl _ i (cM 0 l) l rfl).trans ?_
    refine (pay8_apply _ _ _ i l).trans ?_
    rw [ldQ arg2 harg2 Q 0 (off := ![0, 0]) rfl, ldK arg3 harg3 K (kb t k) 0 (offs_trip t k).1]
    exact mx_of (ldM arg7 f7 0 (off := ![0, 0]) rfl)

theorem trip8 (k : Fin (k0_t1_loop (grid0.coords t)).trips) (h : Fin 4) (i : Fin 512) (e : Fin 256) :
    stA arg8 (arg8.view.writes (Elt Ideal) f8 (tp 𝒱 c bd t arg2 harg2 arg3 harg3 arg4 harg4 arg5 harg5 arg6 harg6 arg7 harg7 arg8 harg8 Q K V f7 f8 k).2) h (ix2 i e)
      = ac (sB (qS Q h) (kS K (kb t k) h)) (stM arg7 f7 h) (vS V (kb t k) h) (stA arg8 f8 h) i e := by
  unfold tp tripL_k0_t1
  unfold trip_k0_t1
  dsimp only
  match h with
  | 3 =>
    refine (st_same arg8.view _ _ _ _ 768 rfl _ i (cA 3 e) e rfl).trans ?_
    refine (pay7_apply _ _ _ _ _ i e).trans ?_
    rw [ldQ arg2 harg2 Q 3 (off := ![0, 768]) rfl, ldK arg3 harg3 K (kb t k) 3 (offs_trip t k).2.2.2.2.2.2.1,
      ldV arg4 harg4 V (kb t k) 3 (offs_trip t k).2.2.2.2.2.2.2]
    exact ac_of (ldM arg7 f7 3 (off := ![0, 384]) rfl) (ldA arg8 f8 3 (off := ![0, 768]) rfl)
  | 2 =>
    refine (st_other arg8.view _ _ _ _ 768 rfl _ i (cA 2 e) (Or.inl (by show 2 * 256 + e.val < 768; omega))).trans ?_
    refine (st_same arg8.view _ _ _ _ 512 rfl _ i (cA 2 e) e rfl).trans ?_
    refine (pay7_apply _ _ _ _ _ i e).trans ?_
    rw [ldQ arg2 harg2 Q 2 (off := ![0, 512]) rfl, ldK arg3 harg3 K (kb t k) 2 (offs_trip t k).2.2.2.2.1,
      ldV arg4 harg4 V (kb t k) 2 (offs_trip t k).2.2.2.2.2.1]
    exact ac_of (ldM arg7 f7 2 (off := ![0, 256]) rfl) (ldA arg8 f8 2 (off := ![0, 512]) rfl)
  | 1 =>
    refine (st_other arg8.view _ _ _ _ 768 rfl _ i (cA 1 e) (Or.inl (by show 1 * 256 + e.val < 768; omega))).trans ?_
    refine (st_other arg8.view _ _ _ _ 512 rfl _ i (cA 1 e) (Or.inl (by show 1 * 256 + e.val < 512; omega))).trans ?_
    refine (st_same arg8.view _ _ _ _ 256 rfl _ i (cA 1 e) e rfl).trans ?_
    refine (pay7_apply _ _ _ _ _ i e).trans ?_
    rw [ldQ arg2 harg2 Q 1 (off := ![0, 256]) rfl, ldK arg3 harg3 K (kb t k) 1 (offs_trip t k).2.2.1,
      ldV arg4 harg4 V (kb t k) 1 (offs_trip t k).2.2.2.1]
    exact ac_of (ldM arg7 f7 1 (off := ![0, 128]) rfl) (ldA arg8 f8 1 (off := ![0, 256]) rfl)
  | 0 =>
    refine (st_other arg8.view _ _ _ _ 768 rfl _ i (cA 0 e) (Or.inl (by show 0 * 256 + e.val < 768; omega))).trans ?_
    refine (st_other arg8.view _ _ _ _ 512 rfl _ i (cA 0 e) (Or.inl (by show 0 * 256 + e.val < 512; omega))).trans ?_
    refine (st_other arg8.view _ _ _ _ 256 rfl _ i (cA 0 e) (Or.inl (by show 0 * 256 + e.val < 256; omega))).trans ?_
    refine (st_same arg8.view _ _ _ _ 0 rfl _ i (cA 0 e) e rfl).trans ?_
    refine (pay7_apply _ _ _ _ _ i e).trans ?_
    rw [ldQ arg2 harg2 Q 0 (off := ![0, 0]) rfl, ldK arg3 harg3 K (kb t k) 0 (offs_trip t k).1,
      ldV arg4 harg4 V (kb t k) 0 (offs_trip t k).2.1]
    exact ac_of (ldM arg7 f7 0 (off := ![0, 0]) rfl) (ldA arg8 f8 0 (off := ![0, 0]) rfl)

/-- The pieces of the trips before `n`. -/
abbrev pb (n : ℕ) :=
  pb_k0_t1 (F := Ideal) 𝒱 c bd (grid0.coords t) arg2 harg2 arg3 harg3 arg4 harg4 arg5 harg5 arg6 harg6 arg7 harg7 arg8 harg8
    (harg2.unread Q) (harg3.unread K) (harg4.unread V) f7 f8 n

end Trip

end FlashFwd

end
-- ==== Proof.FwdPoint.lean ====
module

public import proofs.«01_k».proof.Proof.FwdTrip
public import proofs.«01_k».proof.Proof.Gen.FlashFwdIdeal.Frame
public import Idealize.ShloMosaic.Lib.LoopRemainder

/-! The attention's forward kernel over the extended reals: the block on the diagonal, after the trips of the loop, and
    what each grid point stores. -/

@[expose] public section

set_option maxRecDepth 16384

noncomputable section

namespace FlashFwd

open Cert.FlashFwdIdeal Cert.FlashFwdIdeal.Gen
open Idealize.ShloMosaic Idealize.ShloMosaic.TcCoe Idealize.ShloMosaic.Tactic
open Flash (rowOf sB sM)

/-- The second loop of the body makes no trip. -/
theorem no_trips (i : grid0.Coords) : Scf.trips (k0_t2_loop i).lb (k0_t2_loop i).ub (k0_t2_loop i).st = 0 := Scf.rem_trips _ _

section Diag
variable (c : Dev nD) (t : Fin cfg0.N)
variable (arg2 : Memref sig .tc .vmem S512x1024 .bf16) (harg2 : arg2.IsWhole) (arg3 : Memref sig .tc .vmem S4096x1024 .bf16) (harg3 : arg3.IsWhole)
variable (arg4 : Memref sig .tc .vmem S4096x512 .bf16) (harg4 : arg4.IsWhole) (arg5 : Memref sig .tc .vmem S512x512 .f32) (harg5 : arg5.IsWhole)
variable (arg6 : Memref sig .tc .vmem S512x512 .f32) (harg6 : arg6.IsWhole) (arg7 : Memref sig .tc .vmem S512x512 .f32) (harg7 : arg7.IsWhole)
variable (arg8 : Memref sig .tc .vmem S512x1024 .f32) (harg8 : arg8.IsWhole)
variable (Q : Vec Ideal S512x1024 .bf16) (K : Vec Ideal S4096x1024 .bf16) (V : Vec Ideal S4096x512 .bf16)

/-- The contents of the running maximum and of the accumulators at the start, and after the trips. -/
abbrev A7 := arg7.view.writes (Elt Ideal) arg7.view.junk (kernelRun0_A.sl.HS0_1 (F := Ideal))
abbrev A8 := arg8.view.writes (Elt Ideal) arg8.view.junk (kernelRun0_A.sl.HS1_1 (F := Ideal))
abbrev P := pb Variants.none c none t arg2 harg2 arg3 harg3 arg4 harg4 arg5 harg5 arg6 harg6 arg7 harg7 arg8 harg8 Q K V (A7 arg7) (A8 arg8) (k0_t1_loop (grid0.coords t)).trips
abbrev B7 := arg7.view.writes (Elt Ideal) (A7 arg7) (P c t arg2 harg2 arg3 harg3 arg4 harg4 arg5 harg5 arg6 harg6 arg7 harg7 arg8 harg8 Q K V).1
abbrev B8 := arg8.view.writes (Elt Ideal) (A8 arg8) (P c t arg2 harg2 arg3 harg3 arg4 harg4 arg5 harg5 arg6 harg6 arg7 harg7 arg8 harg8 Q K V).2

theorem v39_eq : kernelRun0_A.sl.v39 (F := Ideal) c (grid0.coords t) arg2 harg2 arg3 harg3 arg4 harg4 arg5 harg5 arg6 harg6 arg7 harg7 arg8 harg8 Q K V
    = stM arg7 (B7 c t arg2 harg2 arg3 harg3 arg4 harg4 arg5 harg5 arg6 harg6 arg7 harg7 arg8 harg8 Q K V) 0 := by
  unfold kernelRun0_A.sl.v39
  rw [no_trips, pb_k0_t2.eq_1, List.nil_append]
  unfold View.readCov
  rw [View.writes_append]
  exact ldM arg7 _ 0 (off := ![0, 0]) rfl
theorem v53_eq : kernelRun0_A.sl.v53 (F := Ideal) c (grid0.coords t) arg2 harg2 arg3 harg3 arg4 harg4 arg5 harg5 arg6 harg6 arg7 harg7 arg8 harg8 Q K V
    = stA arg8 (B8 c t arg2 harg2 arg3 harg3 arg4 harg4 arg5 harg5 arg6 harg6 arg7 harg7 arg8 harg8 Q K V) 0 := by
  unfold kernelRun0_A.sl.v53
  rw [no_trips, pb_k0_t2.eq_1, List.nil_append]
  unfold View.readCov
  rw [View.writes_append]
  exact ldA arg8 _ 0 (off := ![0, 0]) rfl
theorem rest7 (h : Fin 4) (hh : 1 ≤ h.val) (i : Fin 512) (l : Fin 128) :
    arg7.view.read (Elt Ideal) (arg7.view.writes (Elt Ideal) arg7.view.junk (kernelRun0_A.sl.HS0_1_1 (F := Ideal) c (grid0.coords t) arg2 harg2 arg3 harg3 arg4 harg4 arg5 harg5 arg6 harg6 arg7 harg7 arg8 harg8 Q K V)) (ix2 i (cM h l))
    = arg7.view.read (Elt Ideal) (B7 c t arg2 harg2 arg3 harg3 arg4 harg4 arg5 harg5 arg6 harg6 arg7 harg7 arg8 harg8 Q K V) (ix2 i (cM h l)) := by
  unfold kernelRun0_A.sl.HS0_1_1
  rw [no_trips, pb_k0_t2.eq_1, List.nil_append]
  refine (st_other arg7.view _ _ _ _ 0 rfl _ i _ (Or.inr (by show 0 + 128 ≤ h.val * 128 + l.val; omega))).trans ?_
  rw [View.writes_append]
theorem rest8 (h : Fin 4) (hh : 1 ≤ h.val) (i : Fin 512) (e : Fin 256) :
    arg8.view.read (Elt Ideal) (arg8.view.writes (Elt Ideal) arg8.view.junk (kernelRun0_A.sl.HS1_1_1 (F := Ideal) c (grid0.coords t) arg2 harg2 arg3 harg3 arg4 harg4 arg5 harg5 arg6 harg6 arg7 harg7 arg8 harg8 Q K V)) (ix2 i (cA h e))
    = arg8.view.read (Elt Ideal) (B8 c t arg2 harg2 arg3 harg3 arg4 harg4 arg5 harg5 arg6 harg6 arg7 harg7 arg8 harg8 Q K V) (ix2 i (cA h e)) := by
  unfold kernelRun0_A.sl.HS1_1_1
  rw [no_trips, pb_k0_t2.eq_1, List.nil_append]
  refine (st_other arg8.view _ _ _ _ 0 rfl _ i _ (Or.inr (by show 0 + 256 ≤ h.val * 256 + e.val; omega))).trans ?_
  rw [View.writes_append]
theorem v84_eq : kernelRun0_A.sl.v84 (F := Ideal) c (grid0.coords t) arg2 harg2 arg3 harg3 arg4 harg4 arg5 harg5 arg6 harg6 arg7 harg7 arg8 harg8 Q K V
    = stM arg7 (B7 c t arg2 harg2 arg3 harg3 arg4 harg4 arg5 harg5 arg6 harg6 arg7 harg7 arg8 harg8 Q K V) 1 :=
  (ldM arg7 _ 1 (off := ![0, 128]) rfl).trans (funext fun y => rest7 c t arg2 harg2 arg3 harg3 arg4 harg4 arg5 harg5 arg6 harg6 arg7 harg7 arg8 harg8 Q K V 1 (by decide) (y 0) (y 1))
theorem v98_eq : kernelRun0_A.sl.v98 (F := Ideal) c (grid0.coords t) arg2 harg2 arg3 harg3 arg4 harg4 arg5 harg5 arg6 harg6 arg7 harg7 arg8 harg8 Q K V
    = stA arg8 (B8 c t arg2 harg2 arg3 harg3 arg4 harg4 arg5 harg5 arg6 harg6 arg7 harg7 arg8 harg8 Q K V) 1 :=
  (ldA arg8 _ 1 (off := ![0, 256]) rfl).trans (funext fun y => rest8 c t arg2 harg2 arg3 harg3 arg4 harg4 arg5 harg5 arg6 harg6 arg7 harg7 arg8 harg8 Q K V 1 (by decide) (y 0) (y 1))
theorem v129_eq : kernelRun0_A.sl.v129 (F := Ideal) c (grid0.coords t) arg2 harg2 arg3 harg3 arg4 harg4 arg5 harg5 arg6 harg6 arg7 harg7 arg8 harg8 Q K V
    = stM arg7 (B7 c t arg2 harg2 arg3 harg3 arg4 harg4 arg5 harg5 arg6 harg6 arg7 harg7 arg8 harg8 Q K V) 2 :=
  (ldM arg7 _ 2 (off := ![0, 256]) rfl).trans (funext fun y =>
    (st_other arg7.view _ _ _ _ 128 rfl _ (y 0) (cM 2 (y 1)) (Or.inr (by show 128 + 128 ≤ 2 * 128 + (y 1).val; omega))).trans
      (rest7 c t arg2 harg2 arg3 harg3 arg4 harg4 arg5 harg5 arg6 harg6 arg7 harg7 arg8 harg8 Q K V 2 (by decide) (y 0) (y 1)))
theorem v143_eq : kernelRun0_A.sl.v143 (F := Ideal) c (grid0.coords t) arg2 harg2 arg3 harg3 arg4 harg4 arg5 harg5 arg6 harg6 arg7 harg7 arg8 harg8 Q K V
    = stA arg8 (B8 c t arg2 harg2 arg3 harg3 arg4 harg4 arg5 harg5 arg6 harg6 arg7 harg7 arg8 harg8 Q K V) 2 :=
  (ldA arg8 _ 2 (off := ![0, 512]) rfl).trans (funext fun y =>
    (st_other arg8.view _ _ _ _ 256 rfl _ (y 0) (cA 2 (y 1)) (Or.inr (by show 256 + 256 ≤ 2 * 256 + (y 1).val; omega))).trans
      (rest8 c t arg2 harg2 arg3 harg3 arg4 harg4 arg5 harg5 arg6 harg6 arg7 harg7 arg8 harg8 Q K V 2 (by decide) (y 0) (y 1)))
theorem v174_eq : kernelRun0_A.sl.v174 (F := Ideal) c (grid0.coords t) arg2 harg2 arg3 harg3 arg4 harg4 arg5 harg5 arg6 harg6 arg7 harg7 arg8 harg8 Q K V
    = stM arg7 (B7 c t arg2 harg2 arg3 harg3 arg4 harg4 arg5 harg5 arg6 harg6 arg7 harg7 arg8 harg8 Q K V) 3 :=
  (ldM arg7 _ 3 (off := ![0, 384]) rfl).trans (funext fun y =>
    ((st_other arg7.view _ _ _ _ 256 rfl _ (y 0) (cM 3 (y 1)) (Or.inr (by show 256 + 128 ≤ 3 * 128 + (y 1).val; omega))).trans
      (st_other arg7.view _ _ _ _ 128 rfl _ (y 0) (cM 3 (y 1)) (Or.inr (by show 128 + 128 ≤ 3 * 128 + (y 1).val; omega)))).trans
      (rest7 c t arg2 harg2 arg3 harg3 arg4 harg4 arg5 harg5 arg6 harg6 arg7 harg7 arg8 harg8 Q K V 3 (by decide) (y 0) (y 1)))
theorem v188_eq : kernelRun0_A.sl.v188 (F := Ideal) c (grid0.coords t) arg2 harg2 arg3 harg3 arg4 harg4 arg5 harg5 arg6 harg6 arg7 harg7 arg8 harg8 Q K V
    = stA arg8 (B8 c t arg2 harg2 arg3 harg3 arg4 harg4 arg5 harg5 arg6 harg6 arg7 harg7 arg8 harg8 Q K V) 3 :=
  (ldA arg8 _ 3 (off := ![0, 768]) rfl).trans (funext fun y =>
    ((st_other arg8.view _ _ _ _ 512 rfl _ (y 0) (cA 3 (y 1)) (Or.inr (by show 512 + 256 ≤ 3 * 256 + (y 1).val; omega))).trans
      (st_other arg8.view _ _ _ _ 256 rfl _ (y 0) (cA 3 (y 1)) (Or.inr (by show 256 + 256 ≤ 3 * 256 + (y 1).val; omega)))).trans
      (rest8 c t arg2 harg2 arg3 harg3 arg4 harg4 arg5 harg5 arg6 harg6 arg7 harg7 arg8 harg8 Q K V 3 (by decide) (y 0) (y 1)))

theorem end7 (h : Fin 4) (i : Fin 512) (l : Fin 128) :
    arg7.view.read (Elt Ideal) (arg7.view.writes (Elt Ideal) arg7.view.junk (kernelRun0_A.sl.HS0_4 (F := Ideal) c (grid0.coords t) arg2 harg2 arg3 harg3 arg4 harg4 arg5 harg5 arg6 harg6 arg7 harg7 arg8 harg8 Q K V)) (ix2 i (cM h l))
    = mx (sM (qS Q h) (kS K (kd t) h)) (stM arg7 (B7 c t arg2 harg2 arg3 harg3 arg4 harg4 arg5 harg5 arg6 harg6 arg7 harg7 arg8 harg8 Q K V) h) i l := by
  match h with
  | 3 =>
    refine (st_same arg7.view _ _ _ _ 384 rfl _ i (cM 3 l) l rfl).trans ?_
    refine (congrFun (pay71_eq _ _ _) (ix2 i l)).trans ((pay56_apply _ _ _ i l).trans ?_)
    rw [ldQ arg2 harg2 Q 3 (off := ![0, 768]) rfl, ldK arg3 harg3 K (kd t) 3 (offs_diag t).2.2.2.2.2.2.1, v174_eq]
  | 2 =>
    refine (st_other arg7.view _ _ _ _ 384 rfl _ i (cM 2 l) (Or.inl (by show 2 * 128 + l.val < 384; omega))).trans ?_
    refine (st_same arg7.view _ _ _ _ 256 rfl _ i (cM 2 l) l rfl).trans ?_
    refine (congrFun (pay66_eq _ _ _) (ix2 i l)).trans ((pay56_apply _ _ _ i l).trans ?_)
    rw [ldQ arg2 harg2 Q 2 (off := ![0, 512]) rfl, ldK arg3 harg3 K (kd t) 2 (offs_diag t).2.2.2.2.1, v129_eq]
  | 1 =>
    refine (st_other arg7.view _ _ _ _ 384 rfl _ i (cM 1 l) (Or.inl (by show 1 * 128 + l.val < 384; omega))).trans ?_
    refine (st_other arg7.view _ _ _ _ 256 rfl _ i (cM 1 l) (Or.inl (by show 1 * 128 + l.val < 256; omega))).trans ?_
    refine (st_same arg7.view _ _ _ _ 128 rfl _ i (cM 1 l) l rfl).trans ?_
    refine (congrFun (pay62_eq _ _ _ _ rfl) (ix2 i l)).trans ((pay56_apply _ _ _ i l).trans ?_)
    rw [ldQ arg2 harg2 Q 1 (off := ![0, 256]) rfl, ldK arg3 harg3 K (kd t) 1 (offs_diag t).2.2.1, v84_eq]
  | 0 =>
    refine (st_other arg7.view _ _ _ _ 384 rfl _ i (cM 0 l) (Or.inl (by show 0 * 128 + l.val < 384; omega))).trans ?_
    refine (st_other arg7.view _ _ _ _ 256 rfl _ i (cM 0 l) (Or.inl (by show 0 * 128 + l.val < 256; omega))).trans ?_
    refine (st_other arg7.view _ _ _ _ 128 rfl _ i (cM 0 l) (Or.inl (by show 0 * 128 + l.val < 128; omega))).trans ?_
    refine (st_same arg7.view _ _ _ _ 0 rfl _ i (cM 0 l) l rfl).trans ?_
    refine (pay56_apply _ _ _ i l).trans ?_
    rw [ldQ arg2 harg2 Q 0 (off := ![0, 0]) rfl, ldK arg3 harg3 K (kd t) 0 (offs_diag t).1, v39_eq]

theorem end8 (h : Fin 4) (i : Fin 512) (e : Fin 256) :
    arg8.view.read (Elt Ideal) (arg8.view.writes (Elt Ideal) arg8.view.junk (kernelRun0_A.sl.HS1_4 (F := Ideal) c (grid0.coords t) arg2 harg2 arg3 harg3 arg4 harg4 arg5 harg5 arg6 harg6 arg7 harg7 arg8 harg8 Q K V)) (ix2 i (cA h e))
    = ac (sM (qS Q h) (kS K (kd t) h)) (stM arg7 (B7 c t arg2 harg2 arg3 harg3 arg4 harg4 arg5 harg5 arg6 harg6 arg7 harg7 arg8 harg8 Q K V) h) (vS V (kd t) h)
        (stA arg8 (B8 c t arg2 harg2 arg3 harg3 arg4 harg4 arg5 harg5 arg6 harg6 arg7 harg7 arg8 harg8 Q K V) h) i e := by
  match h with
  | 3 =>
    refine (st_same arg8.view _ _ _ _ 768 rfl _ i (cA 3 e) e rfl).trans ?_
    refine (congrFun (pay70_eq _ _ _ _ _) (ix2 i e)).trans ((pay55_apply _ _ _ _ _ i e).trans ?_)
    rw [ldQ arg2 harg2 Q 3 (off := ![0, 768]) rfl, ldK arg3 harg3 K (kd t) 3 (offs_diag t).2.2.2.2.2.2.1, v174_eq, v188_eq, ldV arg4 harg4 V (kd t) 3 (offs_diag t).2.2.2.2.2.2.2]
  | 2 =>
    refine (st_other arg8.view _ _ _ _ 768 rfl _ i (cA 2 e) (Or.inl (by show 2 * 256 + e.val < 768; omega))).trans ?_
    refine (st_same arg8.view _ _ _ _ 512 rfl _ i (cA 2 e) e rfl).trans ?_
    refine (congrFun (pay65_eq _ _ _ _ _) (ix2 i e)).trans ((pay55_apply _ _ _ _ _ i e).trans ?_)
    rw [ldQ arg2 harg2 Q 2 (off := ![0, 512]) rfl, ldK arg3 harg3 K (kd t) 2 (offs_diag t).2.2.2.2.1, v129_eq, v143_eq, ldV arg4 harg4 V (kd t) 2 (offs_diag t).2.2.2.2.2.1]
  | 1 =>
    refine (st_other arg8.view _ _ _ _ 768 rfl _ i (cA 1 e) (Or.inl (by show 1 * 256 + e.val < 768; omega))).trans ?_
    refine (st_other arg8.view _ _ _ _ 512 rfl _ i (cA 1 e) (Or.inl (by show 1 * 256 + e.val < 512; omega))).trans ?_
    refine (st_same arg8.view _ _ _ _ 256 rfl _ i (cA 1 e) e rfl).trans ?_
    refine (congrFun (pay61_eq _ _ _ _ _ _ rfl) (ix2 i e)).trans ((pay55_apply _ _ _ _ _ i e).trans ?_)
    rw [ldQ arg2 harg2 Q 1 (off := ![0, 256]) rfl, ldK arg3 harg3 K (kd t) 1 (offs_diag t).2.2.1, v84_eq, v98_eq, ldV arg4 harg4 V (kd t) 1 (offs_diag t).2.2.2.1]
  | 0 =>
    refine (st_other arg8.view _ _ _ _ 768 rfl _ i (cA 0 e) (Or.inl (by show 0 * 256 + e.val < 768; omega))).trans ?_
    refine (st_other arg8.view _ _ _ _ 512 rfl _ i (cA 0 e) (Or.inl (by show 0 * 256 + e.val < 512; omega))).trans ?_
    refine (st_other arg8.view _ _ _ _ 256 rfl _ i (cA 0 e) (Or.inl (by show 0 * 256 + e.val < 256; omega))).trans ?_
    refine (st_same arg8.view _ _ _ _ 0 rfl _ i (cA 0 e) e rfl).trans ?_
    refine (pay55_apply _ _ _ _ _ i e).trans ?_
    rw [ldQ arg2 harg2 Q 0 (off := ![0, 0]) rfl, ldK arg3 harg3 K (kd t) 0 (offs_diag t).1, v39_eq, v53_eq, ldV arg4 harg4 V (kd t) 0 (offs_diag t).2.1]

/-- The place of a value's column, and of the weights' sum for it, in the accumulators. -/
def lo (l : Fin 128) : Fin 256 := ⟨l.val, by omega⟩
def hi (l : Fin 128) : Fin 256 := ⟨128 + l.val, by omega⟩

abbrev mEnd (h : Fin 4) (i : Fin 512) (l : Fin 128) : EReal :=
  mx (sM (qS Q h) (kS K (kd t) h)) (stM arg7 (B7 c t arg2 harg2 arg3 harg3 arg4 harg4 arg5 harg5 arg6 harg6 arg7 harg7 arg8 harg8 Q K V) h) i l
abbrev aEnd (h : Fin 4) (i : Fin 512) (e : Fin 256) : EReal :=
  ac (sM (qS Q h) (kS K (kd t) h)) (stM arg7 (B7 c t arg2 harg2 arg3 harg3 arg4 harg4 arg5 harg5 arg6 harg6 arg7 harg7 arg8 harg8 Q K V) h) (vS V (kd t) h)
        (stA arg8 (B8 c t arg2 harg2 arg3 harg3 arg4 harg4 arg5 harg5 arg6 harg6 arg7 harg7 arg8 harg8 Q K V) h) i e

theorem ldLo (h : Fin 4) {off : Fin 2 → ℕ} {inb} (ho : off = ![0, h.val * 256]) (i : Fin 512) (l : Fin 128) :
    arg8.view.readAt (Elt Ideal) (Rect.unit (s := S512x1024) off ![512, 128] inb).toLoadRect (arg8.view.writes (Elt Ideal) arg8.view.junk (kernelRun0_A.sl.HS1_4 (F := Ideal) c (grid0.coords t) arg2 harg2 arg3 harg3 arg4 harg4 arg5 harg5 arg6 harg6 arg7 harg7 arg8 harg8 Q K V)) (ix2 i l)
      = aEnd c t arg2 harg2 arg3 harg3 arg4 harg4 arg5 harg5 arg6 harg6 arg7 harg7 arg8 harg8 Q K V h i (lo l) :=
  (congrFun (readAt_cols _ _ off inb _ ho (fun l => cA h (lo l)) fun _ => rfl) (ix2 i l)).trans (end8 c t arg2 harg2 arg3 harg3 arg4 harg4 arg5 harg5 arg6 harg6 arg7 harg7 arg8 harg8 Q K V h i (lo l))
theorem ldHi (h : Fin 4) {off : Fin 2 → ℕ} {inb} (ho : off = ![0, h.val * 256 + 128]) (i : Fin 512) (l : Fin 128) :
    arg8.view.readAt (Elt Ideal) (Rect.unit (s := S512x1024) off ![512, 128] inb).toLoadRect (arg8.view.writes (Elt Ideal) arg8.view.junk (kernelRun0_A.sl.HS1_4 (F := Ideal) c (grid0.coords t) arg2 harg2 arg3 harg3 arg4 harg4 arg5 harg5 arg6 harg6 arg7 harg7 arg8 harg8 Q K V)) (ix2 i l)
      = aEnd c t arg2 harg2 arg3 harg3 arg4 harg4 arg5 harg5 arg6 harg6 arg7 harg7 arg8 harg8 Q K V h i (hi l) :=
  (congrFun (readAt_cols _ _ off inb _ ho (fun l => cA h (hi l)) fun l => (Nat.add_assoc _ _ _).symm) (ix2 i l)).trans (end8 c t arg2 harg2 arg3 harg3 arg4 harg4 arg5 harg5 arg6 harg6 arg7 harg7 arg8 harg8 Q K V h i (hi l))
theorem ldEnd (h : Fin 4) {off : Fin 2 → ℕ} {inb} (ho : off = ![0, h.val * 128]) (i : Fin 512) (l : Fin 128) :
    arg7.view.readAt (Elt Ideal) (Rect.unit (s := S512x512) off ![512, 128] inb).toLoadRect (arg7.view.writes (Elt Ideal) arg7.view.junk (kernelRun0_A.sl.HS0_4 (F := Ideal) c (grid0.coords t) arg2 harg2 arg3 harg3 arg4 harg4 arg5 harg5 arg6 harg6 arg7 harg7 arg8 harg8 Q K V)) (ix2 i l)
      = mEnd c t arg2 harg2 arg3 harg3 arg4 harg4 arg5 harg5 arg6 harg6 arg7 harg7 arg8 harg8 Q K V h i l :=
  (congrFun (readAt_cols _ _ off inb _ ho (cM h) fun _ => rfl) (ix2 i l)).trans (end7 c t arg2 harg2 arg3 harg3 arg4 harg4 arg5 harg5 arg6 harg6 arg7 harg7 arg8 harg8 Q K V h i l)

/-- What a point stores: the weighted values over the weights' sum, … -/
theorem out3 (h : Fin 4) (i : Fin 512) (l : Fin 128) :
    out0_A_3 (F := Ideal) c (grid0.coords t) arg2 harg2 arg3 harg3 arg4 harg4 arg5 harg5 arg6 harg6 arg7 harg7 arg8 harg8 Q K V (ix2 i (cM h l))
      = Ideal.div (aEnd c t arg2 harg2 arg3 harg3 arg4 harg4 arg5 harg5 arg6 harg6 arg7 harg7 arg8 harg8 Q K V h i (lo l))
          (aEnd c t arg2 harg2 arg3 harg3 arg4 harg4 arg5 harg5 arg6 harg6 arg7 harg7 arg8 harg8 Q K V h i (hi l)) := by
  have hd : ∀ {a a' b b' : EReal}, a = a' → b = b' → Ideal.div a b = Ideal.div a' b' := fun h h' => h ▸ h' ▸ rfl
  unfold out0_A_3 kernelRun0_A; dsimp only
  match h with
  | 3 =>
    refine (st_same _ _ _ _ _ 384 rfl _ i (cM 3 l) l rfl).trans ?_
    refine (congrFun (pay3_eq _ _) _).trans ((pay72_apply _ _ i l).trans (hd ?_ ?_))
    · exact ldLo c t arg2 harg2 arg3 harg3 arg4 harg4 arg5 harg5 arg6 harg6 arg7 harg7 arg8 harg8 Q K V 3 (off := ![0, 768]) rfl i l
    · exact ldHi c t arg2 harg2 arg3 harg3 arg4 harg4 arg5 harg5 arg6 harg6 arg7 harg7 arg8 harg8 Q K V 3 (off := ![0, 896]) rfl i l
  | 2 =>
    refine (st_other _ _ _ _ _ 384 rfl _ i (cM 2 l) (Or.inl (by show 2 * 128 + l.val < 384; omega))).trans ?_
    refine (st_same _ _ _ _ _ 256 rfl _ i (cM 2 l) l rfl).trans ?_
    refine (congrFun (pay1_eq _ _) _).trans ((pay72_apply _ _ i l).trans (hd ?_ ?_))
    · exact ldLo c t arg2 harg2 arg3 harg3 arg4 harg4 arg5 harg5 arg6 harg6 arg7 harg7 arg8 harg8 Q K V 2 (off := ![0, 512]) rfl i l
    · exact ldHi c t arg2 harg2 arg3 harg3 arg4 harg4 arg5 harg5 arg6 harg6 arg7 harg7 arg8 harg8 Q K V 2 (off := ![0, 640]) rfl i l
  | 1 =>
    refine (st_other _ _ _ _ _ 384 rfl _ i (cM 1 l) (Or.inl (by show 1 * 128 + l.val < 384; omega))).trans ?_
    refine (st_other _ _ _ _ _ 256 rfl _ i (cM 1 l) (Or.inl (by show 1 * 128 + l.val < 256; omega))).trans ?_
    refine (st_same _ _ _ _ _ 128 rfl _ i (cM 1 l) l rfl).trans ?_
    refine (congrFun (pay74_eq _ _) _).trans ((pay72_apply _ _ i l).trans (hd ?_ ?_))
    · exact ldLo c t arg2 harg2 arg3 harg3 arg4 harg4 arg5 harg5 arg6 harg6 arg7 harg7 arg8 harg8 Q K V 1 (off := ![0, 256]) rfl i l
    · exact ldHi c t arg2 harg2 arg3 harg3 arg4 harg4 arg5 harg5 arg6 harg6 arg7 harg7 arg8 harg8 Q K V 1 (off := ![0, 384]) rfl i l
  | 0 =>
    refine (st_other _ _ _ _ _ 384 rfl _ i (cM 0 l) (Or.inl (by show 0 * 128 + l.val < 384; omega))).trans ?_
    refine (st_other _ _ _ _ _ 256 rfl _ i (cM 0 l) (Or.inl (by show 0 * 128 + l.val < 256; omega))).trans ?_
    refine (st_other _ _ _ _ _ 128 rfl _ i (cM 0 l) (Or.inl (by show 0 * 128 + l.val < 128; omega))).trans ?_
    refine (st_same _ _ _ _ _ 0 rfl _ i (cM 0 l) l rfl).trans ?_
    refine (pay72_apply _ _ i l).trans (hd ?_ ?_)
    · exact ldLo c t arg2 harg2 arg3 harg3 arg4 harg4 arg5 harg5 arg6 harg6 arg7 harg7 arg8 harg8 Q K V 0 (off := ![0, 0]) rfl i l
    · exact ldHi c t arg2 harg2 arg3 harg3 arg4 harg4 arg5 harg5 arg6 harg6 arg7 harg7 arg8 harg8 Q K V 0 (off := ![0, 128]) rfl i l

/-- … and the logarithm of the sum in powers of two. -/
theorem out4 (h : Fin 4) (i : Fin 512) (l : Fin 128) :
    out0_A_4 (F := Ideal) c (grid0.coords t) arg2 harg2 arg3 harg3 arg4 harg4 arg5 harg5 arg6 harg6 arg7 harg7 arg8 harg8 Q K V (ix2 i (cM h l))
      = mEnd c t arg2 harg2 arg3 harg3 arg4 harg4 arg5 harg5 arg6 harg6 arg7 harg7 arg8 harg8 Q K V h i l
        + Ideal.log (aEnd c t arg2 harg2 arg3 harg3 arg4 harg4 arg5 harg5 arg6 harg6 arg7 harg7 arg8 harg8 Q K V h i (hi l)) * (((Real.log 2)⁻¹ : ℝ) : EReal) := by
  have hd : ∀ {a a' b b' : EReal}, a = a' → b = b' → a + Ideal.log b * (((Real.log 2)⁻¹ : ℝ) : EReal) = a' + Ideal.log b' * (((Real.log 2)⁻¹ : ℝ) : EReal) := fun h h' => h ▸ h' ▸ rfl
  unfold out0_A_4 kernelRun0_A; dsimp only
  match h with
  | 3 =>
    refine (st_same _ _ _ _ _ 384 rfl _ i (cM 3 l) l rfl).trans ?_
    refine (congrFun (pay4_eq _ _) _).trans ((pay73_apply _ _ i l).trans (hd ?_ ?_))
    · exact ldEnd c t arg2 harg2 arg3 harg3 arg4 harg4 arg5 harg5 arg6 harg6 arg7 harg7 arg8 harg8 Q K V 3 (off := ![0, 384]) rfl i l
    · exact ldHi c t arg2 harg2 arg3 harg3 arg4 harg4 arg5 harg5 arg6 harg6 arg7 harg7 arg8 harg8 Q K V 3 (off := ![0, 896]) rfl i l
  | 2 =>
    refine (st_other _ _ _ _ _ 384 rfl _ i (cM 2 l) (Or.inl (by show 2 * 128 + l.val < 384; omega))).trans ?_
    refine (st_same _ _ _ _ _ 256 rfl _ i (cM 2 l) l rfl).trans ?_
    refine (congrFun (pay2_eq _ _) _).trans ((pay73_apply _ _ i l).trans (hd ?_ ?_))
    · exact ldEnd c t arg2 harg2 arg3 harg3 arg4 harg4 arg5 harg5 arg6 harg6 arg7 harg7 arg8 harg8 Q K V 2 (off := ![0, 256]) rfl i l
    · exact ldHi c t arg2 harg2 arg3 harg3 arg4 harg4 arg5 harg5 arg6 harg6 arg7 harg7 arg8 harg8 Q K V 2 (off := ![0, 640]) rfl i l
  | 1 =>
    refine (st_other _ _ _ _ _ 384 rfl _ i (cM 1 l) (Or.inl (by show 1 * 128 + l.val < 384; omega))).trans ?_
    refine (st_other _ _ _ _ _ 256 rfl _ i (cM 1 l) (Or.inl (by show 1 * 128 + l.val < 256; omega))).trans ?_
    refine (st_same _ _ _ _ _ 128 rfl _ i (cM 1 l) l rfl).trans ?_
    refine (congrFun (pay75_eq _ _) _).trans ((pay73_apply _ _ i l).trans (hd ?_ ?_))
    · exact ldEnd c t arg2 harg2 arg3 harg3 arg4 harg4 arg5 harg5 arg6 harg6 arg7 harg7 arg8 harg8 Q K V 1 (off := ![0, 128]) rfl i l
    · exact ldHi c t arg2 harg2 arg3 harg3 arg4 harg4 arg5 harg5 arg6 harg6 arg7 harg7 arg8 harg8 Q K V 1 (off := ![0, 384]) rfl i l
  | 0 =>
    refine (st_other _ _ _ _ _ 384 rfl _ i (cM 0 l) (Or.inl (by show 0 * 128 + l.val < 384; omega))).trans ?_
    refine (st_other _ _ _ _ _ 256 rfl _ i (cM 0 l) (Or.inl (by show 0 * 128 + l.val < 256; omega))).trans ?_
    refine (st_other _ _ _ _ _ 128 rfl _ i (cM 0 l) (Or.inl (by show 0 * 128 + l.val < 128; omega))).trans ?_
    refine (st_same _ _ _ _ _ 0 rfl _ i (cM 0 l) l rfl).trans ?_
    refine (pay73_apply _ _ i l).trans (hd ?_ ?_)
    · exact ldEnd c t arg2 harg2 arg3 harg3 arg4 harg4 arg5 harg5 arg6 harg6 arg7 harg7 arg8 harg8 Q K V 0 (off := ![0, 0]) rfl i l
    · exact ldHi c t arg2 harg2 arg3 harg3 arg4 harg4 arg5 harg5 arg6 harg6 arg7 harg7 arg8 harg8 Q K V 0 (off := ![0, 128]) rfl i l

end Diag

end FlashFwd

end
-- ==== Proof.FwdSoft.lean ====
module

public import proofs.«01_k».proof.Proof.FwdPay
public import proofs.«01_k».proof.Proof.FlashAlg

/-! A softmax taken block by block, in powers of two: the running maximum need only be some real number, which divides
    out at the end. -/

@[expose] public section

noncomputable section

namespace FlashFwd

open Idealize.ShloMosaic Idealize.ShloMosaic.TcCoe
open Cert
open Flash (lane)

variable (a : ℕ → ℝ) (w : ℕ → Fin 256 → ℝ) (vis : ℕ → Prop) [DecidablePred vis]

/-- The first `n` keys' part of the weighted sum in column `e`, the weights taken against `M`. -/
def part (n : ℕ) (M : ℝ) (e : Fin 256) : ℝ := ∑ s ∈ Finset.range n, if vis s then (2 : ℝ) ^ (a s - M) * w s e else 0

/-- The state of one row of one head after the first `n` keys. -/
def Soft (n : ℕ) (m : Fin 128 → EReal) (A : Fin 256 → EReal) : Prop :=
  (n = 0 ∧ (∀ l, m l = ⊥) ∧ ∀ e, A e = 0) ∨ ∃ M : ℝ, (∀ l, m l = (M : EReal)) ∧ ∀ e, A e = (part a w vis n M e : EReal)

/-- The largest score of a block of which one key is seen is a real number. -/
theorem fold_real (n : ℕ) (s : Fin 512 → EReal) (hs : ∀ j : Fin 512, s j = if vis (n + j.val) then (a (n + j.val) : EReal) else ⊥) (j0 : Fin 512)
    (hv : vis (n + j0.val)) : ∃ R : ℝ, Finset.fold max (Ideal.ofBits .f32 0xFF800000#32) s Finset.univ = (R : EReal) := by
  have hb : Finset.fold max (Ideal.ofBits .f32 0xFF800000#32) s Finset.univ ≠ ⊥ := fun h => by
    have h1 : s j0 ≤ ⊥ := h ▸ (Finset.le_fold_max _).mpr (Or.inr ⟨j0, Finset.mem_univ _, le_rfl⟩)
    rw [hs, if_pos hv] at h1
    exact EReal.coe_ne_bot _ (le_bot_iff.mp h1)
  have ht : Finset.fold max (Ideal.ofBits .f32 0xFF800000#32) s Finset.univ < ⊤ := by
    rw [Finset.fold_max_lt, Flash.bot_word]
    refine ⟨bot_lt_top, fun j _ => ?_⟩
    rw [hs]
    split
    · exact EReal.coe_lt_top _
    · exact bot_lt_top
  exact ⟨_, (EReal.coe_toReal ht.ne hb).symm⟩

theorem part_succ (n : ℕ) (M M' : ℝ) (e : Fin 256) :
    part a w vis n M e * (2 : ℝ) ^ (M - M') + ∑ j : Fin 512, (if vis (n + j.val) then (2 : ℝ) ^ (a (n + j.val) - M') * w (n + j.val) e else 0)
      = part a w vis (n + 512) M' e := by
  unfold part
  rw [Finset.sum_range_add, Finset.sum_range (n := 512), Finset.sum_mul]
  congr 1
  refine Finset.sum_congr rfl fun s _ => ?_
  split
  · rw [mul_right_comm, ← Real.rpow_add (by norm_num)]
    congr 2
    ring
  · rw [zero_mul]

/-- One more block. -/
theorem Soft.step (n : ℕ) (m : Fin 128 → EReal) (A : Fin 256 → EReal) (h : Soft a w vis n m A) (s : Fin 512 → EReal) (v : Fin 512 → Fin 256 → EReal)
    (hs : ∀ j : Fin 512, s j = if vis (n + j.val) then (a (n + j.val) : EReal) else ⊥) (j0 : Fin 512) (hv : vis (n + j0.val))
    (hw : ∀ j e, v j e = (w (n + j.val) e : EReal)) :
    Soft a w vis (n + 512) (fun l => max (m l) (Finset.fold max (Ideal.ofBits .f32 0xFF800000#32) s Finset.univ))
      (fun e => A e * Ideal.exp2 (m (half e) - max (m (half e)) (Finset.fold max (Ideal.ofBits .f32 0xFF800000#32) s Finset.univ))
        + ∑ j : Fin 512, Ideal.exp2 (s j - max (m (lane j)) (Finset.fold max (Ideal.ofBits .f32 0xFF800000#32) s Finset.univ)) * v j e) := by
  obtain ⟨R, hR⟩ := fold_real a vis n s hs j0 hv
  have hsum : ∀ (M : ℝ) (e : Fin 256), ∑ j : Fin 512, Ideal.exp2 (s j - (M : EReal)) * v j e
      = ((∑ j : Fin 512, (if vis (n + j.val) then (2 : ℝ) ^ (a (n + j.val) - M) * w (n + j.val) e else 0) : ℝ) : EReal) := fun M e => by
    rw [Alg.coe_sum]
    refine Finset.sum_congr rfl fun j _ => ?_
    rw [hs, hw]
    split
    · rw [← EReal.coe_sub, Ideal.exp2_coe, ← EReal.coe_mul]
      rfl
    · rw [EReal.bot_sub]
      exact zero_mul (M₀ := EReal) _
  rw [hR]
  right
  rcases h with ⟨h0, hm, hA⟩ | ⟨M, hm, hA⟩
  · refine ⟨R, fun l => by beta_reduce; rw [hm, max_eq_right bot_le], fun e => ?_⟩
    have e0 : part a w vis n 0 e = 0 := by subst h0; exact Finset.sum_range_zero _
    simp only [hm, hA, max_eq_right (bot_le (a := (R : EReal)))]
    rw [zero_mul, zero_add, hsum, ← part_succ a w vis n 0, e0, zero_mul, zero_add]
  · have hmax : max (M : EReal) (R : EReal) = ((max M R : ℝ) : EReal) := (EReal.coe_strictMono.monotone.map_max).symm
    refine ⟨max M R, fun l => by beta_reduce; rw [hm, hmax], fun e => ?_⟩
    simp only [hm, hA, hmax]
    rw [hsum, ← EReal.coe_sub, Ideal.exp2_coe, ← EReal.coe_mul, ← EReal.coe_add]
    exact congrArg _ (part_succ a w vis n M (max M R) e)

end FlashFwd

end
-- ==== Proof.FwdArr.lean ====
module

public import proofs.«01_k».proof.Proof.FwdPoint
public import proofs.«01_k».proof.Proof.FwdSoft
public import Idealize.ShloMosaic.Lib.Pipeline.ValueKit

/-! The attention's forward kernel over the extended reals: the running softmax over a row's keys, and what the two
    results hold of it. -/

@[expose] public section

set_option maxRecDepth 16384

noncomputable section

namespace FlashFwd

open Cert.FlashFwdIdeal Cert.FlashFwdIdeal.Gen
open Idealize.ShloMosaic Idealize.ShloMosaic.TcCoe Idealize.ShloMosaic.Tactic
open Cert
open Flash (rowOf sB sM aS eS zS cQ cV)

section Row
variable (c : Dev nD) (t : Fin cfg0.N)
variable (arg2 : Memref sig .tc .vmem S512x1024 .bf16) (harg2 : arg2.IsWhole) (arg3 : Memref sig .tc .vmem S4096x1024 .bf16) (harg3 : arg3.IsWhole)
variable (arg4 : Memref sig .tc .vmem S4096x512 .bf16) (harg4 : arg4.IsWhole) (arg5 : Memref sig .tc .vmem S512x512 .f32) (harg5 : arg5.IsWhole)
variable (arg6 : Memref sig .tc .vmem S512x512 .f32) (harg6 : arg6.IsWhole) (arg7 : Memref sig .tc .vmem S512x512 .f32) (harg7 : arg7.IsWhole)
variable (arg8 : Memref sig .tc .vmem S512x1024 .f32) (harg8 : arg8.IsWhole)
variable (Q : Vec Ideal S512x1024 .bf16) (K : Vec Ideal S4096x1024 .bf16) (V : Vec Ideal S4096x512 .bf16)
variable (h : Fin 4) (i : Fin 512) (a : ℕ → ℝ) (w : ℕ → Fin 256 → ℝ)
variable (hB : ∀ (b : Fin 8) (j : Fin 512), sB (qS Q h) (kS K b h) i j = (a (b.val * 512 + j.val) : EReal))
  (hW : ∀ (b : Fin 8) (j : Fin 512) (e : Fin 256), col (vS V b h) j e = (w (b.val * 512 + j.val) e : EReal))

/-- A key is seen by the row. -/
abbrev vis (s : ℕ) : Prop := s / 64 ≤ (t.val % 8 * 512 + i.val) / 64

include hB hW in
theorem trips_soft : ∀ n, n ≤ (k0_t1_loop (grid0.coords t)).trips →
    Soft a w (vis t i) (n * 512)
      (fun l => stM arg7 (arg7.view.writes (Elt Ideal) (A7 arg7) (pb Variants.none c none t arg2 harg2 arg3 harg3 arg4 harg4 arg5 harg5 arg6 harg6 arg7 harg7 arg8 harg8 Q K V (A7 arg7) (A8 arg8) n).1) h (ix2 i l))
      (fun e => stA arg8 (arg8.view.writes (Elt Ideal) (A8 arg8) (pb Variants.none c none t arg2 harg2 arg3 harg3 arg4 harg4 arg5 harg5 arg6 harg6 arg7 harg7 arg8 harg8 Q K V (A7 arg7) (A8 arg8) n).2) h (ix2 i e))
  | 0, _ => by
    refine Or.inl ⟨Nat.zero_mul _, fun l => ?_, fun e => ?_⟩
    · rw [pb, pb_k0_t1.eq_1]
      exact (congrFun (View.read_writes_full _ _ _ _ _) _).trans (pay43_apply _ _)
    · rw [pb, pb_k0_t1.eq_1]
      exact (congrFun (View.read_writes_full _ _ _ _ _) _).trans (pay44_apply _ _)
  | n + 1, hn => by
    have ih := trips_soft n (by omega)
    have ht := trips_eq t
    rw [pb, pb_k0_t1_succ (k := ⟨n, hn⟩)]
    dsimp only
    rw [View.writes_append, View.writes_append]
    have e7 := funext fun l => trip7 Variants.none c none t arg2 harg2 arg3 harg3 arg4 harg4 arg5 harg5 arg6 harg6 arg7 harg7 arg8 harg8 Q K V
      (arg7.view.writes (Elt Ideal) (A7 arg7) (pb Variants.none c none t arg2 harg2 arg3 harg3 arg4 harg4 arg5 harg5 arg6 harg6 arg7 harg7 arg8 harg8 Q K V (A7 arg7) (A8 arg8) n).1)
      (arg8.view.writes (Elt Ideal) (A8 arg8) (pb Variants.none c none t arg2 harg2 arg3 harg3 arg4 harg4 arg5 harg5 arg6 harg6 arg7 harg7 arg8 harg8 Q K V (A7 arg7) (A8 arg8) n).2) ⟨n, hn⟩ h i l
    have e8 := funext fun e => trip8 Variants.none c none t arg2 harg2 arg3 harg3 arg4 harg4 arg5 harg5 arg6 harg6 arg7 harg7 arg8 harg8 Q K V
      (arg7.view.writes (Elt Ideal) (A7 arg7) (pb Variants.none c none t arg2 harg2 arg3 harg3 arg4 harg4 arg5 harg5 arg6 harg6 arg7 harg7 arg8 harg8 Q K V (A7 arg7) (A8 arg8) n).1)
      (arg8.view.writes (Elt Ideal) (A8 arg8) (pb Variants.none c none t arg2 harg2 arg3 harg3 arg4 harg4 arg5 harg5 arg6 harg6 arg7 harg7 arg8 harg8 Q K V (A7 arg7) (A8 arg8) n).2) ⟨n, hn⟩ h i e
    rw [e7, e8, Nat.succ_mul]
    have hv : ∀ j : Fin 512, vis t i (n * 512 + j.val) := fun j => by
      show (n * 512 + j.val) / 64 ≤ (t.val % 8 * 512 + i.val) / 64
      omega
    exact Soft.step a w (vis t i) (n * 512) _ _ ih _ _ (fun j => (hB (kb t ⟨n, hn⟩) j).trans (if_pos (hv j)).symm) 0 (hv 0) (hW (kb t ⟨n, hn⟩))

include hB hW in
/-- After the block on the diagonal. -/
theorem end_soft : Soft a w (vis t i) (t.val % 8 * 512 + 512)
    (mEnd c t arg2 harg2 arg3 harg3 arg4 harg4 arg5 harg5 arg6 harg6 arg7 harg7 arg8 harg8 Q K V h i)
    (aEnd c t arg2 harg2 arg3 harg3 arg4 harg4 arg5 harg5 arg6 harg6 arg7 harg7 arg8 harg8 Q K V h i) := by
  have ih := trips_soft c t arg2 harg2 arg3 harg3 arg4 harg4 arg5 harg5 arg6 harg6 arg7 harg7 arg8 harg8 Q K V h i a w hB hW _ le_rfl
  rw [show (k0_t1_loop (grid0.coords t)).trips * 512 = t.val % 8 * 512 by rw [trips_eq t]] at ih
  refine Soft.step a w (vis t i) (t.val % 8 * 512) _ _ ih _ _ (fun j => ?_) 0 ?_ (hW (kd t))
  · refine (if_congr ?_ (hB (kd t) j) rfl)
    show j.val / 64 ≤ i.val / 64 ↔ (t.val % 8 * 512 + j.val) / 64 ≤ (t.val % 8 * 512 + i.val) / 64
    omega
  · show (t.val % 8 * 512 + 0) / 64 ≤ (t.val % 8 * 512 + i.val) / 64
    omega

end Row

section Real
variable (q k : S4096x8x192.Idx → ℝ) (v : S4096x8x128.Idx → ℝ)
variable (sc : ℝ) (M : Fin 8 → Fin 4096 → ℝ) (H : Fin 8) (r : Fin 4096)

/-- A row's scores in units of the logarithm of two, and the columns that the weights multiply. -/
def aN (s : ℕ) : ℝ := if h : s < 4096 then aS q k sc H r ⟨s, h⟩ / Real.log 2 else 0
def wN (s : ℕ) (e : Fin 256) : ℝ := if h : s < 4096 then (if h' : e.val < 128 then v (ix3 ⟨s, h⟩ H ⟨e.val, h'⟩) else 1) else 0

theorem part_eq (n : ℕ) (hn : n ≤ 4096) (hv : ∀ s : ℕ, s / 64 ≤ r.val / 64 → s < n) (R : ℝ) (e : Fin 256) :
    part (aN q k sc H r) (wN v H) (fun s => s / 64 ≤ r.val / 64) n R e
      = (∑ s : Fin 4096, wN v H s.val e * eS q k sc M H r s) * Real.exp (M H r - R * Real.log 2) := by
  unfold part
  rw [Finset.sum_subset (Finset.range_subset_range.mpr hn) fun s _ hs => if_neg fun h => hs (Finset.mem_range.mpr (hv s h)), Finset.sum_range, Finset.sum_mul]
  refine Finset.sum_congr rfl fun s _ => ?_
  unfold eS
  split
  · rw [aN, dif_pos s.isLt, Real.rpow_def_of_pos (by norm_num), mul_comm, mul_assoc, ← Real.exp_add]
    congr 2
    have := Flash.log_two_pos.ne'
    show Real.log 2 * (aS q k sc H r s / Real.log 2 - R) = _
    field_simp
    ring
  · rw [mul_zero, zero_mul]

theorem sum_lo (l : Fin 128) : ∑ s : Fin 4096, wN v H s.val (lo l) * eS q k sc M H r s = ∑ s : Fin 4096, v (ix3 s H l) * eS q k sc M H r s :=
  Finset.sum_congr rfl fun s _ => by rw [wN, dif_pos s.isLt, dif_pos (show (lo l).val < 128 from l.isLt)]; rfl
theorem sum_hi (l : Fin 128) : ∑ s : Fin 4096, wN v H s.val (hi l) * eS q k sc M H r s = zS q k sc M H r :=
  Finset.sum_congr rfl fun s _ => by rw [wN, dif_pos s.isLt, dif_neg (show ¬(hi l).val < 128 from by show ¬128 + l.val < 128; omega), one_mul]

variable (n : ℕ) (hn : n ≤ 4096) (hv : ∀ s : ℕ, s / 64 ≤ r.val / 64 → s < n) (h0 : n ≠ 0) (mm : Fin 128 → EReal) (A : Fin 256 → EReal)
  (hS : Soft (aN q k sc H r) (wN v H) (fun s => s / 64 ≤ r.val / 64) n mm A)

include hn hv h0 hS in
/-- The two results of a row. -/
theorem res_soft (l : Fin 128) : Ideal.div (A (lo l)) (A (hi l)) = ((∑ s : Fin 4096, v (ix3 s H l) * (eS q k sc M H r s / zS q k sc M H r) : ℝ) : EReal)
    ∧ mm l + Ideal.log (A (hi l)) * (((Real.log 2)⁻¹ : ℝ) : EReal) = (((M H r + Real.log (zS q k sc M H r)) / Real.log 2 : ℝ) : EReal) := by
  rcases hS with ⟨h, -⟩ | ⟨R, hm, hA⟩
  · exact absurd h h0
  · have hz := Flash.zS_pos q k sc M H r
    have hc := Real.exp_pos (M H r - R * Real.log 2)
    have hl := Flash.log_two_pos.ne'
    rw [hm, hA, hA, part_eq q k v sc M H r n hn hv, part_eq q k v sc M H r n hn hv, sum_lo, sum_hi]
    refine ⟨?_, ?_⟩
    · rw [Flash.divc _ _ (mul_pos hz hc).ne', mul_div_mul_right _ _ hc.ne', Finset.sum_div]
      congr 1
      exact Finset.sum_congr rfl fun s _ => by rw [mul_div_assoc]
    · rw [Ideal.log_coe, if_neg (not_le.mpr (mul_pos hz hc)), ← EReal.coe_mul, ← EReal.coe_add, Real.log_mul hz.ne' hc.ne', Real.log_exp]
      congr 1
      field_simp
      ring

end Real

end FlashFwd

end
-- ==== Proof.Fwd.lean ====
module

public import proofs.«01_k».proof.Defs
public import proofs.«01_k».proof.Proof.FwdArr
public import proofs.«01_k».proof.Proof.FlashAlg
public import proofs.«01_k».proof.Proof.Gen.FlashFwdRefIdeal.Read
public import proofs.«01_k».proof.Proof.Gen.Pre_flashfwd_finite
public import Idealize.ShloMosaic.Lib.Claim
public import Idealize.ShloMosaic.Lib.ReduceAll
public import Idealize.ShloMosaic.Lib.StableHlo.RunRead
public import Idealize.ShloMosaic.Lib.Pointwise

/-! The attention: the two arrays that the grid leaves are the reference's, at finite arguments. -/

@[expose] public section

set_option maxRecDepth 16384

noncomputable section

namespace FlashFwd

open Cert.FlashFwdIdeal Cert.FlashFwdIdeal.Gen
open Idealize.ShloMosaic Idealize.ShloMosaic.TcCoe Idealize.ShloMosaic.Tactic Idealize.SL.Sem
open Cert Cert.FlashFwdRefIdeal.Read
open Flash (rowOf sB sM aS eS zS cQ cV padQ padQ_apply flat flat_apply qK lseK atR mxR)

section Pre
variable (x0 x1 : FVec Ideal S4096x8x192 .f32) (x2 : FVec Ideal S4096x8x128 .f32)

theorem real_of_pre (h : Cert.Pre_flashfwd_finite.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  simp only [Cert.Pre_flashfwd_finite.fn] at h0
  obtain ⟨p, q2⟩ := IntOp.andi_eq_one.1 h0
  obtain ⟨q0, q1⟩ := IntOp.andi_eq_one.1 p
  exact ⟨fun i => Alg.real_of_test _ (Host.reduce_andi_all _ _ _ _ _ q0 i), fun i => Alg.real_of_test _ (Host.reduce_andi_all _ _ _ _ _ q1 i),
    fun i => Alg.real_of_test _ (Host.reduce_andi_all _ _ _ _ _ q2 i)⟩
end Pre

variable (m : (ℓ : Loc nD τ sig) → Buf (Elt Ideal) ℓ) (c : Dev nD) (t : Fin cfg0.N)

/-- The blocks' indices: four heads, and the block of rows. -/
theorem idx : ∀ t : Fin cfg0.N, win0_0.index t = ![t.val % 8, t.val / 8] ∧ win0_1.index t = ![0, t.val / 8] ∧ win0_2.index t = ![0, t.val / 8] ∧
    win0_3.index t = ![t.val % 8, t.val / 8] ∧ win0_4.index t = ![t.val % 8, t.val / 8] :=
  (by decide +kernel : ∀ t : Fin grid0.N, win0_0.index t = ![t.val % 8, t.val / 8] ∧ win0_1.index t = ![0, t.val / 8] ∧ win0_2.index t = ![0, t.val / 8] ∧
    win0_3.index t = ![t.val % 8, t.val / 8] ∧ win0_4.index t = ![t.val % 8, t.val / 8])

/-- Head `h` of the point's four, and row `i` of its rows. -/
def hd (h : Fin 4) : Fin 8 := ⟨t.val / 8 * 4 + h.val, by have : t.val < 16 := t.isLt; omega⟩
def row (i : Fin 512) : Fin 4096 := ⟨t.val % 8 * 512 + i.val, by omega⟩

abbrev vQ : Vec Ideal S4096x2048 .bf16 := V m c main_v7
abbrev vK : Vec Ideal S4096x2048 .bf16 := V m c main_v10
abbrev vV : Vec Ideal S4096x1024 .bf16 := V m c main_v12

theorem blk0 (i : Fin 512) (h : Fin 4) (d : Fin 256) : iblk m c 0 t (ix2 i (cA h d)) = vQ m c (ix2 (row t i) (cQ (hd t h) d)) := by
  obtain ⟨i, -⟩ := idx t
  blk_ext [iblk, i, cA, cQ, hd, row]
theorem blk1 (s : Fin 4096) (h : Fin 4) (d : Fin 256) : iblk m c 1 t (ix2 s (cA h d)) = vK m c (ix2 s (cQ (hd t h) d)) := by
  obtain ⟨-, i, -⟩ := idx t
  blk_ext [iblk, i, cA, cQ, hd]
theorem blk2 (s : Fin 4096) (h : Fin 4) (e : Fin 128) : iblk m c 2 t (ix2 s (cM h e)) = vV m c (ix2 s (cV (hd t h) e)) := by
  obtain ⟨-, -, i, -⟩ := idx t
  blk_ext [iblk, i, cM, cV, hd]

theorem V_q : vQ m c = padQ (qK (m (c.tc.loc main_arg0))) := by
  unfold vQ
  unfold_abbrev_sides
  after_reads_simp
  rfl
theorem V_k : vK m c = padQ (m (c.tc.loc main_arg1)) := by
  unfold vK
  unfold_abbrev_sides
  after_reads_simp
  rfl
theorem V_v : vV m c = flat .bf16 (m (c.tc.loc main_arg2)) := by
  unfold vV
  unfold_abbrev_sides
  after_reads_simp
  rfl

/-- The reference's two results are the attention and its rows' logarithms, as the gradient's reference has them. -/
theorem ref_o (x0 x1 : FVec Ideal S4096x8x192 .f32) (x2 : FVec Ideal S4096x8x128 .f32) :
    val_main_v50 (F := Ideal) x0 x1 x2 = flat .f32 (atR x0 x1 x2) := by
  rfl
theorem ref_l (x0 x1 : FVec Ideal S4096x8x192 .f32) : val_main_v25 (F := Ideal) x0 x1
    = flat .f32 (broadcastInDim Cert.FlashBwdIdeal.S4096x8x128 ![0, 1, 2] Cert.FlashBwdIdeal.Gen.bcast_S4096x8x1_S4096x8x128_0_1_2
      (transpose Cert.FlashBwdIdeal.S4096x8x1 [1, 0, 2] (lseK x0 x1) Cert.FlashBwdIdeal.Gen.transposes_S8x4096x1_S4096x8x1_1_0_2)) := by
  rfl

theorem ref_l_at (x0 x1 : FVec Ideal S4096x8x192 .f32) (r : Fin 4096) (H : Fin 8) (e : Fin 128) :
    val_main_v25 (F := Ideal) x0 x1 (ix2 r (cV H e)) = lseK x0 x1 (ix3 H r 0) := by
  refine (congrFun (ref_l x0 x1) _).trans ((flat_apply _ r H e).trans ?_)
  generalize lseK x0 x1 = w
  pointwise

theorem V_q_at (r : Fin 4096) (H : Fin 8) (d : Fin 256) : vQ m c (ix2 r (cQ H d)) = if h : d.val < 192 then qK (m (c.tc.loc main_arg0)) (ix3 r H ⟨d.val, h⟩) else 0 :=
  (congrFun (V_q m c) _).trans (padQ_apply _ r H d)
theorem V_k_at (r : Fin 4096) (H : Fin 8) (d : Fin 256) : vK m c (ix2 r (cQ H d)) = if h : d.val < 192 then ((m (c.tc.loc main_arg1) : FVec Ideal S4096x8x192 .f32) (ix3 r H ⟨d.val, h⟩) : EReal) else (0 : EReal) :=
  (congrFun (V_k m c) _).trans (padQ_apply _ r H d)
theorem V_v_at (r : Fin 4096) (H : Fin 8) (e : Fin 128) : vV m c (ix2 r (cV H e)) = (m (c.tc.loc main_arg2) : FVec Ideal S4096x8x128 .f32) (ix3 r H e) :=
  (congrFun (V_v m c) _).trans (flat_apply _ r H e)

section Real
variable (q k : S4096x8x192.Idx → ℝ) (v : S4096x8x128.Idx → ℝ) (sc : ℝ) (M : Fin 8 → Fin 4096 → ℝ)
variable (h0 : ∀ i, (m (c.tc.loc main_arg0) : FVec Ideal S4096x8x192 .f32) i = (q i : EReal)) (h1 : ∀ i, (m (c.tc.loc main_arg1) : FVec Ideal S4096x8x192 .f32) i = (k i : EReal))
  (h2 : ∀ i, (m (c.tc.loc main_arg2) : FVec Ideal S4096x8x128 .f32) i = (v i : EReal)) (hc : Flash.SC = (sc : EReal))
  (hM : ∀ H r, mxR (m (c.tc.loc main_arg0)) (m (c.tc.loc main_arg1)) (ix2 H r) = (M H r : EReal))

include h0 h1 hc in
/-- A point's scores. -/
theorem score_real (h : Fin 4) (i : Fin 512) (b : Fin 8) (j : Fin 512) : sB (qS (iblk m c 0 t) h) (kS (iblk m c 1 t) b h) i j
    = (aN q k sc (hd t h) (row t i) (b.val * 512 + j.val) : EReal) := by
  have e : sB (qS (iblk m c 0 t) h) (kS (iblk m c 1 t) b h) i j
      = ∑ d : Fin 256, vQ m c (ix2 (row t i) (cQ (hd t h) d)) * vK m c (ix2 (rowOf b j) (cQ (hd t h) d)) :=
    Finset.sum_congr rfl fun d _ => congrArg₂ (· * ·) (blk0 m c t i h d) (blk1 m c t (rowOf b j) h d)
  have hb : b.val * 512 + j.val < 4096 := (rowOf b j).isLt
  rw [e, aN, dif_pos hb,
    Flash.sum_pad (fun d => ((q (ix3 (row t i) (hd t h) d) * sc / Real.log 2 * k (ix3 (rowOf b j) (hd t h) d) : ℝ) : EReal)) _ (fun d h => ?_) (fun d h => ?_), ← Alg.coe_sum]
  · congr 1
    show _ = aS q k sc (hd t h) (row t i) (rowOf b j) / Real.log 2
    rw [aS, Finset.sum_mul, Finset.sum_div]
    exact Finset.sum_congr rfl fun d _ => by ring
  · rw [Flash.q_real _ q sc _ _ h0 hc _ (V_q_at m c), V_k_at, dif_pos h, dif_pos h, h1, ← EReal.coe_mul]
  · rw [Flash.q_real _ q sc _ _ h0 hc _ (V_q_at m c), dif_neg h, zero_mul]

include h2 in
theorem col_real (h : Fin 4) (b : Fin 8) (j : Fin 512) (e : Fin 256) : col (vS (iblk m c 2 t) b h) j e = (wN v (hd t h) (b.val * 512 + j.val) e : EReal) := by
  have hb : b.val * 512 + j.val < 4096 := (rowOf b j).isLt
  rw [col, wN, dif_pos hb]
  by_cases h' : e.val < 128
  · rw [dif_pos h', dif_pos h']
    exact (blk2 m c t (rowOf b j) h ⟨e.val, h'⟩).trans ((V_v_at m c _ _ _).trans (h2 _))
  · rw [dif_neg h', dif_neg h']
    exact EReal.coe_one.symm

include h0 h1 h2 hc in
theorem soft (h : Fin 4) (i : Fin 512) : Soft (aN q k sc (hd t h) (row t i)) (wN v (hd t h)) (fun s => s / 64 ≤ (row t i).val / 64) (t.val % 8 * 512 + 512)
    (mEnd c t (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
      (iblk m c 0 t) (iblk m c 1 t) (iblk m c 2 t) h i)
    (aEnd c t (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
      (iblk m c 0 t) (iblk m c 1 t) (iblk m c 2 t) h i) :=
  end_soft (hB := fun b j => score_real m c t q k sc h0 h1 hc h i b j) (hW := fun b j e => col_real m c t v h2 h b j e) ..

include h0 h1 h2 hc in
/-- What a point stores. -/
theorem at_real (h : Fin 4) (i : Fin 512) (l : Fin 128) :
    (outsAt0 m c t).1 (ix2 i (cM h l)) = ((∑ s : Fin 4096, v (ix3 s (hd t h) l) * (eS q k sc M (hd t h) (row t i) s / zS q k sc M (hd t h) (row t i)) : ℝ) : EReal)
    ∧ (outsAt0 m c t).2 (ix2 i (cM h l)) = (((M (hd t h) (row t i) + Real.log (zS q k sc M (hd t h) (row t i))) / Real.log 2 : ℝ) : EReal) := by
  have e := res_soft q k v sc M (hd t h) (row t i) _ (by omega)
    (fun s hs => by have : s / 64 ≤ (t.val % 8 * 512 + i.val) / 64 := hs; omega) (by omega) _ _ (soft m c t q k v sc h0 h1 h2 hc h i) l
  unfold outsAt0
  dsimp only
  rw [out3, out4]
  exact e

/-- The columns of the point's four heads. -/
def pV (x : Fin 512) : Fin 1024 := ⟨t.val / 8 * 512 + x.val, by have : t.val < 16 := t.isLt; omega⟩
theorem emb3 (y : S512x512.Idx) : ((cfg0.win 3).blk t).view.emb y = ix2 (row t (y 0)) (pV t (y 1)) := by
  obtain ⟨-, -, -, i, -⟩ := idx t
  blk_ext [i, pV, row]
theorem emb4 (y : S512x512.Idx) : ((cfg0.win 4).blk t).view.emb y = ix2 (row t (y 0)) (pV t (y 1)) := by
  obtain ⟨-, -, -, -, i⟩ := idx t
  blk_ext [i, pV, row]
theorem cM_surj (x : Fin 512) : ∃ h l, x = cM h l :=
  ⟨⟨x.val / 128, by omega⟩, ⟨x.val % 128, by omega⟩, Fin.ext (show x.val = x.val / 128 * 128 + x.val % 128 by omega)⟩
theorem pV_cM (h : Fin 4) (l : Fin 128) : pV t (cM h l) = cV (hd t h) l :=
  Fin.ext (show t.val / 8 * 512 + (h.val * 128 + l.val) = (t.val / 8 * 4 + h.val) * 128 + l.val by omega)

include h0 h1 h2 hc hM in
theorem arr3 : (dats m 0 c).arrAt 3 cfg0.N = val_main_v50 (F := Ideal) (m (c.tc.loc main_arg0)) (m (c.tc.loc main_arg1)) (m (c.tc.loc main_arg2)) := by
  rw [ref_o]
  refine (dats m 0 c).arrAt_eq_of_covers 3 _ (by decide +kernel) fun t hf y => ?_
  blk_simp
  rw [after0_3]
  refine Eq.trans ?_ (congrArg (flat .f32 _) (emb3 t y).symm)
  idx_vars y
  obtain ⟨h, l, rfl⟩ := cM_surj y1
  refine ((at_real m c t q k v sc M h0 h1 h2 hc h y0 l).1).trans ?_
  show _ = flat .f32 _ (ix2 (row t y0) (pV t (cM h l)))
  rw [pV_cM, flat_apply, Flash.atR_real _ _ _ q k v sc M _ _ h0 h1 h2 hc hM]
include h0 h1 h2 hc hM in
theorem arr4 : (dats m 0 c).arrAt 4 cfg0.N = val_main_v25 (F := Ideal) (m (c.tc.loc main_arg0)) (m (c.tc.loc main_arg1)) := by
  refine (dats m 0 c).arrAt_eq_of_covers 4 _ (by decide +kernel) fun t hf y => ?_
  blk_simp
  rw [after0_4]
  refine Eq.trans ?_ (congrArg (val_main_v25 (F := Ideal) _ _) (emb4 t y).symm)
  idx_vars y
  obtain ⟨h, l, rfl⟩ := cM_surj y1
  refine ((at_real m c t q k v sc M h0 h1 h2 hc h y0 l).2).trans ?_
  show _ = val_main_v25 (F := Ideal) _ _ (ix2 (row t y0) (pV t (cM h l)))
  rw [pV_cM, ref_l_at, Flash.lseK_real _ _ q k sc M _ _ h0 h1 hc hM]

end Real

/-- The two arrays that the grid leaves. -/
theorem arrays (h : Cert.Pre_flashfwd_finite.fn (F := Ideal) (m (c.tc.loc main_arg0)) (m (c.tc.loc main_arg1)) (m (c.tc.loc main_arg2)) = fun _ => 1#1) :
    (dats m 0 c).arrAt 3 cfg0.N = val_main_v50 (F := Ideal) (m (c.tc.loc main_arg0)) (m (c.tc.loc main_arg1)) (m (c.tc.loc main_arg2))
    ∧ (dats m 0 c).arrAt 4 cfg0.N = val_main_v25 (F := Ideal) (m (c.tc.loc main_arg0)) (m (c.tc.loc main_arg1)) := by
  obtain ⟨h0, h1, h2⟩ := real_of_pre _ _ _ h
  choose q h0 using h0
  choose k h1 using h1
  choose v h2 using h2
  obtain ⟨s, hc⟩ := Flash.SC_real
  choose M hM using fun H r => Flash.mx_real _ _ q k s H r h0 h1 hc
  exact ⟨arr3 m c q k v s M h0 h1 h2 hc hM, arr4 m c q k v s M h0 h1 h2 hc hM⟩

/-- The run's two results and its arguments. -/
theorem run_blocks (ρ : Dev nD → PrngReg) : θ_run defs (onTc (τ := τ) (main (F := Ideal))) ⟨m, fun _ => 0, ρ⟩ fun r => ∀ c : Dev nD,
      r.2.mem ((c.tc : Thread nD τ).loc main_v13_0) = (dats m 0 c).arrAt 3 cfg0.N
      ∧ r.2.mem ((c.tc : Thread nD τ).loc main_v13_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.2 c).1 3, (h.2 c).1 4, h.1.1 c⟩)
    (θ_run_and (frame m ρ) (run_main m ρ))

theorem preserves : Cert.preserves_FlashFwd_FlashFwdIdeal :=
  ⟨IdealRules.named_const.statement Cert.FlashFwdIdeal.κ "mask" .f32 0xF149F2CA#32 ⊥ rfl,
    IdealRules.named_const.statement Cert.FlashFwdIdeal.κ "log2e" .f32 0x3FB8AA3B#32 (((Real.log 2)⁻¹ : ℝ) : EReal) rfl⟩

end FlashFwd

end
-- ==== Proof.RetPay.lean ====
module

public import proofs.«01_k».proof.Proof.Gen.RetFwdIdeal.Value
public import proofs.«01_k».proof.Proof.Alg
public import Idealize.ShloMosaic.Lib.Pipeline.ValueKit
public import Idealize.ShloMosaic.Lib.Pipeline.ReadBack

/-! The retention's kernel over the extended reals: the rotated queries and keys of one block of 256 rows, the rows it
    stores, and the state after it, element by element. -/

@[expose] public section

set_option maxRecDepth 16384

noncomputable section

namespace RetF

open Cert.RetFwdIdeal Cert.RetFwdIdeal.Gen
open Idealize.ShloMosaic Idealize.ShloMosaic.TcCoe Idealize.ShloMosaic.Tactic
open Cert

/-- Row `i` of block `b` of a tile of 1024 rows. -/
def row (b : Fin 4) (i : Fin 256) : Fin 1024 := ⟨b.val * 256 + i.val, by omega⟩

/-- The rows of one block. -/
def blk {n : ℕ} {e : EltTy} (X : Vec Ideal ⟨2, ![1024, n]⟩ e) (b : Fin 4) : Vec Ideal ⟨2, ![256, n]⟩ e := fun y => X (ix2 (row b (y 0)) (y 1))

theorem inb {n : ℕ} (b : Fin 4) : ∀ a, (![b.val * 256, 0] : Fin 2 → ℕ) a + (⟨2, ![256, n]⟩ : Shape).size a ≤ (⟨2, ![1024, n]⟩ : Shape).size a := by
  intro a
  fin_cases a
  · show b.val * 256 + 256 ≤ 1024; omega
  · show 0 + n ≤ n; omega
/-- The same rows as the body loads them. -/
abbrev ldb {n : ℕ} {e : EltTy} (X : Vec Ideal ⟨2, ![1024, n]⟩ e) (b : Fin 4) : Vec Ideal ⟨2, ![256, n]⟩ e :=
  View.ld X (Rect.unit (s := ⟨2, ![1024, n]⟩) ![b.val * 256, 0] ![256, n] (inb b))

theorem ldb_eq {n : ℕ} {e : EltTy} (X : Vec Ideal ⟨2, ![1024, n]⟩ e) (b : Fin 4) : ldb X b = blk X b := by
  funext y
  refine congrArg X ?_
  funext a
  fin_cases a
  · exact Fin.ext (Rect.idx_unit_val ..)
  · exact Fin.ext ((Rect.idx_unit_val ..).trans (Nat.zero_add _))

/-- A rotated row: the two halves of its 256 columns turned by the angles of the tables `C` and `S`. -/
def rot (C S : Fin 128 → EReal) (x : Fin 256 → EReal) (d : Fin 256) : EReal :=
  if h : d.val < 128 then x d * C ⟨d.val, h⟩ - x ⟨128 + d.val, by omega⟩ * S ⟨d.val, h⟩
  else x ⟨128 + (d.val - 128), by omega⟩ * C ⟨d.val - 128, by omega⟩ + x ⟨d.val - 128, by omega⟩ * S ⟨d.val - 128, by omega⟩

variable (C S : Vec Ideal S256x128 .f32) (q k : Vec Ideal S256x256 .bf16) (v : Vec Ideal S256x512 .bf16) (st : Vec Ideal S1x256x512 .f32)
variable (Q K : FVec Ideal S256x256 .f32)
variable (I : Vec Ideal S1x256x256 .f32) (D E : Vec Ideal S1x256x1 .f32) (G : Vec Ideal S1x1x1 .f32)

theorem pay5_apply (i d : Fin 256) : k0_pay5 C S q (ix2 i d) = rot (fun a => C (ix2 i a)) (fun a => S (ix2 i a)) (fun a => q (ix2 i a)) d := by
  unfold k0_pay5 k0_pay3 k0_pay4 rot
  pointwise
theorem pay6_apply (i d : Fin 256) : k0_pay6 C S k (ix2 i d) = rot (fun a => C (ix2 i a)) (fun a => S (ix2 i a)) (fun a => k (ix2 i a)) d * Ideal.ofBits .f32 0x3D800000#32 := by
  unfold k0_pay6 k0_pay3 k0_pay4 rot
  pointwise

/-- One row a block stores. -/
theorem pay11_apply (i : Fin 256) (e : Fin 512) : k0_pay11 Q K (k0_pay7 v) (k0_pay9 st) I D (ix2 i e)
    = (∑ j : Fin 256, (∑ d : Fin 256, Q (ix2 i d) * K (ix2 j d)) * I (ix3 0 i j) * v (ix2 j e)) + ∑ d : Fin 256, (Q (ix2 i d) * D (ix3 0 i 0)) * st (ix3 0 d e) := by
  unfold k0_pay11 k0_pay7 k0_pay9 k0_pay8
  pointwise

/-- The state after a block. -/
theorem pay12_apply (d : Fin 256) (e : Fin 512) : k0_pay12 K (k0_pay7 v) (k0_pay8 st) G E (ix3 0 d e)
    = st (ix3 0 d e) * G (ix3 0 0 0) + ∑ j : Fin 256, (K (ix2 j d) * E (ix3 0 j 0)) * v (ix2 j e) := by
  unfold k0_pay12 k0_pay7 k0_pay8
  pointwise

/-- The state a block starts from, as it is saved. -/
theorem pay10_apply (d : Fin 256) (e : Fin 512) : k0_pay10 (k0_pay9 st) (ix4 0 0 d e) = st (ix3 0 d e) := by
  unfold k0_pay10 k0_pay9 k0_pay8
  pointwise
theorem pay2_apply (d : Fin 256) (e : Fin 512) : k0_pay2 (F := Ideal) (ix3 0 d e) = 0 := by
  unfold k0_pay2
  pointwise

end RetF
-- ==== Proof.RetPoint.lean ====
module

public import proofs.«01_k».proof.Proof.RetPay

/-! The retention's kernel over the extended reals: what one grid point leaves in the carried state and in the two
    results' tiles. -/

@[expose] public section

set_option maxRecDepth 16384

noncomputable section

namespace RetF

open Cert.RetFwdIdeal Cert.RetFwdIdeal.Gen
open Idealize.ShloMosaic Idealize.ShloMosaic.TcCoe Idealize.ShloMosaic.Tactic
open Cert

section Block
variable (X0 X1 : Vec Ideal S1024x256 .bf16) (X2 : Vec Ideal S1024x512 .bf16) (X3 X4 : Vec Ideal S1024x128 .f32)
variable (X5 : Vec Ideal S1x256x256 .f32) (X6 X7 : Vec Ideal S1x256x1 .f32) (X8 : Vec Ideal S1x1x1 .f32)

/-- The state after block `b`, of the state before it. -/
def ST (b : Fin 4) (st : Vec Ideal S1x256x512 .f32) : Vec Ideal S1x256x512 .f32 :=
  k0_pay12 (k0_pay6 (ldb X3 b) (ldb X4 b) (ldb X1 b)) (k0_pay7 (ldb X2 b)) (k0_pay8 st) X8 X7
/-- The rows block `b` stores. -/
def OB (b : Fin 4) (st : Vec Ideal S1x256x512 .f32) : FVec Ideal S256x512 .f32 :=
  k0_pay11 (k0_pay5 (ldb X3 b) (ldb X4 b) (ldb X0 b)) (k0_pay6 (ldb X3 b) (ldb X4 b) (ldb X1 b)) (k0_pay7 (ldb X2 b)) (k0_pay9 st) X5 X6

/-- The states before each block of a point, and after the last. -/
def SA (st : Vec Ideal S1x256x512 .f32) : ℕ → Vec Ideal S1x256x512 .f32
  | 0 => st
  | n + 1 => if h : n < 4 then ST X1 X2 X3 X4 X7 X8 ⟨n, h⟩ (SA st n) else SA st n
end Block

variable (m : (ℓ : Loc nD τ sig) → Buf (Elt Ideal) ℓ) (c : Dev nD) (t : Fin cfg0.N)

/-- The state a grid point starts from: zero at a head's first, what the point before left elsewhere. -/
def init (m : (ℓ : Loc nD τ sig) → Buf (Elt Ideal) ℓ) (c : Dev nD) (t : Fin cfg0.N) : Vec Ideal S1x256x512 .f32 :=
  if t.val % 4 = 0 then k0_pay2 (F := Ideal) else (outsAt0 m c (t.val - 1) (Nat.lt_of_le_of_lt (Nat.sub_le ..) t.isLt)).2.2

abbrev sa (n : ℕ) : Vec Ideal S1x256x512 .f32 :=
  SA (iblk m c 1 t) (iblk m c 2 t) (iblk m c 3 t) (iblk m c 4 t) (iblk m c 7 t) (iblk m c 8 t) (init m c t) n

theorem state_A (h0 : t.val % 4 = 0) : (outsAt0 m c t.val t.isLt).2.2 = sa m c t 4 := by
  unfold sa init
  rw [if_pos h0, outsAt0_A m c t h0]
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  frame_out
  rfl
theorem state_B (h0 : ¬t.val % 4 = 0) : (outsAt0 m c t.val t.isLt).2.2 = sa m c t 4 := by
  unfold sa init
  rw [if_neg h0, outsAt0_B m c t h0]
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize (outsAt0 m c (t.val - 1) _).2.2 = xs
  frame_out
  rw [read_unread_whole]
  rfl

theorem row_inj {b k : Fin 4} {i j : Fin 256} (h : b.val * 256 + i.val = k.val * 256 + j.val) : b = k ∧ i = j :=
  ⟨Fin.ext (by omega), Fin.ext (by omega)⟩

theorem out9 (b : Fin 4) (i : Fin 256) (e : Fin 512) : (outsAt0 m c t.val t.isLt).1 (ix2 (row b i) e)
    = OB (iblk m c 0 t) (iblk m c 1 t) (iblk m c 2 t) (iblk m c 3 t) (iblk m c 4 t) (iblk m c 5 t) (iblk m c 6 t) b (sa m c t b.val) (ix2 i e) := by
  unfold sa init
  by_cases h0 : t.val % 4 = 0
  · rw [if_pos h0, outsAt0_A m c t h0]
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    frame_out
    generalize hy : (ix2 (row b i) e : S1024x512.Idx) = y
    canon_tiles x h
    all_goals subst hy
    all_goals obtain rfl : e = x 1 := Fin.ext h1
    · obtain ⟨rfl, rfl⟩ : b = 3 ∧ i = x 0 := row_inj h0
      rw [ix2_eta]
      rfl
    · obtain ⟨rfl, rfl⟩ : b = 2 ∧ i = x 0 := row_inj h0
      rw [ix2_eta]
      rfl
    · obtain ⟨rfl, rfl⟩ : b = 1 ∧ i = x 0 := row_inj h0
      rw [ix2_eta]
      rfl
    · obtain ⟨rfl, rfl⟩ : b = 0 ∧ i = x 0 := row_inj (h0.trans (Nat.zero_add _).symm)
      rw [ix2_eta]
      rfl
  · rw [if_neg h0, outsAt0_B m c t h0]
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    generalize (outsAt0 m c (t.val - 1) _).2.2 = xs
    frame_out
    rw [read_unread_whole]
    generalize hy : (ix2 (row b i) e : S1024x512.Idx) = y
    canon_tiles x h
    all_goals subst hy
    all_goals obtain rfl : e = x 1 := Fin.ext h1
    · obtain ⟨rfl, rfl⟩ : b = 3 ∧ i = x 0 := row_inj h0
      rw [ix2_eta]
      rfl
    · obtain ⟨rfl, rfl⟩ : b = 2 ∧ i = x 0 := row_inj h0
      rw [ix2_eta]
      rfl
    · obtain ⟨rfl, rfl⟩ : b = 1 ∧ i = x 0 := row_inj h0
      rw [ix2_eta]
      rfl
    · obtain ⟨rfl, rfl⟩ : b = 0 ∧ i = x 0 := row_inj (h0.trans (Nat.zero_add _).symm)
      rw [ix2_eta]
      rfl

theorem ix4_unit (x : S1x1x256x512.Idx) : x = ix4 0 0 (x 2) (x 3) := by
  funext a
  fin_cases a
  · exact Subsingleton.elim (α := Fin 1) _ _
  · exact Subsingleton.elim (α := Fin 1) _ _
  · rfl
  · rfl

theorem out10 (b : Fin 4) (d : Fin 256) (e : Fin 512) : (outsAt0 m c t.val t.isLt).2.1 (ix4 0 b d e) = k0_pay10 (k0_pay9 (sa m c t b.val)) (ix4 0 0 d e) := by
  unfold sa init
  by_cases h0 : t.val % 4 = 0
  · rw [if_pos h0, outsAt0_A m c t h0]
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    frame_out
    generalize hy : (ix4 0 b d e : S1x4x256x512.Idx) = y
    canon_tiles x h
    all_goals subst hy
    all_goals obtain rfl : d = x 2 := Fin.ext h2
    all_goals obtain rfl : e = x 3 := Fin.ext h3
    · obtain rfl : b = 3 := Fin.ext (by show b.val = 3; have : b.val = 3 + (x 1).val := h1; omega)
      exact congrArg _ (ix4_unit x)
    · obtain rfl : b = 2 := Fin.ext (by show b.val = 2; have : b.val = 2 + (x 1).val := h1; omega)
      exact congrArg _ (ix4_unit x)
    · obtain rfl : b = 1 := Fin.ext (by show b.val = 1; have : b.val = 1 + (x 1).val := h1; omega)
      exact congrArg _ (ix4_unit x)
    · obtain rfl : b = 0 := Fin.ext (by show b.val = 0; have : b.val = (x 1).val := h1; omega)
      exact congrArg _ (ix4_unit x)
  · rw [if_neg h0, outsAt0_B m c t h0]
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    generalize (outsAt0 m c (t.val - 1) _).2.2 = xs
    frame_out
    rw [read_unread_whole]
    generalize hy : (ix4 0 b d e : S1x4x256x512.Idx) = y
    canon_tiles x h
    all_goals subst hy
    all_goals obtain rfl : d = x 2 := Fin.ext h2
    all_goals obtain rfl : e = x 3 := Fin.ext h3
    · obtain rfl : b = 3 := Fin.ext (by show b.val = 3; have : b.val = 3 + (x 1).val := h1; omega)
      exact congrArg _ (ix4_unit x)
    · obtain rfl : b = 2 := Fin.ext (by show b.val = 2; have : b.val = 2 + (x 1).val := h1; omega)
      exact congrArg _ (ix4_unit x)
    · obtain rfl : b = 1 := Fin.ext (by show b.val = 1; have : b.val = 1 + (x 1).val := h1; omega)
      exact congrArg _ (ix4_unit x)
    · obtain rfl : b = 0 := Fin.ext (by show b.val = 0; have : b.val = (x 1).val := h1; omega)
      exact congrArg _ (ix4_unit x)

theorem state_out : (outsAt0 m c t.val t.isLt).2.2 = sa m c t 4 := by
  by_cases h0 : t.val % 4 = 0
  · exact state_A m c t h0
  · exact state_B m c t h0

end RetF
-- ==== Proof.RetMath.lean ====
module

public import proofs.«01_k».proof.Proof.Alg

/-! The retention over the reals: the state carried over a block of keys, and a row's sum split at the start of its block.
    Both block sizes, the reference's and the kernel's, give the same sums. -/

@[expose] public section

noncomputable section

namespace RetF

variable (L : ℝ) (q k : ℕ → Fin 256 → ℝ) (v : ℕ → Fin 512 → ℝ)

/-- The state before key `n`. -/
def St (n : ℕ) (d : Fin 256) (e : Fin 512) : ℝ := ∑ s ∈ Finset.range n, k s d * Real.exp (L * ((n : ℝ) - 1 - s)) * v s e

/-- A key's weight in row `r`. -/
def wt (r s : ℕ) : ℝ := if s / 64 ≤ r / 64 then Real.exp (L * |(r : ℝ) - s|) else 0

/-- Row `r`'s sum over the first `N` keys. -/
def outN (N r : ℕ) (e : Fin 512) : ℝ := ∑ s ∈ Finset.range N, (∑ d, q r d * k s d) * wt L r s * v s e

/-- Row `r` of the result. -/
def Out (r : ℕ) (e : Fin 512) : ℝ := outN L q k v (64 * (r / 64 + 1)) r e

theorem St_zero (d : Fin 256) (e : Fin 512) : St L k v 0 d e = 0 := Finset.sum_range_zero _

theorem St_add (n B : ℕ) (d : Fin 256) (e : Fin 512) :
    St L k v n d e * Real.exp (L * B) + ∑ j : Fin B, (k (n + j.val) d * Real.exp (L * ((B : ℝ) - 1 - j.val))) * v (n + j.val) e = St L k v (n + B) d e := by
  unfold St
  rw [Finset.sum_range_add, Finset.sum_range (n := B), Finset.sum_mul]
  congr 1
  · refine Finset.sum_congr rfl fun s _ => ?_
    rw [mul_right_comm, mul_assoc (k s d), ← Real.exp_add]
    congr 3
    push_cast
    ring
  · refine Finset.sum_congr rfl fun j _ => ?_
    congr 4
    push_cast
    ring

theorem outN_eq (N r : ℕ) (hN : 64 * (r / 64 + 1) ≤ N) (e : Fin 512) : outN L q k v N r e = Out L q k v r e := by
  unfold Out outN
  refine (Finset.sum_subset (Finset.range_mono hN) fun s _ hs => ?_).symm
  rw [Finset.mem_range, not_lt] at hs
  unfold wt
  rw [if_neg (by omega), mul_zero, zero_mul]

theorem Out_add (n B : ℕ) (hn : n % 64 = 0) (hB : B % 64 = 0) (i : Fin B) (e : Fin 512) :
    ∑ j : Fin B, (∑ d, q (n + i.val) d * k (n + j.val) d) * (if j.val / 64 ≤ i.val / 64 then Real.exp (L * |(i.val : ℝ) - j.val|) else 0) * v (n + j.val) e
      + ∑ d, (q (n + i.val) d * Real.exp (L * ((i.val : ℝ) + 1))) * St L k v n d e = Out L q k v (n + i.val) e := by
  have hi := i.isLt
  rw [← outN_eq L q k v (n + B) (n + i.val) (by omega), outN, Finset.sum_range_add, Finset.sum_range (n := B), add_comm]
  congr 1
  · unfold St
    simp only [Finset.mul_sum, Finset.sum_mul]
    rw [Finset.sum_comm]
    refine Finset.sum_congr rfl fun s hs => Finset.sum_congr rfl fun d _ => ?_
    have hs := Finset.mem_range.mp hs
    unfold wt
    have hs' : (s : ℝ) < n := Nat.cast_lt.mpr hs
    have hi' : (0 : ℝ) ≤ i.val := Nat.cast_nonneg _
    rw [if_pos (by omega), abs_of_nonneg (by push_cast; linarith)]
    have hx : L * (((n + i.val : ℕ) : ℝ) - s) = L * ((i.val : ℝ) + 1) + L * ((n : ℝ) - 1 - s) := by push_cast; ring
    rw [hx, Real.exp_add]
    ring
  · refine Finset.sum_congr rfl fun j _ => ?_
    unfold wt
    have h1 : ((n + j.val) / 64 ≤ (n + i.val) / 64) = (j.val / 64 ≤ i.val / 64) := by apply propext; constructor <;> intro h <;> omega
    simp only [h1]
    push_cast
    rw [add_sub_add_left_eq_sub]

/-- A rotated row over the reals. -/
def rotR (C S : Fin 128 → ℝ) (x : Fin 256 → ℝ) (d : Fin 256) : ℝ :=
  if h : d.val < 128 then x d * C ⟨d.val, h⟩ - x ⟨128 + d.val, by omega⟩ * S ⟨d.val, h⟩
  else x ⟨128 + (d.val - 128), by omega⟩ * C ⟨d.val - 128, by omega⟩ + x ⟨d.val - 128, by omega⟩ * S ⟨d.val - 128, by omega⟩

end RetF
-- ==== Proof.RetKer.lean ====
module

public import proofs.«01_k».proof.Proof.RetPoint
public import proofs.«01_k».proof.Proof.RetMath

/-! The retention's kernel over the extended reals: with real operands, a block's rows and the state after it are those of
    the sums over the keys. -/

@[expose] public section

set_option maxRecDepth 16384

noncomputable section

namespace RetF

open Cert.RetFwdIdeal Cert.RetFwdIdeal.Gen
open Idealize.ShloMosaic Idealize.ShloMosaic.TcCoe Idealize.ShloMosaic.Tactic
open Cert

theorem ofBits_16th : Ideal.ofBits .f32 0x3D800000#32 = ((1 / 16 : ℝ) : EReal) := by
  simp [Ideal.ofBits, Ideal.ieee, -EReal.coe_mul]; norm_num

theorem rot_real (C S : Fin 128 → ℝ) (x : Fin 256 → ℝ) (d : Fin 256) :
    rot (fun a => (C a : EReal)) (fun a => (S a : EReal)) (fun a => (x a : EReal)) d = (rotR C S x d : EReal) := by
  unfold rot rotR
  split <;> norm_cast

/-- The real operands of a point: one head's columns of the projections, the rotation's tables, the decays. -/
structure Ops where
  xq : ℕ → Fin 256 → ℝ
  xk : ℕ → Fin 256 → ℝ
  xv : ℕ → Fin 512 → ℝ
  C : ℕ → Fin 128 → ℝ
  S : ℕ → Fin 128 → ℝ
  L : ℝ

/-- The rotated queries and the rotated, scaled keys. -/
def Ops.Q (o : Ops) (r : ℕ) (d : Fin 256) : ℝ := rotR (o.C r) (o.S r) (o.xq r) d
def Ops.K (o : Ops) (r : ℕ) (d : Fin 256) : ℝ := rotR (o.C r) (o.S r) (o.xk r) d * (1 / 16)

variable (X0 X1 : Vec Ideal S1024x256 .bf16) (X2 : Vec Ideal S1024x512 .bf16) (X3 X4 : Vec Ideal S1024x128 .f32)
variable (X5 : Vec Ideal S1x256x256 .f32) (X6 X7 : Vec Ideal S1x256x1 .f32) (X8 : Vec Ideal S1x1x1 .f32)

/-- The tiles of a point whose first row is `n`. -/
structure Tiles (o : Ops) (n : ℕ) : Prop where
  hq : ∀ r d, X0 (ix2 r d) = (o.xq (n + r.val) d : EReal)
  hk : ∀ r d, X1 (ix2 r d) = (o.xk (n + r.val) d : EReal)
  hv : ∀ r e, X2 (ix2 r e) = (o.xv (n + r.val) e : EReal)
  hC : ∀ r a, X3 (ix2 r a) = (o.C (n + r.val) a : EReal)
  hS : ∀ r a, X4 (ix2 r a) = (o.S (n + r.val) a : EReal)
  hI : ∀ i j, X5 (ix3 0 i j) = ((if j.val / 64 ≤ i.val / 64 then Real.exp (o.L * |(i.val : ℝ) - j.val|) else 0 : ℝ) : EReal)
  hD : ∀ i, X6 (ix3 0 i 0) = (Real.exp (o.L * ((i.val : ℝ) + 1)) : EReal)
  hE : ∀ j, X7 (ix3 0 j 0) = (Real.exp (o.L * (((256 : ℕ) : ℝ) - 1 - j.val)) : EReal)
  hG : X8 (ix3 0 0 0) = (Real.exp (o.L * ((256 : ℕ) : ℝ)) : EReal)

variable {X0 X1 X2 X3 X4 X5 X6 X7 X8} {o : Ops} {n : ℕ} (T : Tiles X0 X1 X2 X3 X4 X5 X6 X7 X8 o n)

include T

theorem q_real (b : Fin 4) (i d : Fin 256) : k0_pay5 (ldb X3 b) (ldb X4 b) (ldb X0 b) (ix2 i d) = (o.Q (n + b.val * 256 + i.val) d : EReal) := by
  rw [ldb_eq, ldb_eq, ldb_eq, pay5_apply, Ops.Q, ← rot_real, Nat.add_assoc]
  congr 1
  · exact funext fun a => T.hC (row b i) a
  · exact funext fun a => T.hS (row b i) a
  · exact funext fun a => T.hq (row b i) a
theorem k_real (b : Fin 4) (i d : Fin 256) : k0_pay6 (ldb X3 b) (ldb X4 b) (ldb X1 b) (ix2 i d) = (o.K (n + b.val * 256 + i.val) d : EReal) := by
  rw [ldb_eq, ldb_eq, ldb_eq, pay6_apply, Ops.K, EReal.coe_mul, ← rot_real, ofBits_16th, Nat.add_assoc]
  congr 2
  · exact funext fun a => T.hC (row b i) a
  · exact funext fun a => T.hS (row b i) a
  · exact funext fun a => T.hk (row b i) a
theorem v_real (b : Fin 4) (j : Fin 256) (e : Fin 512) : ldb X2 b (ix2 j e) = (o.xv (n + b.val * 256 + j.val) e : EReal) := by
  rw [ldb_eq, Nat.add_assoc]
  exact T.hv (row b j) e

theorem ST_real (b : Fin 4) (st : Vec Ideal S1x256x512 .f32) (h : ∀ d e, st (ix3 0 d e) = (St o.L o.K o.xv (n + b.val * 256) d e : EReal)) (d : Fin 256) (e : Fin 512) :
    ST X1 X2 X3 X4 X7 X8 b st (ix3 0 d e) = (St o.L o.K o.xv (n + b.val * 256 + 256) d e : EReal) := by
  unfold ST
  rw [pay12_apply, h, T.hG, ← St_add _ _ _ (n + b.val * 256) 256]
  simp only [k_real T, v_real T, T.hE, EReal.coe_add, EReal.coe_mul, Alg.coe_sum]

theorem OB_real (hn : n % 64 = 0) (b : Fin 4) (st : Vec Ideal S1x256x512 .f32) (h : ∀ d e, st (ix3 0 d e) = (St o.L o.K o.xv (n + b.val * 256) d e : EReal)) (i : Fin 256)
    (e : Fin 512) : OB X0 X1 X2 X3 X4 X5 X6 b st (ix2 i e) = (Out o.L o.Q o.K o.xv (n + b.val * 256 + i.val) e : EReal) := by
  unfold OB
  rw [pay11_apply, ← Out_add _ _ _ _ (n + b.val * 256) 256 (by omega) (by norm_num)]
  simp only [q_real T, k_real T, v_real T, T.hI, T.hD, h, EReal.coe_add, EReal.coe_mul, Alg.coe_sum]

/-- The state after the first `b` blocks of a point. -/
theorem SA_real (st : Vec Ideal S1x256x512 .f32) (h : ∀ d e, st (ix3 0 d e) = (St o.L o.K o.xv n d e : EReal)) : ∀ (b : ℕ), b ≤ 4 → ∀ d e,
    SA X1 X2 X3 X4 X7 X8 st b (ix3 0 d e) = (St o.L o.K o.xv (n + b * 256) d e : EReal)
  | 0, _, d, e => by rw [Nat.zero_mul]; exact h d e
  | b + 1, hb, d, e => by
    have hb' : b < 4 := by omega
    rw [show SA X1 X2 X3 X4 X7 X8 st (b + 1) = ST X1 X2 X3 X4 X7 X8 ⟨b, hb'⟩ (SA X1 X2 X3 X4 X7 X8 st b) from dif_pos hb',
      ST_real T ⟨b, hb'⟩ _ (SA_real st h b (by omega)) d e, Nat.succ_mul, Nat.add_assoc]

end RetF
-- ==== Proof.RetTab.lean ====
module

public import proofs.«01_k».proof.Proof.RetKer
public import Idealize.ShloMosaic.Lib.StableHlo.RunRead
public import Idealize.ShloMosaic.Lib.Pointwise

/-! The retention's tables: the heads' decays, the rotation's cosines and sines, and what the kernel's host lines make of them. -/

@[expose] public section

set_option maxRecDepth 16384

noncomputable section

namespace RetF

open Cert.RetFwdIdeal Cert.RetFwdIdeal.Gen
open Idealize.ShloMosaic Idealize.ShloMosaic.TcCoe Idealize.ShloMosaic.Tactic
open Cert

theorem ofBits_m5 : Ideal.ofBits .f32 0xC0A00000#32 = ((-5 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_1e4 : Ideal.ofBits .f32 0x461C4000#32 = ((10000 : ℝ) : EReal) := by
  simp [Ideal.ofBits, Ideal.ieee, -EReal.coe_mul]; norm_num
theorem ofBits_inf : Ideal.ofBits .f32 0x7F800000#32 = (⊤ : EReal) := by
  simp [Ideal.ofBits, Ideal.ieee]

/-- The logarithms of the heads' decays, as the host lines compute them. -/
def lgT : FVec Ideal S4 .f32 :=
  Host.log (subf (broadcastInDim S4 ![] bcast_S_S4 (constant S_ .f32 0x3F800000#32)) (Host.powf (broadcastInDim S4 ![] bcast_S_S4 (constant S_ .f32 0x40000000#32))
    (subf (broadcastInDim S4 ![] bcast_S_S4 (constant S_ .f32 0xC0A00000#32)) (sitofp .f32 (iotaInDim S4 32 0)))))

/-- Head `h`'s. -/
def Lg (h : Fin 4) : ℝ := Real.log (1 - Real.rpow 2 (-5 - (h.val : ℝ)))

theorem pow_lt (h : Fin 4) : 0 < Real.rpow 2 (-5 - (h.val : ℝ)) ∧ Real.rpow 2 (-5 - (h.val : ℝ)) < 1 :=
  ⟨Real.rpow_pos_of_pos (by norm_num) _, Real.rpow_lt_one_of_one_lt_of_neg (by norm_num) (by have : (0 : ℝ) ≤ h.val := Nat.cast_nonneg _; linarith)⟩

theorem Lg_neg (h : Fin 4) : Lg h < 0 := by
  obtain ⟨a, b⟩ := pow_lt h
  exact Real.log_neg (by linarith) (by linarith)

/-- A row index as a float. -/
theorem toInt_small (n : ℕ) (h : n < 2147483648) : (BitVec.ofNat 32 n).toInt = (n : ℤ) := by
  rw [BitVec.toInt_eq_toNat_of_lt (by rw [BitVec.toNat_ofNat]; omega), BitVec.toNat_ofNat, Nat.mod_eq_of_lt (by omega)]

theorem fl_real (n : ℕ) (h : n < 2147483648) : (FloatOps.sitofp .f32 (BitVec.ofNat 32 n) : Ideal .f32) = ((n : ℝ) : EReal) := by
  show (((BitVec.ofNat 32 n).toInt : ℝ) : EReal) = _
  rw [toInt_small n h, Int.cast_natCast]

theorem lg_real (h : Fin 4) : lgT (ix1 h) = (Lg h : EReal) := by
  unfold lgT
  pointwise
  rw [fl_real _ (by omega), ofBits_m5, ofBits_2, ← EReal.coe_sub]
  show Ideal.log (1 - ((Real.rpow 2 (-5 - (h.val : ℝ)) : ℝ) : EReal)) = _
  rw [← EReal.coe_one, ← EReal.coe_sub]
  exact if_neg (by have := (pow_lt h).2; linarith)

def idT : FVec Ideal S256 .f32 := sitofp .f32 (iotaInDim S256 32 0)
theorem id_real (i : Fin 256) : idT (ix1 i) = ((i.val : ℝ) : EReal) := by
  unfold idT
  pointwise
  exact fl_real _ (by omega)

def angT : FVec Ideal S4096x128 .f32 :=
  mulf (broadcastInDim S4096x128 ![0, 1] bcast_S4096x1_S4096x128_0_1 (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1
      (Host.divf (broadcastInDim S128 ![] bcast_S_S128 (constant S_ .f32 0x3F800000#32)) (Host.powf (broadcastInDim S128 ![] bcast_S_S128 (constant S_ .f32 0x461C4000#32))
        (Host.divf (addf (broadcastInDim S128 ![] bcast_S_S128 (constant S_ .f32 0x00000000#32))
          (mulf (broadcastInDim S128 ![] bcast_S_S128 (constant S_ .f32 0x40000000#32)) (sitofp .f32 (iotaInDim S128 32 0))))
          (broadcastInDim S128 ![] bcast_S_S128 (constant S_ .f32 0x43800000#32)))))))

theorem ang_real (r : Fin 4096) (a : Fin 128) : ∃ x : ℝ, angT (ix2 r a) = (x : EReal) := by
  unfold angT
  pointwise
  rw [fl_real r.val (by omega), fl_real a.val (by omega), ofBits_1e4, ofBits_2, ofBits_256, ← EReal.coe_mul, Alg.div_coe_eq _ _ (by norm_num), ← EReal.coe_mul]
  refine ⟨r.val * (1 / Real.rpow 10000 (1 / 256 * (2 * (a.val : ℝ)))), ?_⟩
  have h : Real.rpow 10000 (1 / 256 * (2 * (a.val : ℝ))) ≠ 0 := (Real.rpow_pos_of_pos (by norm_num) _).ne'
  rw [EReal.coe_mul, ← EReal.coe_mul (1 / 256)]
  exact congrArg (((r.val : ℝ) : EReal) * ·) ((Alg.div_coe_eq 1 _ h).trans (mul_one _))

/-- The blocks' numbers, as the host's floor division computes them. -/
def chT : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))
theorem ch_val (i : Fin 256) : chT (ix1 i) = BitVec.ofNat 32 (i.val / 64) := by
  unfold chT
  pointwise
  revert i
  decide +kernel

/-- The kernel's decays: of the pairs of a block's rows, of its rows, of its keys, of the whole block. -/
def seenT : FVec Ideal S256x256 .f32 :=
  let c1 : IVec S256x256 32 := broadcastInDim S256x256 ![0, 1] bcast_S256x1_S256x256_0_1 (broadcastInDim S256x1 ![0] bcast_S256_S256x1_0 chT)
  let c2 : IVec S256x256 32 := broadcastInDim S256x256 ![0, 1] bcast_S1x256_S256x256_0_1 (broadcastInDim S1x256 ![1] bcast_S256_S1x256_1 chT)
  let d : FVec Ideal S256x256 .f32 := subf (broadcastInDim S256x256 ![0, 1] bcast_S256x1_S256x256_0_1 (broadcastInDim S256x1 ![0] bcast_S256_S256x1_0 idT))
    (broadcastInDim S256x256 ![0, 1] bcast_S1x256_S256x256_0_1 (broadcastInDim S1x256 ![1] bcast_S256_S1x256_1 idT))
  select (cmpi .eq c1 c2) (Host.absf d) (select (cmpi .sgt c1 c2) d (broadcastInDim S256x256 ![] bcast_S_S256x256 (constant S_ .f32 0x7F800000#32)))
def intraT : FVec Ideal S4x256x256 .f32 :=
  Host.exp (mulf (broadcastInDim S4x256x256 ![0, 1, 2] bcast_S4x1x1_S4x256x256_0_1_2 (broadcastInDim S4x1x1 ![0] bcast_S4_S4x1x1_0 lgT))
    (broadcastInDim S4x256x256 ![0, 1, 2] bcast_S1x256x256_S4x256x256_0_1_2 (broadcastInDim S1x256x256 ![1, 2] bcast_S256x256_S1x256x256_1_2 seenT)))
def byRow (x : FVec Ideal S256 .f32) : FVec Ideal S4x256x1 .f32 :=
  broadcastInDim S4x256x1 ![0, 1] bcast_S4x256_S4x256x1_0_1 (Host.exp (mulf (broadcastInDim S4x256 ![0, 1] bcast_S4x1_S4x256_0_1 (broadcastInDim S4x1 ![0] bcast_S4_S4x1_0 lgT))
    (broadcastInDim S4x256 ![0, 1] bcast_S1x256_S4x256_0_1 (broadcastInDim S1x256 ![1] bcast_S256_S1x256_1 x))))
def cdT : FVec Ideal S4x1x1 .f32 :=
  broadcastInDim S4x1x1 ![0] bcast_S4_S4x1x1_0 (Host.exp (mulf lgT (broadcastInDim S4 ![] bcast_S_S4 (constant S_ .f32 0x43800000#32))))

theorem cmp_eq : ∀ a b : ℕ, a < 4 → b < 4 → IntOp.cmpi .eq (BitVec.ofNat 32 a) (BitVec.ofNat 32 b) = if a = b then 1#1 else 0#1 := by
  intro a b ha hb
  interval_cases a <;> interval_cases b <;> rfl
theorem cmp_gt : ∀ a b : ℕ, a < 4 → b < 4 → IntOp.cmpi .sgt (BitVec.ofNat 32 a) (BitVec.ofNat 32 b) = if b < a then 1#1 else 0#1 := by
  intro a b ha hb
  interval_cases a <;> interval_cases b <;> rfl

theorem seen_at (i j : Fin 256) : seenT (ix2 i j) = if j.val / 64 ≤ i.val / 64 then ((|(i.val : ℝ) - j.val| : ℝ) : EReal) else ⊤ := by
  unfold seenT
  have hc (i : Fin 256) := ch_val i
  have hi (i : Fin 256) := id_real i
  generalize chT = ch at hc ⊢
  generalize idT = id at hi ⊢
  pointwise
  rw [hc, hc, hi, hi, ofBits_inf, cmp_eq _ _ (by omega) (by omega), cmp_gt _ _ (by omega) (by omega), ← EReal.coe_sub]
  rcases lt_trichotomy (i.val / 64) (j.val / 64) with h | h | h
  · rw [if_neg (by omega), if_neg (by omega), if_neg (by omega)]
    rfl
  · rw [if_pos h, if_pos h.symm.le]
    show max _ (-_) = _
    rw [← EReal.coe_neg]
    exact (EReal.coe_strictMono.monotone.map_max).symm
  · rw [if_neg (by omega), if_pos (by omega), if_pos (by omega), abs_of_nonneg]
    · rfl
    · have : (j.val : ℝ) ≤ i.val := Nat.cast_le.mpr (by omega)
      linarith

theorem intra_at (h : Fin 4) (i j : Fin 256) :
    intraT (ix3 h i j) = ((if j.val / 64 ≤ i.val / 64 then Real.exp (Lg h * |(i.val : ℝ) - j.val|) else 0 : ℝ) : EReal) := by
  unfold intraT
  have hs := seen_at i j
  have hl := lg_real h
  generalize seenT = s at hs ⊢
  generalize lgT = l at hl ⊢
  pointwise
  rw [hs, hl]
  split
  · rw [← EReal.coe_mul]; rfl
  · rw [EReal.coe_mul_top_of_neg (Lg_neg h)]; rfl

theorem byRow_at (x : FVec Ideal S256 .f32) (h : Fin 4) (i : Fin 256) (y : ℝ) (hx : x (ix1 i) = (y : EReal)) :
    byRow x (ix3 h i 0) = (Real.exp (Lg h * y) : EReal) := by
  unfold byRow
  have hl := lg_real h
  generalize lgT = l at hl ⊢
  pointwise
  rw [hl, hx, ← EReal.coe_mul]
  rfl

theorem cd_at (h : Fin 4) : cdT (ix3 h 0 0) = (Real.exp (Lg h * ((256 : ℕ) : ℝ)) : EReal) := by
  unfold cdT
  have hl := lg_real h
  generalize lgT = l at hl ⊢
  pointwise
  rw [hl, ofBits_256, ← EReal.coe_mul]
  show ((Real.exp (Lg h * 256) : ℝ) : EReal) = _
  norm_num

/-- The kernel's arrays. -/
def qdT : FVec Ideal S4x256x1 .f32 := byRow (addf idT (broadcastInDim S256 ![] bcast_S_S256 (constant S_ .f32 0x3F800000#32)))
def kdT : FVec Ideal S4x256x1 .f32 := byRow (subf (broadcastInDim S256 ![] bcast_S_S256 (constant S_ .f32 0x437F0000#32)) idT)

theorem qd_at (h : Fin 4) (i : Fin 256) : qdT (ix3 h i 0) = (Real.exp (Lg h * ((i.val : ℝ) + 1)) : EReal) := by
  refine byRow_at _ h i _ ?_
  have hi := id_real i
  generalize idT = id at hi ⊢
  pointwise
  rw [hi, EReal.coe_add, EReal.coe_one]
theorem kd_at (h : Fin 4) (i : Fin 256) : kdT (ix3 h i 0) = (Real.exp (Lg h * (((256 : ℕ) : ℝ) - 1 - i.val)) : EReal) := by
  refine byRow_at _ h i _ ?_
  have hi := id_real i
  generalize idT = id at hi ⊢
  pointwise
  rw [hi, ofBits_255, ← EReal.coe_sub]
  norm_num

variable (m : (ℓ : Loc nD τ sig) → Buf (Elt Ideal) ℓ) (c : Dev nD)

abbrev vX : Vec Ideal S4096x6144 .bf16 := V m c main_v0
theorem V_x : vX m c = (truncf .bf16 (m (c.tc.loc main_arg0) : FVec Ideal S4096x6144 .f32) bitsLt_bf16_f32 : FVec Ideal S4096x6144 .bf16) := by
  unfold vX
  unfold_abbrev_sides
  after_reads_simp
theorem V_C : V m c main_v75 = Host.cos angT := by
  unfold_abbrev_sides
  after_reads_simp
  rfl
theorem V_S : V m c main_v76 = Host.sin angT := by
  unfold_abbrev_sides
  after_reads_simp
  rfl
theorem V_I : V m c main_v35 = intraT := by
  unfold_abbrev_sides
  after_reads_simp
  rfl
theorem V_D : V m c main_v44 = qdT := by
  unfold_abbrev_sides
  after_reads_simp
  rfl
theorem V_E : V m c main_v53 = kdT := by
  unfold_abbrev_sides
  after_reads_simp
  rfl
theorem V_G : V m c main_v57 = cdT := by
  unfold_abbrev_sides
  after_reads_simp
  rfl

end RetF
-- ==== Proof.RetStep.lean ====
module

public import proofs.«01_k».proof.Proof.RetMath
public import proofs.«01_k».proof.Proof.Gen.RetFwdRefIdeal.Run
public import Idealize.ShloMosaic.Lib.Pointwise
public import Idealize.ShloMosaic.Lib.DynamicIndex
public import Idealize.ShloMosaic.Lib.Pipeline.ValueKit

/-! The retention's reference over the extended reals: one chunk of 64 rows of its scan, element by element. -/

@[expose] public section

set_option maxRecDepth 16384

noncomputable section

namespace RetF

open Cert.RetFwdRefIdeal Cert.RetFwdRefIdeal.Gen Cert.RetFwdRefIdeal.Value
open Idealize.ShloMosaic Idealize.ShloMosaic.TcCoe Idealize.ShloMosaic.Tactic Idealize.ShloMosaic.StableHlo
open Cert

/-- The starts of a slice at chunk `n`: the counter, and three zeros. -/
abbrev starts (ctr : IVec S_ 32) : Fin 4 → ℤ :=
  fun k => (((![ctr, constantI S_ 32 0#32, constantI S_ 32 0#32, constantI S_ 32 0#32] : Fin 4 → (⟨S_, .i32⟩ : BufTy).Contents (Elt Ideal))) k (Shape.Idx.first h_S_)).toInt

theorem starts_eq (n : Fin 64) (ctr : IVec S_ 32) (h : ctr = fun _ => BitVec.ofNat 32 n.val) (a : Fin 4) : starts ctr a = ((![n.val, 0, 0, 0] : Fin 4 → ℕ) a : ℤ) := by
  subst h
  have hn := n.isLt
  fin_cases a
  · show (BitVec.ofNat 32 n.val).toInt = (n.val : ℤ)
    rw [BitVec.toInt_eq_toNat_of_lt (by rw [BitVec.toNat_ofNat]; omega), BitVec.toNat_ofNat, Nat.mod_eq_of_lt (by omega)]
  · rfl
  · rfl
  · rfl

section Slice
variable (n : Fin 64) (ctr : IVec S_ 32) (h : ctr = fun _ => BitVec.ofNat 32 n.val)

theorem fits {a b : ℕ} : (⟨4, ![64, 4, a, b]⟩ : Shape).Slices (![n.val, 0, 0, 0] : Fin 4 → ℕ) ⟨4, ![1, 4, a, b]⟩ := by
  refine ⟨rfl, fun x => ?_⟩
  have := n.isLt
  fin_cases x
  · show n.val + 1 ≤ 64; omega
  · show 0 + 4 ≤ 4; omega
  · show 0 + a ≤ a; omega
  · show 0 + b ≤ b; omega

include h

theorem slice_eq {a b : ℕ} (x : (⟨4, ![64, 4, a, b]⟩ : Shape).Idx → EReal) (hf : (⟨4, ![64, 4, a, b]⟩ : Shape).Slices (fun _ => 0) ⟨4, ![1, 4, a, b]⟩) :
    Host.dynamicSlice ⟨4, ![1, 4, a, b]⟩ x (starts ctr) hf = extractStridedSlice ⟨4, ![1, 4, a, b]⟩ ![n.val, 0, 0, 0] x (fits n) :=
  Host.dynamicSlice_eq_extractStridedSlice _ x (starts ctr) _ hf (fits n) (starts_eq n ctr h)

theorem update_eq {a b : ℕ} (x : (⟨4, ![64, 4, a, b]⟩ : Shape).Idx → EReal) (u : (⟨4, ![1, 4, a, b]⟩ : Shape).Idx → EReal)
    (hf : (⟨4, ![64, 4, a, b]⟩ : Shape).Slices (fun _ => 0) ⟨4, ![1, 4, a, b]⟩) :
    Host.dynamicUpdateSlice x u (starts ctr) hf = updateSlice x u ![n.val, 0, 0, 0] (fits n) := by
  refine Host.dynamicUpdateSlice_eq_updateSlice x u (starts ctr) hf _ (fun y => ?_) (fits n)
  have := n.isLt
  rw [starts_eq n ctr h]
  fin_cases y
  · show (min (max (n.val : ℤ) 0) ((64 - 1 : ℕ) : ℤ)).toNat = n.val; omega
  · show (min (max (0 : ℤ) 0) ((4 - 4 : ℕ) : ℤ)).toNat = 0; omega
  · show (min (max (0 : ℤ) 0) ((a - a : ℕ) : ℤ)).toNat = 0; omega
  · show (min (max (0 : ℤ) 0) ((b - b : ℕ) : ℤ)).toNat = 0; omega

theorem chunkQ (x : FVec Ideal S64x4x64x256 .f32) (hh : Fin 4) (i : Fin 64) (d : Fin 256) :
    shapeCast S4x64x256 (Host.dynamicSlice S1x4x64x256 x (starts ctr) sliceFits_S64x4x64x256_S1x4x64x256) shapeCasts_S1x4x64x256_S4x64x256 (ix3 hh i d) = x (ix4 n hh i d) := by
  rw [slice_eq n ctr h]
  pointwise
theorem chunkV (x : FVec Ideal S64x4x64x512 .f32) (hh : Fin 4) (i : Fin 64) (e : Fin 512) :
    shapeCast S4x64x512 (Host.dynamicSlice S1x4x64x512 x (starts ctr) sliceFits_S64x4x64x512_S1x4x64x512) shapeCasts_S1x4x64x512_S4x64x512 (ix3 hh i e) = x (ix4 n hh i e) := by
  rw [slice_eq n ctr h]
  pointwise
theorem upd9 (x : FVec Ideal S64x4x64x512 .f32) (u : FVec Ideal S4x64x512 .f32) (k : Fin 64) (hh : Fin 4) (i : Fin 64) (e : Fin 512) :
    Host.dynamicUpdateSlice x (broadcastInDim S1x4x64x512 ![1, 2, 3] bcast_S4x64x512_S1x4x64x512_1_2_3 u) (starts ctr) updateFits_S64x4x64x512_S1x4x64x512 (ix4 k hh i e)
      = if k = n then u (ix3 hh i e) else x (ix4 k hh i e) := by
  rw [update_eq n ctr h]
  pointwise
  exact if_congr ⟨fun h => Fin.ext (by omega), fun h => by subst h; omega⟩ rfl rfl
theorem upd10 (x : FVec Ideal S64x4x256x512 .f32) (u : FVec Ideal S4x256x512 .f32) (k : Fin 64) (hh : Fin 4) (d : Fin 256) (e : Fin 512) :
    Host.dynamicUpdateSlice x (broadcastInDim S1x4x256x512 ![1, 2, 3] bcast_S4x256x512_S1x4x256x512_1_2_3 u) (starts ctr) updateFits_S64x4x256x512_S1x4x256x512 (ix4 k hh d e)
      = if k = n then u (ix3 hh d e) else x (ix4 k hh d e) := by
  rw [update_eq n ctr h]
  pointwise
  exact if_congr ⟨fun h => Fin.ext (by omega), fun h => by subst h; omega⟩ rfl rfl
end Slice

section Sums
variable (q k : FVec Ideal S4x64x256 .f32) (v : FVec Ideal S4x64x512 .f32) (st : FVec Ideal S4x256x512 .f32)
variable (I : FVec Ideal S4x64x64 .f32) (D E : FVec Ideal S4x64x1 .f32) (G : FVec Ideal S4x1x1 .f32)

theorem next_apply (hh : Fin 4) (d : Fin 256) (e : Fin 512) :
    addf (mulf st (broadcastInDim S4x256x512 ![0, 1, 2] bcast_S4x1x1_S4x256x512_0_1_2 G)) (Host.dotGeneral dot_S4x64x256_S4x64x512_S4x256x512_1_1_2_2_0_0 none
      (mulf k (broadcastInDim S4x64x256 ![0, 1, 2] bcast_S4x64x1_S4x64x256_0_1_2 E)) v) (ix3 hh d e)
      = st (ix3 hh d e) * G (ix3 hh 0 0) + ∑ j : Fin 64, (k (ix3 hh j d) * E (ix3 hh j 0)) * v (ix3 hh j e) := by
  pointwise
theorem rows_apply (hh : Fin 4) (i : Fin 64) (e : Fin 512) :
    addf (Host.dotGeneral dot_S4x64x64_S4x64x512_S4x64x512_2_1_1_2_0_0 none (mulf (Host.dotGeneral dot_S4x64x256_S4x64x256_S4x64x64_2_2_1_1_0_0 none q k) I) v)
      (Host.dotGeneral dot_S4x64x256_S4x256x512_S4x64x512_2_1_1_2_0_0 none (mulf q (broadcastInDim S4x64x256 ![0, 1, 2] bcast_S4x64x1_S4x64x256_0_1_2 D)) st) (ix3 hh i e)
      = (∑ j : Fin 64, (∑ d : Fin 256, q (ix3 hh i d) * k (ix3 hh j d)) * I (ix3 hh i j) * v (ix3 hh j e)) + ∑ d : Fin 256, (q (ix3 hh i d) * D (ix3 hh i 0)) * st (ix3 hh d e) := by
  pointwise
end Sums

variable (Q K : Fin 4 → ℕ → Fin 256 → ℝ) (W : Fin 4 → ℕ → Fin 512 → ℝ) (L : Fin 4 → ℝ)

/-- What the scan reads but does not change: the chunks of the queries, keys and values, and the decays. -/
structure Fixed (V0 : Valuation τ sig (Elt Ideal)) : Prop where
  q : ∀ n h i d, (V0 (Proc.devRef .tc main_v128_0) : FVec Ideal S64x4x64x256 .f32) (ix4 n h i d) = (Q h (n.val * 64 + i.val) d : EReal)
  k : ∀ n h i d, (V0 (Proc.devRef .tc main_v128_1) : FVec Ideal S64x4x64x256 .f32) (ix4 n h i d) = (K h (n.val * 64 + i.val) d : EReal)
  v : ∀ n h i e, (V0 (Proc.devRef .tc main_v128_2) : FVec Ideal S64x4x64x512 .f32) (ix4 n h i e) = (W h (n.val * 64 + i.val) e : EReal)
  I : ∀ h i j, (V0 (Proc.devRef .tc main_v128_3) : FVec Ideal S4x64x64 .f32) (ix3 h i j) = (Real.exp (L h * |(i.val : ℝ) - j.val|) : EReal)
  D : ∀ h i, (V0 (Proc.devRef .tc main_v128_4) : FVec Ideal S4x64x1 .f32) (ix3 h i 0) = (Real.exp (L h * ((i.val : ℝ) + 1)) : EReal)
  G : ∀ h, (V0 (Proc.devRef .tc main_v128_5) : FVec Ideal S4x1x1 .f32) (ix3 h 0 0) = (Real.exp (L h * ((64 : ℕ) : ℝ)) : EReal)
  E : ∀ h j, (V0 (Proc.devRef .tc main_v128_6) : FVec Ideal S4x64x1 .f32) (ix3 h j 0) = (Real.exp (L h * (((64 : ℕ) : ℝ) - 1 - j.val)) : EReal)

/-- After `n` chunks: the state, and the rows and states of the chunks gone by. -/
structure Done (n : ℕ) (V0 : Valuation τ sig (Elt Ideal)) : Prop where
  fixed : Fixed Q K W L V0
  ctr : (V0 (Proc.devRef .tc main_v128_7) : IVec S_ 32) = fun _ => BitVec.ofNat 32 n
  state : ∀ h d e, (V0 (Proc.devRef .tc main_v128_8) : FVec Ideal S4x256x512 .f32) (ix3 h d e) = (St (L h) (K h) (W h) (n * 64) d e : EReal)
  rows : ∀ (k : Fin 64) h i e, k.val < n → (V0 (Proc.devRef .tc main_v128_9) : FVec Ideal S64x4x64x512 .f32) (ix4 k h i e) = (Out (L h) (Q h) (K h) (W h) (k.val * 64 + i.val) e : EReal)
  states : ∀ (k : Fin 64) h d e, k.val < n → (V0 (Proc.devRef .tc main_v128_10) : FVec Ideal S64x4x256x512 .f32) (ix4 k h d e) = (St (L h) (K h) (W h) (k.val * 64) d e : EReal)

variable {Q K W L}

theorem Fixed.step {V0 : Valuation τ sig (Elt Ideal)} (f : Fixed Q K W L V0) : Fixed Q K W L (STEP V0) where
  q := by rw [STEP_main_v128_0]; exact f.q
  k := by rw [STEP_main_v128_1]; exact f.k
  v := by rw [STEP_main_v128_2]; exact f.v
  I := by rw [STEP_main_v128_3]; exact f.I
  D := by rw [STEP_main_v128_4]; exact f.D
  G := by rw [STEP_main_v128_5]; exact f.G
  E := by rw [STEP_main_v128_6]; exact f.E

section Trip
variable (n : Fin 64) (V0 : Valuation τ sig (Elt Ideal)) (f : Done Q K W L n.val V0)
include f

theorem vq (h : Fin 4) (i : Fin 64) (d : Fin 256) : (res_main_while0b_v134 V0 : FVec Ideal S4x64x256 .f32) (ix3 h i d) = (Q h (n.val * 64 + i.val) d : EReal) :=
  (chunkQ n _ f.ctr (V0 (Proc.devRef .tc main_v128_0)) h i d).trans (f.fixed.q n h i d)
theorem vk (h : Fin 4) (i : Fin 64) (d : Fin 256) : (res_main_while0b_v135 V0 : FVec Ideal S4x64x256 .f32) (ix3 h i d) = (K h (n.val * 64 + i.val) d : EReal) :=
  (chunkQ n _ f.ctr (V0 (Proc.devRef .tc main_v128_1)) h i d).trans (f.fixed.k n h i d)
theorem vv (h : Fin 4) (i : Fin 64) (e : Fin 512) : (res_main_while0b_v136 V0 : FVec Ideal S4x64x512 .f32) (ix3 h i e) = (W h (n.val * 64 + i.val) e : EReal) :=
  (chunkV n _ f.ctr (V0 (Proc.devRef .tc main_v128_2)) h i e).trans (f.fixed.v n h i e)

theorem step_state (h : Fin 4) (d : Fin 256) (e : Fin 512) : (step_main_v128_8 V0 : FVec Ideal S4x256x512 .f32) (ix3 h d e) = (St (L h) (K h) (W h) ((n.val + 1) * 64) d e : EReal) := by
  refine (next_apply (res_main_while0b_v135 V0) (res_main_while0b_v136 V0) (V0 (Proc.devRef .tc main_v128_8)) (V0 (Proc.devRef .tc main_v128_6)) (V0 (Proc.devRef .tc main_v128_5)) h d e).trans ?_
  rw [Nat.succ_mul, ← St_add _ _ _ (n.val * 64) 64, f.state, f.fixed.G]
  simp only [vk n V0 f, vv n V0 f, f.fixed.E, EReal.coe_add, EReal.coe_mul, Alg.coe_sum]

theorem step_rows (k : Fin 64) (h : Fin 4) (i : Fin 64) (e : Fin 512) (hk : k.val < n.val + 1) :
    (step_main_v128_9 V0 : FVec Ideal S64x4x64x512 .f32) (ix4 k h i e) = (Out (L h) (Q h) (K h) (W h) (k.val * 64 + i.val) e : EReal) := by
  refine (upd9 n _ f.ctr (V0 (Proc.devRef .tc main_v128_9)) _ k h i e).trans ?_
  by_cases hn : k = n
  · subst hn
    rw [if_pos rfl, rows_apply, ← Out_add _ _ _ _ (k.val * 64) 64 (by omega) (by norm_num)]
    have hi (j : Fin 64) : j.val / 64 ≤ i.val / 64 := by omega
    simp only [vq k V0 f, vk k V0 f, vv k V0 f, f.fixed.I, f.fixed.D, f.state, if_pos (hi _), EReal.coe_add, EReal.coe_mul, Alg.coe_sum]
  · rw [if_neg hn]
    exact f.rows k h i e (lt_of_le_of_ne (Nat.lt_succ_iff.mp hk) fun h => hn (Fin.ext h))

theorem step_states (k : Fin 64) (h : Fin 4) (d : Fin 256) (e : Fin 512) (hk : k.val < n.val + 1) :
    (step_main_v128_10 V0 : FVec Ideal S64x4x256x512 .f32) (ix4 k h d e) = (St (L h) (K h) (W h) (k.val * 64) d e : EReal) := by
  refine (upd10 n _ f.ctr (V0 (Proc.devRef .tc main_v128_10)) _ k h d e).trans ?_
  by_cases hn : k = n
  · subst hn
    rw [if_pos rfl]
    exact f.state h d e
  · rw [if_neg hn]
    exact f.states k h d e (lt_of_le_of_ne (Nat.lt_succ_iff.mp hk) fun h => hn (Fin.ext h))

theorem Done.step : Done Q K W L (n.val + 1) (STEP V0) where
  fixed := f.fixed.step
  ctr := by
    rw [STEP_main_v128_7]
    unfold step_main_v128_7
    rw [f.ctr]
    funext _
    exact (BitVec.ofNat_add n.val 1).symm
  state := by rw [STEP_main_v128_8]; exact step_state n V0 f
  rows := by rw [STEP_main_v128_9]; exact fun k h i e hk => step_rows n V0 f k h i e hk
  states := by rw [STEP_main_v128_10]; exact fun k h d e hk => step_states n V0 f k h d e hk
end Trip

/-- After all the chunks. -/
theorem done (V0 : Valuation τ sig (Elt Ideal)) (f : Done Q K W L 0 V0) : ∀ n : ℕ, n ≤ 64 → Done Q K W L n (STEP^[n] V0)
  | 0, _ => f
  | n + 1, hn => by
    rw [Function.iterate_succ_apply']
    exact Done.step ⟨n, by omega⟩ _ (done V0 f n (by omega))

end RetF
-- ==== Proof.RetEnt.lean ====
module

public import proofs.«01_k».proof.Proof.RetTab
public import proofs.«01_k».proof.Proof.RetStep
public import Idealize.ShloMosaic.Lib.StableHlo.RunRead

/-! What the retention's reference carries into its scan: the chunks of the rotated queries and keys and of the values, and the decays. -/

@[expose] public section

set_option maxRecDepth 16384

noncomputable section

namespace RetF

open Cert.RetFwdRefIdeal Cert.RetFwdRefIdeal.Gen Cert.RetFwdRefIdeal.Value
open Idealize.ShloMosaic Idealize.ShloMosaic.TcCoe Idealize.ShloMosaic.Tactic Idealize.ShloMosaic.StableHlo
open Cert

/-- The rotation of one projection's heads. -/
def ropeT (C S : FVec Ideal S4096x128 .f32) (x : FVec Ideal S4096x4x256 .f32) : FVec Ideal S4096x4x256 .f32 :=
  let C3 : FVec Ideal S4096x4x128 .f32 := broadcastInDim S4096x4x128 ![0, 1, 2] bcast_S4096x1x128_S4096x4x128_0_1_2 (broadcastInDim S4096x1x128 ![0, 2] bcast_S4096x128_S4096x1x128_0_2 C)
  let S3 : FVec Ideal S4096x4x128 .f32 := broadcastInDim S4096x4x128 ![0, 1, 2] bcast_S4096x1x128_S4096x4x128_0_1_2 (broadcastInDim S4096x1x128 ![0, 2] bcast_S4096x128_S4096x1x128_0_2 S)
  let a := extractStridedSlice S4096x4x128 ![0, 0, 0] x slices_S4096x4x256_S4096x4x128_0_0_0
  let b := extractStridedSlice S4096x4x128 ![0, 0, 128] x slices_S4096x4x256_S4096x4x128_0_0_128
  concatenate S4096x4x256 2 [⟨S4096x4x128, subf (mulf a C3) (mulf b S3)⟩, ⟨S4096x4x128, addf (mulf b C3) (mulf a S3)⟩] concatenates_S4096x4x128_S4096x4x128_S4096x4x256_d2

def projQ (x : FVec Ideal S4096x6144 .f32) : FVec Ideal S4096x4x256 .f32 :=
  shapeCast S4096x4x256 (extractStridedSlice S4096x1024 ![0, 0] x slices_S4096x6144_S4096x1024_0_0) shapeCasts_S4096x1024_S4096x4x256
def projK (x : FVec Ideal S4096x6144 .f32) : FVec Ideal S4096x4x256 .f32 :=
  shapeCast S4096x4x256 (extractStridedSlice S4096x1024 ![0, 1024] x slices_S4096x6144_S4096x1024_0_1024) shapeCasts_S4096x1024_S4096x4x256
def projV (x : FVec Ideal S4096x6144 .f32) : FVec Ideal S4096x4x512 .f32 :=
  shapeCast S4096x4x512 (extractStridedSlice S4096x2048 ![0, 2048] x slices_S4096x6144_S4096x2048_0_2048) shapeCasts_S4096x2048_S4096x4x512

def chunks (x : FVec Ideal S4096x4x256 .f32) : FVec Ideal S64x4x64x256 .f32 :=
  transpose S64x4x64x256 [0, 2, 1, 3] (shapeCast S64x64x4x256 x shapeCasts_S4096x4x256_S64x64x4x256) transposes_S64x64x4x256_S64x4x64x256_0_2_1_3
def chunksV (x : FVec Ideal S4096x4x512 .f32) : FVec Ideal S64x4x64x512 .f32 :=
  transpose S64x4x64x512 [0, 2, 1, 3] (shapeCast S64x64x4x512 x shapeCasts_S4096x4x512_S64x64x4x512) transposes_S64x64x4x512_S64x4x64x512_0_2_1_3

/-- Row `i` of chunk `n`. -/
def rowC (n i : Fin 64) : Fin 4096 := ⟨n.val * 64 + i.val, by omega⟩

theorem chunks_at (x : FVec Ideal S4096x4x256 .f32) (n : Fin 64) (h : Fin 4) (i : Fin 64) (d : Fin 256) : chunks x (ix4 n h i d) = x (ix3 (rowC n i) h d) := by
  unfold chunks
  pointwise [rowC]
theorem chunksV_at (x : FVec Ideal S4096x4x512 .f32) (n : Fin 64) (h : Fin 4) (i : Fin 64) (e : Fin 512) : chunksV x (ix4 n h i e) = x (ix3 (rowC n i) h e) := by
  unfold chunksV
  pointwise [rowC]

/-- Head `h`'s columns of the projections. -/
def cq (h : Fin 4) (d : Fin 256) : Fin 6144 := ⟨h.val * 256 + d.val, by omega⟩
def ck (h : Fin 4) (d : Fin 256) : Fin 6144 := ⟨1024 + (h.val * 256 + d.val), by omega⟩
def cv (h : Fin 4) (e : Fin 512) : Fin 6144 := ⟨2048 + (h.val * 512 + e.val), by omega⟩

theorem projQ_at (x : FVec Ideal S4096x6144 .f32) (r : Fin 4096) (h : Fin 4) (d : Fin 256) : projQ x (ix3 r h d) = x (ix2 r (cq h d)) := by
  unfold projQ
  pointwise [cq]
theorem projK_at (x : FVec Ideal S4096x6144 .f32) (r : Fin 4096) (h : Fin 4) (d : Fin 256) : projK x (ix3 r h d) = x (ix2 r (ck h d)) := by
  unfold projK
  pointwise [ck]
theorem projV_at (x : FVec Ideal S4096x6144 .f32) (r : Fin 4096) (h : Fin 4) (e : Fin 512) : projV x (ix3 r h e) = x (ix2 r (cv h e)) := by
  unfold projV
  pointwise [cv]

theorem rope_at (C S : FVec Ideal S4096x128 .f32) (x : FVec Ideal S4096x4x256 .f32) (r : Fin 4096) (h : Fin 4) (d : Fin 256) :
    ropeT C S x (ix3 r h d) = rot (fun a => C (ix2 r a)) (fun a => S (ix2 r a)) (fun a => x (ix3 r h a)) d := by
  unfold ropeT rot
  pointwise

variable (m : (ℓ : Loc nD τ sig) → Buf (Elt Ideal) ℓ) (c : Dev nD)
abbrev argX : FVec Ideal S4096x6144 .f32 := m (c.tc.loc main_arg0)
abbrev E0 : Valuation τ sig (Elt Ideal) := entryContents preI m c

theorem E_q : E0 m c (Proc.devRef .tc main_v128_0) = chunks (ropeT (Host.cos angT) (Host.sin angT) (projQ (argX m c))) := by
  simp only [E0, entryContents, afterL_cons, afterL_nil]
  after_reads_simp
  rfl
theorem E_k : E0 m c (Proc.devRef .tc main_v128_1) = chunks (mulf (ropeT (Host.cos angT) (Host.sin angT) (projK (argX m c))) (broadcastInDim S4096x4x256 ![] bcast_S_S4096x4x256 (constant S_ .f32 0x3D800000#32))) := by
  simp only [E0, entryContents, afterL_cons, afterL_nil]
  after_reads_simp
  rfl
theorem E_v : E0 m c (Proc.devRef .tc main_v128_2) = chunksV (projV (argX m c)) := by
  simp only [E0, entryContents, afterL_cons, afterL_nil]
  after_reads_simp
  rfl
theorem E_ctr : E0 m c (Proc.devRef .tc main_v128_7) = fun _ => BitVec.ofNat 32 0 := ctr_entry m c
theorem E_st : E0 m c (Proc.devRef .tc main_v128_8) = (broadcastInDim S4x256x512 ![] bcast_S_S4x256x512 (constant S_ .f32 0x00000000#32) : FVec Ideal S4x256x512 .f32) := by
  simp only [E0, entryContents, afterL_cons, afterL_nil]
  after_reads_simp
  rfl

def idR : FVec Ideal S64 .f32 := sitofp .f32 (iotaInDim S64 32 0)
theorem idR_real (i : Fin 64) : idR (ix1 i) = ((i.val : ℝ) : EReal) := by
  unfold idR
  pointwise
  exact fl_real _ (by omega)

def intraR : FVec Ideal S4x64x64 .f32 :=
  Host.exp (mulf (broadcastInDim S4x64x64 ![0, 1, 2] bcast_S4x1x1_S4x64x64_0_1_2 (broadcastInDim S4x1x1 ![0] bcast_S4_S4x1x1_0 lgT))
    (broadcastInDim S4x64x64 ![0, 1, 2] bcast_S1x64x64_S4x64x64_0_1_2 (broadcastInDim S1x64x64 ![1, 2] bcast_S64x64_S1x64x64_1_2
      (Host.absf (subf (broadcastInDim S64x64 ![0, 1] bcast_S64x1_S64x64_0_1 (broadcastInDim S64x1 ![0] bcast_S64_S64x1_0 idR))
        (broadcastInDim S64x64 ![0, 1] bcast_S1x64_S64x64_0_1 (broadcastInDim S1x64 ![1] bcast_S64_S1x64_1 idR)))))))
def rowR (x : FVec Ideal S64 .f32) : FVec Ideal S4x64x1 .f32 :=
  broadcastInDim S4x64x1 ![0, 1] bcast_S4x64_S4x64x1_0_1 (Host.exp (mulf (broadcastInDim S4x64 ![0, 1] bcast_S4x1_S4x64_0_1 (broadcastInDim S4x1 ![0] bcast_S4_S4x1_0 lgT))
    (broadcastInDim S4x64 ![0, 1] bcast_S1x64_S4x64_0_1 (broadcastInDim S1x64 ![1] bcast_S64_S1x64_1 x))))
def cdR : FVec Ideal S4x1x1 .f32 :=
  broadcastInDim S4x1x1 ![0] bcast_S4_S4x1x1_0 (Host.exp (mulf lgT (broadcastInDim S4 ![] bcast_S_S4 (constant S_ .f32 0x42800000#32))))
def qdR : FVec Ideal S4x64x1 .f32 := rowR (addf idR (broadcastInDim S64 ![] bcast_S_S64 (constant S_ .f32 0x3F800000#32)))
def kdR : FVec Ideal S4x64x1 .f32 := rowR (subf (broadcastInDim S64 ![] bcast_S_S64 (constant S_ .f32 0x427C0000#32)) idR)

theorem intraR_at (h : Fin 4) (i j : Fin 64) : intraR (ix3 h i j) = (Real.exp (Lg h * |(i.val : ℝ) - j.val|) : EReal) := by
  unfold intraR
  have hi (i : Fin 64) := idR_real i
  have hl := lg_real h
  generalize idR = id at hi ⊢
  generalize lgT = l at hl ⊢
  pointwise
  rw [hl, hi, hi, ← EReal.coe_sub]
  show Ideal.exp (_ * max _ (-_)) = _
  rw [← EReal.coe_neg, ← EReal.coe_strictMono.monotone.map_max, ← EReal.coe_mul]
  rfl
theorem rowR_at (x : FVec Ideal S64 .f32) (h : Fin 4) (i : Fin 64) (y : ℝ) (hx : x (ix1 i) = (y : EReal)) :
    rowR x (ix3 h i 0) = (Real.exp (Lg h * y) : EReal) := by
  unfold rowR
  have hl := lg_real h
  generalize lgT = l at hl ⊢
  pointwise
  rw [hl, hx, ← EReal.coe_mul]
  rfl
theorem cdR_at (h : Fin 4) : cdR (ix3 h 0 0) = (Real.exp (Lg h * ((64 : ℕ) : ℝ)) : EReal) := by
  unfold cdR
  have hl := lg_real h
  generalize lgT = l at hl ⊢
  pointwise
  rw [hl, ofBits_64, ← EReal.coe_mul]
  show ((Real.exp (Lg h * 64) : ℝ) : EReal) = _
  norm_num
theorem qdR_at (h : Fin 4) (i : Fin 64) : qdR (ix3 h i 0) = (Real.exp (Lg h * ((i.val : ℝ) + 1)) : EReal) := by
  refine rowR_at _ h i _ ?_
  have hi := idR_real i
  generalize idR = id at hi ⊢
  pointwise
  rw [hi, EReal.coe_add, EReal.coe_one]
theorem kdR_at (h : Fin 4) (i : Fin 64) : kdR (ix3 h i 0) = (Real.exp (Lg h * (((64 : ℕ) : ℝ) - 1 - i.val)) : EReal) := by
  refine rowR_at _ h i _ ?_
  have hi := idR_real i
  generalize idR = id at hi ⊢
  pointwise
  rw [hi, ofBits_63, ← EReal.coe_sub]
  norm_num

theorem E_I : E0 m c (Proc.devRef .tc main_v128_3) = intraR := by
  simp only [E0, entryContents, afterL_cons, afterL_nil]
  after_reads_simp
  rfl
theorem E_D : E0 m c (Proc.devRef .tc main_v128_4) = qdR := by
  simp only [E0, entryContents, afterL_cons, afterL_nil]
  after_reads_simp
  rfl
theorem E_G : E0 m c (Proc.devRef .tc main_v128_5) = cdR := by
  simp only [E0, entryContents, afterL_cons, afterL_nil]
  after_reads_simp
  rfl
theorem E_E : E0 m c (Proc.devRef .tc main_v128_6) = kdR := by
  simp only [E0, entryContents, afterL_cons, afterL_nil]
  after_reads_simp
  rfl

section Real
variable (p : S4096x6144.Idx → ℝ) (ang : Fin 4096 → Fin 128 → ℝ)

/-- Head `h`'s operands: its columns of the projections, the rotation's tables, its decay. -/
def ops (h : Fin 4) : Ops where
  xq r d := if hr : r < 4096 then p (ix2 ⟨r, hr⟩ (cq h d)) else 0
  xk r d := if hr : r < 4096 then p (ix2 ⟨r, hr⟩ (ck h d)) else 0
  xv r e := if hr : r < 4096 then p (ix2 ⟨r, hr⟩ (cv h e)) else 0
  C r a := if hr : r < 4096 then Real.cos (ang ⟨r, hr⟩ a) else 0
  S r a := if hr : r < 4096 then Real.sin (ang ⟨r, hr⟩ a) else 0
  L := Lg h

theorem xq_at (h : Fin 4) (r : Fin 4096) (d : Fin 256) : (ops p ang h).xq r.val d = p (ix2 r (cq h d)) := dif_pos r.isLt
theorem xk_at (h : Fin 4) (r : Fin 4096) (d : Fin 256) : (ops p ang h).xk r.val d = p (ix2 r (ck h d)) := dif_pos r.isLt
theorem xv_at (h : Fin 4) (r : Fin 4096) (e : Fin 512) : (ops p ang h).xv r.val e = p (ix2 r (cv h e)) := dif_pos r.isLt
theorem C_at (h : Fin 4) (r : Fin 4096) (a : Fin 128) : (ops p ang h).C r.val a = Real.cos (ang r a) := dif_pos r.isLt
theorem S_at (h : Fin 4) (r : Fin 4096) (a : Fin 128) : (ops p ang h).S r.val a = Real.sin (ang r a) := dif_pos r.isLt

variable (h0 : ∀ i, argX m c i = (p i : EReal)) (hA : ∀ r a, angT (ix2 r a) = (ang r a : EReal))

include hA in
theorem cos_at (h : Fin 4) (r : Fin 4096) (a : Fin 128) : (Host.cos angT : FVec Ideal S4096x128 .f32) (ix2 r a) = ((ops p ang h).C r.val a : EReal) := by
  rw [C_at]
  show Ideal.cos (angT (ix2 r a)) = _
  rw [hA]
  rfl
include hA in
theorem sin_at (h : Fin 4) (r : Fin 4096) (a : Fin 128) : (Host.sin angT : FVec Ideal S4096x128 .f32) (ix2 r a) = ((ops p ang h).S r.val a : EReal) := by
  rw [S_at]
  show Ideal.sin (angT (ix2 r a)) = _
  rw [hA]
  rfl

include hA in
theorem rope_real (x : FVec Ideal S4096x4x256 .f32) (h : Fin 4) (r : Fin 4096) (y : Fin 256 → ℝ) (hx : ∀ d, x (ix3 r h d) = (y d : EReal)) (d : Fin 256) :
    ropeT (Host.cos angT) (Host.sin angT) x (ix3 r h d) = (rotR ((ops p ang h).C r.val) ((ops p ang h).S r.val) y d : EReal) := by
  rw [rope_at, ← rot_real]
  simp only [cos_at p ang hA h, sin_at p ang hA h, hx]

include h0 hA in
theorem start : Done (fun h => (ops p ang h).Q) (fun h => (ops p ang h).K) (fun h => (ops p ang h).xv) Lg 0 (E0 m c) where
  fixed :=
    { q := fun n h i d => by
        rw [E_q, chunks_at, rope_real p ang hA _ h (rowC n i) ((ops p ang h).xq (rowC n i).val) fun d => by rw [projQ_at, h0, xq_at]]
        rfl
      k := fun n h i d => by
        rw [E_k, chunks_at]
        show ropeT _ _ _ _ * Ideal.ofBits .f32 0x3D800000#32 = _
        rw [rope_real p ang hA _ h (rowC n i) ((ops p ang h).xk (rowC n i).val) fun d => by rw [projK_at, h0, xk_at], ofBits_16th, ← EReal.coe_mul]
        rfl
      v := fun n h i e => by
        rw [E_v, chunksV_at, projV_at, h0]
        exact congrArg _ (xv_at p ang h (rowC n i) e).symm
      I := fun h i j => by rw [E_I]; exact intraR_at h i j
      D := fun h i => by rw [E_D]; exact qdR_at h i
      G := fun h => by rw [E_G]; exact cdR_at h
      E := fun h j => by rw [E_E]; exact kdR_at h j }
  ctr := E_ctr m c
  state := fun h d e => by
    rw [E_st, Nat.zero_mul, St_zero, EReal.coe_zero]
    exact Ideal.ofBits_zero_f32
  rows := fun k h i e hk => absurd hk (Nat.not_lt_zero _)
  states := fun k h d e hk => absurd hk (Nat.not_lt_zero _)

/-- The reference's results. -/
theorem ref_out (r : Fin 4096) (h : Fin 4) (e : Fin 512) (V0 : Valuation τ sig (Elt Ideal))
    (f : Done (fun h => (ops p ang h).Q) (fun h => (ops p ang h).K) (fun h => (ops p ang h).xv) Lg 64 V0) :
    (out_main_v130 V0 : FVec Ideal S4096x2048 .f32) (ix2 r (⟨h.val * 512 + e.val, by omega⟩ : Fin 2048))
      = (Out (Lg h) (ops p ang h).Q (ops p ang h).K (ops p ang h).xv r.val e : EReal) := by
  have hr := f.rows ⟨r.val / 64, by omega⟩ h ⟨r.val % 64, by omega⟩ e (by show r.val / 64 < 64; omega)
  rw [show r.val / 64 * 64 + r.val % 64 = r.val by omega] at hr
  refine Eq.trans ?_ hr
  unfold out_main_v130
  generalize (V0 (Proc.devRef .tc main_v128_9) : FVec Ideal S64x4x64x512 .f32) = x
  pointwise

theorem ref_states (h : Fin 4) (b : Fin 16) (d : Fin 256) (e : Fin 512) (V0 : Valuation τ sig (Elt Ideal))
    (f : Done (fun h => (ops p ang h).Q) (fun h => (ops p ang h).K) (fun h => (ops p ang h).xv) Lg 64 V0) :
    (out_main_v133 V0 : FVec Ideal S4x16x256x512 .bf16) (ix4 h b d e) = (St (Lg h) (ops p ang h).K (ops p ang h).xv (b.val * 256) d e : EReal) := by
  have hr := f.states ⟨4 * b.val, by omega⟩ h d e (by show 4 * b.val < 64; omega)
  rw [show 4 * b.val * 64 = b.val * 256 by omega] at hr
  refine Eq.trans ?_ hr
  unfold out_main_v133
  generalize (V0 (Proc.devRef .tc main_v128_10) : FVec Ideal S64x4x256x512 .f32) = x
  pointwise
end Real

end RetF
-- ==== Proof.RetF.lean ====
module

public import proofs.«01_k».proof.Defs
public import proofs.«01_k».proof.Proof.RetEnt
public import proofs.«01_k».proof.Proof.Gen.Pre_retf_finite
public import Idealize.ShloMosaic.Lib.Claim
public import Idealize.ShloMosaic.Lib.ReduceAll
public import Idealize.ShloMosaic.Lib.StableHlo.RunRead
public import Idealize.ShloMosaic.Lib.Pointwise

/-! The retention: the outputs and the saved states that the grid leaves are the reference's, at a finite projection. -/

@[expose] public section

set_option maxRecDepth 16384

noncomputable section

namespace RetF

open Cert.RetFwdIdeal Cert.RetFwdIdeal.Gen
open Idealize.ShloMosaic Idealize.ShloMosaic.TcCoe Idealize.ShloMosaic.Tactic Idealize.SL.Sem
open Cert

theorem real_of_pre (x : FVec Ideal S4096x6144 .f32) (h : Cert.Pre_retf_finite.fn (F := Ideal) x = fun _ => 1#1) : ∀ i, ∃ r : ℝ, x i = (r : EReal) := by
  have h0 := congrFun h ix0
  simp only [Cert.Pre_retf_finite.fn] at h0
  exact fun i => Alg.real_of_test _ (Host.reduce_andi_all _ _ _ _ _ h0 i)

variable (m : (ℓ : Loc nD τ sig) → Buf (Elt Ideal) ℓ) (c : Dev nD) (t : Fin cfg0.N)

/-- The blocks' indices at a point: its head, and its tile of rows. -/
theorem idx : ∀ t : Fin cfg0.N, win0_0.index t = ![t.val % 4, t.val / 4] ∧ win0_1.index t = ![t.val % 4, 4 + t.val / 4] ∧ win0_2.index t = ![t.val % 4, 4 + t.val / 4] ∧
    win0_3.index t = ![t.val % 4, 0] ∧ win0_4.index t = ![t.val % 4, 0] ∧ win0_5.index t = ![t.val / 4, 0, 0] ∧ win0_6.index t = ![t.val / 4, 0, 0] ∧
    win0_7.index t = ![t.val / 4, 0, 0] ∧ win0_8.index t = ![t.val / 4, 0, 0] ∧ win0_9.index t = ![t.val % 4, t.val / 4] ∧ win0_10.index t = ![t.val / 4, t.val % 4, 0, 0] :=
  (by decide +kernel : ∀ t : Fin grid0.N, win0_0.index t = ![t.val % 4, t.val / 4] ∧ win0_1.index t = ![t.val % 4, 4 + t.val / 4] ∧ win0_2.index t = ![t.val % 4, 4 + t.val / 4] ∧
    win0_3.index t = ![t.val % 4, 0] ∧ win0_4.index t = ![t.val % 4, 0] ∧ win0_5.index t = ![t.val / 4, 0, 0] ∧ win0_6.index t = ![t.val / 4, 0, 0] ∧
    win0_7.index t = ![t.val / 4, 0, 0] ∧ win0_8.index t = ![t.val / 4, 0, 0] ∧ win0_9.index t = ![t.val % 4, t.val / 4] ∧ win0_10.index t = ![t.val / 4, t.val % 4, 0, 0])

def head : Fin 4 := ⟨t.val / 4, by have : t.val < 16 := t.isLt; omega⟩
def tile : ℕ := t.val % 4 * 1024
def rowT (i : Fin 1024) : Fin 4096 := ⟨tile t + i.val, by unfold tile; omega⟩

abbrev vC : Vec Ideal S4096x128 .f32 := V m c main_v75
abbrev vS : Vec Ideal S4096x128 .f32 := V m c main_v76
abbrev vI : Vec Ideal S4x256x256 .f32 := V m c main_v35
abbrev vD : Vec Ideal S4x256x1 .f32 := V m c main_v44
abbrev vE : Vec Ideal S4x256x1 .f32 := V m c main_v53
abbrev vG : Vec Ideal S4x1x1 .f32 := V m c main_v57

theorem blk0 (i : Fin 1024) (d : Fin 256) : iblk m c 0 t (ix2 i d) = vX m c (ix2 (rowT t i) (cq (head t) d)) := by
  obtain ⟨i, -⟩ := idx t
  blk_ext [iblk, i, rowT, tile, head, cq]
theorem blk1 (i : Fin 1024) (d : Fin 256) : iblk m c 1 t (ix2 i d) = vX m c (ix2 (rowT t i) (ck (head t) d)) := by
  obtain ⟨-, i, -⟩ := idx t
  blk_ext [iblk, i, rowT, tile, head, ck]
theorem blk2 (i : Fin 1024) (e : Fin 512) : iblk m c 2 t (ix2 i e) = vX m c (ix2 (rowT t i) (cv (head t) e)) := by
  obtain ⟨-, -, i, -⟩ := idx t
  blk_ext [iblk, i, rowT, tile, head, cv]
theorem blk3 (i : Fin 1024) (a : Fin 128) : iblk m c 3 t (ix2 i a) = vC m c (ix2 (rowT t i) a) := by
  obtain ⟨-, -, -, i, -⟩ := idx t
  blk_ext [iblk, i, rowT, tile]
theorem blk4 (i : Fin 1024) (a : Fin 128) : iblk m c 4 t (ix2 i a) = vS m c (ix2 (rowT t i) a) := by
  obtain ⟨-, -, -, -, i, -⟩ := idx t
  blk_ext [iblk, i, rowT, tile]
theorem blk5 (i j : Fin 256) : iblk m c 5 t (ix3 0 i j) = vI m c (ix3 (head t) i j) := by
  obtain ⟨-, -, -, -, -, i, -⟩ := idx t
  blk_ext [iblk, i, head]
theorem blk6 (i : Fin 256) : iblk m c 6 t (ix3 0 i 0) = vD m c (ix3 (head t) i 0) := by
  obtain ⟨-, -, -, -, -, -, i, -⟩ := idx t
  blk_ext [iblk, i, head]
theorem blk7 (i : Fin 256) : iblk m c 7 t (ix3 0 i 0) = vE m c (ix3 (head t) i 0) := by
  obtain ⟨-, -, -, -, -, -, -, i, -⟩ := idx t
  blk_ext [iblk, i, head]
theorem blk8 : iblk m c 8 t (ix3 0 0 0) = vG m c (ix3 (head t) 0 0) := by
  obtain ⟨-, -, -, -, -, -, -, -, i, -⟩ := idx t
  blk_ext [iblk, i, head]

section Real
variable (p : S4096x6144.Idx → ℝ) (ang : Fin 4096 → Fin 128 → ℝ)
variable (h0 : ∀ i, (m (c.tc.loc main_arg0) : FVec Ideal S4096x6144 .f32) i = (p i : EReal)) (hA : ∀ r a, angT (ix2 r a) = (ang r a : EReal))

include h0 hA in
theorem tiles : Tiles (iblk m c 0 t) (iblk m c 1 t) (iblk m c 2 t) (iblk m c 3 t) (iblk m c 4 t) (iblk m c 5 t) (iblk m c 6 t) (iblk m c 7 t) (iblk m c 8 t)
    (ops p ang (head t)) (tile t) where
  hq r d := by
    rw [blk0, V_x]
    exact (h0 _).trans (congrArg _ (xq_at p ang (head t) (rowT t r) d).symm)
  hk r d := by
    rw [blk1, V_x]
    exact (h0 _).trans (congrArg _ (xk_at p ang (head t) (rowT t r) d).symm)
  hv r e := by
    rw [blk2, V_x]
    exact (h0 _).trans (congrArg _ (xv_at p ang (head t) (rowT t r) e).symm)
  hC r a := by
    rw [blk3, vC, V_C]
    exact cos_at p ang hA (head t) (rowT t r) a
  hS r a := by
    rw [blk4, vS, V_S]
    exact sin_at p ang hA (head t) (rowT t r) a
  hI i j := by
    rw [blk5, vI, V_I]
    exact intra_at (head t) i j
  hD i := by
    rw [blk6, vD, V_D]
    exact qd_at (head t) i
  hE j := by
    rw [blk7, vE, V_E]
    exact kd_at (head t) j
  hG := by
    rw [blk8, vG, V_G]
    exact cd_at (head t)

include h0 hA in
/-- The state that a point starts from. -/
theorem init_real : ∀ (n : ℕ) (t : Fin cfg0.N), t.val = n → ∀ d e,
    init m c t (ix3 0 d e) = (St (Lg (head t)) (ops p ang (head t)).K (ops p ang (head t)).xv (tile t) d e : EReal)
  | 0, t, ht, d, e => by
    unfold init tile
    rw [if_pos (by omega), pay2_apply, ht, Nat.zero_mod, Nat.zero_mul, St_zero, EReal.coe_zero]
  | n + 1, t, ht, d, e => by
    unfold init
    by_cases h : t.val % 4 = 0
    · rw [if_pos h, pay2_apply]
      unfold tile
      rw [h, Nat.zero_mul, St_zero, EReal.coe_zero]
    · rw [if_neg h]
      let u : Fin cfg0.N := ⟨t.val - 1, Nat.lt_of_le_of_lt (Nat.sub_le ..) t.isLt⟩
      have hu : head u = head t := Fin.ext (by show (t.val - 1) / 4 = t.val / 4; omega)
      have ht' : tile u + 4 * 256 = tile t := by show (t.val - 1) % 4 * 1024 + 4 * 256 = t.val % 4 * 1024; omega
      have hs := SA_real (tiles m c u p ang h0 hA) (init m c u) (init_real n u (by show t.val - 1 = n; omega)) 4 le_rfl d e
      rw [ht', hu] at hs
      exact (congrFun (state_out m c u) _).trans hs

include h0 hA in
theorem sa_real (b : ℕ) (hb : b ≤ 4) (d : Fin 256) (e : Fin 512) :
    sa m c t b (ix3 0 d e) = (St (Lg (head t)) (ops p ang (head t)).K (ops p ang (head t)).xv (tile t + b * 256) d e : EReal) :=
  SA_real (tiles m c t p ang h0 hA) (init m c t) (init_real m c p ang h0 hA t.val t rfl) b hb d e

include h0 hA in
theorem out9_real (b : Fin 4) (i : Fin 256) (e : Fin 512) : (outsAt0 m c t.val t.isLt).1 (ix2 (row b i) e)
    = (Out (Lg (head t)) (ops p ang (head t)).Q (ops p ang (head t)).K (ops p ang (head t)).xv (rowT t (row b i)).val e : EReal) := by
  rw [out9, OB_real (tiles m c t p ang h0 hA) (by unfold tile; omega) b _ (sa_real m c t p ang h0 hA b.val b.isLt.le) i e, Nat.add_assoc]
  rfl
include h0 hA in
theorem out10_real (b : Fin 4) (d : Fin 256) (e : Fin 512) : (outsAt0 m c t.val t.isLt).2.1 (ix4 0 b d e)
    = (St (Lg (head t)) (ops p ang (head t)).K (ops p ang (head t)).xv (tile t + b.val * 256) d e : EReal) := by
  rw [out10, pay10_apply, sa_real m c t p ang h0 hA b.val b.isLt.le]

def colT (e : Fin 512) : Fin 2048 := ⟨(head t).val * 512 + e.val, by omega⟩
def blkT (b : Fin 4) : Fin 16 := ⟨t.val % 4 * 4 + b.val, by omega⟩
theorem emb9 (y : S1024x512.Idx) : ((cfg0.win 9).blk t).view.emb y = ix2 (rowT t (y 0)) (colT t (y 1)) := by
  obtain ⟨-, -, -, -, -, -, -, -, -, i, -⟩ := idx t
  blk_ext [i, rowT, tile, colT, head]
theorem emb10 (y : S1x4x256x512.Idx) : ((cfg0.win 10).blk t).view.emb y = ix4 (head t) (blkT t (y 1)) (y 2) (y 3) := by
  obtain ⟨-, -, -, -, -, -, -, -, -, -, i⟩ := idx t
  blk_ext [i, head, blkT]
theorem row_surj (x : Fin 1024) : ∃ b i, x = row b i :=
  ⟨⟨x.val / 256, by omega⟩, ⟨x.val % 256, by omega⟩, Fin.ext (show x.val = x.val / 256 * 256 + x.val % 256 by omega)⟩

variable (G9 : FVec Ideal S4096x2048 .f32) (H9 : ∀ (r : Fin 4096) (h : Fin 4) (e : Fin 512),
  G9 (ix2 r (⟨h.val * 512 + e.val, by omega⟩ : Fin 2048)) = (Out (Lg h) (ops p ang h).Q (ops p ang h).K (ops p ang h).xv r.val e : EReal))
variable (G10 : FVec Ideal S4x16x256x512 .bf16) (H10 : ∀ (h : Fin 4) (b : Fin 16) (d : Fin 256) (e : Fin 512),
  G10 (ix4 h b d e) = (St (Lg h) (ops p ang h).K (ops p ang h).xv (b.val * 256) d e : EReal))

include h0 hA H9 in
theorem arr9 : (dats m 0 c).arrAt 9 cfg0.N = G9 := by
  refine (dats m 0 c).arrAt_eq_of_covers 9 _ (by decide +kernel) fun t hf y => ?_
  blk_simp
  rw [after0_9]
  refine Eq.trans ?_ (congrArg G9 (emb9 t y).symm)
  idx_vars y
  obtain ⟨b, i, rfl⟩ := row_surj y0
  exact (out9_real m c t p ang h0 hA b i y1).trans (H9 (rowT t (row b i)) (head t) y1).symm
include h0 hA H10 in
theorem arr10 : (dats m 0 c).arrAt 10 cfg0.N = G10 := by
  refine (dats m 0 c).arrAt_eq_of_covers 10 _ (by decide +kernel) fun t hf y => ?_
  blk_simp
  rw [after0_10]
  refine Eq.trans ?_ (congrArg G10 (emb10 t y).symm)
  idx_vars y
  obtain rfl : y0 = 0 := Subsingleton.elim (α := Fin 1) _ _
  refine (out10_real m c t p ang h0 hA y1 y2 y3).trans (Eq.trans ?_ (H10 (head t) (blkT t y1) y2 y3).symm)
  rw [show tile t + y1.val * 256 = (blkT t y1).val * 256 by show t.val % 4 * 1024 + y1.val * 256 = (t.val % 4 * 4 + y1.val) * 256; omega]
end Real

/-- The two arrays that the grid leaves are the reference's results, from memories with the same projection. -/
theorem arrays (m' : (ℓ : Loc Cert.RetFwdRefIdeal.nD Cert.RetFwdRefIdeal.τ Cert.RetFwdRefIdeal.sig) → Buf (Elt Ideal) ℓ)
    (h : Cert.Pre_retf_finite.fn (F := Ideal) (m (c.tc.loc main_arg0)) = fun _ => 1#1)
    (e : m' (c.tc.loc Cert.RetFwdRefIdeal.main_arg0) = m (c.tc.loc main_arg0)) :
    (dats m 0 c).arrAt 9 cfg0.N = Cert.RetFwdRefIdeal.Value.out_main_v130 (Cert.RetFwdRefIdeal.Value.STEP^[64] (E0 m' c))
    ∧ (dats m 0 c).arrAt 10 cfg0.N = Cert.RetFwdRefIdeal.Value.out_main_v133 (Cert.RetFwdRefIdeal.Value.STEP^[64] (E0 m' c)) := by
  choose p h0 using real_of_pre _ h
  choose ang hA using ang_real
  have f := done _ (start m' c p ang (fun i => (congrFun e i).trans (h0 i)) hA) 64 le_rfl
  exact ⟨arr9 m c p ang h0 hA _ fun r h e => ref_out p ang r h e _ f, arr10 m c p ang h0 hA _ fun h b d e => ref_states p ang h b d e _ f⟩

end RetF

end
-- ==== Proof.NormRow.lean ====
module

public import proofs.«01_k».proof.Proof.Alg

@[expose] public section
noncomputable section
namespace Cert.NormRow
open Idealize.ShloMosaic

/-- Element `j` of a row `h` over the root of its mean square, times the gain `g`. -/
def el {n : ℕ} (N : EReal) (h g : Fin n → EReal) (j : Fin n) : EReal := h j * Ideal.rsqrt (Alg.ms N h) * g j

end Cert.NormRow
-- ==== Proof.Mix.lean ====
module

public import proofs.«01_k».proof.Proof.Gen.MixFwdIdeal.Value
public import proofs.«01_k».proof.Proof.Gen.MixFwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.Mix
open Cert.MixFwdIdeal Cert.MixFwdIdeal.Gen Idealize.ShloMosaic Idealize.ShloMosaic.TcCoe Idealize.SL.Sem

variable (m : (ℓ : Loc nD τ sig) → Buf (Elt Ideal) ℓ) (c : Dev nD)

/-- One element of a block the body leaves. -/
theorem block_apply (x0 : Vec Ideal S512x1024 .f32) (x1 : Vec Ideal S1x1024 .f32) (y : S512x1024.Idx) :
    out0_2 (F := Ideal) x0 x1 y = NormRow.el (Ideal.ofBits .f32 0x44800000#32) (fun k => x0 (ix2 (y 0) k)) (fun k => x1 (ix2 0 k)) (y 1) := by
  unfold out0_2
  frame_out
  idx_vars y
  unfold_payloads
  pointwise
  rfl

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- Row `r` of the block of point `t`. -/
def row (t : Fin cfg0.N) (r : Fin 512) : Fin 4096 := ⟨t.val * 512 + r.val, by have h : t.val < 8 := t.isLt; omega⟩

theorem V_h : V m c main_arg0 = m (c.tc.loc main_arg0) := by
  unfold_abbrev_sides
  after_reads_simp

/-- The gain as one row. -/
def gT (x : Vec Ideal S1024 .f32) : Vec Ideal S1x1024 .f32 := fun i => x (ix1 (i 1))

theorem V_g : V m c main_v0 = gT (m (c.tc.loc main_arg1)) := by
  unfold_abbrev_sides
  after_reads_simp
  funext i
  idx_vars i
  pointwise
  rfl

theorem row0 (t : Fin cfg0.N) (r : Fin 512) (k : Fin 1024) : iblk m c 0 t (ix2 r k) =
    (m (c.tc.loc main_arg0) : Vec Ideal S4096x1024 .f32) (ix2 (row t r) k) := by
  obtain ⟨i0, -⟩ := idx t
  refine Eq.trans (b := V m c main_arg0 (ix2 (row t r) k)) ?_ (congrFun (V_h m c) _)
  blk_ext [iblk, i0, row]

theorem blk1 (t : Fin cfg0.N) : (iblk m c 1 t : Vec Ideal S1x1024 .f32) = gT (m (c.tc.loc main_arg1)) := by
  obtain ⟨-, i1, -⟩ := idx t
  refine Eq.trans (b := V m c main_v0) ?_ (V_g m c)
  funext y
  blk_ext [iblk, i1]

open Cert.MixFwdRefIdeal.Read
variable (a0 : Vec Ideal S4096x1024 .f32) (a1 : Vec Ideal S1024 .f32)

theorem cst (i) : val_main_cst (F := Ideal) i = (0 : EReal) := Ideal.ofBits_zero_f32

/-- The reference at an element. -/
theorem ref_el (i : Fin 4096) (j : Fin 1024) : val_main_v13 (F := Ideal) a0 a1 (ix2 i j) =
    NormRow.el (Ideal.ofBits .f32 0x44800000#32) (fun k => a0 (ix2 i k)) (fun k => a1 (ix1 k)) j := by
  unfold val_main_v13 val_main_v12 val_main_v11 val_main_v10 val_main_v9 val_main_v8 val_main_v7 val_main_v6 val_main_v4 val_main_v2
    val_main_v1 val_main_v0
  pointwise
  simp only [cst, zero_add]
  rfl

theorem emb2 (t : Fin cfg0.N) (y : S512x1024.Idx) : ((cfg0.win 2).blk t).view.emb y = ix2 (row t (y 0)) (y 1) := by
  obtain ⟨-, -, i2⟩ := idx t
  blk_ext [i2, row]

/-- The array the call leaves is the reference's. -/
theorem arr : (dats m 0 c).arrAt 2 cfg0.N = val_main_v13 (F := Ideal) (m (c.tc.loc main_arg0)) (m (c.tc.loc main_arg1)) := by
  refine (dats m 0 c).arrAt_eq_of_covers 2 _ (by decide +kernel) fun t hf y => ?_
  blk_simp
  rw [after0_2, block_apply, blk1]
  refine Eq.trans ?_ (congrArg (val_main_v13 (F := Ideal) (m (c.tc.loc main_arg0)) (m (c.tc.loc main_arg1))) (emb2 t y).symm)
  refine Eq.trans ?_ (ref_el _ _ _ _).symm
  exact congrArg (NormRow.el _ · _ _) (funext fun k => row0 m c t (y 0) k)

end Cert.Mix
-- ==== Proof.GateF.lean ====
module

public import proofs.«01_k».proof.Proof.Gen.GateFwdIdeal.Value
public import proofs.«01_k».proof.Proof.Gen.GateFwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow
public import proofs.«01_k».proof.Proof.Gate

@[expose] public section
set_option maxRecDepth 16384
noncomputable section
namespace Cert.GateF
open Cert.GateFwdIdeal Cert.GateFwdIdeal.Gen Idealize.ShloMosaic Idealize.ShloMosaic.TcCoe Idealize.SL.Sem

variable (m : (ℓ : Loc nD τ sig) → Buf (Elt Ideal) ℓ) (c : Dev nD)
variable (X0 : Vec Ideal S512x2048 .f32) (X1 : Vec Ideal S512x2048 .bf16) (X2 X3 X4 X5 : Vec Ideal S1x512 .f32)

open Cert.Gate (col e0 ea pick gcol)

/-- A head's normalised row. -/
def nh (G : Vec Ideal S1x512 .f32) (e : Fin 512 → Fin 2048) (i : Fin 512) (k : Fin 512) : EReal :=
  NormRow.el (Ideal.ofBits .f32 0x44000000#32) (fun x => X0 (ix2 i (e x))) (fun x => G (ix2 0 x)) k
/-- The gated heads side by side. -/
def gated (i : Fin 512) (j : Fin 2048) : EReal := X1 (ix2 i j) * Ideal.logistic (X1 (ix2 i j)) *
  pick j (nh X0 X2 e0 i) (nh X0 X3 (ea 512 (by decide)) i) (nh X0 X4 (ea 1024 (by decide)) i) (nh X0 X5 (ea 1536 (by decide)) i)

set_option maxHeartbeats 1000000 in
/-- One element of a block the body leaves. -/
theorem block_apply (y : S512x2048.Idx) : out0_6 (F := Ideal) X0 X1 X2 X3 X4 X5 y = gated X0 X1 X2 X3 X4 X5 (y 0) (y 1) := by
  unfold out0_6
  frame_out
  idx_vars y
  unfold_payloads
  pointwise
  simp only [Alg.sig]
  rfl

theorem idx : ∀ t : Fin cfg0.N, win0_0.index t = ![t.val, 0] ∧ win0_1.index t = ![t.val, 2] ∧ win0_2.index t = ![0, 0] ∧
    win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val, 2] ∧ win0_2.index t = ![0, 0] ∧
    win0_3.index t = ![0, 0] ∧ win0_4.index t = ![0, 0] ∧ win0_5.index t = ![0, 0] ∧ win0_6.index t = ![t.val, 0])

/-- Row `r` of the block of point `t`. -/
def row (t : Fin cfg0.N) (r : Fin 512) : Fin 4096 := ⟨t.val * 512 + r.val, by have h : t.val < 8 := t.isLt; omega⟩

theorem V_out : V m c main_arg0 = m (c.tc.loc main_arg0) := by
  unfold_abbrev_sides
  after_reads_simp

theorem V_proj : V m c main_v0 = m (c.tc.loc main_arg1) := by
  unfold_abbrev_sides
  after_reads_simp
  rfl

/-- One head's gain as a row. -/
def gT (h : Fin 4) (x : Vec Ideal S4x512 .f32) : Vec Ideal S1x512 .f32 := fun y => x (ix2 h (y 1))

theorem V_g0 : V m c main_v1 = gT 0 (m (c.tc.loc main_arg2)) := by
  unfold_abbrev_sides
  after_reads_simp
  funext i
  idx_vars i
  pointwise
  rfl

theorem V_g1 : V m c main_v2 = gT 1 (m (c.tc.loc main_arg2)) := by
  unfold_abbrev_sides
  after_reads_simp
  funext i
  idx_vars i
  pointwise
  rfl

theorem V_g2 : V m c main_v3 = gT 2 (m (c.tc.loc main_arg2)) := by
  unfold_abbrev_sides
  after_reads_simp
  funext i
  idx_vars i
  pointwise
  rfl

theorem V_g3 : V m c main_v4 = gT 3 (m (c.tc.loc main_arg2)) := by
  unfold_abbrev_sides
  after_reads_simp
  funext i
  idx_vars i
  pointwise
  rfl

theorem row0 (t : Fin cfg0.N) (r : Fin 512) (k : Fin 2048) : iblk m c 0 t (ix2 r k) = (m (c.tc.loc main_arg0) : Vec Ideal S4096x2048 .f32) (ix2 (row t r) k) := by
  obtain ⟨i0, -⟩ := idx t
  refine Eq.trans (b := V m c main_arg0 (ix2 (row t r) k)) ?_ (congrFun (V_out m c) _)
  blk_ext [iblk, i0, row]

theorem row1 (t : Fin cfg0.N) (r : Fin 512) (k : Fin 2048) : iblk m c 1 t (ix2 r k) = (m (c.tc.loc main_arg1) : Vec Ideal S4096x6144 .f32) (ix2 (row t r) (gcol k)) := by
  obtain ⟨-, i1, -⟩ := idx t
  refine Eq.trans (b := V m c main_v0 (ix2 (row t r) (gcol k))) ?_ (congrFun (V_proj m c) _)
  blk_ext [iblk, i1, row, gcol]

theorem blk2 (t : Fin cfg0.N) : (iblk m c 2 t : Vec Ideal S1x512 .f32) = gT 0 (m (c.tc.loc main_arg2)) := by
  obtain ⟨-, -, i, -⟩ := idx t
  refine Eq.trans (b := V m c main_v1) ?_ (V_g0 m c)
  funext y
  blk_ext [iblk, i]

theorem blk3 (t : Fin cfg0.N) : (iblk m c 3 t : Vec Ideal S1x512 .f32) = gT 1 (m (c.tc.loc main_arg2)) := by
  obtain ⟨-, -, -, i, -⟩ := idx t
  refine Eq.trans (b := V m c main_v2) ?_ (V_g1 m c)
  funext y
  blk_ext [iblk, i]

theorem blk4 (t : Fin cfg0.N) : (iblk m c 4 t : Vec Ideal S1x512 .f32) = gT 2 (m (c.tc.loc main_arg2)) := by
  obtain ⟨-, -, -, -, i, -⟩ := idx t
  refine Eq.trans (b := V m c main_v3) ?_ (V_g2 m c)
  funext y
  blk_ext [iblk, i]

theorem blk5 (t : Fin cfg0.N) : (iblk m c 5 t : Vec Ideal S1x512 .f32) = gT 3 (m (c.tc.loc main_arg2)) := by
  obtain ⟨-, -, -, -, -, i, -⟩ := idx t
  refine Eq.trans (b := V m c main_v4) ?_ (V_g3 m c)
  funext y
  blk_ext [iblk, i]

open Cert.GateFwdRefIdeal.Read
variable (a0 : Vec Ideal S4096x2048 .f32) (a1 : Vec Ideal S4096x6144 .f32) (a2 : Vec Ideal S4x512 .f32)

/-- A head's normalised row over whole arrays. -/
def nA (i : Fin 4096) (h : Fin 4) (k : Fin 512) : EReal :=
  NormRow.el (Ideal.ofBits .f32 0x44000000#32) (fun x => a0 (ix2 i (col h x))) (fun x => a2 (ix2 h x)) k
/-- The same by the column. -/
def nJ (i : Fin 4096) (j : Fin 2048) : EReal := nA a0 a2 i ⟨j.val / 512, by omega⟩ ⟨j.val % 512, by omega⟩

theorem c_zero (i) : val_main_cst (F := Ideal) i = (0 : EReal) := Ideal.ofBits_zero_f32
theorem c_one (i) : val_main_call0_v2 (F := Ideal) i = (1 : EReal) := Ideal.ofBits_one_f32
theorem c_one' (i) : val_main_call0_v4 (F := Ideal) i = (1 : EReal) := Ideal.ofBits_one_f32

/-- The reference at an element. -/
theorem ref_el (i : Fin 4096) (j : Fin 2048) : val_main_v18 (F := Ideal) a0 a1 a2 (ix2 i j) =
    a1 (ix2 i (gcol j)) * Ideal.logistic (a1 (ix2 i (gcol j))) * nJ a0 a2 i j := by
  unfold val_main_v18 val_main_v17 val_main_v16 val_main_call0_v5 val_main_call0_v3 val_main_call0_v1 val_main_call0_v0 val_main_v15
    val_main_v14 val_main_v13 val_main_v12 val_main_v11 val_main_v10 val_main_v9 val_main_v8 val_main_v7 val_main_v5 val_main_v3
    val_main_v2 val_main_v1 val_main_v0
  pointwise
  simp only [c_zero, c_one, c_one', zero_add]
  unfold nJ nA NormRow.el
  exact Ideal.mul_congr rfl (Ideal.mul_congr (Ideal.mul_congr (congrArg (fun x => a0 (ix2 i x)) (Cert.Gate.col_self j _ _).symm) rfl) rfl)

/-- A point's heads are its rows of the whole array's. -/
theorem nh_eq (t : Fin cfg0.N) (r : Fin 512) (h : Fin 4) (G : Vec Ideal S1x512 .f32) (hG : G = gT h (m (c.tc.loc main_arg2))) :
    nh (iblk m c 0 t) G (col h) r = nA (m (c.tc.loc main_arg0)) (m (c.tc.loc main_arg2)) (row t r) h := by
  subst hG
  funext k
  exact congrArg (NormRow.el _ · _ _) (funext fun x => row0 m c t r (col h x))

theorem nJ_col (i : Fin 4096) (h : Fin 4) (k : Fin 512) : nJ a0 a2 i (col h k) = nA a0 a2 i h k := by
  unfold nJ
  rw [Cert.Gate.col_div, Cert.Gate.col_mod]

theorem gated_eq (t : Fin cfg0.N) (r : Fin 512) (j : Fin 2048) :
    gated (iblk m c 0 t) (iblk m c 1 t) (iblk m c 2 t) (iblk m c 3 t) (iblk m c 4 t) (iblk m c 5 t) r j =
      val_main_v18 (F := Ideal) (m (c.tc.loc main_arg0)) (m (c.tc.loc main_arg1)) (m (c.tc.loc main_arg2)) (ix2 (row t r) j) := by
  rw [ref_el]
  unfold gated
  rw [Cert.Gate.e0_eq, Cert.Gate.e1_eq, Cert.Gate.e2_eq, Cert.Gate.e3_eq]
  refine Ideal.mul_congr (Ideal.mul_congr (row1 m c t r j) (congrArg Ideal.logistic (row1 m c t r j))) ?_
  rw [nh_eq m c t r 0 _ (blk2 m c t), nh_eq m c t r 1 _ (blk3 m c t), nh_eq m c t r 2 _ (blk4 m c t), nh_eq m c t r 3 _ (blk5 m c t)]
  exact Cert.Gate.pick_eq j (nA (m (c.tc.loc main_arg0)) (m (c.tc.loc main_arg2)) (row t r)) _ fun h k => (nJ_col _ _ _ h k).symm

theorem emb6 (t : Fin cfg0.N) (y : S512x2048.Idx) : ((cfg0.win 6).blk t).view.emb y = ix2 (row t (y 0)) (y 1) := by
  obtain ⟨-, -, -, -, -, -, i⟩ := idx t
  blk_ext [i, row]

/-- The array the call leaves is the reference's. -/
theorem arr : (dats m 0 c).arrAt 6 cfg0.N = val_main_v18 (F := Ideal) (m (c.tc.loc main_arg0)) (m (c.tc.loc main_arg1)) (m (c.tc.loc main_arg2)) := by
  refine (dats m 0 c).arrAt_eq_of_covers 6 _ (by decide +kernel) fun t hf y => ?_
  blk_simp
  rw [after0_6, block_apply]
  exact (gated_eq m c t (y 0) (y 1)).trans (congrArg (val_main_v18 (F := Ideal) (m (c.tc.loc main_arg0)) (m (c.tc.loc main_arg1))
    (m (c.tc.loc main_arg2))) (emb6 t y).symm)

end Cert.GateF
-- ==== Proof.Mlp.lean ====
module

public import proofs.«01_k».proof.Proof.Gen.MlpFwdIdeal.Value
public import proofs.«01_k».proof.Proof.Gen.MlpFwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.Alg

@[expose] public section
set_option maxRecDepth 16384
noncomputable section
namespace Cert.Mlp
open Cert.MlpFwdIdeal Cert.MlpFwdIdeal.Gen Idealize.ShloMosaic Idealize.ShloMosaic.TcCoe Idealize.SL.Sem

variable (m : (ℓ : Loc nD τ sig) → Buf (Elt Ideal) ℓ) (c : Dev nD)

/-- The square of the rectified element. -/
def sq (z : EReal) : EReal := max z 0 * max z 0

/-- One element of a block the body leaves. -/
theorem block_apply (x0 : Vec Ideal S2048x1024 .bf16) (x1 : Vec Ideal S1x1024x1024 .bf16) (y : S2048x1024.Idx) :
    out0_2 (F := Ideal) x0 x1 y = sq (∑ k : Fin 1024, x0 (ix2 (y 0) k) * x1 (ix3 0 k (y 1))) := by
  unfold out0_2
  canon_tiles x h
  all_goals
    idx_vars x
    idx_vars y
    unfold_payloads
    pointwise
    obtain rfl : y1 = x1 := Fin.ext h1
    rw [Fin.ext (a := y0) (b := ⟨_, h0.symm.trans_lt y0.isLt⟩) h0]
    rfl

theorem idx : ∀ t : Fin cfg0.N, win0_0.index t = ![win0_2.index t 0, 0] ∧ win0_1.index t = ![win0_2.index t 1, 0, 0] :=
  (by decide +kernel : ∀ t : Fin grid0.N, win0_0.index t = ![win0_2.index t 0, 0] ∧ win0_1.index t = ![win0_2.index t 1, 0, 0])

theorem V_a : V m c main_v3 = m (c.tc.loc main_arg0) := by
  unfold_abbrev_sides
  after_reads_simp
  rfl

/-- The weight in four groups of columns. -/
def wT (x : Vec Ideal S1024x4096 .f32) : Vec Ideal S4x1024x1024 .bf16 := fun i =>
  x (ix2 (i 1) ⟨(i 0).val * 1024 + (i 2).val, by have h : (i 0).val < 4 := (i 0).isLt; have h : (i 2).val < 1024 := (i 2).isLt; omega⟩)

theorem V_w : V m c main_v2 = wT (m (c.tc.loc main_arg1)) := by
  unfold_abbrev_sides
  after_reads_simp
  funext i
  idx_vars i
  pointwise
  rfl

theorem grid_lt : ∀ t : Fin cfg0.N, win0_2.index t 0 < 2 ∧ win0_2.index t 1 < 4 :=
  (by decide +kernel : ∀ t : Fin grid0.N, win0_2.index t 0 < 2 ∧ win0_2.index t 1 < 4)

/-- The group of columns of point `t`. -/
def grp (t : Fin cfg0.N) : Fin 4 := ⟨win0_2.index t 1, (grid_lt t).2⟩
/-- Row `r` of the block of point `t`. -/
def row (t : Fin cfg0.N) (r : Fin 2048) : Fin 4096 := ⟨win0_2.index t 0 * 2048 + r.val, by have := (grid_lt t).1; omega⟩
/-- Column `j` of a group of columns. -/
def col (g : Fin 4) (j : Fin 1024) : Fin 4096 := ⟨g.val * 1024 + j.val, by omega⟩

theorem row0 (t : Fin cfg0.N) (r : Fin 2048) (k : Fin 1024) : iblk m c 0 t (ix2 r k) =
    (m (c.tc.loc main_arg0) : Vec Ideal S4096x1024 .f32) (ix2 (row t r) k) := by
  obtain ⟨i0, -⟩ := idx t
  refine Eq.trans (b := V m c main_v3 (ix2 (row t r) k)) ?_ (congrFun (V_a m c) _)
  blk_ext [iblk, i0, row]

theorem row1 (t : Fin cfg0.N) (k j : Fin 1024) : iblk m c 1 t (ix3 0 k j) =
    (m (c.tc.loc main_arg1) : Vec Ideal S1024x4096 .f32) (ix2 k (col (grp t) j)) := by
  obtain ⟨-, i1⟩ := idx t
  refine Eq.trans (b := V m c main_v2 (ix3 (grp t) k j)) ?_ (congrFun (V_w m c) _)
  blk_ext [iblk, i1, grp]

theorem emb2 (t : Fin cfg0.N) (y : S2048x1024.Idx) : ((cfg0.win 2).blk t).view.emb y = ix2 (row t (y 0)) (col (grp t) (y 1)) := by
  blk_ext [row, col, grp]

open Cert.MlpFwdRefIdeal.Read

theorem ref_el (a0 : Vec Ideal S4096x1024 .f32) (a1 : Vec Ideal S1024x4096 .f32) (i j : Fin 4096) :
    val_main_v3 (F := Ideal) a0 a1 (ix2 i j) = sq (∑ k : Fin 1024, a0 (ix2 i k) * a1 (ix2 k j)) := by
  have hz : val_main_call0_v0 (F := Ideal) (ix2 i j) = (0 : EReal) := Ideal.ofBits_zero_f32
  unfold val_main_v3 val_main_v2 val_main_v1 val_main_v0
  pointwise
  rw [hz]
  rfl

/-- The array the call leaves is the reference's. -/
theorem arr : (dats m 0 c).arrAt 2 cfg0.N = val_main_v3 (F := Ideal) (m (c.tc.loc main_arg0)) (m (c.tc.loc main_arg1)) := by
  refine (dats m 0 c).arrAt_eq_of_covers 2 _ (by decide +kernel) fun t hf y => ?_
  blk_simp
  rw [after0_2, block_apply]
  refine Eq.trans ?_ (congrArg (val_main_v3 (F := Ideal) (m (c.tc.loc main_arg0)) (m (c.tc.loc main_arg1))) (emb2 t y).symm)
  refine Eq.trans ?_ (ref_el _ _ _ _).symm
  exact congrArg sq (Finset.sum_congr rfl fun k _ => Ideal.mul_congr (row0 m c t (y 0) k) (row1 m c t k (y 1)))

end Cert.Mlp
-- ==== Proof.Res.lean ====
module

public import proofs.«01_k».proof.Proof.Gen.ResFwdIdeal.Value
public import proofs.«01_k».proof.Proof.Gen.ResFwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.Res
open Cert.ResFwdIdeal Cert.ResFwdIdeal.Gen Idealize.ShloMosaic Idealize.ShloMosaic.TcCoe Idealize.SL.Sem

variable (m : (ℓ : Loc nD τ sig) → Buf (Elt Ideal) ℓ) (c : Dev nD)

variable (X0 : Vec Ideal S512x4096 .bf16) (X1 : Vec Ideal S4096x1024 .bf16) (X2 : Vec Ideal S512x1024 .f32) (X3 : Vec Ideal S1x1024 .f32)

/-- The row plus its product with the weight. -/
def hh (i : Fin 512) (j : Fin 1024) : EReal := X2 (ix2 i j) + ∑ k : Fin 4096, X0 (ix2 i k) * X1 (ix2 k j)

/-- The sums a point leaves, … -/
theorem block4 (y : S512x1024.Idx) : out0_4 (F := Ideal) X0 X1 X2 X3 y = hh X0 X1 X2 (y 0) (y 1) := by
  unfold_out out0_4
  canon_tiles x h
  all_goals
    idx_vars x
    idx_vars y
    unfold_payloads
    pointwise
    obtain rfl : y1 = x1 := Fin.ext h1
    rw [Fin.ext (a := y0) (b := ⟨_, h0.symm.trans_lt y0.isLt⟩) h0]
    rfl

/-- … and the sums normalised. -/
theorem block5 (y : S512x1024.Idx) : out0_5 (F := Ideal) X0 X1 X2 X3 y =
    NormRow.el (Ideal.ofBits .f32 0x44800000#32) (hh X0 X1 X2 (y 0)) (fun k => X3 (ix2 0 k)) (y 1) := by
  unfold_out out0_5
  canon_tiles x h
  all_goals
    idx_vars x
    idx_vars y
    unfold_payloads
    pointwise
    obtain rfl : y1 = x1 := Fin.ext h1
    rw [Fin.ext (a := y0) (b := ⟨_, h0.symm.trans_lt y0.isLt⟩) h0]
    rfl

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

/-- Row `r` of the block of point `t`. -/
def row (t : Fin cfg0.N) (r : Fin 512) : Fin 4096 := ⟨t.val * 512 + r.val, by have h : t.val < 8 := t.isLt; omega⟩

theorem V_a : V m c main_v0 = m (c.tc.loc main_arg0) := by
  unfold_abbrev_sides
  after_reads_simp
  rfl

theorem V_w : V m c main_v1 = m (c.tc.loc main_arg1) := by
  unfold_abbrev_sides
  after_reads_simp
  rfl

theorem V_h : V m c main_arg2 = m (c.tc.loc main_arg2) := by
  unfold_abbrev_sides
  after_reads_simp

/-- The gain as one row. -/
def gT (x : Vec Ideal S1024 .f32) : Vec Ideal S1x1024 .f32 := fun i => x (ix1 (i 1))

theorem V_g : V m c main_v2 = gT (m (c.tc.loc main_arg3)) := by
  unfold_abbrev_sides
  after_reads_simp
  funext i
  idx_vars i
  pointwise
  rfl

theorem row0 (t : Fin cfg0.N) (r : Fin 512) (k : Fin 4096) : iblk m c 0 t (ix2 r k) =
    (m (c.tc.loc main_arg0) : Vec Ideal S4096x4096 .f32) (ix2 (row t r) k) := by
  obtain ⟨i0, -⟩ := idx t
  refine Eq.trans (b := V m c main_v0 (ix2 (row t r) k)) ?_ (congrFun (V_a m c) _)
  blk_ext [iblk, i0, row]

theorem blk1 (t : Fin cfg0.N) : (iblk m c 1 t : Vec Ideal S4096x1024 .bf16) = (m (c.tc.loc main_arg1) : Vec Ideal S4096x1024 .f32) := by
  obtain ⟨-, i1, -⟩ := idx t
  refine Eq.trans (b := V m c main_v1) ?_ (V_w m c)
  funext y
  blk_ext [iblk, i1]

theorem row2 (t : Fin cfg0.N) (r : Fin 512) (k : Fin 1024) : iblk m c 2 t (ix2 r k) =
    (m (c.tc.loc main_arg2) : Vec Ideal S4096x1024 .f32) (ix2 (row t r) k) := by
  obtain ⟨-, -, i2, -⟩ := idx t
  refine Eq.trans (b := V m c main_arg2 (ix2 (row t r) k)) ?_ (congrFun (V_h m c) _)
  blk_ext [iblk, i2, row]

theorem blk3 (t : Fin cfg0.N) : (iblk m c 3 t : Vec Ideal S1x1024 .f32) = gT (m (c.tc.loc main_arg3)) := by
  obtain ⟨-, -, -, i3, -⟩ := idx t
  refine Eq.trans (b := V m c main_v2) ?_ (V_g m c)
  funext y
  blk_ext [iblk, i3]

open Cert.ResFwdRefIdeal.Read
variable (a0 : Vec Ideal S4096x4096 .f32) (a1 a2 : Vec Ideal S4096x1024 .f32) (a3 : Vec Ideal S1024 .f32)

theorem cst (i) : val_main_cst (F := Ideal) i = (0 : EReal) := Ideal.ofBits_zero_f32

/-- The sum over whole arrays. -/
def hA (i : Fin 4096) (j : Fin 1024) : EReal := a2 (ix2 i j) + ∑ k : Fin 4096, a0 (ix2 i k) * a1 (ix2 k j)

theorem ref_h (i : Fin 4096) (j : Fin 1024) : val_main_v1 (F := Ideal) a0 a1 a2 (ix2 i j) = hA a0 a1 a2 i j := by
  unfold val_main_v1 val_main_v0
  pointwise
  rfl

/-- The reference's normalised sum at an element. -/
theorem ref_el (i : Fin 4096) (j : Fin 1024) : val_main_v15 (F := Ideal) a0 a1 a2 a3 (ix2 i j) =
    NormRow.el (Ideal.ofBits .f32 0x44800000#32) (hA a0 a1 a2 i) (fun k => a3 (ix1 k)) j := by
  unfold val_main_v15 val_main_v14 val_main_v13 val_main_v12 val_main_v11 val_main_v10 val_main_v9 val_main_v8 val_main_v6 val_main_v4
    val_main_v3 val_main_v2 val_main_v1 val_main_v0
  pointwise
  simp only [cst, zero_add]
  rfl

theorem hh_eq (t : Fin cfg0.N) (r : Fin 512) (j : Fin 1024) : hh (iblk m c 0 t) (iblk m c 1 t) (iblk m c 2 t) r j =
    hA (m (c.tc.loc main_arg0)) (m (c.tc.loc main_arg1)) (m (c.tc.loc main_arg2)) (row t r) j := by
  unfold hh hA
  refine congrArg₂ (fun a b : EReal => a + b) (row2 m c t r j) (Finset.sum_congr rfl fun k _ => Ideal.mul_congr (row0 m c t r k) ?_)
  exact congrFun (blk1 m c t) (ix2 k j)

theorem emb4 (t : Fin cfg0.N) (y : S512x1024.Idx) : ((cfg0.win 4).blk t).view.emb y = ix2 (row t (y 0)) (y 1) := by
  obtain ⟨-, -, -, -, i4, -⟩ := idx t
  blk_ext [i4, row]

theorem emb5 (t : Fin cfg0.N) (y : S512x1024.Idx) : ((cfg0.win 5).blk t).view.emb y = ix2 (row t (y 0)) (y 1) := by
  obtain ⟨-, -, -, -, -, i5⟩ := idx t
  blk_ext [i5, row]

/-- The arrays the call leaves are the reference's. -/
theorem arr4 : (dats m 0 c).arrAt 4 cfg0.N = val_main_v1 (F := Ideal) (m (c.tc.loc main_arg0)) (m (c.tc.loc main_arg1)) (m (c.tc.loc main_arg2)) := by
  refine (dats m 0 c).arrAt_eq_of_covers 4 _ (by decide +kernel) fun t hf y => ?_
  blk_simp
  rw [after0_4, block4]
  refine Eq.trans ?_ (congrArg (val_main_v1 (F := Ideal) (m (c.tc.loc main_arg0)) (m (c.tc.loc main_arg1)) (m (c.tc.loc main_arg2))) (emb4 t y).symm)
  exact (hh_eq m c t (y 0) (y 1)).trans (ref_h _ _ _ _ _).symm

theorem arr5 : (dats m 0 c).arrAt 5 cfg0.N = val_main_v15 (F := Ideal) (m (c.tc.loc main_arg0)) (m (c.tc.loc main_arg1)) (m (c.tc.loc main_arg2))
    (m (c.tc.loc main_arg3)) := by
  refine (dats m 0 c).arrAt_eq_of_covers 5 _ (by decide +kernel) fun t hf y => ?_
  blk_simp
  rw [after0_5, block5, blk3]
  refine Eq.trans ?_ (congrArg (val_main_v15 (F := Ideal) (m (c.tc.loc main_arg0)) (m (c.tc.loc main_arg1)) (m (c.tc.loc main_arg2))
    (m (c.tc.loc main_arg3))) (emb5 t y).symm)
  refine Eq.trans ?_ (ref_el _ _ _ _ _ _).symm
  exact congrArg (NormRow.el _ · _ _) (funext fun k => hh_eq m c t (y 0) k)

end Cert.Res
-- ==== Proof.PleF.lean ====
module

public import proofs.«01_k».proof.Proof.Gen.PleFwdIdeal.Value
public import proofs.«01_k».proof.Proof.Gen.PleFwdRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.PleF
open Cert.PleFwdIdeal Cert.PleFwdIdeal.Gen Idealize.ShloMosaic Idealize.ShloMosaic.TcCoe Idealize.SL.Sem

variable (m : (ℓ : Loc nD τ sig) → Buf (Elt Ideal) ℓ) (c : Dev nD)

variable (X0 : Vec Ideal S512x1024 .bf16) (X1 : Vec Ideal S1024x1024 .bf16) (X2 : Vec Ideal S512x256 .bf16) (X3 : Vec Ideal S512x1024 .f32)
  (X4 : Vec Ideal S4x256x256 .bf16) (X5 : Vec Ideal S1x1024 .f32)

/-- The gate. -/
def gt (i : Fin 512) (j : Fin 1024) : EReal := Ideal.logistic (∑ k : Fin 1024, X0 (ix2 i k) * X1 (ix2 k j))
/-- The embedding's product with a group of the weight's columns. -/
def p1 (s : Fin 4) (i : Fin 512) (j : Fin 256) : EReal := ∑ k : Fin 256, X2 (ix2 i k) * X4 (ix3 s k j)
/-- The embedding's product, group by group. -/
def pp (i : Fin 512) (j : Fin 1024) : EReal :=
  if h : j.val < 256 then p1 X2 X4 0 i ⟨j.val, h⟩ else if h : j.val - 256 < 256 then p1 X2 X4 1 i ⟨j.val - 256, h⟩
  else if h : j.val - 256 - 256 < 256 then p1 X2 X4 2 i ⟨j.val - 256 - 256, h⟩ else p1 X2 X4 3 i ⟨j.val - 256 - 256 - 256, by omega⟩
/-- The row with the gated embedding added. -/
def hh (i : Fin 512) (j : Fin 1024) : EReal := X3 (ix2 i j) + gt X0 X1 i j * pp X2 X4 i j

/-- What a point leaves: the rows, … -/
theorem block6 (y : S512x1024.Idx) : out0_6 (F := Ideal) X0 X1 X2 X3 X4 X5 y = hh X0 X1 X2 X3 X4 (y 0) (y 1) := by
  unfold_out out0_6
  canon_tiles x h
  all_goals
    idx_vars x
    idx_vars y
    unfold_payloads
    pointwise
    obtain rfl : y1 = x1 := Fin.ext h1
    rw [Fin.ext (a := y0) (b := ⟨_, h0.symm.trans_lt y0.isLt⟩) h0]
    simp only [Alg.sig]
    rfl

/-- … the embedding's products, … -/
theorem block7 (y : S512x1024.Idx) : out0_7 (F := Ideal) X0 X1 X2 X3 X4 X5 y = pp X2 X4 (y 0) (y 1) := by
  unfold_out out0_7
  canon_tiles x h
  all_goals
    idx_vars x
    idx_vars y
    unfold_payloads
    pointwise
    obtain rfl : y1 = x1 := Fin.ext h1
    rw [Fin.ext (a := y0) (b := ⟨_, h0.symm.trans_lt y0.isLt⟩) h0]
    rfl

/-- … the gates, … -/
theorem block8 (y : S512x1024.Idx) : out0_8 (F := Ideal) X0 X1 X2 X3 X4 X5 y = gt X0 X1 (y 0) (y 1) := by
  unfold_out out0_8
  canon_tiles x h
  all_goals
    idx_vars x
    idx_vars y
    unfold_payloads
    pointwise
    obtain rfl : y1 = x1 := Fin.ext h1
    rw [Fin.ext (a := y0) (b := ⟨_, h0.symm.trans_lt y0.isLt⟩) h0]
    simp only [Alg.sig]
    rfl

set_option maxHeartbeats 1000000 in
/-- … and the rows normalised. -/
theorem block9 (y : S512x1024.Idx) : out0_9 (F := Ideal) X0 X1 X2 X3 X4 X5 y =
    NormRow.el (Ideal.ofBits .f32 0x44800000#32) (hh X0 X1 X2 X3 X4 (y 0)) (fun k => X5 (ix2 0 k)) (y 1) := by
  unfold_out out0_9
  canon_tiles x h
  all_goals
    idx_vars x
    idx_vars y
    unfold_payloads
    pointwise
    obtain rfl : y1 = x1 := Fin.ext h1
    rw [Fin.ext (a := y0) (b := ⟨_, h0.symm.trans_lt y0.isLt⟩) h0]
    simp only [Alg.sig]
    rfl

theorem idx : ∀ t : Fin cfg0.N, win0_0.index t = ![t.val, 0] ∧ win0_1.index t = ![0, 0] ∧ win0_2.index t = ![t.val, 0] ∧ win0_3.index t = ![t.val, 0] ∧
    win0_4.index t = ![0, 0, 0] ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![0, 0] ∧ win0_2.index t = ![t.val, 0] ∧ win0_3.index t = ![t.val, 0] ∧
    win0_4.index t = ![0, 0, 0] ∧ win0_5.index t = ![0, 0] ∧ win0_6.index t = ![t.val, 0] ∧ win0_7.index t = ![t.val, 0] ∧ win0_8.index t = ![t.val, 0] ∧ win0_9.index t = ![t.val, 0])

/-- Row `r` of the block of point `t`. -/
def row (t : Fin cfg0.N) (r : Fin 512) : Fin 4096 := ⟨t.val * 512 + r.val, by have h : t.val < 8 := t.isLt; omega⟩

theorem V_n : V m c main_v3 = m (c.tc.loc main_arg0) := by
  unfold_abbrev_sides
  after_reads_simp
  rfl

theorem V_gw : V m c main_v4 = m (c.tc.loc main_arg1) := by
  unfold_abbrev_sides
  after_reads_simp
  rfl

theorem V_p : V m c main_v5 = m (c.tc.loc main_arg2) := by
  unfold_abbrev_sides
  after_reads_simp
  rfl

theorem V_h : V m c main_arg4 = m (c.tc.loc main_arg4) := by
  unfold_abbrev_sides
  after_reads_simp

/-- The weight in four groups of columns. -/
def wT (x : Vec Ideal S256x1024 .f32) : Vec Ideal S4x256x256 .bf16 := fun i =>
  x (ix2 (i 1) ⟨(i 0).val * 256 + (i 2).val, by have h : (i 0).val < 4 := (i 0).isLt; have h : (i 2).val < 256 := (i 2).isLt; omega⟩)

theorem V_w : V m c main_v2 = wT (m (c.tc.loc main_arg3)) := by
  unfold_abbrev_sides
  after_reads_simp
  funext i
  idx_vars i
  pointwise
  rfl

/-- The gain as one row. -/
def gT (x : Vec Ideal S1024 .f32) : Vec Ideal S1x1024 .f32 := fun i => x (ix1 (i 1))

theorem V_g : V m c main_v6 = gT (m (c.tc.loc main_arg5)) := by
  unfold_abbrev_sides
  after_reads_simp
  funext i
  idx_vars i
  pointwise
  rfl

theorem row0 (t : Fin cfg0.N) (r : Fin 512) (k : Fin 1024) : iblk m c 0 t (ix2 r k) =
    (m (c.tc.loc main_arg0) : Vec Ideal S4096x1024 .f32) (ix2 (row t r) k) := by
  obtain ⟨i0, -⟩ := idx t
  refine Eq.trans (b := V m c main_v3 (ix2 (row t r) k)) ?_ (congrFun (V_n m c) _)
  blk_ext [iblk, i0, row]

theorem blk1 (t : Fin cfg0.N) : (iblk m c 1 t : Vec Ideal S1024x1024 .bf16) = (m (c.tc.loc main_arg1) : Vec Ideal S1024x1024 .f32) := by
  obtain ⟨-, i1, -⟩ := idx t
  refine Eq.trans (b := V m c main_v4) ?_ (V_gw m c)
  funext y
  blk_ext [iblk, i1]

theorem row2 (t : Fin cfg0.N) (r : Fin 512) (k : Fin 256) : iblk m c 2 t (ix2 r k) =
    (m (c.tc.loc main_arg2) : Vec Ideal S4096x256 .f32) (ix2 (row t r) k) := by
  obtain ⟨-, -, i2, -⟩ := idx t
  refine Eq.trans (b := V m c main_v5 (ix2 (row t r) k)) ?_ (congrFun (V_p m c) _)
  blk_ext [iblk, i2, row]

theorem row3 (t : Fin cfg0.N) (r : Fin 512) (k : Fin 1024) : iblk m c 3 t (ix2 r k) =
    (m (c.tc.loc main_arg4) : Vec Ideal S4096x1024 .f32) (ix2 (row t r) k) := by
  obtain ⟨-, -, -, i3, -⟩ := idx t
  refine Eq.trans (b := V m c main_arg4 (ix2 (row t r) k)) ?_ (congrFun (V_h m c) _)
  blk_ext [iblk, i3, row]

theorem blk4 (t : Fin cfg0.N) : (iblk m c 4 t : Vec Ideal S4x256x256 .bf16) = wT (m (c.tc.loc main_arg3)) := by
  obtain ⟨-, -, -, -, i4, -⟩ := idx t
  refine Eq.trans (b := V m c main_v2) ?_ (V_w m c)
  funext y
  blk_ext [iblk, i4]

theorem blk5 (t : Fin cfg0.N) : (iblk m c 5 t : Vec Ideal S1x1024 .f32) = gT (m (c.tc.loc main_arg5)) := by
  obtain ⟨-, -, -, -, -, i5, -⟩ := idx t
  refine Eq.trans (b := V m c main_v6) ?_ (V_g m c)
  funext y
  blk_ext [iblk, i5]

open Cert.PleFwdRefIdeal.Read
variable (a0 : Vec Ideal S4096x1024 .f32) (a1 : Vec Ideal S1024x1024 .f32) (a2 : Vec Ideal S4096x256 .f32) (a3 : Vec Ideal S256x1024 .f32)
  (a4 : Vec Ideal S4096x1024 .f32) (a5 : Vec Ideal S1024 .f32)

/-- The gate, the product and the row over whole arrays. -/
def gA (i : Fin 4096) (j : Fin 1024) : EReal := Ideal.logistic (∑ k : Fin 1024, a0 (ix2 i k) * a1 (ix2 k j))
def pA (i : Fin 4096) (j : Fin 1024) : EReal := ∑ k : Fin 256, a2 (ix2 i k) * a3 (ix2 k j)
def hA (i : Fin 4096) (j : Fin 1024) : EReal := a4 (ix2 i j) + gA a0 a1 i j * pA a2 a3 i j

theorem c_one (i) : val_main_v3 (F := Ideal) i = (1 : EReal) := Ideal.ofBits_one_f32
theorem c_one' (i) : val_main_v5 (F := Ideal) i = (1 : EReal) := Ideal.ofBits_one_f32
theorem c_zero (i) : val_main_cst_1 (F := Ideal) i = (0 : EReal) := Ideal.ofBits_zero_f32

theorem ref_g (i : Fin 4096) (j : Fin 1024) : val_main_v11 (F := Ideal) a0 a1 (ix2 i j) = gA a0 a1 i j := by
  unfold val_main_v11 val_main_v6 val_main_v4 val_main_v2 val_main_v1 val_main_v0
  pointwise
  simp only [c_one, c_one']
  rfl

theorem ref_p (i : Fin 4096) (j : Fin 1024) : val_main_v10 (F := Ideal) a2 a3 (ix2 i j) = pA a2 a3 i j := by
  unfold val_main_v10 val_main_v7
  pointwise
  rfl

theorem ref_h (i : Fin 4096) (j : Fin 1024) : val_main_v9 (F := Ideal) a0 a1 a2 a3 a4 (ix2 i j) = hA a0 a1 a2 a3 a4 i j := by
  unfold val_main_v9 val_main_v8 val_main_v7 val_main_v6 val_main_v4 val_main_v2 val_main_v1 val_main_v0
  pointwise
  simp only [c_one, c_one']
  rfl

/-- The reference's normalised row at an element. -/
theorem ref_el (i : Fin 4096) (j : Fin 1024) : val_main_v25 (F := Ideal) a0 a1 a2 a3 a4 a5 (ix2 i j) =
    NormRow.el (Ideal.ofBits .f32 0x44800000#32) (hA a0 a1 a2 a3 a4 i) (fun k => a5 (ix1 k)) j := by
  unfold val_main_v25 val_main_v24 val_main_v23 val_main_v22 val_main_v21 val_main_v20 val_main_v19 val_main_v18 val_main_v16 val_main_v14
    val_main_v13 val_main_v12
  pointwise
  simp only [c_zero, zero_add, ref_h]
  rfl

theorem g_eq (t : Fin cfg0.N) (r : Fin 512) (j : Fin 1024) : gt (iblk m c 0 t) (iblk m c 1 t) r j =
    gA (m (c.tc.loc main_arg0)) (m (c.tc.loc main_arg1)) (row t r) j :=
  congrArg Ideal.logistic (Finset.sum_congr rfl fun k _ => Ideal.mul_congr (row0 m c t r k) (congrFun (blk1 m c t) (ix2 k j)))

theorem p1_eq (t : Fin cfg0.N) (s : Fin 4) (r : Fin 512) (j' : Fin 256) (j : Fin 1024) (h : j.val = s.val * 256 + j'.val) :
    p1 (iblk m c 2 t) (iblk m c 4 t) s r j' = pA (m (c.tc.loc main_arg2)) (m (c.tc.loc main_arg3)) (row t r) j := by
  have hj : s.val * 256 + j'.val < 1024 := by omega
  obtain rfl : j = ⟨s.val * 256 + j'.val, hj⟩ := Fin.ext h
  exact Finset.sum_congr rfl fun k _ => Ideal.mul_congr (row2 m c t r k) (congrFun (blk4 m c t) (ix3 s k j'))

theorem p_eq (t : Fin cfg0.N) (r : Fin 512) (j : Fin 1024) : pp (iblk m c 2 t) (iblk m c 4 t) r j =
    pA (m (c.tc.loc main_arg2)) (m (c.tc.loc main_arg3)) (row t r) j := by
  unfold pp
  split_ifs with h0 h1 h2
  · exact p1_eq m c t 0 r _ j (by show _ = 0 * 256 + j.val; omega)
  · exact p1_eq m c t 1 r _ j (by show _ = 1 * 256 + (j.val - 256); omega)
  · exact p1_eq m c t 2 r _ j (by show _ = 2 * 256 + (j.val - 256 - 256); omega)
  · exact p1_eq m c t 3 r _ j (by show _ = 3 * 256 + (j.val - 256 - 256 - 256); omega)

theorem h_eq (t : Fin cfg0.N) (r : Fin 512) (j : Fin 1024) : hh (iblk m c 0 t) (iblk m c 1 t) (iblk m c 2 t) (iblk m c 3 t) (iblk m c 4 t) r j =
    hA (m (c.tc.loc main_arg0)) (m (c.tc.loc main_arg1)) (m (c.tc.loc main_arg2)) (m (c.tc.loc main_arg3)) (m (c.tc.loc main_arg4)) (row t r) j :=
  congrArg₂ (fun a b : EReal => a + b) (row3 m c t r j) (Ideal.mul_congr (g_eq m c t r j) (p_eq m c t r j))

theorem emb6 (t : Fin cfg0.N) (y : S512x1024.Idx) : ((cfg0.win 6).blk t).view.emb y = ix2 (row t (y 0)) (y 1) := by
  obtain ⟨-, -, -, -, -, -, i, -⟩ := idx t
  blk_ext [i, row]
theorem emb7 (t : Fin cfg0.N) (y : S512x1024.Idx) : ((cfg0.win 7).blk t).view.emb y = ix2 (row t (y 0)) (y 1) := by
  obtain ⟨-, -, -, -, -, -, -, i, -⟩ := idx t
  blk_ext [i, row]
theorem emb8 (t : Fin cfg0.N) (y : S512x1024.Idx) : ((cfg0.win 8).blk t).view.emb y = ix2 (row t (y 0)) (y 1) := by
  obtain ⟨-, -, -, -, -, -, -, -, i, -⟩ := idx t
  blk_ext [i, row]
theorem emb9 (t : Fin cfg0.N) (y : S512x1024.Idx) : ((cfg0.win 9).blk t).view.emb y = ix2 (row t (y 0)) (y 1) := by
  obtain ⟨-, -, -, -, -, -, -, -, -, i⟩ := idx t
  blk_ext [i, row]

/-- The arrays the call leaves are the reference's. -/
theorem arr6 : (dats m 0 c).arrAt 6 cfg0.N = val_main_v9 (F := Ideal) (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  blk_simp
  rw [after0_6, block6]
  refine Eq.trans ?_ (congrArg (val_main_v9 (F := Ideal) (m (c.tc.loc main_arg0)) (m (c.tc.loc main_arg1)) (m (c.tc.loc main_arg2))
    (m (c.tc.loc main_arg3)) (m (c.tc.loc main_arg4))) (emb6 t y).symm)
  exact (h_eq m c t (y 0) (y 1)).trans (ref_h _ _ _ _ _ _ _).symm

theorem arr7 : (dats m 0 c).arrAt 7 cfg0.N = val_main_v10 (F := Ideal) (m (c.tc.loc main_arg2)) (m (c.tc.loc main_arg3)) := by
  refine (dats m 0 c).arrAt_eq_of_covers 7 _ (by decide +kernel) fun t hf y => ?_
  blk_simp
  rw [after0_7, block7]
  refine Eq.trans ?_ (congrArg (val_main_v10 (F := Ideal) (m (c.tc.loc main_arg2)) (m (c.tc.loc main_arg3))) (emb7 t y).symm)
  exact (p_eq m c t (y 0) (y 1)).trans (ref_p _ _ _ _).symm

theorem arr8 : (dats m 0 c).arrAt 8 cfg0.N = val_main_v11 (F := Ideal) (m (c.tc.loc main_arg0)) (m (c.tc.loc main_arg1)) := by
  refine (dats m 0 c).arrAt_eq_of_covers 8 _ (by decide +kernel) fun t hf y => ?_
  blk_simp
  rw [after0_8, block8]
  refine Eq.trans ?_ (congrArg (val_main_v11 (F := Ideal) (m (c.tc.loc main_arg0)) (m (c.tc.loc main_arg1))) (emb8 t y).symm)
  exact (g_eq m c t (y 0) (y 1)).trans (ref_g _ _ _ _).symm

theorem arr9 : (dats m 0 c).arrAt 9 cfg0.N = val_main_v25 (F := Ideal) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 9 _ (by decide +kernel) fun t hf y => ?_
  blk_simp
  rw [after0_9, block9, blk5]
  refine Eq.trans ?_ (congrArg (val_main_v25 (F := Ideal) (m (c.tc.loc main_arg0)) (m (c.tc.loc main_arg1)) (m (c.tc.loc main_arg2))
    (m (c.tc.loc main_arg3)) (m (c.tc.loc main_arg4)) (m (c.tc.loc main_arg5))) (emb9 t y).symm)
  refine Eq.trans ?_ (ref_el _ _ _ _ _ _ _ _).symm
  exact congrArg (NormRow.el _ · _ _) (funext fun k => h_eq m c t (y 0) k)

end Cert.PleF
-- ==== Proof.FrontRef.lean ====
module

public import proofs.«01_k».proof.Proof.Gen.MlaFrontRefIdeal.Read
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.Front
open Cert.MlaFrontRefIdeal Cert.MlaFrontRefIdeal.Read Idealize.ShloMosaic Idealize.ShloMosaic.TcCoe Idealize.SL.Sem

variable (a0 : Vec Ideal S4096x1024 .f32) (a1 : Vec Ideal S1024x704 .f32) (a2 : Vec Ideal S384 .f32) (a3 : Vec Ideal S256 .f32)
  (a4 : Vec Ideal S384x1536 .f32) (a5 : Vec Ideal S256x2048 .f32) (a6 a7 : Vec Ideal S192 .f32)

/-- The projection, its two normalised parts, and the heads, over whole arrays. -/
def pA (i : Fin 4096) (j : Fin 704) : EReal := ∑ k : Fin 1024, a0 (ix2 i k) * a1 (ix2 k j)
def cqA (i : Fin 4096) (x : Fin 384) : EReal := NormRow.el (Ideal.ofBits .f32 0x43C00000#32) (fun x => pA a0 a1 i ⟨x.val, by omega⟩) (fun x => a2 (ix1 x)) x
def ckA (i : Fin 4096) (x : Fin 256) : EReal := NormRow.el (Ideal.ofBits .f32 0x43800000#32) (fun x => pA a0 a1 i ⟨384 + x.val, by omega⟩) (fun x => a3 (ix1 x)) x
def qA (i : Fin 4096) (j : Fin 1536) : EReal := ∑ k : Fin 384, cqA a0 a1 a2 i k * a4 (ix2 k j)
def kvA (i : Fin 4096) (j : Fin 2048) : EReal := ∑ k : Fin 256, ckA a0 a1 a3 i k * a5 (ix2 k j)
/-- The rotation's angle. -/
def ang (i : Fin 4096) (l : Fin 32) : EReal := val_main_v82 (F := Ideal) (ix2 i l)

theorem ang_eq (i : Fin 4096) (l : Fin 32) : ang i l = (FloatOps.sitofp .f32 (BitVec.ofNat 32 i.val) : Ideal .f32) * Ideal.div 1 (Ideal.pow (Ideal.ofBits .f32 0x461C4000#32)
    (Ideal.div (Ideal.ofBits .f32 0x40000000#32 * (FloatOps.sitofp .f32 (BitVec.ofNat 32 l.val) : Ideal .f32)) (Ideal.ofBits .f32 0x42800000#32))) := by
  unfold ang val_main_v82 val_main_v81 val_main_v80 val_main_v79 val_main_v78 val_main_v77 val_main_v76 val_main_v75 val_main_v74 val_main_v73 val_main_v72 val_main_v71
    val_main_v70 val_main_v69 val_main_v68 val_main_v67 val_main_v66 val_main_cst_11 val_main_cst_12 val_main_cst_13 val_main_cst_14 val_main_cst_15
  pointwise
theorem c_0 (i) : val_main_cst (F := Ideal) i = (0 : EReal) := Ideal.ofBits_zero_f32
theorem c_2 (i) : val_main_cst_2 (F := Ideal) i = (0 : EReal) := Ideal.ofBits_zero_f32
theorem c_5 (i) : val_main_cst_5 (F := Ideal) i = (0 : EReal) := Ideal.ofBits_zero_f32
theorem c_8 (i) : val_main_cst_8 (F := Ideal) i = (0 : EReal) := Ideal.ofBits_zero_f32

theorem ref_p (i : Fin 4096) (j : Fin 704) : val_main_v0 (F := Ideal) a0 a1 (ix2 i j) = pA a0 a1 i j := by
  unfold val_main_v0
  pointwise
  rfl
theorem ref_cq (i : Fin 4096) (x : Fin 384) : val_main_v14 (F := Ideal) a0 a1 a2 (ix2 i x) = cqA a0 a1 a2 i x := by
  unfold val_main_v14 val_main_v13 val_main_v12 val_main_v11 val_main_v10 val_main_v9 val_main_v8 val_main_v7 val_main_v6 val_main_v5 val_main_v4 val_main_v3
    val_main_v2 val_main_v1
  pointwise
  simp only [c_0, zero_add, ref_p]
  rfl
theorem ref_ck (i : Fin 4096) (x : Fin 256) : val_main_v28 (F := Ideal) a0 a1 a3 (ix2 i x) = ckA a0 a1 a3 i x := by
  unfold val_main_v28 val_main_v27 val_main_v26 val_main_v25 val_main_v24 val_main_v23 val_main_v22 val_main_v21 val_main_v20 val_main_v19 val_main_v18
    val_main_v17 val_main_v16 val_main_v15
  pointwise
  simp only [c_2, zero_add, ref_p]
  rfl
theorem ref_q (i : Fin 4096) (j : Fin 1536) : val_main_v29 (F := Ideal) a0 a1 a2 a4 (ix2 i j) = qA a0 a1 a2 a4 i j := by
  unfold val_main_v29
  pointwise
  simp only [ref_cq]
  rfl
theorem ref_kv (i : Fin 4096) (j : Fin 2048) : val_main_v30 (F := Ideal) a0 a1 a3 a5 (ix2 i j) = kvA a0 a1 a3 a5 i j := by
  unfold val_main_v30
  pointwise
  simp only [ref_ck]
  rfl
theorem ref_q3 (i : Fin 4096) (h : Fin 8) (x : Fin 192) : val_main_v32 (F := Ideal) a0 a1 a2 a4 (ix3 i h x) = qA a0 a1 a2 a4 i ⟨h.val * 192 + x.val, by omega⟩ := by
  unfold val_main_v32
  pointwise
  simp only [ref_q]
theorem ref_kv3 (i : Fin 4096) (h : Fin 8) (x : Fin 256) : val_main_v33 (F := Ideal) a0 a1 a3 a5 (ix3 i h x) = kvA a0 a1 a3 a5 i ⟨h.val * 256 + x.val, by omega⟩ := by
  unfold val_main_v33
  pointwise
  simp only [ref_kv]
theorem ref_qn (i : Fin 4096) (h : Fin 8) (x : Fin 192) : val_main_v50 (F := Ideal) a0 a1 a2 a4 a6 (ix3 i h x) =
    NormRow.el (Ideal.ofBits .f32 0x43400000#32) (fun x : Fin 192 => qA a0 a1 a2 a4 i ⟨h.val * 192 + x.val, by omega⟩) (fun x => a6 (ix1 x)) x := by
  unfold val_main_v50 val_main_v49 val_main_v48 val_main_v47 val_main_v46 val_main_v45 val_main_v44 val_main_v43 val_main_v42 val_main_v41 val_main_v40 val_main_v39
    val_main_v38
  pointwise
  simp only [c_5, zero_add, ref_q3]
  rfl
/-- A head's key. -/
def kA (i : Fin 4096) (h : Fin 8) (x : Fin 192) : EReal := if p : x.val < 128 then kvA a0 a1 a3 a5 i ⟨h.val * 256 + x.val, by omega⟩ else pA a0 a1 i ⟨640 + (x.val - 128), by omega⟩
theorem ref_k3 (i : Fin 4096) (h : Fin 8) (x : Fin 192) : val_main_v37 (F := Ideal) a0 a1 a3 a5 (ix3 i h x) = kA a0 a1 a3 a5 i h x := by
  unfold val_main_v37 val_main_v36 val_main_v35 val_main_v34 val_main_v31
  pointwise
  simp only [ref_kv3, ref_p]
  rfl
theorem ref_kn (i : Fin 4096) (h : Fin 8) (x : Fin 192) : val_main_v63 (F := Ideal) a0 a1 a3 a5 a7 (ix3 i h x) =
    NormRow.el (Ideal.ofBits .f32 0x43400000#32) (kA a0 a1 a3 a5 i h) (fun x => a7 (ix1 x)) x := by
  unfold val_main_v63 val_main_v62 val_main_v61 val_main_v60 val_main_v59 val_main_v58 val_main_v57 val_main_v56 val_main_v55 val_main_v54 val_main_v53 val_main_v52
    val_main_v51
  pointwise
  simp only [c_8, zero_add, ref_k3]
  rfl
/-- The rotation of a head's last 64 columns. -/
def ro (z : Fin 192 → EReal) (i : Fin 4096) (x : Fin 192) : EReal :=
  if p : x.val < 128 then z x else if p' : x.val - 128 < 32 then
    z ⟨128 + (x.val - 128), by omega⟩ * Ideal.cos (ang i ⟨x.val - 128, p'⟩) - z ⟨128 + (32 + (x.val - 128)), by omega⟩ * Ideal.sin (ang i ⟨x.val - 128, p'⟩)
  else z ⟨128 + (32 + (x.val - 128 - 32)), by omega⟩ * Ideal.cos (ang i ⟨x.val - 128 - 32, by omega⟩) +
    z ⟨128 + (x.val - 128 - 32), by omega⟩ * Ideal.sin (ang i ⟨x.val - 128 - 32, by omega⟩)
theorem ref_qr (i : Fin 4096) (h : Fin 8) (x : Fin 192) : val_main_v100 (F := Ideal) a0 a1 a2 a4 a6 (ix3 i h x) =
    ro (NormRow.el (Ideal.ofBits .f32 0x43400000#32) (fun x : Fin 192 => qA a0 a1 a2 a4 i ⟨h.val * 192 + x.val, by omega⟩) (fun x => a6 (ix1 x))) i x := by
  unfold val_main_v100 val_main_v99 val_main_v98 val_main_v97 val_main_v96 val_main_v95 val_main_v94 val_main_v93 val_main_v92 val_main_v91 val_main_v90 val_main_v89
    val_main_v88 val_main_v87 val_main_v86 val_main_v85 val_main_v84 val_main_v83 val_main_v65 val_main_v64
  pointwise
  simp only [ref_qn]
  rfl
theorem ref_kr (i : Fin 4096) (h : Fin 8) (x : Fin 192) : val_main_v137 (F := Ideal) a0 a1 a3 a5 a7 (ix3 i h x) =
    ro (NormRow.el (Ideal.ofBits .f32 0x43400000#32) (kA a0 a1 a3 a5 i h) (fun x => a7 (ix1 x))) i x := by
  unfold val_main_v137 val_main_v136 val_main_v135 val_main_v134 val_main_v133 val_main_v132 val_main_v131 val_main_v130 val_main_v129 val_main_v128 val_main_v127
    val_main_v126 val_main_v125 val_main_v124 val_main_v123 val_main_v122 val_main_v121 val_main_v120 val_main_v102 val_main_v101
  pointwise
  simp only [ref_kn]
  rfl
theorem fl0 : (FloatOps.sitofp .f32 (0#32) : Ideal .f32) = (0 : EReal) := by
  show (((0#32 : BitVec 32).toInt : ℝ) : EReal) = 0
  simp
theorem z_0 (i) : val_main_call0_v0 (F := Ideal) i = (0 : EReal) := by
  unfold val_main_call0_v0 val_main_c
  pointwise
  exact fl0
theorem ref_pj (i : Fin 4096) (j : Fin 768) : val_main_v141 (F := Ideal) a0 a1 (ix2 i j) = if h : j.val < 704 then pA a0 a1 i ⟨j.val, h⟩ else 0 := by
  unfold val_main_v141
  pointwise
  simp only [ref_p, z_0]
theorem z_1 (i) : val_main_call1_v0 (F := Ideal) i = (0 : EReal) := by
  unfold val_main_call1_v0 val_main_c_22
  pointwise
  exact fl0
theorem z_2 (i) : val_main_call2_v0 (F := Ideal) i = (0 : EReal) := by
  unfold val_main_call2_v0 val_main_c_23
  pointwise
  exact fl0
theorem z_3 (i) : val_main_call3_v0 (F := Ideal) i = (0 : EReal) := by
  unfold val_main_call3_v0 val_main_c_24
  pointwise
  exact fl0
/-- The padded heads. -/
theorem ref_qp (i : Fin 4096) (j : Fin 2048) : val_main_v147 (F := Ideal) a0 a1 a2 a4 (ix2 i j) =
    if h : j.val / 256 < 8 ∧ j.val % 256 < 192 then qA a0 a1 a2 a4 i ⟨j.val / 256 * 192 + j.val % 256, by omega⟩ else 0 := by
  unfold val_main_v147 val_main_v146 val_main_v145 val_main_v144
  pointwise
  simp only [ref_q, z_1]
/-- The queries' scale. -/
theorem c_21 (i) : val_main_cst_21 (F := Ideal) i = Ideal.ofBits .f32 0x3DD53B95#32 := rfl
theorem ref_qrp (i : Fin 4096) (j : Fin 2048) : val_main_v151 (F := Ideal) a0 a1 a2 a4 a6 (ix2 i j) =
    if h : j.val / 256 < 8 ∧ j.val % 256 < 192 then
      ro (NormRow.el (Ideal.ofBits .f32 0x43400000#32) (fun x : Fin 192 => qA a0 a1 a2 a4 i ⟨j.val / 256 * 192 + x.val, by omega⟩) (fun x => a6 (ix1 x))) i
        ⟨j.val % 256, h.2⟩ * Ideal.ofBits .f32 0x3DD53B95#32 else 0 := by
  unfold val_main_v151 val_main_v150 val_main_v149 val_main_v140 val_main_v139
  pointwise
  simp only [ref_qr, z_2, c_21]
theorem ref_krp (i : Fin 4096) (j : Fin 2048) : val_main_v154 (F := Ideal) a0 a1 a3 a5 a7 (ix2 i j) =
    if h : j.val / 256 < 8 ∧ j.val % 256 < 192 then
      ro (NormRow.el (Ideal.ofBits .f32 0x43400000#32) (kA a0 a1 a3 a5 i ⟨j.val / 256, h.1⟩) (fun x => a7 (ix1 x))) i ⟨j.val % 256, h.2⟩ else 0 := by
  unfold val_main_v154 val_main_v153 val_main_v152
  pointwise
  simp only [ref_kr, z_3]
theorem ref_v (i : Fin 4096) (j : Fin 1024) : val_main_v156 (F := Ideal) a0 a1 a3 a5 (ix2 i j) =
    kvA a0 a1 a3 a5 i ⟨j.val / 128 * 256 + (128 + j.val % 128), by omega⟩ := by
  unfold val_main_v156 val_main_v155 val_main_v138
  pointwise
  simp only [ref_kv3]
theorem ref_c (i : Fin 4096) (x : Fin 384) : val_main_v142 (F := Ideal) a0 a1 a2 (ix2 i x) = cqA a0 a1 a2 i x := ref_cq ..
theorem ref_c' (i : Fin 4096) (x : Fin 256) : val_main_v143 (F := Ideal) a0 a1 a3 (ix2 i x) = ckA a0 a1 a3 i x := ref_ck ..
theorem ref_kvp (i : Fin 4096) (j : Fin 2048) : val_main_v148 (F := Ideal) a0 a1 a3 a5 (ix2 i j) = kvA a0 a1 a3 a5 i j := ref_kv ..
end Cert.Front
-- ==== Proof.FrontBlk.lean ====
module

public import proofs.«01_k».proof.Proof.Gen.MlaFrontIdeal.Frame
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.Front
open Cert.MlaFrontIdeal Cert.MlaFrontIdeal.Gen Idealize.ShloMosaic Idealize.ShloMosaic.TcCoe Idealize.SL.Sem

/-- The joined parts of 128 columns, by the column. -/
theorem cat16 (v0 v1 v2 v3 v4 v5 v6 v7 v8 v9 v10 v11 v12 v13 v14 v15 : FVec Ideal S256x128 .f32) (hc) (i : Fin 256) (n : Fin 16) (l : Fin 128) (j : Fin 2048)
    (hj : j.val = n.val * 128 + l.val) :
    concatenate S256x2048 1 [⟨S256x128, v0⟩, ⟨S256x128, v1⟩, ⟨S256x128, v2⟩, ⟨S256x128, v3⟩, ⟨S256x128, v4⟩, ⟨S256x128, v5⟩, ⟨S256x128, v6⟩, ⟨S256x128, v7⟩,
      ⟨S256x128, v8⟩, ⟨S256x128, v9⟩, ⟨S256x128, v10⟩, ⟨S256x128, v11⟩, ⟨S256x128, v12⟩, ⟨S256x128, v13⟩, ⟨S256x128, v14⟩, ⟨S256x128, v15⟩] hc (ix2 i j) =
      (![v0, v1, v2, v3, v4, v5, v6, v7, v8, v9, v10, v11, v12, v13, v14, v15] : Fin 16 → FVec Ideal S256x128 .f32) n (ix2 i l) :=
  concatenate_ofFn_apply (t := S256x2048) (s₁ := S256x128) (1 : Fin 2) ![v0, v1, v2, v3, v4, v5, v6, v7, v8, v9, v10, v11, v12, v13, v14, v15] hc rfl 128 rfl
    (ix2 i j) n (show j.val / 128 = n.val by omega) (ix2 i l) (show l.val = j.val % 128 by omega)
    (fun b hb => by match b with | ⟨0, _⟩ => rfl | ⟨1, _⟩ => exact absurd rfl hb)

/-- Eight joined parts of 128 columns, by the column. -/
theorem cat8 (v0 v1 v2 v3 v4 v5 v6 v7 : FVec Ideal S256x128 .f32) (hc) (i : Fin 256) (n : Fin 8) (l : Fin 128) (j : Fin 1024)
    (hj : j.val = n.val * 128 + l.val) :
    concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩]
      hc (ix2 i j) = (![v0, v1, v2, v3, v4, v5, v6, v7] : Fin 8 → FVec Ideal S256x128 .f32) n (ix2 i l) :=
  concatenate_ofFn_apply (t := S256x1024) (s₁ := S256x128) (1 : Fin 2) ![v0, v1, v2, v3, v4, v5, v6, v7] hc rfl 128 rfl
    (ix2 i j) n (show j.val / 128 = n.val by omega) (ix2 i l) (show l.val = j.val % 128 by omega)
    (fun b hb => by match b with | ⟨0, _⟩ => rfl | ⟨1, _⟩ => exact absurd rfl hb)

/-- What holds of a head's two parts holds of every head's, each shown for itself. -/
theorem all16 {α : Type} (P R : Fin 8 → α → Prop) (v0 v1 v2 v3 v4 v5 v6 v7 v8 v9 v10 v11 v12 v13 v14 v15 : α) (h0 : P 0 v0) (h1 : R 0 v1) (h2 : P 1 v2) (h3 : R 1 v3)
    (h4 : P 2 v4) (h5 : R 2 v5) (h6 : P 3 v6) (h7 : R 3 v7) (h8 : P 4 v8) (h9 : R 4 v9) (h10 : P 5 v10) (h11 : R 5 v11) (h12 : P 6 v12) (h13 : R 6 v13)
    (h14 : P 7 v14) (h15 : R 7 v15) (h : Fin 8) :
    P h ((![v0, v1, v2, v3, v4, v5, v6, v7, v8, v9, v10, v11, v12, v13, v14, v15] : Fin 16 → α) ⟨h.val * 2, by omega⟩) ∧
      R h ((![v0, v1, v2, v3, v4, v5, v6, v7, v8, v9, v10, v11, v12, v13, v14, v15] : Fin 16 → α) ⟨h.val * 2 + 1, by omega⟩) := by
  fin_cases h
  exacts [⟨h0, h1⟩, ⟨h2, h3⟩, ⟨h4, h5⟩, ⟨h6, h7⟩, ⟨h8, h9⟩, ⟨h10, h11⟩, ⟨h12, h13⟩, ⟨h14, h15⟩]
theorem all8 {α : Type} (P : Fin 8 → α → Prop) (v0 v1 v2 v3 v4 v5 v6 v7 : α) (h0 : P 0 v0) (h1 : P 1 v1) (h2 : P 2 v2) (h3 : P 3 v3)
    (h4 : P 4 v4) (h5 : P 5 v5) (h6 : P 6 v6) (h7 : P 7 v7) (h : Fin 8) : P h ((![v0, v1, v2, v3, v4, v5, v6, v7] : Fin 8 → α) h) := by
  fin_cases h
  exacts [h0, h1, h2, h3, h4, h5, h6, h7]

/-- A head's 256 columns; the first head's without an offset. -/
def ce (h : Fin 8) (x : Fin 256) : Fin 2048 := if h.val = 0 then ⟨x.val, by omega⟩ else ⟨h.val * 256 + x.val, by omega⟩
theorem ce_val (h : Fin 8) (x : Fin 256) : (ce h x).val = h.val * 256 + x.val := by
  unfold ce
  split
  · show x.val = _
    omega
  · rfl

/-- A head's normalised row, with the squares' sum taken in two parts. -/
def nh (y g : Fin 256 → EReal) (x : Fin 256) : EReal := y x * Ideal.rsqrt (Ideal.div (∑ k, y k * y k + ∑ k, (y k * y k - y k * y k)) (Ideal.ofBits .f32 0x43400000#32) +
  Ideal.ofBits .f32 0x358637BD#32) * g x
/-- The rotation of a row's second half. -/
def rot (z ct sa sb : Fin 128 → EReal) (l : Fin 128) : EReal :=
  z l * ct l + z ⟨(l.val + 128 - 96) % 128, by omega⟩ * sa l + z ⟨(l.val + 128 - 32) % 128, by omega⟩ * sb l
/-- A half of 256 columns. -/
def lo (x : Fin 128) : Fin 256 := ⟨x.val, by omega⟩
def hi (x : Fin 128) : Fin 256 := ⟨128 + x.val, by omega⟩
/-- The factor of a row of two halves. -/
def kr (a b : Fin 128 → EReal) : EReal := Ideal.rsqrt (Ideal.div (∑ k, a k * a k + ∑ k, b k * b k + (∑ k, (a k * a k - a k * a k) + ∑ k, (b k * b k - b k * b k)))
  (Ideal.ofBits .f32 0x43400000#32) + Ideal.ofBits .f32 0x358637BD#32)

variable (X0 : Vec Ideal S256x1024 .bf16) (X1 : Vec Ideal S1024x768 .bf16) (X2 X3 X4 : Vec Ideal S256x128 .f32) (X5 : Vec Ideal S1x384 .f32)
  (X6 : Vec Ideal S1x256 .f32) (X7 : Vec Ideal S4x384x512 .bf16) (X8 : Vec Ideal S4x256x512 .bf16) (X9 X10 : Vec Ideal S1x256 .f32)

/-- The projection, … -/
def pr (i : Fin 256) (j : Fin 768) : EReal := ∑ k : Fin 1024, X0 (ix2 i k) * X1 (ix2 k j)
/-- … its two normalised parts, … -/
def cq (i : Fin 256) (x : Fin 384) : EReal := NormRow.el (Ideal.ofBits .f32 0x43C00000#32) (fun x => pr X0 X1 i ⟨x.val, by omega⟩) (fun x => X5 (ix2 0 x)) x
def ck (i : Fin 256) (x : Fin 256) : EReal := NormRow.el (Ideal.ofBits .f32 0x43800000#32) (fun x => pr X0 X1 i ⟨384 + x.val, by omega⟩) (fun x => X6 (ix2 0 x)) x
/-- … and the products with four groups of columns. -/
def cols {n : ℕ} (c : Fin n → EReal) (W : Fin 4 → Fin n → Fin 512 → EReal) (j : Fin 2048) : EReal :=
  if h : j.val < 512 then ∑ k, c k * W 0 k ⟨j.val, h⟩ else if h : j.val - 512 < 512 then ∑ k, c k * W 1 k ⟨j.val - 512, h⟩
  else if h : j.val - 512 - 512 < 512 then ∑ k, c k * W 2 k ⟨j.val - 512 - 512, h⟩ else ∑ k, c k * W 3 k ⟨j.val - 512 - 512 - 512, by omega⟩
def q (i : Fin 256) : Fin 2048 → EReal := cols (cq X0 X1 X5 i) (fun s k j => X7 (ix3 s k j))
def kv (i : Fin 256) : Fin 2048 → EReal := cols (ck X0 X1 X6 i) (fun s k j => X8 (ix3 s k j))

theorem block11 (y : S256x768.Idx) : out0_11 (F := Ideal) X0 X1 X2 X3 X4 X5 X6 X7 X8 X9 X10 y = pr X0 X1 (y 0) (y 1) := by
  unfold_out out0_11
  frame_out
  idx_vars y
  unfold_payloads
  pointwise
  rfl
theorem block12 (y : S256x384.Idx) : out0_12 (F := Ideal) X0 X1 X2 X3 X4 X5 X6 X7 X8 X9 X10 y = cq X0 X1 X5 (y 0) (y 1) := by
  unfold_out out0_12
  frame_out
  idx_vars y
  unfold_payloads
  pointwise
  rfl
theorem block13 (y : S256x256.Idx) : out0_13 (F := Ideal) X0 X1 X2 X3 X4 X5 X6 X7 X8 X9 X10 y = ck X0 X1 X6 (y 0) (y 1) := by
  unfold_out out0_13
  frame_out
  idx_vars y
  unfold_payloads
  pointwise
  rfl
set_option maxHeartbeats 1000000 in
theorem block14 (y : S256x2048.Idx) : out0_14 (F := Ideal) X0 X1 X2 X3 X4 X5 X6 X7 X8 X9 X10 y = q X0 X1 X5 X7 (y 0) (y 1) := by
  unfold_out out0_14
  frame_out
  idx_vars y
  unfold_payloads
  pointwise
  rfl
set_option maxHeartbeats 1000000 in
theorem block15 (y : S256x2048.Idx) : out0_15 (F := Ideal) X0 X1 X2 X3 X4 X5 X6 X7 X8 X9 X10 y = kv X0 X1 X6 X8 (y 0) (y 1) := by
  unfold_out out0_15
  frame_out
  idx_vars y
  unfold_payloads
  pointwise
  rfl

/-- The heads' values at a part. -/
theorem v_part (KV : FVec Ideal S256x2048 .f32) (i : Fin 256) (h : Fin 8) (l : Fin 128) (j : Fin 1024) (hj : j.val = h.val * 128 + l.val) :
    k0_pay94 KV (k0_pay26 KV) (k0_pay35 KV) (k0_pay44 KV) (k0_pay54 KV) (k0_pay64 KV) (k0_pay79 KV) (k0_pay86 KV) (ix2 i j) =
      KV (ix2 i (ce h ⟨128 + l.val, by omega⟩)) := by
  unfold k0_pay94
  rw [show ∀ (v : FVec Ideal S256x1024 .f32) y, (truncf .bf16 v bitsLt_bf16_f32 : FVec Ideal S256x1024 .bf16) y = v y from fun _ _ => rfl,
    cat8 _ _ _ _ _ _ _ _ _ i h l j hj]
  refine all8 (fun h (v : FVec Ideal S256x128 .f32) => v (ix2 i l) = KV (ix2 i (ce h ⟨128 + l.val, by omega⟩))) _ _ _ _ _ _ _ _ ?_ ?_ ?_ ?_ ?_ ?_ ?_ ?_ h
  all_goals
    unfold_payloads
    pointwise
    exact congrArg (fun j => KV (ix2 i j)) (Fin.ext (by rw [ce_val]; simp; try omega))

set_option maxHeartbeats 4000000 in
/-- The queries' heads at their two parts. -/
theorem q_part (i : Fin 256) (h : Fin 8) (l : Fin 128) (j j' : Fin 2048) (hj : j.val = h.val * 256 + l.val) (hj' : j'.val = h.val * 256 + 128 + l.val) :
    out0_16 (F := Ideal) X0 X1 X2 X3 X4 X5 X6 X7 X8 X9 X10 (ix2 i j) =
        nh (fun x => k0_pay107 (F := Ideal) X0 X1 X2 X3 X4 X5 X6 X7 X8 X9 X10 (ix2 i (ce h x))) (fun x => X9 (ix2 0 x)) (lo l) ∧
      out0_16 (F := Ideal) X0 X1 X2 X3 X4 X5 X6 X7 X8 X9 X10 (ix2 i j') =
        rot (fun x => nh (fun x => k0_pay107 (F := Ideal) X0 X1 X2 X3 X4 X5 X6 X7 X8 X9 X10 (ix2 i (ce h x))) (fun x => X9 (ix2 0 x)) (hi x))
          (fun l => X2 (ix2 i l)) (fun l => X3 (ix2 i l)) (fun l => X4 (ix2 i l)) l := by
  unfold out0_16
  frame_out
  unfold k0_pay92 k0_pay115 k0_pay116 k0_pay117 k0_pay118 k0_pay119 k0_pay120 k0_pay121 k0_pay101 k0_pay102 k0_pay103 k0_pay98
  generalize k0_pay107 (F := Ideal) X0 X1 X2 X3 X4 X5 X6 X7 X8 X9 X10 = Q
  rw [show ∀ (v : FVec Ideal S256x2048 .f32) y, (truncf .bf16 v bitsLt_bf16_f32 : FVec Ideal S256x2048 .bf16) y = v y from fun _ _ => rfl,
    show ∀ (v : FVec Ideal S256x2048 .f32) y, (truncf .bf16 v bitsLt_bf16_f32 : FVec Ideal S256x2048 .bf16) y = v y from fun _ _ => rfl]
  rw [cat16 _ _ _ _ _ _ _ _ _ _ _ _ _ _ _ _ _ i ⟨h.val * 2, by omega⟩ l j (show j.val = h.val * 2 * 128 + l.val by omega),
    cat16 _ _ _ _ _ _ _ _ _ _ _ _ _ _ _ _ _ i ⟨h.val * 2 + 1, by omega⟩ l j' (show j'.val = (h.val * 2 + 1) * 128 + l.val by omega)]
  refine all16 (fun h (v : FVec Ideal S256x128 .f32) => v (ix2 i l) = nh (fun x => Q (ix2 i (ce h x))) (fun x => X9 (ix2 0 x)) (lo l))
    (fun h (v : FVec Ideal S256x128 .f32) => v (ix2 i l) = rot (fun x => nh (fun x => Q (ix2 i (ce h x))) (fun x => X9 (ix2 0 x)) (hi x))
          (fun l => X2 (ix2 i l)) (fun l => X3 (ix2 i l)) (fun l => X4 (ix2 i l)) l) _ _ _ _ _ _ _ _ _ _ _ _ _ _ _ _ ?_ ?_ ?_ ?_ ?_ ?_ ?_ ?_ ?_ ?_ ?_ ?_ ?_ ?_ ?_ ?_ h
  all_goals
    unfold_payloads
    pointwise
    rfl
set_option maxHeartbeats 4000000 in
/-- The keys' heads at their two parts. -/
theorem k_part (i : Fin 256) (h : Fin 8) (l : Fin 128) (j j' : Fin 2048) (hj : j.val = h.val * 256 + l.val) (hj' : j'.val = h.val * 256 + 128 + l.val) :
    out0_17 (F := Ideal) X0 X1 X2 X3 X4 X5 X6 X7 X8 X9 X10 (ix2 i j) =
        k0_pay106 (F := Ideal) X0 X1 X2 X3 X4 X5 X6 X7 X8 X9 X10 (ix2 i (ce h (lo l))) * kr (fun x => k0_pay106 (F := Ideal) X0 X1 X2 X3 X4 X5 X6 X7 X8 X9 X10 (ix2 i (ce h (lo x)))) (fun x => k0_pay100 (F := Ideal) X0 X1 X2 X3 X4 X5 X6 X7 X8 X9 X10 (ix2 i ⟨640 + x.val, by omega⟩)) * X10 (ix2 0 (lo l)) ∧
      out0_17 (F := Ideal) X0 X1 X2 X3 X4 X5 X6 X7 X8 X9 X10 (ix2 i j') =
        rot (fun x => k0_pay100 (F := Ideal) X0 X1 X2 X3 X4 X5 X6 X7 X8 X9 X10 (ix2 i ⟨640 + x.val, by omega⟩) * kr (fun x => k0_pay106 (F := Ideal) X0 X1 X2 X3 X4 X5 X6 X7 X8 X9 X10 (ix2 i (ce h (lo x)))) (fun x => k0_pay100 (F := Ideal) X0 X1 X2 X3 X4 X5 X6 X7 X8 X9 X10 (ix2 i ⟨640 + x.val, by omega⟩)) * X10 (ix2 0 (hi x)))
          (fun l => X2 (ix2 i l)) (fun l => X3 (ix2 i l)) (fun l => X4 (ix2 i l)) l := by
  unfold out0_17
  frame_out
  unfold k0_pay93 k0_pay110 k0_pay111 k0_pay112 k0_pay113 k0_pay114 k0_pay122 k0_pay101 k0_pay102 k0_pay103 k0_pay99 k0_pay108 k0_pay109
  generalize k0_pay106 (F := Ideal) X0 X1 X2 X3 X4 X5 X6 X7 X8 X9 X10 = KV
  generalize k0_pay100 (F := Ideal) X0 X1 X2 X3 X4 X5 X6 X7 X8 X9 X10 = P
  rw [show ∀ (v : FVec Ideal S256x2048 .f32) y, (truncf .bf16 v bitsLt_bf16_f32 : FVec Ideal S256x2048 .bf16) y = v y from fun _ _ => rfl,
    show ∀ (v : FVec Ideal S256x2048 .f32) y, (truncf .bf16 v bitsLt_bf16_f32 : FVec Ideal S256x2048 .bf16) y = v y from fun _ _ => rfl]
  rw [cat16 _ _ _ _ _ _ _ _ _ _ _ _ _ _ _ _ _ i ⟨h.val * 2, by omega⟩ l j (show j.val = h.val * 2 * 128 + l.val by omega),
    cat16 _ _ _ _ _ _ _ _ _ _ _ _ _ _ _ _ _ i ⟨h.val * 2 + 1, by omega⟩ l j' (show j'.val = (h.val * 2 + 1) * 128 + l.val by omega)]
  refine all16 (fun h (v : FVec Ideal S256x128 .f32) => v (ix2 i l) = KV (ix2 i (ce h (lo l))) * kr (fun x => KV (ix2 i (ce h (lo x)))) (fun x => P (ix2 i ⟨640 + x.val, by omega⟩)) * X10 (ix2 0 (lo l)))
    (fun h (v : FVec Ideal S256x128 .f32) => v (ix2 i l) = rot (fun x => P (ix2 i ⟨640 + x.val, by omega⟩) * kr (fun x => KV (ix2 i (ce h (lo x)))) (fun x => P (ix2 i ⟨640 + x.val, by omega⟩)) * X10 (ix2 0 (hi x)))
          (fun l => X2 (ix2 i l)) (fun l => X3 (ix2 i l)) (fun l => X4 (ix2 i l)) l) _ _ _ _ _ _ _ _ _ _ _ _ _ _ _ _ ?_ ?_ ?_ ?_ ?_ ?_ ?_ ?_ ?_ ?_ ?_ ?_ ?_ ?_ ?_ ?_ h
  all_goals
    unfold_payloads
    pointwise
    rfl
end Cert.Front
-- ==== Proof.Front.lean ====
module

public import proofs.«01_k».proof.Proof.FrontRef
public import proofs.«01_k».proof.Proof.FrontBlk
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.Front
open Cert.MlaFrontIdeal Cert.MlaFrontIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![0, 0] ∧ win0_7.index t = ![0, 0, 0] ∧ win0_8.index t = ![0, 0, 0] ∧ win0_9.index t = ![0, 0] ∧ win0_10.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![0, 0] ∧ win0_7.index t = ![0, 0, 0] ∧ win0_8.index t = ![0, 0, 0] ∧ win0_9.index t = ![0, 0] ∧ win0_10.index t = ![0, 0])
theorem idx' : ∀ t : Fin cfg0.N, win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0])

/-- Row `r` of the block of point `t`. -/
def row (t : Fin cfg0.N) (r : Fin 256) : Fin 4096 := ⟨t.val * 256 + r.val, by have h : t.val < 16 := t.isLt; omega⟩

theorem V_h : V m c main_v44 = m (c.tc.loc main_arg0) := by
  unfold_abbrev_sides
  after_reads_simp
  rfl
/-- The projection's weight with zero columns after its own. -/
def wiT (x : Vec Ideal S1024x704 .f32) : Vec Ideal S1024x768 .bf16 := fun i => if h : (i 1).val < 704 then x (ix2 (i 0) ⟨(i 1).val, h⟩) else (0 : EReal)
theorem wi_el (x : FVec Ideal S1024x704 .f32) : truncf .bf16 (pad S1024x768 ![0, 0] ![0, 64] ![0, 0] x (sitofp .f32 (constantI S_ 32 0#32) : FVec Ideal S_ .f32) pads_S1024x704_S1024x768_000_0640 h_S_) bitsLt_bf16_f32 = wiT x := by
  funext i
  idx_vars i
  pointwise
  simp only [fl0]
  rfl
theorem V_wi : V m c main_v43 = wiT (m (c.tc.loc main_arg1)) := by
  unfold_abbrev_sides
  after_reads_simp
  exact wi_el _
def g384 (x : Vec Ideal S384 .f32) : Vec Ideal S1x384 .f32 := fun i => x (ix1 (i 1))
def g256 (x : Vec Ideal S256 .f32) : Vec Ideal S1x256 .f32 := fun i => x (ix1 (i 1))
/-- A head's gain with zeros after its own. -/
def g192 (x : Vec Ideal S192 .f32) : Vec Ideal S1x256 .f32 := fun i => if h : (i 1).val < 192 then x (ix1 ⟨(i 1).val, h⟩) else (0 : EReal)
theorem V_g5 : V m c main_v32 = g384 (m (c.tc.loc main_arg2)) := by
  unfold_abbrev_sides
  after_reads_simp
  refine Eq.trans (b := shapeCast S1x384 (pad S384 ![0] ![0] ![0] (m (c.tc.loc main_arg2) : FVec Ideal S384 .f32) (sitofp .f32 (constantI S_ 32 0#32) : FVec Ideal S_ .f32) pads_S384_S384_000 h_S_) shapeCasts_S384_S1x384) rfl ?_
  funext i
  idx_vars i
  pointwise
  simp only [fl0]
  rfl
theorem V_g6 : V m c main_v34 = g256 (m (c.tc.loc main_arg3)) := by
  unfold_abbrev_sides
  after_reads_simp
  refine Eq.trans (b := shapeCast S1x256 (pad S256 ![0] ![0] ![0] (m (c.tc.loc main_arg3) : FVec Ideal S256 .f32) (sitofp .f32 (constantI S_ 32 0#32) : FVec Ideal S_ .f32) pads_S256_S256_000 h_S_) shapeCasts_S256_S1x256) rfl ?_
  funext i
  idx_vars i
  pointwise
  simp only [fl0]
  rfl
theorem g192_el (x : FVec Ideal S192 .f32) : shapeCast S1x256 (pad S256 ![0] ![64] ![0] x (sitofp .f32 (constantI S_ 32 0#32) : FVec Ideal S_ .f32) pads_S192_S256_0640 h_S_) shapeCasts_S256_S1x256 = g192 x := by
  funext i
  idx_vars i
  pointwise
  simp only [fl0]
  rfl
theorem V_g9 : V m c main_v46 = fun i => g192 (m (c.tc.loc main_arg6)) i * Ideal.ofBits .f32 0x3DD53B95#32 := by
  unfold_abbrev_sides
  after_reads_simp
  exact (funext fun i => congrArg (fun a : EReal => a * Ideal.ofBits .f32 0x3DD53B95#32) (congrFun (g192_el _) i))
theorem V_g10 : V m c main_v30 = g192 (m (c.tc.loc main_arg7)) := by
  unfold_abbrev_sides
  after_reads_simp
  exact g192_el _
/-- The heads' columns in four groups, a head's columns with zeros after its own. -/
def uqT (x : Vec Ideal S384x1536 .f32) : Vec Ideal S4x384x512 .bf16 := fun i =>
  if h : ((i 0).val * 512 + (i 2).val) / 256 < 8 ∧ ((i 0).val * 512 + (i 2).val) % 256 < 192 then
    x (ix2 (i 1) ⟨((i 0).val * 512 + (i 2).val) / 256 * 192 + ((i 0).val * 512 + (i 2).val) % 256, by omega⟩) else (0 : EReal)
theorem V_uq : V m c main_v38 = uqT (m (c.tc.loc main_arg4)) := by
  unfold_abbrev_sides
  after_reads_simp
  refine Eq.trans (b := transpose S4x384x512 [1, 0, 2] (shapeCast S384x4x512 (truncf .bf16 (shapeCast S384x2048 (pad S384x8x256 ![0, 0, 0] ![0, 0, 64] ![0, 0, 0] (shapeCast S384x8x192 (m (c.tc.loc main_arg4) : FVec Ideal S384x1536 .f32) shapeCasts_S384x1536_S384x8x192) (sitofp .f32 (constantI S_ 32 0#32) : FVec Ideal S_ .f32) pads_S384x8x192_S384x8x256_000_000_0640 h_S_) shapeCasts_S384x8x256_S384x2048) bitsLt_bf16_f32) shapeCasts_S384x2048_S384x4x512) transposes_S384x4x512_S4x384x512_1_0_2) rfl ?_
  funext i
  idx_vars i
  pointwise
  simp only [fl0]
  rfl
def ukT (x : Vec Ideal S256x2048 .f32) : Vec Ideal S4x256x512 .bf16 := fun i =>
  x (ix2 (i 1) ⟨(i 0).val * 512 + (i 2).val, by have h : (i 0).val < 4 := (i 0).isLt; have h : (i 2).val < 512 := (i 2).isLt; omega⟩)
theorem V_uk : V m c main_v41 = ukT (m (c.tc.loc main_arg5)) := by
  unfold_abbrev_sides
  after_reads_simp
  funext i
  idx_vars i
  pointwise
  rfl
/-- The rotation's tables. -/
def t0 (i : Fin 4096) (l : Fin 128) : EReal := if h : l.val < 32 then Ideal.cos (ang i ⟨l.val, h⟩) else if h : l.val - 32 < 32 then Ideal.cos (ang i ⟨l.val - 32, h⟩) else 0
def t1 (i : Fin 4096) (l : Fin 128) : EReal := if h : l.val < 32 then - Ideal.sin (ang i ⟨l.val, h⟩) else if h : l.val - 32 < 32 then 0 else 0
def t2 (i : Fin 4096) (l : Fin 128) : EReal := if h : l.val < 32 then 0 else if h : l.val - 32 < 32 then Ideal.sin (ang i ⟨l.val - 32, h⟩) else 0
theorem V_t0 (i : Fin 4096) (l : Fin 128) : V m c main_v21 (ix2 i l) = t0 i l := by
  unfold_abbrev_sides
  after_reads_simp
  pointwise
  after_reads_simp
  pointwise
  simp only [t0, ang_eq]
theorem V_t1 (i : Fin 4096) (l : Fin 128) : V m c main_v23 (ix2 i l) = t1 i l := by
  unfold_abbrev_sides
  after_reads_simp
  pointwise
  after_reads_simp
  pointwise
  simp only [t1, ang_eq]
theorem V_t2 (i : Fin 4096) (l : Fin 128) : V m c main_v24 (ix2 i l) = t2 i l := by
  unfold_abbrev_sides
  after_reads_simp
  pointwise
  after_reads_simp
  pointwise
  simp only [t2, ang_eq]
theorem row2 (t : Fin cfg0.N) (r : Fin 256) (l : Fin 128) : iblk m c 2 t (ix2 r l) = t0 (row t r) l := by
  obtain ⟨-, -, i, -⟩ := idx t
  refine Eq.trans (b := V m c main_v21 (ix2 (row t r) l)) ?_ (V_t0 m c _ _)
  blk_ext [iblk, i, row]
theorem row3 (t : Fin cfg0.N) (r : Fin 256) (l : Fin 128) : iblk m c 3 t (ix2 r l) = t1 (row t r) l := by
  obtain ⟨-, -, -, i, -⟩ := idx t
  refine Eq.trans (b := V m c main_v23 (ix2 (row t r) l)) ?_ (V_t1 m c _ _)
  blk_ext [iblk, i, row]
theorem row4 (t : Fin cfg0.N) (r : Fin 256) (l : Fin 128) : iblk m c 4 t (ix2 r l) = t2 (row t r) l := by
  obtain ⟨-, -, -, -, i, -⟩ := idx t
  refine Eq.trans (b := V m c main_v24 (ix2 (row t r) l)) ?_ (V_t2 m c _ _)
  blk_ext [iblk, i, row]
theorem row0 (t : Fin cfg0.N) (r : Fin 256) (k : Fin 1024) : iblk m c 0 t (ix2 r k) =
    (m (c.tc.loc main_arg0) : Vec Ideal S4096x1024 .f32) (ix2 (row t r) k) := by
  obtain ⟨i, -⟩ := idx t
  refine Eq.trans (b := V m c main_v44 (ix2 (row t r) k)) ?_ (congrFun (V_h m c) _)
  blk_ext [iblk, i, row]
theorem blk1 (t : Fin cfg0.N) : iblk m c 1 t = wiT (m (c.tc.loc main_arg1)) := by
  obtain ⟨-, i, -⟩ := idx t
  refine Eq.trans (b := V m c main_v43) ?_ (V_wi m c)
  funext y
  blk_ext [iblk, i]
theorem blk5 (t : Fin cfg0.N) : iblk m c 5 t = g384 (m (c.tc.loc main_arg2)) := by
  obtain ⟨-, -, -, -, -, i, -⟩ := idx t
  refine Eq.trans (b := V m c main_v32) ?_ (V_g5 m c)
  funext y
  blk_ext [iblk, i]
theorem blk6 (t : Fin cfg0.N) : iblk m c 6 t = g256 (m (c.tc.loc main_arg3)) := by
  obtain ⟨-, -, -, -, -, -, i, -⟩ := idx t
  refine Eq.trans (b := V m c main_v34) ?_ (V_g6 m c)
  funext y
  blk_ext [iblk, i]
theorem blk7 (t : Fin cfg0.N) : iblk m c 7 t = uqT (m (c.tc.loc main_arg4)) := by
  obtain ⟨-, -, -, -, -, -, -, i, -⟩ := idx t
  refine Eq.trans (b := V m c main_v38) ?_ (V_uq m c)
  funext y
  blk_ext [iblk, i]
theorem blk8 (t : Fin cfg0.N) : iblk m c 8 t = ukT (m (c.tc.loc main_arg5)) := by
  obtain ⟨-, -, -, -, -, -, -, -, i, -⟩ := idx t
  refine Eq.trans (b := V m c main_v41) ?_ (V_uk m c)
  funext y
  blk_ext [iblk, i]
theorem blk9 (t : Fin cfg0.N) : iblk m c 9 t = fun i => g192 (m (c.tc.loc main_arg6)) i * Ideal.ofBits .f32 0x3DD53B95#32 := by
  obtain ⟨-, -, -, -, -, -, -, -, -, i, -⟩ := idx t
  refine Eq.trans (b := V m c main_v46) ?_ (V_g9 m c)
  funext y
  blk_ext [iblk, i]
theorem blk10 (t : Fin cfg0.N) : iblk m c 10 t = g192 (m (c.tc.loc main_arg7)) := by
  obtain ⟨-, -, -, -, -, -, -, -, -, -, i⟩ := idx t
  refine Eq.trans (b := V m c main_v30) ?_ (V_g10 m c)
  funext y
  blk_ext [iblk, i]
theorem emb11 (t : Fin cfg0.N) (y : S256x768.Idx) : ((cfg0.win 11).blk t).view.emb y = ix2 (row t (y 0)) (y 1) := by
  obtain ⟨i, -⟩ := idx' t
  blk_ext [i, row]
theorem emb12 (t : Fin cfg0.N) (y : S256x384.Idx) : ((cfg0.win 12).blk t).view.emb y = ix2 (row t (y 0)) (y 1) := by
  obtain ⟨-, i, -⟩ := idx' t
  blk_ext [i, row]
theorem emb13 (t : Fin cfg0.N) (y : S256x256.Idx) : ((cfg0.win 13).blk t).view.emb y = ix2 (row t (y 0)) (y 1) := by
  obtain ⟨-, -, i, -⟩ := idx' t
  blk_ext [i, row]
theorem emb14 (t : Fin cfg0.N) (y : S256x2048.Idx) : ((cfg0.win 14).blk t).view.emb y = ix2 (row t (y 0)) (y 1) := by
  obtain ⟨-, -, -, i, -⟩ := idx' t
  blk_ext [i, row]
theorem emb15 (t : Fin cfg0.N) (y : S256x2048.Idx) : ((cfg0.win 15).blk t).view.emb y = ix2 (row t (y 0)) (y 1) := by
  obtain ⟨-, -, -, -, i, -⟩ := idx' t
  blk_ext [i, row]
theorem emb16 (t : Fin cfg0.N) (y : S256x2048.Idx) : ((cfg0.win 16).blk t).view.emb y = ix2 (row t (y 0)) (y 1) := by
  obtain ⟨-, -, -, -, -, i, -⟩ := idx' t
  blk_ext [i, row]
theorem emb17 (t : Fin cfg0.N) (y : S256x2048.Idx) : ((cfg0.win 17).blk t).view.emb y = ix2 (row t (y 0)) (y 1) := by
  obtain ⟨-, -, -, -, -, -, i, -⟩ := idx' t
  blk_ext [i, row]
theorem emb18 (t : Fin cfg0.N) (y : S256x1024.Idx) : ((cfg0.win 18).blk t).view.emb y = ix2 (row t (y 0)) (y 1) := by
  obtain ⟨-, -, -, -, -, -, -, i⟩ := idx' t
  blk_ext [i, row]
end Cert.Front
-- ==== Proof.FrontMath.lean ====
module

public import proofs.«01_k».proof.Proof.Front
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.NormRow

@[expose] public section
set_option maxRecDepth 16384
noncomputable section
namespace Cert.Front
open Cert.MlaFrontIdeal Cert.MlaFrontIdeal.Gen Idealize.ShloMosaic Idealize.ShloMosaic.TcCoe Idealize.SL.Sem

/-! The sums, the norms and the rotation, for rows of reals. -/

/-- A sum over a row with zeros after its own columns. -/
theorem pad_sum {n p : ℕ} (f : Fin n → EReal) (g : Fin (n + p) → EReal) (h1 : ∀ k, g (Fin.castAdd p k) = f k) (h2 : ∀ k, g (Fin.natAdd n k) = 0) : ∑ k, g k = ∑ k, f k := by
  rw [Fin.sum_univ_add, Finset.sum_congr rfl fun k _ => h1 k, Finset.sum_eq_zero fun k _ => h2 k, add_zero]
theorem sub_real (x : EReal) (h : ∃ r : ℝ, x = r) : x - x = 0 := by
  obtain ⟨r, rfl⟩ := h
  rw [← EReal.coe_sub, sub_self, EReal.coe_zero]
theorem sq_real (x : EReal) (h : ∃ r : ℝ, x = r) : ∃ r : ℝ, x * x = r := by
  obtain ⟨r, rfl⟩ := h
  exact ⟨r * r, (EReal.coe_mul r r).symm⟩
theorem rest {n : ℕ} (y : Fin n → EReal) (h : ∀ k, ∃ r : ℝ, y k = r) : ∑ k, (y k * y k - y k * y k) = 0 :=
  Finset.sum_eq_zero fun k _ => sub_real _ (sq_real _ (h k))
theorem dot_real {n : ℕ} (f g : Fin n → EReal) (hf : ∀ k, ∃ r : ℝ, f k = r) (hg : ∀ k, ∃ r : ℝ, g k = r) : ∃ r : ℝ, ∑ k, f k * g k = r := by
  choose a ha using hf
  choose b hb using hg
  exact ⟨∑ k, a k * b k, by rw [Alg.coe_sum]; exact Finset.sum_congr rfl fun k _ => by rw [ha, hb, EReal.coe_mul]⟩
theorem dif_real {p : Prop} [Decidable p] (x : p → EReal) (h : ∀ q, ∃ r : ℝ, x q = r) : ∃ r : ℝ, (if q : p then x q else 0) = (r : EReal) := by
  by_cases q : p
  · rw [dif_pos q]
    exact h q
  · exact ⟨0, by rw [dif_neg q, EReal.coe_zero]⟩
theorem el_real {n : ℕ} (N : EReal) (R : ℝ) (hR : 0 < R) (hN : N = R) (z g : Fin n → EReal) (hg : ∀ k, ∃ r : ℝ, g k = r) (x : Fin n) : ∃ r : ℝ, NormRow.el N z g x = r := by
  obtain ⟨a, ha⟩ := Alg.rms_real R hR z x
  obtain ⟨b, hb⟩ := hg x
  exact ⟨a * b, by rw [hN]; unfold NormRow.el; rw [ha, hb, EReal.coe_mul]⟩
theorem ofBits_384 : Ideal.ofBits .f32 0x43C00000#32 = ((384 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
/-- The queries' scale is a real that is not negative. -/
theorem sc_real : ∃ e : ℝ, 0 ≤ e ∧ Ideal.ofBits .f32 0x3DD53B95#32 = (e : EReal) := by
  refine ⟨13974421 / 134217728, by norm_num, ?_⟩
  simp [Ideal.ofBits, Ideal.ieee, -EReal.coe_mul]; norm_num
theorem sc_add (x y : EReal) : (x + y) * Ideal.ofBits .f32 0x3DD53B95#32 = x * Ideal.ofBits .f32 0x3DD53B95#32 + y * Ideal.ofBits .f32 0x3DD53B95#32 := by
  obtain ⟨e, he, h⟩ := sc_real
  rw [h, EReal.right_distrib_of_nonneg_of_ne_top (EReal.coe_nonneg.mpr he) (EReal.coe_ne_top e)]

/-- The four groups' product is one product. -/
theorem cols_eq {n : ℕ} (c : Fin n → EReal) (W : Fin 4 → Fin n → Fin 512 → EReal) (j : Fin 2048) (F : Fin n → EReal)
    (hF : ∀ (s : Fin 4) (j' : Fin 512), s.val * 512 + j'.val = j.val → ∀ k, W s k j' = F k) : cols c W j = ∑ k, c k * F k := by
  unfold cols
  split_ifs with h0 h1 h2
  · exact Finset.sum_congr rfl fun k _ => by rw [hF 0 ⟨j.val, h0⟩ (by show 0 * 512 + j.val = j.val; omega) k]
  · exact Finset.sum_congr rfl fun k _ => by rw [hF 1 ⟨j.val - 512, h1⟩ (by show 1 * 512 + (j.val - 512) = j.val; omega) k]
  · exact Finset.sum_congr rfl fun k _ => by rw [hF 2 ⟨j.val - 512 - 512, h2⟩ (by show 2 * 512 + (j.val - 512 - 512) = j.val; omega) k]
  · exact Finset.sum_congr rfl fun k _ => by rw [hF 3 ⟨j.val - 512 - 512 - 512, by omega⟩ (by show 3 * 512 + (j.val - 512 - 512 - 512) = j.val; omega) k]

/-- A query's head with zeros after its own columns, normalised. -/
theorem nh_eq (z g : Fin 192 → EReal) (c : EReal) (hz : ∀ k, ∃ r : ℝ, z k = r) (y G : Fin 256 → EReal)
    (hy : ∀ x : Fin 256, y x = if h : x.val < 192 then z ⟨x.val, h⟩ else 0) (hG : ∀ x : Fin 256, G x = (if h : x.val < 192 then g ⟨x.val, h⟩ else 0) * c) (x : Fin 256) :
    nh y G x = if h : x.val < 192 then NormRow.el (Ideal.ofBits .f32 0x43400000#32) z g ⟨x.val, h⟩ * c else 0 := by
  have hr : ∀ k, ∃ r : ℝ, y k = r := fun k => by rw [hy k]; exact dif_real _ fun q => hz _
  unfold nh
  rw [rest y hr, add_zero, pad_sum (n := 192) (p := 64) (fun k => z k * z k) (fun k => y k * y k)
    (fun k => by rw [hy, dif_pos (show (Fin.castAdd 64 k).val < 192 from k.isLt)]; rfl)
    (fun k => by rw [hy, dif_neg (show ¬ (Fin.natAdd 192 k).val < 192 by simp), mul_zero]), hG, hy]
  by_cases h : x.val < 192
  · rw [dif_pos h, dif_pos h, dif_pos h, ← mul_assoc]
    rfl
  · rw [dif_neg h, dif_neg h, dif_neg h, zero_mul, zero_mul]

/-- A key's factor, its second half with zeros after its own columns. -/
theorem kr_eq (z : Fin 192 → EReal) (hz : ∀ k, ∃ r : ℝ, z k = r) (a b : Fin 128 → EReal) (ha : ∀ x : Fin 128, a x = z ⟨x.val, by omega⟩)
    (hb : ∀ x : Fin 128, b x = if h : x.val < 64 then z ⟨128 + x.val, by omega⟩ else 0) : kr a b = Ideal.rsqrt (Alg.ms (Ideal.ofBits .f32 0x43400000#32) z) := by
  have hra : ∀ k, ∃ r : ℝ, a k = r := fun k => by rw [ha k]; exact hz _
  have hrb : ∀ k, ∃ r : ℝ, b k = r := fun k => by rw [hb k]; exact dif_real _ fun q => hz _
  have hs : ∑ k, a k * a k + ∑ k, b k * b k = ∑ k : Fin (128 + 64), z k * z k := by
    rw [Fin.sum_univ_add]
    refine congrArg₂ (fun a b : EReal => a + b) (Finset.sum_congr rfl fun k _ => by rw [ha]; rfl) ?_
    exact pad_sum (n := 64) (p := 64) (fun k => z (Fin.natAdd 128 k) * z (Fin.natAdd 128 k)) (fun k => b k * b k)
      (fun k => by rw [hb, dif_pos (show (Fin.castAdd 64 k).val < 64 from k.isLt)]; rfl)
      (fun k => by rw [hb, dif_neg (show ¬ (Fin.natAdd 64 k).val < 64 by simp), mul_zero])
  unfold kr
  rw [rest a hra, rest b hrb, add_zero, add_zero, hs]
  rfl

/-- The rotation by the tables is the reference's, a factor `c` taken along. -/
theorem rot_eq (w : Fin 192 → EReal) (c : EReal) (hc : ∀ x y : EReal, (x + y) * c = x * c + y * c) (u : Fin 128 → EReal)
    (hu : ∀ x : Fin 128, u x = if h : x.val < 64 then w ⟨128 + x.val, by omega⟩ * c else 0) (i : Fin 4096) (l : Fin 128) :
    rot u (t0 i) (t1 i) (t2 i) l = if h : l.val < 64 then ro w i ⟨128 + l.val, by omega⟩ * c else 0 := by
  unfold rot t0 t1 t2 ro
  by_cases h : l.val < 64
  · rw [dif_pos h, dif_neg (show ¬ 128 + l.val < 128 by omega)]
    by_cases h' : l.val < 32
    · have e1 : 128 + l.val - 128 = l.val := by omega
      rw [dif_pos h', dif_pos h', dif_pos h', dif_pos (show 128 + l.val - 128 < 32 by omega), mul_zero, add_zero, hu, hu, dif_pos h,
        dif_pos (show (l.val + 128 - 96) % 128 < 64 by omega), sub_eq_add_neg, hc]
      have e2 : (l.val + 128 - 96) % 128 = 32 + l.val := by omega
      simp only [e1, e2]
      rw [mul_neg, neg_mul, mul_right_comm, mul_right_comm (w ⟨128 + (32 + l.val), _⟩)]
    · have e1 : 128 + l.val - 128 - 32 = l.val - 32 := by omega
      have e2 : (l.val + 128 - 32) % 128 = l.val - 32 := by omega
      have e3 : 32 + (l.val - 32) = l.val := by omega
      rw [dif_neg h', dif_pos (show l.val - 32 < 32 by omega), dif_neg h', dif_pos (show l.val - 32 < 32 by omega), dif_neg h', dif_pos (show l.val - 32 < 32 by omega),
        dif_neg (show ¬ 128 + l.val - 128 < 32 by omega), mul_zero, add_zero, hu, hu, dif_pos h,
        dif_pos (show (l.val + 128 - 32) % 128 < 64 by omega), hc]
      simp only [e1, e2, e3]
      rw [mul_right_comm, mul_right_comm (w ⟨128 + (l.val - 32), _⟩)]
  · rw [dif_neg h, dif_neg (show ¬ l.val < 32 by omega), dif_neg (show ¬ l.val - 32 < 32 by omega), dif_neg (show ¬ l.val < 32 by omega),
      dif_neg (show ¬ l.val - 32 < 32 by omega), dif_neg (show ¬ l.val < 32 by omega), dif_neg (show ¬ l.val - 32 < 32 by omega), mul_zero, mul_zero, mul_zero, add_zero, add_zero]
end Cert.Front
-- ==== Proof.FrontEq.lean ====
module

public import proofs.«01_k».proof.Proof.FrontMath
public import proofs.«01_k».proof.Proof.Gen.Pre_front_finite
public import Idealize.ShloMosaic.Lib.Pipeline.ValueKit
public import Idealize.ShloMosaic.Lib.Pointwise
public import Idealize.ShloMosaic.Lib.StableHlo.RunRead
public import Idealize.ShloMosaic.Lib.Claim
public import Idealize.ShloMosaic.Lib.ReduceAll
public import proofs.«01_k».proof.Proof.NormRow

@[expose] public section
set_option maxRecDepth 16384
noncomputable section
namespace Cert.Front
open Cert.MlaFrontIdeal Cert.MlaFrontIdeal.Gen Idealize.ShloMosaic Idealize.ShloMosaic.TcCoe Idealize.SL.Sem

section
variable (X0 : Vec Ideal S256x1024 .bf16) (X1 : Vec Ideal S1024x768 .bf16) (X2 X3 X4 : Vec Ideal S256x128 .f32) (X5 : Vec Ideal S1x384 .f32)
  (X6 : Vec Ideal S1x256 .f32) (X7 : Vec Ideal S4x384x512 .bf16) (X8 : Vec Ideal S4x256x512 .bf16) (X9 X10 : Vec Ideal S1x256 .f32)
/-- The projection and the two products that the heads are made of. -/
theorem pay_p (i : Fin 256) (j : Fin 768) : k0_pay100 (F := Ideal) X0 X1 X2 X3 X4 X5 X6 X7 X8 X9 X10 (ix2 i j) = pr X0 X1 i j := by
  unfold_payloads
  pointwise
  rfl
set_option maxHeartbeats 1000000 in
theorem pay_q (i : Fin 256) (j : Fin 2048) : k0_pay107 (F := Ideal) X0 X1 X2 X3 X4 X5 X6 X7 X8 X9 X10 (ix2 i j) = q X0 X1 X5 X7 i j := by
  unfold_payloads
  pointwise
  rfl
set_option maxHeartbeats 1000000 in
theorem pay_kv (i : Fin 256) (j : Fin 2048) : k0_pay106 (F := Ideal) X0 X1 X2 X3 X4 X5 X6 X7 X8 X9 X10 (ix2 i j) = kv X0 X1 X6 X8 i j := by
  unfold_payloads
  pointwise
  rfl
theorem pay_kv' (i : Fin 256) (j : Fin 2048) : k0_pay108 (F := Ideal) X0 X1 X2 X3 X4 X5 X6 X7 X8 X9 X10 (ix2 i j) = kv X0 X1 X6 X8 i j := by
  unfold k0_pay108 k0_pay18
  exact pay_kv X0 X1 X2 X3 X4 X5 X6 X7 X8 X9 X10 i j
theorem block18 (i : Fin 256) (h : Fin 8) (l : Fin 128) (j : Fin 1024) (hj : j.val = h.val * 128 + l.val) :
    out0_18 (F := Ideal) X0 X1 X2 X3 X4 X5 X6 X7 X8 X9 X10 (ix2 i j) = kv X0 X1 X6 X8 i (ce h ⟨128 + l.val, by omega⟩) := by
  unfold out0_18
  frame_out
  exact (v_part _ i h l j hj).trans (pay_kv' X0 X1 X2 X3 X4 X5 X6 X7 X8 X9 X10 i _)
end

variable (m : (ℓ : Loc nD τ sig) → Buf (Elt Ideal) ℓ) (c : Dev nD)
abbrev A0 : Vec Ideal S4096x1024 .f32 := m (c.tc.loc main_arg0)
abbrev A1 : Vec Ideal S1024x704 .f32 := m (c.tc.loc main_arg1)
abbrev A2 : Vec Ideal S384 .f32 := m (c.tc.loc main_arg2)
abbrev A3 : Vec Ideal S256 .f32 := m (c.tc.loc main_arg3)
abbrev A4 : Vec Ideal S384x1536 .f32 := m (c.tc.loc main_arg4)
abbrev A5 : Vec Ideal S256x2048 .f32 := m (c.tc.loc main_arg5)
abbrev A6 : Vec Ideal S192 .f32 := m (c.tc.loc main_arg6)
abbrev A7 : Vec Ideal S192 .f32 := m (c.tc.loc main_arg7)

theorem pr_eq (t : Fin cfg0.N) (r : Fin 256) (j : Fin 768) : pr (iblk m c 0 t) (iblk m c 1 t) r j =
    if h : j.val < 704 then pA (A0 m c) (A1 m c) (row t r) ⟨j.val, h⟩ else 0 := by
  unfold pr
  by_cases h : j.val < 704
  · rw [dif_pos h]
    exact Finset.sum_congr rfl fun k _ => Ideal.mul_congr (row0 m c t r k) ((congrFun (blk1 m c t) (ix2 k j)).trans (dif_pos h))
  · rw [dif_neg h]
    exact Finset.sum_eq_zero fun k _ => (Ideal.mul_congr rfl ((congrFun (blk1 m c t) (ix2 k j)).trans (dif_neg h))).trans (mul_zero _)
theorem cq_eq (t : Fin cfg0.N) (r : Fin 256) (x : Fin 384) : cq (iblk m c 0 t) (iblk m c 1 t) (iblk m c 5 t) r x = cqA (A0 m c) (A1 m c) (A2 m c) (row t r) x :=
  congrArg₂ (fun f g => NormRow.el (Ideal.ofBits .f32 0x43C00000#32) f g x)
    (funext fun x => (pr_eq m c t r ⟨x.val, by omega⟩).trans (dif_pos (show x.val < 704 by omega)))
    (funext fun x => congrFun (blk5 m c t) (ix2 0 x))
theorem ck_eq (t : Fin cfg0.N) (r : Fin 256) (x : Fin 256) : ck (iblk m c 0 t) (iblk m c 1 t) (iblk m c 6 t) r x = ckA (A0 m c) (A1 m c) (A3 m c) (row t r) x :=
  congrArg₂ (fun f g => NormRow.el (Ideal.ofBits .f32 0x43800000#32) f g x)
    (funext fun x => (pr_eq m c t r ⟨384 + x.val, by omega⟩).trans (dif_pos (show 384 + x.val < 704 by omega)))
    (funext fun x => congrFun (blk6 m c t) (ix2 0 x))
theorem kv_eq (t : Fin cfg0.N) (r : Fin 256) (j : Fin 2048) : kv (iblk m c 0 t) (iblk m c 1 t) (iblk m c 6 t) (iblk m c 8 t) r j =
    kvA (A0 m c) (A1 m c) (A3 m c) (A5 m c) (row t r) j :=
  (cols_eq _ _ j (fun k => A5 m c (ix2 k j)) fun s j' h k => (congrFun (blk8 m c t) (ix3 s k j')).trans
    (congrArg (fun j => A5 m c (ix2 k j)) (Fin.ext h))).trans (Finset.sum_congr rfl fun k _ => Ideal.mul_congr (ck_eq m c t r k) rfl)
theorem q_eq (t : Fin cfg0.N) (r : Fin 256) (j : Fin 2048) : q (iblk m c 0 t) (iblk m c 1 t) (iblk m c 5 t) (iblk m c 7 t) r j =
    if h : j.val / 256 < 8 ∧ j.val % 256 < 192 then qA (A0 m c) (A1 m c) (A2 m c) (A4 m c) (row t r) ⟨j.val / 256 * 192 + j.val % 256, by omega⟩ else 0 := by
  refine (cols_eq _ _ j (fun k => if h : j.val / 256 < 8 ∧ j.val % 256 < 192 then A4 m c (ix2 k ⟨j.val / 256 * 192 + j.val % 256, by omega⟩) else (0 : EReal))
    fun s j' h k => (congrFun (blk7 m c t) (ix3 s k j')).trans ?_).trans ?_
  · have hj : s.val * 512 + j'.val < 2048 := by omega
    obtain rfl : j = ⟨s.val * 512 + j'.val, hj⟩ := Fin.ext h.symm
    rfl
  · by_cases h : j.val / 256 < 8 ∧ j.val % 256 < 192
    · simp only [dif_pos h]
      exact Finset.sum_congr rfl fun k _ => Ideal.mul_congr (cq_eq m c t r k) rfl
    · simp only [dif_neg h]
      exact Finset.sum_eq_zero fun k _ => mul_zero _

/-- The arrays that the rows' products are made of hold reals only. -/
def Re : Prop := (∀ i, ∃ r : ℝ, A0 m c i = r) ∧ (∀ i, ∃ r : ℝ, A1 m c i = r) ∧ (∀ i, ∃ r : ℝ, A2 m c i = r) ∧ (∀ i, ∃ r : ℝ, A3 m c i = r) ∧
  (∀ i, ∃ r : ℝ, A4 m c i = r) ∧ ∀ i, ∃ r : ℝ, A5 m c i = r
variable (H : Re m c)
include H
theorem p_re (i : Fin 4096) (j : Fin 704) : ∃ r : ℝ, pA (A0 m c) (A1 m c) i j = r := dot_real _ _ (fun _ => H.1 _) fun _ => H.2.1 _
theorem q_re (i : Fin 4096) (j : Fin 1536) : ∃ r : ℝ, qA (A0 m c) (A1 m c) (A2 m c) (A4 m c) i j = r :=
  dot_real _ _ (fun _ => el_real _ 384 (by norm_num) ofBits_384 _ _ (fun _ => H.2.2.1 _) _) fun _ => H.2.2.2.2.1 _
theorem k_re (i : Fin 4096) (h : Fin 8) (x : Fin 192) : ∃ r : ℝ, kA (A0 m c) (A1 m c) (A3 m c) (A5 m c) i h x = r := by
  unfold kA
  split_ifs
  · exact dot_real _ _ (fun _ => el_real _ 256 (by norm_num) ofBits_256 _ _ (fun _ => H.2.2.2.1 _) _) fun _ => H.2.2.2.2.2 _
  · exact p_re m c H _ _

/-- The queries that a point leaves. -/
theorem qr_eq (t : Fin cfg0.N) (r : Fin 256) (j : Fin 2048) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) =
    if h : j.val / 256 < 8 ∧ j.val % 256 < 192 then
      ro (NormRow.el (Ideal.ofBits .f32 0x43400000#32) (fun x : Fin 192 => qA (A0 m c) (A1 m c) (A2 m c) (A4 m c) (row t r) ⟨j.val / 256 * 192 + x.val, by omega⟩)
        (fun x => A6 m c (ix1 x))) (row t r) ⟨j.val % 256, h.2⟩ * Ideal.ofBits .f32 0x3DD53B95#32 else 0 := by
  have hz := fun x : Fin 192 => q_re m c H (row t r) ⟨j.val / 256 * 192 + x.val, by omega⟩
  have hn := nh_eq _ (fun x => A6 m c (ix1 x)) (Ideal.ofBits .f32 0x3DD53B95#32) hz
    (fun x => k0_pay107 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r (ce ⟨j.val / 256, by omega⟩ x)))
    (fun x => (iblk m c 9 t : Vec Ideal S1x256 .f32) (ix2 0 x)) (fun x => by
      rw [pay_q, q_eq]
      have e : (ce ⟨j.val / 256, by omega⟩ x).val = j.val / 256 * 256 + x.val := ce_val _ x
      have e1 : (ce ⟨j.val / 256, by omega⟩ x).val / 256 = j.val / 256 := by omega
      have e2 : (ce ⟨j.val / 256, by omega⟩ x).val % 256 = x.val := by omega
      simp only [e1, e2]
      by_cases h : x.val < 192
      · rw [dif_pos h, dif_pos ⟨by omega, h⟩]
      · rw [dif_neg h, dif_neg fun p => h p.2]) fun x => congrFun (blk9 m c t) (ix2 0 x)
  by_cases h : j.val % 256 < 128
  · rw [(q_part (iblk m c 0 t) (iblk m c 1 t) (iblk m c 2 t) (iblk m c 3 t) (iblk m c 4 t) (iblk m c 5 t) (iblk m c 6 t) (iblk m c 7 t) (iblk m c 8 t) (iblk m c 9 t) (iblk m c 10 t) r ⟨j.val / 256, by omega⟩ ⟨j.val % 256, h⟩ j ⟨j.val / 256 * 256 + 128 + j.val % 256, by omega⟩
      (by show j.val = j.val / 256 * 256 + j.val % 256; omega) rfl).1, hn, dif_pos (show (lo ⟨j.val % 256, h⟩).val < 192 from by show j.val % 256 < 192; omega), dif_pos ⟨by omega, by omega⟩]
    unfold ro
    rw [dif_pos h]
    rfl
  · rw [(q_part (iblk m c 0 t) (iblk m c 1 t) (iblk m c 2 t) (iblk m c 3 t) (iblk m c 4 t) (iblk m c 5 t) (iblk m c 6 t) (iblk m c 7 t) (iblk m c 8 t) (iblk m c 9 t) (iblk m c 10 t) r ⟨j.val / 256, by omega⟩ ⟨j.val % 256 - 128, by omega⟩ ⟨j.val / 256 * 256 + (j.val % 256 - 128), by omega⟩ j
      rfl (by show j.val = j.val / 256 * 256 + 128 + (j.val % 256 - 128); omega)).2]
    rw [show (fun l => (iblk m c 2 t : Vec Ideal S256x128 .f32) (ix2 r l)) = t0 (row t r) from funext fun l => row2 m c t r l,
      show (fun l => (iblk m c 3 t : Vec Ideal S256x128 .f32) (ix2 r l)) = t1 (row t r) from funext fun l => row3 m c t r l,
      show (fun l => (iblk m c 4 t : Vec Ideal S256x128 .f32) (ix2 r l)) = t2 (row t r) from funext fun l => row4 m c t r l,
      rot_eq _ _ sc_add _ (fun x => (hn (hi x)).trans (by
        by_cases p : x.val < 64
        · rw [dif_pos p, dif_pos (show (hi x).val < 192 from by show 128 + x.val < 192; omega)]
          rfl
        · rw [dif_neg p, dif_neg (show ¬ (hi x).val < 192 from by show ¬ 128 + x.val < 192; omega)]))]
    by_cases p : j.val % 256 < 192
    · rw [dif_pos (show j.val % 256 - 128 < 64 by omega), dif_pos ⟨by omega, p⟩]
      have e : 128 + (j.val % 256 - 128) = j.val % 256 := by omega
      simp only [e]
    · rw [dif_neg (show ¬ j.val % 256 - 128 < 64 by omega), dif_neg fun p' => p p'.2]

/-- The keys that a point leaves. -/
theorem kr_eq' (t : Fin cfg0.N) (r : Fin 256) (j : Fin 2048) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) =
    if h : j.val / 256 < 8 ∧ j.val % 256 < 192 then
      ro (NormRow.el (Ideal.ofBits .f32 0x43400000#32) (kA (A0 m c) (A1 m c) (A3 m c) (A5 m c) (row t r) ⟨j.val / 256, h.1⟩) (fun x => A7 m c (ix1 x))) (row t r)
        ⟨j.val % 256, h.2⟩ else 0 := by
  have hd : j.val / 256 < 8 := by omega
  have ha : ∀ x : Fin 128, k0_pay106 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r (ce ⟨j.val / 256, hd⟩ (lo x))) =
      kA (A0 m c) (A1 m c) (A3 m c) (A5 m c) (row t r) ⟨j.val / 256, hd⟩ ⟨x.val, by omega⟩ := fun x => by
    rw [pay_kv, kv_eq]
    unfold kA
    rw [dif_pos x.isLt]
    exact congrArg (kvA _ _ _ _ _) (Fin.ext (ce_val _ _))
  have hb : ∀ x : Fin 128, k0_pay100 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r ⟨640 + x.val, by omega⟩) =
      if h : x.val < 64 then kA (A0 m c) (A1 m c) (A3 m c) (A5 m c) (row t r) ⟨j.val / 256, hd⟩ ⟨128 + x.val, by omega⟩ else 0 := fun x => by
    rw [pay_p, pr_eq]
    by_cases p : x.val < 64
    · unfold kA
      have e : 128 + x.val - 128 = x.val := by omega
      rw [dif_pos p, dif_pos (show 640 + x.val < 704 by omega), dif_neg (show ¬ 128 + x.val < 128 by omega)]
      simp only [e]
    · rw [dif_neg p, dif_neg (show ¬ 640 + x.val < 704 by omega)]
  have hk := kr_eq _ (k_re m c H (row t r) ⟨j.val / 256, hd⟩) _ _ ha hb
  have hg := fun x => congrFun (blk10 m c t) (ix2 0 x)
  by_cases h : j.val % 256 < 128
  · rw [(k_part (iblk m c 0 t) (iblk m c 1 t) (iblk m c 2 t) (iblk m c 3 t) (iblk m c 4 t) (iblk m c 5 t) (iblk m c 6 t) (iblk m c 7 t) (iblk m c 8 t) (iblk m c 9 t) (iblk m c 10 t) r ⟨j.val / 256, hd⟩ ⟨j.val % 256, h⟩ j ⟨j.val / 256 * 256 + 128 + j.val % 256, by omega⟩
      (by show j.val = j.val / 256 * 256 + j.val % 256; omega) rfl).1, hk, ha, dif_pos ⟨hd, by omega⟩, hg]
    unfold ro
    rw [dif_pos h]
    exact congrArg (fun a : EReal => _ * a) (dif_pos (show j.val % 256 < 192 by omega))
  · rw [(k_part (iblk m c 0 t) (iblk m c 1 t) (iblk m c 2 t) (iblk m c 3 t) (iblk m c 4 t) (iblk m c 5 t) (iblk m c 6 t) (iblk m c 7 t) (iblk m c 8 t) (iblk m c 9 t) (iblk m c 10 t) r ⟨j.val / 256, hd⟩ ⟨j.val % 256 - 128, by omega⟩ ⟨j.val / 256 * 256 + (j.val % 256 - 128), by omega⟩ j
      rfl (by show j.val = j.val / 256 * 256 + 128 + (j.val % 256 - 128); omega)).2, hk]
    rw [show (fun l => (iblk m c 2 t : Vec Ideal S256x128 .f32) (ix2 r l)) = t0 (row t r) from funext fun l => row2 m c t r l,
      show (fun l => (iblk m c 3 t : Vec Ideal S256x128 .f32) (ix2 r l)) = t1 (row t r) from funext fun l => row3 m c t r l,
      show (fun l => (iblk m c 4 t : Vec Ideal S256x128 .f32) (ix2 r l)) = t2 (row t r) from funext fun l => row4 m c t r l,
      rot_eq (NormRow.el (Ideal.ofBits .f32 0x43400000#32) (kA (A0 m c) (A1 m c) (A3 m c) (A5 m c) (row t r) ⟨j.val / 256, hd⟩) (fun x => A7 m c (ix1 x))) 1
        (fun x y => by rw [mul_one, mul_one, mul_one]) _ (fun x => by
        rw [hb, hg]
        by_cases p : x.val < 64
        · rw [dif_pos p, dif_pos p, mul_one]
          exact congrArg (fun a : EReal => _ * a) (dif_pos (show 128 + x.val < 192 by omega))
        · rw [dif_neg p, dif_neg p, zero_mul, zero_mul])]
    by_cases p : j.val % 256 < 192
    · rw [dif_pos (show j.val % 256 - 128 < 64 by omega), dif_pos ⟨hd, p⟩, mul_one]
      have e : 128 + (j.val % 256 - 128) = j.val % 256 := by omega
      simp only [e]
    · rw [dif_neg (show ¬ j.val % 256 - 128 < 64 by omega), dif_neg fun p' => p p'.2]
omit H

open Cert.MlaFrontRefIdeal.Read
/-- The arrays the call leaves are the reference's. -/
theorem arr11 : (dats m 0 c).arrAt 11 cfg0.N = val_main_v141 (F := Ideal) (A0 m c) (A1 m c) := by
  refine (dats m 0 c).arrAt_eq_of_covers 11 _ (by decide +kernel) fun t hf y => ?_
  blk_simp
  rw [after0_11, block11]
  refine Eq.trans ?_ (congrArg (val_main_v141 (F := Ideal) (A0 m c) (A1 m c)) (emb11 t y).symm)
  exact (pr_eq m c t (y 0) (y 1)).trans (ref_pj _ _ _ _).symm
theorem arr12 : (dats m 0 c).arrAt 12 cfg0.N = val_main_v142 (F := Ideal) (A0 m c) (A1 m c) (A2 m c) := by
  refine (dats m 0 c).arrAt_eq_of_covers 12 _ (by decide +kernel) fun t hf y => ?_
  blk_simp
  rw [after0_12, block12]
  refine Eq.trans ?_ (congrArg (val_main_v142 (F := Ideal) (A0 m c) (A1 m c) (A2 m c)) (emb12 t y).symm)
  exact (cq_eq m c t (y 0) (y 1)).trans (ref_c _ _ _ _ _).symm
theorem arr13 : (dats m 0 c).arrAt 13 cfg0.N = val_main_v143 (F := Ideal) (A0 m c) (A1 m c) (A3 m c) := by
  refine (dats m 0 c).arrAt_eq_of_covers 13 _ (by decide +kernel) fun t hf y => ?_
  blk_simp
  rw [after0_13, block13]
  refine Eq.trans ?_ (congrArg (val_main_v143 (F := Ideal) (A0 m c) (A1 m c) (A3 m c)) (emb13 t y).symm)
  exact (ck_eq m c t (y 0) (y 1)).trans (ref_c' _ _ _ _ _).symm
theorem arr14 : (dats m 0 c).arrAt 14 cfg0.N = val_main_v147 (F := Ideal) (A0 m c) (A1 m c) (A2 m c) (A4 m c) := by
  refine (dats m 0 c).arrAt_eq_of_covers 14 _ (by decide +kernel) fun t hf y => ?_
  blk_simp
  rw [after0_14, block14]
  refine Eq.trans ?_ (congrArg (val_main_v147 (F := Ideal) (A0 m c) (A1 m c) (A2 m c) (A4 m c)) (emb14 t y).symm)
  exact (q_eq m c t (y 0) (y 1)).trans (ref_qp _ _ _ _ _ _).symm
theorem arr15 : (dats m 0 c).arrAt 15 cfg0.N = val_main_v148 (F := Ideal) (A0 m c) (A1 m c) (A3 m c) (A5 m c) := by
  refine (dats m 0 c).arrAt_eq_of_covers 15 _ (by decide +kernel) fun t hf y => ?_
  blk_simp
  rw [after0_15, block15]
  refine Eq.trans ?_ (congrArg (val_main_v148 (F := Ideal) (A0 m c) (A1 m c) (A3 m c) (A5 m c)) (emb15 t y).symm)
  exact (kv_eq m c t (y 0) (y 1)).trans (ref_kvp _ _ _ _ _ _).symm
theorem arr16 (H : Re m c) : (dats m 0 c).arrAt 16 cfg0.N = val_main_v151 (F := Ideal) (A0 m c) (A1 m c) (A2 m c) (A4 m c) (A6 m c) := by
  refine (dats m 0 c).arrAt_eq_of_covers 16 _ (by decide +kernel) fun t hf y => ?_
  blk_simp
  rw [after0_16]
  refine Eq.trans ?_ (congrArg (val_main_v151 (F := Ideal) (A0 m c) (A1 m c) (A2 m c) (A4 m c) (A6 m c)) (emb16 t y).symm)
  exact (congrArg _ (ix2_eta y).symm).trans ((qr_eq m c H t (y 0) (y 1)).trans (ref_qrp _ _ _ _ _ _ _).symm)
theorem arr17 (H : Re m c) : (dats m 0 c).arrAt 17 cfg0.N = val_main_v154 (F := Ideal) (A0 m c) (A1 m c) (A3 m c) (A5 m c) (A7 m c) := by
  refine (dats m 0 c).arrAt_eq_of_covers 17 _ (by decide +kernel) fun t hf y => ?_
  blk_simp
  rw [after0_17]
  refine Eq.trans ?_ (congrArg (val_main_v154 (F := Ideal) (A0 m c) (A1 m c) (A3 m c) (A5 m c) (A7 m c)) (emb17 t y).symm)
  exact (congrArg _ (ix2_eta y).symm).trans ((kr_eq' m c H t (y 0) (y 1)).trans (ref_krp _ _ _ _ _ _ _).symm)
theorem arr18 : (dats m 0 c).arrAt 18 cfg0.N = val_main_v156 (F := Ideal) (A0 m c) (A1 m c) (A3 m c) (A5 m c) := by
  refine (dats m 0 c).arrAt_eq_of_covers 18 _ (by decide +kernel) fun t hf y => ?_
  blk_simp
  rw [after0_18]
  refine Eq.trans ?_ (congrArg (val_main_v156 (F := Ideal) (A0 m c) (A1 m c) (A3 m c) (A5 m c)) (emb18 t y).symm)
  exact (congrArg _ (ix2_eta y).symm).trans (((block18 _ _ _ _ _ _ _ _ _ _ _ (y 0) ⟨(y 1).val / 128, by have h : (y 1).val < 1024 := (y 1).isLt; omega⟩ ⟨(y 1).val % 128, by omega⟩ (y 1)
    (by show (y 1).val = (y 1).val / 128 * 128 + (y 1).val % 128; omega)).trans ((kv_eq m c t (y 0) _).trans (congrArg (kvA _ _ _ _ _) (Fin.ext (ce_val _ _))))).trans (ref_v _ _ _ _ _ _).symm)
/-- What the precondition says of the six arrays. -/
theorem real_of_pre (h : Cert.Pre_front_finite.fn (F := Ideal) (A0 m c) (A1 m c) (A2 m c) (A3 m c) (A4 m c) (A5 m c) (A6 m c) (A7 m c) = fun _ => 1#1) : Re m c := by
  have h0 := congrFun h ix0
  simp only [Cert.Pre_front_finite.fn, Cert.Pre_front_finite.fn_part1] at h0
  obtain ⟨p, q5⟩ := IntOp.andi_eq_one.1 h0
  obtain ⟨p, q4⟩ := IntOp.andi_eq_one.1 p
  obtain ⟨p, q3⟩ := IntOp.andi_eq_one.1 p
  obtain ⟨p, q2⟩ := IntOp.andi_eq_one.1 p
  obtain ⟨q0, q1⟩ := IntOp.andi_eq_one.1 p
  exact ⟨fun i => Alg.real_of_test _ (Host.reduce_andi_all _ _ _ _ _ q0 i), fun i => Alg.real_of_test _ (Host.reduce_andi_all _ _ _ _ _ q1 i), fun i => Alg.real_of_test _ (Host.reduce_andi_all _ _ _ _ _ q2 i), fun i => Alg.real_of_test _ (Host.reduce_andi_all _ _ _ _ _ q3 i), fun i => Alg.real_of_test _ (Host.reduce_andi_all _ _ _ _ _ q4 i), fun i => Alg.real_of_test _ (Host.reduce_andi_all _ _ _ _ _ q5 i)⟩

/-- The run's results and its arguments. -/
theorem run_blocks (ρ : Dev nD → PrngReg) : θ_run defs (onTc (τ := τ) (main (F := Ideal))) ⟨m, fun _ => 0, ρ⟩ fun r => ∀ c : Dev nD,
      r.2.mem ((c.tc : Thread nD τ).loc main_v47_0) = (dats m 0 c).arrAt 11 cfg0.N
      ∧ r.2.mem ((c.tc : Thread nD τ).loc main_v47_1) = (dats m 0 c).arrAt 12 cfg0.N
      ∧ r.2.mem ((c.tc : Thread nD τ).loc main_v47_2) = (dats m 0 c).arrAt 13 cfg0.N
      ∧ r.2.mem ((c.tc : Thread nD τ).loc main_v47_3) = (dats m 0 c).arrAt 14 cfg0.N
      ∧ r.2.mem ((c.tc : Thread nD τ).loc main_v47_4) = (dats m 0 c).arrAt 15 cfg0.N
      ∧ r.2.mem ((c.tc : Thread nD τ).loc main_v47_5) = (dats m 0 c).arrAt 16 cfg0.N
      ∧ r.2.mem ((c.tc : Thread nD τ).loc main_v47_6) = (dats m 0 c).arrAt 17 cfg0.N
      ∧ r.2.mem ((c.tc : Thread nD τ).loc main_v47_7) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.2 c).1 11, (h.2 c).1 12, (h.2 c).1 13, (h.2 c).1 14, (h.2 c).1 15, (h.2 c).1 16, (h.2 c).1 17, (h.2 c).1 18, h.1.1 c⟩)
    (θ_run_and (frame m ρ) (run_main m ρ))

end Cert.Front
-- ==== Proof.lean ====
module

public import proofs.«01_k».proof.Defs
public import proofs.«01_k».proof.Proof.Gen.ReluBwd
public import proofs.«01_k».proof.Proof.Gen.ReluBwd.Skeleton
public import proofs.«01_k».proof.Proof.Gen.ReluBwd.Launch
public import proofs.«01_k».proof.Proof.Gen.ReluBwd.Points
public import proofs.«01_k».proof.Proof.Gen.ReluBwd.Frame
public import proofs.«01_k».proof.Proof.Gen.ReluBwdIdeal
public import proofs.«01_k».proof.Proof.Gen.ReluBwdIdeal.Skeleton
public import proofs.«01_k».proof.Proof.Gen.ReluBwdIdeal.Launch
public import proofs.«01_k».proof.Proof.Gen.ReluBwdIdeal.Points
public import proofs.«01_k».proof.Proof.Gen.ReluBwdIdeal.Frame
public import proofs.«01_k».proof.Proof.Gen.ReluBwdIdeal.Value
public import proofs.«01_k».proof.Proof.Gen.ReluBwdRefIdeal
public import proofs.«01_k».proof.Proof.Gen.ReluBwdRefIdeal.Run
public import proofs.«01_k».proof.Proof.Gen.ReluBwdRefIdeal.Read
public import proofs.«01_k».proof.Proof.Gen.DeltaBwd
public import proofs.«01_k».proof.Proof.Gen.DeltaBwd.Skeleton
public import proofs.«01_k».proof.Proof.Gen.DeltaBwd.Launch
public import proofs.«01_k».proof.Proof.Gen.DeltaBwd.Points
public import proofs.«01_k».proof.Proof.Gen.DeltaBwd.Frame
public import proofs.«01_k».proof.Proof.Gen.DeltaBwdIdeal
public import proofs.«01_k».proof.Proof.Gen.DeltaBwdIdeal.Skeleton
public import proofs.«01_k».proof.Proof.Gen.DeltaBwdIdeal.Launch
public import proofs.«01_k».proof.Proof.Gen.DeltaBwdIdeal.Points
public import proofs.«01_k».proof.Proof.Gen.DeltaBwdIdeal.Frame
public import proofs.«01_k».proof.Proof.Gen.DeltaBwdIdeal.Value
public import proofs.«01_k».proof.Proof.Gen.DeltaBwdRefIdeal
public import proofs.«01_k».proof.Proof.Gen.DeltaBwdRefIdeal.Run
public import proofs.«01_k».proof.Proof.Gen.DeltaBwdRefIdeal.Read
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossBwdRefIdeal
public import proofs.«01_k».proof.Proof.Gen.LossBwdRefIdeal.Run
public import proofs.«01_k».proof.Proof.Gen.LossBwdRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.PleBwd
public import proofs.«01_k».proof.Proof.Gen.PleBwd.Skeleton
public import proofs.«01_k».proof.Proof.Gen.PleBwd.Launch
public import proofs.«01_k».proof.Proof.Gen.PleBwd.Points
public import proofs.«01_k».proof.Proof.Gen.PleBwd.Frame
public import proofs.«01_k».proof.Proof.Gen.PleBwdIdeal
public import proofs.«01_k».proof.Proof.Gen.PleBwdIdeal.Skeleton
public import proofs.«01_k».proof.Proof.Gen.PleBwdIdeal.Launch
public import proofs.«01_k».proof.Proof.Gen.PleBwdIdeal.Points
public import proofs.«01_k».proof.Proof.Gen.PleBwdIdeal.Frame
public import proofs.«01_k».proof.Proof.Gen.PleBwdIdeal.Value
public import proofs.«01_k».proof.Proof.Gen.PleBwdRefIdeal
public import proofs.«01_k».proof.Proof.Gen.PleBwdRefIdeal.Run
public import proofs.«01_k».proof.Proof.Gen.PleBwdRefIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.Pre_gate_finite
public import proofs.«01_k».proof.Proof.Gen.On_gate_written
public import proofs.«01_k».proof.Proof.Gen.FlashBwd
public import proofs.«01_k».proof.Proof.Gen.FlashBwdIdeal
public import proofs.«01_k».proof.Proof.Gen.FlashBwdIdeal.Skeleton
public import proofs.«01_k».proof.Proof.Gen.FlashBwdIdeal.Launch
public import proofs.«01_k».proof.Proof.Gen.FlashBwdIdeal.Points
public import proofs.«01_k».proof.Proof.Gen.FlashBwdIdeal.Frame
public import proofs.«01_k».proof.Proof.Gen.FlashBwdIdeal.Loops
public import proofs.«01_k».proof.Proof.Gen.FlashBwdRefIdeal
public import proofs.«01_k».proof.Proof.Gen.FlashBwdRefIdeal.Run
public import proofs.«01_k».proof.Proof.Gen.FlashBwdRefIdeal.Read
public import proofs.«01_k».proof.Proof.Gen.Pre_flash_finite
public import proofs.«01_k».proof.Proof.Gen.FlashFwd
public import proofs.«01_k».proof.Proof.Gen.FlashFwd.Skeleton
public import proofs.«01_k».proof.Proof.Gen.FlashFwd.Launch
public import proofs.«01_k».proof.Proof.Gen.FlashFwd.Points
public import proofs.«01_k».proof.Proof.Gen.FlashFwd.Frame
public import proofs.«01_k».proof.Proof.Gen.FlashFwdIdeal
public import proofs.«01_k».proof.Proof.Gen.FlashFwdIdeal.Skeleton
public import proofs.«01_k».proof.Proof.Gen.FlashFwdIdeal.Launch
public import proofs.«01_k».proof.Proof.Gen.FlashFwdIdeal.Points
public import proofs.«01_k».proof.Proof.Gen.FlashFwdIdeal.Frame
public import proofs.«01_k».proof.Proof.Gen.FlashFwdIdeal.Loops
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.Gen.Pre_flashfwd_finite
public import proofs.«01_k».proof.Proof.Gen.RetFwd
public import proofs.«01_k».proof.Proof.Gen.RetFwd.Skeleton
public import proofs.«01_k».proof.Proof.Gen.RetFwd.Launch
public import proofs.«01_k».proof.Proof.Gen.RetFwd.Points
public import proofs.«01_k».proof.Proof.Gen.RetFwd.Frame
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Points
public import proofs.«01_k».proof.Proof.Gen.RetFwdIdeal.Frame
public import proofs.«01_k».proof.Proof.Gen.RetFwdIdeal.Value
public import proofs.«01_k».proof.Proof.Gen.RetFwdRefIdeal
public import proofs.«01_k».proof.Proof.Gen.RetFwdRefIdeal.Run
public import proofs.«01_k».proof.Proof.Gen.Pre_retf_finite
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdIdeal.Value
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.Gen.ResFwd
public import proofs.«01_k».proof.Proof.Gen.ResFwd.Skeleton
public import proofs.«01_k».proof.Proof.Gen.ResFwd.Launch
public import proofs.«01_k».proof.Proof.Gen.ResFwd.Points
public import proofs.«01_k».proof.Proof.Gen.ResFwd.Frame
public import proofs.«01_k».proof.Proof.Gen.ResFwdIdeal
public import proofs.«01_k».proof.Proof.Gen.ResFwdIdeal.Skeleton
public import proofs.«01_k».proof.Proof.Gen.ResFwdIdeal.Launch
public import proofs.«01_k».proof.Proof.Gen.ResFwdIdeal.Points
public import proofs.«01_k».proof.Proof.Gen.ResFwdIdeal.Frame
public import proofs.«01_k».proof.Proof.Gen.ResFwdIdeal.Value
public import proofs.«01_k».proof.Proof.Gen.ResFwdRefIdeal
public import proofs.«01_k».proof.Proof.Gen.ResFwdRefIdeal.Run
public import proofs.«01_k».proof.Proof.Gen.ResFwdRefIdeal.Read
public import proofs.«01_k».proof.Proof.Gen.PleFwd
public import proofs.«01_k».proof.Proof.Gen.PleFwd.Skeleton
public import proofs.«01_k».proof.Proof.Gen.PleFwd.Launch
public import proofs.«01_k».proof.Proof.Gen.PleFwd.Points
public import proofs.«01_k».proof.Proof.Gen.PleFwd.Frame
public import proofs.«01_k».proof.Proof.Gen.PleFwdIdeal
public import proofs.«01_k».proof.Proof.Gen.PleFwdIdeal.Skeleton
public import proofs.«01_k».proof.Proof.Gen.PleFwdIdeal.Launch
public import proofs.«01_k».proof.Proof.Gen.PleFwdIdeal.Points
public import proofs.«01_k».proof.Proof.Gen.PleFwdIdeal.Frame
public import proofs.«01_k».proof.Proof.Gen.PleFwdIdeal.Value
public import proofs.«01_k».proof.Proof.Gen.PleFwdRefIdeal
public import proofs.«01_k».proof.Proof.Gen.PleFwdRefIdeal.Run
public import proofs.«01_k».proof.Proof.Gen.PleFwdRefIdeal.Read
public import proofs.«01_k».proof.Proof.Gen.MlaFront
public import proofs.«01_k».proof.Proof.Gen.MlaFront.Skeleton
public import proofs.«01_k».proof.Proof.Gen.MlaFront.Launch
public import proofs.«01_k».proof.Proof.Gen.MlaFront.Points
public import proofs.«01_k».proof.Proof.Gen.MlaFront.Frame
public import proofs.«01_k».proof.Proof.Gen.MlaFrontIdeal
public import proofs.«01_k».proof.Proof.Gen.MlaFrontIdeal.Skeleton
public import proofs.«01_k».proof.Proof.Gen.MlaFrontIdeal.Launch
public import proofs.«01_k».proof.Proof.Gen.MlaFrontIdeal.Points
public import proofs.«01_k».proof.Proof.Gen.MlaFrontIdeal.Frame
public import proofs.«01_k».proof.Proof.Gen.MlaFrontRefIdeal
public import proofs.«01_k».proof.Proof.Gen.MlaFrontRefIdeal.Run
public import proofs.«01_k».proof.Proof.Gen.MlaFrontRefIdeal.Read
public import proofs.«01_k».proof.Proof.Gen.Pre_front_finite
public import proofs.«01_k».proof.Proof.Relu
public import proofs.«01_k».proof.Proof.Delta
public import proofs.«01_k».proof.Proof.Loss
public import proofs.«01_k».proof.Proof.Norm
public import proofs.«01_k».proof.Proof.Ple
public import proofs.«01_k».proof.Proof.Gate
public import proofs.«01_k».proof.Proof.Flash
public import proofs.«01_k».proof.Proof.Fwd
public import proofs.«01_k».proof.Proof.RetF
public import proofs.«01_k».proof.Proof.Mix
public import proofs.«01_k».proof.Proof.GateF
public import proofs.«01_k».proof.Proof.Mlp
public import proofs.«01_k».proof.Proof.Res
public import proofs.«01_k».proof.Proof.PleF
public import proofs.«01_k».proof.Proof.FrontEq
public import Idealize.ShloMosaic.Lib.Claim
public import Idealize.ShloMosaic.Adequacy
public import Idealize.ShloMosaic.Init

@[expose] public section

noncomputable section

namespace Cert.Proof

open Idealize.ShloMosaic Idealize.SL.Sem

/-- The reference's run with its arguments unchanged; it declares no semaphore. -/
theorem relu_ref : Cert.quiescent_ReluBwdRefIdeal := fun m ρ _ =>
  (θ_run Cert.ReluBwdRefIdeal.defs _ _).mono (fun r h => ⟨fun c => (h c).2, sem_eq_zero_of_no_sems (by decide) r.2⟩)
    (Cert.ReluBwdRefIdeal.Value.run (F := Ideal) m ρ)

/-- The gradient through the squared rectifier. -/
theorem relu : Cert.algebraic_ReluBwdIdeal_ReluBwdRefIdeal := by
  intro m g m' g' hpre hagree
  refine ⟨_, θ_run_mono (Cert.ReluBwdIdeal.Value.run_blocks m g) fun r h => h,
    θ_run_mono (Cert.ReluBwdRefIdeal.Value.run (F := Ideal) m' g') fun r h c => ⟨?_, (h c).2⟩⟩
  rw [(h c).1, Cert.Relu.arr_eq, (hagree c).1, (hagree c).2.1, (hagree c).2.2.1, (hagree c).2.2.2.1, (hagree c).2.2.2.2]
  rfl

/-- The reference's run with its arguments unchanged; it declares no semaphore. -/
theorem delta_ref : Cert.quiescent_DeltaBwdRefIdeal := fun m ρ _ =>
  (θ_run Cert.DeltaBwdRefIdeal.defs _ _).mono (fun r h => ⟨fun c => (h c).2.2, sem_eq_zero_of_no_sems (by decide) r.2⟩)
    (Cert.DeltaBwdRefIdeal.Value.run (F := Ideal) m ρ)

/-- The gradient of the attention's output and each head's row sum of it times the output. -/
theorem delta : Cert.algebraic_DeltaBwdIdeal_DeltaBwdRefIdeal := by
  intro m g m' g' hpre hagree
  refine ⟨_, _, θ_run_mono (Cert.DeltaBwdIdeal.Value.run_blocks m g) fun r h => h,
    θ_run_mono (Cert.DeltaBwdRefIdeal.Value.run (F := Ideal) m' g') fun r h c => ⟨?_, ?_, (h c).2.2⟩⟩
  · rw [(h c).1, Cert.Delta.arr3_eq, (hagree c).1, (hagree c).2.1, (hagree c).2.2]
    rfl
  · rw [(h c).2.1, Cert.Delta.arr4_eq, (hagree c).2.1, (hagree c).2.2]
    rfl

/-- The reference's run with its arguments unchanged; it declares no semaphore. -/
theorem loss_ref : Cert.quiescent_LossBwdRefIdeal := fun m ρ _ =>
  (θ_run Cert.LossBwdRefIdeal.defs _ _).mono (fun r h => ⟨fun c => (h c).2.2.2.2, sem_eq_zero_of_no_sems (by decide) r.2⟩)
    (Cert.LossBwdRefIdeal.Value.run (F := Ideal) m ρ)

/-- The loss with its gradient, the gate and the embedding's product. -/
theorem loss : Cert.algebraic_LossBwdIdeal_LossBwdRefIdeal := by
  intro m g m' g' hpre hagree
  refine ⟨_, _, _, _, θ_run_mono (Cert.LossBwdIdeal.Value.run_blocks m g) fun r h => h,
    θ_run_mono (Cert.LossBwdRefIdeal.Value.run (F := Ideal) m' g') fun r h c => ⟨?_, ?_, ?_, ?_, (h c).2.2.2.2⟩⟩
  all_goals obtain ⟨e0, e1, e2, e3, e4, e5⟩ := hagree c
  · rw [(h c).1, Cert.Loss.arr6, e3, e4]
    rfl
  · rw [(h c).2.1, Cert.Loss.arr7, e0, e1, e2]
    rfl
  · rw [(h c).2.2.1, Cert.Loss.arr8, e0, e1, e2, e3, e4, e5]
    rfl
  · rw [(h c).2.2.2.1, Cert.Loss.arr9, e0, e1, e2, e3, e4, e5]
    rfl

/-- The reference's run with its arguments unchanged; it declares no semaphore. -/
theorem norm_ref : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

/-- The normalisation's gradients behind a product. -/
theorem norm : Cert.algebraic_NormBwdIdeal_NormBwdRefIdeal := by
  intro m g m' g' hpre hagree
  refine ⟨_, _, _, θ_run_mono (Cert.NormBwdIdeal.Value.run_blocks m g) fun r h => h,
    θ_run_mono (Cert.NormBwdRefIdeal.Value.run (F := Ideal) m' g') fun r h c => ⟨?_, ?_, ?_, (h c).2.2.2⟩⟩
  all_goals obtain ⟨e0, e1, e2, e3, e4⟩ := hagree c
  · rw [(h c).1, Cert.Norm.arr5, ← e0, ← e1, ← e2, ← e3, ← e4]
    exact Cert.NormBwdRefIdeal.Read.val_main_v38_eq m' c
  · rw [(h c).2.1, Cert.Norm.arr6, ← e0, ← e1, ← e2, ← e3, ← e4]
    exact Cert.NormBwdRefIdeal.Read.val_main_v39_eq m' c
  · rw [(h c).2.2.1, Cert.Norm.arr7, e0, e2, e4]
    rfl

/-- The reference's run with its arguments unchanged; it declares no semaphore. -/
theorem ple_ref : Cert.quiescent_PleBwdRefIdeal := fun m ρ _ =>
  (θ_run Cert.PleBwdRefIdeal.defs _ _).mono (fun r h => ⟨fun c => (h c).2.2.2.2.2, sem_eq_zero_of_no_sems (by decide) r.2⟩)
    (Cert.PleBwdRefIdeal.Value.run (F := Ideal) m ρ)

/-- The gated embedding's gradients. -/
theorem ple : Cert.algebraic_PleBwdIdeal_PleBwdRefIdeal := by
  intro m g m' g' hpre hagree
  refine ⟨_, _, _, _, _, θ_run_mono (Cert.PleBwdIdeal.Value.run_blocks m g) fun r h => h,
    θ_run_mono (Cert.PleBwdRefIdeal.Value.run (F := Ideal) m' g') fun r h c => ⟨?_, ?_, ?_, ?_, ?_, (h c).2.2.2.2.2⟩⟩
  all_goals obtain ⟨e0, e1, e2, e3, e4, e5⟩ := hagree c
  · rw [(h c).1, Cert.Ple.arr6, e0, e1, e2, e5]
    rfl
  · rw [(h c).2.1, Cert.Ple.arr7, e0, e1, e2, e3, e4, e5]
    rfl
  · rw [(h c).2.2.1, Cert.Ple.arr8, ← e0, ← e1, ← e2, ← e3, ← e4, ← e5]
    exact Cert.PleBwdRefIdeal.Read.val_main_v53_eq m' c
  · rw [(h c).2.2.2.1, Cert.Ple.arr9, ← e0, ← e1, ← e2, ← e3, ← e4, ← e5]
    exact Cert.PleBwdRefIdeal.Read.val_main_v85_eq m' c
  · rw [(h c).2.2.2.2.1, Cert.Ple.arr10, e0, e1, e2, e3, e4, e5]
    rfl

/-- The reference's run with its arguments unchanged; it declares no semaphore. -/
theorem gate_ref : Cert.quiescent_GateBwdRefIdeal := fun m ρ _ =>
  (θ_run Cert.GateBwdRefIdeal.defs _ _).mono (fun r h => ⟨fun c => (h c).2.2.2, sem_eq_zero_of_no_sems (by decide) r.2⟩)
    (Cert.GateBwdRefIdeal.Value.run (F := Ideal) m ρ)

/-- The gated norm's gradients. -/
theorem gate : Cert.algebraic_GateBwdIdeal_GateBwdRefIdeal_on_gate_written_pre_gate_finite := by
  intro m g m' g' hpre hagree
  refine ⟨_, _, fun c => (Cert.GateBwdIdeal.Gen.dats m 0 c).arrAt 9 Cert.GateBwdIdeal.cfg0.N,
    θ_run_mono (Cert.GateBwdIdeal.Value.run_blocks m g) fun r h c => ⟨fun i _ => congrFun ((h c).1.trans (Cert.Gate.arr7 m c)) i,
      fun i hi => (congrFun (h c).2.1 i).trans (Cert.Gate.arr8 m c (hpre c) i (Cert.Gate.mask_col _ _ _ _ i hi)),
      fun i _ => congrFun (h c).2.2.1 i, (h c).2.2.2⟩,
    θ_run_mono (Cert.GateBwdRefIdeal.Value.run (F := Ideal) m' g') fun r h c => ⟨fun i _ => ?_, fun i _ => ?_, fun i _ => ?_, (h c).2.2.2⟩⟩
  all_goals obtain ⟨e0, e1, e2, e3⟩ := hagree c
  · rw [(h c).1, ← e0, ← e1, ← e2, ← e3]
    exact congrFun (Cert.GateBwdRefIdeal.Read.val_main_v46_eq m' c) i
  · rw [(h c).2.1, ← e0, ← e1, ← e2, ← e3]
    rfl
  · rw [(h c).2.2.1, e0, e1, e3]
    exact congrFun (Cert.Gate.arr9 m c).symm i

/-- The reference's run with its arguments unchanged; it declares no semaphore. -/
theorem flash_ref : Cert.quiescent_FlashBwdRefIdeal := fun m ρ _ =>
  (θ_run Cert.FlashBwdRefIdeal.defs _ _).mono (fun r h => ⟨fun c => (h c).2.2.2, sem_eq_zero_of_no_sems (by decide) r.2⟩)
    (Cert.FlashBwdRefIdeal.Value.run (F := Ideal) m ρ)

theorem flash_frame : Cert.quiescent_FlashBwd := Flash.frame_words_printed

theorem flash_frameIdeal : Cert.quiescent_FlashBwdIdeal := Flash.frame_ideal

/-- The attention's gradients. -/
theorem flash : Cert.algebraic_FlashBwdIdeal_FlashBwdRefIdeal_pre_flash_finite := by
  intro m g m' g' hpre hagree
  refine ⟨_, _, _, θ_run_mono (Flash.run_blocks m g) fun r h c => h c,
    θ_run_mono (Cert.FlashBwdRefIdeal.Value.run (F := Ideal) m' g') fun r h c => ⟨?_, ?_, ?_, (h c).2.2.2⟩⟩
  all_goals obtain ⟨e0, e1, e2, e3⟩ := hagree c
  · rw [(Flash.arrays m c (hpre c)).1, (h c).1, ← e0, ← e1, ← e2, ← e3]
    exact Cert.FlashBwdRefIdeal.Read.val_main_v66_eq m' c
  · rw [(Flash.arrays m c (hpre c)).2.1, (h c).2.1, ← e0, ← e1, ← e2, ← e3]
    exact Cert.FlashBwdRefIdeal.Read.val_main_v69_eq m' c
  · rw [(Flash.arrays m c (hpre c)).2.2, (h c).2.2.1, ← e0, ← e1, ← e3]
    exact Cert.FlashBwdRefIdeal.Read.val_main_v71_eq m' c

/-- The reference's run with its arguments unchanged; it declares no semaphore. -/
theorem fwd_ref : Cert.quiescent_FlashFwdRefIdeal := fun m ρ _ =>
  (θ_run Cert.FlashFwdRefIdeal.defs _ _).mono (fun r h => ⟨fun c => (h c).2.2, sem_eq_zero_of_no_sems (by decide) r.2⟩)
    (Cert.FlashFwdRefIdeal.Value.run (F := Ideal) m ρ)

/-- The attention's output and its rows' log-sums. -/
theorem fwd : Cert.algebraic_FlashFwdIdeal_FlashFwdRefIdeal_pre_flashfwd_finite := by
  intro m g m' g' hpre hagree
  refine ⟨_, _, θ_run_mono (FlashFwd.run_blocks m g) fun r h c => h c,
    θ_run_mono (Cert.FlashFwdRefIdeal.Value.run (F := Ideal) m' g') fun r h c => ⟨?_, ?_, (h c).2.2⟩⟩
  all_goals obtain ⟨e0, e1, e2⟩ := hagree c
  · rw [(FlashFwd.arrays m c (hpre c)).1, (h c).1, ← e0, ← e1, ← e2]
    exact Cert.FlashFwdRefIdeal.Read.val_main_v50_eq m' c
  · rw [(FlashFwd.arrays m c (hpre c)).2, (h c).2.1, ← e0, ← e1]
    exact Cert.FlashFwdRefIdeal.Read.val_main_v25_eq m' c

/-- The reference's run with its argument unchanged; it declares no semaphore. -/
theorem retf_ref : Cert.quiescent_RetFwdRefIdeal := fun m ρ _ =>
  (θ_run Cert.RetFwdRefIdeal.defs _ _).mono (fun r h => ⟨fun c => (h c).2.2, sem_eq_zero_of_no_sems (by decide) r.2⟩)
    (Cert.RetFwdRefIdeal.Value.run (F := Ideal) m ρ)

/-- The retention's outputs and the states that it saves. -/
theorem retf : Cert.algebraic_RetFwdIdeal_RetFwdRefIdeal_pre_retf_finite := by
  intro m g m' g' hpre hagree
  refine ⟨_, _, θ_run_mono (Cert.RetFwdIdeal.Value.run_blocks m g) fun r h c => h c,
    θ_run_mono (Cert.RetFwdRefIdeal.Value.run (F := Ideal) m' g') fun r h c => ⟨?_, ?_, (h c).2.2⟩⟩
  · rw [(RetF.arrays m c m' (hpre c) (hagree c)).1, (h c).1]
  · rw [(RetF.arrays m c m' (hpre c) (hagree c)).2, (h c).2.1]

/-- The reference's run with its arguments unchanged; it declares no semaphore. -/
theorem mixf_ref : Cert.quiescent_MixFwdRefIdeal := fun m ρ _ =>
  (θ_run Cert.MixFwdRefIdeal.defs _ _).mono (fun r h => ⟨fun c => (h c).2, sem_eq_zero_of_no_sems (by decide) r.2⟩)
    (Cert.MixFwdRefIdeal.Value.run (F := Ideal) m ρ)

/-- The mixers' sum normalised behind its product. -/
theorem mixf : Cert.algebraic_MixFwdIdeal_MixFwdRefIdeal := by
  intro m g m' g' hpre hagree
  refine ⟨_, θ_run_mono (Cert.MixFwdIdeal.Value.run_blocks m g) fun r h => h,
    θ_run_mono (Cert.MixFwdRefIdeal.Value.run (F := Ideal) m' g') fun r h c => ⟨?_, (h c).2⟩⟩
  obtain ⟨e0, e1⟩ := hagree c
  rw [(h c).1, Cert.Mix.arr, ← e0, ← e1]
  exact Cert.MixFwdRefIdeal.Read.val_main_v13_eq _ _

/-- The reference's run with its arguments unchanged; it declares no semaphore. -/
theorem gatef_ref : Cert.quiescent_GateFwdRefIdeal := fun m ρ _ =>
  (θ_run Cert.GateFwdRefIdeal.defs _ _).mono (fun r h => ⟨fun c => (h c).2, sem_eq_zero_of_no_sems (by decide) r.2⟩)
    (Cert.GateFwdRefIdeal.Value.run (F := Ideal) m ρ)

/-- The gated heads. -/
theorem gatef : Cert.algebraic_GateFwdIdeal_GateFwdRefIdeal := by
  intro m g m' g' hpre hagree
  refine ⟨_, θ_run_mono (Cert.GateFwdIdeal.Value.run_blocks m g) fun r h => h,
    θ_run_mono (Cert.GateFwdRefIdeal.Value.run (F := Ideal) m' g') fun r h c => ⟨?_, (h c).2⟩⟩
  obtain ⟨e0, e1, e2⟩ := hagree c
  rw [(h c).1, Cert.GateF.arr, ← e0, ← e1, ← e2]
  exact Cert.GateFwdRefIdeal.Read.val_main_v18_eq _ _ _

/-- The reference's run with its arguments unchanged; it declares no semaphore. -/
theorem mlpf_ref : Cert.quiescent_MlpFwdRefIdeal := fun m ρ _ =>
  (θ_run Cert.MlpFwdRefIdeal.defs _ _).mono (fun r h => ⟨fun c => (h c).2, sem_eq_zero_of_no_sems (by decide) r.2⟩)
    (Cert.MlpFwdRefIdeal.Value.run (F := Ideal) m ρ)

/-- The squared rectifier behind its product. -/
theorem mlpf : Cert.algebraic_MlpFwdIdeal_MlpFwdRefIdeal := by
  intro m g m' g' hpre hagree
  refine ⟨_, θ_run_mono (Cert.MlpFwdIdeal.Value.run_blocks m g) fun r h => h,
    θ_run_mono (Cert.MlpFwdRefIdeal.Value.run (F := Ideal) m' g') fun r h c => ⟨?_, (h c).2⟩⟩
  obtain ⟨e0, e1⟩ := hagree c
  rw [(h c).1, Cert.Mlp.arr, ← e0, ← e1]
  exact Cert.MlpFwdRefIdeal.Read.val_main_v3_eq _ _

/-- The reference's run with its arguments unchanged; it declares no semaphore. -/
theorem resn_ref : Cert.quiescent_ResFwdRefIdeal := fun m ρ _ =>
  (θ_run Cert.ResFwdRefIdeal.defs _ _).mono (fun r h => ⟨fun c => (h c).2.2, sem_eq_zero_of_no_sems (by decide) r.2⟩)
    (Cert.ResFwdRefIdeal.Value.run (F := Ideal) m ρ)

/-- The residual sum and its normalisation behind a product. -/
theorem resn : Cert.algebraic_ResFwdIdeal_ResFwdRefIdeal := by
  intro m g m' g' hpre hagree
  refine ⟨_, _, θ_run_mono (Cert.ResFwdIdeal.Value.run_blocks m g) fun r h => h,
    θ_run_mono (Cert.ResFwdRefIdeal.Value.run (F := Ideal) m' g') fun r h c => ⟨?_, ?_, (h c).2.2⟩⟩
  all_goals obtain ⟨e0, e1, e2, e3⟩ := hagree c
  · rw [(h c).1, Cert.Res.arr4, ← e0, ← e1, ← e2]
    exact Cert.ResFwdRefIdeal.Read.val_main_v1_eq _ _ _
  · rw [(h c).2.1, Cert.Res.arr5, ← e0, ← e1, ← e2, ← e3]
    exact Cert.ResFwdRefIdeal.Read.val_main_v15_eq _ _ _ _

/-- The reference's run with its arguments unchanged; it declares no semaphore. -/
theorem plef_ref : Cert.quiescent_PleFwdRefIdeal := fun m ρ _ =>
  (θ_run Cert.PleFwdRefIdeal.defs _ _).mono (fun r h => ⟨fun c => (h c).2.2.2.2, sem_eq_zero_of_no_sems (by decide) r.2⟩)
    (Cert.PleFwdRefIdeal.Value.run (F := Ideal) m ρ)

/-- The gated embedding, its product and the normalised residual sum. -/
theorem plef : Cert.algebraic_PleFwdIdeal_PleFwdRefIdeal := by
  intro m g m' g' hpre hagree
  refine ⟨_, _, _, _, θ_run_mono (Cert.PleFwdIdeal.Value.run_blocks m g) fun r h => h,
    θ_run_mono (Cert.PleFwdRefIdeal.Value.run (F := Ideal) m' g') fun r h c => ⟨?_, ?_, ?_, ?_, (h c).2.2.2.2⟩⟩
  all_goals obtain ⟨e0, e1, e2, e3, e4, e5⟩ := hagree c
  · rw [(h c).1, Cert.PleF.arr6, ← e0, ← e1, ← e2, ← e3, ← e4]
    exact Cert.PleFwdRefIdeal.Read.val_main_v9_eq _ _ _ _ _
  · rw [(h c).2.1, Cert.PleF.arr7, ← e2, ← e3]
    exact Cert.PleFwdRefIdeal.Read.val_main_v10_eq _ _
  · rw [(h c).2.2.1, Cert.PleF.arr8, ← e0, ← e1]
    exact Cert.PleFwdRefIdeal.Read.val_main_v11_eq _ _
  · rw [(h c).2.2.2.1, Cert.PleF.arr9, ← e0, ← e1, ← e2, ← e3, ← e4, ← e5]
    exact Cert.PleFwdRefIdeal.Read.val_main_v25_eq _ _ _ _ _ _

/-- The reference's run with its arguments unchanged; it declares no semaphore. -/
theorem front_ref : Cert.quiescent_MlaFrontRefIdeal := fun m ρ _ =>
  (θ_run Cert.MlaFrontRefIdeal.defs _ _).mono (fun r h => ⟨fun c => (h c).2.2.2.2.2.2.2.2, sem_eq_zero_of_no_sems (by decide) r.2⟩)
    (Cert.MlaFrontRefIdeal.Value.run (F := Ideal) m ρ)

/-- The projections, the normalised rows and the heads. -/
theorem front : Cert.algebraic_MlaFrontIdeal_MlaFrontRefIdeal_pre_front_finite := by
  intro m g m' g' hpre hagree
  refine ⟨_, _, _, _, _, _, _, _, θ_run_mono (Cert.Front.run_blocks m g) fun r h => h,
    θ_run_mono (Cert.MlaFrontRefIdeal.Value.run (F := Ideal) m' g') fun r h c => ⟨?_, ?_, ?_, ?_, ?_, ?_, ?_, ?_, (h c).2.2.2.2.2.2.2.2⟩⟩
  all_goals
    obtain ⟨e0, e1, e2, e3, e4, e5, e6, e7⟩ := hagree c
    have H := Cert.Front.real_of_pre m c (hpre c)
  · rw [(h c).1, Cert.Front.arr11]
    unfold Cert.Front.A0 Cert.Front.A1
    rw [← e0, ← e1]
    exact Cert.MlaFrontRefIdeal.Read.val_main_v141_eq _
  · rw [(h c).2.1, Cert.Front.arr12]
    unfold Cert.Front.A0 Cert.Front.A1 Cert.Front.A2
    rw [← e0, ← e1, ← e2]
    exact Cert.MlaFrontRefIdeal.Read.val_main_v142_eq _
  · rw [(h c).2.2.1, Cert.Front.arr13]
    unfold Cert.Front.A0 Cert.Front.A1 Cert.Front.A3
    rw [← e0, ← e1, ← e3]
    exact Cert.MlaFrontRefIdeal.Read.val_main_v143_eq _
  · rw [(h c).2.2.2.1, Cert.Front.arr14]
    unfold Cert.Front.A0 Cert.Front.A1 Cert.Front.A2 Cert.Front.A4
    rw [← e0, ← e1, ← e2, ← e4]
    exact Cert.MlaFrontRefIdeal.Read.val_main_v147_eq _
  · rw [(h c).2.2.2.2.1, Cert.Front.arr15]
    unfold Cert.Front.A0 Cert.Front.A1 Cert.Front.A3 Cert.Front.A5
    rw [← e0, ← e1, ← e3, ← e5]
    exact Cert.MlaFrontRefIdeal.Read.val_main_v148_eq _
  · rw [(h c).2.2.2.2.2.1, Cert.Front.arr16 m c H]
    unfold Cert.Front.A0 Cert.Front.A1 Cert.Front.A2 Cert.Front.A4 Cert.Front.A6
    rw [← e0, ← e1, ← e2, ← e4, ← e6]
    exact Cert.MlaFrontRefIdeal.Read.val_main_v151_eq _
  · rw [(h c).2.2.2.2.2.2.1, Cert.Front.arr17 m c H]
    unfold Cert.Front.A0 Cert.Front.A1 Cert.Front.A3 Cert.Front.A5 Cert.Front.A7
    rw [← e0, ← e1, ← e3, ← e5, ← e7]
    exact Cert.MlaFrontRefIdeal.Read.val_main_v154_eq _
  · rw [(h c).2.2.2.2.2.2.2.1, Cert.Front.arr18]
    unfold Cert.Front.A0 Cert.Front.A1 Cert.Front.A3 Cert.Front.A5
    rw [← e0, ← e1, ← e3, ← e5]
    exact Cert.MlaFrontRefIdeal.Read.val_main_v156_eq _

theorem claim : Cert.Claim := ⟨Cert.ReluBwd.Gen.facts, Cert.ReluBwdIdeal.Gen.facts, Cert.ReluBwdRefIdeal.Gen.facts, Cert.DeltaBwd.Gen.facts, Cert.DeltaBwdIdeal.Gen.facts, Cert.DeltaBwdRefIdeal.Gen.facts, Cert.LossBwd.Gen.facts, Cert.LossBwdIdeal.Gen.facts, Cert.LossBwdRefIdeal.Gen.facts, Cert.NormBwd.Gen.facts, Cert.NormBwdIdeal.Gen.facts, Cert.NormBwdRefIdeal.Gen.facts, Cert.PleBwd.Gen.facts, Cert.PleBwdIdeal.Gen.facts, Cert.PleBwdRefIdeal.Gen.facts, Cert.GateBwd.Gen.facts, Cert.GateBwdIdeal.Gen.facts, Cert.GateBwdRefIdeal.Gen.facts, Cert.FlashBwd.Gen.facts, Cert.FlashBwdIdeal.Gen.facts, Cert.FlashBwdRefIdeal.Gen.facts, Cert.FlashFwd.Gen.facts, Cert.FlashFwdIdeal.Gen.facts, Cert.FlashFwdRefIdeal.Gen.facts, Cert.RetFwd.Gen.facts, Cert.RetFwdIdeal.Gen.facts, Cert.RetFwdRefIdeal.Gen.facts, Cert.MixFwd.Gen.facts, Cert.MixFwdIdeal.Gen.facts, Cert.MixFwdRefIdeal.Gen.facts, Cert.GateFwd.Gen.facts, Cert.GateFwdIdeal.Gen.facts, Cert.GateFwdRefIdeal.Gen.facts, Cert.MlpFwd.Gen.facts, Cert.MlpFwdIdeal.Gen.facts, Cert.MlpFwdRefIdeal.Gen.facts, Cert.ResFwd.Gen.facts, Cert.ResFwdIdeal.Gen.facts, Cert.ResFwdRefIdeal.Gen.facts, Cert.PleFwd.Gen.facts, Cert.PleFwdIdeal.Gen.facts, Cert.PleFwdRefIdeal.Gen.facts, Cert.MlaFront.Gen.facts, Cert.MlaFrontIdeal.Gen.facts, Cert.MlaFrontRefIdeal.Gen.facts, Cert.Pre_gate_finite.Gen.facts, Cert.Pre_flash_finite.Gen.facts, Cert.Pre_flashfwd_finite.Gen.facts, Cert.Pre_retf_finite.Gen.facts, Cert.Pre_front_finite.Gen.facts, Cert.On_gate_written.Gen.facts,
  fun m ρ _ => Cert.ReluBwd.Gen.frame m ρ,
  fun m ρ _ => Cert.ReluBwdIdeal.Gen.frame m ρ,
  relu_ref,
  fun m ρ _ => Cert.DeltaBwd.Gen.frame m ρ,
  fun m ρ _ => Cert.DeltaBwdIdeal.Gen.frame m ρ,
  delta_ref,
  fun m ρ _ => Cert.LossBwd.Gen.frame m ρ,
  fun m ρ _ => Cert.LossBwdIdeal.Gen.frame m ρ,
  loss_ref,
  fun m ρ _ => Cert.NormBwd.Gen.frame m ρ,
  fun m ρ _ => Cert.NormBwdIdeal.Gen.frame m ρ,
  norm_ref,
  fun m ρ _ => Cert.PleBwd.Gen.frame m ρ,
  fun m ρ _ => Cert.PleBwdIdeal.Gen.frame m ρ,
  ple_ref,
  fun m ρ _ => Cert.GateBwd.Gen.frame m ρ,
  fun m ρ _ => Cert.GateBwdIdeal.Gen.frame m ρ,
  fun m ρ _ => Cert.GateBwdIdeal.Gen.frame m ρ,
  gate_ref,
  fun m ρ _ => gate_ref m ρ trivial,
  flash_frame,
  flash_frameIdeal,
  fun m ρ _ => flash_frameIdeal m ρ trivial,
  flash_ref,
  fun m ρ _ => flash_ref m ρ trivial,
  fun m ρ _ => Cert.FlashFwd.Gen.frame m ρ,
  fun m ρ _ => Cert.FlashFwdIdeal.Gen.frame m ρ,
  fun m ρ _ => Cert.FlashFwdIdeal.Gen.frame m ρ,
  fwd_ref,
  fun m ρ _ => fwd_ref m ρ trivial,
  fun m ρ _ => Cert.RetFwd.Gen.frame m ρ,
  fun m ρ _ => Cert.RetFwdIdeal.Gen.frame m ρ,
  fun m ρ _ => Cert.RetFwdIdeal.Gen.frame m ρ,
  retf_ref,
  fun m ρ _ => retf_ref m ρ trivial,
  fun m ρ _ => Cert.MixFwd.Gen.frame m ρ,
  fun m ρ _ => Cert.MixFwdIdeal.Gen.frame m ρ,
  mixf_ref,
  fun m ρ _ => Cert.GateFwd.Gen.frame m ρ,
  fun m ρ _ => Cert.GateFwdIdeal.Gen.frame m ρ,
  gatef_ref,
  fun m ρ _ => Cert.MlpFwd.Gen.frame m ρ,
  fun m ρ _ => Cert.MlpFwdIdeal.Gen.frame m ρ,
  mlpf_ref,
  fun m ρ _ => Cert.ResFwd.Gen.frame m ρ,
  fun m ρ _ => Cert.ResFwdIdeal.Gen.frame m ρ,
  resn_ref,
  fun m ρ _ => Cert.PleFwd.Gen.frame m ρ,
  fun m ρ _ => Cert.PleFwdIdeal.Gen.frame m ρ,
  plef_ref,
  fun m ρ _ => Cert.MlaFront.Gen.frame m ρ,
  fun m ρ _ => Cert.MlaFrontIdeal.Gen.frame m ρ,
  fun m ρ _ => Cert.MlaFrontIdeal.Gen.frame m ρ,
  front_ref,
  fun m ρ _ => front_ref m ρ trivial,
  trivial, relu, trivial, delta, trivial, loss, trivial, norm, trivial, ple, trivial, gate, Flash.preserves, flash, FlashFwd.preserves, fwd, trivial, retf, trivial, mixf, trivial, gatef, trivial, mlpf, trivial, resn, trivial, plef, trivial, front⟩

end Cert.Proof

end
